-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v36)) (v1 : (c : Dev Cert.Kernel2Ideal.nD) → Buf (Elt Ideal) ((c.tc : Thread Cert.Kernel2Ideal.nD Cert.Kernel2Ideal.τ).loc Cert.Kernel2Ideal.main_v58)) (v2 : (c : Dev Cert.Kernel2Ideal.nD) → Buf (Elt Ideal) ((c.tc : Thread Cert.Kernel2Ideal.nD Cert.Kernel2Ideal.τ).loc Cert.Kernel2Ideal.main_v59)) (v3 : (c : Dev Cert.Kernel2Ideal.nD) → Buf (Elt Ideal) ((c.tc : Thread Cert.Kernel2Ideal.nD Cert.Kernel2Ideal.τ).loc Cert.Kernel2Ideal.main_v60)) (v4 : (c : Dev Cert.Kernel2Ideal.nD) → Buf (Elt Ideal) ((c.tc : Thread Cert.Kernel2Ideal.nD Cert.Kernel2Ideal.τ).loc Cert.Kernel2Ideal.main_v61)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_v58) = v1 c
          ∧ r.2.mem ((c.tc : Thread Cert.Kernel2Ideal.nD Cert.Kernel2Ideal.τ).loc Cert.Kernel2Ideal.main_v59) = v2 c
          ∧ r.2.mem ((c.tc : Thread Cert.Kernel2Ideal.nD Cert.Kernel2Ideal.τ).loc Cert.Kernel2Ideal.main_v60) = v3 c
          ∧ r.2.mem ((c.tc : Thread Cert.Kernel2Ideal.nD Cert.Kernel2Ideal.τ).loc Cert.Kernel2Ideal.main_v61) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_v22) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v36)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v79)) (v1 : (c : Dev Cert.Kernel4Ideal.nD) → Buf (Elt Ideal) ((c.tc : Thread Cert.Kernel4Ideal.nD Cert.Kernel4Ideal.τ).loc Cert.Kernel4Ideal.main_v83)) (v2 : (c : Dev Cert.Kernel4Ideal.nD) → Buf (Elt Ideal) ((c.tc : Thread Cert.Kernel4Ideal.nD Cert.Kernel4Ideal.τ).loc Cert.Kernel4Ideal.main_v87)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v79) = v0 c
          ∧ r.2.mem ((c.tc : Thread Cert.Kernel4Ideal.nD Cert.Kernel4Ideal.τ).loc Cert.Kernel4Ideal.main_v83) = v1 c
          ∧ r.2.mem ((c.tc : Thread Cert.Kernel4Ideal.nD Cert.Kernel4Ideal.τ).loc Cert.Kernel4Ideal.main_v87) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v113)) (v1 : (c : Dev Cert.Kernel5Ideal.nD) → Buf (Elt Ideal) ((c.tc : Thread Cert.Kernel5Ideal.nD Cert.Kernel5Ideal.τ).loc Cert.Kernel5Ideal.main_v117)) (v2 : (c : Dev Cert.Kernel5Ideal.nD) → Buf (Elt Ideal) ((c.tc : Thread Cert.Kernel5Ideal.nD Cert.Kernel5Ideal.τ).loc Cert.Kernel5Ideal.main_v121)) (v3 : (c : Dev Cert.Kernel5Ideal.nD) → Buf (Elt Ideal) ((c.tc : Thread Cert.Kernel5Ideal.nD Cert.Kernel5Ideal.τ).loc Cert.Kernel5Ideal.main_v107)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v113) = v0 c
          ∧ r.2.mem ((c.tc : Thread Cert.Kernel5Ideal.nD Cert.Kernel5Ideal.τ).loc Cert.Kernel5Ideal.main_v117) = v1 c
          ∧ r.2.mem ((c.tc : Thread Cert.Kernel5Ideal.nD Cert.Kernel5Ideal.τ).loc Cert.Kernel5Ideal.main_v121) = v2 c
          ∧ r.2.mem ((c.tc : Thread Cert.Kernel5Ideal.nD Cert.Kernel5Ideal.τ).loc Cert.Kernel5Ideal.main_v107) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_v78) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_v74) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)) (v2 : (c : Dev Cert.Kernel6Ideal.nD) → Buf (Elt Ideal) ((c.tc : Thread Cert.Kernel6Ideal.nD Cert.Kernel6Ideal.τ).loc Cert.Kernel6Ideal.main_v6)) (v3 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_v6) = v2 c
          ∧ r.2.mem ((c.tc : Thread Cert.Kernel6Ideal.nD Cert.Kernel6Ideal.τ).loc Cert.Kernel6Ideal.main_v7) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S4096x4x96 : Shape := ⟨3, ![4096, 4, 96]⟩
abbrev S4096x4x64 : Shape := ⟨3, ![4096, 4, 64]⟩
abbrev S_ : Shape := ⟨0, ![]⟩

class Facts : Prop where
  bcast_S_S4096x4x96 : S_.BroadcastsInDim S4096x4x96 (![] : Fin 0 → Fin S4096x4x96.rank)
  bcast_S_S4096x4x64 : S_.BroadcastsInDim S4096x4x64 (![] : Fin 0 → Fin S4096x4x64.rank)

variable [Facts]

def fn {F : FTy → Type} [FloatOps F] (main_arg0 : FVec F S4096x4x96 .f32) (main_arg1 : FVec F S4096x4x96 .f32) (main_arg2 : FVec F S4096x4x64 .f32) (main_arg3 : FVec F S4096x4x64 .f32) : IVec S4096x4x96 1 × IVec S4096x4x96 1 × IVec S4096x4x64 1 × IVec S4096x4x64 1 :=
  let main_v0 : FVec F S4096x4x96 .f32 := Host.absf main_arg0
  let main_cst : FVec F S_ .f32 := constant S_ .f32 0x7F800000#32
  let main_v1 : FVec F S4096x4x96 .f32 := broadcastInDim S4096x4x96 ![] bcast_S_S4096x4x96 main_cst
  let main_v2 : IVec S4096x4x96 1 := cmpf .olt main_v0 main_v1
  let main_v3 : FVec F S4096x4x96 .f32 := Host.absf main_arg1
  let main_cst_0 : FVec F S_ .f32 := constant S_ .f32 0x7F800000#32
  let main_v4 : FVec F S4096x4x96 .f32 := broadcastInDim S4096x4x96 ![] bcast_S_S4096x4x96 main_cst_0
  let main_v5 : IVec S4096x4x96 1 := cmpf .olt main_v3 main_v4
  let main_v6 : FVec F S4096x4x64 .f32 := Host.absf main_arg2
  let main_cst_1 : FVec F S_ .f32 := constant S_ .f32 0x7F800000#32
  let main_v7 : FVec F S4096x4x64 .f32 := broadcastInDim S4096x4x64 ![] bcast_S_S4096x4x64 main_cst_1
  let main_v8 : IVec S4096x4x64 1 := cmpf .olt main_v6 main_v7
  let main_v9 : FVec F S4096x4x64 .f32 := Host.absf main_arg3
  let main_cst_2 : FVec F S_ .f32 := constant S_ .f32 0x7F800000#32
  let main_v10 : FVec F S4096x4x64 .f32 := broadcastInDim S4096x4x64 ![] bcast_S_S4096x4x64 main_cst_2
  let main_v11 : IVec S4096x4x64 1 := cmpf .olt main_v9 main_v10
  (main_v2, main_v5, main_v8, main_v11)
-- ==== Pre_finite5.lean ====
abbrev S4096x4x64 : Shape := ⟨3, ![4096, 4, 64]⟩
abbrev S4096x4 : Shape := ⟨2, ![4096, 4]⟩
abbrev S_ : Shape := ⟨0, ![]⟩

class Facts : Prop where
  bcast_S_S4096x4x64 : S_.BroadcastsInDim S4096x4x64 (![] : Fin 0 → Fin S4096x4x64.rank)
  bcast_S_S4096x4 : S_.BroadcastsInDim S4096x4 (![] : Fin 0 → Fin S4096x4.rank)

variable [Facts]

def fn {F : FTy → Type} [FloatOps F] (main_arg0 : FVec F S4096x4x64 .f32) (main_arg1 : FVec F S4096x4x64 .f32) (main_arg2 : FVec F S4096x4x64 .f32) (main_arg3 : FVec F S4096x4 .f32) (main_arg4 : FVec F S4096x4x64 .f32) : IVec S4096x4x64 1 × IVec S4096x4x64 1 × IVec S4096x4x64 1 × IVec S4096x4 1 × IVec S4096x4x64 1 :=
  let main_v0 : FVec F S4096x4x64 .f32 := Host.absf main_arg0
  let main_cst : FVec F S_ .f32 := constant S_ .f32 0x7F800000#32
  let main_v1 : FVec F S4096x4x64 .f32 := broadcastInDim S4096x4x64 ![] bcast_S_S4096x4x64 main_cst
  let main_v2 : IVec S4096x4x64 1 := cmpf .olt main_v0 main_v1
  let main_v3 : FVec F S4096x4x64 .f32 := Host.absf main_arg1
  let main_cst_0 : FVec F S_ .f32 := constant S_ .f32 0x7F800000#32
  let main_v4 : FVec F S4096x4x64 .f32 := broadcastInDim S4096x4x64 ![] bcast_S_S4096x4x64 main_cst_0
  let main_v5 : IVec S4096x4x64 1 := cmpf .olt main_v3 main_v4
  let main_v6 : FVec F S4096x4x64 .f32 := Host.absf main_arg2
  let main_cst_1 : FVec F S_ .f32 := constant S_ .f32 0x7F800000#32
  let main_v7 : FVec F S4096x4x64 .f32 := broadcastInDim S4096x4x64 ![] bcast_S_S4096x4x64 main_cst_1
  let main_v8 : IVec S4096x4x64 1 := cmpf .olt main_v6 main_v7
  let main_v9 : FVec F S4096x4 .f32 := Host.absf main_arg3
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_v12 : FVec F S4096x4x64 .f32 := Host.absf main_arg4
  let main_cst_3 : FVec F S_ .f32 := constant S_ .f32 0x7F800000#32
  let main_v13 : FVec F S4096x4x64 .f32 := broadcastInDim S4096x4x64 ![] bcast_S_S4096x4x64 main_cst_3
  let main_v14 : IVec S4096x4x64 1 := cmpf .olt main_v12 main_v13
  (main_v2, main_v5, main_v8, main_v11, main_v14)
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 10
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S4096x1024, .f32⟩
  | .hbm, ⟨6, _⟩ => ⟨S4096x4096, .bf16⟩
  | .hbm, ⟨7, _⟩ => ⟨S4096x1024, .bf16⟩
  | .hbm, ⟨8, _⟩ => ⟨S8x1024x512, .bf16⟩
  | .hbm, ⟨9, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | .local _ .vmem, ⟨11, _⟩ => ⟨S2048x1024, .bf16⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S2048x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S4096x1024, .bf16⟩
  | .local _ .vmem, ⟨25, _⟩ => ⟨S4096x512, .bf16⟩
  | .local _ .vmem, ⟨26, _⟩ => ⟨S4096x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S1024x4096, .bf16⟩
  | .local _ .vmem, ⟨30, _⟩ => ⟨S1024x4096, .bf16⟩
  | .local _ .vmem, ⟨31, _⟩ => ⟨S1024x4096, .bf16⟩
  | .local _ .vmem, ⟨32, _⟩ => ⟨S1024x1024, .f32⟩
  | .local _ .vmem, ⟨33, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ReferenceIdeal.lean ====
abbrev S4096x1024 : Shape := ⟨2, ![4096, 1024]⟩
abbrev S1024x4096 : Shape := ⟨2, ![1024, 4096]⟩
abbrev S1x4096x1024 : Shape := ⟨3, ![1, 4096, 1024]⟩
abbrev S1x4096x4096 : Shape := ⟨3, ![1, 4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S1x4096x1024, .bf16⟩
  | .hbm, ⟨5, _⟩ => ⟨S1x4096x1024, .f32⟩
  | .hbm, ⟨6, _⟩ => ⟨S1024x4096, .f32⟩
  | .hbm, ⟨7, _⟩ => ⟨S4096x1024, .f32⟩
  | .hbm, ⟨8, _⟩ => ⟨S1x4096x4096, .f32⟩
  | .hbm, ⟨9, _⟩ => ⟨S_, .f32⟩
  | .hbm, ⟨10, _⟩ => ⟨S1x4096x4096, .f32⟩
  | .hbm, ⟨11, _⟩ => ⟨S1x4096x4096, .f32⟩
  | .hbm, ⟨12, _⟩ => ⟨S_, .f32⟩
  | .hbm, ⟨13, _⟩ => ⟨S1x4096x4096, .f32⟩
  | .hbm, ⟨14, _⟩ => ⟨S1x4096x4096, .i1⟩
  | .hbm, ⟨15, _⟩ => ⟨S_, .f32⟩
  | .hbm, ⟨16, _⟩ => ⟨S1x4096x4096, .f32⟩
  | .hbm, ⟨17, _⟩ => ⟨S1x4096x4096, .f32⟩
  | .hbm, ⟨18, _⟩ => ⟨S_, .f32⟩
  | .hbm, ⟨19, _⟩ => ⟨S1x4096x4096, .f32⟩
  | .hbm, ⟨20, _⟩ => ⟨S1x4096x4096, .f32⟩
  | .hbm, ⟨21, _⟩ => ⟨S1x4096x1024, .f32⟩
  | .hbm, ⟨22, _⟩ => ⟨S1x4096x1024, .bf16⟩
  | .hbm, ⟨23, _⟩ => ⟨S1x4096x1024, .f32⟩
  | .hbm, ⟨24, _⟩ => ⟨S1024x4096, .f32⟩
  | .hbm, ⟨25, _⟩ => ⟨S4096x1024, .f32⟩
  | .hbm, ⟨26, _⟩ => ⟨S1x4096x4096, .f32⟩
  | .hbm, ⟨27, _⟩ => ⟨S1x4096x4096, .f32⟩
  | .hbm, ⟨28, _⟩ => ⟨S_, .f32⟩
  | .hbm, ⟨29, _⟩ => ⟨S1x4096x4096, .f32⟩
  | .hbm, ⟨30, _⟩ => ⟨S1x4096x4096, .f32⟩
  | .hbm, ⟨31, _⟩ => ⟨S4096x1024, .f32⟩
  | .hbm, ⟨32, _⟩ => ⟨S1024x4096, .f32⟩
  | .hbm, ⟨33, _⟩ => ⟨S1x4096x1024, .f32⟩
  | .hbm, ⟨34, _⟩ => ⟨S1024x8x512, .f32⟩
  | .hbm, ⟨35, _⟩ => ⟨S8x1024x512, .f32⟩
  | .hbm, ⟨36, _⟩ => ⟨S4096x1024, .f32⟩
  | .hbm, ⟨37, _⟩ => ⟨S4096x1024, .f32⟩
  | .hbm, ⟨38, _⟩ => ⟨S8x1024x512, .bf16⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel2.lean ====
abbrev S4096x1024 : Shape := ⟨2, ![4096, 1024]⟩
abbrev S1024x2980 : Shape := ⟨2, ![1024, 2980]⟩
abbrev S4096x2980 : Shape := ⟨2, ![4096, 2980]⟩
abbrev S1024x1024 : Shape := ⟨2, ![1024, 1024]⟩
abbrev S1024x256 : Shape := ⟨2, ![1024, 256]⟩
abbrev S1024x4 : Shape := ⟨2, ![1024, 4]⟩
abbrev S1024x128 : Shape := ⟨2, ![1024, 128]⟩
abbrev S1024x32 : Shape := ⟨2, ![1024, 32]⟩
abbrev S_ : Shape := ⟨0, ![]⟩
abbrev S1024x64 : Shape := ⟨2, ![1024, 64]⟩
abbrev S1024x124 : Shape := ⟨2, ![1024, 124]⟩
abbrev S1024x3076 : Shape := ⟨2, ![1024, 3076]⟩
abbrev S1024x252 : Shape := ⟨2, ![1024, 252]⟩
abbrev S1024x3328 : Shape := ⟨2, ![1024, 3328]⟩
abbrev S4096x3328 : Shape := ⟨2, ![4096, 3328]⟩
abbrev S512x1024 : Shape := ⟨2, ![512, 1024]⟩
abbrev S512x3328 : Shape := ⟨2, ![512, 3328]⟩
abbrev S4096x256 : Shape := ⟨2, ![4096, 256]⟩
abbrev S4096x4 : Shape := ⟨2, ![4096, 4]⟩
abbrev S4096x128 : Shape := ⟨2, ![4096, 128]⟩
abbrev S4096x32 : Shape := ⟨2, ![4096, 32]⟩
abbrev S4096x64 : Shape := ⟨2, ![4096, 64]⟩
abbrev S4096x124 : Shape := ⟨2, ![4096, 124]⟩
abbrev S4096x3076 : Shape := ⟨2, ![4096, 3076]⟩
abbrev S4096x252 : Shape := ⟨2, ![4096, 252]⟩
abbrev S2048x1024 : Shape := ⟨2, ![2048, 1024]⟩

abbrev nBuf : Space → Nat
  | .hbm => 76
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x2980, .bf16⟩
  | .hbm, ⟨2, _⟩ => ⟨S4096x2980, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S1024x256, .bf16⟩
  | .hbm, ⟨7, _⟩ => ⟨S1024x256, .bf16⟩
  | .hbm, ⟨8, _⟩ => ⟨S1024x256, .bf16⟩
  | .hbm, ⟨9, _⟩ => ⟨S1024x4, .bf16⟩
  | .hbm, ⟨10, _⟩ => ⟨S1024x256, .bf16⟩
  | .hbm, ⟨11, _⟩ => ⟨S1024x128, .bf16⟩
  | .hbm, ⟨12, _⟩ => ⟨S1024x32, .bf16⟩
  | .hbm, ⟨13, _⟩ => ⟨S1024x256, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x256, .bf16⟩
  | .hbm, ⟨18, _⟩ => ⟨S1024x256, .bf16⟩
  | .hbm, ⟨19, _⟩ => ⟨S1024x256, .bf16⟩
  | .hbm, ⟨20, _⟩ => ⟨S_, .bf16⟩
  | .hbm, ⟨21, _⟩ => ⟨S1024x64, .bf16⟩
  | .hbm, ⟨22, _⟩ => ⟨S_, .bf16⟩
  | .hbm, ⟨23, _⟩ => ⟨S1024x32, .bf16⟩
  | .hbm, ⟨24, _⟩ => ⟨S_, .bf16⟩
  | .hbm, ⟨25, _⟩ => ⟨S1024x124, .bf16⟩
  | .hbm, ⟨26, _⟩ => ⟨S_, .bf16⟩
  | .hbm, ⟨27, _⟩ => ⟨S1024x128, .bf16⟩
  | .hbm, ⟨28, _⟩ => ⟨S1024x3076, .bf16⟩
  | .hbm, ⟨29, _⟩ => ⟨S1024x252, .bf16⟩
  | .hbm, ⟨30, _⟩ => ⟨S1024x3328, .bf16⟩
  | .hbm, ⟨31, _⟩ => ⟨S4096x3328, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x4, .f32⟩
  | .hbm, ⟨36, _⟩ => ⟨S4096x256, .f32⟩
  | .hbm, ⟨37, _⟩ => ⟨S4096x128, .f32⟩
  | .hbm, ⟨38, _⟩ => ⟨S4096x32, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x2980, .f32⟩
  | .hbm, ⟨47, _⟩ => ⟨S4096x256, .bf16⟩
  | .hbm, ⟨48, _⟩ => ⟨S4096x256, .bf16⟩
  | .hbm, ⟨49, _⟩ => ⟨S4096x256, .bf16⟩
  | .hbm, ⟨50, _⟩ => ⟨S4096x4, .bf16⟩
  | .hbm, ⟨51, _⟩ => ⟨S4096x256, .bf16⟩
  | .hbm, ⟨52, _⟩ => ⟨S4096x128, .bf16⟩
  | .hbm, ⟨53, _⟩ => ⟨S4096x32, .bf16⟩
  | .hbm, ⟨54, _⟩ => ⟨S4096x256, .bf16⟩
  | .hbm, ⟨55, _⟩ => ⟨S4096x256, .bf16⟩
  | .hbm, ⟨56, _⟩ => ⟨S4096x256, .bf16⟩
  | .hbm, ⟨57, _⟩ => ⟨S4096x256, .bf16⟩
  | .hbm, ⟨58, _⟩ => ⟨S4096x256, .bf16⟩
  | .hbm, ⟨59, _⟩ => ⟨S4096x256, .bf16⟩
  | .hbm, ⟨60, _⟩ => ⟨S4096x256, .bf16⟩
  | .hbm, ⟨61, _⟩ => ⟨S_, .bf16⟩
  | .hbm, ⟨62, _⟩ => ⟨S4096x64, .bf16⟩
  | .hbm, ⟨63, _⟩ => ⟨S_, .bf16⟩
  | .hbm, ⟨64, _⟩ => ⟨S4096x32, .bf16⟩
  | .hbm, ⟨65, _⟩ => ⟨S_, .bf16⟩
  | .hbm, ⟨66, _⟩ => ⟨S4096x124, .bf16⟩
  | .hbm, ⟨67, _⟩ => ⟨S_, .bf16⟩
  | .hbm, ⟨68, _⟩ => ⟨S4096x128, .bf16⟩
  | .hbm, ⟨69, _⟩ => ⟨S4096x3076, .bf16⟩
  | .hbm, ⟨70, _⟩ => ⟨S4096x252, .bf16⟩
  | .hbm, ⟨71, _⟩ => ⟨S4096x3328, .bf16⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x3328, .bf16⟩
  | .local _ .vmem, ⟨3, _⟩ => ⟨S512x3328, .f32⟩
  | .local _ .vmem, ⟨4, _⟩ => ⟨S512x3328, .f32⟩
  | .local _ .vmem, ⟨5, _⟩ => ⟨S1024x3328, .bf16⟩
  | .local _ .vmem, ⟨6, _⟩ => ⟨S1024x3328, .bf16⟩
  | .local _ .vmem, ⟨7, _⟩ => ⟨S1024x3328, .bf16⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S2048x1024, .f32⟩
  | .local _ .vmem, ⟨14, _⟩ => ⟨S2048x1024, .f32⟩
  | .local _ .vmem, ⟨15, _⟩ => ⟨S2048x1024, .bf16⟩
  | .local _ .vmem, ⟨16, _⟩ => ⟨S2048x1024, .bf16⟩
  | .local _ .vmem, ⟨17, _⟩ => ⟨S1024x1024, .bf16⟩
  | .local _ .vmem, ⟨18, _⟩ => ⟨S2048x1024, .f32⟩
  | .local _ .vmem, ⟨19, _⟩ => ⟨S2048x1024, .f32⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3328 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x3328 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]
-- ==== Reference2Ideal.lean ====
abbrev S4096x1024 : Shape := ⟨2, ![4096, 1024]⟩
abbrev S1024x2980 : Shape := ⟨2, ![1024, 2980]⟩
abbrev S4096x2980 : Shape := ⟨2, ![4096, 2980]⟩
abbrev S1024x1024 : Shape := ⟨2, ![1024, 1024]⟩
abbrev S1x4096x1024 : Shape := ⟨3, ![1, 4096, 1024]⟩
abbrev S1x4096x2980 : Shape := ⟨3, ![1, 4096, 2980]⟩
abbrev S2980x1024 : Shape := ⟨2, ![2980, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2980, .bf16⟩
  | .hbm, ⟨2, _⟩ => ⟨S4096x2980, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S1x4096x1024, .bf16⟩
  | .hbm, ⟨7, _⟩ => ⟨S1x4096x1024, .f32⟩
  | .hbm, ⟨8, _⟩ => ⟨S1024x2980, .f32⟩
  | .hbm, ⟨9, _⟩ => ⟨S1x4096x2980, .f32⟩
  | .hbm, ⟨10, _⟩ => ⟨S1x4096x2980, .bf16⟩
  | .hbm, ⟨11, _⟩ => ⟨S1x4096x2980, .f32⟩
  | .hbm, ⟨12, _⟩ => ⟨S2980x1024, .f32⟩
  | .hbm, ⟨13, _⟩ => ⟨S1024x2980, .f32⟩
  | .hbm, ⟨14, _⟩ => ⟨S1x4096x1024, .f32⟩
  | .hbm, ⟨15, _⟩ => ⟨S1x4096x1024, .bf16⟩
  | .hbm, ⟨16, _⟩ => ⟨S1x4096x1024, .f32⟩
  | .hbm, ⟨17, _⟩ => ⟨S1024x1024, .f32⟩
  | .hbm, ⟨18, _⟩ => ⟨S1x4096x1024, .f32⟩
  | .hbm, ⟨19, _⟩ => ⟨S1x4096x1024, .bf16⟩
  | .hbm, ⟨20, _⟩ => ⟨S1x4096x1024, .f32⟩
  | .hbm, ⟨21, _⟩ => ⟨S1024x1024, .f32⟩
  | .hbm, ⟨22, _⟩ => ⟨S1024x1024, .f32⟩
  | .hbm, ⟨23, _⟩ => ⟨S1x4096x1024, .f32⟩
  | .hbm, ⟨24, _⟩ => ⟨S4096x2980, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S4096x1024 : Shape := ⟨2, ![4096, 1024]⟩
abbrev S4096x2980 : Shape := ⟨2, ![4096, 2980]⟩
abbrev S4096x256 : Shape := ⟨2, ![4096, 256]⟩
abbrev S4096x4 : Shape := ⟨2, ![4096, 4]⟩
abbrev S4096x128 : Shape := ⟨2, ![4096, 128]⟩
abbrev S4096x32 : Shape := ⟨2, ![4096, 32]⟩
abbrev S_ : Shape := ⟨0, ![]⟩
abbrev S4096x64 : Shape := ⟨2, ![4096, 64]⟩
abbrev S4096x124 : Shape := ⟨2, ![4096, 124]⟩
abbrev S4096x3076 : Shape := ⟨2, ![4096, 3076]⟩
abbrev S4096x252 : Shape := ⟨2, ![4096, 252]⟩
abbrev S4096x3328 : Shape := ⟨2, ![4096, 3328]⟩
abbrev S1024x3328 : Shape := ⟨2, ![1024, 3328]⟩
abbrev S2048x1024 : Shape := ⟨2, ![2048, 1024]⟩
abbrev S2048x1664 : Shape := ⟨2, ![2048, 1664]⟩
abbrev S1024x1664 : Shape := ⟨2, ![1024, 1664]⟩
abbrev S1024x256 : Shape := ⟨2, ![1024, 256]⟩
abbrev S1024x4 : Shape := ⟨2, ![1024, 4]⟩
abbrev S1024x128 : Shape := ⟨2, ![1024, 128]⟩
abbrev S1024x32 : Shape := ⟨2, ![1024, 32]⟩
abbrev S1024x2980 : Shape := ⟨2, ![1024, 2980]⟩

abbrev nBuf : Space → Nat
  | .hbm => 43
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2980, .bf16⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x4, .bf16⟩
  | .hbm, ⟨6, _⟩ => ⟨S4096x256, .bf16⟩
  | .hbm, ⟨7, _⟩ => ⟨S4096x128, .bf16⟩
  | .hbm, ⟨8, _⟩ => ⟨S4096x32, .bf16⟩
  | .hbm, ⟨9, _⟩ => ⟨S4096x256, .bf16⟩
  | .hbm, ⟨10, _⟩ => ⟨S4096x256, .bf16⟩
  | .hbm, ⟨11, _⟩ => ⟨S4096x256, .bf16⟩
  | .hbm, ⟨12, _⟩ => ⟨S4096x256, .bf16⟩
  | .hbm, ⟨13, _⟩ => ⟨S4096x256, .bf16⟩
  | .hbm, ⟨14, _⟩ => ⟨S4096x256, .bf16⟩
  | .hbm, ⟨15, _⟩ => ⟨S4096x256, .bf16⟩
  | .hbm, ⟨16, _⟩ => ⟨S_, .bf16⟩
  | .hbm, ⟨17, _⟩ => ⟨S4096x64, .bf16⟩
  | .hbm, ⟨18, _⟩ => ⟨S_, .bf16⟩
  | .hbm, ⟨19, _⟩ => ⟨S4096x32, .bf16⟩
  | .hbm, ⟨20, _⟩ => ⟨S_, .bf16⟩
  | .hbm, ⟨21, _⟩ => ⟨S4096x124, .bf16⟩
  | .hbm, ⟨22, _⟩ => ⟨S_, .bf16⟩
  | .hbm, ⟨23, _⟩ => ⟨S4096x128, .bf16⟩
  | .hbm, ⟨24, _⟩ => ⟨S4096x3076, .bf16⟩
  | .hbm, ⟨25, _⟩ => ⟨S4096x252, .bf16⟩
  | .hbm, ⟨26, _⟩ => ⟨S4096x3328, .bf16⟩
  | .hbm, ⟨27, _⟩ => ⟨S1024x3328, .bf16⟩
  | .hbm, ⟨28, _⟩ => ⟨S1024x256, .bf16⟩
  | .hbm, ⟨29, _⟩ => ⟨S1024x256, .bf16⟩
  | .hbm, ⟨30, _⟩ => ⟨S1024x256, .bf16⟩
  | .hbm, ⟨31, _⟩ => ⟨S1024x4, .bf16⟩
  | .hbm, ⟨32, _⟩ => ⟨S1024x256, .bf16⟩
  | .hbm, ⟨33, _⟩ => ⟨S1024x128, .bf16⟩
  | .hbm, ⟨34, _⟩ => ⟨S1024x32, .bf16⟩
  | .hbm, ⟨35, _⟩ => ⟨S1024x256, .bf16⟩
  | .hbm, ⟨36, _⟩ => ⟨S1024x256, .bf16⟩
  | .hbm, ⟨37, _⟩ => ⟨S1024x256, .bf16⟩
  | .hbm, ⟨38, _⟩ => ⟨S1024x256, .bf16⟩
  | .hbm, ⟨39, _⟩ => ⟨S1024x256, .bf16⟩
  | .hbm, ⟨40, _⟩ => ⟨S1024x256, .bf16⟩
  | .hbm, ⟨41, _⟩ => ⟨S1024x256, .bf16⟩
  | .hbm, ⟨42, _⟩ => ⟨S1024x2980, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x2980 : Shape := ⟨2, ![4096, 2980]⟩
abbrev S_ : Shape := ⟨0, ![]⟩
abbrev S1024x2980 : Shape := ⟨2, ![1024, 2980]⟩
abbrev S1x4096x1024 : Shape := ⟨3, ![1, 4096, 1024]⟩
abbrev S1x4096x2980 : Shape := ⟨3, ![1, 4096, 2980]⟩
abbrev S2980x1024 : Shape := ⟨2, ![2980, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2980, .bf16⟩
  | .hbm, ⟨2, _⟩ => ⟨S_, .f32⟩
  | .hbm, ⟨3, _⟩ => ⟨S1024x2980, .f32⟩
  | .hbm, ⟨4, _⟩ => ⟨S1x4096x1024, .bf16⟩
  | .hbm, ⟨5, _⟩ => ⟨S1x4096x1024, .f32⟩
  | .hbm, ⟨6, _⟩ => ⟨S1x4096x2980, .f32⟩
  | .hbm, ⟨7, _⟩ => ⟨S1x4096x2980, .bf16⟩
  | .hbm, ⟨8, _⟩ => ⟨S1x4096x2980, .f32⟩
  | .hbm, ⟨9, _⟩ => ⟨S2980x1024, .f32⟩
  | .hbm, ⟨10, _⟩ => ⟨S1024x2980, .f32⟩
  | .hbm, ⟨11, _⟩ => ⟨S1024x2980, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x4x96 : Shape := ⟨3, ![4096, 4, 96]⟩
abbrev S4096x4x64 : Shape := ⟨3, ![4096, 4, 64]⟩
abbrev S4096 : Shape := ⟨1, ![4096]⟩
abbrev S_ : Shape := ⟨0, ![]⟩
abbrev S4x4096x4096 : Shape := ⟨3, ![4, 4096, 4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4096x4 : Shape := ⟨2, ![4096, 4]⟩
abbrev S4096x384 : Shape := ⟨2, ![4096, 384]⟩
abbrev S4096x4x128 : Shape := ⟨3, ![4096, 4, 128]⟩
abbrev S4096x512 : Shape := ⟨2, ![4096, 512]⟩
abbrev S4096x256 : Shape := ⟨2, ![4096, 256]⟩
abbrev S4096x1536 : Shape := ⟨2, ![4096, 1536]⟩
abbrev S4096x1024 : Shape := ⟨2, ![4096, 1024]⟩
abbrev S16x256x1024 : Shape := ⟨3, ![16, 256, 1024]⟩
abbrev S16x1024x256 : Shape := ⟨3, ![16, 1024, 256]⟩
abbrev S4x8x1x512 : Shape := ⟨4, ![4, 8, 1, 512]⟩
abbrev S512x512 : Shape := ⟨2, ![512, 512]⟩
abbrev S16x512x256 : Shape := ⟨3, ![16, 512, 256]⟩
abbrev S4x1x1x512 : Shape := ⟨4, ![4, 1, 1, 512]⟩
abbrev S4x128x512 : Shape := ⟨3, ![4, 128, 512]⟩
abbrev S512x128 : Shape := ⟨2, ![512, 128]⟩
abbrev S256x128 : Shape := ⟨2, ![256, 128]⟩
abbrev S256x512 : Shape := ⟨2, ![256, 512]⟩
abbrev S1x1x1x512 : Shape := ⟨4, ![1, 1, 1, 512]⟩
abbrev S1x512 : Shape := ⟨2, ![1, 512]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S256x256 : Shape := ⟨2, ![256, 256]⟩
abbrev S1x1x1x256 : Shape := ⟨4, ![1, 1, 1, 256]⟩
abbrev S1x256 : Shape := ⟨2, ![1, 256]⟩

abbrev nBuf : Space → Nat
  | .hbm => 154
  | .vmem => 16
  | .smem => 0
  | _ => 0

abbrev hbmTy0_0 (i : Nat) : BufTy := match i % 128 with
  | 0 => ⟨S4096x4x96, .f32⟩
  | 1 => ⟨S4096x4x96, .f32⟩
  | 2 => ⟨S4096x4x64, .f32⟩
  | 3 => ⟨S4096x4x64, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S4x4096x4096, .f32⟩
  | 24 => ⟨S_, .f32⟩
  | 25 => ⟨S4x4096x4096, .f32⟩
  | 26 => ⟨S4x4096x4096, .f32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S4x4096x4096, .i1⟩
  | 35 => ⟨S4x4096x4096, .f32⟩
  | 36 => ⟨S4x4096x4096, .f32⟩
  | 37 => ⟨S_, .f32⟩
  | 38 => ⟨S4x4096, .f32⟩
  | 39 => ⟨S4x4096x1, .f32⟩
  | 40 => ⟨S4x4096x4096, .f32⟩
  | 41 => ⟨S4x4096x4096, .f32⟩
  | 42 => ⟨S4x4096x4096, .f32⟩
  | 43 => ⟨S_, .f32⟩
  | 44 => ⟨S4x4096, .f32⟩
  | 45 => ⟨S4x4096, .f32⟩
  | 46 => ⟨S4x4096, .f32⟩
  | 47 => ⟨S4096, .i32⟩
  | 48 => ⟨S_, .i32⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i1⟩
  | 56 => ⟨S4096, .i32⟩
  | 57 => ⟨S4096, .i32⟩
  | 58 => ⟨S_, .i32⟩
  | 59 => ⟨S4096, .i32⟩
  | 60 => ⟨S4096, .i1⟩
  | 61 => ⟨S4096, .i1⟩
  | 62 => ⟨S_, .i32⟩
  | 63 => ⟨S4096, .i32⟩
  | 64 => ⟨S4096, .i32⟩
  | 65 => ⟨S4096, .i32⟩
  | 66 => ⟨S4x4096x4096, .f32⟩
  | 67 => ⟨S_, .f32⟩
  | 68 => ⟨S4x4096x4096, .f32⟩
  | 69 => ⟨S4x4096x4096, .f32⟩
  | 70 => ⟨S1x4096, .i32⟩
  | 71 => ⟨S4096x1, .i32⟩
  | 72 => ⟨S4096x4096, .i32⟩
  | 73 => ⟨S4096x4096, .i32⟩
  | 74 => ⟨S4096x4096, .i1⟩
  | 75 => ⟨S_, .f32⟩
  | 76 => ⟨S_, .f32⟩
  | 77 => ⟨S4x4096x4096, .i1⟩
  | 78 => ⟨S4x4096x4096, .f32⟩
  | 79 => ⟨S4x4096x4096, .f32⟩
  | 80 => ⟨S_, .f32⟩
  | 81 => ⟨S4x4096, .f32⟩
  | 82 => ⟨S_, .f32⟩
  | 83 => ⟨S4x4096, .f32⟩
  | 84 => ⟨S4x4096, .f32⟩
  | 85 => ⟨S4x4096x1, .f32⟩
  | 86 => ⟨S4x4096x4096, .f32⟩
  | 87 => ⟨S4x4096x4096, .f32⟩
  | 88 => ⟨S4x4096x4096, .f32⟩
  | 89 => ⟨S_, .f32⟩
  | 90 => ⟨S4x4096, .f32⟩
  | 91 => ⟨S4x4096x1, .f32⟩
  | 92 => ⟨S4x4096x4096, .f32⟩
  | 93 => ⟨S4x4096x4096, .f32⟩
  | 94 => ⟨S4x64x4096, .f32⟩
  | 95 => ⟨S4096x4x64, .f32⟩
  | 96 => ⟨S4096x4x64, .f32⟩
  | 97 => ⟨S_, .f32⟩
  | 98 => ⟨S4096x4, .f32⟩
  | 99 => ⟨S4x4096, .f32⟩
  | 100 => ⟨S_, .f32⟩
  | 101 => ⟨S4096x4x96, .f32⟩
  | 102 => ⟨S4096x4x96, .f32⟩
  | 103 => ⟨S4096x384, .f32⟩
  | 104 => ⟨S4096x4x96, .f32⟩
  | 105 => ⟨S_, .i32⟩
  | 106 => ⟨S_, .f32⟩
  | 107 => ⟨S4096x4x128, .f32⟩
  | 108 => ⟨S4096x512, .f32⟩
  | 109 => ⟨S4096x512, .bf16⟩
  | 110 => ⟨S4096x384, .f32⟩
  | 111 => ⟨S4096x4x96, .f32⟩
  | 112 => ⟨S_, .i32⟩
  | 113 => ⟨S_, .f32⟩
  | 114 => ⟨S4096x4x128, .f32⟩
  | 115 => ⟨S4096x512, .f32⟩
  | 116 => ⟨S4096x512, .bf16⟩
  | 117 => ⟨S4096x256, .f32⟩
  | 118 => ⟨S4096x4x64, .f32⟩
  | 119 => ⟨S_, .i32⟩
  | 120 => ⟨S_, .f32⟩
  | 121 => ⟨S4096x4x128, .f32⟩
  | 122 => ⟨S4096x512, .f32⟩
  | 123 => ⟨S4096x512, .bf16⟩
  | 124 => ⟨S4096x1536, .bf16⟩
  | 125 => ⟨S4096x1024, .bf16⟩
  | 126 => ⟨S16x256x1024, .bf16⟩
  | 127 => ⟨S16x1024x256, .bf16⟩
  | _ => ⟨S4096x4x96, .f32⟩

abbrev hbmTy0_1 (i : Nat) : BufTy := match i % 128 with
  | 0 => ⟨S4096x256, .f32⟩
  | 1 => ⟨S4096x4x64, .f32⟩
  | 2 => ⟨S_, .i32⟩
  | 3 => ⟨S_, .f32⟩
  | 4 => ⟨S4096x4x128, .f32⟩
  | 5 => ⟨S4096x512, .f32⟩
  | 6 => ⟨S4x8x1x512, .f32⟩
  | 7 => ⟨S4x8x1x512, .f32⟩
  | 8 => ⟨S4096x512, .f32⟩
  | 9 => ⟨S4096x512, .f32⟩
  | 10 => ⟨S4096x512, .f32⟩
  | 11 => ⟨S4096x4x128, .f32⟩
  | 12 => ⟨S4096x4x96, .f32⟩
  | 13 => ⟨S4096x384, .f32⟩
  | 14 => ⟨S4096x4x96, .f32⟩
  | 15 => ⟨S_, .f32⟩
  | 16 => ⟨S4096x4x96, .f32⟩
  | 17 => ⟨S4096x4x96, .f32⟩
  | 18 => ⟨S4096x4x128, .f32⟩
  | 19 => ⟨S4096x4x96, .f32⟩
  | 20 => ⟨S4096x384, .f32⟩
  | 21 => ⟨S4096x4x96, .f32⟩
  | 22 => ⟨S4096x4x128, .f32⟩
  | 23 => ⟨S4096x4x64, .f32⟩
  | 24 => ⟨S4096x256, .f32⟩
  | 25 => ⟨S4096x4x64, .f32⟩
  | _ => ⟨S4096x4x96, .f32⟩

abbrev hbmTy (i : Nat) : BufTy := match i / 128 with
  | 0 => hbmTy0_0 i
  | 1 => hbmTy0_1 i
  | _ => ⟨S4096x4x96, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S16x512x256, .bf16⟩
  | .local _ .vmem, ⟨5, _⟩ => ⟨S512x512, .f32⟩
  | .local _ .vmem, ⟨6, _⟩ => ⟨S512x512, .f32⟩
  | .local _ .vmem, ⟨7, _⟩ => ⟨S4x1x1x512, .f32⟩
  | .local _ .vmem, ⟨8, _⟩ => ⟨S4x1x1x512, .f32⟩
  | .local _ .vmem, ⟨9, _⟩ => ⟨S4x1x1x512, .f32⟩
  | .local _ .vmem, ⟨10, _⟩ => ⟨S4x1x1x512, .f32⟩
  | .local _ .vmem, ⟨11, _⟩ => ⟨S512x512, .f32⟩
  | .local _ .vmem, ⟨12, _⟩ => ⟨S512x512, .f32⟩
  | .local _ .vmem, ⟨13, _⟩ => ⟨S4096x512, .f32⟩
  | .local _ .vmem, ⟨14, _⟩ => ⟨S4096x512, .f32⟩
  | .local _ .vmem, ⟨15, _⟩ => ⟨S4x128x512, .f32⟩
  | _, _ => ⟨S4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v20 : Ref sig .tc := ⟨.hbm, 65, rfl⟩
abbrev main_v21 : Ref sig .tc := ⟨.hbm, 66, rfl⟩
abbrev main_cst_4 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v29 : Ref sig .tc := ⟨.hbm, 79, rfl⟩
abbrev main_cst_6 : Ref sig .tc := ⟨.hbm, 80, rfl⟩
abbrev main_v30 : Ref sig .tc := ⟨.hbm, 81, rfl⟩
abbrev main_cst_7 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_8 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_9 : Ref sig .tc := ⟨.hbm, 97, rfl⟩
abbrev main_v44 : Ref sig .tc := ⟨.hbm, 98, rfl⟩
abbrev main_v45 : Ref sig .tc := ⟨.hbm, 99, rfl⟩
abbrev main_cst_10 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_c_11 : Ref sig .tc := ⟨.hbm, 105, rfl⟩
abbrev main_call4_v0 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_c_12 : Ref sig .tc := ⟨.hbm, 112, rfl⟩
abbrev main_call5_v0 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_13 : Ref sig .tc := ⟨.hbm, 119, rfl⟩
abbrev main_call6_v0 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_c_14 : Ref sig .tc := ⟨.hbm, 130, rfl⟩
abbrev main_call7_v0 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73_0 : Ref sig .tc := ⟨.hbm, 136, rfl⟩
abbrev main_v73_1 : Ref sig .tc := ⟨.hbm, 137, rfl⟩
abbrev main_v73_2 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_cst_15 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![1, 8], ![false, false]⟩

@[reducible] def k0_t1_loop (i : grid0.Coords) : Scf.Loop 32 :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c0_i32_4 : BitVec 32 := 0#32
  let c1_i32_5 : BitVec 32 := 1#32
  let arg13 : BitVec 32 := Scf.iv c0_i32_4 c1_i32_5 k0_t1
  let c256_i32_288 : BitVec 32 := 256#32
  let v471 : BitVec 32 := Scalar.muli arg13 c256_i32_288
  v471
def k0_off1 (i : grid0.Coords) (k0_t1 : Fin (k0_t1_loop i).trips) : Fin 2 → Nat :=
  let c0_i32_4 : BitVec 32 := 0#32
  let c1_i32_5 : BitVec 32 := 1#32
  let arg13 : BitVec 32 := Scf.iv c0_i32_4 c1_i32_5 k0_t1
  let c256_i32_288 : BitVec 32 := 256#32
  let v471 : BitVec 32 := Scalar.muli arg13 c256_i32_288
  let v472 : BitVec 32 := v471
  let v493 : Index := Scalar.indexCast v472
  let c0_305 : Index := 0#32
  ![v493.toNat, 0]
def k0_off2 (i : grid0.Coords) (k0_t1 : Fin (k0_t1_loop i).trips) : Fin 2 → Nat :=
  let c0_i32_4 : BitVec 32 := 0#32
  let c1_i32_5 : BitVec 32 := 1#32
  let arg13 : BitVec 32 := Scf.iv c0_i32_4 c1_i32_5 k0_t1
  let c256_i32_288 : BitVec 32 := 256#32
  let v471 : BitVec 32 := Scalar.muli arg13 c256_i32_288
  let v472 : BitVec 32 := v471
  let v497 : Index := Scalar.indexCast v472
  let c128_307 : Index := 128#32
  ![v497.toNat, 128]
def k0_off3 (i : grid0.Coords) (k0_t1 : Fin (k0_t1_loop i).trips) : Fin 2 → Nat :=
  let c0_i32_4 : BitVec 32 := 0#32
  let c1_i32_5 : BitVec 32 := 1#32
  let arg13 : BitVec 32 := Scf.iv c0_i32_4 c1_i32_5 k0_t1
  let c256_i32_288 : BitVec 32 := 256#32
  let v471 : BitVec 32 := Scalar.muli arg13 c256_i32_288
  let v472 : BitVec 32 := v471
  let v501 : Index := Scalar.indexCast v472
  let c256_309 : Index := 256#32
  ![v501.toNat, 256]
def k0_off4 (i : grid0.Coords) (k0_t1 : Fin (k0_t1_loop i).trips) : Fin 2 → Nat :=
  let c0_i32_4 : BitVec 32 := 0#32
  let c1_i32_5 : BitVec 32 := 1#32
  let arg13 : BitVec 32 := Scf.iv c0_i32_4 c1_i32_5 k0_t1
  let c256_i32_288 : BitVec 32 := 256#32
  let v471 : BitVec 32 := Scalar.muli arg13 c256_i32_288
  let v472 : BitVec 32 := v471
  let v505 : Index := Scalar.indexCast v472
  let c384_311 : Index := 384#32
  ![v505.toNat, 384]
def k0_off5 (i : grid0.Coords) (k0_t1 : Fin (k0_t1_loop i).trips) : Fin 3 → Nat :=
  let c0_i32_4 : BitVec 32 := 0#32
  let c1_i32_5 : BitVec 32 := 1#32
  let arg13 : BitVec 32 := Scf.iv c0_i32_4 c1_i32_5 k0_t1
  let v589 : Index := Scalar.indexCast arg13
  let c0_362 : Index := 0#32
  let c0_363 : Index := 0#32
  ![v589.toNat, 0, 0]
def k0_off6 (i : grid0.Coords) (k0_t1 : Fin (k0_t1_loop i).trips) : Fin 3 → Nat :=
  let c0_i32_4 : BitVec 32 := 0#32
  let c1_i32_5 : BitVec 32 := 1#32
  let arg13 : BitVec 32 := Scf.iv c0_i32_4 c1_i32_5 k0_t1
  let v613 : Index := Scalar.indexCast arg13
  let c128_377 : Index := 128#32
  let c0_378 : Index := 0#32
  ![v613.toNat, 128, 0]
def k0_off7 (i : grid0.Coords) (k0_t1 : Fin (k0_t1_loop i).trips) : Fin 3 → Nat :=
  let c0_i32_4 : BitVec 32 := 0#32
  let c1_i32_5 : BitVec 32 := 1#32
  let arg13 : BitVec 32 := Scf.iv c0_i32_4 c1_i32_5 k0_t1
  let v637 : Index := Scalar.indexCast arg13
  let c256_392 : Index := 256#32
  let c0_393 : Index := 0#32
  ![v637.toNat, 256, 0]
def k0_off8 (i : grid0.Coords) (k0_t1 : Fin (k0_t1_loop i).trips) : Fin 3 → Nat :=
  let c0_i32_4 : BitVec 32 := 0#32
  let c1_i32_5 : BitVec 32 := 1#32
  let arg13 : BitVec 32 := Scf.iv c0_i32_4 c1_i32_5 k0_t1
  let v661 : Index := Scalar.indexCast arg13
  let c384_407 : Index := 384#32
  let c0_408 : Index := 0#32
  ![v661.toNat, 384, 0]
@[reducible] def k0_t2_loop (i : grid0.Coords) : Scf.Loop 32 :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult2 (i : grid0.Coords) (k0_t2 : Fin (k0_t2_loop i).trips) : BitVec 32 :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let c256_i32_288 : BitVec 32 := 256#32
  let v471 : BitVec 32 := Scalar.muli arg13 c256_i32_288
  v471
def k0_off9 (i : grid0.Coords) (k0_t2 : Fin (k0_t2_loop i).trips) : Fin 2 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let c256_i32_288 : BitVec 32 := 256#32
  let v471 : BitVec 32 := Scalar.muli arg13 c256_i32_288
  let v472 : BitVec 32 := v471
  let v493 : Index := Scalar.indexCast v472
  let c0_305 : Index := 0#32
  ![v493.toNat, 0]
def k0_off10 (i : grid0.Coords) (k0_t2 : Fin (k0_t2_loop i).trips) : Fin 2 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let c256_i32_288 : BitVec 32 := 256#32
  let v471 : BitVec 32 := Scalar.muli arg13 c256_i32_288
  let v472 : BitVec 32 := v471
  let v497 : Index := Scalar.indexCast v472
  let c128_307 : Index := 128#32
  ![v497.toNat, 128]
def k0_off11 (i : grid0.Coords) (k0_t2 : Fin (k0_t2_loop i).trips) : Fin 2 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let c256_i32_288 : BitVec 32 := 256#32
  let v471 : BitVec 32 := Scalar.muli arg13 c256_i32_288
  let v472 : BitVec 32 := v471
  let v501 : Index := Scalar.indexCast v472
  let c256_309 : Index := 256#32
  ![v501.toNat, 256]
def k0_off12 (i : grid0.Coords) (k0_t2 : Fin (k0_t2_loop i).trips) : Fin 2 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let c256_i32_288 : BitVec 32 := 256#32
  let v471 : BitVec 32 := Scalar.muli arg13 c256_i32_288
  let v472 : BitVec 32 := v471
  let v505 : Index := Scalar.indexCast v472
  let c384_311 : Index := 384#32
  ![v505.toNat, 384]
def k0_off13 (i : grid0.Coords) (k0_t2 : Fin (k0_t2_loop i).trips) : Fin 3 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let v589 : Index := Scalar.indexCast arg13
  let c0_362 : Index := 0#32
  let c0_363 : Index := 0#32
  ![v589.toNat, 0, 0]
def k0_off14 (i : grid0.Coords) (k0_t2 : Fin (k0_t2_loop i).trips) : Fin 3 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let v613 : Index := Scalar.indexCast arg13
  let c128_377 : Index := 128#32
  let c0_378 : Index := 0#32
  ![v613.toNat, 128, 0]
def k0_off15 (i : grid0.Coords) (k0_t2 : Fin (k0_t2_loop i).trips) : Fin 3 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let v637 : Index := Scalar.indexCast arg13
  let c256_392 : Index := 256#32
  let c0_393 : Index := 0#32
  ![v637.toNat, 256, 0]
def k0_off16 (i : grid0.Coords) (k0_t2 : Fin (k0_t2_loop i).trips) : Fin 3 → Nat :=
  let c0_i32_4 : BitVec 32 := 0#32
  let c2_i32 : BitVec 32 := 2#32
  let arg1 : BitVec 32 := BitVec.ofNat 32 (i 1).val
  let v7 : BitVec 32 := Scalar.muli c2_i32 arg1
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg13 : BitVec 32 := Scf.iv v12 c1_i32_6 k0_t2
  let v661 : Index := Scalar.indexCast arg13
  let c384_407 : Index := 384#32
  let c0_408 : Index := 0#32
  ![v661.toNat, 384, 0]
def k0_mult3 (i : grid0.Coords) : BitVec 32 :=
  let c2_i32_7 : BitVec 32 := 2#32
  let arg1 : BitVec 32 := BitVec.ofNat 32 (i 1).val
  let v13 : BitVec 32 := Scalar.muli c2_i32_7 arg1
  let c0_i32_8 : BitVec 32 := 0#32
  let v14 : BitVec 32 := Scalar.addi v13 c0_i32_8
  let c256_i32 : BitVec 32 := 256#32
  let v15 : BitVec 32 := Scalar.muli v14 c256_i32
  v15
def k0_off17 (i : grid0.Coords) (c0_i32_8 : BitVec 32) : Fin 2 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let c256_i32 : BitVec 32 := 256#32
  let v15 : BitVec 32 := Scalar.muli v14 c256_i32
  let v16 : BitVec 32 := v15
  let v50 : Index := Scalar.indexCast v16
  let c0_24 : Index := 0#32
  ![v50.toNat, 0]
def k0_off18 (i : grid0.Coords) (c0_i32_8 : BitVec 32) : Fin 2 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let c256_i32 : BitVec 32 := 256#32
  let v15 : BitVec 32 := Scalar.muli v14 c256_i32
  let v16 : BitVec 32 := v15
  let v54 : Index := Scalar.indexCast v16
  let c128_26 : Index := 128#32
  ![v54.toNat, 128]
def k0_off19 (i : grid0.Coords) (c0_i32_8 : BitVec 32) : Fin 2 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let c256_i32 : BitVec 32 := 256#32
  let v15 : BitVec 32 := Scalar.muli v14 c256_i32
  let v16 : BitVec 32 := v15
  let v58 : Index := Scalar.indexCast v16
  let c256_28 : Index := 256#32
  ![v58.toNat, 256]
def k0_off20 (i : grid0.Coords) (c0_i32_8 : BitVec 32) : Fin 2 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let c256_i32 : BitVec 32 := 256#32
  let v15 : BitVec 32 := Scalar.muli v14 c256_i32
  let v16 : BitVec 32 := v15
  let v62 : Index := Scalar.indexCast v16
  let c384_30 : Index := 384#32
  ![v62.toNat, 384]
def k0_off21 (i : grid0.Coords) (c0_i32_8 : BitVec 32) : Fin 3 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let v154 : Index := Scalar.indexCast v14
  let c0_82 : Index := 0#32
  let c0_83 : Index := 0#32
  ![v154.toNat, 0, 0]
def k0_off22 (i : grid0.Coords) (c0_i32_8 : BitVec 32) : Fin 3 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let v178 : Index := Scalar.indexCast v14
  let c128_97 : Index := 128#32
  let c0_98 : Index := 0#32
  ![v178.toNat, 128, 0]
def k0_off23 (i : grid0.Coords) (c0_i32_8 : BitVec 32) : Fin 3 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let v202 : Index := Scalar.indexCast v14
  let c256_112 : Index := 256#32
  let c0_113 : Index := 0#32
  ![v202.toNat, 256, 0]
def k0_off24 (i : grid0.Coords) (c0_i32_8 : BitVec 32) : Fin 3 → Nat :=
  let c2_i32_7 : BitVec 32 := 2#32
  let arg1 : BitVec 32 := BitVec.ofNat 32 (i 1).val
  let v13 : BitVec 32 := Scalar.muli c2_i32_7 arg1
  let v14 : BitVec 32 := Scalar.addi v13 c0_i32_8
  let v226 : Index := Scalar.indexCast v14
  let c384_127 : Index := 384#32
  let c0_128 : Index := 0#32
  ![v226.toNat, 384, 0]
def k0_mult4 (i : grid0.Coords) : BitVec 32 :=
  let c2_i32_133 : BitVec 32 := 2#32
  let arg1 : BitVec 32 := BitVec.ofNat 32 (i 1).val
  let v234 : BitVec 32 := Scalar.muli c2_i32_133 arg1
  let c1_i32_134 : BitVec 32 := 1#32
  let v235 : BitVec 32 := Scalar.addi v234 c1_i32_134
  let c256_i32_135 : BitVec 32 := 256#32
  let v236 : BitVec 32 := Scalar.muli v235 c256_i32_135
  v236
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4096x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S4096x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference4Ideal.lean ====
abbrev S4096x4x96 : Shape := ⟨3, ![4096, 4, 96]⟩
abbrev S4096x4x64 : Shape := ⟨3, ![4096, 4, 64]⟩
abbrev S4096 : Shape := ⟨1, ![4096]⟩
abbrev S_ : Shape := ⟨0, ![]⟩
abbrev S4x4096x4096 : Shape := ⟨3, ![4, 4096, 4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩

abbrev nBuf : Space → Nat
  | .hbm => 107
  | .vmem => 0
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x4096x4096, .i1⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .i1⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S_, .f32⟩
  | .hbm, ⟨51, _⟩ => ⟨S4x4096, .f32⟩
  | .hbm, ⟨52, _⟩ => ⟨S4x4096, .i1⟩
  | .hbm, ⟨53, _⟩ => ⟨S_, .f32⟩
  | .hbm, ⟨54, _⟩ => ⟨S4x4096, .f32⟩
  | .hbm, ⟨55, _⟩ => ⟨S4x4096, .i1⟩
  | .hbm, ⟨56, _⟩ => ⟨S_, .f32⟩
  | .hbm, ⟨57, _⟩ => ⟨S4x4096, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4x4096, .f32⟩
  | .hbm, ⟨62, _⟩ => ⟨S4x4096, .f32⟩
  | .hbm, ⟨63, _⟩ => ⟨S4x4096, .f32⟩
  | .hbm, ⟨64, _⟩ => ⟨S4x4096x1, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x4096, .f32⟩
  | .hbm, ⟨72, _⟩ => ⟨S4x4096x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x64x4096, .f32⟩
  | .hbm, ⟨78, _⟩ => ⟨S4096x4x64, .f32⟩
  | .hbm, ⟨79, _⟩ => ⟨S4x64x4096, .f32⟩
  | .hbm, ⟨80, _⟩ => ⟨S4x4096x4096, .f32⟩
  | .hbm, ⟨81, _⟩ => ⟨S4x64x4096, .f32⟩
  | .hbm, ⟨82, _⟩ => ⟨S4096x4x64, .f32⟩
  | .hbm, ⟨83, _⟩ => ⟨S4x4096x4096, .f32⟩
  | .hbm, ⟨84, _⟩ => ⟨S4x4096x4096, .f32⟩
  | .hbm, ⟨85, _⟩ => ⟨S4x4096x4096, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S4x4096x1, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x4096x4096, .f32⟩
  | .hbm, ⟨95, _⟩ => ⟨S4x4096x4096, .f32⟩
  | .hbm, ⟨96, _⟩ => ⟨S4x4096x4096, .f32⟩
  | .hbm, ⟨97, _⟩ => ⟨S_, .f32⟩
  | .hbm, ⟨98, _⟩ => ⟨S4x4096x4096, .f32⟩
  | .hbm, ⟨99, _⟩ => ⟨S4x4096x4096, .f32⟩
  | .hbm, ⟨100, _⟩ => ⟨S_, .f32⟩
  | .hbm, ⟨101, _⟩ => ⟨S4x4096x4096, .f32⟩
  | .hbm, ⟨102, _⟩ => ⟨S4x4096x4096, .f32⟩
  | .hbm, ⟨103, _⟩ => ⟨S4x4096x96, .f32⟩
  | .hbm, ⟨104, _⟩ => ⟨S4096x4x96, .f32⟩
  | .hbm, ⟨105, _⟩ => ⟨S4x4096x96, .f32⟩
  | .hbm, ⟨106, _⟩ => ⟨S4096x4x96, .f32⟩
  | _, _ => ⟨S4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_11 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call2_cst : Ref sig .tc := ⟨.hbm, 97, rfl⟩
abbrev main_call2_v0 : Ref sig .tc := ⟨.hbm, 98, rfl⟩
abbrev main_v57 : Ref sig .tc := ⟨.hbm, 99, rfl⟩
abbrev main_cst_13 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩

abbrev nD : Nat := 1
abbrev τ : Topo := Topo.v7x

variable {F : FTy → Type} [FloatOps F]
-- ==== Kernel5.lean ====
abbrev S4096x4x64 : Shape := ⟨3, ![4096, 4, 64]⟩
abbrev S4096x4 : Shape := ⟨2, ![4096, 4]⟩
abbrev S4096 : Shape := ⟨1, ![4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S4096x4x1 : Shape := ⟨3, ![4096, 4, 1]⟩
abbrev S4096x4x3 : Shape := ⟨3, ![4096, 4, 3]⟩
abbrev S4096x4x70 : Shape := ⟨3, ![4096, 4, 70]⟩
abbrev S4096x280 : Shape := ⟨2, ![4096, 280]⟩
abbrev S4096x4x128 : Shape := ⟨3, ![4096, 4, 128]⟩
abbrev S4096x512 : Shape := ⟨2, ![4096, 512]⟩
abbrev S4096x256 : Shape := ⟨2, ![4096, 256]⟩
abbrev S4096x1536 : Shape := ⟨2, ![4096, 1536]⟩
abbrev S4096x1024 : Shape := ⟨2, ![4096, 1024]⟩
abbrev S16x256x1024 : Shape := ⟨3, ![16, 256, 1024]⟩
abbrev S16x1024x256 : Shape := ⟨3, ![16, 1024, 256]⟩
abbrev S4x8x1x512 : Shape := ⟨4, ![4, 8, 1, 512]⟩
abbrev S512x512 : Shape := ⟨2, ![512, 512]⟩
abbrev S16x512x256 : Shape := ⟨3, ![16, 512, 256]⟩
abbrev S4x1x1x512 : Shape := ⟨4, ![4, 1, 1, 512]⟩
abbrev S4x128x512 : Shape := ⟨3, ![4, 128, 512]⟩
abbrev S4x1x512 : Shape := ⟨3, ![4, 1, 512]⟩
abbrev S512x128 : Shape := ⟨2, ![512, 128]⟩
abbrev S256x128 : Shape := ⟨2, ![256, 128]⟩
abbrev S256x512 : Shape := ⟨2, ![256, 512]⟩
abbrev S1x1x1x512 : Shape := ⟨4, ![1, 1, 1, 512]⟩
abbrev S1x512 : Shape := ⟨2, ![1, 512]⟩
abbrev S1x1x512 : Shape := ⟨3, ![1, 1, 512]⟩
abbrev S512 : Shape := ⟨1, ![512]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S256x256 : Shape := ⟨2, ![256, 256]⟩
abbrev S1x1x1x256 : Shape := ⟨4, ![1, 1, 1, 256]⟩
abbrev S1x256 : Shape := ⟨2, ![1, 256]⟩
abbrev S1x1x256 : Shape := ⟨3, ![1, 1, 256]⟩
abbrev S256 : Shape := ⟨1, ![256]⟩

abbrev nBuf : Space → Nat
  | .hbm => 159
  | .vmem => 20
  | .smem => 0
  | _ => 0

abbrev hbmTy0_0 (i : Nat) : BufTy := match i % 128 with
  | 0 => ⟨S4096x4x64, .f32⟩
  | 1 => ⟨S4096x4x64, .f32⟩
  | 2 => ⟨S4096x4x64, .f32⟩
  | 3 => ⟨S4096x4, .f32⟩
  | 4 => ⟨S4096x4x64, .f32⟩
  | 5 => ⟨S4096, .i32⟩
  | 6 => ⟨S4x4096x4096, .f32⟩
  | 7 => ⟨S_, .f32⟩
  | 8 => ⟨S4x4096x4096, .f32⟩
  | 9 => ⟨S4x4096x4096, .f32⟩
  | 10 => ⟨S4x4096, .f32⟩
  | 11 => ⟨S4x4096x1, .f32⟩
  | 12 => ⟨S4x4096x4096, .f32⟩
  | 13 => ⟨S4x4096x4096, .f32⟩
  | 14 => ⟨S4x4096, .f32⟩
  | 15 => ⟨S4x1x4096, .f32⟩
  | 16 => ⟨S4x4096x4096, .f32⟩
  | 17 => ⟨S4x4096x4096, .f32⟩
  | 18 => ⟨S1x4096, .i32⟩
  | 19 => ⟨S4096x1, .i32⟩
  | 20 => ⟨S4096x4096, .i32⟩
  | 21 => ⟨S4096x4096, .i32⟩
  | 22 => ⟨S4096x4096, .i1⟩
  | 23 => ⟨S_, .f32⟩
  | 24 => ⟨S_, .f32⟩
  | 25 => ⟨S4x4096x4096, .i1⟩
  | 26 => ⟨S4x4096x4096, .f32⟩
  | 27 => ⟨S4x4096x4096, .f32⟩
  | 28 => ⟨S_, .f32⟩
  | 29 => ⟨S4x4096, .f32⟩
  | 30 => ⟨S4x4096x1, .f32⟩
  | 31 => ⟨S4x4096x4096, .f32⟩
  | 32 => ⟨S4x4096x4096, .f32⟩
  | 33 => ⟨S4x4096x4096, .f32⟩
  | 34 => ⟨S_, .f32⟩
  | 35 => ⟨S4x4096, .f32⟩
  | 36 => ⟨S4x4096, .f32⟩
  | 37 => ⟨S4x4096, .f32⟩
  | 38 => ⟨S4096, .i32⟩
  | 39 => ⟨S4x4096x4096, .f32⟩
  | 40 => ⟨S_, .f32⟩
  | 41 => ⟨S4x4096x4096, .f32⟩
  | 42 => ⟨S4x4096x4096, .f32⟩
  | 43 => ⟨S4x4096, .f32⟩
  | 44 => ⟨S4x4096x1, .f32⟩
  | 45 => ⟨S4x4096x4096, .f32⟩
  | 46 => ⟨S4x4096x4096, .f32⟩
  | 47 => ⟨S4x4096, .f32⟩
  | 48 => ⟨S4x1x4096, .f32⟩
  | 49 => ⟨S4x4096x4096, .f32⟩
  | 50 => ⟨S4x4096x4096, .f32⟩
  | 51 => ⟨S1x4096, .i32⟩
  | 52 => ⟨S4096x1, .i32⟩
  | 53 => ⟨S4096x4096, .i32⟩
  | 54 => ⟨S4096x4096, .i32⟩
  | 55 => ⟨S4096x4096, .i1⟩
  | 56 => ⟨S_, .f32⟩
  | 57 => ⟨S_, .f32⟩
  | 58 => ⟨S4x4096x4096, .i1⟩
  | 59 => ⟨S4x4096x4096, .f32⟩
  | 60 => ⟨S4x4096x4096, .f32⟩
  | 61 => ⟨S_, .f32⟩
  | 62 => ⟨S4x4096, .f32⟩
  | 63 => ⟨S_, .f32⟩
  | 64 => ⟨S4x4096, .f32⟩
  | 65 => ⟨S4x4096, .f32⟩
  | 66 => ⟨S4x4096x1, .f32⟩
  | 67 => ⟨S4x4096x4096, .f32⟩
  | 68 => ⟨S4x4096x4096, .f32⟩
  | 69 => ⟨S4x4096x4096, .f32⟩
  | 70 => ⟨S_, .f32⟩
  | 71 => ⟨S4x4096, .f32⟩
  | 72 => ⟨S4x4096x1, .f32⟩
  | 73 => ⟨S4x4096x4096, .f32⟩
  | 74 => ⟨S4x4096x4096, .f32⟩
  | 75 => ⟨S4x64x4096, .f32⟩
  | 76 => ⟨S4096x4x64, .f32⟩
  | 77 => ⟨S4096x4x64, .f32⟩
  | 78 => ⟨S_, .f32⟩
  | 79 => ⟨S4096x4, .f32⟩
  | 80 => ⟨S4x4096, .f32⟩
  | 81 => ⟨S4096x4, .bf16⟩
  | 82 => ⟨S4096x4, .f32⟩
  | 83 => ⟨S4096x4, .f32⟩
  | 84 => ⟨S4096x4, .bf16⟩
  | 85 => ⟨S4096x4, .f32⟩
  | 86 => ⟨S4096x4, .f32⟩
  | 87 => ⟨S4096x4, .f32⟩
  | 88 => ⟨S4096x4x1, .f32⟩
  | 89 => ⟨S4096x4x1, .f32⟩
  | 90 => ⟨S4096x4x1, .f32⟩
  | 91 => ⟨S4096x4x3, .f32⟩
  | 92 => ⟨S_, .f32⟩
  | 93 => ⟨S4096x4x3, .f32⟩
  | 94 => ⟨S_, .f32⟩
  | 95 => ⟨S4096x4x64, .f32⟩
  | 96 => ⟨S4096x4x64, .f32⟩
  | 97 => ⟨S4096x4x70, .f32⟩
  | 98 => ⟨S4096x280, .f32⟩
  | 99 => ⟨S4096x4x70, .f32⟩
  | 100 => ⟨S_, .i32⟩
  | 101 => ⟨S_, .f32⟩
  | 102 => ⟨S4096x4x128, .f32⟩
  | 103 => ⟨S4096x512, .f32⟩
  | 104 => ⟨S4096x512, .bf16⟩
  | 105 => ⟨S4096x4x3, .f32⟩
  | 106 => ⟨S4096x4x70, .f32⟩
  | 107 => ⟨S4096x280, .f32⟩
  | 108 => ⟨S4096x4x70, .f32⟩
  | 109 => ⟨S_, .i32⟩
  | 110 => ⟨S_, .f32⟩
  | 111 => ⟨S4096x4x128, .f32⟩
  | 112 => ⟨S4096x512, .f32⟩
  | 113 => ⟨S4096x512, .bf16⟩
  | 114 => ⟨S4096x256, .f32⟩
  | 115 => ⟨S4096x4x64, .f32⟩
  | 116 => ⟨S_, .i32⟩
  | 117 => ⟨S_, .f32⟩
  | 118 => ⟨S4096x4x128, .f32⟩
  | 119 => ⟨S4096x512, .f32⟩
  | 120 => ⟨S4096x512, .bf16⟩
  | 121 => ⟨S4096x1536, .bf16⟩
  | 122 => ⟨S4096x1024, .bf16⟩
  | 123 => ⟨S16x256x1024, .bf16⟩
  | 124 => ⟨S16x1024x256, .bf16⟩
  | 125 => ⟨S4096x256, .f32⟩
  | 126 => ⟨S4096x4x64, .f32⟩
  | 127 => ⟨S_, .i32⟩
  | _ => ⟨S4096x4x64, .f32⟩

abbrev hbmTy0_1 (i : Nat) : BufTy := match i % 128 with
  | 0 => ⟨S_, .f32⟩
  | 1 => ⟨S4096x4x128, .f32⟩
  | 2 => ⟨S4096x512, .f32⟩
  | 3 => ⟨S4x8x1x512, .f32⟩
  | 4 => ⟨S4x8x1x512, .f32⟩
  | 5 => ⟨S4096x512, .f32⟩
  | 6 => ⟨S4096x512, .f32⟩
  | 7 => ⟨S4096x512, .f32⟩
  | 8 => ⟨S4096x512, .f32⟩
  | 9 => ⟨S4x8x1x512, .f32⟩
  | 10 => ⟨S4x4096, .f32⟩
  | 11 => ⟨S4096x4, .f32⟩
  | 12 => ⟨S4096x4x128, .f32⟩
  | 13 => ⟨S_, .f32⟩
  | 14 => ⟨S4096x4, .f32⟩
  | 15 => ⟨S4096x4, .f32⟩
  | 16 => ⟨S4096x4x128, .f32⟩
  | 17 => ⟨S4096x4x64, .f32⟩
  | 18 => ⟨S4096x256, .f32⟩
  | 19 => ⟨S4096x4x64, .f32⟩
  | 20 => ⟨S_, .f32⟩
  | 21 => ⟨S4096x4x64, .f32⟩
  | 22 => ⟨S4096x4x64, .f32⟩
  | 23 => ⟨S4096x4x128, .f32⟩
  | 24 => ⟨S4096x4x64, .f32⟩
  | 25 => ⟨S4096x256, .f32⟩
  | 26 => ⟨S4096x4x64, .f32⟩
  | 27 => ⟨S4096x4x128, .f32⟩
  | 28 => ⟨S4096x4x64, .f32⟩
  | 29 => ⟨S4096x256, .f32⟩
  | 30 => ⟨S4096x4x64, .f32⟩
  | _ => ⟨S4096x4x64, .f32⟩

abbrev hbmTy (i : Nat) : BufTy := match i / 128 with
  | 0 => hbmTy0_0 i
  | 1 => hbmTy0_1 i
  | _ => ⟨S4096x4x64, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S16x512x256, .bf16⟩
  | .local _ .vmem, ⟨5, _⟩ => ⟨S512x512, .f32⟩
  | .local _ .vmem, ⟨6, _⟩ => ⟨S512x512, .f32⟩
  | .local _ .vmem, ⟨7, _⟩ => ⟨S4x1x1x512, .f32⟩
  | .local _ .vmem, ⟨8, _⟩ => ⟨S4x1x1x512, .f32⟩
  | .local _ .vmem, ⟨9, _⟩ => ⟨S4x1x1x512, .f32⟩
  | .local _ .vmem, ⟨10, _⟩ => ⟨S4x1x1x512, .f32⟩
  | .local _ .vmem, ⟨11, _⟩ => ⟨S512x512, .f32⟩
  | .local _ .vmem, ⟨12, _⟩ => ⟨S512x512, .f32⟩
  | .local _ .vmem, ⟨13, _⟩ => ⟨S4096x512, .f32⟩
  | .local _ .vmem, ⟨14, _⟩ => ⟨S4096x512, .f32⟩
  | .local _ .vmem, ⟨15, _⟩ => ⟨S4096x512, .f32⟩
  | .local _ .vmem, ⟨16, _⟩ => ⟨S4x1x1x512, .f32⟩
  | .local _ .vmem, ⟨17, _⟩ => ⟨S4x1x1x512, .f32⟩
  | .local _ .vmem, ⟨18, _⟩ => ⟨S4x128x512, .f32⟩
  | .local _ .vmem, ⟨19, _⟩ => ⟨S4x1x512, .f32⟩
  | _, _ => ⟨S4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c : Ref sig .tc := ⟨.hbm, 100, rfl⟩
abbrev main_call2_v0 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_11 : Ref sig .tc := ⟨.hbm, 109, rfl⟩
abbrev main_call3_v0 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_12 : Ref sig .tc := ⟨.hbm, 116, rfl⟩
abbrev main_call4_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_13 : Ref sig .tc := ⟨.hbm, 127, rfl⟩
abbrev main_call5_v0 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102_0 : Ref sig .tc := ⟨.hbm, 133, rfl⟩
abbrev main_v102_1 : Ref sig .tc := ⟨.hbm, 134, rfl⟩
abbrev main_v102_2 : Ref sig .tc := ⟨.hbm, 135, rfl⟩
abbrev main_v102_3 : Ref sig .tc := ⟨.hbm, 136, rfl⟩
abbrev main_v102_4 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_14 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_15 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![1, 8], ![false, false]⟩

@[reducible] def k0_t1_loop (i : grid0.Coords) : Scf.Loop 32 :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_9 : BitVec 32 := 1#32
  ⟨c0_i32_8, v16, c1_i32_9⟩
def k0_mult1 (i : grid0.Coords) (k0_t1 : Fin (k0_t1_loop i).trips) : BitVec 32 :=
  let c0_i32_8 : BitVec 32 := 0#32
  let c1_i32_9 : BitVec 32 := 1#32
  let arg16 : BitVec 32 := Scf.iv c0_i32_8 c1_i32_9 k0_t1
  let c256_i32_389 : BitVec 32 := 256#32
  let v639 : BitVec 32 := Scalar.muli arg16 c256_i32_389
  v639
def k0_off1 (i : grid0.Coords) (k0_t1 : Fin (k0_t1_loop i).trips) : Fin 2 → Nat :=
  let c0_i32_8 : BitVec 32 := 0#32
  let c1_i32_9 : BitVec 32 := 1#32
  let arg16 : BitVec 32 := Scf.iv c0_i32_8 c1_i32_9 k0_t1
  let c256_i32_389 : BitVec 32 := 256#32
  let v639 : BitVec 32 := Scalar.muli arg16 c256_i32_389
  let v640 : BitVec 32 := v639
  let v661 : Index := Scalar.indexCast v640
  let c0_406 : Index := 0#32
  ![v661.toNat, 0]
def k0_off2 (i : grid0.Coords) (k0_t1 : Fin (k0_t1_loop i).trips) : Fin 2 → Nat :=
  let c0_i32_8 : BitVec 32 := 0#32
  let c1_i32_9 : BitVec 32 := 1#32
  let arg16 : BitVec 32 := Scf.iv c0_i32_8 c1_i32_9 k0_t1
  let c256_i32_389 : BitVec 32 := 256#32
  let v639 : BitVec 32 := Scalar.muli arg16 c256_i32_389
  let v640 : BitVec 32 := v639
  let v665 : Index := Scalar.indexCast v640
  let c128_408 : Index := 128#32
  ![v665.toNat, 128]
def k0_off3 (i : grid0.Coords) (k0_t1 : Fin (k0_t1_loop i).trips) : Fin 2 → Nat :=
  let c0_i32_8 : BitVec 32 := 0#32
  let c1_i32_9 : BitVec 32 := 1#32
  let arg16 : BitVec 32 := Scf.iv c0_i32_8 c1_i32_9 k0_t1
  let c256_i32_389 : BitVec 32 := 256#32
  let v639 : BitVec 32 := Scalar.muli arg16 c256_i32_389
  let v640 : BitVec 32 := v639
  let v669 : Index := Scalar.indexCast v640
  let c256_410 : Index := 256#32
  ![v669.toNat, 256]
def k0_off4 (i : grid0.Coords) (k0_t1 : Fin (k0_t1_loop i).trips) : Fin 2 → Nat :=
  let c0_i32_8 : BitVec 32 := 0#32
  let c1_i32_9 : BitVec 32 := 1#32
  let arg16 : BitVec 32 := Scf.iv c0_i32_8 c1_i32_9 k0_t1
  let c256_i32_389 : BitVec 32 := 256#32
  let v639 : BitVec 32 := Scalar.muli arg16 c256_i32_389
  let v640 : BitVec 32 := v639
  let v673 : Index := Scalar.indexCast v640
  let c384_412 : Index := 384#32
  ![v673.toNat, 384]
def k0_off5 (i : grid0.Coords) (k0_t1 : Fin (k0_t1_loop i).trips) : Fin 3 → Nat :=
  let c0_i32_8 : BitVec 32 := 0#32
  let c1_i32_9 : BitVec 32 := 1#32
  let arg16 : BitVec 32 := Scf.iv c0_i32_8 c1_i32_9 k0_t1
  let v841 : Index := Scalar.indexCast arg16
  let c0_499 : Index := 0#32
  let c0_500 : Index := 0#32
  ![v841.toNat, 0, 0]
def k0_off6 (i : grid0.Coords) (k0_t1 : Fin (k0_t1_loop i).trips) : Fin 3 → Nat :=
  let c0_i32_8 : BitVec 32 := 0#32
  let c1_i32_9 : BitVec 32 := 1#32
  let arg16 : BitVec 32 := Scf.iv c0_i32_8 c1_i32_9 k0_t1
  let v865 : Index := Scalar.indexCast arg16
  let c128_514 : Index := 128#32
  let c0_515 : Index := 0#32
  ![v865.toNat, 128, 0]
def k0_off7 (i : grid0.Coords) (k0_t1 : Fin (k0_t1_loop i).trips) : Fin 3 → Nat :=
  let c0_i32_8 : BitVec 32 := 0#32
  let c1_i32_9 : BitVec 32 := 1#32
  let arg16 : BitVec 32 := Scf.iv c0_i32_8 c1_i32_9 k0_t1
  let v889 : Index := Scalar.indexCast arg16
  let c256_529 : Index := 256#32
  let c0_530 : Index := 0#32
  ![v889.toNat, 256, 0]
def k0_off8 (i : grid0.Coords) (k0_t1 : Fin (k0_t1_loop i).trips) : Fin 3 → Nat :=
  let c0_i32_8 : BitVec 32 := 0#32
  let c1_i32_9 : BitVec 32 := 1#32
  let arg16 : BitVec 32 := Scf.iv c0_i32_8 c1_i32_9 k0_t1
  let v913 : Index := Scalar.indexCast arg16
  let c384_544 : Index := 384#32
  let c0_545 : Index := 0#32
  ![v913.toNat, 384, 0]
@[reducible] def k0_t2_loop (i : grid0.Coords) : Scf.Loop 32 :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let v13 : BitVec 32 := Scalar.addi c0_i32_8 v12
  let c1_i32_10 : BitVec 32 := 1#32
  ⟨v16, v13, c1_i32_10⟩
def k0_mult2 (i : grid0.Coords) (k0_t2 : Fin (k0_t2_loop i).trips) : BitVec 32 :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let c256_i32_389 : BitVec 32 := 256#32
  let v639 : BitVec 32 := Scalar.muli arg16 c256_i32_389
  v639
def k0_off9 (i : grid0.Coords) (k0_t2 : Fin (k0_t2_loop i).trips) : Fin 2 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let c256_i32_389 : BitVec 32 := 256#32
  let v639 : BitVec 32 := Scalar.muli arg16 c256_i32_389
  let v640 : BitVec 32 := v639
  let v661 : Index := Scalar.indexCast v640
  let c0_406 : Index := 0#32
  ![v661.toNat, 0]
def k0_off10 (i : grid0.Coords) (k0_t2 : Fin (k0_t2_loop i).trips) : Fin 2 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let c256_i32_389 : BitVec 32 := 256#32
  let v639 : BitVec 32 := Scalar.muli arg16 c256_i32_389
  let v640 : BitVec 32 := v639
  let v665 : Index := Scalar.indexCast v640
  let c128_408 : Index := 128#32
  ![v665.toNat, 128]
def k0_off11 (i : grid0.Coords) (k0_t2 : Fin (k0_t2_loop i).trips) : Fin 2 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let c256_i32_389 : BitVec 32 := 256#32
  let v639 : BitVec 32 := Scalar.muli arg16 c256_i32_389
  let v640 : BitVec 32 := v639
  let v669 : Index := Scalar.indexCast v640
  let c256_410 : Index := 256#32
  ![v669.toNat, 256]
def k0_off12 (i : grid0.Coords) (k0_t2 : Fin (k0_t2_loop i).trips) : Fin 2 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let c256_i32_389 : BitVec 32 := 256#32
  let v639 : BitVec 32 := Scalar.muli arg16 c256_i32_389
  let v640 : BitVec 32 := v639
  let v673 : Index := Scalar.indexCast v640
  let c384_412 : Index := 384#32
  ![v673.toNat, 384]
def k0_off13 (i : grid0.Coords) (k0_t2 : Fin (k0_t2_loop i).trips) : Fin 3 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let v841 : Index := Scalar.indexCast arg16
  let c0_499 : Index := 0#32
  let c0_500 : Index := 0#32
  ![v841.toNat, 0, 0]
def k0_off14 (i : grid0.Coords) (k0_t2 : Fin (k0_t2_loop i).trips) : Fin 3 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let v865 : Index := Scalar.indexCast arg16
  let c128_514 : Index := 128#32
  let c0_515 : Index := 0#32
  ![v865.toNat, 128, 0]
def k0_off15 (i : grid0.Coords) (k0_t2 : Fin (k0_t2_loop i).trips) : Fin 3 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let v889 : Index := Scalar.indexCast arg16
  let c256_529 : Index := 256#32
  let c0_530 : Index := 0#32
  ![v889.toNat, 256, 0]
def k0_off16 (i : grid0.Coords) (k0_t2 : Fin (k0_t2_loop i).trips) : Fin 3 → Nat :=
  let c0_i32_8 : BitVec 32 := 0#32
  let c2_i32 : BitVec 32 := 2#32
  let arg1 : BitVec 32 := BitVec.ofNat 32 (i 1).val
  let v11 : BitVec 32 := Scalar.muli c2_i32 arg1
  let v12 : BitVec 32 := Scalar.subi v11 c0_i32_8
  let c1_i32 : BitVec 32 := 1#32
  let v14 : BitVec 32 := Scalar.divsi v12 c1_i32
  let v15 : BitVec 32 := Scalar.muli v14 c1_i32
  let v16 : BitVec 32 := Scalar.addi c0_i32_8 v15
  let c1_i32_10 : BitVec 32 := 1#32
  let arg16 : BitVec 32 := Scf.iv v16 c1_i32_10 k0_t2
  let v913 : Index := Scalar.indexCast arg16
  let c384_544 : Index := 384#32
  let c0_545 : Index := 0#32
  ![v913.toNat, 384, 0]
def k0_mult3 (i : grid0.Coords) : BitVec 32 :=
  let c2_i32_11 : BitVec 32 := 2#32
  let arg1 : BitVec 32 := BitVec.ofNat 32 (i 1).val
  let v17 : BitVec 32 := Scalar.muli c2_i32_11 arg1
  let c0_i32_12 : BitVec 32 := 0#32
  let v18 : BitVec 32 := Scalar.addi v17 c0_i32_12
  let c256_i32 : BitVec 32 := 256#32
  let v19 : BitVec 32 := Scalar.muli v18 c256_i32
  v19
def k0_off17 (i : grid0.Coords) (c0_i32_12 : BitVec 32) : Fin 2 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let c256_i32 : BitVec 32 := 256#32
  let v19 : BitVec 32 := Scalar.muli v18 c256_i32
  let v20 : BitVec 32 := v19
  let v50 : Index := Scalar.indexCast v20
  let c0_27 : Index := 0#32
  ![v50.toNat, 0]
def k0_off18 (i : grid0.Coords) (c0_i32_12 : BitVec 32) : Fin 2 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let c256_i32 : BitVec 32 := 256#32
  let v19 : BitVec 32 := Scalar.muli v18 c256_i32
  let v20 : BitVec 32 := v19
  let v54 : Index := Scalar.indexCast v20
  let c128_29 : Index := 128#32
  ![v54.toNat, 128]
def k0_off19 (i : grid0.Coords) (c0_i32_12 : BitVec 32) : Fin 2 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let c256_i32 : BitVec 32 := 256#32
  let v19 : BitVec 32 := Scalar.muli v18 c256_i32
  let v20 : BitVec 32 := v19
  let v58 : Index := Scalar.indexCast v20
  let c256_31 : Index := 256#32
  ![v58.toNat, 256]
def k0_off20 (i : grid0.Coords) (c0_i32_12 : BitVec 32) : Fin 2 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let c256_i32 : BitVec 32 := 256#32
  let v19 : BitVec 32 := Scalar.muli v18 c256_i32
  let v20 : BitVec 32 := v19
  let v62 : Index := Scalar.indexCast v20
  let c384_33 : Index := 384#32
  ![v62.toNat, 384]
def k0_off21 (i : grid0.Coords) (c0_i32_12 : BitVec 32) : Fin 3 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let v238 : Index := Scalar.indexCast v18
  let c0_121 : Index := 0#32
  let c0_122 : Index := 0#32
  ![v238.toNat, 0, 0]
def k0_off22 (i : grid0.Coords) (c0_i32_12 : BitVec 32) : Fin 3 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let v262 : Index := Scalar.indexCast v18
  let c128_136 : Index := 128#32
  let c0_137 : Index := 0#32
  ![v262.toNat, 128, 0]
def k0_off23 (i : grid0.Coords) (c0_i32_12 : BitVec 32) : Fin 3 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let v286 : Index := Scalar.indexCast v18
  let c256_151 : Index := 256#32
  let c0_152 : Index := 0#32
  ![v286.toNat, 256, 0]
def k0_off24 (i : grid0.Coords) (c0_i32_12 : BitVec 32) : Fin 3 → Nat :=
  let c2_i32_11 : BitVec 32 := 2#32
  let arg1 : BitVec 32 := BitVec.ofNat 32 (i 1).val
  let v17 : BitVec 32 := Scalar.muli c2_i32_11 arg1
  let v18 : BitVec 32 := Scalar.addi v17 c0_i32_12
  let v310 : Index := Scalar.indexCast v18
  let c384_166 : Index := 384#32
  let c0_167 : Index := 0#32
  ![v310.toNat, 384, 0]
def k0_mult4 (i : grid0.Coords) : BitVec 32 :=
  let c2_i32_172 : BitVec 32 := 2#32
  let arg1 : BitVec 32 := BitVec.ofNat 32 (i 1).val
  let v318 : BitVec 32 := Scalar.muli c2_i32_172 arg1
  let c1_i32_173 : BitVec 32 := 1#32
  let v319 : BitVec 32 := Scalar.addi v318 c1_i32_173
  let c256_i32_174 : BitVec 32 := 256#32
  let v320 : BitVec 32 := Scalar.muli v319 c256_i32_174
  v320
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4096x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S4096x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S4096x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S4x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S4096x4x64 : Shape := ⟨3, ![4096, 4, 64]⟩
abbrev S4096x4 : Shape := ⟨2, ![4096, 4]⟩
abbrev S4096 : Shape := ⟨1, ![4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S4x4096x64 : Shape := ⟨3, ![4, 4096, 64]⟩

abbrev nBuf : Space → Nat
  | .hbm => 112
  | .vmem => 0
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4x64, .f32⟩
  | .hbm, ⟨5, _⟩ => ⟨S4096, .i32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .i1⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S4x4096, .i1⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x4096, .f32⟩
  | .hbm, ⟨63, _⟩ => ⟨S4x4096x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x64x4096, .f32⟩
  | .hbm, ⟨69, _⟩ => ⟨S4096x4x64, .f32⟩
  | .hbm, ⟨70, _⟩ => ⟨S4x64x4096, .f32⟩
  | .hbm, ⟨71, _⟩ => ⟨S4x4096x4096, .f32⟩
  | .hbm, ⟨72, _⟩ => ⟨S4x64x4096, .f32⟩
  | .hbm, ⟨73, _⟩ => ⟨S4096x4x64, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S4x4096x1, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x1x4096, .f32⟩
  | .hbm, ⟨95, _⟩ => ⟨S_, .f32⟩
  | .hbm, ⟨96, _⟩ => ⟨S4x4096, .f32⟩
  | .hbm, ⟨97, _⟩ => ⟨S4096x4, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096, .f32⟩
  | .hbm, ⟨103, _⟩ => ⟨S4096x4, .f32⟩
  | .hbm, ⟨104, _⟩ => ⟨S4096x4, .f32⟩
  | .hbm, ⟨105, _⟩ => ⟨S_, .f32⟩
  | .hbm, ⟨106, _⟩ => ⟨S4x4096x4096, .f32⟩
  | .hbm, ⟨107, _⟩ => ⟨S4x4096x4096, .f32⟩
  | .hbm, ⟨108, _⟩ => ⟨S4x4096x64, .f32⟩
  | .hbm, ⟨109, _⟩ => ⟨S4096x4x64, .f32⟩
  | .hbm, ⟨110, _⟩ => ⟨S4x4096x64, .f32⟩
  | .hbm, ⟨111, _⟩ => ⟨S4096x4x64, .f32⟩
  | _, _ => ⟨S4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Kernel6.lean ====
abbrev S8x128x1024 : Shape := ⟨3, ![8, 128, 1024]⟩
abbrev S2x128x1024 : Shape := ⟨3, ![2, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_8 : BitVec 32 := 0#32
  let v21 : BitVec 1 := Scalar.cmpi .sgt arg0 c0_i32_8
  let v22 : BitVec 32 := Scalar.extui v21
  let c0_i32_9 : BitVec 32 := 0#32
  let v23 : BitVec 1 := Scalar.cmpi .slt arg0 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg0 c1_i32_7
  let c0_i32_12 : BitVec 32 := 0#32
  let v33 : BitVec 1 := Scalar.cmpi .ne v32 c0_i32_12
  let v34 : BitVec 1 := Scalar.andi v31 v33
  let v20 : BitVec 32 := Scalar.divsi arg0 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Mlp.Run.lean ====
/-
  The run of the six launches, with every unscoped buffer of the final state named: from any memory with zero counters every
  weakly fair execution ends with device `c`'s buffers at the contents the last launch leaves, and the counters at zero.
-/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the six segments, its last thread state read against the final state at every buffer. -/
theorem run_bufs : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.Mlp

end
-- ==== Proof.Mlp.Spec.lean ====
/-
  The six products of the feed-forward part, each as one function of whole arrays over the extended reals: what the
  launches are shown to leave and what the reference is shown to compute.
-/
module

public import proofs.«01_k».proof.Proof.Gen.KernelIdeal
public import Idealize.ShloMosaic.Lib.Pointwise

@[expose] public section

set_option maxRecDepth 16384

noncomputable section

namespace Cert.Mlp

open Idealize.ShloMosaic Cert.KernelIdeal

/-- The square of the positive part. -/
abbrev relu2 (a : EReal) : EReal := max a 0 * max a 0

/-- `a = h · w_up`. -/
def up (h : FVec Ideal S4096x1024 .bf16) (w : FVec Ideal S1024x4096 .bf16) : FVec Ideal S4096x4096 .bf16 :=
  fun j => ∑ k : Fin 1024, h (ix2 (j 0) k) * w (ix2 k (j 1))

/-- `y = relu(a)² · w_down`. -/
def down (a : FVec Ideal S4096x4096 .bf16) (w : FVec Ideal S4096x1024 .bf16) : FVec Ideal S4096x1024 .f32 :=
  fun j => ∑ k : Fin 4096, relu2 (a (ix2 (j 0) k)) * w (ix2 k (j 1))

/-- `da = (dy · w_downᵀ) · 2 relu(a)`. -/
def downDx (dy : FVec Ideal S4096x1024 .bf16) (w : FVec Ideal S4096x1024 .bf16) (a : FVec Ideal S4096x4096 .bf16) :
    FVec Ideal S4096x4096 .bf16 :=
  fun j => (∑ k : Fin 1024, dy (ix2 (j 0) k) * w (ix2 (j 1) k)) * (Ideal.ofBits .bf16 0x4000#16 * max (a (ix2 (j 0) (j 1))) 0)

/-- `dw_down = (relu(a)²)ᵀ · dy`. -/
def downDw (a : FVec Ideal S4096x4096 .bf16) (dy : FVec Ideal S4096x1024 .bf16) : FVec Ideal S4096x1024 .bf16 :=
  fun j => ∑ k : Fin 4096, relu2 (a (ix2 k (j 0))) * dy (ix2 k (j 1))

/-- `dw_up = hᵀ · da`, its columns in eight blocks of 512. -/
def upDw (h : FVec Ideal S4096x1024 .bf16) (da : FVec Ideal S4096x4096 .bf16) : FVec Ideal S8x1024x512 .bf16 :=
  fun j => ∑ k : Fin 4096, h (ix2 k (j 1)) * da (ix2 k ⟨(j 0).val * 512 + (j 2).val, by
    have h0 : (j 0).val < 8 := (j 0).isLt
    have h2 : (j 2).val < 512 := (j 2).isLt
    omega⟩)

/-- `dh = da · w_upᵀ`. -/
def upDx (da : FVec Ideal S4096x4096 .bf16) (w : FVec Ideal S1024x4096 .bf16) : FVec Ideal S4096x1024 .f32 :=
  fun j => ∑ k : Fin 4096, da (ix2 (j 0) k) * w (ix2 (j 1) k)

end Cert.Mlp

end
-- ==== Proof.Mlp.Launches.lean ====
/-
  What each of the six launches leaves in its result array, at ANY contents `V` of the buffers on entry: the blocks tile
  the array, and the block written at a point is that block of the whole product.
-/
module

public import proofs.«01_k».proof.Proof.Gen.KernelIdeal.Frame
public import proofs.«01_k».proof.Proof.Mlp.Spec
public import Idealize.ShloMosaic.Lib.Pipeline.ValueKit

@[expose] public section

set_option maxRecDepth 16384

noncomputable section

namespace Cert.Mlp

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The block indices of launch 0, in closed form. -/
theorem idx0 : ∀ t : Fin cfg0.N, win0_0.index t = ![t.val / 4, 0] ∧ win0_1.index t = ![0, t.val % 4] ∧ win0_2.index t = ![t.val / 4, t.val % 4] :=
  (by decide +kernel : ∀ t : Fin grid0.N, _)

/-- The block stored at a point of launch 0, at an element. -/
theorem point0 (c : Dev nD) (t : Fin cfg0.N) (y) : k0_pay1 (F := Ideal) (iblk0 V c 0 t) (iblk0 V c 1 t) y
    = up (V c main_arg0) (V c main_arg1) (((cfg0.win 2).blk t).view.emb y) := by
  pointwise [k0_pay1, up]
  blk_point [iblk0, idx0 t]

/-- Launch 0 leaves `up` of the arrays it reads. -/
theorem final0 (c : Dev nD) : (dat0 V c).arrAt 2 cfg0.N = up (V c main_arg0) (V c main_arg1) := by
  refine (dat0 V c).arrAt_eq_of_covers 2 _ (by decide +kernel) fun t _ y => ?_
  blk_simp
  rw [after0_2]; frame_out
  exact point0 V c t y

/-- The block indices of launch 1, in closed form. -/
theorem idx1 : ∀ t : Fin cfg1.N, win1_0.index t = ![t.val, 0] ∧ win1_1.index t = ![0, 0] ∧ win1_2.index t = ![t.val, 0] :=
  (by decide +kernel : ∀ t : Fin grid1.N, _)

/-- The block stored at a point of launch 1, at an element. -/
theorem point1 (c : Dev nD) (t : Fin cfg1.N) (y) : k1_pay1 (F := Ideal) (iblk1 V c 0 t) (iblk1 V c 1 t) y
    = down (V c main_v0) (V c main_arg2) (((cfg1.win 2).blk t).view.emb y) := by
  pointwise [k1_pay1, down, relu2]
  blk_point [iblk1, idx1 t]

/-- Launch 1 leaves `down` of the arrays it reads. -/
theorem final1 (c : Dev nD) : (dat1 V c).arrAt 2 cfg1.N = down (V c main_v0) (V c main_arg2) := by
  refine (dat1 V c).arrAt_eq_of_covers 2 _ (by decide +kernel) fun t _ y => ?_
  blk_simp
  rw [after1_2]; frame_out
  exact point1 V c t y

/-- The block indices of launch 2, in closed form. -/
theorem idx2 : ∀ t : Fin cfg2.N, win2_0.index t = ![t.val / 4, 0] ∧ win2_1.index t = ![t.val % 4, 0] ∧ win2_2.index t = ![t.val / 4, t.val % 4] ∧ win2_3.index t = ![t.val / 4, t.val % 4] :=
  (by decide +kernel : ∀ t : Fin grid2.N, _)

/-- The block stored at a point of launch 2, at an element. -/
theorem point2 (c : Dev nD) (t : Fin cfg2.N) (y) : k2_pay1 (F := Ideal) (iblk2 V c 0 t) (iblk2 V c 1 t) (iblk2 V c 2 t) y
    = downDx (V c main_arg3) (V c main_arg2) (V c main_v0) (((cfg2.win 3).blk t).view.emb y) := by
  pointwise [k2_pay1, downDx]
  blk_point [iblk2, idx2 t]

/-- Launch 2 leaves `downDx` of the arrays it reads. -/
theorem final2 (c : Dev nD) : (dat2 V c).arrAt 3 cfg2.N = downDx (V c main_arg3) (V c main_arg2) (V c main_v0) := by
  refine (dat2 V c).arrAt_eq_of_covers 3 _ (by decide +kernel) fun t _ y => ?_
  blk_simp
  rw [after2_3]; frame_out
  exact point2 V c t y

/-- The block indices of launch 3, in closed form. -/
theorem idx3 : ∀ t : Fin cfg3.N, win3_0.index t = ![0, t.val] ∧ win3_1.index t = ![0, 0] ∧ win3_2.index t = ![t.val, 0] :=
  (by decide +kernel : ∀ t : Fin grid3.N, _)

/-- The block stored at a point of launch 3, at an element. -/
theorem point3 (c : Dev nD) (t : Fin cfg3.N) (y) : k3_pay1 (F := Ideal) (iblk3 V c 0 t) (iblk3 V c 1 t) y
    = downDw (V c main_v0) (V c main_arg3) (((cfg3.win 2).blk t).view.emb y) := by
  pointwise [k3_pay1, downDw, relu2]
  blk_point [iblk3, idx3 t]

/-- Launch 3 leaves `downDw` of the arrays it reads. -/
theorem final3 (c : Dev nD) : (dat3 V c).arrAt 2 cfg3.N = downDw (V c main_v0) (V c main_arg3) := by
  refine (dat3 V c).arrAt_eq_of_covers 2 _ (by decide +kernel) fun t _ y => ?_
  blk_simp
  rw [after3_2]; frame_out
  exact point3 V c t y

/-- The block indices of launch 4, in closed form. -/
theorem idx4 : ∀ t : Fin cfg4.N, win4_0.index t = ![0, 0] ∧ win4_1.index t = ![0, t.val] ∧ win4_2.index t = ![t.val, 0, 0] :=
  (by decide +kernel : ∀ t : Fin grid4.N, _)

/-- The block stored at a point of launch 4, at an element. -/
theorem point4 (c : Dev nD) (t : Fin cfg4.N) (y) : k4_pay1 (F := Ideal) (iblk4 V c 0 t) (iblk4 V c 1 t) y
    = upDw (V c main_arg0) (V c main_v2) (((cfg4.win 2).blk t).view.emb y) := by
  pointwise [k4_pay1, upDw]
  blk_point [iblk4, idx4 t]

/-- Launch 4 leaves `upDw` of the arrays it reads. -/
theorem final4 (c : Dev nD) : (dat4 V c).arrAt 2 cfg4.N = upDw (V c main_arg0) (V c main_v2) := by
  refine (dat4 V c).arrAt_eq_of_covers 2 _ (by decide +kernel) fun t _ y => ?_
  blk_simp
  rw [after4_2]; frame_out
  exact point4 V c t y

/-- The block indices of launch 5, in closed form. -/
theorem idx5 : ∀ t : Fin cfg5.N, win5_0.index t = ![t.val, 0] ∧ win5_1.index t = ![0, 0] ∧ win5_2.index t = ![t.val, 0] :=
  (by decide +kernel : ∀ t : Fin grid5.N, _)

/-- The block stored at a point of launch 5, at an element. -/
theorem point5 (c : Dev nD) (t : Fin cfg5.N) (y) : k5_pay1 (F := Ideal) (iblk5 V c 0 t) (iblk5 V c 1 t) y
    = upDx (V c main_v2) (V c main_arg1) (((cfg5.win 2).blk t).view.emb y) := by
  pointwise [k5_pay1, upDx]
  blk_point [iblk5, idx5 t]

/-- Launch 5 leaves `upDx` of the arrays it reads. -/
theorem final5 (c : Dev nD) : (dat5 V c).arrAt 2 cfg5.N = upDx (V c main_v2) (V c main_arg1) := by
  refine (dat5 V c).arrAt_eq_of_covers 2 _ (by decide +kernel) fun t _ y => ?_
  blk_simp
  rw [after5_2]; frame_out
  exact point5 V c t y

end Cert.Mlp

end
-- ==== Proof.Mlp.Results.lean ====
/-
  The final contents of the launches' result arrays as functions of the launch memory, and the run read at them.
-/
module

public import proofs.«01_k».proof.Proof.Mlp.Run
public import proofs.«01_k».proof.Proof.Mlp.Launches

@[expose] public section

set_option maxRecDepth 16384

noncomputable section

namespace Cert.Mlp

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The four arguments of device `c`. -/
abbrev argH : FVec Ideal S4096x1024 .bf16 := m ((c.tc : Thread nD τ).loc main_arg0)
abbrev argUp : FVec Ideal S1024x4096 .bf16 := m ((c.tc : Thread nD τ).loc main_arg1)
abbrev argDown : FVec Ideal S4096x1024 .bf16 := m ((c.tc : Thread nD τ).loc main_arg2)
abbrev argDy : FVec Ideal S4096x1024 .bf16 := m ((c.tc : Thread nD τ).loc main_arg3)

/-- The activation before the square, and its gradient. -/
abbrev act : FVec Ideal S4096x4096 .bf16 := up (argH m c) (argUp m c)
abbrev dact : FVec Ideal S4096x4096 .bf16 := downDx (argDy m c) (argDown m c) (act m c)

/-- The activation stands in its array from the first launch on. -/
theorem v0_1 : V1 m ρ c main_v0 = act m c := (W1_arr m ρ c 2).trans (final0 (V0 m ρ) c)
theorem v0_2 : V2 m ρ c main_v0 = act m c := (W2_of m ρ c main_v0 (by decide +kernel)).trans (v0_1 m ρ c)
theorem v0_3 : V3 m ρ c main_v0 = act m c := (W3_of m ρ c main_v0 (by decide +kernel)).trans (v0_2 m ρ c)

/-- Its gradient from the third launch on. -/
theorem v2_3 : V3 m ρ c main_v2 = dact m c := (W3_arr m ρ c 3).trans ((final2 (V2 m ρ) c).trans (by
  rw [v0_2, show V2 m ρ c main_arg3 = argDy m c from W2_args m ρ c main_arg3 (by decide),
    show V2 m ρ c main_arg2 = argDown m c from W2_args m ρ c main_arg2 (by decide)]))
theorem v2_4 : V4 m ρ c main_v2 = dact m c := (W4_of m ρ c main_v2 (by decide +kernel)).trans (v2_3 m ρ c)
theorem v2_5 : V5 m ρ c main_v2 = dact m c := (W5_of m ρ c main_v2 (by decide +kernel)).trans (v2_4 m ρ c)

/-- The output. -/
theorem out_y : V6 m ρ c main_v1 = down (act m c) (argDown m c) :=
  (W6_of m ρ c main_v1 (by decide +kernel)).trans <| (W5_of m ρ c main_v1 (by decide +kernel)).trans <|
  (W4_of m ρ c main_v1 (by decide +kernel)).trans <| (W3_of m ρ c main_v1 (by decide +kernel)).trans <|
  (W2_arr m ρ c 2).trans <| (final1 (V1 m ρ) c).trans (by
    rw [v0_1, show V1 m ρ c main_arg2 = argDown m c from W1_args m ρ c main_arg2 (by decide)])

/-- The gradient of `w_down`. -/
theorem out_dwdown : V6 m ρ c main_v3 = downDw (act m c) (argDy m c) :=
  (W6_of m ρ c main_v3 (by decide +kernel)).trans <| (W5_of m ρ c main_v3 (by decide +kernel)).trans <|
  (W4_arr m ρ c 2).trans <| (final3 (V3 m ρ) c).trans (by
    rw [v0_3, show V3 m ρ c main_arg3 = argDy m c from W3_args m ρ c main_arg3 (by decide)])

/-- The gradient of `w_up`. -/
theorem out_dwup : V6 m ρ c main_v4 = upDw (argH m c) (dact m c) :=
  (W6_of m ρ c main_v4 (by decide +kernel)).trans <|
  (W5_arr m ρ c 2).trans <| (final4 (V4 m ρ) c).trans (by
    rw [v2_4, show V4 m ρ c main_arg0 = argH m c from W4_args m ρ c main_arg0 (by decide)])

/-- The gradient of the input. -/
theorem out_dh : V6 m ρ c main_v5 = upDx (dact m c) (argUp m c) :=
  (W6_arr m ρ c 2).trans <| (final5 (V5 m ρ) c).trans (by
    rw [v2_5, show V5 m ρ c main_arg1 = argUp m c from W5_args m ρ c main_arg1 (by decide)])

/-- The run, read: the four results, the arguments unchanged. -/
theorem run : θ_run defs (onTc (τ := τ) (main (F := Ideal))) ⟨m, fun _ => 0, ρ⟩ (fun r => ∀ c : Dev nD,
      r.2.mem ((c.tc : Thread nD τ).loc main_v1) = down (act m c) (argDown m c)
      ∧ r.2.mem ((c.tc : Thread nD τ).loc main_v5) = upDx (dact m c) (argUp m c)
      ∧ r.2.mem ((c.tc : Thread nD τ).loc main_v4) = upDw (argH m c) (dact m c)
      ∧ r.2.mem ((c.tc : Thread nD τ).loc main_v3) = downDw (act m c) (argDy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c _ (mem_uc main_v1 (by decide))).trans (out_y m ρ c),
     (h.1 c _ (mem_uc main_v5 (by decide))).trans (out_dh m ρ c),
     (h.1 c _ (mem_uc main_v4 (by decide))).trans (out_dwup m ρ c),
     (h.1 c _ (mem_uc main_v3 (by decide))).trans (out_dwdown m ρ c),
     (h.1 c _ (mem_uc main_arg0 (by decide))).trans (W6_main_arg0 m ρ c),
     (h.1 c _ (mem_uc main_arg1 (by decide))).trans (W6_main_arg1 m ρ c),
     (h.1 c _ (mem_uc main_arg2 (by decide))).trans (W6_main_arg2 m ρ c),
     (h.1 c _ (mem_uc main_arg3 (by decide))).trans (W6_main_arg3 m ρ c)⟩) (run_bufs m ρ)

end Cert.Mlp

end
-- ==== Proof.Mlp.Reference.lean ====
/-
  The reference's four results, read index by index: they are the same products of whole arrays that the launches leave.
-/
module

public import proofs.«01_k».proof.Proof.Gen.ReferenceIdeal.Read
public import proofs.«01_k».proof.Proof.Mlp.Spec
public import Idealize.ShloMosaic.Lib.Pipeline.ValueKit

@[expose] public section

set_option maxRecDepth 16384

noncomputable section

namespace Cert.Mlp

open Idealize.ShloMosaic Cert.ReferenceIdeal Cert.ReferenceIdeal.Read

/-- The gate: what the positive part's derivative selects is the positive part as a factor. -/
theorem gate (a s two : EReal) : (if 0 < a then s * (two * max a 0) else 0) = s * (two * max a 0) := by
  split
  · rfl
  · rename_i h
    rw [max_eq_right (not_lt.mp h), mul_zero, mul_zero]

/-- The factor two of the two formats. -/
theorem two_eq : Ideal.ofBits .f32 0x40000000#32 = Ideal.ofBits .bf16 0x4000#16 := by
  have e₁ : Ideal.ofBits .f32 0x40000000#32 = ((2 : ℝ) : EReal) := by
    simp [Ideal.ofBits, Ideal.ieee, -EReal.coe_mul]; norm_num
  have e₂ : Ideal.ofBits .bf16 0x4000#16 = ((2 : ℝ) : EReal) := by
    simp [Ideal.ofBits, Ideal.ieee, -EReal.coe_mul]; norm_num
  rw [e₁, e₂]

variable (h : FVec Ideal S4096x1024 .bf16) (wu : FVec Ideal S1024x4096 .bf16) (wd dy : FVec Ideal S4096x1024 .bf16)

theorem ref_y : val_main_v26 (F := Ideal) h wu wd = down (up h wu) wd := by
  funext j; idx_vars j
  pointwise [val_main_v26, val_main_v12, val_main_v9, val_main_v5, val_main_v4, val_main_v3, val_main_v2, val_main_v1, val_main_v0,
    val_main_call0_v0, val_main_call0_cst, down, up, relu2]

theorem ref_dwdown : val_main_v29 (F := Ideal) h wu dy = downDw (up h wu) dy := by
  funext j; idx_vars j
  pointwise [val_main_v29, val_main_v16, val_main_v15, val_main_v14, val_main_v13, val_main_v9, val_main_v5, val_main_v4, val_main_v2, val_main_v1, val_main_v0,
    val_main_call0_v0, val_main_call0_cst, downDw, up, relu2]
  rw [Fin.sum_univ_one]
  exact Finset.sum_congr rfl fun x _ => mul_comm _ _

theorem ref_da (j) : val_main_v20 (F := Ideal) h wu wd dy j = downDx dy wd (up h wu) (ix2 (j 1) (j 2)) := by
  idx_vars j
  pointwise [val_main_v20, val_main_v19, val_main_v18, val_main_v17, val_main_v14, val_main_v13, val_main_v11, val_main_v10, val_main_v8, val_main_v7, val_main_v6, val_main_v5, val_main_v4, val_main_v3, val_main_v2, val_main_v1, val_main_v0,
    val_main_call0_v0, val_main_call0_cst, val_main_cst, val_main_cst_0, val_main_cst_1, val_main_cst_2, downDx, up, relu2]
  rw [gate, two_eq]

theorem ref_dh : val_main_v27 (F := Ideal) h wu wd dy = upDx (downDx dy wd (up h wu)) wu := by
  funext j; idx_vars j
  pointwise [val_main_v27, val_main_v23, val_main_v2, ref_da, upDx]

theorem ref_dwup : val_main_v28 (F := Ideal) h wu wd dy = upDw h (downDx dy wd (up h wu)) := by
  funext j; idx_vars j
  pointwise [val_main_v28, val_main_v25, val_main_v24, val_main_v22, val_main_v21, val_main_v1, val_main_v0, ref_da, upDw]
  rw [Fin.sum_univ_one]
  exact Finset.sum_congr rfl fun x _ => mul_comm _ _

end Cert.Mlp

end
-- ==== Proof.Mlp.Claims.lean ====
/-
  The claims about the feed-forward part's forward and backward pass.
-/
module

public import proofs.«01_k».proof.Defs
public import proofs.«01_k».proof.Proof.Gen.Kernel.Frame
public import proofs.«01_k».proof.Proof.Gen.ReferenceIdeal.Run
public import proofs.«01_k».proof.Proof.Mlp.Results
public import proofs.«01_k».proof.Proof.Mlp.Reference
public import Idealize.ShloMosaic.Lib.Quiescent

@[expose] public section

set_option maxRecDepth 16384

noncomputable section

namespace Cert.Mlp

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem preserves : Cert.preserves_Kernel_KernelIdeal := trivial

/-- Both programs end with the same products of the arguments. -/
theorem algebraic : Cert.algebraic_KernelIdeal_ReferenceIdeal := fun m ρ m' ρ' _ hag =>
  ⟨fun c => down (act m c) (argDown m c), fun c => upDx (dact m c) (argUp m c), fun c => upDw (argH m c) (dact m c),
    fun c => downDw (act m c) (argDy m c), run m ρ,
    (θ_run Cert.ReferenceIdeal.defs _ _).mono (fun _ h c => by
      obtain ⟨h0, h1, h2, h3, hargs⟩ := h c
      obtain ⟨a0, a1, a2, a3⟩ := hag c
      refine ⟨h0.trans ?_, h1.trans ?_, h2.trans ?_, h3.trans ?_, hargs⟩
      · rw [a0, a1, a2]
        exact (Cert.ReferenceIdeal.Read.val_main_v26_eq _ _ _).trans (ref_y _ _ _)
      · rw [a0, a1, a2, a3]
        exact (Cert.ReferenceIdeal.Read.val_main_v27_eq _ _ _ _).trans (ref_dh _ _ _ _)
      · rw [a0, a1, a2, a3]
        exact (Cert.ReferenceIdeal.Read.val_main_v28_eq _ _ _ _).trans (ref_dwup _ _ _ _)
      · rw [a0, a1, a3]
        exact (Cert.ReferenceIdeal.Read.val_main_v29_eq _ _ _).trans (ref_dwdown _ _ _))
      (Cert.ReferenceIdeal.Value.run (F := Ideal) m' ρ')⟩

end Cert.Mlp

end
-- ==== Proof.Proj.Run.lean ====
/-
  The run of the five launches and the host lines between them, with every unscoped buffer of the final state named: from
  any memory with zero counters every weakly fair execution ends with device `c`'s buffers at the contents the last launch
  leaves, and the counters at zero.
-/
module

public import proofs.«01_k».proof.Proof.Gen.Kernel2Ideal.Frame

@[expose] public section

-- membership in a rectangle of production extents (`View.cover_of_tiled`): the elaborator's structural look
-- recurses once per coordinate of the long axes
set_option maxRecDepth 16384

noncomputable section

namespace Cert.Proj

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, its last thread state read against the final state at every buffer. -/
theorem run_bufs : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.Proj

end
-- ==== Proof.Proj.Spec.lean ====
/-
  The products of the two projections, each as one function of whole arrays over the extended reals; the products over
  the laid-out columns are what the launches leave.
-/
module

public import proofs.«01_k».proof.Proof.Gen.Kernel2Ideal
public import Idealize.ShloMosaic.Lib.Pointwise

@[expose] public section

set_option maxRecDepth 16384

noncomputable section

namespace Cert.Proj

open Idealize.ShloMosaic Cert.Kernel2Ideal

/-- `proj = h · w_in`, in the laid-out columns. -/
def inWide (h : FVec Ideal S4096x1024 .bf16) (w : FVec Ideal S1024x3328 .bf16) : FVec Ideal S4096x3328 .f32 :=
  fun j => ∑ k : Fin 1024, h (ix2 (j 0) k) * w (ix2 k (j 1))

/-- `dh = dproj · w_inᵀ`, over the laid-out columns. -/
def inDxWide (d : FVec Ideal S4096x3328 .bf16) (w : FVec Ideal S1024x3328 .bf16) : FVec Ideal S4096x1024 .f32 :=
  fun j => ∑ k : Fin 3328, d (ix2 (j 0) k) * w (ix2 (j 1) k)

/-- `mix = mixed · w_out`. -/
def out (a : FVec Ideal S4096x1024 .bf16) (w : FVec Ideal S1024x1024 .bf16) : FVec Ideal S4096x1024 .f32 :=
  fun j => ∑ k : Fin 1024, a (ix2 (j 0) k) * w (ix2 k (j 1))

/-- `dmixed = dmix · w_outᵀ`. -/
def outDx (d : FVec Ideal S4096x1024 .bf16) (w : FVec Ideal S1024x1024 .bf16) : FVec Ideal S4096x1024 .f32 :=
  fun j => ∑ k : Fin 1024, d (ix2 (j 0) k) * w (ix2 (j 1) k)

/-- `dw_out = mixedᵀ · dmix`. -/
def outDw (a d : FVec Ideal S4096x1024 .bf16) : FVec Ideal S1024x1024 .bf16 :=
  fun j => ∑ k : Fin 4096, a (ix2 k (j 0)) * d (ix2 k (j 1))

/-- `proj = h · w_in`. -/
def inProj (h : FVec Ideal S4096x1024 .bf16) (w : FVec Ideal S1024x2980 .bf16) : FVec Ideal S4096x2980 .f32 :=
  fun j => ∑ k : Fin 1024, h (ix2 (j 0) k) * w (ix2 k (j 1))

/-- `dh = dproj · w_inᵀ`. -/
def inProjDx (d : FVec Ideal S4096x2980 .bf16) (w : FVec Ideal S1024x2980 .bf16) : FVec Ideal S4096x1024 .f32 :=
  fun j => ∑ k : Fin 2980, d (ix2 (j 0) k) * w (ix2 (j 1) k)

end Cert.Proj

end
-- ==== Proof.Proj.Launches.lean ====
/-
  What each of the five launches leaves in its result array, at any contents `V` of the buffers on entry: the blocks tile
  the array, and the block written at a point is that block of the whole product.
-/
module

public import proofs.«01_k».proof.Proof.Gen.Kernel2Ideal.Frame
public import proofs.«01_k».proof.Proof.Proj.Spec
public import Idealize.ShloMosaic.Lib.Pipeline.ValueKit

@[expose] public section

set_option maxRecDepth 16384

noncomputable section

namespace Cert.Proj

open Idealize.ShloMosaic Idealize.ShloMosaic.TcCoe Idealize.SL.Sem Cert.Kernel2Ideal Cert.Kernel2Ideal.Gen
open Idealize.ShloMosaic.Pipeline (Dat)

variable (V : (c : Dev nD) → (b : Ref sig .tc) → Buf (Elt Ideal) ((c : Thread nD τ).loc b))

/-- The block indices of launch 0, in closed form. -/
theorem idx0 : ∀ t : Fin cfg0.N, win0_0.index t = ![t.val, 0] ∧ win0_1.index t = ![0, 0] ∧ win0_2.index t = ![t.val, 0] :=
  (by decide +kernel : ∀ t : Fin grid0.N, _)

/-- The block stored at a point of launch 0, at an element. -/
theorem point0 (c : Dev nD) (t : Fin cfg0.N) (y) : k0_pay1 (F := Ideal) (iblk0 V c 0 t) (iblk0 V c 1 t) y
    = inWide (V c main_arg0) (V c main_v20) (((cfg0.win 2).blk t).view.emb y) := by
  pointwise [k0_pay1, inWide]
  blk_point [iblk0, idx0 t]

/-- Launch 0 leaves `inWide` of the arrays it reads. -/
theorem final0 (c : Dev nD) : (dat0 V c).arrAt 2 cfg0.N = inWide (V c main_arg0) (V c main_v20) := by
  refine (dat0 V c).arrAt_eq_of_covers 2 _ (by decide +kernel) fun t _ y => ?_
  blk_simp
  rw [after0_2]; frame_out
  exact point0 V c t y

/-- The block indices of launch 1, in closed form. -/
theorem idx1 : ∀ t : Fin cfg1.N, win1_0.index t = ![t.val, 0] ∧ win1_1.index t = ![0, 0] ∧ win1_2.index t = ![t.val, 0] :=
  (by decide +kernel : ∀ t : Fin grid1.N, _)

/-- The block stored at a point of launch 1, at an element. -/
theorem point1 (c : Dev nD) (t : Fin cfg1.N) (y) : k1_pay1 (F := Ideal) (iblk1 V c 0 t) (iblk1 V c 1 t) y
    = inDxWide (V c main_v57) (V c main_v20) (((cfg1.win 2).blk t).view.emb y) := by
  pointwise [k1_pay1, inDxWide]
  blk_point [iblk1, idx1 t]

/-- Launch 1 leaves `inDxWide` of the arrays it reads. -/
theorem final1 (c : Dev nD) : (dat1 V c).arrAt 2 cfg1.N = inDxWide (V c main_v57) (V c main_v20) := by
  refine (dat1 V c).arrAt_eq_of_covers 2 _ (by decide +kernel) fun t _ y => ?_
  blk_simp
  rw [after1_2]; frame_out
  exact point1 V c t y

/-- The block indices of launch 2, in closed form. -/
theorem idx2 : ∀ t : Fin cfg2.N, win2_0.index t = ![t.val, 0] ∧ win2_1.index t = ![0, 0] ∧ win2_2.index t = ![t.val, 0] :=
  (by decide +kernel : ∀ t : Fin grid2.N, _)

/-- The block stored at a point of launch 2, at an element. -/
theorem point2 (c : Dev nD) (t : Fin cfg2.N) (y) : k2_pay1 (F := Ideal) (iblk2 V c 0 t) (iblk2 V c 1 t) y
    = out (V c main_arg3) (V c main_arg4) (((cfg2.win 2).blk t).view.emb y) := by
  pointwise [k2_pay1, out]
  blk_point [iblk2, idx2 t]

/-- Launch 2 leaves `out` of the arrays it reads. -/
theorem final2 (c : Dev nD) : (dat2 V c).arrAt 2 cfg2.N = out (V c main_arg3) (V c main_arg4) := by
  refine (dat2 V c).arrAt_eq_of_covers 2 _ (by decide +kernel) fun t _ y => ?_
  blk_simp
  rw [after2_2]; frame_out
  exact point2 V c t y

/-- The block indices of launch 3, in closed form. -/
theorem idx3 : ∀ t : Fin cfg3.N, win3_0.index t = ![t.val, 0] ∧ win3_1.index t = ![0, 0] ∧ win3_2.index t = ![t.val, 0] :=
  (by decide +kernel : ∀ t : Fin grid3.N, _)

/-- The block stored at a point of launch 3, at an element. -/
theorem point3 (c : Dev nD) (t : Fin cfg3.N) (y) : k3_pay1 (F := Ideal) (iblk3 V c 0 t) (iblk3 V c 1 t) y
    = outDx (V c main_arg5) (V c main_arg4) (((cfg3.win 2).blk t).view.emb y) := by
  pointwise [k3_pay1, outDx]
  blk_point [iblk3, idx3 t]

/-- Launch 3 leaves `outDx` of the arrays it reads. -/
theorem final3 (c : Dev nD) : (dat3 V c).arrAt 2 cfg3.N = outDx (V c main_arg5) (V c main_arg4) := by
  refine (dat3 V c).arrAt_eq_of_covers 2 _ (by decide +kernel) fun t _ y => ?_
  blk_simp
  rw [after3_2]; frame_out
  exact point3 V c t y

/-- The block indices of launch 4, in closed form. -/
theorem idx4 : ∀ t : Fin cfg4.N, win4_0.index t = ![0, 0] ∧ win4_1.index t = ![0, 0] ∧ win4_2.index t = ![0, 0] :=
  (by decide +kernel : ∀ t : Fin grid4.N, _)

/-- The block stored at a point of launch 4, at an element. -/
theorem point4 (c : Dev nD) (t : Fin cfg4.N) (y) : k4_pay1 (F := Ideal) (iblk4 V c 0 t) (iblk4 V c 1 t) y
    = outDw (V c main_arg3) (V c main_arg5) (((cfg4.win 2).blk t).view.emb y) := by
  pointwise [k4_pay1, outDw]
  blk_point [iblk4, idx4 t]

/-- Launch 4 leaves `outDw` of the arrays it reads. -/
theorem final4 (c : Dev nD) : (dat4 V c).arrAt 2 cfg4.N = outDw (V c main_arg3) (V c main_arg5) := by
  refine (dat4 V c).arrAt_eq_of_covers 2 _ (by decide +kernel) fun t _ y => ?_
  blk_simp
  rw [after4_2]; frame_out
  exact point4 V c t y

end Cert.Proj

end
-- ==== Proof.Proj.Columns.lean ====
/-
  The input projection's columns as the kernel lays them out: where each of the 2980 natural columns stands among the
  3328 laid-out ones. The laid-out columns that hold none are zero.
-/
module

public import Idealize.ShloMosaic.Lib.Pointwise

@[expose] public section

namespace Cert.Proj

/-- The laid-out position of a natural column. -/
def pos (n : ℕ) : ℕ :=
  if n < 768 then n else if n < 772 then n + 2304 else if n < 1156 then n + 1788
  else if n < 1188 then n + 1852 else if n < 1956 then n - 420 else if n < 2212 then n + 348 else n - 676

theorem pos_lt {n : ℕ} (h : n < 2980) : pos n < 3328 := by
  unfold pos; split_ifs <;> omega

/-- The same between the index types. -/
def col (n : Fin 2980) : Fin 3328 := ⟨pos n.val, pos_lt n.isLt⟩

theorem col_injective : Function.Injective col := fun a b h => by
  have h : pos a.val = pos b.val := congrArg Fin.val h
  have ha := a.isLt; have hb := b.isLt
  apply Fin.ext
  have hs : ∀ n : ℕ, n < 2980 → (n < 768 ∧ pos n = n) ∨ (768 ≤ n ∧ n < 772 ∧ pos n = n + 2304)
      ∨ (772 ≤ n ∧ n < 1156 ∧ pos n = n + 1788) ∨ (1156 ≤ n ∧ n < 1188 ∧ pos n = n + 1852)
      ∨ (1188 ≤ n ∧ n < 1956 ∧ pos n = n - 420) ∨ (1956 ≤ n ∧ n < 2212 ∧ pos n = n + 348)
      ∨ (2212 ≤ n ∧ pos n = n - 676) := fun n hn => by
    unfold pos; split_ifs <;> omega
  have h1 := hs _ ha; have h2 := hs _ hb
  omega

/-- A laid-out position that is no natural column's is one of the three gaps. -/
theorem gap_of_not_range (p : Fin 3328) (h : p ∉ Set.range col) :
    (2944 ≤ p.val ∧ p.val < 3008) ∨ (3040 ≤ p.val ∧ p.val < 3072) ∨ 3076 ≤ p.val := by
  by_contra hc
  have hp := p.isLt
  have key : ∀ n : ℕ, n < 2980 → pos n ≠ p.val := fun n hn he => h ⟨⟨n, hn⟩, Fin.ext he⟩
  rcases lt_or_ge p.val 768 with h1 | h1
  · exact key p.val (by omega) (by unfold pos; rw [if_pos (by omega)])
  rcases lt_or_ge p.val 1536 with h2 | h2
  · exact key (p.val + 420) (by omega) (by
      unfold pos
      rw [if_neg (by omega), if_neg (by omega), if_neg (by omega), if_neg (by omega), if_pos (by omega)]; omega)
  rcases lt_or_ge p.val 2304 with h3 | h3
  · exact key (p.val + 676) (by omega) (by
      unfold pos
      rw [if_neg (by omega), if_neg (by omega), if_neg (by omega), if_neg (by omega), if_neg (by omega),
        if_neg (by omega)]; omega)
  rcases lt_or_ge p.val 2560 with h4 | h4
  · exact key (p.val - 348) (by omega) (by
      unfold pos
      rw [if_neg (by omega), if_neg (by omega), if_neg (by omega), if_neg (by omega), if_neg (by omega),
        if_pos (by omega)]; omega)
  rcases lt_or_ge p.val 2944 with h5 | h5
  · exact key (p.val - 1788) (by omega) (by
      unfold pos; rw [if_neg (by omega), if_neg (by omega), if_pos (by omega)]; omega)
  rcases lt_or_ge p.val 3040 with h6 | h6
  · exact key (p.val - 1852) (by omega) (by
      unfold pos; rw [if_neg (by omega), if_neg (by omega), if_neg (by omega), if_pos (by omega)]; omega)
  · exact key (p.val - 2304) (by omega) (by
      unfold pos; rw [if_neg (by omega), if_pos (by omega)]; omega)

/-- A sum over the laid-out columns of what vanishes in the gaps is the sum over the natural columns. -/
theorem sum_col {M : Type*} [AddCommMonoid M] (f : Fin 2980 → M) (g : Fin 3328 → M) (h : ∀ n, f n = g (col n))
    (h0 : ∀ p, p ∉ Set.range col → g p = 0) : ∑ p, g p = ∑ n, f n :=
  (Fintype.sum_of_injective col col_injective f g h0 h).symm

end Cert.Proj
-- ==== Proof.Proj.Lay.lean ====
/-
  Laying the projection's columns out and taking them back, as the host lines spell it, read at an element: the layout
  puts every natural column at its position and zero in the gaps; taking columns reads them back there.  Both join
  blocks of columns, over any number of rows.
-/
module

public import proofs.«01_k».proof.Proof.Proj.Columns
public import Idealize.ShloMosaic.Lib.Pipeline.ValueKit
public import Idealize.ShloMosaic.Lib.Pipeline.Value
public import Idealize.ShloMosaic.Lib.Routing.Shapes

@[expose] public section

set_option maxRecDepth 16384

noncomputable section

namespace Cert.Proj

open Idealize.ShloMosaic
open Idealize.ShloMosaic.Routing (shape2)

/-- Two indices of one row agree off the column axis. -/
theorem off_axis {a b b' : Nat} (r : Fin a) (x : Fin b) (y : Fin b') : ∀ q : Fin (shape2 a b).rank,
    q.cast rfl ≠ (1 : Fin (shape2 a b').rank) →
      ((ix2 r x : (shape2 a b).Idx) q).val = ((ix2 r y : (shape2 a b').Idx) (q.cast rfl)).val := by
  intro q hq
  match q with
  | ⟨0, _⟩ => rfl
  | ⟨1, _⟩ => exact absurd rfl hq

/-- `a` rows of `b` columns, and a block of columns with its width. -/
abbrev Rows (a b : Nat) : Type := (shape2 a b).Idx → EReal
abbrev Block (a : Nat) : Type := (w : Nat) × Rows a w

variable {a b : Nat}

/-- A block as the joining of blocks takes it. -/
def Block.piece (p : Block a) : (s : Shape) × (s.Idx → EReal) := ⟨shape2 a p.1, p.2⟩

/-- The widths of blocks, as their shapes have them. -/
theorem widths (ps : List (Block a)) :
    ((ps.map Block.piece).map (·.1)).map (fun s => if h : s.rank = (shape2 a b).rank then s.size ((1 : Fin 2).cast h.symm) else 0)
      = ps.map (·.1) := by
  rw [List.map_map, List.map_map]
  exact List.map_congr_left fun p _ => rfl

/-- Blocks whose widths sum to `b` make up `b` columns. -/
theorem fits (ps : List (Block a)) (ws : List Nat) (hw : ps.map (·.1) = ws) (h2 : 2 ≤ ws.length) (hb : ws.sum = b) :
    Shape.Concatenates ((ps.map Block.piece).map (·.1)) (shape2 a b) 1 := by
  subst hw
  refine ⟨by simpa using h2, fun s hs => ?_, (congrArg List.sum (widths ps)).trans hb⟩
  rw [List.map_map] at hs
  obtain ⟨p, _, rfl⟩ := List.mem_map.1 hs
  refine ⟨rfl, fun q hq => ?_⟩
  match q with
  | ⟨0, _⟩ => rfl
  | ⟨1, _⟩ => exact absurd rfl hq

/-- The blocks side by side, of widths `ws`. -/
def join (b : Nat) (ps : List (Block a)) (ws : List Nat) (hw : ps.map (·.1) = ws) (h2 : 2 ≤ ws.length) (hb : ws.sum = b) :
    Rows a b := concatenate (shape2 a b) 1 (ps.map Block.piece) (fits ps ws hw h2 hb)

/-- A column of block `k`, behind the `pre` columns before it. -/
theorem join_apply (ps : List (Block a)) (ws : List Nat) (hw : ps.map (·.1) = ws) (h2 : 2 ≤ ws.length) (hb : ws.sum = b)
    (k : Nat) (hk : k < ps.length)
    {w : Nat} (x : Rows a w) (hx : ps[k] = ⟨w, x⟩) (pre : Nat) (hpre : (ws.take k).sum = pre)
    (r : Fin a) (p : Fin b) (n : Fin w) (hp : pre + n.val = p.val) : join b ps ws hw h2 hb (ix2 r p) = x (ix2 r n) := by
  refine concatenate_apply_piece (1 : Fin (shape2 a b).rank) _ _ _ k (by simpa using hk) (shape2 a w) x ?_ rfl pre ?_
    (ix2 r n) (off_axis r _ _) hp
  · rw [List.getElem_map, hx]
    rfl
  · rw [← List.map_take]
    exact (congrArg List.sum (widths (ps.take k))).trans (by rw [List.map_take, hw, hpre])

theorem slices {s w : Nat} (h : s + w ≤ b) : (shape2 a b).Slices ![0, s] (shape2 a w) :=
  ⟨rfl, fun q => match q with
    | ⟨0, _⟩ => Nat.le_of_eq (Nat.zero_add a)
    | ⟨1, _⟩ => h⟩

/-- `w` columns of `x` from column `s` on, and `w` columns of zeros. -/
def cols (s w : Nat) (h : s + w ≤ b) (x : Rows a b) : Block a := ⟨w, extractStridedSlice (shape2 a w) ![0, s] x (slices h)⟩
def gap (w : Nat) : Block a := ⟨w, fun _ => Ideal.ofBits .bf16 0x0000#16⟩

theorem cols_apply {s w : Nat} (h : s + w ≤ b) (x : Rows a b) (r : Fin a) (n : Fin w) (q : Fin b) (hq : s + n.val = q.val) :
    (cols s w h x).2 (ix2 r n) = x (ix2 r q) := by
  refine congrArg x (funext fun i => Fin.ext ?_)
  match i with
  | ⟨0, _⟩ => exact Nat.zero_add _
  | ⟨1, _⟩ => exact hq

/-- A column of a block cut from `y`. -/
theorem join_cols {b' : Nat} (ps : List (Block a)) (ws : List Nat) (hw : ps.map (·.1) = ws) (h2 : 2 ≤ ws.length) (hb : ws.sum = b)
    (y : Rows a b')
    (k pre s w : Nat) (hk : k < ps.length) (h : s + w ≤ b') (hx : ps[k] = cols s w h y)
    (hpre : (ws.take k).sum = pre) (r : Fin a) (p : Fin b) (q : Fin b')
    (hp : pre ≤ p.val ∧ p.val < pre + w ∧ q.val + pre = p.val + s) : join b ps ws hw h2 hb (ix2 r p) = y (ix2 r q) :=
  (join_apply ps ws hw h2 hb k hk _ hx pre hpre r p ⟨p.val - pre, by omega⟩ (show pre + (p.val - pre) = p.val by omega)).trans
    (cols_apply h y r _ q (show s + (p.val - pre) = q.val by omega))

/-- A column of a block of zeros. -/
theorem join_gap (ps : List (Block a)) (ws : List Nat) (hw : ps.map (·.1) = ws) (h2 : 2 ≤ ws.length) (hb : ws.sum = b)
    (k pre w : Nat) (hk : k < ps.length)
    (hx : ps[k] = gap w) (hpre : (ws.take k).sum = pre) (r : Fin a) (p : Fin b)
    (hp : pre ≤ p.val ∧ p.val < pre + w) : join b ps ws hw h2 hb (ix2 r p) = 0 :=
  (join_apply ps ws hw h2 hb k hk _ hx pre hpre r p ⟨p.val - pre, by omega⟩ (show pre + (p.val - pre) = p.val by omega)).trans
    Ideal.ofBits_zero_bf16

/-- The blocks of the layout that hold columns of `x`. -/
def blocks (x : Rows a 2980) : List (Block a) := [cols 0 256 (by decide) x, cols 256 256 (by decide) x,
  cols 512 256 (by decide) x, cols 1188 256 (by decide) x, cols 1444 256 (by decide) x, cols 1700 256 (by decide) x,
  cols 2212 256 (by decide) x, cols 2468 256 (by decide) x, cols 2724 256 (by decide) x, cols 1956 256 (by decide) x,
  cols 772 256 (by decide) x, cols 1028 128 (by decide) x, gap 64, cols 1156 32 (by decide) x, gap 32,
  cols 768 4 (by decide) x]

def blockWidths : List Nat := [256, 256, 256, 256, 256, 256, 256, 256, 256, 256, 256, 128, 64, 32, 32, 4]

/-- They and the zero columns behind them. -/
def front (x : Rows a 2980) : Rows a 3076 := join 3076 (blocks x) blockWidths rfl (by decide) (by decide)
def back : Rows a 252 := join 252 [gap 124, gap 128] [124, 128] rfl (by decide) (by decide)

/-- The natural columns `x` in the kernel's layout. -/
def lay (x : Rows a 2980) : Rows a 3328 := join 3328 [⟨3076, front x⟩, ⟨252, back⟩] [3076, 252] rfl (by decide) (by decide)

theorem lay_front (x : Rows a 2980) (r : Fin a) (p : Fin 3328) (h : p.val < 3076) :
    lay x (ix2 r p) = front x (ix2 r ⟨p.val, h⟩) :=
  join_apply _ _ _ _ _ 0 (Nat.le_of_ble_eq_true rfl) (front x) rfl 0 rfl r p ⟨p.val, h⟩ (Nat.zero_add _)

theorem lay_back (x : Rows a 2980) (r : Fin a) (p : Fin 3328) (h : 3076 ≤ p.val) : lay x (ix2 r p) = 0 := by
  have hp := p.isLt
  refine (join_apply _ _ _ _ _ 1 (Nat.le_of_ble_eq_true rfl) back rfl 3076 (by decide) r p ⟨p.val - 3076, by omega⟩
    (show 3076 + (p.val - 3076) = p.val by omega)).trans ?_
  rcases lt_or_ge p.val 3200 with h' | h'
  · exact join_gap _ _ _ _ _ 0 0 124 (Nat.le_of_ble_eq_true rfl) rfl rfl r _
      (show 0 ≤ p.val - 3076 ∧ p.val - 3076 < 0 + 124 by omega)
  · exact join_gap _ _ _ _ _ 1 124 128 (Nat.le_of_ble_eq_true rfl) rfl (by decide) r _
      (show 124 ≤ p.val - 3076 ∧ p.val - 3076 < 124 + 128 by omega)

/-- Where the columns stand, interval by interval. -/
theorem pos_cases (n : Nat) (hn : n < 2980) : (n < 768 ∧ pos n = n) ∨ (768 ≤ n ∧ n < 772 ∧ pos n = n + 2304)
    ∨ (772 ≤ n ∧ n < 1156 ∧ pos n = n + 1788) ∨ (1156 ≤ n ∧ n < 1188 ∧ pos n = n + 1852)
    ∨ (1188 ≤ n ∧ n < 1956 ∧ pos n = n - 420) ∨ (1956 ≤ n ∧ n < 2212 ∧ pos n = n + 348) ∨ (2212 ≤ n ∧ pos n = n - 676) := by
  unfold pos
  split_ifs <;> omega

/-- The natural columns from `s` on stand in block `k`, from position `pre` on. -/
theorem lay_block (x : Rows a 2980) (r : Fin a) (n : Fin 2980) (k pre s w : Nat) (hk : k < (blocks x).length) (h : s + w ≤ 2980)
    (hx : (blocks x)[k] = cols s w h x) (hpre : (blockWidths.take k).sum = pre)
    (hn : s ≤ n.val ∧ n.val < s + w ∧ pos n.val + s = pre + n.val ∧ pos n.val < 3076) : lay x (ix2 r (col n)) = x (ix2 r n) :=
  (lay_front x r (col n) hn.2.2.2).trans (join_cols _ _ _ _ _ x k pre s w hk h hx hpre r ⟨pos n.val, hn.2.2.2⟩ n
    (show pre ≤ pos n.val ∧ pos n.val < pre + w ∧ n.val + pre = pos n.val + s by omega))

/-- A natural column stands at its position. -/
theorem lay_col (x : Rows a 2980) (r : Fin a) (n : Fin 2980) : lay x (ix2 r (col n)) = x (ix2 r n) := by
  have hp := pos_cases n.val n.isLt
  have step := lay_block x r n
  have hn := n.isLt
  rcases lt_or_ge n.val 256 with h | h
  · exact step 0 0 0 256 (Nat.le_of_ble_eq_true rfl) (by decide) rfl (by decide) (by omega)
  rcases lt_or_ge n.val 512 with h | h
  · exact step 1 256 256 256 (Nat.le_of_ble_eq_true rfl) (by decide) rfl (by decide) (by omega)
  rcases lt_or_ge n.val 768 with h | h
  · exact step 2 512 512 256 (Nat.le_of_ble_eq_true rfl) (by decide) rfl (by decide) (by omega)
  rcases lt_or_ge n.val 772 with h | h
  · exact step 15 3072 768 4 (Nat.le_of_ble_eq_true rfl) (by decide) rfl (by decide) (by omega)
  rcases lt_or_ge n.val 1028 with h | h
  · exact step 10 2560 772 256 (Nat.le_of_ble_eq_true rfl) (by decide) rfl (by decide) (by omega)
  rcases lt_or_ge n.val 1156 with h | h
  · exact step 11 2816 1028 128 (Nat.le_of_ble_eq_true rfl) (by decide) rfl (by decide) (by omega)
  rcases lt_or_ge n.val 1188 with h | h
  · exact step 13 3008 1156 32 (Nat.le_of_ble_eq_true rfl) (by decide) rfl (by decide) (by omega)
  rcases lt_or_ge n.val 1444 with h | h
  · exact step 3 768 1188 256 (Nat.le_of_ble_eq_true rfl) (by decide) rfl (by decide) (by omega)
  rcases lt_or_ge n.val 1700 with h | h
  · exact step 4 1024 1444 256 (Nat.le_of_ble_eq_true rfl) (by decide) rfl (by decide) (by omega)
  rcases lt_or_ge n.val 1956 with h | h
  · exact step 5 1280 1700 256 (Nat.le_of_ble_eq_true rfl) (by decide) rfl (by decide) (by omega)
  rcases lt_or_ge n.val 2212 with h | h
  · exact step 9 2304 1956 256 (Nat.le_of_ble_eq_true rfl) (by decide) rfl (by decide) (by omega)
  rcases lt_or_ge n.val 2468 with h | h
  · exact step 6 1536 2212 256 (Nat.le_of_ble_eq_true rfl) (by decide) rfl (by decide) (by omega)
  rcases lt_or_ge n.val 2724 with h | h
  · exact step 7 1792 2468 256 (Nat.le_of_ble_eq_true rfl) (by decide) rfl (by decide) (by omega)
  exact step 8 2048 2724 256 (Nat.le_of_ble_eq_true rfl) (by decide) rfl (by decide) (by omega)

/-- The gaps hold zero. -/
theorem lay_gap (x : Rows a 2980) (r : Fin a) (p : Fin 3328) (hp : p ∉ Set.range col) : lay x (ix2 r p) = 0 := by
  rcases gap_of_not_range p hp with h | h | h
  · exact (lay_front x r p (by omega)).trans (join_gap _ _ _ _ _ 12 2944 64 (Nat.le_of_ble_eq_true rfl) rfl (by decide) r _
      (show 2944 ≤ p.val ∧ p.val < 2944 + 64 by omega))
  · exact (lay_front x r p (by omega)).trans (join_gap _ _ _ _ _ 14 3040 32 (Nat.le_of_ble_eq_true rfl) rfl (by decide) r _
      (show 3040 ≤ p.val ∧ p.val < 3040 + 32 by omega))
  · exact lay_back x r p h

/-- The blocks the natural columns are taken from. -/
def naturals (y : Rows a 3328) : List (Block a) := [cols 0 256 (by decide) y, cols 256 256 (by decide) y,
  cols 512 256 (by decide) y, cols 3072 4 (by decide) y, cols 2560 256 (by decide) y, cols 2816 128 (by decide) y,
  cols 3008 32 (by decide) y, cols 768 256 (by decide) y, cols 1024 256 (by decide) y, cols 1280 256 (by decide) y,
  cols 2304 256 (by decide) y, cols 1536 256 (by decide) y, cols 1792 256 (by decide) y, cols 2048 256 (by decide) y]
def naturalWidths : List Nat := [256, 256, 256, 4, 256, 128, 32, 256, 256, 256, 256, 256, 256, 256]

/-- The natural columns of laid-out ones. -/
def nat (y : Rows a 3328) : Rows a 2980 := join 2980 (naturals y) naturalWidths rfl (by decide) (by decide)

/-- Each is read at its position. -/
theorem nat_apply (y : Rows a 3328) (r : Fin a) (n : Fin 2980) : nat y (ix2 r n) = y (ix2 r (col n)) := by
  have hp : _ ∨ _ := pos_cases n.val n.isLt
  rw [← show (col n).val = pos n.val from rfl] at hp
  have step := fun k pre s w hk h hx hpre =>
    join_cols (naturals y) naturalWidths rfl (by decide) (by decide) y k pre s w hk h hx hpre r n (col n)
  have hn := n.isLt
  rcases lt_or_ge n.val 256 with h | h
  · exact step 0 0 0 256 (Nat.le_of_ble_eq_true rfl) (by decide) rfl (by decide) (by omega)
  rcases lt_or_ge n.val 512 with h | h
  · exact step 1 256 256 256 (Nat.le_of_ble_eq_true rfl) (by decide) rfl (by decide) (by omega)
  rcases lt_or_ge n.val 768 with h | h
  · exact step 2 512 512 256 (Nat.le_of_ble_eq_true rfl) (by decide) rfl (by decide) (by omega)
  rcases lt_or_ge n.val 772 with h | h
  · exact step 3 768 3072 4 (Nat.le_of_ble_eq_true rfl) (by decide) rfl (by decide) (by omega)
  rcases lt_or_ge n.val 1028 with h | h
  · exact step 4 772 2560 256 (Nat.le_of_ble_eq_true rfl) (by decide) rfl (by decide) (by omega)
  rcases lt_or_ge n.val 1156 with h | h
  · exact step 5 1028 2816 128 (Nat.le_of_ble_eq_true rfl) (by decide) rfl (by decide) (by omega)
  rcases lt_or_ge n.val 1188 with h | h
  · exact step 6 1156 3008 32 (Nat.le_of_ble_eq_true rfl) (by decide) rfl (by decide) (by omega)
  rcases lt_or_ge n.val 1444 with h | h
  · exact step 7 1188 768 256 (Nat.le_of_ble_eq_true rfl) (by decide) rfl (by decide) (by omega)
  rcases lt_or_ge n.val 1700 with h | h
  · exact step 8 1444 1024 256 (Nat.le_of_ble_eq_true rfl) (by decide) rfl (by decide) (by omega)
  rcases lt_or_ge n.val 1956 with h | h
  · exact step 9 1700 1280 256 (Nat.le_of_ble_eq_true rfl) (by decide) rfl (by decide) (by omega)
  rcases lt_or_ge n.val 2212 with h | h
  · exact step 10 1956 2304 256 (Nat.le_of_ble_eq_true rfl) (by decide) rfl (by decide) (by omega)
  rcases lt_or_ge n.val 2468 with h | h
  · exact step 11 2212 1536 256 (Nat.le_of_ble_eq_true rfl) (by decide) rfl (by decide) (by omega)
  rcases lt_or_ge n.val 2724 with h | h
  · exact step 12 2468 1792 256 (Nat.le_of_ble_eq_true rfl) (by decide) rfl (by decide) (by omega)
  exact step 13 2724 2048 256 (Nat.le_of_ble_eq_true rfl) (by decide) rfl (by decide) (by omega)

end Cert.Proj

end
-- ==== Proof.Proj.Host.lean ====
/-
  The host lines between the launches: the columns of `w_in` and of `dproj` laid out, the columns of `proj` taken back.
-/
module

public import proofs.«01_k».proof.Proof.Gen.Kernel2Ideal.Frame
public import proofs.«01_k».proof.Proof.Proj.Lay
public import Idealize.ShloMosaic.Lib.StableHlo.RunRead

@[expose] public section

set_option maxRecDepth 16384

noncomputable section

namespace Cert.Proj

open Idealize.ShloMosaic Idealize.ShloMosaic.TcCoe Idealize.SL.Sem Cert.Kernel2Ideal Cert.Kernel2Ideal.Gen

variable (V : Valuation τ sig (Elt Ideal))

theorem host_w : StableHlo.after hostOps0 V (Proc.devRef .tc main_v20) = lay (V (Proc.devRef .tc main_arg1)) := by
  after_reads_simp
  rfl

theorem host_d : StableHlo.after hostOps1 V (Proc.devRef .tc main_v57) = lay (V (Proc.devRef .tc main_arg2)) := by
  after_reads_simp
  rfl

theorem host_proj : StableHlo.after hostOps1 V (Proc.devRef .tc main_v36) = nat (V (Proc.devRef .tc main_v21)) := by
  after_reads_simp
  rfl

end Cert.Proj

end
-- ==== Proof.Proj.Results.lean ====
/-
  The final contents of the projections' result arrays as functions of the launch memory, and the run read at them.
-/
module

public import proofs.«01_k».proof.Proof.Proj.Run
public import proofs.«01_k».proof.Proof.Proj.Launches
public import proofs.«01_k».proof.Proof.Proj.Host

@[expose] public section

set_option maxRecDepth 16384

noncomputable section

namespace Cert.Proj

open Idealize.ShloMosaic Idealize.ShloMosaic.TcCoe Idealize.SL.Sem Cert.Kernel2Ideal Cert.Kernel2Ideal.Gen

/-- Laid out, multiplied and taken back is multiplied. -/
theorem nat_inWide (h : FVec Ideal S4096x1024 .bf16) (w : FVec Ideal S1024x2980 .bf16) :
    nat (inWide h (lay w)) = inProj h w := by
  funext j
  rw [show j = ix2 (j 0) (j 1) from eq_ix2 j]
  exact (nat_apply _ (j 0) (j 1)).trans
    (Finset.sum_congr rfl fun k _ => congrArg (h (ix2 (j 0) k) * ·) (lay_col w k (j 1)))

/-- The gaps add nothing to the sum over the laid-out columns. -/
theorem inDxWide_lay (d : FVec Ideal S4096x2980 .bf16) (w : FVec Ideal S1024x2980 .bf16) :
    inDxWide (lay d) (lay w) = inProjDx d w := by
  funext j
  refine sum_col (fun n => d (ix2 (j 0) n) * w (ix2 (j 1) n)) _ (fun n => ?_) (fun p hp => ?_)
  · exact (congrArg₂ (· * ·) (lay_col d _ n) (lay_col w _ n)).symm
  · exact (congrArg (· * _) (lay_gap d _ p hp)).trans (zero_mul _)

variable (m : (ℓ : Loc nD τ sig) → Buf (Elt Ideal) ℓ) (ρ : Dev nD → PrngReg) (c : Dev nD)

/-- The six arguments of device `c`. -/
abbrev argH : FVec Ideal S4096x1024 .bf16 := m ((c.tc : Thread nD τ).loc main_arg0)
abbrev argWIn : FVec Ideal S1024x2980 .bf16 := m ((c.tc : Thread nD τ).loc main_arg1)
abbrev argDproj : FVec Ideal S4096x2980 .bf16 := m ((c.tc : Thread nD τ).loc main_arg2)
abbrev argMixed : FVec Ideal S4096x1024 .bf16 := m ((c.tc : Thread nD τ).loc main_arg3)
abbrev argWOut : FVec Ideal S1024x1024 .bf16 := m ((c.tc : Thread nD τ).loc main_arg4)
abbrev argDmix : FVec Ideal S4096x1024 .bf16 := m ((c.tc : Thread nD τ).loc main_arg5)

/-- `w_in` laid out stands in its array up to the second launch. -/
theorem v20_1 : V1 m ρ c main_v20 = lay (argWIn m c) := host_w (W0 m ρ c)
theorem v20_3 : V3 m ρ c main_v20 = lay (argWIn m c) :=
  (W3_of m ρ c main_v20 (by decide +kernel)).trans ((W2_of m ρ c main_v20 (by decide +kernel)).trans (v20_1 m ρ c))

/-- `dproj` laid out before the second launch. -/
theorem v57_3 : V3 m ρ c main_v57 = lay (argDproj m c) :=
  (host_d (W2 m ρ c)).trans (congrArg lay (W2_args m ρ c main_arg2 (by decide)))

/-- The projection's laid-out columns. -/
theorem v21_2 : V2 m ρ c main_v21 = inWide (argH m c) (lay (argWIn m c)) :=
  (W2_arr m ρ c 2).trans ((final0 (V1 m ρ) c).trans (by
    rw [v20_1, show V1 m ρ c main_arg0 = argH m c from W1_args m ρ c main_arg0 (by decide)]))

/-- The projection. -/
theorem out_proj : V7 m ρ c main_v36 = inProj (argH m c) (argWIn m c) :=
  (W7_of m ρ c main_v36 (by decide +kernel)).trans <| (W6_of m ρ c main_v36 (by decide +kernel)).trans <|
  (W5_of m ρ c main_v36 (by decide +kernel)).trans <| (W4_of m ρ c main_v36 (by decide +kernel)).trans <|
  (host_proj (W2 m ρ c)).trans <| (congrArg nat (v21_2 m ρ c)).trans (nat_inWide _ _)

/-- Its gradient with respect to the input. -/
theorem out_dh : V7 m ρ c main_v58 = inProjDx (argDproj m c) (argWIn m c) :=
  (W7_of m ρ c main_v58 (by decide +kernel)).trans <| (W6_of m ρ c main_v58 (by decide +kernel)).trans <|
  (W5_of m ρ c main_v58 (by decide +kernel)).trans <| (W4_arr m ρ c 2).trans <| (final1 (V3 m ρ) c).trans (by
    rw [v57_3, v20_3]; exact inDxWide_lay _ _)

/-- The output projection. -/
theorem out_mix : V7 m ρ c main_v59 = out (argMixed m c) (argWOut m c) :=
  (W7_of m ρ c main_v59 (by decide +kernel)).trans <| (W6_of m ρ c main_v59 (by decide +kernel)).trans <|
  (W5_arr m ρ c 2).trans <| (final2 (V4 m ρ) c).trans (by
    rw [show V4 m ρ c main_arg3 = argMixed m c from W4_args m ρ c main_arg3 (by decide),
      show V4 m ρ c main_arg4 = argWOut m c from W4_args m ρ c main_arg4 (by decide)])

/-- Its gradient with respect to the input. -/
theorem out_dmixed : V7 m ρ c main_v60 = outDx (argDmix m c) (argWOut m c) :=
  (W7_of m ρ c main_v60 (by decide +kernel)).trans <| (W6_arr m ρ c 2).trans <| (final3 (V5 m ρ) c).trans (by
    rw [show V5 m ρ c main_arg5 = argDmix m c from W5_args m ρ c main_arg5 (by decide),
      show V5 m ρ c main_arg4 = argWOut m c from W5_args m ρ c main_arg4 (by decide)])

/-- Its gradient with respect to the weight. -/
theorem out_dwout : V7 m ρ c main_v61 = outDw (argMixed m c) (argDmix m c) :=
  (W7_arr m ρ c 2).trans <| (final4 (V6 m ρ) c).trans (by
    rw [show V6 m ρ c main_arg3 = argMixed m c from W6_args m ρ c main_arg3 (by decide),
      show V6 m ρ c main_arg5 = argDmix m c from W6_args m ρ c main_arg5 (by decide)])

/-- The run, read: the five results, the arguments unchanged. -/
theorem run : θ_run defs (onTc (τ := τ) (main (F := Ideal))) ⟨m, fun _ => 0, ρ⟩ (fun r => ∀ c : Dev nD,
      r.2.mem ((c.tc : Thread nD τ).loc main_v36) = inProj (argH m c) (argWIn m c)
      ∧ r.2.mem ((c.tc : Thread nD τ).loc main_v58) = inProjDx (argDproj m c) (argWIn m c)
      ∧ r.2.mem ((c.tc : Thread nD τ).loc main_v59) = out (argMixed m c) (argWOut m c)
      ∧ r.2.mem ((c.tc : Thread nD τ).loc main_v60) = outDx (argDmix m c) (argWOut m c)
      ∧ r.2.mem ((c.tc : Thread nD τ).loc main_v61) = outDw (argMixed m c) (argDmix m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c _ (mem_uc main_v36 (by decide))).trans (out_proj m ρ c),
     (h.1 c _ (mem_uc main_v58 (by decide))).trans (out_dh m ρ c),
     (h.1 c _ (mem_uc main_v59 (by decide))).trans (out_mix m ρ c),
     (h.1 c _ (mem_uc main_v60 (by decide))).trans (out_dmixed m ρ c),
     (h.1 c _ (mem_uc main_v61 (by decide))).trans (out_dwout m ρ c),
     (h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c),
     (h.1 c _ (mem_uc main_arg5 (by decide))).trans (W7_main_arg5 m ρ c)⟩) (run_bufs m ρ)

end Cert.Proj

end
-- ==== Proof.Proj.Reference.lean ====
/-
  The reference's five results, read index by index.
-/
module

public import proofs.«01_k».proof.Proof.Gen.Reference2Ideal.Read
public import proofs.«01_k».proof.Proof.Proj.Spec
public import Idealize.ShloMosaic.Lib.Pipeline.ValueKit

@[expose] public section

set_option maxRecDepth 16384

noncomputable section

namespace Cert.Proj

open Idealize.ShloMosaic Cert.Reference2Ideal Cert.Reference2Ideal.Read

theorem ref_proj (h : FVec Ideal S4096x1024 .bf16) (w : FVec Ideal S1024x2980 .bf16) :
    val_main_v18 (F := Ideal) h w = inProj h w := by
  funext j; idx_vars j
  pointwise [val_main_v18, val_main_v3, val_main_v2, val_main_v1, val_main_v0, inProj]

theorem ref_dh (w : FVec Ideal S1024x2980 .bf16) (d : FVec Ideal S4096x2980 .bf16) :
    val_main_v19 (F := Ideal) w d = inProjDx d w := by
  funext j; idx_vars j
  pointwise [val_main_v19, val_main_v8, val_main_v5, val_main_v4, val_main_v2, inProjDx]

theorem ref_mix (a : FVec Ideal S4096x1024 .bf16) (w : FVec Ideal S1024x1024 .bf16) :
    val_main_v20 (F := Ideal) a w = out a w := by
  funext j; idx_vars j
  pointwise [val_main_v20, val_main_v12, val_main_v11, val_main_v10, val_main_v9, out]

theorem ref_dmixed (w : FVec Ideal S1024x1024 .bf16) (d : FVec Ideal S4096x1024 .bf16) :
    val_main_v21 (F := Ideal) w d = outDx d w := by
  funext j; idx_vars j
  pointwise [val_main_v21, val_main_v17, val_main_v14, val_main_v13, val_main_v11, outDx]

theorem ref_dwout (a d : FVec Ideal S4096x1024 .bf16) :
    val_main_v22 (F := Ideal) a d = outDw a d := by
  funext j; idx_vars j
  pointwise [val_main_v22, val_main_v16, val_main_v15, val_main_v14, val_main_v13, val_main_v10, val_main_v9, outDw]
  rw [Fin.sum_univ_one]
  exact Finset.sum_congr rfl fun x _ => mul_comm _ _

end Cert.Proj

end
-- ==== Proof.Proj.Claims.lean ====
/-
  The claims about the two projections.
-/
module

public import proofs.«01_k».proof.Defs
public import proofs.«01_k».proof.Proof.Gen.Kernel2.Frame
public import proofs.«01_k».proof.Proof.Gen.Reference2Ideal.Run
public import proofs.«01_k».proof.Proof.Proj.Results
public import proofs.«01_k».proof.Proof.Proj.Reference
public import Idealize.ShloMosaic.Lib.Quiescent

@[expose] public section

set_option maxRecDepth 16384

noncomputable section

namespace Cert.Proj

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2.2.2.2,
      Idealize.ShloMosaic.sem_eq_zero_of_no_sems (by decide) r.2⟩)
    (Cert.Reference2Ideal.Value.run (F := Ideal) m ρ)

theorem preserves : Cert.preserves_Kernel2_Kernel2Ideal := trivial

/-- Both programs end with the same products of the arguments. -/
theorem algebraic : Cert.algebraic_Kernel2Ideal_Reference2Ideal := fun m ρ m' ρ' _ hag =>
  ⟨fun c => inProj (argH m c) (argWIn m c), fun c => inProjDx (argDproj m c) (argWIn m c),
    fun c => out (argMixed m c) (argWOut m c), fun c => outDx (argDmix m c) (argWOut m c),
    fun c => outDw (argMixed m c) (argDmix m c), run m ρ,
    (θ_run Cert.Reference2Ideal.defs _ _).mono (fun _ h c => by
      obtain ⟨h0, h1, h2, h3, h4, hargs⟩ := h c
      obtain ⟨a0, a1, a2, a3, a4, a5⟩ := hag c
      refine ⟨h0.trans ?_, h1.trans ?_, h2.trans ?_, h3.trans ?_, h4.trans ?_, hargs⟩
      · rw [a0, a1]
        exact (Cert.Reference2Ideal.Read.val_main_v18_eq _ _).trans (ref_proj _ _)
      · rw [a1, a2]
        exact (Cert.Reference2Ideal.Read.val_main_v19_eq _ _).trans (ref_dh _ _)
      · rw [a3, a4]
        exact (Cert.Reference2Ideal.Read.val_main_v20_eq _ _).trans (ref_mix _ _)
      · rw [a4, a5]
        exact (Cert.Reference2Ideal.Read.val_main_v21_eq _ _).trans (ref_dmixed _ _)
      · rw [a3, a5]
        exact (Cert.Reference2Ideal.Read.val_main_v22_eq _ _).trans (ref_dwout _ _))
      (Cert.Reference2Ideal.Value.run (F := Ideal) m' ρ')⟩

end Cert.Proj

end
-- ==== Proof.Dw.Spec.lean ====
/-
  The gradient of the input projection with respect to its weight, as one function of whole arrays.
-/
module

public import proofs.«01_k».proof.Proof.Gen.Kernel3Ideal
public import Idealize.ShloMosaic.Lib.Pointwise

@[expose] public section

set_option maxRecDepth 16384

noncomputable section

namespace Cert.Dw

open Idealize.ShloMosaic Cert.Kernel3Ideal

/-- `dw_in = hᵀ · dproj`. -/
def inDw (h : FVec Ideal S4096x1024 .bf16) (d : FVec Ideal S4096x2980 .bf16) : FVec Ideal S1024x2980 .bf16 :=
  fun j => ∑ k : Fin 4096, h (ix2 k (j 0)) * d (ix2 k (j 1))

/-- `dw = hᵀ · d`, over the laid-out columns. -/
def inDwWide (h : FVec Ideal S4096x1024 .bf16) (d : FVec Ideal S4096x3328 .bf16) : FVec Ideal S1024x3328 .bf16 :=
  fun j => ∑ k : Fin 4096, h (ix2 k (j 0)) * d (ix2 k (j 1))

/-- Its sum over the rows in two halves. -/
theorem inDwWide_split (h : FVec Ideal S4096x1024 .bf16) (d : FVec Ideal S4096x3328 .bf16) (j) :
    inDwWide h d j = ((∑ k : Fin 2048, h (ix2 ⟨k.val, by omega⟩ (j 0)) * d (ix2 ⟨k.val, by omega⟩ (j 1)) : EReal)
      + ∑ k : Fin 2048, h (ix2 ⟨2048 + k.val, by omega⟩ (j 0)) * d (ix2 ⟨2048 + k.val, by omega⟩ (j 1)) : EReal) :=
  Fin.sum_univ_add fun k : Fin (2048 + 2048) => (h (ix2 k (j 0)) * d (ix2 k (j 1)) : EReal)

end Cert.Dw

end
-- ==== Proof.Dw.Launch.lean ====
/-
  What the launch leaves in its result array: two halves of the rows, the first kept in the scratch between the points.
-/
module

public import proofs.«01_k».proof.Proof.Gen.Kernel3Ideal.Frame
public import proofs.«01_k».proof.Proof.Dw.Spec
public import Idealize.ShloMosaic.Lib.Pipeline.ValueKit

@[expose] public section

set_option maxRecDepth 16384

noncomputable section

namespace Cert.Dw

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The first half of the rows is kept between the points. -/
theorem first (t : Fin cfg0.N) (h : t.val % 2 = 0) :
    (outsAt0 m c t.val t.isLt).2 = k0_pay2 (iblk m c 0 t) (iblk m c 1 t) := by
  rw [outsAt0_A m c t h (by omega) (by omega)]
  dsimp only
  unfold sout0_A_0
  frame_out

/-- The second half is added to it and stored. -/
theorem second (t : Fin cfg0.N) (h : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_B m c t (by omega) h h]
  dsimp only
  unfold out0_B_2
  frame_out
  exact congrArg (fun v => k0_pay4 (k0_pay3 (iblk m c 0 t) (iblk m c 1 t) v)) (Memref.IsWhole.read_unread _ _)

/-- The block indices in closed form. -/
theorem idx (t : Fin cfg0.N) : win0_0.index t = ![t.val % 2, 0] ∧ win0_1.index t = ![t.val % 2, t.val / 2] ∧ win0_2.index t = ![0, t.val / 2] :=
  (by decide +kernel : ∀ t : Fin grid0.N, win0_0.index t = ![t.val % 2, 0] ∧ win0_1.index t = ![t.val % 2, t.val / 2] ∧ win0_2.index t = ![0, t.val / 2]) t

/-- The block stored at a point, at an element. -/
theorem point (t t' : Fin cfg0.N) (h : t.val % 2 = 1) (h' : t'.val = t.val - 1) (y) :
    k0_pay4 (F := Ideal) (k0_pay3 (iblk m c 0 t) (iblk m c 1 t) (k0_pay2 (iblk m c 0 t') (iblk m c 1 t'))) y
      = inDwWide (V m c main_arg0) (V m c main_v20) (((cfg0.win 2).blk t).view.emb y) := by
  rw [inDwWide_split]
  pointwise [k0_pay1, k0_pay2, k0_pay3, k0_pay4]
  have e0 : t'.val % 2 = 0 := by omega
  have e1 : t'.val / 2 = t.val / 2 := by omega
  have i := idx t
  have i' := idx t'
  rw [h] at i
  rw [e0, e1] at i'
  blk_point [iblk, i, i']

/-- The launch leaves the product over the laid-out columns. -/
theorem final : (dats m 0 c).arrAt 2 cfg0.N = inDwWide (V m c main_arg0) (V m c main_v20) := by
  refine (dats m 0 c).arrAt_eq_of_covers 2 _ (by decide +kernel) fun t hf y => ?_
  have hodd : t.val % 2 = 1 := (by decide +kernel : ∀ t : Fin grid0.N, (cfg0.win 2).flush t = true → t.val % 2 = 1) t hf
  blk_simp
  rw [after0_2, second m c t hodd, first m c ⟨t.val - 1, Nat.lt_of_le_of_lt (Nat.sub_le _ _) t.isLt⟩ (by dsimp only; omega)]
  exact point m c t ⟨t.val - 1, _⟩ hodd rfl y

end Cert.Dw

end
-- ==== Proof.Dw.Results.lean ====
/-
  The host lines around the launch, and the run read at its result.
-/
module

public import proofs.«01_k».proof.Proof.Dw.Launch
public import proofs.«01_k».proof.Proof.Proj.Lay
public import Idealize.ShloMosaic.Lib.StableHlo.RunRead

@[expose] public section

set_option maxRecDepth 16384

noncomputable section

namespace Cert.Dw

open Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg) (c : Dev nD)

/-- The two arguments of device `c`. -/
abbrev argH : FVec Ideal S4096x1024 .bf16 := m ((c.tc : Thread nD τ).loc main_arg0)
abbrev argDproj : FVec Ideal S4096x2980 .bf16 := m ((c.tc : Thread nD τ).loc main_arg1)

/-- The lines before the launch lay the columns of `dproj` out. -/
theorem host_d (W : Valuation τ sig (Elt Ideal)) :
    StableHlo.after hostOps0 W (Proc.devRef .tc main_v20) = Cert.Proj.lay (W (Proc.devRef .tc main_arg1)) := by
  after_reads_simp
  rfl

/-- The lines after it take the natural columns back. -/
theorem host_dw (W : Valuation τ sig (Elt Ideal)) :
    StableHlo.after hostOps1 W (Proc.devRef .tc main_v36) = Cert.Proj.nat (W (Proc.devRef .tc main_v21)) := by
  after_reads_simp
  rfl

/-- Laid out, multiplied and taken back is multiplied. -/
theorem nat_inDwWide (h : FVec Ideal S4096x1024 .bf16) (d : FVec Ideal S4096x2980 .bf16) :
    Cert.Proj.nat (inDwWide h (Cert.Proj.lay d)) = inDw h d := by
  funext j
  rw [show j = ix2 (j 0) (j 1) from eq_ix2 j]
  exact (Cert.Proj.nat_apply _ (j 0) (j 1)).trans
    (Finset.sum_congr rfl fun k _ => congrArg (h (ix2 k (j 0)) * ·) (Cert.Proj.lay_col d k (j 1)))

theorem v20 : V m c main_v20 = Cert.Proj.lay (argDproj m c) := host_d (fun b => m (c, b))

/-- The result array after the last line. -/
theorem out_dw : Pipeline.afterTail₀ cfgs (dats m) 0 (V0 m) [hostOps1] c main_v36 = inDw (argH m c) (argDproj m c) := by
  unfold Pipeline.afterTail₀
  refine (host_dw _).trans ?_
  rw [show Pipeline.withArrays (cfgs 0).spec c (V0 m c) (fun w => (dats m 0 c).arrAt w (cfgs 0).N) (Proc.devRef .tc main_v21)
      = (dats m 0 c).arrAt 2 cfg0.N from Pipeline.withArrays_arr spec0 launch0.win.arr_inj c _ _ 2]
  rw [final, v20, V_main_arg0]
  exact nat_inDwWide _ _

/-- The run, read: the result, the arguments unchanged. -/
theorem run : θ_run defs (onTc (τ := τ) (main (F := Ideal))) ⟨m, fun _ => 0, ρ⟩ (fun r => ∀ c : Dev nD,
      r.2.mem ((c.tc : Thread nD τ).loc main_v36) = inDw (argH m c) (argDproj m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v36 (Pipeline.mem_restRefs_of main_v36 (by decide) (by decide))).trans (out_dw m c), h.2 c⟩)
    (θ_run_and (run_main m ρ) (unchanged m ρ))

end Cert.Dw

end
-- ==== Proof.Dw.Reference.lean ====
/-
  The reference's result, read index by index.
-/
module

public import proofs.«01_k».proof.Proof.Gen.Reference3Ideal.Read
public import proofs.«01_k».proof.Proof.Dw.Spec
public import Idealize.ShloMosaic.Lib.Pipeline.ValueKit

@[expose] public section

set_option maxRecDepth 16384

noncomputable section

namespace Cert.Dw

open Idealize.ShloMosaic Cert.Reference3Ideal Cert.Reference3Ideal.Read

theorem ref_dw (h : FVec Ideal S4096x1024 .bf16) (d : FVec Ideal S4096x2980 .bf16) :
    val_main_v8 (F := Ideal) h d = inDw h d := by
  funext j; idx_vars j
  pointwise [val_main_v8, val_main_v7, val_main_v6, val_main_v5, val_main_v4, val_main_v2, val_main_v1, inDw]
  rw [Fin.sum_univ_one]
  exact Finset.sum_congr rfl fun x _ => mul_comm _ _

end Cert.Dw

end
-- ==== Proof.Dw.Claims.lean ====
/-
  The claims about the gradient of the input projection's weight.
-/
module

public import proofs.«01_k».proof.Defs
public import proofs.«01_k».proof.Proof.Gen.Kernel3.Frame
public import proofs.«01_k».proof.Proof.Gen.Reference3Ideal.Run
public import proofs.«01_k».proof.Proof.Dw.Results
public import proofs.«01_k».proof.Proof.Dw.Reference
public import Idealize.ShloMosaic.Lib.Quiescent

@[expose] public section

set_option maxRecDepth 16384

noncomputable section

namespace Cert.Dw

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

/-- Both programs end with the same product of the arguments. -/
theorem algebraic : Cert.algebraic_Kernel3Ideal_Reference3Ideal := fun m ρ m' ρ' _ hag =>
  ⟨fun c => inDw (argH m c) (argDproj m c), run m ρ,
    (θ_run Cert.Reference3Ideal.defs _ _).mono (fun _ h c => by
      obtain ⟨h0, hargs⟩ := h c
      obtain ⟨a0, a1⟩ := hag c
      refine ⟨h0.trans ?_, hargs⟩
      rw [a0, a1]
      exact (Cert.Reference3Ideal.Read.val_main_v8_eq _ _).trans (ref_dw _ _))
      (Cert.Reference3Ideal.Value.run (F := Ideal) m' ρ')⟩

end Cert.Dw

end
-- ==== Proof.Mla.Frames.lean ====
/-
  The frame claims about the gradient of the latent attention.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

set_option maxRecDepth 16384

noncomputable section

namespace Cert.Mla

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem preserves : Cert.preserves_Kernel4_Kernel4Ideal := trivial

end Cert.Mla

end
-- ==== Proof.Mla.Core.lean ====
module

public import Idealize.ShloMosaic.Lib.Pointwise

/-!
# Attention backward: the softmax of one query, in real numbers

A query's scores are real numbers; the keys it does not see count as `⊥`. If it sees one key at all, its greatest score
is a real number, and so is everything computed from there on.
-/

@[expose] public section
set_option relaxedAutoImplicit false

noncomputable section

namespace Cert.Mla

open Idealize.ShloMosaic

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of products of real numbers. -/
theorem sum_mul_coe {ι : Type} [Fintype ι] (f g : ι → ℝ) :
    (∑ i, (f i : EReal) * (g i : EReal)) = ((∑ i, f i * g i : ℝ) : EReal) := by
  rw [coe_sum]
  exact Finset.sum_congr rfl fun i _ => (EReal.coe_mul _ _).symm

section

variable {n : ℕ} (s : Fin n → ℝ) (seen : Fin n → Prop) [DecidablePred seen]

/-- The score, `⊥` of a key that is not seen. -/
def masked (r : Fin n) : EReal := if seen r then (s r : EReal) else ⊥

/-- The greatest score of a seen key. -/
def peak : ℝ := (Finset.univ.fold max ⊥ (masked s seen)).toReal

/-- The exponential of a score over the greatest. -/
def expo (r : Fin n) : ℝ := if seen r then Real.exp (s r - peak s seen) else 0

/-- The sum of the exponentials. -/
def mass : ℝ := ∑ r, expo s seen r

/-- The attention weight. -/
def prob (r : Fin n) : ℝ := expo s seen r / mass s seen

theorem masked_lt (r : Fin n) : masked s seen r < ⊤ := by
  unfold masked
  split
  · exact EReal.coe_lt_top _
  · exact bot_lt_top

variable {seen} in
theorem peak_eq (h : ∃ r, seen r) : Finset.univ.fold max ⊥ (masked s seen) = (peak s seen : EReal) := by
  obtain ⟨r, hr⟩ := h
  refine (EReal.coe_toReal (ne_of_lt ?_) (ne_of_gt ?_)).symm
  · exact (Finset.fold_max_lt _).mpr ⟨bot_lt_top, fun r _ => masked_lt s seen r⟩
  · refine (Finset.lt_fold_max _).mpr (Or.inr ⟨r, Finset.mem_univ r, ?_⟩)
    unfold masked
    rw [if_pos hr]
    exact EReal.bot_lt_coe _

theorem exp_masked (r : Fin n) : Ideal.exp (masked s seen r - (peak s seen : EReal)) = (expo s seen r : EReal) := by
  unfold masked expo
  split
  · rw [← EReal.coe_sub, Ideal.exp_coe]
  · rw [EReal.bot_sub, Ideal.exp_bot, EReal.coe_zero]

theorem expo_nonneg (r : Fin n) : 0 ≤ expo s seen r := by
  unfold expo
  split
  · exact (Real.exp_pos _).le
  · exact le_rfl

variable {seen} in
theorem mass_pos (h : ∃ r, seen r) : 0 < mass s seen := by
  obtain ⟨r, hr⟩ := h
  refine Finset.sum_pos' (fun r _ => expo_nonneg s seen r) ⟨r, Finset.mem_univ r, ?_⟩
  unfold expo
  rw [if_pos hr]
  exact Real.exp_pos _

theorem sum_exp_masked : (∑ r, Ideal.exp (masked s seen r - (peak s seen : EReal))) = (mass s seen : EReal) := by
  unfold mass
  rw [coe_sum]
  exact Finset.sum_congr rfl fun r _ => exp_masked s seen r

variable {seen} in
/-- The exponential over the sum of the exponentials. -/
theorem div_mass (h : ∃ r, seen r) (x : ℝ) : Ideal.div (x : EReal) (mass s seen : EReal) = ((x / mass s seen : ℝ) : EReal) := by
  rw [Ideal.div_coe (mass_pos s h).ne', ← EReal.coe_mul, mul_one_div]

variable {seen} in
/-- The same weight from the logarithm of the sum. -/
theorem weight_eq (h : ∃ r, seen r) (r : Fin n) :
    (if seen r then Ideal.exp ((s r : EReal) - ((peak s seen : EReal) + Ideal.log (mass s seen : EReal))) else 0)
      = (prob s seen r : EReal) := by
  have hz := mass_pos s h
  unfold prob expo
  split
  · rw [Ideal.log_coe, if_neg hz.not_ge, ← EReal.coe_add, ← EReal.coe_sub, Ideal.exp_coe, ← sub_sub, Real.exp_sub _ (Real.log _),
      Real.exp_log hz]
  · rw [zero_div, EReal.coe_zero]

variable {seen} in
/-- The gradient of a score the way the quotient's rule writes it. -/
theorem grad_eq (h : ∃ r, seen r) (g : Fin n → ℝ) (r : Fin n) :
    (g r / mass s seen + -(∑ i, g i * (1 / (mass s seen * mass s seen)) * expo s seen i)) * expo s seen r
      = prob s seen r * (g r - ∑ i, prob s seen i * g i) := by
  have hz := (mass_pos s h).ne'
  have e : (∑ i, g i * (1 / (mass s seen * mass s seen)) * expo s seen i)
      = (∑ i, prob s seen i * g i) / mass s seen := by
    rw [Finset.sum_div]
    refine Finset.sum_congr rfl fun i _ => ?_
    unfold prob
    field_simp
  rw [e]
  unfold prob
  field_simp
  ring

end

end Cert.Mla

end
-- ==== Proof.Attn.Loads.lean ====
module

public import Idealize.ShloMosaic.Lib.Pointwise
public import Idealize.ShloMosaic.Lib.Pipeline.ValueKit

/-!
# Attention backward: what a load of a block reads

A load takes a rectangle of one of the blocks: columns of one head, and rows from an offset the body computes. Both
attentions load alike.
-/

@[expose] public section
set_option relaxedAutoImplicit false

noncomputable section

namespace Cert.Attn

open Idealize.ShloMosaic Idealize.ShloMosaic.TcCoe Idealize.SL.Sem

/-! The shapes of the blocks and of what is read from and written to them. -/

namespace Shapes

abbrev S4096x512 : Shape := ⟨2, ![4096, 512]⟩
abbrev S512x512 : Shape := ⟨2, ![512, 512]⟩
abbrev S4x1x1x512 : Shape := ⟨4, ![4, 1, 1, 512]⟩
abbrev S16x512x256 : Shape := ⟨3, ![16, 512, 256]⟩
abbrev S4x128x512 : Shape := ⟨3, ![4, 128, 512]⟩
abbrev S256x128 : Shape := ⟨2, ![256, 128]⟩
abbrev S512x128 : Shape := ⟨2, ![512, 128]⟩
abbrev S1x128x512 : Shape := ⟨3, ![1, 128, 512]⟩
abbrev S1x128x256 : Shape := ⟨3, ![1, 128, 256]⟩

end Shapes

open Shapes

variable {sig : RefSig}

/-- Column `d` of head `h`. -/
def col (h : Fin 4) (d : Fin 128) : Fin 512 := ⟨128 * h.val + d.val, by omega⟩

/-- Row `a` of key tile `j`. -/
def row (j : Fin 16) (a : Fin 256) : Fin 4096 := ⟨256 * j.val + a.val, by omega⟩

/-- A load of a unit-stride rectangle of a buffer with contents `X`, one element. -/
theorem readAt_at {s : Shape} {e : EltTy} (M : Memref sig .tc .vmem s e) (X : M.view.ty.Contents (Elt Ideal))
    {off off' size : Fin s.rank → ℕ} (inb : ∀ a, off a + size a ≤ s.size a) (hoff : off = off')
    (y : (Rect.unit off size inb).shape.Idx) (z : s.Idx) (hz : ∀ a, (z a).val = off' a + (y a).val) :
    View.readAt (Elt Ideal) M.view (Rect.unit off size inb).toLoadRect X y = M.view.read (Elt Ideal) X z := by
  subst hoff
  show View.ld (M.view.read (Elt Ideal) X) (Rect.unit off size inb) y = _
  refine congrArg (M.view.read (Elt Ideal) X) (funext fun a => Fin.ext ?_)
  show off a + 1 * (y a).val = (z a).val
  rw [hz a, Nat.one_mul]

/-- The same of a whole buffer that holds `x`. -/
theorem readAt_unread {s : Shape} {e : EltTy} (M : Memref sig .tc .vmem s e) (hM : M.IsWhole) (x : Vec Ideal s e)
    {off off' size : Fin s.rank → ℕ} (inb : ∀ a, off a + size a ≤ s.size a) (hoff : off = off')
    (y : (Rect.unit off size inb).shape.Idx) (z : s.Idx) (hz : ∀ a, (z a).val = off' a + (y a).val) :
    View.readAt (Elt Ideal) M.view (Rect.unit off size inb).toLoadRect (hM.unread x) y = x z :=
  (readAt_at M _ inb hoff y z hz).trans (congrFun (hM.read_unread (Val := Elt Ideal) x) z)

/-- One head's columns of key tile `j`, of a block of 4096 rows. -/
theorem rd_tile {e : EltTy} (M : Memref sig .tc .vmem S4096x512 e) (X : M.view.ty.Contents (Elt Ideal)) (j : Fin 16)
    (h : Fin 4) {off : Fin 2 → ℕ} (inb : ∀ a : Fin 2, off a + (![256, 128] : Fin 2 → ℕ) a ≤ S4096x512.size a)
    (hoff : off = ![256 * j.val, 128 * h.val]) (a : Fin 256) (b : Fin 128) :
    View.readAt (Elt Ideal) M.view (Rect.unit (s := S4096x512) off ![256, 128] inb).toLoadRect X (ix2 a b)
      = M.view.read (Elt Ideal) X (ix2 (row j a) (col h b)) :=
  readAt_at M X inb hoff _ _ (Fin.forall_fin_two.mpr ⟨rfl, rfl⟩)

/-- One head's columns of all 512 rows. -/
theorem rd_head {e : EltTy} (M : Memref sig .tc .vmem S512x512 e) (X : M.view.ty.Contents (Elt Ideal)) (h : Fin 4)
    {off : Fin 2 → ℕ} (inb : ∀ a : Fin 2, off a + (![512, 128] : Fin 2 → ℕ) a ≤ S512x512.size a)
    (hoff : off = ![0, 128 * h.val]) (a : Fin 512) (b : Fin 128) :
    View.readAt (Elt Ideal) M.view (Rect.unit (s := S512x512) off ![512, 128] inb).toLoadRect X (ix2 a b)
      = M.view.read (Elt Ideal) X (ix2 a (col h b)) :=
  readAt_at M X inb hoff _ _ (Fin.forall_fin_two.mpr ⟨(Nat.zero_add _).symm, rfl⟩)

/-- Query `a` of the later half of a point's 512. -/
def late (a : Fin 256) : Fin 512 := ⟨256 + a.val, by omega⟩

/-- One head's columns of the later 256 rows. -/
theorem rd_late {e : EltTy} (M : Memref sig .tc .vmem S512x512 e) (X : M.view.ty.Contents (Elt Ideal)) (h : Fin 4)
    {off : Fin 2 → ℕ} (inb : ∀ a : Fin 2, off a + (![256, 128] : Fin 2 → ℕ) a ≤ S512x512.size a)
    (hoff : off = ![256, 128 * h.val]) (a : Fin 256) (b : Fin 128) :
    View.readAt (Elt Ideal) M.view (Rect.unit (s := S512x512) off ![256, 128] inb).toLoadRect X (ix2 a b)
      = M.view.read (Elt Ideal) X (ix2 (late a) (col h b)) :=
  readAt_at M X inb hoff _ _ (Fin.forall_fin_two.mpr ⟨rfl, rfl⟩)

/-- One head's row of 512 numbers. -/
theorem rd_row {e : EltTy} (M : Memref sig .tc .vmem S4x1x1x512 e) (X : M.view.ty.Contents (Elt Ideal)) (h : Fin 4)
    {off : Fin 4 → ℕ} (inb : ∀ a : Fin 4, off a + (![1, 1, 1, 512] : Fin 4 → ℕ) a ≤ S4x1x1x512.size a)
    (hoff : off = ![h.val, 0, 0, 0]) (b : Fin 512) :
    View.readAt (Elt Ideal) M.view (Rect.unit (s := S4x1x1x512) off ![1, 1, 1, 512] inb).toLoadRect X (ix4 0 0 0 b)
      = M.view.read (Elt Ideal) X (ix4 h 0 0 b) :=
  readAt_at M X inb hoff _ _ (by intro a; fin_cases a <;> first | rfl | exact (Nat.zero_add _).symm)

/-- The later 256 of one head's row. -/
theorem rd_rowLate {e : EltTy} (M : Memref sig .tc .vmem S4x1x1x512 e) (X : M.view.ty.Contents (Elt Ideal)) (h : Fin 4)
    {off : Fin 4 → ℕ} (inb : ∀ a : Fin 4, off a + (![1, 1, 1, 256] : Fin 4 → ℕ) a ≤ S4x1x1x512.size a)
    (hoff : off = ![h.val, 0, 0, 256]) (b : Fin 256) :
    View.readAt (Elt Ideal) M.view (Rect.unit (s := S4x1x1x512) off ![1, 1, 1, 256] inb).toLoadRect X (ix4 0 0 0 b)
      = M.view.read (Elt Ideal) X (ix4 h 0 0 (late b)) :=
  readAt_at M X inb hoff _ _ (by intro a; fin_cases a <;> rfl)

/-- One head's rows of a transposed key tile. -/
theorem rd_kt {e : EltTy} (M : Memref sig .tc .vmem S16x512x256 e) (X : M.view.ty.Contents (Elt Ideal)) (j : Fin 16)
    (h : Fin 4) {off : Fin 3 → ℕ} (inb : ∀ a : Fin 3, off a + (![1, 128, 256] : Fin 3 → ℕ) a ≤ S16x512x256.size a)
    (hoff : off = ![j.val, 128 * h.val, 0]) (b : Fin 128) (a : Fin 256) :
    View.readAt (Elt Ideal) M.view (Rect.unit (s := S16x512x256) off ![1, 128, 256] inb).toLoadRect X (ix3 0 b a)
      = M.view.read (Elt Ideal) X (ix3 j (col h b) a) :=
  readAt_at M X inb hoff _ _ (by intro a; fin_cases a <;> first | rfl | exact (Nat.zero_add _).symm)

end Cert.Attn

end
-- ==== Proof.Attn.Stores.lean ====
module

public import Idealize.ShloMosaic.Lib.WritesUnit
public import proofs.«01_k».proof.Proof.Attn.Loads

/-!
# Attention backward: stores that add

The state of a gradient buffer is a function of head, row and column within the head. A store covers one head's columns
of one key tile, and puts there what was there plus a term.
-/

@[expose] public section
set_option relaxedAutoImplicit false

noncomputable section

namespace Cert.Attn

open Idealize.ShloMosaic Idealize.ShloMosaic.TcCoe Idealize.SL.Sem Shapes

variable {sig : RefSig}

/-- A gradient buffer's state. -/
abbrev State := Fin 4 → Fin 4096 → Fin 128 → EReal

/-- The contents `X` of a gradient buffer are the state `S`. -/
def Holds (M : Memref sig .tc .vmem S4096x512 .f32) (X : M.view.ty.Contents (Elt Ideal)) (S : State) : Prop :=
  ∀ h r d, M.view.read (Elt Ideal) X (ix2 r (col h d)) = S h r d

/-- The state with head `h₀` of key tile `j` replaced. -/
def put (S : State) (j : Fin 16) (h₀ : Fin 4) (C : State) : State :=
  fun h r d => if h = h₀ ∧ r.val / 256 = j.val then C h r d else S h r d

theorem holds_put (M : Memref sig .tc .vmem S4096x512 .f32) (X : M.view.ty.Contents (Elt Ideal))
    (L : List (View.Piece (Elt Ideal) S4096x512 .f32)) (S C : State) (hL : Holds M (M.view.writes (Elt Ideal) X L) S)
    (j : Fin 16) (h₀ : Fin 4) {off : Fin 2 → ℕ} (inb : ∀ a : Fin 2, off a + S256x128.size a ≤ S4096x512.size a)
    (hoff : off = ![256 * j.val, 128 * h₀.val]) (w : (Rect.unit (s := S4096x512) off S256x128.size inb).shape.Idx → EReal)
    (hw : ∀ (a : Fin 256) (b : Fin 128), w (ix2 a b) = C h₀ (row j a) b) :
    Holds M (M.view.writes (Elt Ideal) X
      ((⟨Rect.unit (s := S4096x512) off S256x128.size inb, w⟩ : View.Piece (Elt Ideal) S4096x512 .f32) :: L))
      (put S j h₀ C) := by
  intro h r d
  unfold put
  by_cases hc : h = h₀ ∧ r.val / 256 = j.val
  · rw [if_pos hc]
    obtain ⟨rfl, hr⟩ := hc
    have e : r = row j ⟨r.val % 256, Nat.mod_lt _ (by omega)⟩ := Fin.ext (by
      show r.val = 256 * j.val + r.val % 256
      omega)
    rw [View.read_writes_cons_unit_of_mem M.view X inb w L _ (ix2 ⟨r.val % 256, Nat.mod_lt _ (by omega)⟩ d) hoff
      (Fin.forall_fin_two.mpr ⟨by
        show r.val = 256 * j.val + r.val % 256
        omega, rfl⟩), hw, ← e]
  · rw [if_neg hc]
    by_cases hr : r.val / 256 = j.val
    · have hh : h ≠ h₀ := fun e => hc ⟨e, hr⟩
      have hv : h.val ≠ h₀.val := fun e => hh (Fin.ext e)
      rw [View.read_writes_cons_unit_of_not_mem M.view X inb w L _ hoff 1 (by
        show 128 * h.val + d.val < 128 * h₀.val ∨ 128 * h₀.val + 128 ≤ 128 * h.val + d.val
        have := d.isLt
        omega)]
      exact hL h r d
    · rw [View.read_writes_cons_unit_of_not_mem M.view X inb w L _ hoff 0 (by
        show r.val < 256 * j.val ∨ 256 * j.val + 256 ≤ r.val
        omega)]
      exact hL h r d

/-- The state with a term added on key tile `j`. -/
def bump (S : State) (j : ℕ) (C : State) : State := fun h r d => if r.val / 256 = j then S h r d + C h r d else S h r d

/-- Four stores, one per head, each adding to what the tile held before them. -/
theorem put4 (S : State) (j : Fin 16) (C : State) :
    put (put (put (put S j 0 fun h r d => S h r d + C h r d) j 1 fun h r d => S h r d + C h r d) j 2
      fun h r d => S h r d + C h r d) j 3 (fun h r d => S h r d + C h r d) = bump S j C := by
  funext h r d
  unfold put bump
  fin_cases h <;> by_cases hr : r.val / 256 = j.val <;> simp [hr]

/-- A head that was not stored reads as before. -/
theorem put_ne (S C : State) (j : Fin 16) (h₀ h : Fin 4) (r : Fin 4096) (d : Fin 128) (hne : h ≠ h₀) :
    put S j h₀ C h r d = S h r d := if_neg fun e => hne e.1

/-- Whether the tiles below `m` have their term. -/
def upto (S : State) (m : ℕ) (C : State) : State := fun h r d => if r.val / 256 < m then S h r d + C h r d else S h r d

theorem upto_zero (S C : State) : upto S 0 C = S := by funext h r d; exact if_neg (Nat.not_lt_zero _)

theorem bump_upto (S : State) (m : ℕ) (C : State) : bump (upto S m C) m C = upto S (m + 1) C := by
  funext h r d
  unfold bump upto
  rcases lt_trichotomy (r.val / 256) m with hlt | heq | hgt
  · rw [if_neg (by omega), if_pos hlt, if_pos (by omega)]
  · rw [if_pos heq, if_neg (by omega), if_pos (by omega)]
  · rw [if_neg (by omega), if_neg (by omega), if_neg (by omega)]

/-- Past the last tile a point sees, the term is zero, so every row has it. -/
theorem upto_all (S C : State) (m : ℕ) (hC : ∀ h r d, 256 * m ≤ r.val → C h r d = 0) :
    upto S m C = fun h r d => S h r d + C h r d := by
  funext h r d
  unfold upto
  by_cases hr : r.val / 256 < m
  · exact if_pos hr
  · rw [if_neg hr, hC h r d (by omega), add_zero]

/-! ## The query gradients' buffer -/

/-- The state of the scratch buffer: head, column, query. -/
abbrev QState := Fin 4 → Fin 128 → Fin 512 → EReal

def QHolds (M : Memref sig .tc .vmem S4x128x512 .f32) (X : M.view.ty.Contents (Elt Ideal)) (S : QState) : Prop :=
  ∀ h d q, M.view.read (Elt Ideal) X (ix3 h d q) = S h d q

/-- The state with head `h₀` replaced. -/
def qput (S : QState) (h₀ : Fin 4) (C : QState) : QState := fun h d q => if h = h₀ then C h d q else S h d q

theorem qholds_put (M : Memref sig .tc .vmem S4x128x512 .f32) (X : M.view.ty.Contents (Elt Ideal))
    (L : List (View.Piece (Elt Ideal) S4x128x512 .f32)) (S C : QState) (hL : QHolds M (M.view.writes (Elt Ideal) X L) S)
    (h₀ : Fin 4) {off : Fin 3 → ℕ} (inb : ∀ a : Fin 3, off a + S1x128x512.size a ≤ S4x128x512.size a)
    (hoff : off = ![h₀.val, 0, 0]) (w : (Rect.unit (s := S4x128x512) off S1x128x512.size inb).shape.Idx → EReal)
    (hw : ∀ (b : Fin 128) (q : Fin 512), w (ix3 0 b q) = C h₀ b q) :
    QHolds M (M.view.writes (Elt Ideal) X
      ((⟨Rect.unit (s := S4x128x512) off S1x128x512.size inb, w⟩ : View.Piece (Elt Ideal) S4x128x512 .f32) :: L))
      (qput S h₀ C) := by
  intro h d q
  unfold qput
  by_cases hc : h = h₀
  · subst hc
    rw [if_pos rfl, View.read_writes_cons_unit_of_mem M.view X inb w L _ (ix3 0 d q) hoff (by
      intro a
      fin_cases a <;> first | rfl | exact (Nat.zero_add _).symm), hw]
  · have hv : h.val ≠ h₀.val := fun e => hc (Fin.ext e)
    rw [if_neg hc, View.read_writes_cons_unit_of_not_mem M.view X inb w L _ hoff 0 (by
      show h.val < h₀.val ∨ h₀.val + 1 ≤ h.val
      omega)]
    exact hL h d q

/-- A store of the later 256 queries of a head, where the earlier ones' new value is their old one. -/
theorem qholds_late (M : Memref sig .tc .vmem S4x128x512 .f32) (X : M.view.ty.Contents (Elt Ideal))
    (L : List (View.Piece (Elt Ideal) S4x128x512 .f32)) (S C : QState) (hL : QHolds M (M.view.writes (Elt Ideal) X L) S)
    (h₀ : Fin 4) {off : Fin 3 → ℕ} (inb : ∀ a : Fin 3, off a + S1x128x256.size a ≤ S4x128x512.size a)
    (hoff : off = ![h₀.val, 0, 256]) (w : (Rect.unit (s := S4x128x512) off S1x128x256.size inb).shape.Idx → EReal)
    (hw : ∀ (b : Fin 128) (q : Fin 256), w (ix3 0 b q) = C h₀ b (late q))
    (hC : ∀ (b : Fin 128) (q : Fin 512), q.val < 256 → C h₀ b q = S h₀ b q) :
    QHolds M (M.view.writes (Elt Ideal) X
      ((⟨Rect.unit (s := S4x128x512) off S1x128x256.size inb, w⟩ : View.Piece (Elt Ideal) S4x128x512 .f32) :: L))
      (qput S h₀ C) := by
  intro h d q
  unfold qput
  by_cases hc : h = h₀
  · subst hc
    rw [if_pos rfl]
    by_cases hq : q.val < 256
    · rw [View.read_writes_cons_unit_of_not_mem M.view X inb w L _ hoff 2 (Or.inl hq), hC d q hq]
      exact hL h d q
    · have e : q = late ⟨q.val - 256, by omega⟩ := Fin.ext (by
        show q.val = 256 + (q.val - 256)
        omega)
      rw [View.read_writes_cons_unit_of_mem M.view X inb w L _ (ix3 0 d ⟨q.val - 256, by omega⟩) hoff (by
        intro a
        fin_cases a
        · rfl
        · exact (Nat.zero_add _).symm
        · show q.val = 256 + (q.val - 256)
          omega), hw, ← e]
  · have hv : h.val ≠ h₀.val := fun e => hc (Fin.ext e)
    rw [if_neg hc, View.read_writes_cons_unit_of_not_mem M.view X inb w L _ hoff 0 (by
      show h.val < h₀.val ∨ h₀.val + 1 ≤ h.val
      omega)]
    exact hL h d q

theorem qput4 (S C : QState) :
    qput (qput (qput (qput S 0 fun h d q => S h d q + C h d q) 1 fun h d q => S h d q + C h d q) 2
      fun h d q => S h d q + C h d q) 3 (fun h d q => S h d q + C h d q) = fun h d q => S h d q + C h d q := by
  funext h d q
  unfold qput
  fin_cases h <;> simp

theorem qput_ne (S C : QState) (h₀ h : Fin 4) (d : Fin 128) (q : Fin 512) (hne : h ≠ h₀) :
    qput S h₀ C h d q = S h d q := if_neg hne

/-- The state with the first `m` tiles' terms added. -/
def qupto (S : QState) (m : ℕ) (A : ℕ → QState) : QState := fun h d q => S h d q + ∑ j ∈ Finset.range m, A j h d q

theorem qupto_zero (S : QState) (A : ℕ → QState) : qupto S 0 A = S := by
  funext h d q
  simp [qupto]

theorem qupto_succ (S : QState) (m : ℕ) (A : ℕ → QState) :
    qupto S (m + 1) A = fun h d q => qupto S m A h d q + A m h d q := by
  funext h d q
  simp [qupto, Finset.sum_range_succ, add_assoc]

/-! ## Loads -/

/-- A load of a head's columns of a key tile. -/
theorem Holds.load {M : Memref sig .tc .vmem S4096x512 .f32} {X : M.view.ty.Contents (Elt Ideal)} {S : State}
    (hS : Holds M X S) (j : Fin 16) (h : Fin 4) {off : Fin 2 → ℕ}
    (inb : ∀ a : Fin 2, off a + S256x128.size a ≤ S4096x512.size a) (hoff : off = ![256 * j.val, 128 * h.val])
    (a : Fin 256) (b : Fin 128) :
    M.view.readAt (Elt Ideal) (Rect.unit (s := S4096x512) off S256x128.size inb).toLoadRect X (ix2 a b)
      = S h (row j a) b :=
  (rd_tile M X j h inb hoff a b).trans (hS h (row j a) b)

/-- A load of a head of the query gradients' buffer. -/
theorem QHolds.load {M : Memref sig .tc .vmem S4x128x512 .f32} {X : M.view.ty.Contents (Elt Ideal)} {S : QState}
    (hS : QHolds M X S) (h : Fin 4) {off : Fin 3 → ℕ}
    (inb : ∀ a : Fin 3, off a + S1x128x512.size a ≤ S4x128x512.size a) (hoff : off = ![h.val, 0, 0])
    (b : Fin 128) (q : Fin 512) :
    M.view.readAt (Elt Ideal) (Rect.unit (s := S4x128x512) off S1x128x512.size inb).toLoadRect X (ix3 0 b q)
      = S h b q :=
  (readAt_at M X inb hoff (ix3 0 b q) (ix3 h b q) (by
    intro a
    fin_cases a <;> first | rfl | exact (Nat.zero_add _).symm)).trans (hS h b q)

/-- A load of its later 256 queries. -/
theorem QHolds.loadLate {M : Memref sig .tc .vmem S4x128x512 .f32} {X : M.view.ty.Contents (Elt Ideal)} {S : QState}
    (hS : QHolds M X S) (h : Fin 4) {off : Fin 3 → ℕ}
    (inb : ∀ a : Fin 3, off a + S1x128x256.size a ≤ S4x128x512.size a) (hoff : off = ![h.val, 0, 256])
    (b : Fin 128) (q : Fin 256) :
    M.view.readAt (Elt Ideal) (Rect.unit (s := S4x128x512) off S1x128x256.size inb).toLoadRect X (ix3 0 b q)
      = S h b (late q) :=
  (readAt_at M X inb hoff (ix3 0 b q) (ix3 h b (late q)) (by
    intro a
    fin_cases a <;> first | rfl | exact (Nat.zero_add _).symm)).trans (hS h b (late q))

/-! ## Adding to what the buffer holds -/

/-- A store of what it loads plus a term, for a head whose state is still that of `S₀`. -/
theorem holds_add (M : Memref sig .tc .vmem S4096x512 .f32) (X : M.view.ty.Contents (Elt Ideal))
    (L : List (View.Piece (Elt Ideal) S4096x512 .f32)) (S S₀ C : State)
    (hL : Holds M (M.view.writes (Elt Ideal) X L) S) (j : Fin 16) (h₀ : Fin 4) (hS : ∀ r d, S h₀ r d = S₀ h₀ r d)
    {off : Fin 2 → ℕ} (inb : ∀ a : Fin 2, off a + S256x128.size a ≤ S4096x512.size a)
    (hoff : off = ![256 * j.val, 128 * h₀.val]) (w : (Rect.unit (s := S4096x512) off S256x128.size inb).shape.Idx → EReal)
    (hw : ∀ (a : Fin 256) (b : Fin 128), w (ix2 a b) = M.view.readAt (Elt Ideal)
      (Rect.unit (s := S4096x512) off S256x128.size inb).toLoadRect (M.view.writes (Elt Ideal) X L) (ix2 a b)
        + C h₀ (row j a) b) :
    Holds M (M.view.writes (Elt Ideal) X
      ((⟨Rect.unit (s := S4096x512) off S256x128.size inb, w⟩ : View.Piece (Elt Ideal) S4096x512 .f32) :: L))
      (put S j h₀ fun h r d => S₀ h r d + C h r d) :=
  holds_put M X L S _ hL j h₀ inb hoff w fun a b =>
    (hw a b).trans (congrArg (· + _) ((hL.load j h₀ inb hoff a b).trans (hS _ _)))

theorem qholds_add (M : Memref sig .tc .vmem S4x128x512 .f32) (X : M.view.ty.Contents (Elt Ideal))
    (L : List (View.Piece (Elt Ideal) S4x128x512 .f32)) (S S₀ C : QState)
    (hL : QHolds M (M.view.writes (Elt Ideal) X L) S) (h₀ : Fin 4) (hS : ∀ d q, S h₀ d q = S₀ h₀ d q)
    {off : Fin 3 → ℕ} (inb : ∀ a : Fin 3, off a + S1x128x512.size a ≤ S4x128x512.size a)
    (hoff : off = ![h₀.val, 0, 0]) (w : (Rect.unit (s := S4x128x512) off S1x128x512.size inb).shape.Idx → EReal)
    (hw : ∀ (b : Fin 128) (q : Fin 512), w (ix3 0 b q) = M.view.readAt (Elt Ideal)
      (Rect.unit (s := S4x128x512) off S1x128x512.size inb).toLoadRect (M.view.writes (Elt Ideal) X L) (ix3 0 b q)
        + C h₀ b q) :
    QHolds M (M.view.writes (Elt Ideal) X
      ((⟨Rect.unit (s := S4x128x512) off S1x128x512.size inb, w⟩ : View.Piece (Elt Ideal) S4x128x512 .f32) :: L))
      (qput S h₀ fun h d q => S₀ h d q + C h d q) :=
  qholds_put M X L S _ hL h₀ inb hoff w fun b q =>
    (hw b q).trans (congrArg (· + _) ((hL.load h₀ inb hoff b q).trans (hS _ _)))

/-- The same for the later 256 queries, where the earlier ones' term is zero. -/
theorem qholds_addLate (M : Memref sig .tc .vmem S4x128x512 .f32) (X : M.view.ty.Contents (Elt Ideal))
    (L : List (View.Piece (Elt Ideal) S4x128x512 .f32)) (S S₀ C : QState)
    (hL : QHolds M (M.view.writes (Elt Ideal) X L) S) (h₀ : Fin 4) (hS : ∀ d q, S h₀ d q = S₀ h₀ d q)
    {off : Fin 3 → ℕ} (inb : ∀ a : Fin 3, off a + S1x128x256.size a ≤ S4x128x512.size a)
    (hoff : off = ![h₀.val, 0, 256]) (w : (Rect.unit (s := S4x128x512) off S1x128x256.size inb).shape.Idx → EReal)
    (hw : ∀ (b : Fin 128) (q : Fin 256), w (ix3 0 b q) = M.view.readAt (Elt Ideal)
      (Rect.unit (s := S4x128x512) off S1x128x256.size inb).toLoadRect (M.view.writes (Elt Ideal) X L) (ix3 0 b q)
        + C h₀ b (late q))
    (hC : ∀ (b : Fin 128) (q : Fin 512), q.val < 256 → C h₀ b q = 0) :
    QHolds M (M.view.writes (Elt Ideal) X
      ((⟨Rect.unit (s := S4x128x512) off S1x128x256.size inb, w⟩ : View.Piece (Elt Ideal) S4x128x512 .f32) :: L))
      (qput S h₀ fun h d q => S₀ h d q + C h d q) :=
  qholds_late M X L S _ hL h₀ inb hoff w (fun b q =>
    (hw b q).trans (congrArg (· + _) ((hL.loadLate h₀ inb hoff b q).trans (hS _ _))))
    fun b q hq => by rw [hC b q hq, add_zero, hS]

/-! ## The zeros at the start, and the query gradients' turn -/

theorem holds_zero (M : Memref sig .tc .vmem S4096x512 .f32) (X : M.view.ty.Contents (Elt Ideal))
    (inb : ∀ a : Fin 2, (![0, 0] : Fin 2 → ℕ) a + S4096x512.size a ≤ S4096x512.size a)
    (w : (Rect.unit (s := S4096x512) ![0, 0] S4096x512.size inb).shape.Idx → EReal) (hw : ∀ y, w y = 0) :
    Holds M (M.view.writes (Elt Ideal) X
      [(⟨Rect.unit (s := S4096x512) ![0, 0] S4096x512.size inb, w⟩ : View.Piece (Elt Ideal) S4096x512 .f32)])
      (fun _ _ _ => 0) := by
  intro h r d
  rw [View.read_writes_cons_unit_of_mem M.view X inb w [] _ (ix2 r (col h d)) rfl
    (Fin.forall_fin_two.mpr ⟨(Nat.zero_add _).symm, (Nat.zero_add _).symm⟩)]
  exact hw _

theorem qholds_zero (M : Memref sig .tc .vmem S4x128x512 .f32) (X : M.view.ty.Contents (Elt Ideal))
    (inb : ∀ a : Fin 3, (![0, 0, 0] : Fin 3 → ℕ) a + S4x128x512.size a ≤ S4x128x512.size a)
    (w : (Rect.unit (s := S4x128x512) ![0, 0, 0] S4x128x512.size inb).shape.Idx → EReal) (hw : ∀ y, w y = 0) :
    QHolds M (M.view.writes (Elt Ideal) X
      [(⟨Rect.unit (s := S4x128x512) ![0, 0, 0] S4x128x512.size inb, w⟩ : View.Piece (Elt Ideal) S4x128x512 .f32)])
      (fun _ _ _ => 0) := by
  intro h d q
  rw [View.read_writes_cons_unit_of_mem M.view X inb w [] _ (ix3 h d q) rfl (by
    intro a
    fin_cases a <;> exact (Nat.zero_add _).symm)]
  exact hw _

/-- A store of one head's query gradients, queries in rows. -/
theorem out_cons (v : View sig .tc .vmem S512x512 .f32) (f : v.ty.Contents (Elt Ideal))
    (L : List (View.Piece (Elt Ideal) S512x512 .f32)) (S : QState) (P : Fin 4 → Prop) (h₀ : Fin 4)
    (hL : ∀ h, P h → ∀ d q, v.read (Elt Ideal) (v.writes (Elt Ideal) f L) (ix2 q (col h d)) = S h d q)
    {off : Fin 2 → ℕ} (inb : ∀ a : Fin 2, off a + S512x128.size a ≤ S512x512.size a) (hoff : off = ![0, 128 * h₀.val])
    (w : (Rect.unit (s := S512x512) off S512x128.size inb).shape.Idx → EReal)
    (hw : ∀ (q : Fin 512) (d : Fin 128), w (ix2 q d) = S h₀ d q) (h : Fin 4) (hh : h = h₀ ∨ P h) (d : Fin 128)
    (q : Fin 512) :
    v.read (Elt Ideal) (v.writes (Elt Ideal) f
      ((⟨Rect.unit (s := S512x512) off S512x128.size inb, w⟩ : View.Piece (Elt Ideal) S512x512 .f32) :: L))
      (ix2 q (col h d)) = S h d q := by
  by_cases hc : h = h₀
  · subst hc
    rw [View.read_writes_cons_unit_of_mem v f inb w L _ (ix2 q d) hoff
      (Fin.forall_fin_two.mpr ⟨(Nat.zero_add _).symm, rfl⟩)]
    exact hw q d
  · have hv : h.val ≠ h₀.val := fun e => hc (Fin.ext e)
    rw [View.read_writes_cons_unit_of_not_mem v f inb w L _ hoff 1 (by
      show 128 * h.val + d.val < 128 * h₀.val ∨ 128 * h₀.val + 128 ≤ 128 * h.val + d.val
      have := d.isLt
      omega)]
    exact hL h (hh.resolve_left hc) d q

/-- The stores of all four heads. -/
theorem out4 (v : View sig .tc .vmem S512x512 .f32) (f : v.ty.Contents (Elt Ideal)) (S : QState)
    (w₀ w₁ w₂ w₃ : S512x128.Idx → EReal) (inb₀ : ∀ a : Fin 2, (![0, 0] : Fin 2 → ℕ) a + S512x128.size a ≤ S512x512.size a)
    (inb₁ : ∀ a : Fin 2, (![0, 128] : Fin 2 → ℕ) a + S512x128.size a ≤ S512x512.size a)
    (inb₂ : ∀ a : Fin 2, (![0, 256] : Fin 2 → ℕ) a + S512x128.size a ≤ S512x512.size a)
    (inb₃ : ∀ a : Fin 2, (![0, 384] : Fin 2 → ℕ) a + S512x128.size a ≤ S512x512.size a)
    (h0 : ∀ q d, w₀ (ix2 q d) = S 0 d q) (h1 : ∀ q d, w₁ (ix2 q d) = S 1 d q) (h2 : ∀ q d, w₂ (ix2 q d) = S 2 d q)
    (h3 : ∀ q d, w₃ (ix2 q d) = S 3 d q) (h : Fin 4) (d : Fin 128) (q : Fin 512) :
    v.read (Elt Ideal) (v.writes (Elt Ideal) f
      [(⟨Rect.unit (s := S512x512) ![0, 384] S512x128.size inb₃, w₃⟩ : View.Piece (Elt Ideal) S512x512 .f32),
        ⟨Rect.unit (s := S512x512) ![0, 256] S512x128.size inb₂, w₂⟩,
        ⟨Rect.unit (s := S512x512) ![0, 128] S512x128.size inb₁, w₁⟩,
        ⟨Rect.unit (s := S512x512) ![0, 0] S512x128.size inb₀, w₀⟩]) (ix2 q (col h d)) = S h d q := by
  have A0 := out_cons v f [] S (fun _ => False) 0 (fun _ hf => hf.elim) inb₀ rfl w₀ h0
  have A1 := out_cons v f _ S (fun h => h = 0) 1 (fun h hh => A0 h (Or.inl hh)) inb₁ rfl w₁ h1
  have A2 := out_cons v f _ S (fun h => h = 1 ∨ h = 0) 2 A1 inb₂ rfl w₂ h2
  exact out_cons v f _ S (fun h => h = 2 ∨ h = 1 ∨ h = 0) 3 A2 inb₃ rfl w₃ h3 h (by
    fin_cases h <;> simp) d q

end Cert.Attn

end
-- ==== Proof.Mla.Spec.lean ====
module

public import proofs.«01_k».proof.Proof.Gen.Kernel4Ideal.Frame
public import proofs.«01_k».proof.Proof.Attn.Loads
public import Idealize.ShloMosaic.Lib.Pointwise

/-!
# Attention backward: the mathematics of one grid point

A grid point holds 512 queries `x0` with their incoming gradients `x4`, their log-sums-of-exponentials `x5` and their
row sums `x6`, all 4096 keys `x1` and values `x2`, and the keys once more transposed in sixteen tiles, `x3`. Four
heads stand side by side in columns of 128. Query `q` of point `n` is position `512 n + q`; it sees a key when the
key's chunk of 64 positions is not later than its own.
-/

@[expose] public section
set_option relaxedAutoImplicit false

noncomputable section

namespace Cert.Mla

open Idealize.ShloMosaic Cert.Kernel4Ideal

export Cert.Attn (col row readAt_at readAt_unread rd_tile rd_head late rd_late rd_row rd_rowLate rd_kt)

/-- Whether query `q` of point `n` sees key `r`. -/
abbrev Seen (n r q : ℕ) : Prop := r / 64 ≤ (512 * n + q) / 64

/-- The blocks one grid point reads. -/
structure Blocks where
  /-- the queries -/
  q : Vec Ideal S512x512 .bf16
  /-- the keys -/
  k : Vec Ideal S4096x512 .bf16
  /-- the values -/
  v : Vec Ideal S4096x512 .bf16
  /-- the keys, sixteen transposed tiles -/
  kt : Vec Ideal S16x512x256 .bf16
  /-- the gradient of the attention's result -/
  g : Vec Ideal S512x512 .f32
  /-- logarithm of the sum of the exponentials of a query's scores -/
  lse : Vec Ideal S4x1x1x512 .f32
  /-- inner product of a query's result and gradient -/
  dl : Vec Ideal S4x1x1x512 .f32

variable (B : Blocks) (n : ℕ)

/-- The score of key `r` and query `q`. -/
def score (h : Fin 4) (r : Fin 4096) (q : Fin 512) : EReal :=
  ∑ d : Fin 128, B.k (ix2 r (col h d)) * B.q (ix2 q (col h d))

/-- The gradient that reaches the weight of key `r` and query `q`. -/
def reach (h : Fin 4) (r : Fin 4096) (q : Fin 512) : EReal :=
  ∑ d : Fin 128, B.v (ix2 r (col h d)) * B.g (ix2 q (col h d))

/-- The weight a key would have if it were seen. -/
def raw (h : Fin 4) (r : Fin 4096) (q : Fin 512) : EReal := Ideal.exp (score B h r q - B.lse (ix4 h 0 0 q))

/-- The attention weight of key `r` for query `q`. -/
def weight (h : Fin 4) (r : Fin 4096) (q : Fin 512) : EReal := if Seen n r.val q.val then raw B h r q else 0

/-- The gradient of the score of key `r` and query `q`. -/
def dscore (h : Fin 4) (r : Fin 4096) (q : Fin 512) : EReal := weight B n h r q * (reach B h r q - B.dl (ix4 h 0 0 q))

/-- What a point adds to the gradient of a value. -/
def addV (h : Fin 4) (r : Fin 4096) (d : Fin 128) : EReal := ∑ q : Fin 512, weight B n h r q * B.g (ix2 q (col h d))

/-- What a point adds to the gradient of a key. -/
def addK (h : Fin 4) (r : Fin 4096) (d : Fin 128) : EReal := ∑ q : Fin 512, dscore B n h r q * B.q (ix2 q (col h d))

/-- What key tile `j` adds to the gradient of a query. -/
def addQ (j : Fin 16) (h : Fin 4) (d : Fin 128) (q : Fin 512) : EReal :=
  ∑ a : Fin 256, B.kt (ix3 j (col h d) a) * dscore B n h (row j a) q

end Cert.Mla

end
-- ==== Proof.Mla.Sums.lean ====
module

public import proofs.«01_k».proof.Proof.Mla.Spec

/-!
# Attention backward: what a point does not see adds nothing

Keys later than every query of a range have weight zero there, so a sum over the queries loses those terms.
-/

@[expose] public section
set_option relaxedAutoImplicit false

noncomputable section

namespace Cert.Mla

open Idealize.ShloMosaic Cert.Kernel4Ideal

variable (B : Blocks) (n : ℕ)

theorem weight_unseen (h : Fin 4) (r : Fin 4096) (q : Fin 512) (hs : ¬ Seen n r.val q.val) : weight B n h r q = 0 :=
  if_neg hs

theorem dscore_unseen (h : Fin 4) (r : Fin 4096) (q : Fin 512) (hs : ¬ Seen n r.val q.val) : dscore B n h r q = 0 := by
  rw [dscore, weight_unseen B n h r q hs, zero_mul]

/-- A sum over the 512 queries whose first 256 terms are zero. -/
theorem sum_late (f : Fin 512 → EReal) (hf : ∀ q : Fin 512, q.val < 256 → f q = 0) :
    ∑ q : Fin 512, f q = ∑ q : Fin 256, f (late q) := by
  have h := Fin.sum_univ_add (a := 256) (b := 256) f
  rw [show ∑ q : Fin 512, f q = _ from h, Finset.sum_eq_zero fun q _ => hf (Fin.castAdd 256 q) q.isLt, zero_add]
  rfl

/-- From row `512 n + 256` on the first 256 queries of point `n` see nothing. -/
theorem addV_late (h : Fin 4) (r : Fin 4096) (d : Fin 128) (hr : 512 * n + 256 ≤ r.val) :
    addV B n h r d = ∑ q : Fin 256, weight B n h r (late q) * B.g (ix2 (late q) (col h d)) :=
  sum_late (fun q => weight B n h r q * B.g (ix2 q (col h d))) fun q hq => by
    show weight B n h r q * _ = 0
    rw [weight_unseen B n h r q (by show ¬ (r.val / 64 ≤ (512 * n + q.val) / 64); omega), zero_mul]

theorem addK_late (h : Fin 4) (r : Fin 4096) (d : Fin 128) (hr : 512 * n + 256 ≤ r.val) :
    addK B n h r d = ∑ q : Fin 256, dscore B n h r (late q) * B.q (ix2 (late q) (col h d)) :=
  sum_late (fun q => dscore B n h r q * B.q (ix2 q (col h d))) fun q hq => by
    show dscore B n h r q * _ = 0
    rw [dscore_unseen B n h r q (by show ¬ (r.val / 64 ≤ (512 * n + q.val) / 64); omega), zero_mul]

/-- From row `512 n + 512` on point `n` sees nothing. -/
theorem addV_zero (h : Fin 4) (r : Fin 4096) (d : Fin 128) (hr : 512 * n + 512 ≤ r.val) : addV B n h r d = 0 :=
  Finset.sum_eq_zero fun q _ => by
    rw [weight_unseen B n h r q (by show ¬ (r.val / 64 ≤ (512 * n + q.val) / 64); omega), zero_mul]

theorem addK_zero (h : Fin 4) (r : Fin 4096) (d : Fin 128) (hr : 512 * n + 512 ≤ r.val) : addK B n h r d = 0 :=
  Finset.sum_eq_zero fun q _ => by
    rw [dscore_unseen B n h r q (by show ¬ (r.val / 64 ≤ (512 * n + q.val) / 64); omega), zero_mul]

theorem addQ_zero (j : Fin 16) (h : Fin 4) (d : Fin 128) (q : Fin 512) (hj : 512 * n + q.val < 256 * j.val) :
    addQ B n j h d q = 0 :=
  Finset.sum_eq_zero fun a _ => by
    rw [dscore_unseen B n h (row j a) q (by
      show ¬ ((256 * j.val + a.val) / 64 ≤ (512 * n + q.val) / 64)
      omega), mul_zero]

end Cert.Mla

end
-- ==== Proof.Mla.Stores.lean ====
module

public import proofs.«01_k».proof.Proof.Attn.Stores
public import proofs.«01_k».proof.Proof.Mla.Sums

/-!
# Attention backward: the query gradients, tile by tile
-/

@[expose] public section
set_option relaxedAutoImplicit false

noncomputable section

namespace Cert.Mla

open Idealize.ShloMosaic Cert.Kernel4Ideal

export Cert.Attn (State Holds put holds_put bump put4 put_ne upto upto_zero bump_upto upto_all QState QHolds qput
  qholds_put qholds_late qput4 qput_ne qupto qupto_zero qupto_succ Holds.load QHolds.load QHolds.loadLate holds_add
  qholds_add qholds_addLate holds_zero qholds_zero out_cons out4)

/-- Tile `j`'s term of the query gradients. -/
def tileQ (B : Blocks) (n j : ℕ) : QState := fun h d q => if hj : j < 16 then addQ B n ⟨j, hj⟩ h d q else 0

theorem tileQ_of_lt (B : Blocks) (n j : ℕ) (hj : j < 16) : tileQ B n j = fun h d q => addQ B n ⟨j, hj⟩ h d q := by
  funext h d q
  exact dif_pos hj

/-- The tiles a point sees give the sum over all of them. -/
theorem qupto_all (B : Blocks) (n : ℕ) (hn : n < 8) :
    qupto (fun _ _ _ => 0) (2 * n + 2) (tileQ B n) = fun h d q => ∑ j : Fin 16, addQ B n j h d q := by
  funext h d q
  rw [qupto, zero_add, ← Fin.sum_univ_eq_sum_range (fun j => tileQ B n j h d q)]
  rw [show (∑ j : Fin 16, addQ B n j h d q) = ∑ j : Fin 16, tileQ B n j.val h d q from
    Finset.sum_congr rfl fun j _ => (congrFun (congrFun (congrFun (tileQ_of_lt B n j.val j.isLt) h) d) q).symm]
  rw [Fin.sum_univ_eq_sum_range (fun j => tileQ B n j h d q), Fin.sum_univ_eq_sum_range (fun j => tileQ B n j h d q)]
  refine Finset.sum_subset (Finset.range_subset_range.mpr (by omega)) fun j hj hj' => ?_
  have h1 : j < 16 := Finset.mem_range.mp hj
  have h2 : ¬ j < 2 * n + 2 := fun e => hj' (Finset.mem_range.mpr e)
  rw [tileQ_of_lt B n j h1]
  exact addQ_zero B n ⟨j, h1⟩ h d q (by
    show 512 * n + q.val < 256 * j
    omega)

end Cert.Mla

end
-- ==== Proof.Mla.Offsets.lean ====
module

public import proofs.«01_k».proof.Proof.Mla.Spec

/-!
# Attention backward: the offsets the body computes

At point `n` the main loop makes `2 n` trips, the other loop none; trip `j` visits key tile `j`, and the two tiles
after the loop are `2 n` and `2 n + 1`.
-/

@[expose] public section
set_option relaxedAutoImplicit false

noncomputable section

namespace Cert.Mla

open Idealize.ShloMosaic Cert.Kernel4Ideal

theorem trips1 : ∀ i : grid0.Coords, (k0_t1_loop i).trips = 2 * (i 1).val := by decide +kernel
theorem trips2 : ∀ i : grid0.Coords, (k0_t2_loop i).trips = 0 := by decide +kernel

theorem off_k0 : ∀ (i : grid0.Coords) (j : Fin (k0_t1_loop i).trips), k0_off1 i j = ![256 * j.val, 128 * 0] := by
  decide +kernel
theorem off_t0 : ∀ (i : grid0.Coords) (j : Fin (k0_t1_loop i).trips), k0_off5 i j = ![j.val, 128 * 0, 0] := by
  decide +kernel
theorem off_dk0 : ∀ i : grid0.Coords, k0_off17 i 0#32 = ![256 * (2 * (i 1).val), 128 * 0] := by decide +kernel
theorem off_dt0 : ∀ i : grid0.Coords, k0_off21 i 0#32 = ![2 * (i 1).val, 128 * 0, 0] := by decide +kernel
theorem off_ek0 : ∀ i : grid0.Coords, k0_off17 i 1#32 = ![256 * (2 * (i 1).val + 1), 128 * 0] := by decide +kernel
theorem off_et0 : ∀ i : grid0.Coords, k0_off21 i 1#32 = ![2 * (i 1).val + 1, 128 * 0, 0] := by decide +kernel
theorem off_k1 : ∀ (i : grid0.Coords) (j : Fin (k0_t1_loop i).trips), k0_off2 i j = ![256 * j.val, 128 * 1] := by
  decide +kernel
theorem off_t1 : ∀ (i : grid0.Coords) (j : Fin (k0_t1_loop i).trips), k0_off6 i j = ![j.val, 128 * 1, 0] := by
  decide +kernel
theorem off_dk1 : ∀ i : grid0.Coords, k0_off18 i 0#32 = ![256 * (2 * (i 1).val), 128 * 1] := by decide +kernel
theorem off_dt1 : ∀ i : grid0.Coords, k0_off22 i 0#32 = ![2 * (i 1).val, 128 * 1, 0] := by decide +kernel
theorem off_ek1 : ∀ i : grid0.Coords, k0_off18 i 1#32 = ![256 * (2 * (i 1).val + 1), 128 * 1] := by decide +kernel
theorem off_et1 : ∀ i : grid0.Coords, k0_off22 i 1#32 = ![2 * (i 1).val + 1, 128 * 1, 0] := by decide +kernel
theorem off_k2 : ∀ (i : grid0.Coords) (j : Fin (k0_t1_loop i).trips), k0_off3 i j = ![256 * j.val, 128 * 2] := by
  decide +kernel
theorem off_t2 : ∀ (i : grid0.Coords) (j : Fin (k0_t1_loop i).trips), k0_off7 i j = ![j.val, 128 * 2, 0] := by
  decide +kernel
theorem off_dk2 : ∀ i : grid0.Coords, k0_off19 i 0#32 = ![256 * (2 * (i 1).val), 128 * 2] := by decide +kernel
theorem off_dt2 : ∀ i : grid0.Coords, k0_off23 i 0#32 = ![2 * (i 1).val, 128 * 2, 0] := by decide +kernel
theorem off_ek2 : ∀ i : grid0.Coords, k0_off19 i 1#32 = ![256 * (2 * (i 1).val + 1), 128 * 2] := by decide +kernel
theorem off_et2 : ∀ i : grid0.Coords, k0_off23 i 1#32 = ![2 * (i 1).val + 1, 128 * 2, 0] := by decide +kernel
theorem off_k3 : ∀ (i : grid0.Coords) (j : Fin (k0_t1_loop i).trips), k0_off4 i j = ![256 * j.val, 128 * 3] := by
  decide +kernel
theorem off_t3 : ∀ (i : grid0.Coords) (j : Fin (k0_t1_loop i).trips), k0_off8 i j = ![j.val, 128 * 3, 0] := by
  decide +kernel
theorem off_dk3 : ∀ i : grid0.Coords, k0_off20 i 0#32 = ![256 * (2 * (i 1).val), 128 * 3] := by decide +kernel
theorem off_dt3 : ∀ i : grid0.Coords, k0_off24 i 0#32 = ![2 * (i 1).val, 128 * 3, 0] := by decide +kernel
theorem off_ek3 : ∀ i : grid0.Coords, k0_off20 i 1#32 = ![256 * (2 * (i 1).val + 1), 128 * 3] := by decide +kernel
theorem off_et3 : ∀ i : grid0.Coords, k0_off24 i 1#32 = ![2 * (i 1).val + 1, 128 * 3, 0] := by decide +kernel

end Cert.Mla

end
-- ==== Proof.Mla.Mask.lean ====
module

public import proofs.«01_k».proof.Proof.Mla.Spec
public import proofs.«01_k».proof.Proof.Mla.Offsets
public import Idealize.ShloMosaic.Lib.PackedFields
public import Idealize.ShloMosaic.Lib.WordCmp

/-!
# Attention backward: the mask of the two tiles after the loop

The body compares chunk numbers, a position shifted right by six. Both positions are below 4096, so the words are the
numbers.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen
open Idealize.ShloMosaic.PackedFields Idealize.ShloMosaic.WordCmp

/-- A position's word, shifted right by six, is its chunk's word. -/
theorem shift6 (u : ArithUnit) {x : BitVec 32} {p : ℕ} (hx : x = BitVec.ofNat 32 p) (hp : p < 8192) :
    IntOp.shrsi u x 6#32 = BitVec.ofNat 32 (p / 64) := by
  subst hx
  refine (shrsi_eq_iff _ 6 (p / 64) (by omega) (by omega)).mpr ?_
  rw [BitVec.toNat_ofNat, Nat.mod_eq_of_lt (by omega)]
  constructor <;> omega

theorem cmp6 {x y : BitVec 32} {p r : ℕ} (hx : x = BitVec.ofNat 32 p) (hy : y = BitVec.ofNat 32 r) (hp : p < 8192)
    (hr : r < 8192) :
    IntOp.cmpi .sle (IntOp.shrsi .vector x 6#32) (IntOp.shrsi .vector y 6#32)
      = BitVec.ofBool (decide (p / 64 ≤ r / 64)) := by
  rw [shift6 _ hx hp, shift6 _ hy hr]
  exact cmpi_sle_ofNat (by omega) (by omega)

theorem mask_d (i : grid0.Coords) (j : Fin 16) (hj : j.val = 2 * (i 1).val) (a : Fin 256) (q : Fin 512) :
    k0_pay91 i (ix2 a q) = BitVec.ofBool (decide (Seen (i 1).val (row j a).val q.val)) := by
  have hn : (i 1).val < 8 := (i 1).isLt
  pointwise [k0_pay91]
  refine cmp6 (p := (row j a).val) (r := 512 * (i 1).val + q.val) ?_ ?_ (by omega) (by omega)
  · apply BitVec.eq_of_toNat_eq
    simp [IntOp.addi, Scalar.muli, Scalar.addi, IntOp.muli, row, hj]
    omega
  · apply BitVec.eq_of_toNat_eq
    simp [IntOp.addi, Scalar.muli, Scalar.addi, IntOp.muli]
    omega

theorem mask_e (i : grid0.Coords) (j : Fin 16) (hj : j.val = 2 * (i 1).val + 1) (a : Fin 256) (q : Fin 256) :
    kernelRun0_B.sl.r_31 i (ix2 a q) = BitVec.ofBool (decide (Seen (i 1).val (row j a).val (late q).val)) := by
  have hn : (i 1).val < 8 := (i 1).isLt
  have hl : (late q).val = 256 + q.val := rfl
  pointwise [kernelRun0_B.sl.r_31, kernelRun0_B.sl.r_30, kernelRun0_B.sl.r_29, k0_pay136, k0_pay135, k0_pay134]
  refine cmp6 (p := (row j a).val) (r := 512 * (i 1).val + (late q).val) ?_ ?_ (by omega) (by omega)
  · apply BitVec.eq_of_toNat_eq
    simp [IntOp.addi, Scalar.muli, Scalar.addi, IntOp.muli, row, hj]
    omega
  · apply BitVec.eq_of_toNat_eq
    simp [IntOp.addi, Scalar.muli, Scalar.addi, IntOp.muli, hl]
    omega

/-- Selecting by a decided condition. -/
theorem select_decide {P : Prop} [Decidable P] (x y : EReal) :
    Scalar.select (BitVec.ofBool (decide P)) x y = if P then x else y := by
  by_cases h : P
  · rw [if_pos h, decide_eq_true h]; rfl
  · rw [if_neg h, decide_eq_false h]; rfl

end Cert.Mla

end
-- ==== Proof.Mla.MatLoop.lean ====
module

public import proofs.«01_k».proof.Proof.Mla.Mask

/-!
# Attention backward: weights and score gradients, a tile of the loop

Every key of a tile of the loop is seen by every query of the point, so the body does not mask it.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
        Memref sig .tc .vmem S512x512 .f32) (harg6 : arg6.IsWhole) (arg7 : Memref sig .tc .vmem S4x1x1x512 .f32)
            (harg7 : arg7.IsWhole) (arg8 : Memref sig .tc .vmem S4x1x1x512 .f32) (harg8 : arg8.IsWhole)

/-- The weights of head 0. -/
theorem w_t0 (B : Blocks) (i : grid0.Coords) (k : Fin (k0_t1_loop i).trips) (j : Fin 16) (hj : j.val = k.val) (a :
    Fin 256) (q : Fin 512) :
    trip_k0_t1.sl.r_15 (F := Ideal) i arg2 arg3 arg7 (harg2.unread B.q) (harg3.unread B.k) (harg7.unread B.lse) k
        (ix2 a q)
      = weight B (i 1).val 0 (row j a) q := by
  have hs : Seen (i 1).val (row j a).val q.val := by
    have := k.isLt; have := trips1 i
    show (256 * j.val + a.val) / 64 ≤ (512 * (i 1).val + q.val) / 64
    omega
  have hk : k0_off1 i k = ![256 * j.val, 128 * (0 : Fin 4).val] := by rw [hj]; exact off_k0 i k
  pointwise [trip_k0_t1.sl.r_15, trip_k0_t1.sl.r_8, k0_pay20, k0_pay12, k0_pay19, k0_pay4]
  simp only [rd_tile arg3 _ j 0 _ hk, rd_head arg2 _ 0 (off := ![0, 0]) _ rfl, rd_row arg7 _ 0 (off := ![0, 0, 0,
      0]) _ rfl, Memref.IsWhole.read_unread]
  rw [weight, if_pos hs]
  rfl

/-- The weights of head 1. -/
theorem w_t1 (B : Blocks) (i : grid0.Coords) (k : Fin (k0_t1_loop i).trips) (j : Fin 16) (hj : j.val = k.val) (a :
    Fin 256) (q : Fin 512) :
    trip_k0_t1.sl.r_18 (F := Ideal) i arg2 arg3 arg7 (harg2.unread B.q) (harg3.unread B.k) (harg7.unread B.lse) k
        (ix2 a q)
      = weight B (i 1).val 1 (row j a) q := by
  have hs : Seen (i 1).val (row j a).val q.val := by
    have := k.isLt; have := trips1 i
    show (256 * j.val + a.val) / 64 ≤ (512 * (i 1).val + q.val) / 64
    omega
  have hk : k0_off2 i k = ![256 * j.val, 128 * (1 : Fin 4).val] := by rw [hj]; exact off_k1 i k
  pointwise [trip_k0_t1.sl.r_18, trip_k0_t1.sl.r_17, k0_pay23, trip_k0_t1.sl.r_9, k0_pay22, k0_pay13, k0_pay5]
  simp only [rd_tile arg3 _ j 1 _ hk, rd_head arg2 _ 1 (off := ![0, 128]) _ rfl, rd_row arg7 _ 1 (off := ![1, 0, 0,
      0]) _ rfl, Memref.IsWhole.read_unread]
  rw [weight, if_pos hs]
  rfl

/-- The weights of head 2. -/
theorem w_t2 (B : Blocks) (i : grid0.Coords) (k : Fin (k0_t1_loop i).trips) (j : Fin 16) (hj : j.val = k.val) (a :
    Fin 256) (q : Fin 512) :
    trip_k0_t1.sl.r_20 (F := Ideal) i arg2 arg3 arg7 (harg2.unread B.q) (harg3.unread B.k) (harg7.unread B.lse) k
        (ix2 a q)
      = weight B (i 1).val 2 (row j a) q := by
  have hs : Seen (i 1).val (row j a).val q.val := by
    have := k.isLt; have := trips1 i
    show (256 * j.val + a.val) / 64 ≤ (512 * (i 1).val + q.val) / 64
    omega
  have hk : k0_off3 i k = ![256 * j.val, 128 * (2 : Fin 4).val] := by rw [hj]; exact off_k2 i k
  pointwise [trip_k0_t1.sl.r_20, trip_k0_t1.sl.r_10, k0_pay26, k0_pay14, k0_pay25, k0_pay6]
  simp only [rd_tile arg3 _ j 2 _ hk, rd_head arg2 _ 2 (off := ![0, 256]) _ rfl, rd_row arg7 _ 2 (off := ![2, 0, 0,
      0]) _ rfl, Memref.IsWhole.read_unread]
  rw [weight, if_pos hs]
  rfl

/-- The weights of head 3. -/
theorem w_t3 (B : Blocks) (i : grid0.Coords) (k : Fin (k0_t1_loop i).trips) (j : Fin 16) (hj : j.val = k.val) (a :
    Fin 256) (q : Fin 512) :
    trip_k0_t1.sl.r_22 (F := Ideal) i arg2 arg3 arg7 (harg2.unread B.q) (harg3.unread B.k) (harg7.unread B.lse) k
        (ix2 a q)
      = weight B (i 1).val 3 (row j a) q := by
  have hs : Seen (i 1).val (row j a).val q.val := by
    have := k.isLt; have := trips1 i
    show (256 * j.val + a.val) / 64 ≤ (512 * (i 1).val + q.val) / 64
    omega
  have hk : k0_off4 i k = ![256 * j.val, 128 * (3 : Fin 4).val] := by rw [hj]; exact off_k3 i k
  pointwise [trip_k0_t1.sl.r_22, trip_k0_t1.sl.r_11, k0_pay29, trip_k0_t1.sl.r_3, k0_pay15, k0_pay28, k0_pay7]
  simp only [rd_tile arg3 _ j 3 _ hk, rd_head arg2 _ 3 (off := ![0, 384]) _ rfl, rd_row arg7 _ 3 (off := ![3, 0, 0,
      0]) _ rfl, Memref.IsWhole.read_unread]
  rw [weight, if_pos hs]
  rfl

/-- The score gradients of head 0. -/
theorem s_t0 (B : Blocks) (i : grid0.Coords) (k : Fin (k0_t1_loop i).trips) (j : Fin 16) (hj : j.val = k.val) (a :
    Fin 256) (q : Fin 512) :
    trip_k0_t1.sl.r_16 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 0 (row j a) q := by
  have hs : Seen (i 1).val (row j a).val q.val := by
    have := k.isLt; have := trips1 i
    show (256 * j.val + a.val) / 64 ≤ (512 * (i 1).val + q.val) / 64
    omega
  have hk : k0_off1 i k = ![256 * j.val, 128 * (0 : Fin 4).val] := by rw [hj]; exact off_k0 i k
  pointwise [trip_k0_t1.sl.r_16, trip_k0_t1.sl.r_4, trip_k0_t1.sl.r_8, k0_pay21, k0_pay8, k0_pay12, k0_pay19, k0_pay4]
  simp only [rd_tile arg3 _ j 0 _ hk, rd_head arg2 _ 0 (off := ![0, 0]) _ rfl, rd_row arg7 _ 0 (off := ![0, 0, 0,
      0]) _ rfl, rd_tile arg4 _ j 0 _ hk, rd_head arg6 _ 0 (off := ![0, 0]) _ rfl, rd_row arg8 _ 0 (off := ![0, 0,
          0, 0]) _ rfl, Memref.IsWhole.read_unread]
  rw [dscore, weight, if_pos hs]
  rfl

/-- The score gradients of head 1. -/
theorem s_t1 (B : Blocks) (i : grid0.Coords) (k : Fin (k0_t1_loop i).trips) (j : Fin 16) (hj : j.val = k.val) (a :
    Fin 256) (q : Fin 512) :
    trip_k0_t1.sl.r_19 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 1 (row j a) q := by
  have hs : Seen (i 1).val (row j a).val q.val := by
    have := k.isLt; have := trips1 i
    show (256 * j.val + a.val) / 64 ≤ (512 * (i 1).val + q.val) / 64
    omega
  have hk : k0_off2 i k = ![256 * j.val, 128 * (1 : Fin 4).val] := by rw [hj]; exact off_k1 i k
  pointwise [trip_k0_t1.sl.r_19, trip_k0_t1.sl.r_12, trip_k0_t1.sl.r_17, k0_pay24, trip_k0_t1.sl.r_5, k0_pay16,
      trip_k0_t1.sl.r_9, k0_pay22, k0_pay9, k0_pay13, k0_pay5]
  simp only [rd_tile arg3 _ j 1 _ hk, rd_head arg2 _ 1 (off := ![0, 128]) _ rfl, rd_row arg7 _ 1 (off := ![1, 0, 0,
      0]) _ rfl, rd_tile arg4 _ j 1 _ hk, rd_head arg6 _ 1 (off := ![0, 128]) _ rfl, rd_row arg8 _ 1 (off := ![1,
          0, 0, 0]) _ rfl, Memref.IsWhole.read_unread]
  rw [dscore, weight, if_pos hs]
  rfl

/-- The score gradients of head 2. -/
theorem s_t2 (B : Blocks) (i : grid0.Coords) (k : Fin (k0_t1_loop i).trips) (j : Fin 16) (hj : j.val = k.val) (a :
    Fin 256) (q : Fin 512) :
    trip_k0_t1.sl.r_21 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 2 (row j a) q := by
  have hs : Seen (i 1).val (row j a).val q.val := by
    have := k.isLt; have := trips1 i
    show (256 * j.val + a.val) / 64 ≤ (512 * (i 1).val + q.val) / 64
    omega
  have hk : k0_off3 i k = ![256 * j.val, 128 * (2 : Fin 4).val] := by rw [hj]; exact off_k2 i k
  pointwise [trip_k0_t1.sl.r_21, trip_k0_t1.sl.r_10, trip_k0_t1.sl.r_13, k0_pay27, k0_pay14, trip_k0_t1.sl.r_6,
      k0_pay17, k0_pay25, k0_pay6, k0_pay10]
  simp only [rd_tile arg3 _ j 2 _ hk, rd_head arg2 _ 2 (off := ![0, 256]) _ rfl, rd_row arg7 _ 2 (off := ![2, 0, 0,
      0]) _ rfl, rd_tile arg4 _ j 2 _ hk, rd_head arg6 _ 2 (off := ![0, 256]) _ rfl, rd_row arg8 _ 2 (off := ![2,
          0, 0, 0]) _ rfl, Memref.IsWhole.read_unread]
  rw [dscore, weight, if_pos hs]
  rfl

/-- The score gradients of head 3. -/
theorem s_t3 (B : Blocks) (i : grid0.Coords) (k : Fin (k0_t1_loop i).trips) (j : Fin 16) (hj : j.val = k.val) (a :
    Fin 256) (q : Fin 512) :
    trip_k0_t1.sl.r_23 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 3 (row j a) q := by
  have hs : Seen (i 1).val (row j a).val q.val := by
    have := k.isLt; have := trips1 i
    show (256 * j.val + a.val) / 64 ≤ (512 * (i 1).val + q.val) / 64
    omega
  have hk : k0_off4 i k = ![256 * j.val, 128 * (3 : Fin 4).val] := by rw [hj]; exact off_k3 i k
  pointwise [trip_k0_t1.sl.r_23, trip_k0_t1.sl.r_11, trip_k0_t1.sl.r_14, k0_pay30, trip_k0_t1.sl.r_3, k0_pay15,
      trip_k0_t1.sl.r_7, k0_pay18, k0_pay28, k0_pay7, k0_pay11]
  simp only [rd_tile arg3 _ j 3 _ hk, rd_head arg2 _ 3 (off := ![0, 384]) _ rfl, rd_row arg7 _ 3 (off := ![3, 0, 0,
      0]) _ rfl, rd_tile arg4 _ j 3 _ hk, rd_head arg6 _ 3 (off := ![0, 384]) _ rfl, rd_row arg8 _ 3 (off := ![3,
          0, 0, 0]) _ rfl, Memref.IsWhole.read_unread]
  rw [dscore, weight, if_pos hs]
  rfl

end Cert.Mla

end
-- ==== Proof.Mla.PieceLoop.lean ====
module

public import proofs.«01_k».proof.Proof.Mla.MatLoop

/-!
# Attention backward: stored for a tile of the loop

Each store of a trip adds a tile's product to what it loads.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole)

/-- The value gradients stored for head 0. -/
theorem v_t0 (B : Blocks) (i : grid0.Coords) (k : Fin (k0_t1_loop i).trips) (j : Fin 16) (hj : j.val = k.val) (u :
    Vec Ideal S256x128 .f32) (a : Fin 256) (b : Fin 128) :
    k0_pay31 (trip_k0_t1.sl.r_4 (F := Ideal) arg6 (harg6.unread B.g)) (trip_k0_t1.sl.r_15 (F := Ideal) i arg2 arg3
        arg7 (harg2.unread B.q) (harg3.unread B.k) (harg7.unread B.lse) k) u (ix2 a b)
      = u (ix2 a b) + addV B (i 1).val 0 (row j a) b := by
  pointwise [k0_pay31, trip_k0_t1.sl.r_4, k0_pay8]
  simp only [w_t0 arg2 harg2 arg3 harg3 arg7 harg7 B i k j hj, rd_head arg6 _ 0 (off := ![0, 0]) _ rfl,
      Memref.IsWhole.read_unread]
  rfl

/-- The value gradients stored for head 1. -/
theorem v_t1 (B : Blocks) (i : grid0.Coords) (k : Fin (k0_t1_loop i).trips) (j : Fin 16) (hj : j.val = k.val) (u :
    Vec Ideal S256x128 .f32) (a : Fin 256) (b : Fin 128) :
    k0_pay34 (trip_k0_t1.sl.r_5 (F := Ideal) arg6 (harg6.unread B.g)) (trip_k0_t1.sl.r_18 (F := Ideal) i arg2 arg3
        arg7 (harg2.unread B.q) (harg3.unread B.k) (harg7.unread B.lse) k) u (ix2 a b)
      = u (ix2 a b) + addV B (i 1).val 1 (row j a) b := by
  pointwise [k0_pay34, trip_k0_t1.sl.r_5, k0_pay9]
  simp only [w_t1 arg2 harg2 arg3 harg3 arg7 harg7 B i k j hj, rd_head arg6 _ 1 (off := ![0, 128]) _ rfl,
      Memref.IsWhole.read_unread]
  rfl

/-- The value gradients stored for head 2. -/
theorem v_t2 (B : Blocks) (i : grid0.Coords) (k : Fin (k0_t1_loop i).trips) (j : Fin 16) (hj : j.val = k.val) (u :
    Vec Ideal S256x128 .f32) (a : Fin 256) (b : Fin 128) :
    k0_pay38 (trip_k0_t1.sl.r_6 (F := Ideal) arg6 (harg6.unread B.g)) (trip_k0_t1.sl.r_20 (F := Ideal) i arg2 arg3
        arg7 (harg2.unread B.q) (harg3.unread B.k) (harg7.unread B.lse) k) u (ix2 a b)
      = u (ix2 a b) + addV B (i 1).val 2 (row j a) b := by
  pointwise [k0_pay38, trip_k0_t1.sl.r_6, k0_pay10]
  simp only [w_t2 arg2 harg2 arg3 harg3 arg7 harg7 B i k j hj, rd_head arg6 _ 2 (off := ![0, 256]) _ rfl,
      Memref.IsWhole.read_unread]
  rfl

/-- The value gradients stored for head 3. -/
theorem v_t3 (B : Blocks) (i : grid0.Coords) (k : Fin (k0_t1_loop i).trips) (j : Fin 16) (hj : j.val = k.val) (u :
    Vec Ideal S256x128 .f32) (a : Fin 256) (b : Fin 128) :
    k0_pay85 (k0_pay41 u) (trip_k0_t1.sl.r_26 (F := Ideal) i arg2 arg3 arg6 arg7 (harg2.unread B.q) (harg3.unread
        B.k) (harg6.unread B.g) (harg7.unread B.lse) k) (ix2 a b)
      = u (ix2 a b) + addV B (i 1).val 3 (row j a) b := by
  pointwise [k0_pay85, k0_pay41, trip_k0_t1.sl.r_26, k0_pay42, trip_k0_t1.sl.r_7, k0_pay11]
  simp only [w_t3 arg2 harg2 arg3 harg3 arg7 harg7 B i k j hj, rd_head arg6 _ 3 (off := ![0, 384]) _ rfl,
      Memref.IsWhole.read_unread]
  rfl

/-- The key gradients stored for head 0. -/
theorem k_t0 (B : Blocks) (i : grid0.Coords) (k : Fin (k0_t1_loop i).trips) (j : Fin 16) (hj : j.val = k.val) (u :
    Vec Ideal S256x128 .f32) (a : Fin 256) (b : Fin 128) :
    k0_pay32 (trip_k0_t1.sl.r (F := Ideal) arg2 (harg2.unread B.q)) (trip_k0_t1.sl.r_16 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 0 (row j a) b := by
  pointwise [k0_pay32, trip_k0_t1.sl.r, k0_pay4]
  simp only [s_t0 arg2 harg2 arg3 harg3 arg4 harg4 arg6 harg6 arg7 harg7 arg8 harg8 B i k j hj, rd_head arg2 _ 0
      (off := ![0, 0]) _ rfl, Memref.IsWhole.read_unread]
  rfl

/-- The key gradients stored for head 1. -/
theorem k_t1 (B : Blocks) (i : grid0.Coords) (k : Fin (k0_t1_loop i).trips) (j : Fin 16) (hj : j.val = k.val) (u :
    Vec Ideal S256x128 .f32) (a : Fin 256) (b : Fin 128) :
    k0_pay35 (trip_k0_t1.sl.r_1 (F := Ideal) arg2 (harg2.unread B.q)) (trip_k0_t1.sl.r_19 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 1 (row j a) b := by
  pointwise [k0_pay35, trip_k0_t1.sl.r_1, k0_pay5]
  simp only [s_t1 arg2 harg2 arg3 harg3 arg4 harg4 arg6 harg6 arg7 harg7 arg8 harg8 B i k j hj, rd_head arg2 _ 1
      (off := ![0, 128]) _ rfl, Memref.IsWhole.read_unread]
  rfl

/-- The key gradients stored for head 2. -/
theorem k_t2 (B : Blocks) (i : grid0.Coords) (k : Fin (k0_t1_loop i).trips) (j : Fin 16) (hj : j.val = k.val) (u :
    Vec Ideal S256x128 .f32) (a : Fin 256) (b : Fin 128) :
    k0_pay39 (trip_k0_t1.sl.r_2 (F := Ideal) arg2 (harg2.unread B.q)) (trip_k0_t1.sl.r_21 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 2 (row j a) b := by
  pointwise [k0_pay39, trip_k0_t1.sl.r_2, k0_pay6]
  simp only [s_t2 arg2 harg2 arg3 harg3 arg4 harg4 arg6 harg6 arg7 harg7 arg8 harg8 B i k j hj, rd_head arg2 _ 2
      (off := ![0, 256]) _ rfl, Memref.IsWhole.read_unread]
  rfl

/-- The key gradients stored for head 3. -/
theorem k_t3 (B : Blocks) (i : grid0.Coords) (k : Fin (k0_t1_loop i).trips) (j : Fin 16) (hj : j.val = k.val) (u :
    Vec Ideal S256x128 .f32) (a : Fin 256) (b : Fin 128) :
    k0_pay86 (trip_k0_t1.sl.r_3 (F := Ideal) arg2 (harg2.unread B.q)) (trip_k0_t1.sl.r_23 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 3 (row j a) b := by
  pointwise [k0_pay86, trip_k0_t1.sl.r_3, k0_pay7]
  simp only [s_t3 arg2 harg2 arg3 harg3 arg4 harg4 arg6 harg6 arg7 harg7 arg8 harg8 B i k j hj, rd_head arg2 _ 3
      (off := ![0, 384]) _ rfl, Memref.IsWhole.read_unread]
  rfl

/-- The query gradients stored for head 0. -/
theorem q_t0 (B : Blocks) (i : grid0.Coords) (k : Fin (k0_t1_loop i).trips) (j : Fin 16) (hj : j.val = k.val) (u :
    Vec Ideal S1x128x512 .f32)
    (inb : ∀ a : Fin 3, (k0_off5 i k) a + S1x128x256.size a ≤ S16x512x256.size a) (b : Fin 128) (q : Fin 512) :
    k0_pay33 (trip_k0_t1.sl.r_16 (F := Ideal) i arg2 arg3 arg4 arg6 arg7 arg8 (harg2.unread B.q) (harg3.unread B.k)
        (harg4.unread B.v) (harg6.unread B.g) (harg7.unread B.lse) (harg8.unread B.dl) k) u (View.readAt (Elt
        Ideal) arg5.view (Rect.unit (s := S16x512x256) (k0_off5 i k) S1x128x256.size inb).toLoadRect (harg5.unread
        B.kt)) (ix3 0 b q)
      = u (ix3 0 b q) + addQ B (i 1).val j 0 b q := by
  have hk : k0_off5 i k = ![j.val, 128 * (0 : Fin 4).val, 0] := by rw [hj]; exact off_t0 i k
  pointwise [k0_pay33]
  simp only [s_t0 arg2 harg2 arg3 harg3 arg4 harg4 arg6 harg6 arg7 harg7 arg8 harg8 B i k j hj, rd_kt arg5 _ j 0 _
      hk, Memref.IsWhole.read_unread]
  rfl

/-- The query gradients stored for head 1. -/
theorem q_t1 (B : Blocks) (i : grid0.Coords) (k : Fin (k0_t1_loop i).trips) (j : Fin 16) (hj : j.val = k.val) (u :
    Vec Ideal S1x128x512 .f32)
    (inb : ∀ a : Fin 3, (k0_off6 i k) a + S1x128x256.size a ≤ S16x512x256.size a) (b : Fin 128) (q : Fin 512) :
    k0_pay37 (trip_k0_t1.sl.r_19 (F := Ideal) i arg2 arg3 arg4 arg6 arg7 arg8 (harg2.unread B.q) (harg3.unread B.k)
        (harg4.unread B.v) (harg6.unread B.g) (harg7.unread B.lse) (harg8.unread B.dl) k) (k0_pay36 u) (View.readAt
        (Elt Ideal) arg5.view (Rect.unit (s := S16x512x256) (k0_off6 i k) S1x128x256.size inb).toLoadRect
        (harg5.unread B.kt)) (ix3 0 b q)
      = u (ix3 0 b q) + addQ B (i 1).val j 1 b q := by
  have hk : k0_off6 i k = ![j.val, 128 * (1 : Fin 4).val, 0] := by rw [hj]; exact off_t1 i k
  pointwise [k0_pay37, k0_pay36]
  simp only [s_t1 arg2 harg2 arg3 harg3 arg4 harg4 arg6 harg6 arg7 harg7 arg8 harg8 B i k j hj, rd_kt arg5 _ j 1 _
      hk, Memref.IsWhole.read_unread]
  rfl

/-- The query gradients stored for head 2. -/
theorem q_t2 (B : Blocks) (i : grid0.Coords) (k : Fin (k0_t1_loop i).trips) (j : Fin 16) (hj : j.val = k.val) (u :
    Vec Ideal S1x128x512 .f32)
    (inb : ∀ a : Fin 3, (k0_off7 i k) a + S1x128x256.size a ≤ S16x512x256.size a) (b : Fin 128) (q : Fin 512) :
    k0_pay40 (trip_k0_t1.sl.r_21 (F := Ideal) i arg2 arg3 arg4 arg6 arg7 arg8 (harg2.unread B.q) (harg3.unread B.k)
        (harg4.unread B.v) (harg6.unread B.g) (harg7.unread B.lse) (harg8.unread B.dl) k) u (View.readAt (Elt
        Ideal) arg5.view (Rect.unit (s := S16x512x256) (k0_off7 i k) S1x128x256.size inb).toLoadRect (harg5.unread
        B.kt)) (ix3 0 b q)
      = u (ix3 0 b q) + addQ B (i 1).val j 2 b q := by
  have hk : k0_off7 i k = ![j.val, 128 * (2 : Fin 4).val, 0] := by rw [hj]; exact off_t2 i k
  pointwise [k0_pay40]
  simp only [s_t2 arg2 harg2 arg3 harg3 arg4 harg4 arg6 harg6 arg7 harg7 arg8 harg8 B i k j hj, rd_kt arg5 _ j 2 _
      hk, Memref.IsWhole.read_unread]
  rfl

/-- The query gradients stored for head 3. -/
theorem q_t3 (B : Blocks) (i : grid0.Coords) (k : Fin (k0_t1_loop i).trips) (j : Fin 16) (hj : j.val = k.val) (u :
    Vec Ideal S1x128x512 .f32)
    (inb : ∀ a : Fin 3, (k0_off8 i k) a + S1x128x256.size a ≤ S16x512x256.size a) (b : Fin 128) (q : Fin 512) :
    k0_pay87 (trip_k0_t1.sl.r_23 (F := Ideal) i arg2 arg3 arg4 arg6 arg7 arg8 (harg2.unread B.q) (harg3.unread B.k)
        (harg4.unread B.v) (harg6.unread B.g) (harg7.unread B.lse) (harg8.unread B.dl) k) u (View.readAt (Elt
        Ideal) arg5.view (Rect.unit (s := S16x512x256) (k0_off8 i k) S1x128x256.size inb).toLoadRect (harg5.unread
        B.kt)) (ix3 0 b q)
      = u (ix3 0 b q) + addQ B (i 1).val j 3 b q := by
  have hk : k0_off8 i k = ![j.val, 128 * (3 : Fin 4).val, 0] := by rw [hj]; exact off_t3 i k
  pointwise [k0_pay87]
  simp only [s_t3 arg2 harg2 arg3 harg3 arg4 harg4 arg6 harg6 arg7 harg7 arg8 harg8 B i k j hj, rd_kt arg5 _ j 3 _
      hk, Memref.IsWhole.read_unread]
  rfl

end Cert.Mla

end
-- ==== Proof.Mla.Loop.lean ====
module

public import proofs.«01_k».proof.Proof.Mla.Stores
public import proofs.«01_k».proof.Proof.Mla.PieceLoop

/-!
# Attention backward: the loop over the key tiles below the diagonal

A trip adds one tile's products to the three gradient buffers; the loop adds those of all tiles below the diagonal.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4x128x512 .f32) (harg12 :
    arg12.IsWhole)

/-- The key gradients after a trip. -/
theorem trip_k (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (S : State) (hS : Holds arg10
    f10 S) :
    Holds arg10 (arg10.view.writes (Elt Ideal) f10 (tripL_k0_t1 (F := Ideal) 𝒱 c bd i arg2 harg2 arg3 harg3 arg4
        harg4 arg5 harg5 arg6 harg6 arg7 harg7 arg8 harg8 arg9 harg9 arg10 harg10 arg11 harg11 arg12 harg12
        (harg2.unread B.q) (harg3.unread B.k) (harg4.unread B.v) (harg5.unread B.kt) (harg6.unread B.g)
        (harg7.unread B.lse) (harg8.unread B.dl) k f10 f11 f12).1) (bump S j.val (addK B (i 1).val)) := by
  unfold tripL_k0_t1 trip_k0_t1
  dsimp only
  rw [← put4]
  have o0 : k0_off1 i k = ![256 * j.val, 128 * (0 : Fin 4).val] := by rw [hj]; exact off_k0 i k
  have o1 : k0_off2 i k = ![256 * j.val, 128 * (1 : Fin 4).val] := by rw [hj]; exact off_k1 i k
  have o2 : k0_off3 i k = ![256 * j.val, 128 * (2 : Fin 4).val] := by rw [hj]; exact off_k2 i k
  have o3 : k0_off4 i k = ![256 * j.val, 128 * (3 : Fin 4).val] := by rw [hj]; exact off_k3 i k
  refine holds_put arg10 _ _ _ _ ?_ j 3 _ o3 _ fun a b => (k_t3 arg2 harg2 arg3 harg3 arg4 harg4 arg6 harg6 arg7
      harg7 arg8 harg8 B i k j hj _ a b).trans (congrArg (· + _) (hS.load j 3 _ o3 a b))
  refine holds_put arg10 _ _ _ _ ?_ j 2 _ o2 _ fun a b => (k_t2 arg2 harg2 arg3 harg3 arg4 harg4 arg6 harg6 arg7
      harg7 arg8 harg8 B i k j hj _ a b).trans (congrArg (· + _) (hS.load j 2 _ o2 a b))
  refine holds_put arg10 _ _ _ _ ?_ j 1 _ o1 _ fun a b => (k_t1 arg2 harg2 arg3 harg3 arg4 harg4 arg6 harg6 arg7
      harg7 arg8 harg8 B i k j hj _ a b).trans (congrArg (· + _) (hS.load j 1 _ o1 a b))
  refine holds_put arg10 _ _ _ _ ?_ j 0 _ o0 _ fun a b => (k_t0 arg2 harg2 arg3 harg3 arg4 harg4 arg6 harg6 arg7
      harg7 arg8 harg8 B i k j hj _ a b).trans (congrArg (· + _) (hS.load j 0 _ o0 a b))
  exact hS

/-- The value gradients after a trip. -/
theorem trip_v (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (S : State) (hS : Holds arg11
    f11 S) :
    Holds arg11 (arg11.view.writes (Elt Ideal) f11 (tripL_k0_t1 (F := Ideal) 𝒱 c bd i arg2 harg2 arg3 harg3 arg4
        harg4 arg5 harg5 arg6 harg6 arg7 harg7 arg8 harg8 arg9 harg9 arg10 harg10 arg11 harg11 arg12 harg12
        (harg2.unread B.q) (harg3.unread B.k) (harg4.unread B.v) (harg5.unread B.kt) (harg6.unread B.g)
        (harg7.unread B.lse) (harg8.unread B.dl) k f10 f11 f12).2.1) (bump S j.val (addV B (i 1).val)) := by
  unfold tripL_k0_t1 trip_k0_t1
  dsimp only
  rw [← put4]
  have o0 : k0_off1 i k = ![256 * j.val, 128 * (0 : Fin 4).val] := by rw [hj]; exact off_k0 i k
  have o1 : k0_off2 i k = ![256 * j.val, 128 * (1 : Fin 4).val] := by rw [hj]; exact off_k1 i k
  have o2 : k0_off3 i k = ![256 * j.val, 128 * (2 : Fin 4).val] := by rw [hj]; exact off_k2 i k
  have o3 : k0_off4 i k = ![256 * j.val, 128 * (3 : Fin 4).val] := by rw [hj]; exact off_k3 i k
  refine holds_put arg11 _ _ _ _ ?_ j 3 _ o3 _ fun a b => (v_t3 arg2 harg2 arg3 harg3 arg6 harg6 arg7 harg7 B i k j
      hj _ a b).trans (congrArg (· + _) (hS.load j 3 _ o3 a b))
  refine holds_put arg11 _ _ _ _ ?_ j 2 _ o2 _ fun a b => (v_t2 arg2 harg2 arg3 harg3 arg6 harg6 arg7 harg7 B i k j
      hj _ a b).trans (congrArg (· + _) (hS.load j 2 _ o2 a b))
  refine holds_put arg11 _ _ _ _ ?_ j 1 _ o1 _ fun a b => (v_t1 arg2 harg2 arg3 harg3 arg6 harg6 arg7 harg7 B i k j
      hj _ a b).trans (congrArg (· + _) (hS.load j 1 _ o1 a b))
  refine holds_put arg11 _ _ _ _ ?_ j 0 _ o0 _ fun a b => (v_t0 arg2 harg2 arg3 harg3 arg6 harg6 arg7 harg7 B i k j
      hj _ a b).trans (congrArg (· + _) (hS.load j 0 _ o0 a b))
  exact hS

/-- The query gradients after a trip. -/
theorem trip_q (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (S : QState) (hS : QHolds arg12
    f12 S) :
    QHolds arg12 (arg12.view.writes (Elt Ideal) f12 (tripL_k0_t1 (F := Ideal) 𝒱 c bd i arg2 harg2 arg3 harg3 arg4
        harg4 arg5 harg5 arg6 harg6 arg7 harg7 arg8 harg8 arg9 harg9 arg10 harg10 arg11 harg11 arg12 harg12
        (harg2.unread B.q) (harg3.unread B.k) (harg4.unread B.v) (harg5.unread B.kt) (harg6.unread B.g)
        (harg7.unread B.lse) (harg8.unread B.dl) k f10 f11 f12).2.2) (fun h d q => S h d q + addQ B (i 1).val j h d
        q) := by
  unfold tripL_k0_t1 trip_k0_t1
  dsimp only
  rw [← qput4]
  refine qholds_put arg12 _ _ _ _ ?_ 3 _ rfl _ fun b q => (q_t3 arg2 harg2 arg3 harg3 arg4 harg4 arg5 harg5 arg6
      harg6 arg7 harg7 arg8 harg8 B i k j hj _ _ b q).trans (congrArg (· + _) (hS.load 3 _ rfl b q))
  refine qholds_put arg12 _ _ _ _ ?_ 2 _ rfl _ fun b q => (q_t2 arg2 harg2 arg3 harg3 arg4 harg4 arg5 harg5 arg6
      harg6 arg7 harg7 arg8 harg8 B i k j hj _ _ b q).trans (congrArg (· + _) (hS.load 2 _ rfl b q))
  refine qholds_put arg12 _ _ _ _ ?_ 1 _ rfl _ fun b q => (q_t1 arg2 harg2 arg3 harg3 arg4 harg4 arg5 harg5 arg6
      harg6 arg7 harg7 arg8 harg8 B i k j hj _ _ b q).trans (congrArg (· + _) (hS.load 1 _ rfl b q))
  refine qholds_put arg12 _ _ _ _ ?_ 0 _ rfl _ fun b q => (q_t0 arg2 harg2 arg3 harg3 arg4 harg4 arg5 harg5 arg6
      harg6 arg7 harg7 arg8 harg8 B i k j hj _ _ b q).trans (congrArg (· + _) (hS.load 0 _ rfl b q))
  exact hS

/-- The key gradients after the first `m` trips. -/
theorem loop_k (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (S : State) (hS : Holds arg10 f10 S) (m : ℕ) (hm : m ≤ (k0_t1_loop i).trips) :
    Holds arg10 (arg10.view.writes (Elt Ideal) f10 (pb_k0_t1 (F := Ideal) 𝒱 c bd i arg2 harg2 arg3 harg3 arg4 harg4
        arg5 harg5 arg6 harg6 arg7 harg7 arg8 harg8 arg9 harg9 arg10 harg10 arg11 harg11 arg12 harg12 (harg2.unread
        B.q) (harg3.unread B.k) (harg4.unread B.v) (harg5.unread B.kt) (harg6.unread B.g) (harg7.unread B.lse)
        (harg8.unread B.dl) f10 f11 f12 m).1) (upto S m (addK B (i 1).val)) := by
  induction m with
  | zero => rw [upto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 (harg2.unread B.q) (harg3.unread B.k) (harg4.unread B.v)
        (harg5.unread B.kt) (harg6.unread B.g) (harg7.unread B.lse) (harg8.unread B.dl) f10 f11 f12 ⟨m, hm⟩]
    dsimp only
    rw [View.writes_append, ← bump_upto]
    exact trip_k arg2 harg2 arg3 harg3 arg4 harg4 arg5 harg5 arg6 harg6 arg7 harg7 arg8 harg8 arg9 harg9 arg10
        harg10 arg11 harg11 arg12 harg12 𝒱 c bd B i ⟨m, hm⟩ ⟨m, h16⟩ rfl _ _ _ _ (ih (Nat.le_of_succ_le hm))

/-- The value gradients after the first `m` trips. -/
theorem loop_v (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (S : State) (hS : Holds arg11 f11 S) (m : ℕ) (hm : m ≤ (k0_t1_loop i).trips) :
    Holds arg11 (arg11.view.writes (Elt Ideal) f11 (pb_k0_t1 (F := Ideal) 𝒱 c bd i arg2 harg2 arg3 harg3 arg4 harg4
        arg5 harg5 arg6 harg6 arg7 harg7 arg8 harg8 arg9 harg9 arg10 harg10 arg11 harg11 arg12 harg12 (harg2.unread
        B.q) (harg3.unread B.k) (harg4.unread B.v) (harg5.unread B.kt) (harg6.unread B.g) (harg7.unread B.lse)
        (harg8.unread B.dl) f10 f11 f12 m).2.1) (upto S m (addV B (i 1).val)) := by
  induction m with
  | zero => rw [upto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 (harg2.unread B.q) (harg3.unread B.k) (harg4.unread B.v)
        (harg5.unread B.kt) (harg6.unread B.g) (harg7.unread B.lse) (harg8.unread B.dl) f10 f11 f12 ⟨m, hm⟩]
    dsimp only
    rw [View.writes_append, ← bump_upto]
    exact trip_v arg2 harg2 arg3 harg3 arg4 harg4 arg5 harg5 arg6 harg6 arg7 harg7 arg8 harg8 arg9 harg9 arg10
        harg10 arg11 harg11 arg12 harg12 𝒱 c bd B i ⟨m, hm⟩ ⟨m, h16⟩ rfl _ _ _ _ (ih (Nat.le_of_succ_le hm))

/-- The query gradients after the first `m` trips. -/
theorem loop_q (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (S : QState) (hS : QHolds arg12 f12 S) (m : ℕ) (hm : m ≤ (k0_t1_loop i).trips) :
    QHolds arg12 (arg12.view.writes (Elt Ideal) f12 (pb_k0_t1 (F := Ideal) 𝒱 c bd i arg2 harg2 arg3 harg3 arg4
        harg4 arg5 harg5 arg6 harg6 arg7 harg7 arg8 harg8 arg9 harg9 arg10 harg10 arg11 harg11 arg12 harg12
        (harg2.unread B.q) (harg3.unread B.k) (harg4.unread B.v) (harg5.unread B.kt) (harg6.unread B.g)
        (harg7.unread B.lse) (harg8.unread B.dl) f10 f11 f12 m).2.2) (qupto S m (tileQ B (i 1).val)) := by
  induction m with
  | zero => rw [qupto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 (harg2.unread B.q) (harg3.unread B.k) (harg4.unread B.v)
        (harg5.unread B.kt) (harg6.unread B.g) (harg7.unread B.lse) (harg8.unread B.dl) f10 f11 f12 ⟨m, hm⟩]
    dsimp only
    rw [View.writes_append, qupto_succ, tileQ_of_lt B _ m h16]
    exact trip_q arg2 harg2 arg3 harg3 arg4 harg4 arg5 harg5 arg6 harg6 arg7 harg7 arg8 harg8 arg9 harg9 arg10
        harg10 arg11 harg11 arg12 harg12 𝒱 c bd B i ⟨m, hm⟩ ⟨m, h16⟩ rfl _ _ _ _ (ih (Nat.le_of_succ_le hm))

end Cert.Mla

end
-- ==== Proof.Mla.MatFirst.lean ====
module

public import proofs.«01_k».proof.Proof.Mla.Mask

/-!
# Attention backward: weights and score gradients, the first tile on the diagonal

The tile `2 n` of point `n`, masked, for all 512 queries.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
        Memref sig .tc .vmem S512x512 .f32) (harg6 : arg6.IsWhole) (arg7 : Memref sig .tc .vmem S4x1x1x512 .f32)
            (harg7 : arg7.IsWhole) (arg8 : Memref sig .tc .vmem S4x1x1x512 .f32) (harg8 : arg8.IsWhole)

/-- The weights of head 0. -/
theorem w_d0 (B : Blocks) (i : grid0.Coords) (j : Fin 16) (hj : j.val = 2 * (i 1).val) (a : Fin 256) (q : Fin 512) :
    kernelRun0_B.sl.r_16 (F := Ideal) i arg2 harg2 arg3 harg3 arg7 harg7 B.q B.k B.lse (ix2 a q)
      = weight B (i 1).val 0 (row j a) q := by
  have hk : k0_off17 i 0#32 = ![256 * j.val, 128 * (0 : Fin 4).val] := by rw [hj]; exact off_dk0 i
  pointwise [kernelRun0_B.sl.r_16, kernelRun0_B.sl.r_8, k0_pay109, kernelRun0_B.sl.r, k0_pay100, k0_pay108, k0_pay92]
  rw [mask_d i j hj, select_decide]
  simp only [rd_tile arg3 _ j 0 _ hk, rd_head arg2 _ 0 (off := ![0, 0]) _ rfl, rd_row arg7 _ 0 (off := ![0, 0, 0,
      0]) _ rfl, Memref.IsWhole.read_unread]
  rfl

/-- The weights of head 1. -/
theorem w_d1 (B : Blocks) (i : grid0.Coords) (j : Fin 16) (hj : j.val = 2 * (i 1).val) (a : Fin 256) (q : Fin 512) :
    kernelRun0_B.sl.r_20 (F := Ideal) i arg2 harg2 arg3 harg3 arg7 harg7 B.q B.k B.lse (ix2 a q)
      = weight B (i 1).val 1 (row j a) q := by
  have hk : k0_off18 i 0#32 = ![256 * j.val, 128 * (1 : Fin 4).val] := by rw [hj]; exact off_dk1 i
  pointwise [kernelRun0_B.sl.r_20, kernelRun0_B.sl.r_18, k0_pay113, kernelRun0_B.sl.r_9, k0_pay111, k0_pay101,
      k0_pay93]
  rw [mask_d i j hj, select_decide]
  simp only [rd_tile arg3 _ j 1 _ hk, rd_head arg2 _ 1 (off := ![0, 128]) _ rfl, rd_row arg7 _ 1 (off := ![1, 0, 0,
      0]) _ rfl, Memref.IsWhole.read_unread]
  rfl

/-- The weights of head 2. -/
theorem w_d2 (B : Blocks) (i : grid0.Coords) (j : Fin 16) (hj : j.val = 2 * (i 1).val) (a : Fin 256) (q : Fin 512) :
    kernelRun0_B.sl.r_22 (F := Ideal) i arg2 harg2 arg3 harg3 arg7 harg7 B.q B.k B.lse (ix2 a q)
      = weight B (i 1).val 2 (row j a) q := by
  have hk : k0_off19 i 0#32 = ![256 * j.val, 128 * (2 : Fin 4).val] := by rw [hj]; exact off_dk2 i
  pointwise [kernelRun0_B.sl.r_22, kernelRun0_B.sl.r_10, k0_pay116, k0_pay102, k0_pay115, k0_pay94]
  rw [mask_d i j hj, select_decide]
  simp only [rd_tile arg3 _ j 2 _ hk, rd_head arg2 _ 2 (off := ![0, 256]) _ rfl, rd_row arg7 _ 2 (off := ![2, 0, 0,
      0]) _ rfl, Memref.IsWhole.read_unread]
  rfl

/-- The weights of head 3. -/
theorem w_d3 (B : Blocks) (i : grid0.Coords) (j : Fin 16) (hj : j.val = 2 * (i 1).val) (a : Fin 256) (q : Fin 512) :
    kernelRun0_B.sl.r_24 (F := Ideal) i arg2 harg2 arg3 harg3 arg7 harg7 B.q B.k B.lse (ix2 a q)
      = weight B (i 1).val 3 (row j a) q := by
  have hk : k0_off20 i 0#32 = ![256 * j.val, 128 * (3 : Fin 4).val] := by rw [hj]; exact off_dk3 i
  pointwise [kernelRun0_B.sl.r_24, kernelRun0_B.sl.r_11, k0_pay119, k0_pay103, k0_pay118, k0_pay95]
  rw [mask_d i j hj, select_decide]
  simp only [rd_tile arg3 _ j 3 _ hk, rd_head arg2 _ 3 (off := ![0, 384]) _ rfl, rd_row arg7 _ 3 (off := ![3, 0, 0,
      0]) _ rfl, Memref.IsWhole.read_unread]
  rfl

/-- The score gradients of head 0. -/
theorem s_d0 (B : Blocks) (i : grid0.Coords) (j : Fin 16) (hj : j.val = 2 * (i 1).val) (a : Fin 256) (q : Fin 512) :
    kernelRun0_B.sl.r_17 (F := Ideal) i arg2 harg2 arg3 harg3 arg4 harg4 arg6 harg6 arg7 harg7 arg8 harg8 B.q B.k
        B.v B.g B.lse B.dl (ix2 a q)
      = dscore B (i 1).val 0 (row j a) q := by
  have hk : k0_off17 i 0#32 = ![256 * j.val, 128 * (0 : Fin 4).val] := by rw [hj]; exact off_dk0 i
  pointwise [kernelRun0_B.sl.r_17, kernelRun0_B.sl.cst_33, kernelRun0_B.sl.r_12, kernelRun0_B.sl.r_4,
      kernelRun0_B.sl.r_8, k0_pay110, k0_pay104, k0_pay96, kernelRun0_B.sl.r, k0_pay100, k0_pay108, k0_pay92]
  rw [mask_d i j hj, select_decide]
  simp only [rd_tile arg3 _ j 0 _ hk, rd_head arg2 _ 0 (off := ![0, 0]) _ rfl, rd_row arg7 _ 0 (off := ![0, 0, 0,
      0]) _ rfl, rd_tile arg4 _ j 0 _ hk, rd_head arg6 _ 0 (off := ![0, 0]) _ rfl, rd_row arg8 _ 0 (off := ![0, 0,
          0, 0]) _ rfl, Memref.IsWhole.read_unread]
  rw [dscore, weight, ite_mul, zero_mul]
  rfl

/-- The score gradients of head 1. -/
theorem s_d1 (B : Blocks) (i : grid0.Coords) (j : Fin 16) (hj : j.val = 2 * (i 1).val) (a : Fin 256) (q : Fin 512) :
    kernelRun0_B.sl.r_21 (F := Ideal) i arg2 harg2 arg3 harg3 arg4 harg4 arg6 harg6 arg7 harg7 arg8 harg8 B.q B.k
        B.v B.g B.lse B.dl (ix2 a q)
      = dscore B (i 1).val 1 (row j a) q := by
  have hk : k0_off18 i 0#32 = ![256 * j.val, 128 * (1 : Fin 4).val] := by rw [hj]; exact off_dk1 i
  pointwise [kernelRun0_B.sl.r_21, kernelRun0_B.sl.r_13, kernelRun0_B.sl.r_18, kernelRun0_B.sl.r_19, k0_pay114,
      kernelRun0_B.sl.r_5, k0_pay105, kernelRun0_B.sl.r_9, k0_pay111, k0_pay112, k0_pay97, k0_pay101, k0_pay93]
  rw [mask_d i j hj, select_decide]
  simp only [rd_tile arg3 _ j 1 _ hk, rd_head arg2 _ 1 (off := ![0, 128]) _ rfl, rd_row arg7 _ 1 (off := ![1, 0, 0,
      0]) _ rfl, rd_tile arg4 _ j 1 _ hk, rd_head arg6 _ 1 (off := ![0, 128]) _ rfl, rd_row arg8 _ 1 (off := ![1,
          0, 0, 0]) _ rfl, Memref.IsWhole.read_unread]
  rw [dscore, weight, ite_mul, zero_mul]
  rfl

/-- The score gradients of head 2. -/
theorem s_d2 (B : Blocks) (i : grid0.Coords) (j : Fin 16) (hj : j.val = 2 * (i 1).val) (a : Fin 256) (q : Fin 512) :
    kernelRun0_B.sl.r_23 (F := Ideal) i arg2 harg2 arg3 harg3 arg4 harg4 arg6 harg6 arg7 harg7 arg8 harg8 B.q B.k
        B.v B.g B.lse B.dl (ix2 a q)
      = dscore B (i 1).val 2 (row j a) q := by
  have hk : k0_off19 i 0#32 = ![256 * j.val, 128 * (2 : Fin 4).val] := by rw [hj]; exact off_dk2 i
  pointwise [kernelRun0_B.sl.r_23, kernelRun0_B.sl.r_10, kernelRun0_B.sl.r_14, k0_pay117, k0_pay102,
      kernelRun0_B.sl.r_6, k0_pay106, k0_pay115, k0_pay94, k0_pay98]
  rw [mask_d i j hj, select_decide]
  simp only [rd_tile arg3 _ j 2 _ hk, rd_head arg2 _ 2 (off := ![0, 256]) _ rfl, rd_row arg7 _ 2 (off := ![2, 0, 0,
      0]) _ rfl, rd_tile arg4 _ j 2 _ hk, rd_head arg6 _ 2 (off := ![0, 256]) _ rfl, rd_row arg8 _ 2 (off := ![2,
          0, 0, 0]) _ rfl, Memref.IsWhole.read_unread]
  rw [dscore, weight, ite_mul, zero_mul]
  rfl

/-- The score gradients of head 3. -/
theorem s_d3 (B : Blocks) (i : grid0.Coords) (j : Fin 16) (hj : j.val = 2 * (i 1).val) (a : Fin 256) (q : Fin 512) :
    kernelRun0_B.sl.r_25 (F := Ideal) i arg2 harg2 arg3 harg3 arg4 harg4 arg6 harg6 arg7 harg7 arg8 harg8 B.q B.k
        B.v B.g B.lse B.dl (ix2 a q)
      = dscore B (i 1).val 3 (row j a) q := by
  have hk : k0_off20 i 0#32 = ![256 * j.val, 128 * (3 : Fin 4).val] := by rw [hj]; exact off_dk3 i
  pointwise [kernelRun0_B.sl.r_25, kernelRun0_B.sl.r_11, kernelRun0_B.sl.r_15, k0_pay120, k0_pay103,
      kernelRun0_B.sl.r_7, k0_pay107, k0_pay118, k0_pay95, k0_pay99]
  rw [mask_d i j hj, select_decide]
  simp only [rd_tile arg3 _ j 3 _ hk, rd_head arg2 _ 3 (off := ![0, 384]) _ rfl, rd_row arg7 _ 3 (off := ![3, 0, 0,
      0]) _ rfl, rd_tile arg4 _ j 3 _ hk, rd_head arg6 _ 3 (off := ![0, 384]) _ rfl, rd_row arg8 _ 3 (off := ![3,
          0, 0, 0]) _ rfl, Memref.IsWhole.read_unread]
  rw [dscore, weight, ite_mul, zero_mul]
  rfl

end Cert.Mla

end
-- ==== Proof.Mla.PieceFirst.lean ====
module

public import proofs.«01_k».proof.Proof.Mla.MatFirst

/-!
# Attention backward: stored for the first tile on the diagonal

Each store adds a product over all 512 queries to what it loads.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole)

/-- The value gradients stored for head 0. -/
theorem v_d0 (B : Blocks) (i : grid0.Coords) (j : Fin 16) (hj : j.val = 2 * (i 1).val) (u : Vec Ideal S256x128
    .f32) (a : Fin 256) (b : Fin 128) :
    k0_pay121 (kernelRun0_B.sl.r_4 (F := Ideal) arg6 harg6 B.g) (kernelRun0_B.sl.r_16 (F := Ideal) i arg2 harg2
        arg3 harg3 arg7 harg7 B.q B.k B.lse) u (ix2 a b)
      = u (ix2 a b) + addV B (i 1).val 0 (row j a) b := by
  pointwise [k0_pay121, kernelRun0_B.sl.r_4, k0_pay96]
  simp only [w_d0 arg2 harg2 arg3 harg3 arg7 harg7 B i j hj, rd_head arg6 _ 0 (off := ![0, 0]) _ rfl,
      Memref.IsWhole.read_unread]
  rfl

/-- The value gradients stored for head 1. -/
theorem v_d1 (B : Blocks) (i : grid0.Coords) (j : Fin 16) (hj : j.val = 2 * (i 1).val) (u : Vec Ideal S256x128
    .f32) (a : Fin 256) (b : Fin 128) :
    k0_pay124 (kernelRun0_B.sl.r_5 (F := Ideal) arg6 harg6 B.g) (kernelRun0_B.sl.r_20 (F := Ideal) i arg2 harg2
        arg3 harg3 arg7 harg7 B.q B.k B.lse) u (ix2 a b)
      = u (ix2 a b) + addV B (i 1).val 1 (row j a) b := by
  pointwise [k0_pay124, kernelRun0_B.sl.r_5, k0_pay97]
  simp only [w_d1 arg2 harg2 arg3 harg3 arg7 harg7 B i j hj, rd_head arg6 _ 1 (off := ![0, 128]) _ rfl,
      Memref.IsWhole.read_unread]
  rfl

/-- The value gradients stored for head 2. -/
theorem v_d2 (B : Blocks) (i : grid0.Coords) (j : Fin 16) (hj : j.val = 2 * (i 1).val) (u : Vec Ideal S256x128
    .f32) (a : Fin 256) (b : Fin 128) :
    k0_pay128 (kernelRun0_B.sl.r_6 (F := Ideal) arg6 harg6 B.g) (kernelRun0_B.sl.r_22 (F := Ideal) i arg2 harg2
        arg3 harg3 arg7 harg7 B.q B.k B.lse) u (ix2 a b)
      = u (ix2 a b) + addV B (i 1).val 2 (row j a) b := by
  pointwise [k0_pay128, kernelRun0_B.sl.r_6, k0_pay98]
  simp only [w_d2 arg2 harg2 arg3 harg3 arg7 harg7 B i j hj, rd_head arg6 _ 2 (off := ![0, 256]) _ rfl,
      Memref.IsWhole.read_unread]
  rfl

/-- The value gradients stored for head 3. -/
theorem v_d3 (B : Blocks) (i : grid0.Coords) (j : Fin 16) (hj : j.val = 2 * (i 1).val) (u : Vec Ideal S256x128
    .f32) (a : Fin 256) (b : Fin 128) :
    k0_pay131 (kernelRun0_B.sl.r_7 (F := Ideal) arg6 harg6 B.g) (kernelRun0_B.sl.r_24 (F := Ideal) i arg2 harg2
        arg3 harg3 arg7 harg7 B.q B.k B.lse) u (ix2 a b)
      = u (ix2 a b) + addV B (i 1).val 3 (row j a) b := by
  pointwise [k0_pay131, kernelRun0_B.sl.r_7, k0_pay99]
  simp only [w_d3 arg2 harg2 arg3 harg3 arg7 harg7 B i j hj, rd_head arg6 _ 3 (off := ![0, 384]) _ rfl,
      Memref.IsWhole.read_unread]
  rfl

/-- The key gradients stored for head 0. -/
theorem k_d0 (B : Blocks) (i : grid0.Coords) (j : Fin 16) (hj : j.val = 2 * (i 1).val) (u : Vec Ideal S256x128
    .f32) (a : Fin 256) (b : Fin 128) :
    k0_pay122 (kernelRun0_B.sl.r (F := Ideal) arg2 harg2 B.q) (kernelRun0_B.sl.r_17 (F := Ideal) i arg2 harg2 arg3
        harg3 arg4 harg4 arg6 harg6 arg7 harg7 arg8 harg8 B.q B.k B.v B.g B.lse B.dl) u (ix2 a b)
      = u (ix2 a b) + addK B (i 1).val 0 (row j a) b := by
  pointwise [k0_pay122, kernelRun0_B.sl.r, k0_pay92]
  simp only [s_d0 arg2 harg2 arg3 harg3 arg4 harg4 arg6 harg6 arg7 harg7 arg8 harg8 B i j hj, rd_head arg2 _ 0 (off
      := ![0, 0]) _ rfl, Memref.IsWhole.read_unread]
  rfl

/-- The key gradients stored for head 1. -/
theorem k_d1 (B : Blocks) (i : grid0.Coords) (j : Fin 16) (hj : j.val = 2 * (i 1).val) (u : Vec Ideal S256x128
    .f32) (a : Fin 256) (b : Fin 128) :
    k0_pay125 (kernelRun0_B.sl.r_1 (F := Ideal) arg2 harg2 B.q) (kernelRun0_B.sl.r_21 (F := Ideal) i arg2 harg2
        arg3 harg3 arg4 harg4 arg6 harg6 arg7 harg7 arg8 harg8 B.q B.k B.v B.g B.lse B.dl) u (ix2 a b)
      = u (ix2 a b) + addK B (i 1).val 1 (row j a) b := by
  pointwise [k0_pay125, kernelRun0_B.sl.r_1, k0_pay93]
  simp only [s_d1 arg2 harg2 arg3 harg3 arg4 harg4 arg6 harg6 arg7 harg7 arg8 harg8 B i j hj, rd_head arg2 _ 1 (off
      := ![0, 128]) _ rfl, Memref.IsWhole.read_unread]
  rfl

/-- The key gradients stored for head 2. -/
theorem k_d2 (B : Blocks) (i : grid0.Coords) (j : Fin 16) (hj : j.val = 2 * (i 1).val) (u : Vec Ideal S256x128
    .f32) (a : Fin 256) (b : Fin 128) :
    k0_pay129 (kernelRun0_B.sl.r_2 (F := Ideal) arg2 harg2 B.q) (kernelRun0_B.sl.r_23 (F := Ideal) i arg2 harg2
        arg3 harg3 arg4 harg4 arg6 harg6 arg7 harg7 arg8 harg8 B.q B.k B.v B.g B.lse B.dl) u (ix2 a b)
      = u (ix2 a b) + addK B (i 1).val 2 (row j a) b := by
  pointwise [k0_pay129, kernelRun0_B.sl.r_2, k0_pay94]
  simp only [s_d2 arg2 harg2 arg3 harg3 arg4 harg4 arg6 harg6 arg7 harg7 arg8 harg8 B i j hj, rd_head arg2 _ 2 (off
      := ![0, 256]) _ rfl, Memref.IsWhole.read_unread]
  rfl

/-- The key gradients stored for head 3. -/
theorem k_d3 (B : Blocks) (i : grid0.Coords) (j : Fin 16) (hj : j.val = 2 * (i 1).val) (u : Vec Ideal S256x128
    .f32) (a : Fin 256) (b : Fin 128) :
    k0_pay132 (kernelRun0_B.sl.r_3 (F := Ideal) arg2 harg2 B.q) (kernelRun0_B.sl.r_25 (F := Ideal) i arg2 harg2
        arg3 harg3 arg4 harg4 arg6 harg6 arg7 harg7 arg8 harg8 B.q B.k B.v B.g B.lse B.dl) u (ix2 a b)
      = u (ix2 a b) + addK B (i 1).val 3 (row j a) b := by
  pointwise [k0_pay132, kernelRun0_B.sl.r_3, k0_pay95]
  simp only [s_d3 arg2 harg2 arg3 harg3 arg4 harg4 arg6 harg6 arg7 harg7 arg8 harg8 B i j hj, rd_head arg2 _ 3 (off
      := ![0, 384]) _ rfl, Memref.IsWhole.read_unread]
  rfl

/-- The query gradients stored for head 0. -/
theorem q_d0 (B : Blocks) (i : grid0.Coords) (j : Fin 16) (hj : j.val = 2 * (i 1).val) (u : Vec Ideal S1x128x512 .f32)
    (inb : ∀ a : Fin 3, (k0_off21 i 0#32) a + S1x128x256.size a ≤ S16x512x256.size a) (b : Fin 128) (q : Fin 512) :
    k0_pay123 (kernelRun0_B.sl.r_17 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off21 i 0#32) S1x128x256.size inb).toLoadRect (harg5.unread B.kt)) (ix3 0 b q)
      = u (ix3 0 b q) + addQ B (i 1).val j 0 b q := by
  have hk : k0_off21 i 0#32 = ![j.val, 128 * (0 : Fin 4).val, 0] := by rw [hj]; exact off_dt0 i
  pointwise [k0_pay123]
  simp only [s_d0 arg2 harg2 arg3 harg3 arg4 harg4 arg6 harg6 arg7 harg7 arg8 harg8 B i j hj, rd_kt arg5 _ j 0 _
      hk, Memref.IsWhole.read_unread]
  rfl

/-- The query gradients stored for head 1. -/
theorem q_d1 (B : Blocks) (i : grid0.Coords) (j : Fin 16) (hj : j.val = 2 * (i 1).val) (u : Vec Ideal S1x128x512 .f32)
    (inb : ∀ a : Fin 3, (k0_off22 i 0#32) a + S1x128x256.size a ≤ S16x512x256.size a) (b : Fin 128) (q : Fin 512) :
    k0_pay127 (kernelRun0_B.sl.r_21 (F := Ideal) i arg2 harg2 arg3 harg3 arg4 harg4 arg6 harg6 arg7 harg7 arg8
        harg8 B.q B.k B.v B.g B.lse B.dl) (k0_pay126 u) (View.readAt (Elt Ideal) arg5.view (Rect.unit (s :=
        S16x512x256) (k0_off22 i 0#32) S1x128x256.size inb).toLoadRect (harg5.unread B.kt)) (ix3 0 b q)
      = u (ix3 0 b q) + addQ B (i 1).val j 1 b q := by
  have hk : k0_off22 i 0#32 = ![j.val, 128 * (1 : Fin 4).val, 0] := by rw [hj]; exact off_dt1 i
  pointwise [k0_pay127, k0_pay126]
  simp only [s_d1 arg2 harg2 arg3 harg3 arg4 harg4 arg6 harg6 arg7 harg7 arg8 harg8 B i j hj, rd_kt arg5 _ j 1 _
      hk, Memref.IsWhole.read_unread]
  rfl

/-- The query gradients stored for head 2. -/
theorem q_d2 (B : Blocks) (i : grid0.Coords) (j : Fin 16) (hj : j.val = 2 * (i 1).val) (u : Vec Ideal S1x128x512 .f32)
    (inb : ∀ a : Fin 3, (k0_off23 i 0#32) a + S1x128x256.size a ≤ S16x512x256.size a) (b : Fin 128) (q : Fin 512) :
    k0_pay130 (kernelRun0_B.sl.r_23 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off23 i 0#32) S1x128x256.size inb).toLoadRect (harg5.unread B.kt)) (ix3 0 b q)
      = u (ix3 0 b q) + addQ B (i 1).val j 2 b q := by
  have hk : k0_off23 i 0#32 = ![j.val, 128 * (2 : Fin 4).val, 0] := by rw [hj]; exact off_dt2 i
  pointwise [k0_pay130]
  simp only [s_d2 arg2 harg2 arg3 harg3 arg4 harg4 arg6 harg6 arg7 harg7 arg8 harg8 B i j hj, rd_kt arg5 _ j 2 _
      hk, Memref.IsWhole.read_unread]
  rfl

/-- The query gradients stored for head 3. -/
theorem q_d3 (B : Blocks) (i : grid0.Coords) (j : Fin 16) (hj : j.val = 2 * (i 1).val) (u : Vec Ideal S1x128x512 .f32)
    (inb : ∀ a : Fin 3, (k0_off24 i 0#32) a + S1x128x256.size a ≤ S16x512x256.size a) (b : Fin 128) (q : Fin 512) :
    k0_pay133 (kernelRun0_B.sl.r_25 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off24 i 0#32) S1x128x256.size inb).toLoadRect (harg5.unread B.kt)) (ix3 0 b q)
      = u (ix3 0 b q) + addQ B (i 1).val j 3 b q := by
  have hk : k0_off24 i 0#32 = ![j.val, 128 * (3 : Fin 4).val, 0] := by rw [hj]; exact off_dt3 i
  pointwise [k0_pay133]
  simp only [s_d3 arg2 harg2 arg3 harg3 arg4 harg4 arg6 harg6 arg7 harg7 arg8 harg8 B i j hj, rd_kt arg5 _ j 3 _
      hk, Memref.IsWhole.read_unread]
  rfl

end Cert.Mla

end
-- ==== Proof.Mla.MatSecond.lean ====
module

public import proofs.«01_k».proof.Proof.Mla.Mask

/-!
# Attention backward: weights and score gradients, the second tile on the diagonal

The tile `2 n + 1` of point `n`, masked, for the later 256 queries.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
        Memref sig .tc .vmem S512x512 .f32) (harg6 : arg6.IsWhole) (arg7 : Memref sig .tc .vmem S4x1x1x512 .f32)
            (harg7 : arg7.IsWhole) (arg8 : Memref sig .tc .vmem S4x1x1x512 .f32) (harg8 : arg8.IsWhole)

/-- The weights of head 0. -/
theorem w_e0 (B : Blocks) (i : grid0.Coords) (j : Fin 16) (hj : j.val = 2 * (i 1).val + 1) (a : Fin 256) (q : Fin
    256) :
    kernelRun0_B.sl.r_48 (F := Ideal) i arg2 harg2 arg3 harg3 arg7 harg7 B.q B.k B.lse (ix2 a q)
      = weight B (i 1).val 0 (row j a) (late q) := by
  have hk : k0_off17 i 1#32 = ![256 * j.val, 128 * (0 : Fin 4).val] := by rw [hj]; exact off_ek0 i
  pointwise [kernelRun0_B.sl.r_48, kernelRun0_B.sl.r_40, k0_pay153, k0_pay145, k0_pay152, k0_pay137]
  rw [mask_e i j hj, select_decide]
  simp only [rd_tile arg3 _ j 0 _ hk, rd_late arg2 _ 0 (off := ![256, 0]) _ rfl, rd_rowLate arg7 _ 0 (off := ![0,
      0, 0, 256]) _ rfl, Memref.IsWhole.read_unread]
  rfl

/-- The weights of head 1. -/
theorem w_e1 (B : Blocks) (i : grid0.Coords) (j : Fin 16) (hj : j.val = 2 * (i 1).val + 1) (a : Fin 256) (q : Fin
    256) :
    kernelRun0_B.sl.r_51 (F := Ideal) i arg2 harg2 arg3 harg3 arg7 harg7 B.q B.k B.lse (ix2 a q)
      = weight B (i 1).val 1 (row j a) (late q) := by
  have hk : k0_off18 i 1#32 = ![256 * j.val, 128 * (1 : Fin 4).val] := by rw [hj]; exact off_ek1 i
  pointwise [kernelRun0_B.sl.r_51, kernelRun0_B.sl.cst_185, kernelRun0_B.sl.r_50, k0_pay157, kernelRun0_B.sl.r_41,
      k0_pay155, k0_pay156, k0_pay146, k0_pay138]
  rw [mask_e i j hj, select_decide]
  simp only [rd_tile arg3 _ j 1 _ hk, rd_late arg2 _ 1 (off := ![256, 128]) _ rfl, rd_rowLate arg7 _ 1 (off := ![1,
      0, 0, 256]) _ rfl, Memref.IsWhole.read_unread]
  rfl

/-- The weights of head 2. -/
theorem w_e2 (B : Blocks) (i : grid0.Coords) (j : Fin 16) (hj : j.val = 2 * (i 1).val + 1) (a : Fin 256) (q : Fin
    256) :
    kernelRun0_B.sl.r_53 (F := Ideal) i arg2 harg2 arg3 harg3 arg7 harg7 B.q B.k B.lse (ix2 a q)
      = weight B (i 1).val 2 (row j a) (late q) := by
  have hk : k0_off19 i 1#32 = ![256 * j.val, 128 * (2 : Fin 4).val] := by rw [hj]; exact off_ek2 i
  pointwise [kernelRun0_B.sl.r_53, kernelRun0_B.sl.r_42, k0_pay160, k0_pay147, k0_pay159, k0_pay139]
  rw [mask_e i j hj, select_decide]
  simp only [rd_tile arg3 _ j 2 _ hk, rd_late arg2 _ 2 (off := ![256, 256]) _ rfl, rd_rowLate arg7 _ 2 (off := ![2,
      0, 0, 256]) _ rfl, Memref.IsWhole.read_unread]
  rfl

/-- The weights of head 3. -/
theorem w_e3 (B : Blocks) (i : grid0.Coords) (j : Fin 16) (hj : j.val = 2 * (i 1).val + 1) (a : Fin 256) (q : Fin
    256) :
    kernelRun0_B.sl.r_55 (F := Ideal) i arg2 harg2 arg3 harg3 arg7 harg7 B.q B.k B.lse (ix2 a q)
      = weight B (i 1).val 3 (row j a) (late q) := by
  have hk : k0_off20 i 1#32 = ![256 * j.val, 128 * (3 : Fin 4).val] := by rw [hj]; exact off_ek3 i
  pointwise [kernelRun0_B.sl.r_55, kernelRun0_B.sl.r_44, k0_pay163, kernelRun0_B.sl.r_35, kernelRun0_B.sl.r_43,
      k0_pay148, k0_pay162, k0_pay140]
  rw [mask_e i j hj, select_decide]
  simp only [rd_tile arg3 _ j 3 _ hk, rd_late arg2 _ 3 (off := ![256, 384]) _ rfl, rd_rowLate arg7 _ 3 (off := ![3,
      0, 0, 256]) _ rfl, Memref.IsWhole.read_unread]
  rfl

/-- The score gradients of head 0. -/
theorem s_e0 (B : Blocks) (i : grid0.Coords) (j : Fin 16) (hj : j.val = 2 * (i 1).val + 1) (a : Fin 256) (q : Fin
    256) :
    kernelRun0_B.sl.r_49 (F := Ideal) i arg2 harg2 arg3 harg3 arg4 harg4 arg6 harg6 arg7 harg7 arg8 harg8 B.q B.k
        B.v B.g B.lse B.dl (ix2 a q)
      = dscore B (i 1).val 0 (row j a) (late q) := by
  have hk : k0_off17 i 1#32 = ![256 * j.val, 128 * (0 : Fin 4).val] := by rw [hj]; exact off_ek0 i
  pointwise [kernelRun0_B.sl.r_49, kernelRun0_B.sl.r_36, kernelRun0_B.sl.r_40, k0_pay154, k0_pay141, k0_pay145,
      k0_pay152, k0_pay137]
  rw [mask_e i j hj, select_decide]
  simp only [rd_tile arg3 _ j 0 _ hk, rd_late arg2 _ 0 (off := ![256, 0]) _ rfl, rd_rowLate arg7 _ 0 (off := ![0,
      0, 0, 256]) _ rfl, rd_tile arg4 _ j 0 _ hk, rd_late arg6 _ 0 (off := ![256, 0]) _ rfl, rd_rowLate arg8 _ 0
          (off := ![0, 0, 0, 256]) _ rfl, Memref.IsWhole.read_unread]
  rw [dscore, weight, ite_mul, zero_mul]
  rfl

/-- The score gradients of head 1. -/
theorem s_e1 (B : Blocks) (i : grid0.Coords) (j : Fin 16) (hj : j.val = 2 * (i 1).val + 1) (a : Fin 256) (q : Fin
    256) :
    kernelRun0_B.sl.r_52 (F := Ideal) i arg2 harg2 arg3 harg3 arg4 harg4 arg6 harg6 arg7 harg7 arg8 harg8 B.q B.k
        B.v B.g B.lse B.dl (ix2 a q)
      = dscore B (i 1).val 1 (row j a) (late q) := by
  have hk : k0_off18 i 1#32 = ![256 * j.val, 128 * (1 : Fin 4).val] := by rw [hj]; exact off_ek1 i
  pointwise [kernelRun0_B.sl.r_52, kernelRun0_B.sl.cst_185, kernelRun0_B.sl.r_45, kernelRun0_B.sl.r_50, k0_pay158,
      kernelRun0_B.sl.r_37, k0_pay149, kernelRun0_B.sl.r_41, k0_pay155, k0_pay156, k0_pay142, k0_pay146, k0_pay138]
  rw [mask_e i j hj, select_decide]
  simp only [rd_tile arg3 _ j 1 _ hk, rd_late arg2 _ 1 (off := ![256, 128]) _ rfl, rd_rowLate arg7 _ 1 (off := ![1,
      0, 0, 256]) _ rfl, rd_tile arg4 _ j 1 _ hk, rd_late arg6 _ 1 (off := ![256, 128]) _ rfl, rd_rowLate arg8 _ 1
          (off := ![1, 0, 0, 256]) _ rfl, Memref.IsWhole.read_unread]
  rw [dscore, weight, ite_mul, zero_mul]
  rfl

/-- The score gradients of head 2. -/
theorem s_e2 (B : Blocks) (i : grid0.Coords) (j : Fin 16) (hj : j.val = 2 * (i 1).val + 1) (a : Fin 256) (q : Fin
    256) :
    kernelRun0_B.sl.r_54 (F := Ideal) i arg2 harg2 arg3 harg3 arg4 harg4 arg6 harg6 arg7 harg7 arg8 harg8 B.q B.k
        B.v B.g B.lse B.dl (ix2 a q)
      = dscore B (i 1).val 2 (row j a) (late q) := by
  have hk : k0_off19 i 1#32 = ![256 * j.val, 128 * (2 : Fin 4).val] := by rw [hj]; exact off_ek2 i
  pointwise [kernelRun0_B.sl.r_54, kernelRun0_B.sl.r_42, kernelRun0_B.sl.r_46, k0_pay161, k0_pay147,
      kernelRun0_B.sl.r_38, k0_pay150, k0_pay159, k0_pay139, k0_pay143]
  rw [mask_e i j hj, select_decide]
  simp only [rd_tile arg3 _ j 2 _ hk, rd_late arg2 _ 2 (off := ![256, 256]) _ rfl, rd_rowLate arg7 _ 2 (off := ![2,
      0, 0, 256]) _ rfl, rd_tile arg4 _ j 2 _ hk, rd_late arg6 _ 2 (off := ![256, 256]) _ rfl, rd_rowLate arg8 _ 2
          (off := ![2, 0, 0, 256]) _ rfl, Memref.IsWhole.read_unread]
  rw [dscore, weight, ite_mul, zero_mul]
  rfl

/-- The score gradients of head 3. -/
theorem s_e3 (B : Blocks) (i : grid0.Coords) (j : Fin 16) (hj : j.val = 2 * (i 1).val + 1) (a : Fin 256) (q : Fin
    256) :
    kernelRun0_B.sl.r_56 (F := Ideal) i arg2 harg2 arg3 harg3 arg4 harg4 arg6 harg6 arg7 harg7 arg8 harg8 B.q B.k
        B.v B.g B.lse B.dl (ix2 a q)
      = dscore B (i 1).val 3 (row j a) (late q) := by
  have hk : k0_off20 i 1#32 = ![256 * j.val, 128 * (3 : Fin 4).val] := by rw [hj]; exact off_ek3 i
  pointwise [kernelRun0_B.sl.r_56, kernelRun0_B.sl.r_44, kernelRun0_B.sl.r_47, k0_pay164, kernelRun0_B.sl.r_35,
      kernelRun0_B.sl.r_43, k0_pay148, kernelRun0_B.sl.r_39, k0_pay151, k0_pay162, k0_pay140, k0_pay144]
  rw [mask_e i j hj, select_decide]
  simp only [rd_tile arg3 _ j 3 _ hk, rd_late arg2 _ 3 (off := ![256, 384]) _ rfl, rd_rowLate arg7 _ 3 (off := ![3,
      0, 0, 256]) _ rfl, rd_tile arg4 _ j 3 _ hk, rd_late arg6 _ 3 (off := ![256, 384]) _ rfl, rd_rowLate arg8 _ 3
          (off := ![3, 0, 0, 256]) _ rfl, Memref.IsWhole.read_unread]
  rw [dscore, weight, ite_mul, zero_mul]
  rfl

end Cert.Mla

end
-- ==== Proof.Mla.PieceSecond.lean ====
module

public import proofs.«01_k».proof.Proof.Mla.MatSecond
public import proofs.«01_k».proof.Proof.Mla.Sums

/-!
# Attention backward: stored for the second tile on the diagonal

Each store adds a product over the later 256 queries; the earlier ones see none of these keys.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole)

/-- The value gradients stored for head 0. -/
theorem v_e0 (B : Blocks) (i : grid0.Coords) (j : Fin 16) (hj : j.val = 2 * (i 1).val + 1) (u : Vec Ideal S256x128
    .f32) (a : Fin 256) (b : Fin 128) :
    k0_pay165 (kernelRun0_B.sl.r_36 (F := Ideal) arg6 harg6 B.g) (kernelRun0_B.sl.r_48 (F := Ideal) i arg2 harg2
        arg3 harg3 arg7 harg7 B.q B.k B.lse) u (ix2 a b)
      = u (ix2 a b) + addV B (i 1).val 0 (row j a) b := by
  pointwise [k0_pay165, kernelRun0_B.sl.r_36, k0_pay141]
  simp only [w_e0 arg2 harg2 arg3 harg3 arg7 harg7 B i j hj, rd_late arg6 _ 0 (off := ![256, 0]) _ rfl,
      Memref.IsWhole.read_unread]
  rw [addV_late B _ _ (row j a) b (by show 512 * (i 1).val + 256 ≤ 256 * j.val + a.val; omega)]

/-- The value gradients stored for head 1. -/
theorem v_e1 (B : Blocks) (i : grid0.Coords) (j : Fin 16) (hj : j.val = 2 * (i 1).val + 1) (u : Vec Ideal S256x128
    .f32) (a : Fin 256) (b : Fin 128) :
    k0_pay168 (kernelRun0_B.sl.r_37 (F := Ideal) arg6 harg6 B.g) (kernelRun0_B.sl.r_51 (F := Ideal) i arg2 harg2
        arg3 harg3 arg7 harg7 B.q B.k B.lse) u (ix2 a b)
      = u (ix2 a b) + addV B (i 1).val 1 (row j a) b := by
  pointwise [k0_pay168, kernelRun0_B.sl.r_37, k0_pay142]
  simp only [w_e1 arg2 harg2 arg3 harg3 arg7 harg7 B i j hj, rd_late arg6 _ 1 (off := ![256, 128]) _ rfl,
      Memref.IsWhole.read_unread]
  rw [addV_late B _ _ (row j a) b (by show 512 * (i 1).val + 256 ≤ 256 * j.val + a.val; omega)]

/-- The value gradients stored for head 2. -/
theorem v_e2 (B : Blocks) (i : grid0.Coords) (j : Fin 16) (hj : j.val = 2 * (i 1).val + 1) (u : Vec Ideal S256x128
    .f32) (a : Fin 256) (b : Fin 128) :
    k0_pay171 (kernelRun0_B.sl.r_38 (F := Ideal) arg6 harg6 B.g) (kernelRun0_B.sl.r_53 (F := Ideal) i arg2 harg2
        arg3 harg3 arg7 harg7 B.q B.k B.lse) u (ix2 a b)
      = u (ix2 a b) + addV B (i 1).val 2 (row j a) b := by
  pointwise [k0_pay171, kernelRun0_B.sl.r_38, k0_pay143]
  simp only [w_e2 arg2 harg2 arg3 harg3 arg7 harg7 B i j hj, rd_late arg6 _ 2 (off := ![256, 256]) _ rfl,
      Memref.IsWhole.read_unread]
  rw [addV_late B _ _ (row j a) b (by show 512 * (i 1).val + 256 ≤ 256 * j.val + a.val; omega)]

/-- The value gradients stored for head 3. -/
theorem v_e3 (B : Blocks) (i : grid0.Coords) (j : Fin 16) (hj : j.val = 2 * (i 1).val + 1) (u : Vec Ideal S256x128
    .f32) (a : Fin 256) (b : Fin 128) :
    k0_pay175 (kernelRun0_B.sl.r_39 (F := Ideal) arg6 harg6 B.g) (kernelRun0_B.sl.r_55 (F := Ideal) i arg2 harg2
        arg3 harg3 arg7 harg7 B.q B.k B.lse) u (ix2 a b)
      = u (ix2 a b) + addV B (i 1).val 3 (row j a) b := by
  pointwise [k0_pay175, kernelRun0_B.sl.r_39, k0_pay144]
  simp only [w_e3 arg2 harg2 arg3 harg3 arg7 harg7 B i j hj, rd_late arg6 _ 3 (off := ![256, 384]) _ rfl,
      Memref.IsWhole.read_unread]
  rw [addV_late B _ _ (row j a) b (by show 512 * (i 1).val + 256 ≤ 256 * j.val + a.val; omega)]

/-- The key gradients stored for head 0. -/
theorem k_e0 (B : Blocks) (i : grid0.Coords) (j : Fin 16) (hj : j.val = 2 * (i 1).val + 1) (u : Vec Ideal S256x128
    .f32) (a : Fin 256) (b : Fin 128) :
    k0_pay166 (kernelRun0_B.sl.r_32 (F := Ideal) arg2 harg2 B.q) (kernelRun0_B.sl.r_49 (F := Ideal) i arg2 harg2
        arg3 harg3 arg4 harg4 arg6 harg6 arg7 harg7 arg8 harg8 B.q B.k B.v B.g B.lse B.dl) u (ix2 a b)
      = u (ix2 a b) + addK B (i 1).val 0 (row j a) b := by
  pointwise [k0_pay166, kernelRun0_B.sl.r_32, k0_pay137]
  simp only [s_e0 arg2 harg2 arg3 harg3 arg4 harg4 arg6 harg6 arg7 harg7 arg8 harg8 B i j hj, rd_late arg2 _ 0 (off
      := ![256, 0]) _ rfl, Memref.IsWhole.read_unread]
  rw [addK_late B _ _ (row j a) b (by show 512 * (i 1).val + 256 ≤ 256 * j.val + a.val; omega)]

/-- The key gradients stored for head 1. -/
theorem k_e1 (B : Blocks) (i : grid0.Coords) (j : Fin 16) (hj : j.val = 2 * (i 1).val + 1) (u : Vec Ideal S256x128
    .f32) (a : Fin 256) (b : Fin 128) :
    k0_pay169 (kernelRun0_B.sl.r_33 (F := Ideal) arg2 harg2 B.q) (kernelRun0_B.sl.r_52 (F := Ideal) i arg2 harg2
        arg3 harg3 arg4 harg4 arg6 harg6 arg7 harg7 arg8 harg8 B.q B.k B.v B.g B.lse B.dl) u (ix2 a b)
      = u (ix2 a b) + addK B (i 1).val 1 (row j a) b := by
  pointwise [k0_pay169, kernelRun0_B.sl.r_33, k0_pay138]
  simp only [s_e1 arg2 harg2 arg3 harg3 arg4 harg4 arg6 harg6 arg7 harg7 arg8 harg8 B i j hj, rd_late arg2 _ 1 (off
      := ![256, 128]) _ rfl, Memref.IsWhole.read_unread]
  rw [addK_late B _ _ (row j a) b (by show 512 * (i 1).val + 256 ≤ 256 * j.val + a.val; omega)]

/-- The key gradients stored for head 2. -/
theorem k_e2 (B : Blocks) (i : grid0.Coords) (j : Fin 16) (hj : j.val = 2 * (i 1).val + 1) (u : Vec Ideal S256x128
    .f32) (a : Fin 256) (b : Fin 128) :
    k0_pay172 (kernelRun0_B.sl.r_34 (F := Ideal) arg2 harg2 B.q) (kernelRun0_B.sl.r_54 (F := Ideal) i arg2 harg2
        arg3 harg3 arg4 harg4 arg6 harg6 arg7 harg7 arg8 harg8 B.q B.k B.v B.g B.lse B.dl) u (ix2 a b)
      = u (ix2 a b) + addK B (i 1).val 2 (row j a) b := by
  pointwise [k0_pay172, kernelRun0_B.sl.r_34, k0_pay139]
  simp only [s_e2 arg2 harg2 arg3 harg3 arg4 harg4 arg6 harg6 arg7 harg7 arg8 harg8 B i j hj, rd_late arg2 _ 2 (off
      := ![256, 256]) _ rfl, Memref.IsWhole.read_unread]
  rw [addK_late B _ _ (row j a) b (by show 512 * (i 1).val + 256 ≤ 256 * j.val + a.val; omega)]

/-- The key gradients stored for head 3. -/
theorem k_e3 (B : Blocks) (i : grid0.Coords) (j : Fin 16) (hj : j.val = 2 * (i 1).val + 1) (u : Vec Ideal S256x128
    .f32) (a : Fin 256) (b : Fin 128) :
    k0_pay176 (kernelRun0_B.sl.r_35 (F := Ideal) arg2 harg2 B.q) (kernelRun0_B.sl.r_56 (F := Ideal) i arg2 harg2
        arg3 harg3 arg4 harg4 arg6 harg6 arg7 harg7 arg8 harg8 B.q B.k B.v B.g B.lse B.dl) u (ix2 a b)
      = u (ix2 a b) + addK B (i 1).val 3 (row j a) b := by
  pointwise [k0_pay176, kernelRun0_B.sl.r_35, k0_pay140]
  simp only [s_e3 arg2 harg2 arg3 harg3 arg4 harg4 arg6 harg6 arg7 harg7 arg8 harg8 B i j hj, rd_late arg2 _ 3 (off
      := ![256, 384]) _ rfl, Memref.IsWhole.read_unread]
  rw [addK_late B _ _ (row j a) b (by show 512 * (i 1).val + 256 ≤ 256 * j.val + a.val; omega)]

/-- The query gradients stored for head 0. -/
theorem q_e0 (B : Blocks) (i : grid0.Coords) (j : Fin 16) (hj : j.val = 2 * (i 1).val + 1) (u : Vec Ideal
    S1x128x256 .f32)
    (inb : ∀ a : Fin 3, (k0_off21 i 1#32) a + S1x128x256.size a ≤ S16x512x256.size a) (b : Fin 128) (q : Fin 256) :
    k0_pay167 (kernelRun0_B.sl.r_49 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off21 i 1#32) S1x128x256.size inb).toLoadRect (harg5.unread B.kt)) (ix3 0 b q)
      = u (ix3 0 b q) + addQ B (i 1).val j 0 b (late q) := by
  have hk : k0_off21 i 1#32 = ![j.val, 128 * (0 : Fin 4).val, 0] := by rw [hj]; exact off_et0 i
  pointwise [k0_pay167]
  simp only [s_e0 arg2 harg2 arg3 harg3 arg4 harg4 arg6 harg6 arg7 harg7 arg8 harg8 B i j hj, rd_kt arg5 _ j 0 _
      hk, Memref.IsWhole.read_unread]
  rfl

/-- The query gradients stored for head 1. -/
theorem q_e1 (B : Blocks) (i : grid0.Coords) (j : Fin 16) (hj : j.val = 2 * (i 1).val + 1) (u : Vec Ideal
    S1x128x256 .f32)
    (inb : ∀ a : Fin 3, (k0_off22 i 1#32) a + S1x128x256.size a ≤ S16x512x256.size a) (b : Fin 128) (q : Fin 256) :
    k0_pay170 (kernelRun0_B.sl.r_52 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off22 i 1#32) S1x128x256.size inb).toLoadRect (harg5.unread B.kt)) (ix3 0 b q)
      = u (ix3 0 b q) + addQ B (i 1).val j 1 b (late q) := by
  have hk : k0_off22 i 1#32 = ![j.val, 128 * (1 : Fin 4).val, 0] := by rw [hj]; exact off_et1 i
  pointwise [k0_pay170]
  simp only [s_e1 arg2 harg2 arg3 harg3 arg4 harg4 arg6 harg6 arg7 harg7 arg8 harg8 B i j hj, rd_kt arg5 _ j 1 _
      hk, Memref.IsWhole.read_unread]
  rfl

/-- The query gradients stored for head 2. -/
theorem q_e2 (B : Blocks) (i : grid0.Coords) (j : Fin 16) (hj : j.val = 2 * (i 1).val + 1) (u : Vec Ideal
    S1x128x256 .f32)
    (inb : ∀ a : Fin 3, (k0_off23 i 1#32) a + S1x128x256.size a ≤ S16x512x256.size a) (b : Fin 128) (q : Fin 256) :
    k0_pay174 (k0_pay173 (kernelRun0_B.sl.r_54 (F := Ideal) i arg2 harg2 arg3 harg3 arg4 harg4 arg6 harg6 arg7
        harg7 arg8 harg8 B.q B.k B.v B.g B.lse B.dl) u (View.readAt (Elt Ideal) arg5.view (Rect.unit (s :=
        S16x512x256) (k0_off23 i 1#32) S1x128x256.size inb).toLoadRect (harg5.unread B.kt))) (ix3 0 b q)
      = u (ix3 0 b q) + addQ B (i 1).val j 2 b (late q) := by
  have hk : k0_off23 i 1#32 = ![j.val, 128 * (2 : Fin 4).val, 0] := by rw [hj]; exact off_et2 i
  pointwise [k0_pay174, k0_pay173]
  simp only [s_e2 arg2 harg2 arg3 harg3 arg4 harg4 arg6 harg6 arg7 harg7 arg8 harg8 B i j hj, rd_kt arg5 _ j 2 _
      hk, Memref.IsWhole.read_unread]
  rfl

/-- The query gradients stored for head 3. -/
theorem q_e3 (B : Blocks) (i : grid0.Coords) (j : Fin 16) (hj : j.val = 2 * (i 1).val + 1) (u : Vec Ideal
    S1x128x256 .f32)
    (inb : ∀ a : Fin 3, (k0_off24 i 1#32) a + S1x128x256.size a ≤ S16x512x256.size a) (b : Fin 128) (q : Fin 256) :
    k0_pay177 (kernelRun0_B.sl.r_56 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off24 i 1#32) S1x128x256.size inb).toLoadRect (harg5.unread B.kt)) (ix3 0 b q)
      = u (ix3 0 b q) + addQ B (i 1).val j 3 b (late q) := by
  have hk : k0_off24 i 1#32 = ![j.val, 128 * (3 : Fin 4).val, 0] := by rw [hj]; exact off_et3 i
  pointwise [k0_pay177]
  simp only [s_e3 arg2 harg2 arg3 harg3 arg4 harg4 arg6 harg6 arg7 harg7 arg8 harg8 B i j hj, rd_kt arg5 _ j 3 _
      hk, Memref.IsWhole.read_unread]
  rfl

end Cert.Mla

end
-- ==== Proof.Mla.Turn.lean ====
module

public import proofs.«01_k».proof.Proof.Mla.Stores
public import proofs.«01_k».proof.Proof.Gen.Kernel4Ideal.Frame

/-!
# Attention backward: turning the query gradients

The scratch buffer has queries along columns; what is stored at the end has them along rows.
-/

@[expose] public section
set_option relaxedAutoImplicit false

noncomputable section

namespace Cert.Mla

open Idealize.ShloMosaic Idealize.ShloMosaic.TcCoe Idealize.SL.Sem Cert.Kernel4Ideal Cert.Kernel4Ideal.Gen

variable (u : Vec Ideal S1x128x512 .f32) (q : Fin 512) (d : Fin 128)

theorem turned_0 : k0_pay178 u (ix2 q d) = u (ix3 0 d q) := by pointwise [k0_pay178]
theorem turned_1 : k0_pay1 u (ix2 q d) = u (ix3 0 d q) := by pointwise [k0_pay1]
theorem turned_2 : k0_pay2 u (ix2 q d) = u (ix3 0 d q) := by pointwise [k0_pay2]
theorem turned_3 : k0_pay3 u (ix2 q d) = u (ix3 0 d q) := by pointwise [k0_pay3]

end Cert.Mla

end
-- ==== Proof.Mla.RunA.lean ====
module

public import proofs.«01_k».proof.Proof.Mla.Loop
public import proofs.«01_k».proof.Proof.Mla.PieceFirst
public import proofs.«01_k».proof.Proof.Mla.PieceSecond
public import proofs.«01_k».proof.Proof.Mla.Turn

/-!
# Attention backward: the first point

The first point puts zeros into the three buffers and then adds its products.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4x128x512 .f32) (harg12 :
    arg12.IsWhole)

/-- The key gradients after the point. -/
theorem runA_k (c : Dev nD) (B : Blocks) (i : grid0.Coords) (hc : cond0_0 i) :
    Holds arg10 (arg10.view.writes (Elt Ideal) arg10.view.junk (kernelRun0_A (F := Ideal) c i arg2 harg2 arg3 harg3
        arg4 harg4 arg5 harg5 arg6 harg6 arg7 harg7 arg8 harg8 arg9 harg9 arg10 harg10 arg11 harg11 arg12 harg12 hc
        B.q B.k B.v B.kt B.g B.lse B.dl).2.1) (fun h r d => 0 + addK B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => 0 + addK B (i 1).val h r d) = bump (bump (upto (fun _ _ _ => 0) (2 * (i 1).val) (addK B (i
      1).val)) j.val (addK B (i 1).val)) l.val (addK B (i 1).val) := by
    rw [hj, hl, bump_upto, bump_upto]
    exact (upto_all (fun _ _ _ => 0) (addK B (i 1).val) _ fun h r d hr => addK_zero B _ h r d (by omega)).symm
  rw [e, ← put4 (bump _ _ _) l]
  unfold kernelRun0_A
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg10 _ _ _ _ _ ?_ l 3 (fun _ _ => (put_ne _ _ _ _ _ _ _ (by decide)).trans ((put_ne _ _ _ _ _ _
      _ (by decide)).trans (put_ne _ _ _ _ _ _ _ (by decide)))) _ p3 _ fun a b => k_e3 arg2 harg2 arg3 harg3 arg4
      harg4 arg6 harg6 arg7 harg7 arg8 harg8 B i l hl _ a b
  refine holds_add arg10 _ _ _ _ _ ?_ l 2 (fun _ _ => (put_ne _ _ _ _ _ _ _ (by decide)).trans (put_ne _ _ _ _ _ _
      _ (by decide))) _ p2 _ fun a b => k_e2 arg2 harg2 arg3 harg3 arg4 harg4 arg6 harg6 arg7 harg7 arg8 harg8 B i
      l hl _ a b
  refine holds_add arg10 _ _ _ _ _ ?_ l 1 (fun _ _ => put_ne _ _ _ _ _ _ _ (by decide)) _ p1 _ fun a b => k_e1 arg2
      harg2 arg3 harg3 arg4 harg4 arg6 harg6 arg7 harg7 arg8 harg8 B i l hl _ a b
  refine holds_add arg10 _ _ _ _ _ ?_ l 0 (fun _ _ => rfl) _ p0 _ fun a b => k_e0 arg2 harg2 arg3 harg3 arg4 harg4
      arg6 harg6 arg7 harg7 arg8 harg8 B i l hl _ a b
  rw [← put4 (upto _ _ _) j]
  refine holds_add arg10 _ _ _ _ _ ?_ j 3 (fun _ _ => (put_ne _ _ _ _ _ _ _ (by decide)).trans ((put_ne _ _ _ _ _ _
      _ (by decide)).trans (put_ne _ _ _ _ _ _ _ (by decide)))) _ o3 _ fun a b => k_d3 arg2 harg2 arg3 harg3 arg4
      harg4 arg6 harg6 arg7 harg7 arg8 harg8 B i j hj _ a b
  refine holds_add arg10 _ _ _ _ _ ?_ j 2 (fun _ _ => (put_ne _ _ _ _ _ _ _ (by decide)).trans (put_ne _ _ _ _ _ _
      _ (by decide))) _ o2 _ fun a b => k_d2 arg2 harg2 arg3 harg3 arg4 harg4 arg6 harg6 arg7 harg7 arg8 harg8 B i
      j hj _ a b
  refine holds_add arg10 _ _ _ _ _ ?_ j 1 (fun _ _ => put_ne _ _ _ _ _ _ _ (by decide)) _ o1 _ fun a b => k_d1 arg2
      harg2 arg3 harg3 arg4 harg4 arg6 harg6 arg7 harg7 arg8 harg8 B i j hj _ a b
  refine holds_add arg10 _ _ _ _ _ ?_ j 0 (fun _ _ => rfl) _ o0 _ fun a b => k_d0 arg2 harg2 arg3 harg3 arg4 harg4
      arg6 harg6 arg7 harg7 arg8 harg8 B i j hj _ a b
  rw [← trips1 i, show Scf.trips (k0_t2_loop i).lb (k0_t2_loop i).ub (k0_t2_loop i).st = 0 from trips2 i]
  show Holds arg10 (arg10.view.writes (Elt Ideal) arg10.view.junk (_ ++ kernelRun0_A.sl.H8_1 (F := Ideal))) _
  rw [View.writes_append]
  refine loop_k arg2 harg2 arg3 harg3 arg4 harg4 arg5 harg5 arg6 harg6 arg7 harg7 arg8 harg8 arg9 harg9 arg10
      harg10 arg11 harg11 arg12 harg12 Variants.none c none B i _ _ _ _ ?_ _ le_rfl
  refine holds_zero arg10 _ _ _ fun y => ?_
  pointwise [k0_pay82]

/-- The value gradients after the point. -/
theorem runA_v (c : Dev nD) (B : Blocks) (i : grid0.Coords) (hc : cond0_0 i) :
    Holds arg11 (arg11.view.writes (Elt Ideal) arg11.view.junk (kernelRun0_A (F := Ideal) c i arg2 harg2 arg3 harg3
        arg4 harg4 arg5 harg5 arg6 harg6 arg7 harg7 arg8 harg8 arg9 harg9 arg10 harg10 arg11 harg11 arg12 harg12 hc
        B.q B.k B.v B.kt B.g B.lse B.dl).2.2.1) (fun h r d => 0 + addV B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => 0 + addV B (i 1).val h r d) = bump (bump (upto (fun _ _ _ => 0) (2 * (i 1).val) (addV B (i
      1).val)) j.val (addV B (i 1).val)) l.val (addV B (i 1).val) := by
    rw [hj, hl, bump_upto, bump_upto]
    exact (upto_all (fun _ _ _ => 0) (addV B (i 1).val) _ fun h r d hr => addV_zero B _ h r d (by omega)).symm
  rw [e, ← put4 (bump _ _ _) l]
  unfold kernelRun0_A
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg11 _ _ _ _ _ ?_ l 3 (fun _ _ => (put_ne _ _ _ _ _ _ _ (by decide)).trans ((put_ne _ _ _ _ _ _
      _ (by decide)).trans (put_ne _ _ _ _ _ _ _ (by decide)))) _ p3 _ fun a b => v_e3 arg2 harg2 arg3 harg3 arg6
      harg6 arg7 harg7 B i l hl _ a b
  refine holds_add arg11 _ _ _ _ _ ?_ l 2 (fun _ _ => (put_ne _ _ _ _ _ _ _ (by decide)).trans (put_ne _ _ _ _ _ _
      _ (by decide))) _ p2 _ fun a b => v_e2 arg2 harg2 arg3 harg3 arg6 harg6 arg7 harg7 B i l hl _ a b
  refine holds_add arg11 _ _ _ _ _ ?_ l 1 (fun _ _ => put_ne _ _ _ _ _ _ _ (by decide)) _ p1 _ fun a b => v_e1 arg2
      harg2 arg3 harg3 arg6 harg6 arg7 harg7 B i l hl _ a b
  refine holds_add arg11 _ _ _ _ _ ?_ l 0 (fun _ _ => rfl) _ p0 _ fun a b => v_e0 arg2 harg2 arg3 harg3 arg6 harg6
      arg7 harg7 B i l hl _ a b
  rw [← put4 (upto _ _ _) j]
  refine holds_add arg11 _ _ _ _ _ ?_ j 3 (fun _ _ => (put_ne _ _ _ _ _ _ _ (by decide)).trans ((put_ne _ _ _ _ _ _
      _ (by decide)).trans (put_ne _ _ _ _ _ _ _ (by decide)))) _ o3 _ fun a b => v_d3 arg2 harg2 arg3 harg3 arg6
      harg6 arg7 harg7 B i j hj _ a b
  refine holds_add arg11 _ _ _ _ _ ?_ j 2 (fun _ _ => (put_ne _ _ _ _ _ _ _ (by decide)).trans (put_ne _ _ _ _ _ _
      _ (by decide))) _ o2 _ fun a b => v_d2 arg2 harg2 arg3 harg3 arg6 harg6 arg7 harg7 B i j hj _ a b
  refine holds_add arg11 _ _ _ _ _ ?_ j 1 (fun _ _ => put_ne _ _ _ _ _ _ _ (by decide)) _ o1 _ fun a b => v_d1 arg2
      harg2 arg3 harg3 arg6 harg6 arg7 harg7 B i j hj _ a b
  refine holds_add arg11 _ _ _ _ _ ?_ j 0 (fun _ _ => rfl) _ o0 _ fun a b => v_d0 arg2 harg2 arg3 harg3 arg6 harg6
      arg7 harg7 B i j hj _ a b
  rw [← trips1 i, show Scf.trips (k0_t2_loop i).lb (k0_t2_loop i).ub (k0_t2_loop i).st = 0 from trips2 i]
  show Holds arg11 (arg11.view.writes (Elt Ideal) arg11.view.junk (_ ++ kernelRun0_A.sl.H9_1 (F := Ideal))) _
  rw [View.writes_append]
  refine loop_v arg2 harg2 arg3 harg3 arg4 harg4 arg5 harg5 arg6 harg6 arg7 harg7 arg8 harg8 arg9 harg9 arg10
      harg10 arg11 harg11 arg12 harg12 Variants.none c none B i _ _ _ _ ?_ _ le_rfl
  refine holds_zero arg11 _ _ _ fun y => ?_
  pointwise [k0_pay83]

/-- The query gradients after the point, before they are turned. -/
theorem runA_scratch (c : Dev nD) (B : Blocks) (i : grid0.Coords) :
    QHolds arg12 (arg12.view.writes (Elt Ideal) arg12.view.junk (kernelRun0_A.sl.HS0_8 (F := Ideal) c i arg2 harg2
        arg3 harg3 arg4 harg4 arg5 harg5 arg6 harg6 arg7 harg7 arg8 harg8 arg9 harg9 arg10 harg10 arg11 harg11
        arg12 harg12 B.q B.k B.v B.kt B.g B.lse B.dl)) (fun h d q => ∑ j : Fin 16, addQ B (i 1).val j h d q) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h d q => ∑ j : Fin 16, addQ B (i 1).val j h d q) = fun h d q => (qupto (fun _ _ _ => 0) (2 * (i
      1).val) (tileQ B (i 1).val) h d q + addQ B (i 1).val j h d q) + addQ B (i 1).val l h d q := by
    rw [← qupto_all B _ hn, qupto_succ, qupto_succ, tileQ_of_lt B _ _ (by omega), tileQ_of_lt B _ _ (by omega),
        show (⟨2 * (i 1).val, by omega⟩ : Fin 16) = j from Fin.ext hj.symm, show (⟨2 * (i 1).val + 1, by omega⟩ :
        Fin 16) = l from Fin.ext hl.symm]
  rw [e, ← qput4 (fun h d q => qupto _ _ _ h d q + _)]
  unfold kernelRun0_A.sl.HS0_8
  refine qholds_addLate arg12 _ _ _ _ _ ?_ 3 (fun _ _ => (qput_ne _ _ _ _ _ _ (by decide)).trans ((qput_ne _ _ _ _
      _ _ (by decide)).trans (qput_ne _ _ _ _ _ _ (by decide)))) _ rfl _ (fun b q => q_e3 arg2 harg2 arg3 harg3
      arg4 harg4 arg5 harg5 arg6 harg6 arg7 harg7 arg8 harg8 B i l hl _ _ b q) fun b q hq => addQ_zero B _ l _ b q
      (by omega)
  refine qholds_addLate arg12 _ _ _ _ _ ?_ 2 (fun _ _ => (qput_ne _ _ _ _ _ _ (by decide)).trans (qput_ne _ _ _ _ _
      _ (by decide))) _ rfl _ (fun b q => q_e2 arg2 harg2 arg3 harg3 arg4 harg4 arg5 harg5 arg6 harg6 arg7 harg7
      arg8 harg8 B i l hl _ _ b q) fun b q hq => addQ_zero B _ l _ b q (by omega)
  refine qholds_addLate arg12 _ _ _ _ _ ?_ 1 (fun _ _ => qput_ne _ _ _ _ _ _ (by decide)) _ rfl _ (fun b q => q_e1
      arg2 harg2 arg3 harg3 arg4 harg4 arg5 harg5 arg6 harg6 arg7 harg7 arg8 harg8 B i l hl _ _ b q) fun b q hq =>
      addQ_zero B _ l _ b q (by omega)
  refine qholds_addLate arg12 _ _ _ _ _ ?_ 0 (fun _ _ => rfl) _ rfl _ (fun b q => q_e0 arg2 harg2 arg3 harg3 arg4
      harg4 arg5 harg5 arg6 harg6 arg7 harg7 arg8 harg8 B i l hl _ _ b q) fun b q hq => addQ_zero B _ l _ b q (by
      omega)
  rw [← qput4 (qupto _ _ _)]
  refine qholds_add arg12 _ _ _ _ _ ?_ 3 (fun _ _ => (qput_ne _ _ _ _ _ _ (by decide)).trans ((qput_ne _ _ _ _ _ _
      (by decide)).trans (qput_ne _ _ _ _ _ _ (by decide)))) _ rfl _ fun b q => q_d3 arg2 harg2 arg3 harg3 arg4
      harg4 arg5 harg5 arg6 harg6 arg7 harg7 arg8 harg8 B i j hj _ _ b q
  refine qholds_add arg12 _ _ _ _ _ ?_ 2 (fun _ _ => (qput_ne _ _ _ _ _ _ (by decide)).trans (qput_ne _ _ _ _ _ _
      (by decide))) _ rfl _ fun b q => q_d2 arg2 harg2 arg3 harg3 arg4 harg4 arg5 harg5 arg6 harg6 arg7 harg7 arg8
      harg8 B i j hj _ _ b q
  refine qholds_add arg12 _ _ _ _ _ ?_ 1 (fun _ _ => qput_ne _ _ _ _ _ _ (by decide)) _ rfl _ fun b q => q_d1 arg2
      harg2 arg3 harg3 arg4 harg4 arg5 harg5 arg6 harg6 arg7 harg7 arg8 harg8 B i j hj _ _ b q
  refine qholds_add arg12 _ _ _ _ _ ?_ 0 (fun _ _ => rfl) _ rfl _ fun b q => q_d0 arg2 harg2 arg3 harg3 arg4 harg4
      arg5 harg5 arg6 harg6 arg7 harg7 arg8 harg8 B i j hj _ _ b q
  rw [← trips1 i, show Scf.trips (k0_t2_loop i).lb (k0_t2_loop i).ub (k0_t2_loop i).st = 0 from trips2 i]
  show QHolds arg12 (arg12.view.writes (Elt Ideal) arg12.view.junk (_ ++ (kernelRun0_A.sl.HS0_1 (F := Ideal)))) _
  rw [View.writes_append]
  refine loop_q arg2 harg2 arg3 harg3 arg4 harg4 arg5 harg5 arg6 harg6 arg7 harg7 arg8 harg8 arg9 harg9 arg10
      harg10 arg11 harg11 arg12 harg12 Variants.none c none B i _ _ _ _ ?_ _ le_rfl
  refine qholds_zero arg12 _ _ _ fun y => ?_
  pointwise [k0_pay84]

/-- The query gradients after the point. -/
theorem runA_q (c : Dev nD) (B : Blocks) (i : grid0.Coords) (hc : cond0_0 i) (v : View sig .tc .vmem S512x512 .f32)
    (f : v.ty.Contents (Elt Ideal)) (h : Fin 4) (d : Fin 128) (q : Fin 512) :
    v.read (Elt Ideal) (v.writes (Elt Ideal) f (kernelRun0_A (F := Ideal) c i arg2 harg2 arg3 harg3 arg4 harg4 arg5
        harg5 arg6 harg6 arg7 harg7 arg8 harg8 arg9 harg9 arg10 harg10 arg11 harg11 arg12 harg12 hc B.q B.k B.v
        B.kt B.g B.lse B.dl).1) (ix2 q (col h d)) = ∑ j : Fin 16, addQ B (i 1).val j h d q := by
  have H := runA_scratch arg2 harg2 arg3 harg3 arg4 harg4 arg5 harg5 arg6 harg6 arg7 harg7 arg8 harg8 arg9 harg9
      arg10 harg10 arg11 harg11 arg12 harg12 c B i
  unfold kernelRun0_A
  dsimp only
  refine out4 v f (fun h d q => ∑ j : Fin 16, addQ B (i 1).val j h d q) _ _ _ _ _ _ _ _ (fun q d => ?_) (fun q d =>
      ?_) (fun q d => ?_) (fun q d => ?_) h d q
  · exact (turned_0 _ q d).trans (H.load 0 _ rfl d q)
  · exact (turned_1 _ q d).trans (H.load 1 _ rfl d q)
  · exact (turned_2 _ q d).trans (H.load 2 _ rfl d q)
  · exact (turned_3 _ q d).trans (H.load 3 _ rfl d q)

end Cert.Mla

end
-- ==== Proof.Mla.RunB.lean ====
module

public import proofs.«01_k».proof.Proof.Mla.Loop
public import proofs.«01_k».proof.Proof.Mla.PieceFirst
public import proofs.«01_k».proof.Proof.Mla.PieceSecond
public import proofs.«01_k».proof.Proof.Mla.Turn

/-!
# Attention backward: a later point

A point after the first adds its products to the key and value gradients it finds, and writes its query gradients.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4x128x512 .f32) (harg12 :
    arg12.IsWhole)

/-- The key gradients after the point. -/
theorem runB_k (c : Dev nD) (B : Blocks) (i : grid0.Coords) (hc : ¬cond0_0 i) (xo8 xo9 : Vec Ideal S4096x512 .f32)
    (S : State) (hS : ∀ h r d, xo8 (ix2 r (col h d)) = S h r d) :
    Holds arg10 (arg10.view.writes (Elt Ideal) (harg10.unread xo8) (kernelRun0_B (F := Ideal) c i arg2 harg2 arg3
        harg3 arg4 harg4 arg5 harg5 arg6 harg6 arg7 harg7 arg8 harg8 arg9 harg9 arg10 harg10 arg11 harg11 arg12
        harg12 hc B.q B.k B.v B.kt B.g B.lse B.dl xo8 xo9).2.1) (fun h r d => S h r d + addK B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => S h r d + addK B (i 1).val h r d) = bump (bump (upto S (2 * (i 1).val) (addK B (i 1).val))
      j.val (addK B (i 1).val)) l.val (addK B (i 1).val) := by
    rw [hj, hl, bump_upto, bump_upto]
    exact (upto_all S (addK B (i 1).val) _ fun h r d hr => addK_zero B _ h r d (by omega)).symm
  rw [e, ← put4 (bump _ _ _) l]
  unfold kernelRun0_B
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg10 _ _ _ _ _ ?_ l 3 (fun _ _ => (put_ne _ _ _ _ _ _ _ (by decide)).trans ((put_ne _ _ _ _ _ _
      _ (by decide)).trans (put_ne _ _ _ _ _ _ _ (by decide)))) _ p3 _ fun a b => k_e3 arg2 harg2 arg3 harg3 arg4
      harg4 arg6 harg6 arg7 harg7 arg8 harg8 B i l hl _ a b
  refine holds_add arg10 _ _ _ _ _ ?_ l 2 (fun _ _ => (put_ne _ _ _ _ _ _ _ (by decide)).trans (put_ne _ _ _ _ _ _
      _ (by decide))) _ p2 _ fun a b => k_e2 arg2 harg2 arg3 harg3 arg4 harg4 arg6 harg6 arg7 harg7 arg8 harg8 B i
      l hl _ a b
  refine holds_add arg10 _ _ _ _ _ ?_ l 1 (fun _ _ => put_ne _ _ _ _ _ _ _ (by decide)) _ p1 _ fun a b => k_e1 arg2
      harg2 arg3 harg3 arg4 harg4 arg6 harg6 arg7 harg7 arg8 harg8 B i l hl _ a b
  refine holds_add arg10 _ _ _ _ _ ?_ l 0 (fun _ _ => rfl) _ p0 _ fun a b => k_e0 arg2 harg2 arg3 harg3 arg4 harg4
      arg6 harg6 arg7 harg7 arg8 harg8 B i l hl _ a b
  rw [← put4 (upto _ _ _) j]
  refine holds_add arg10 _ _ _ _ _ ?_ j 3 (fun _ _ => (put_ne _ _ _ _ _ _ _ (by decide)).trans ((put_ne _ _ _ _ _ _
      _ (by decide)).trans (put_ne _ _ _ _ _ _ _ (by decide)))) _ o3 _ fun a b => k_d3 arg2 harg2 arg3 harg3 arg4
      harg4 arg6 harg6 arg7 harg7 arg8 harg8 B i j hj _ a b
  refine holds_add arg10 _ _ _ _ _ ?_ j 2 (fun _ _ => (put_ne _ _ _ _ _ _ _ (by decide)).trans (put_ne _ _ _ _ _ _
      _ (by decide))) _ o2 _ fun a b => k_d2 arg2 harg2 arg3 harg3 arg4 harg4 arg6 harg6 arg7 harg7 arg8 harg8 B i
      j hj _ a b
  refine holds_add arg10 _ _ _ _ _ ?_ j 1 (fun _ _ => put_ne _ _ _ _ _ _ _ (by decide)) _ o1 _ fun a b => k_d1 arg2
      harg2 arg3 harg3 arg4 harg4 arg6 harg6 arg7 harg7 arg8 harg8 B i j hj _ a b
  refine holds_add arg10 _ _ _ _ _ ?_ j 0 (fun _ _ => rfl) _ o0 _ fun a b => k_d0 arg2 harg2 arg3 harg3 arg4 harg4
      arg6 harg6 arg7 harg7 arg8 harg8 B i j hj _ a b
  rw [← trips1 i, show Scf.trips (k0_t2_loop i).lb (k0_t2_loop i).ub (k0_t2_loop i).st = 0 from trips2 i]
  exact loop_k arg2 harg2 arg3 harg3 arg4 harg4 arg5 harg5 arg6 harg6 arg7 harg7 arg8 harg8 arg9 harg9 arg10 harg10
      arg11 harg11 arg12 harg12 Variants.none c none B i (harg10.unread xo8) (harg11.unread xo9) _ S (fun h r d =>
      (congrFun (harg10.read_unread (Val := Elt Ideal) xo8) _).trans (hS h r d)) _ le_rfl

/-- The value gradients after the point. -/
theorem runB_v (c : Dev nD) (B : Blocks) (i : grid0.Coords) (hc : ¬cond0_0 i) (xo8 xo9 : Vec Ideal S4096x512 .f32)
    (S : State) (hS : ∀ h r d, xo9 (ix2 r (col h d)) = S h r d) :
    Holds arg11 (arg11.view.writes (Elt Ideal) (harg11.unread xo9) (kernelRun0_B (F := Ideal) c i arg2 harg2 arg3
        harg3 arg4 harg4 arg5 harg5 arg6 harg6 arg7 harg7 arg8 harg8 arg9 harg9 arg10 harg10 arg11 harg11 arg12
        harg12 hc B.q B.k B.v B.kt B.g B.lse B.dl xo8 xo9).2.2.1) (fun h r d => S h r d + addV B (i 1).val h r d)
        := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => S h r d + addV B (i 1).val h r d) = bump (bump (upto S (2 * (i 1).val) (addV B (i 1).val))
      j.val (addV B (i 1).val)) l.val (addV B (i 1).val) := by
    rw [hj, hl, bump_upto, bump_upto]
    exact (upto_all S (addV B (i 1).val) _ fun h r d hr => addV_zero B _ h r d (by omega)).symm
  rw [e, ← put4 (bump _ _ _) l]
  unfold kernelRun0_B
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg11 _ _ _ _ _ ?_ l 3 (fun _ _ => (put_ne _ _ _ _ _ _ _ (by decide)).trans ((put_ne _ _ _ _ _ _
      _ (by decide)).trans (put_ne _ _ _ _ _ _ _ (by decide)))) _ p3 _ fun a b => v_e3 arg2 harg2 arg3 harg3 arg6
      harg6 arg7 harg7 B i l hl _ a b
  refine holds_add arg11 _ _ _ _ _ ?_ l 2 (fun _ _ => (put_ne _ _ _ _ _ _ _ (by decide)).trans (put_ne _ _ _ _ _ _
      _ (by decide))) _ p2 _ fun a b => v_e2 arg2 harg2 arg3 harg3 arg6 harg6 arg7 harg7 B i l hl _ a b
  refine holds_add arg11 _ _ _ _ _ ?_ l 1 (fun _ _ => put_ne _ _ _ _ _ _ _ (by decide)) _ p1 _ fun a b => v_e1 arg2
      harg2 arg3 harg3 arg6 harg6 arg7 harg7 B i l hl _ a b
  refine holds_add arg11 _ _ _ _ _ ?_ l 0 (fun _ _ => rfl) _ p0 _ fun a b => v_e0 arg2 harg2 arg3 harg3 arg6 harg6
      arg7 harg7 B i l hl _ a b
  rw [← put4 (upto _ _ _) j]
  refine holds_add arg11 _ _ _ _ _ ?_ j 3 (fun _ _ => (put_ne _ _ _ _ _ _ _ (by decide)).trans ((put_ne _ _ _ _ _ _
      _ (by decide)).trans (put_ne _ _ _ _ _ _ _ (by decide)))) _ o3 _ fun a b => v_d3 arg2 harg2 arg3 harg3 arg6
      harg6 arg7 harg7 B i j hj _ a b
  refine holds_add arg11 _ _ _ _ _ ?_ j 2 (fun _ _ => (put_ne _ _ _ _ _ _ _ (by decide)).trans (put_ne _ _ _ _ _ _
      _ (by decide))) _ o2 _ fun a b => v_d2 arg2 harg2 arg3 harg3 arg6 harg6 arg7 harg7 B i j hj _ a b
  refine holds_add arg11 _ _ _ _ _ ?_ j 1 (fun _ _ => put_ne _ _ _ _ _ _ _ (by decide)) _ o1 _ fun a b => v_d1 arg2
      harg2 arg3 harg3 arg6 harg6 arg7 harg7 B i j hj _ a b
  refine holds_add arg11 _ _ _ _ _ ?_ j 0 (fun _ _ => rfl) _ o0 _ fun a b => v_d0 arg2 harg2 arg3 harg3 arg6 harg6
      arg7 harg7 B i j hj _ a b
  rw [← trips1 i, show Scf.trips (k0_t2_loop i).lb (k0_t2_loop i).ub (k0_t2_loop i).st = 0 from trips2 i]
  exact loop_v arg2 harg2 arg3 harg3 arg4 harg4 arg5 harg5 arg6 harg6 arg7 harg7 arg8 harg8 arg9 harg9 arg10 harg10
      arg11 harg11 arg12 harg12 Variants.none c none B i (harg10.unread xo8) (harg11.unread xo9) _ S (fun h r d =>
      (congrFun (harg11.read_unread (Val := Elt Ideal) xo9) _).trans (hS h r d)) _ le_rfl

/-- The query gradients after the point, before they are turned. -/
theorem runB_scratch (c : Dev nD) (B : Blocks) (i : grid0.Coords) (xo8 xo9 : Vec Ideal S4096x512 .f32) :
    QHolds arg12 (arg12.view.writes (Elt Ideal) arg12.view.junk (kernelRun0_B.sl.HS0_8 (F := Ideal) c i arg2 harg2
        arg3 harg3 arg4 harg4 arg5 harg5 arg6 harg6 arg7 harg7 arg8 harg8 arg9 harg9 arg10 harg10 arg11 harg11
        arg12 harg12 B.q B.k B.v B.kt B.g B.lse B.dl xo8 xo9)) (fun h d q => ∑ j : Fin 16, addQ B (i 1).val j h d
        q) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h d q => ∑ j : Fin 16, addQ B (i 1).val j h d q) = fun h d q => (qupto (fun _ _ _ => 0) (2 * (i
      1).val) (tileQ B (i 1).val) h d q + addQ B (i 1).val j h d q) + addQ B (i 1).val l h d q := by
    rw [← qupto_all B _ hn, qupto_succ, qupto_succ, tileQ_of_lt B _ _ (by omega), tileQ_of_lt B _ _ (by omega),
        show (⟨2 * (i 1).val, by omega⟩ : Fin 16) = j from Fin.ext hj.symm, show (⟨2 * (i 1).val + 1, by omega⟩ :
        Fin 16) = l from Fin.ext hl.symm]
  rw [e, ← qput4 (fun h d q => qupto _ _ _ h d q + _)]
  unfold kernelRun0_B.sl.HS0_8
  refine qholds_addLate arg12 _ _ _ _ _ ?_ 3 (fun _ _ => (qput_ne _ _ _ _ _ _ (by decide)).trans ((qput_ne _ _ _ _
      _ _ (by decide)).trans (qput_ne _ _ _ _ _ _ (by decide)))) _ rfl _ (fun b q => q_e3 arg2 harg2 arg3 harg3
      arg4 harg4 arg5 harg5 arg6 harg6 arg7 harg7 arg8 harg8 B i l hl _ _ b q) fun b q hq => addQ_zero B _ l _ b q
      (by omega)
  refine qholds_addLate arg12 _ _ _ _ _ ?_ 2 (fun _ _ => (qput_ne _ _ _ _ _ _ (by decide)).trans (qput_ne _ _ _ _ _
      _ (by decide))) _ rfl _ (fun b q => q_e2 arg2 harg2 arg3 harg3 arg4 harg4 arg5 harg5 arg6 harg6 arg7 harg7
      arg8 harg8 B i l hl _ _ b q) fun b q hq => addQ_zero B _ l _ b q (by omega)
  refine qholds_addLate arg12 _ _ _ _ _ ?_ 1 (fun _ _ => qput_ne _ _ _ _ _ _ (by decide)) _ rfl _ (fun b q => q_e1
      arg2 harg2 arg3 harg3 arg4 harg4 arg5 harg5 arg6 harg6 arg7 harg7 arg8 harg8 B i l hl _ _ b q) fun b q hq =>
      addQ_zero B _ l _ b q (by omega)
  refine qholds_addLate arg12 _ _ _ _ _ ?_ 0 (fun _ _ => rfl) _ rfl _ (fun b q => q_e0 arg2 harg2 arg3 harg3 arg4
      harg4 arg5 harg5 arg6 harg6 arg7 harg7 arg8 harg8 B i l hl _ _ b q) fun b q hq => addQ_zero B _ l _ b q (by
      omega)
  rw [← qput4 (qupto _ _ _)]
  refine qholds_add arg12 _ _ _ _ _ ?_ 3 (fun _ _ => (qput_ne _ _ _ _ _ _ (by decide)).trans ((qput_ne _ _ _ _ _ _
      (by decide)).trans (qput_ne _ _ _ _ _ _ (by decide)))) _ rfl _ fun b q => q_d3 arg2 harg2 arg3 harg3 arg4
      harg4 arg5 harg5 arg6 harg6 arg7 harg7 arg8 harg8 B i j hj _ _ b q
  refine qholds_add arg12 _ _ _ _ _ ?_ 2 (fun _ _ => (qput_ne _ _ _ _ _ _ (by decide)).trans (qput_ne _ _ _ _ _ _
      (by decide))) _ rfl _ fun b q => q_d2 arg2 harg2 arg3 harg3 arg4 harg4 arg5 harg5 arg6 harg6 arg7 harg7 arg8
      harg8 B i j hj _ _ b q
  refine qholds_add arg12 _ _ _ _ _ ?_ 1 (fun _ _ => qput_ne _ _ _ _ _ _ (by decide)) _ rfl _ fun b q => q_d1 arg2
      harg2 arg3 harg3 arg4 harg4 arg5 harg5 arg6 harg6 arg7 harg7 arg8 harg8 B i j hj _ _ b q
  refine qholds_add arg12 _ _ _ _ _ ?_ 0 (fun _ _ => rfl) _ rfl _ fun b q => q_d0 arg2 harg2 arg3 harg3 arg4 harg4
      arg5 harg5 arg6 harg6 arg7 harg7 arg8 harg8 B i j hj _ _ b q
  rw [← trips1 i, show Scf.trips (k0_t2_loop i).lb (k0_t2_loop i).ub (k0_t2_loop i).st = 0 from trips2 i]
  show QHolds arg12 (arg12.view.writes (Elt Ideal) arg12.view.junk (_ ++ (kernelRun0_B.sl.HS0_1 (F := Ideal)))) _
  rw [View.writes_append]
  refine loop_q arg2 harg2 arg3 harg3 arg4 harg4 arg5 harg5 arg6 harg6 arg7 harg7 arg8 harg8 arg9 harg9 arg10
      harg10 arg11 harg11 arg12 harg12 Variants.none c none B i (harg10.unread xo8) (harg11.unread xo9) _ _ ?_ _
      le_rfl
  refine qholds_zero arg12 _ _ _ fun y => ?_
  pointwise [k0_pay84]

/-- The query gradients after the point. -/
theorem runB_q (c : Dev nD) (B : Blocks) (i : grid0.Coords) (hc : ¬cond0_0 i) (xo8 xo9 : Vec Ideal S4096x512 .f32)
    (v : View sig .tc .vmem S512x512 .f32) (f : v.ty.Contents (Elt Ideal)) (h : Fin 4) (d : Fin 128) (q : Fin 512) :
    v.read (Elt Ideal) (v.writes (Elt Ideal) f (kernelRun0_B (F := Ideal) c i arg2 harg2 arg3 harg3 arg4 harg4 arg5
        harg5 arg6 harg6 arg7 harg7 arg8 harg8 arg9 harg9 arg10 harg10 arg11 harg11 arg12 harg12 hc B.q B.k B.v
        B.kt B.g B.lse B.dl xo8 xo9).1) (ix2 q (col h d)) = ∑ j : Fin 16, addQ B (i 1).val j h d q := by
  have H := runB_scratch arg2 harg2 arg3 harg3 arg4 harg4 arg5 harg5 arg6 harg6 arg7 harg7 arg8 harg8 arg9 harg9
      arg10 harg10 arg11 harg11 arg12 harg12 c B i xo8 xo9
  unfold kernelRun0_B
  dsimp only
  refine out4 v f (fun h d q => ∑ j : Fin 16, addQ B (i 1).val j h d q) _ _ _ _ _ _ _ _ (fun q d => ?_) (fun q d =>
      ?_) (fun q d => ?_) (fun q d => ?_) h d q
  · exact (turned_0 _ q d).trans (H.load 0 _ rfl d q)
  · exact (turned_1 _ q d).trans (H.load 1 _ rfl d q)
  · exact (turned_2 _ q d).trans (H.load 2 _ rfl d q)
  · exact (turned_3 _ q d).trans (H.load 3 _ rfl d q)

end Cert.Mla

end
-- ==== Proof.Mla.Outs.lean ====
module

public import proofs.«01_k».proof.Proof.Mla.RunA
public import proofs.«01_k».proof.Proof.Mla.RunB

/-!
# Attention backward: what a grid point leaves in a window
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4x128x512 .f32) (harg12 :
    arg12.IsWhole) (c : Dev nD) (i : grid0.Coords) (x0 : Vec Ideal S512x512 .bf16) (x1 : Vec Ideal S4096x512 .bf16)
    (x2 : Vec Ideal S4096x512 .bf16) (x3 : Vec Ideal S16x512x256 .bf16) (x4 : Vec Ideal S512x512 .f32) (x5 : Vec
    Ideal S4x1x1x512 .f32) (x6 : Vec Ideal S4x1x1x512 .f32)

theorem outA_q (hc : cond0_0 i) (h : Fin 4) (d : Fin 128) (q : Fin 512) :
    out0_A_7 (F := Ideal) c i arg2 harg2 arg3 harg3 arg4 harg4 arg5 harg5 arg6 harg6 arg7 harg7 arg8 harg8 arg9
        harg9 arg10 harg10 arg11 harg11 arg12 harg12 hc x0 x1 x2 x3 x4 x5 x6 (ix2 q (col h d)) = ∑ j : Fin 16, addQ
        ⟨x0, x1, x2, x3, x4, x5, x6⟩ (i 1).val j h d q := by
  unfold out0_A_7
  exact runA_q arg2 harg2 arg3 harg3 arg4 harg4 arg5 harg5 arg6 harg6 arg7 harg7 arg8 harg8 arg9 harg9 arg10 harg10
      arg11 harg11 arg12 harg12 c ⟨x0, x1, x2, x3, x4, x5, x6⟩ i hc VO0_7 _ h d q

theorem outA_k (hc : cond0_0 i) (h : Fin 4) (r : Fin 4096) (d : Fin 128) :
    out0_A_8 (F := Ideal) c i arg2 harg2 arg3 harg3 arg4 harg4 arg5 harg5 arg6 harg6 arg7 harg7 arg8 harg8 arg9
        harg9 arg10 harg10 arg11 harg11 arg12 harg12 hc x0 x1 x2 x3 x4 x5 x6 (ix2 r (col h d)) = 0 + addK ⟨x0, x1,
        x2, x3, x4, x5, x6⟩ (i 1).val h r d := by
  unfold out0_A_8
  refine (View.read_writes_apply_eq (Val := Elt Ideal) VO0_8 VO0_8.junk arg10.view arg10.view.junk _ _ (cover0_A_8
      c i arg2 harg2 arg3 harg3 arg4 harg4 arg5 harg5 arg6 harg6 arg7 harg7 arg8 harg8 arg9 harg9 arg10 harg10
      arg11 harg11 arg12 harg12 hc x0 x1 x2 x3 x4 x5 x6 _)).trans ?_
  exact runA_k arg2 harg2 arg3 harg3 arg4 harg4 arg5 harg5 arg6 harg6 arg7 harg7 arg8 harg8 arg9 harg9 arg10 harg10
      arg11 harg11 arg12 harg12 c ⟨x0, x1, x2, x3, x4, x5, x6⟩ i hc h r d

theorem outA_v (hc : cond0_0 i) (h : Fin 4) (r : Fin 4096) (d : Fin 128) :
    out0_A_9 (F := Ideal) c i arg2 harg2 arg3 harg3 arg4 harg4 arg5 harg5 arg6 harg6 arg7 harg7 arg8 harg8 arg9
        harg9 arg10 harg10 arg11 harg11 arg12 harg12 hc x0 x1 x2 x3 x4 x5 x6 (ix2 r (col h d)) = 0 + addV ⟨x0, x1,
        x2, x3, x4, x5, x6⟩ (i 1).val h r d := by
  unfold out0_A_9
  refine (View.read_writes_apply_eq (Val := Elt Ideal) VO0_9 VO0_9.junk arg11.view arg11.view.junk _ _ (cover0_A_9
      c i arg2 harg2 arg3 harg3 arg4 harg4 arg5 harg5 arg6 harg6 arg7 harg7 arg8 harg8 arg9 harg9 arg10 harg10
      arg11 harg11 arg12 harg12 hc x0 x1 x2 x3 x4 x5 x6 _)).trans ?_
  exact runA_v arg2 harg2 arg3 harg3 arg4 harg4 arg5 harg5 arg6 harg6 arg7 harg7 arg8 harg8 arg9 harg9 arg10 harg10
      arg11 harg11 arg12 harg12 c ⟨x0, x1, x2, x3, x4, x5, x6⟩ i hc h r d

theorem outB_q (hc : ¬cond0_0 i) (xo8 xo9 : Vec Ideal S4096x512 .f32) (h : Fin 4) (d : Fin 128) (q : Fin 512) :
    out0_B_7 (F := Ideal) c i arg2 harg2 arg3 harg3 arg4 harg4 arg5 harg5 arg6 harg6 arg7 harg7 arg8 harg8 arg9
        harg9 arg10 harg10 arg11 harg11 arg12 harg12 hc x0 x1 x2 x3 x4 x5 x6 xo8 xo9 (ix2 q (col h d)) = ∑ j : Fin
        16, addQ ⟨x0, x1, x2, x3, x4, x5, x6⟩ (i 1).val j h d q := by
  unfold out0_B_7
  exact runB_q arg2 harg2 arg3 harg3 arg4 harg4 arg5 harg5 arg6 harg6 arg7 harg7 arg8 harg8 arg9 harg9 arg10 harg10
      arg11 harg11 arg12 harg12 c ⟨x0, x1, x2, x3, x4, x5, x6⟩ i hc xo8 xo9 VO0_7 _ h d q

theorem outB_k (hc : ¬cond0_0 i) (xo8 xo9 : Vec Ideal S4096x512 .f32) (h : Fin 4) (r : Fin 4096) (d : Fin 128) :
    out0_B_8 (F := Ideal) c i arg2 harg2 arg3 harg3 arg4 harg4 arg5 harg5 arg6 harg6 arg7 harg7 arg8 harg8 arg9
        harg9 arg10 harg10 arg11 harg11 arg12 harg12 hc x0 x1 x2 x3 x4 x5 x6 xo8 xo9 (ix2 r (col h d)) = xo8 (ix2 r
        (col h d)) + addK ⟨x0, x1, x2, x3, x4, x5, x6⟩ (i 1).val h r d := by
  unfold out0_B_8
  exact runB_k arg2 harg2 arg3 harg3 arg4 harg4 arg5 harg5 arg6 harg6 arg7 harg7 arg8 harg8 arg9 harg9 arg10 harg10
      arg11 harg11 arg12 harg12 c ⟨x0, x1, x2, x3, x4, x5, x6⟩ i hc xo8 xo9 (fun h r d => xo8 (ix2 r (col h d)))
      (fun _ _ _ => rfl) h r d

theorem outB_v (hc : ¬cond0_0 i) (xo8 xo9 : Vec Ideal S4096x512 .f32) (h : Fin 4) (r : Fin 4096) (d : Fin 128) :
    out0_B_9 (F := Ideal) c i arg2 harg2 arg3 harg3 arg4 harg4 arg5 harg5 arg6 harg6 arg7 harg7 arg8 harg8 arg9
        harg9 arg10 harg10 arg11 harg11 arg12 harg12 hc x0 x1 x2 x3 x4 x5 x6 xo8 xo9 (ix2 r (col h d)) = xo9 (ix2 r
        (col h d)) + addV ⟨x0, x1, x2, x3, x4, x5, x6⟩ (i 1).val h r d := by
  unfold out0_B_9
  exact runB_v arg2 harg2 arg3 harg3 arg4 harg4 arg5 harg5 arg6 harg6 arg7 harg7 arg8 harg8 arg9 harg9 arg10 harg10
      arg11 harg11 arg12 harg12 c ⟨x0, x1, x2, x3, x4, x5, x6⟩ i hc xo8 xo9 (fun h r d => xo9 (ix2 r (col h d)))
      (fun _ _ _ => rfl) h r d

end Cert.Mla

end
-- ==== Proof.Mla.Points.lean ====
module

public import proofs.«01_k».proof.Proof.Mla.Outs

/-!
# Attention backward: what the grid points leave

Point `t` leaves its queries' gradients, and in the key and value gradients the sum over the points up to it.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (m : (ℓ : Loc nD τ sig) → Buf (Elt Ideal) ℓ)

/-- The blocks of point `t`. -/
def blocks (c : Dev nD) (t : Fin cfg0.N) : Blocks :=
  ⟨iblk m c 0 t, iblk m c 1 t, iblk m c 2 t, iblk m c 3 t, iblk m c 4 t, iblk m c 5 t, iblk m c 6 t⟩

theorem coord : ∀ t : Fin cfg0.N, (grid0.coords t 1).val = t.val := by decide +kernel

theorem point_q (c : Dev nD) (t : Fin cfg0.N) (h : Fin 4) (d : Fin 128) (q : Fin 512) :
    (outsAt0 m c t.val t.isLt).1 (ix2 q (col h d)) = ∑ j : Fin 16, addQ (blocks m c t) t.val j h d q := by
  have e := coord t
  by_cases h0 : t.val % 8 = 0
  · exact (congrFun (congrArg Prod.fst (outsAt0_A m c t h0)) _).trans
      ((outA_q _ _ _ _ _ _ _ _ _ _ _ _ _ _ _ _ _ _ _ _ _ _ c (grid0.coords t) _ _ _ _ _ _ _ ((hcond0_0 t).mpr h0) h
          d q).trans (by
        rw [e]
        rfl))
  · rw [congrFun (congrArg (fun p => p.1) (outsAt0_B m c t h0)) (ix2 q (col h d))]
    dsimp only
    rw [outB_q]
    rw [e]
    rfl

theorem point_k (c : Dev nD) (n : ℕ) (hn : n < cfg0.N) (h : Fin 4) (r : Fin 4096) (d : Fin 128) :
    (outsAt0 m c n hn).2.1 (ix2 r (col h d))
      = ∑ s : Fin (n + 1), addK (blocks m c ⟨s.val, by omega⟩) s.val h r d := by
  induction n generalizing h r d with
  | zero =>
    refine (congrFun (congrArg (fun p => p.2.1) (outsAt0_A m c ⟨0, hn⟩ rfl)) _).trans
      ((outA_k _ _ _ _ _ _ _ _ _ _ _ _ _ _ _ _ _ _ _ _ _ _ c (grid0.coords ⟨0, hn⟩) _ _ _ _ _ _ _ ((hcond0_0 ⟨0,
          hn⟩).mpr (Nat.zero_mod _)) h r d).trans ?_)
    rw [coord, zero_add, Fin.sum_univ_one]
    rfl
  | succ n ih =>
    have h0 : ¬ (n + 1) % 8 = 0 := by
      have : n + 1 < 8 := hn
      omega
    refine (congrFun (congrArg (fun p => p.2.1) (outsAt0_B m c ⟨n + 1, hn⟩ h0)) _).trans
      ((outB_k _ _ _ _ _ _ _ _ _ _ _ _ _ _ _ _ _ _ _ _ _ _ c (grid0.coords ⟨n + 1, hn⟩) _ _ _ _ _ _ _ (fun hh => h0
          ((hcond0_0 ⟨n + 1, hn⟩).mp hh)) _ _ h r d).trans ?_)
    rw [coord, Fin.sum_univ_castSucc]
    exact congrArg (· + _) (ih (Nat.lt_of_succ_lt hn) h r d)

theorem point_v (c : Dev nD) (n : ℕ) (hn : n < cfg0.N) (h : Fin 4) (r : Fin 4096) (d : Fin 128) :
    (outsAt0 m c n hn).2.2 (ix2 r (col h d))
      = ∑ s : Fin (n + 1), addV (blocks m c ⟨s.val, by omega⟩) s.val h r d := by
  induction n generalizing h r d with
  | zero =>
    refine (congrFun (congrArg (fun p => p.2.2) (outsAt0_A m c ⟨0, hn⟩ rfl)) _).trans
      ((outA_v _ _ _ _ _ _ _ _ _ _ _ _ _ _ _ _ _ _ _ _ _ _ c (grid0.coords ⟨0, hn⟩) _ _ _ _ _ _ _ ((hcond0_0 ⟨0,
          hn⟩).mpr (Nat.zero_mod _)) h r d).trans ?_)
    rw [coord, zero_add, Fin.sum_univ_one]
    rfl
  | succ n ih =>
    have h0 : ¬ (n + 1) % 8 = 0 := by
      have : n + 1 < 8 := hn
      omega
    refine (congrFun (congrArg (fun p => p.2.2) (outsAt0_B m c ⟨n + 1, hn⟩ h0)) _).trans
      ((outB_v _ _ _ _ _ _ _ _ _ _ _ _ _ _ _ _ _ _ _ _ _ _ c (grid0.coords ⟨n + 1, hn⟩) _ _ _ _ _ _ _ (fun hh => h0
          ((hcond0_0 ⟨n + 1, hn⟩).mp hh)) _ _ h r d).trans ?_)
    rw [coord, Fin.sum_univ_castSucc]
    exact congrArg (· + _) (ih (Nat.lt_of_succ_lt hn) h r d)

end Cert.Mla

end
-- ==== Proof.Mla.Launch.lean ====
module

public import proofs.«01_k».proof.Proof.Mla.Points
public import Idealize.ShloMosaic.Lib.Pipeline.ValueKit

/-!
# Attention backward: what the launch leaves

The blocks of a point as entries of the launch's operands, and the three result arrays after the last point.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The block indices in closed form. -/
theorem idx (t : Fin cfg0.N) :
    win0_0.index t = ![t.val, 0] ∧ win0_1.index t = ![0, 1] ∧ win0_2.index t = ![0, 2] ∧ win0_3.index t = ![0, 0, 0]
      ∧ win0_4.index t = ![t.val, 0] ∧ win0_5.index t = ![0, t.val, 0, 0] ∧ win0_6.index t = ![0, t.val, 0, 0]
      ∧ win0_7.index t = ![t.val, 0] ∧ win0_8.index t = ![0, 0] ∧ win0_9.index t = ![0, 0] :=
  (by decide +kernel : ∀ t : Fin grid0.N,
    win0_0.index t = ![t.val, 0] ∧ win0_1.index t = ![0, 1] ∧ win0_2.index t = ![0, 2] ∧ win0_3.index t = ![0, 0, 0]
      ∧ win0_4.index t = ![t.val, 0] ∧ win0_5.index t = ![0, t.val, 0, 0] ∧ win0_6.index t = ![0, t.val, 0, 0]
      ∧ win0_7.index t = ![t.val, 0] ∧ win0_8.index t = ![0, 0] ∧ win0_9.index t = ![0, 0]) t

/-- Position `q` of the queries of point `t`. -/
def pos (t : Fin 8) (q : Fin 512) : Fin 4096 := ⟨512 * t.val + q.val, by omega⟩

/-- Column `e` of part `p` of the three side by side. -/
def part (p : Fin 3) (e : Fin 512) : Fin 1536 := ⟨512 * p.val + e.val, by omega⟩

/-- Column `e` of the first of two halves. -/
def firstHalf (e : Fin 512) : Fin 1024 := ⟨e.val, by omega⟩

/-- Window 0, read off its array. -/
theorem read_q (A : FVec Ideal S4096x1536 .bf16) (t : Fin 8) (q e : Fin 512) :
    ((cfg0.win 0).blk t).view.read (Elt Ideal) A (ix2 q e) = A (ix2 (pos t q) (part 0 e)) := by
  have i := (idx t).1
  refine congrArg A ?_
  unfold pos part
  blk_ext [i]

theorem blk_q (t : Fin 8) (q e : Fin 512) : (blocks m c t).q (ix2 q e) = V m c main_v63 (ix2 (pos t q) (part 0 e)) :=
  read_q (V m c main_v63) t q e

/-- Window 1, read off its array. -/
theorem read_k (A : FVec Ideal S4096x1536 .bf16) (t : Fin 8) (r : Fin 4096) (e : Fin 512) :
    ((cfg0.win 1).blk t).view.read (Elt Ideal) A (ix2 r e) = A (ix2 r (part 1 e)) := by
  have i := (idx t).2.1
  refine congrArg A ?_
  unfold part
  blk_ext [i]

theorem blk_k (t : Fin 8) (r : Fin 4096) (e : Fin 512) : (blocks m c t).k (ix2 r e) = V m c main_v63 (ix2 r (part 1 e)) :=
  read_k (V m c main_v63) t r e

/-- Window 2, read off its array. -/
theorem read_v (A : FVec Ideal S4096x1536 .bf16) (t : Fin 8) (r : Fin 4096) (e : Fin 512) :
    ((cfg0.win 2).blk t).view.read (Elt Ideal) A (ix2 r e) = A (ix2 r (part 2 e)) := by
  have i := (idx t).2.2.1
  refine congrArg A ?_
  unfold part
  blk_ext [i]

theorem blk_v (t : Fin 8) (r : Fin 4096) (e : Fin 512) : (blocks m c t).v (ix2 r e) = V m c main_v63 (ix2 r (part 2 e)) :=
  read_v (V m c main_v63) t r e

/-- Window 3, read off its array. -/
theorem read_kt (A : FVec Ideal S16x1024x256 .bf16) (t : Fin 8) (j : Fin 16) (e : Fin 512) (a : Fin 256) :
    ((cfg0.win 3).blk t).view.read (Elt Ideal) A (ix3 j e a) = A (ix3 j (firstHalf e) a) := by
  have i := (idx t).2.2.2.1
  refine congrArg A ?_
  unfold firstHalf
  blk_ext [i]

theorem blk_kt (t : Fin 8) (j : Fin 16) (e : Fin 512) (a : Fin 256) : (blocks m c t).kt (ix3 j e a) = V m c main_v66 (ix3 j (firstHalf e) a) :=
  read_kt (V m c main_v66) t j e a

/-- Window 4, read off its array. -/
theorem read_g (A : FVec Ideal S4096x512 .f32) (t : Fin 8) (q e : Fin 512) :
    ((cfg0.win 4).blk t).view.read (Elt Ideal) A (ix2 q e) = A (ix2 (pos t q) e) := by
  have i := (idx t).2.2.2.2.1
  refine congrArg A ?_
  unfold pos
  blk_ext [i]

theorem blk_g (t : Fin 8) (q e : Fin 512) : (blocks m c t).g (ix2 q e) = V m c main_v70 (ix2 (pos t q) e) :=
  read_g (V m c main_v70) t q e

/-- Window 5, read off its array. -/
theorem read_lse (A : FVec Ideal S4x8x1x512 .f32) (t : Fin 8) (h : Fin 4) (q : Fin 512) :
    ((cfg0.win 5).blk t).view.read (Elt Ideal) A (ix4 h 0 0 q) = A (ix4 h t 0 q) := by
  have i := (idx t).2.2.2.2.2.1
  refine congrArg A ?_
  blk_ext [i]

theorem blk_lse (t : Fin 8) (h : Fin 4) (q : Fin 512) : (blocks m c t).lse (ix4 h 0 0 q) = V m c main_v71 (ix4 h t 0 q) :=
  read_lse (V m c main_v71) t h q

/-- Window 6, read off its array. -/
theorem read_dl (A : FVec Ideal S4x8x1x512 .f32) (t : Fin 8) (h : Fin 4) (q : Fin 512) :
    ((cfg0.win 6).blk t).view.read (Elt Ideal) A (ix4 h 0 0 q) = A (ix4 h t 0 q) := by
  have i := (idx t).2.2.2.2.2.2.1
  refine congrArg A ?_
  blk_ext [i]

theorem blk_dl (t : Fin 8) (h : Fin 4) (q : Fin 512) : (blocks m c t).dl (ix4 h 0 0 q) = V m c main_v72 (ix4 h t 0 q) :=
  read_dl (V m c main_v72) t h q

end Cert.Mla

end
-- ==== Proof.Mla.Host.lean ====
module

public import proofs.«01_k».proof.Proof.Mla.Launch
public import proofs.«01_k».proof.Proof.Gen.Reference4Ideal.Read
public import Idealize.ShloMosaic.Lib.StableHlo.RunRead
public import Idealize.ShloMosaic.Lib.Pipeline.Value

/-!
# Attention backward: the launch's operands

The host lines put every head's 96 or 64 entries in front of zeros up to 128, the heads side by side.
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

/-- The zero the rows are filled up with. -/
def fill : FVec Ideal S_ .f32 := sitofp .f32 (constantI S_ 32 0#32)

/-- Heads of 96 filled up to 128. -/
def wide96 (x : FVec Ideal S4096x4x96 .f32) : FVec Ideal S4096x512 .f32 :=
  shapeCast _ (pad S4096x4x128 ![0, 0, 0] ![0, 0, 32] ![0, 0, 0]
    (shapeCast S4096x4x96 (shapeCast S4096x384 x shapeCasts_S4096x4x96_S4096x384) shapeCasts_S4096x384_S4096x4x96) fill
    pads_S4096x4x96_S4096x4x128_000_000_0320 h_S_) shapeCasts_S4096x4x128_S4096x512

/-- Heads of 64 filled up to 128. -/
def wide64 (x : FVec Ideal S4096x4x64 .f32) : FVec Ideal S4096x512 .f32 :=
  shapeCast _ (pad S4096x4x128 ![0, 0, 0] ![0, 0, 64] ![0, 0, 0]
    (shapeCast S4096x4x64 (shapeCast S4096x256 x shapeCasts_S4096x4x64_S4096x256) shapeCasts_S4096x256_S4096x4x64) fill
    pads_S4096x4x64_S4096x4x128_000_000_0640 h_S_) shapeCasts_S4096x4x128_S4096x512

/-- The scale, at every entry. -/
def scale96 : FVec Ideal S4096x4x96 .f32 := broadcastInDim S4096x4x96 ![] bcast_S_S4096x4x96 (constant S_ .f32 0x3DD105EC#32)

/-- Queries, keys and values side by side. -/
def beside (q k : FVec Ideal S4096x4x96 .f32) (v : FVec Ideal S4096x4x64 .f32) : FVec Ideal S4096x1536 .bf16 :=
  concatenate S4096x1536 1 [⟨S4096x512, truncf .bf16 (wide96 (mulf q scale96)) bitsLt_bf16_f32⟩,
    ⟨S4096x512, truncf .bf16 (wide96 k) bitsLt_bf16_f32⟩, ⟨S4096x512, truncf .bf16 (wide64 v) bitsLt_bf16_f32⟩]
    concatenates_S4096x512_S4096x512_S4096x512_S4096x1536_d1

/-- Keys and values in sixteen transposed tiles. -/
def tiles (k : FVec Ideal S4096x4x96 .f32) (v : FVec Ideal S4096x4x64 .f32) : FVec Ideal S16x1024x256 .bf16 :=
  transpose S16x1024x256 [0, 2, 1] (shapeCast S16x256x1024 (concatenate S4096x1024 1
    [⟨S4096x512, truncf .bf16 (wide96 k) bitsLt_bf16_f32⟩, ⟨S4096x512, truncf .bf16 (wide64 v) bitsLt_bf16_f32⟩]
    concatenates_S4096x512_S4096x512_S4096x1024_d1) shapeCasts_S4096x1024_S16x256x1024)
    transposes_S16x256x1024_S16x1024x256_0_2_1

/-- The greatest score of every query. -/
def top (q k : FVec Ideal S4096x4x96 .f32) : FVec Ideal S4x4096 .f32 :=
  Host.reduce FloatOps.maximumf (Cert.Reference4Ideal.Read.val_main_v10_0 (F := Ideal) q k) (constant S_ .f32 0xFF800000#32)
    reducesTo_S4x4096x4096_S4x4096_d2 h_S_

/-- The logarithm of the sum of the exponentials of every query's scores. -/
def logSum (q k : FVec Ideal S4096x4x96 .f32) : FVec Ideal S4x4096 .f32 :=
  addf (top q k) (Host.log (Host.reduceAdd (Host.exp (subf (Cert.Reference4Ideal.Read.val_main_v10_0 (F := Ideal) q k)
    (broadcastInDim S4x4096x4096 ![0, 1, 2] bcast_S4x4096x1_S4x4096x4096_0_1_2
      (broadcastInDim S4x4096x1 ![0, 1] bcast_S4x4096_S4x4096x1_0_1 (top q k))))) (constant S_ .f32 0x00000000#32)
    reducesTo_S4x4096x4096_S4x4096_d2 h_S_))

/-- The inner product of every query's result and gradient. -/
def inner (q k : FVec Ideal S4096x4x96 .f32) (v o : FVec Ideal S4096x4x64 .f32) : FVec Ideal S4x4096 .f32 :=
  transpose S4x4096 [1, 0] (Host.reduceAdd (mulf (Cert.Reference4Ideal.Read.val_main_v40 (F := Ideal) q k v) o)
    (constant S_ .f32 0x00000000#32) reducesTo_S4096x4x64_S4096x4_d2 h_S_) transposes_S4096x4_S4x4096_1_0

/-- The lines before the launch. -/
abbrev before : List (HloOp τ sig (Elt Ideal)) :=
  List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16]

variable (W : Valuation τ sig (Elt Ideal))

theorem host_v63 : StableHlo.after before W (Proc.devRef .tc main_v63)
    = beside (W (Proc.devRef .tc main_arg0)) (W (Proc.devRef .tc main_arg1)) (W (Proc.devRef .tc main_arg2)) := by
  after_reads_simp
  rfl

theorem host_v66 : StableHlo.after before W (Proc.devRef .tc main_v66)
    = tiles (W (Proc.devRef .tc main_arg1)) (W (Proc.devRef .tc main_arg2)) := by
  after_reads_simp
  rfl

theorem host_v70 : StableHlo.after before W (Proc.devRef .tc main_v70)
    = wide64 (W (Proc.devRef .tc main_arg3)) := by
  after_reads_simp
  rfl

theorem host_v71 : StableHlo.after before W (Proc.devRef .tc main_v71)
    = shapeCast S4x8x1x512 (logSum (W (Proc.devRef .tc main_arg0)) (W (Proc.devRef .tc main_arg1))) shapeCasts_S4x4096_S4x8x1x512 := by
  after_reads_simp
  rfl

theorem host_v72 : StableHlo.after before W (Proc.devRef .tc main_v72)
    = shapeCast S4x8x1x512 (inner (W (Proc.devRef .tc main_arg0)) (W (Proc.devRef .tc main_arg1)) (W (Proc.devRef .tc main_arg2)) (W (Proc.devRef .tc main_arg3))) shapeCasts_S4x4096_S4x8x1x512 := by
  after_reads_simp
  rfl

end Cert.Mla

end
-- ==== Proof.Mla.Ref.lean ====
module

public import proofs.«01_k».proof.Proof.Mla.Core
public import proofs.«01_k».proof.Proof.Mla.Host
public import Idealize.ShloMosaic.Lib.Pipeline.Value
public import Idealize.ShloMosaic.Lib.WordCmp

/-!
# Attention backward: the reference, entry by entry, on real arguments
-/

@[expose] public section
set_option relaxedAutoImplicit false
set_option maxRecDepth 16384

noncomputable section

namespace Cert.Mla

open Idealize.ShloMosaic Idealize.ShloMosaic.TcCoe Idealize.SL.Sem Cert.Reference4Ideal Cert.Reference4Ideal.Gen
  Cert.Reference4Ideal.Read

/-- The chunk of position `r`. -/
theorem chunk (r : Fin 4096) : val_main_v1 (F := Ideal) (ix1 r) = BitVec.ofNat 32 (r.val / 64) := by
  have h : ∀ r : Fin 4096, Scalar.select (IntOp.andi (IntOp.cmpi .ne (signi (fun _ : S_.Idx => BitVec.ofNat 32 r.val) ix0)
      (signi (fun _ : S_.Idx => 64#32) ix0))
      (IntOp.cmpi .ne (IntOp.remsi .host (BitVec.ofNat 32 r.val) 64#32) 0#32))
      (IntOp.subi (IntOp.divsi .host (BitVec.ofNat 32 r.val) 64#32) 1#32) (IntOp.divsi .host (BitVec.ofNat 32 r.val) 64#32)
      = BitVec.ofNat 32 (r.val / 64) := by
    decide +kernel
  exact h r

/-- Whether the query at position `p` sees the key at position `r`. -/
abbrev sees (p r : Fin 4096) : Prop := r.val / 64 ≤ p.val / 64

theorem sees_self (p : Fin 4096) : ∃ r, sees p r := ⟨p, le_rfl⟩

theorem seen_at (h : Fin 4) (p r : Fin 4096) : val_main_v10_1 (F := Ideal) (ix3 h p r) = BitVec.ofBool (decide (sees p r)) := by
  refine Eq.trans (b := IntOp.cmpi .sle (val_main_v1 (F := Ideal) (ix1 r)) (val_main_v1 (F := Ideal) (ix1 p))) ?_ ?_
  · pointwise [val_main_v10_1, val_main_v9, val_main_v8, val_main_v7, val_main_v6, val_main_v5]
  · rw [chunk, chunk]
    exact WordCmp.cmpi_sle_ofNat (by omega) (by omega)

/-- The scale. -/
def kappa : ℝ := (Ideal.ofBits .f32 0x3DD105EC#32).toReal

theorem kappa_eq : Ideal.ofBits .f32 0x3DD105EC#32 = (kappa : EReal) := by
  refine (EReal.coe_toReal ?_ ?_).symm <;> simp [Ideal.ofBits, Ideal.ieee, -EReal.coe_mul]

theorem ofBits_top : Ideal.ofBits .f32 0xFF800000#32 = ⊥ := by simp [Ideal.ofBits, Ideal.ieee]

theorem one_eq : Ideal.ofBits .f32 0x3F800000#32 = 1 := by
  simp [Ideal.ofBits, Ideal.ieee, -EReal.coe_mul]
  norm_num

/-- An array of real numbers. -/
def lift96 (x : Fin 4096 → Fin 4 → Fin 96 → ℝ) : FVec Ideal S4096x4x96 .f32 := fun i => (x (i 0) (i 1) (i 2) : EReal)
def lift64 (x : Fin 4096 → Fin 4 → Fin 64 → ℝ) : FVec Ideal S4096x4x64 .f32 := fun i => (x (i 0) (i 1) (i 2) : EReal)

theorem lift96_at (x : Fin 4096 → Fin 4 → Fin 96 → ℝ) (r : Fin 4096) (h : Fin 4) (d : Fin 96) :
    lift96 x (ix3 r h d) = (x r h d : EReal) := rfl
theorem lift64_at (x : Fin 4096 → Fin 4 → Fin 64 → ℝ) (r : Fin 4096) (h : Fin 4) (d : Fin 64) :
    lift64 x (ix3 r h d) = (x r h d : EReal) := rfl

variable (q k : Fin 4096 → Fin 4 → Fin 96 → ℝ) (v o : Fin 4096 → Fin 4 → Fin 64 → ℝ)

/-- The scores of query `p`. -/
def scores (h : Fin 4) (p r : Fin 4096) : ℝ := (∑ d, q p h d * k r h d) * kappa

/-- The weights of query `p`. -/
def weights (h : Fin 4) (p r : Fin 4096) : ℝ := prob (scores q k h p) (sees p) r

/-- The gradient that reaches the weights of query `p`. -/
def reaches (h : Fin 4) (p r : Fin 4096) : ℝ := ∑ d, o p h d * v r h d

/-- The mean of the gradients under the weights. -/
def mean (h : Fin 4) (p : Fin 4096) : ℝ := ∑ r, weights q k h p r * reaches v o h p r

/-- The gradient of the scores of query `p`. -/
def dscores (h : Fin 4) (p r : Fin 4096) : ℝ := weights q k h p r * (reaches v o h p r - mean q k v o h p)

theorem v2_at (h : Fin 4) (p r : Fin 4096) :
    val_main_v2 (F := Ideal) (lift96 q) (lift96 k) (ix3 h p r) = ((∑ d, q p h d * k r h d : ℝ) : EReal) := by
  rw [val_main_v2_apply]
  exact sum_mul_coe (fun d => q p h d) fun d => k r h d

theorem v4_at (h : Fin 4) (p r : Fin 4096) :
    val_main_v4 (F := Ideal) (lift96 q) (lift96 k) (ix3 h p r) = (scores q k h p r : EReal) := by
  refine Eq.trans (b := val_main_v2 (F := Ideal) (lift96 q) (lift96 k) (ix3 h p r) * Ideal.ofBits .f32 0x3DD105EC#32) ?_ ?_
  · pointwise [val_main_v4, val_main_v3, val_main_cst]
  · rw [v2_at, kappa_eq, ← EReal.coe_mul]
    rfl

theorem v10_at (h : Fin 4) (p r : Fin 4096) :
    val_main_v10_0 (F := Ideal) (lift96 q) (lift96 k) (ix3 h p r) = masked (scores q k h p) (sees p) r := by
  refine Eq.trans (b := Scalar.select (val_main_v10_1 (F := Ideal) (ix3 h p r))
    (val_main_v4 (F := Ideal) (lift96 q) (lift96 k) (ix3 h p r)) (Ideal.ofBits .f32 0xFF800000#32)) ?_ ?_
  · pointwise [val_main_v10_0, val_main_call1_v2, val_main_call1_v0, val_main_cst_0]
    rfl
  · rw [seen_at, v4_at, ofBits_top]
    unfold masked
    by_cases hs : sees p r <;> simp [hs, Scalar.select]

theorem top_at (h : Fin 4) (p : Fin 4096) :
    top (lift96 q) (lift96 k) (ix2 h p) = (peak (scores q k h p) (sees p) : EReal) := by
  refine Eq.trans (b := Finset.univ.fold max (Ideal.ofBits .f32 0xFF800000#32)
    fun r => val_main_v10_0 (F := Ideal) (lift96 q) (lift96 k) (ix3 h p r)) ?_ ?_
  · unfold top
    generalize val_main_v10_0 (F := Ideal) (lift96 q) (lift96 k) = X
    pointwise
  · rw [ofBits_top, show (fun r => val_main_v10_0 (F := Ideal) (lift96 q) (lift96 k) (ix3 h p r))
      = masked (scores q k h p) (sees p) from funext fun r => v10_at q k h p r]
    exact peak_eq _ (sees_self p)

theorem v11_eq (x y : FVec Ideal S4096x4x96 .f32) : val_main_v11 (F := Ideal) x y = top x y := by
  unfold val_main_v11 val_main_cst_1 top
  rfl

theorem v18_at (h : Fin 4) (p : Fin 4096) :
    val_main_v18 (F := Ideal) (lift96 q) (lift96 k) (ix2 h p) = (peak (scores q k h p) (sees p) : EReal) := by
  rw [val_main_v18_apply, v11_eq, top_at, Ideal.maximumf_def, val_main_v17_apply, val_main_cst_3_apply,
    show (FloatOps.ofBits .f32 0xFF800000#32 : Ideal .f32) = ⊥ from ofBits_top]
  exact max_eq_right bot_le

theorem v31_at (h : Fin 4) (p r : Fin 4096) :
    val_main_v31 (F := Ideal) (lift96 q) (lift96 k) (ix3 h p r) = (expo (scores q k h p) (sees p) r : EReal) := by
  refine Eq.trans (b := Ideal.exp (val_main_v10_0 (F := Ideal) (lift96 q) (lift96 k) (ix3 h p r)
    - val_main_v18 (F := Ideal) (lift96 q) (lift96 k) (ix2 h p))) ?_ ?_
  · unfold val_main_v31 val_main_v30 val_main_v29 val_main_v28
    generalize val_main_v10_0 (F := Ideal) (lift96 q) (lift96 k) = X
    generalize val_main_v18 (F := Ideal) (lift96 q) (lift96 k) = Y
    pointwise
  · rw [v10_at, v18_at]
    exact exp_masked _ _ r

theorem v32_at (h : Fin 4) (p : Fin 4096) :
    val_main_v32 (F := Ideal) (lift96 q) (lift96 k) (ix2 h p) = (mass (scores q k h p) (sees p) : EReal) := by
  refine Eq.trans (b := Ideal.ofBits .f32 0x00000000#32
    + ∑ r, val_main_v31 (F := Ideal) (lift96 q) (lift96 k) (ix3 h p r)) ?_ ?_
  · unfold val_main_v32 val_main_cst_9
    generalize val_main_v31 (F := Ideal) (lift96 q) (lift96 k) = X
    pointwise
  · rw [Ideal.ofBits_zero_f32, zero_add]
    unfold mass
    rw [coe_sum]
    exact Finset.sum_congr rfl fun r _ => v31_at q k h p r

theorem v33_at (h : Fin 4) (p : Fin 4096) :
    val_main_v33 (F := Ideal) (lift96 q) (lift96 k) (ix3 h p 0) = (mass (scores q k h p) (sees p) : EReal) := by
  refine Eq.trans ?_ (v32_at q k h p)
  unfold val_main_v33
  generalize val_main_v32 (F := Ideal) (lift96 q) (lift96 k) = X
  pointwise

theorem v35_at (h : Fin 4) (p r : Fin 4096) :
    val_main_v35 (F := Ideal) (lift96 q) (lift96 k) (ix3 h p r) = (weights q k h p r : EReal) := by
  refine Eq.trans (b := Ideal.div (val_main_v31 (F := Ideal) (lift96 q) (lift96 k) (ix3 h p r))
    (val_main_v33 (F := Ideal) (lift96 q) (lift96 k) (ix3 h p 0))) ?_ ?_
  · unfold val_main_v35 val_main_v34
    generalize val_main_v31 (F := Ideal) (lift96 q) (lift96 k) = X
    generalize val_main_v33 (F := Ideal) (lift96 q) (lift96 k) = Y
    pointwise
  · rw [v31_at, v33_at]
    exact div_mass _ (sees_self p) _

theorem v40_at (p : Fin 4096) (h : Fin 4) (d : Fin 64) :
    val_main_v40 (F := Ideal) (lift96 q) (lift96 k) (lift64 v) (ix3 p h d) = ((∑ r, v r h d * weights q k h p r : ℝ) : EReal) := by
  refine Eq.trans (b := ∑ r, (v r h d : EReal) * val_main_v35 (F := Ideal) (lift96 q) (lift96 k) (ix3 h p r)) ?_ ?_
  · rw [val_main_v40_apply, val_main_v39_apply]
    generalize val_main_v35 (F := Ideal) (lift96 q) (lift96 k) = X
    exact Finset.sum_congr rfl fun r _ => congrArg (fun i => (v r h d : EReal) * X i) (eq_ix3 _)
  · simp only [v35_at]
    exact sum_mul_coe (fun r => v r h d) _

theorem v42_at (h : Fin 4) (p r : Fin 4096) :
    val_main_v42 (F := Ideal) (lift64 v) (lift64 o) (ix3 h p r) = (reaches v o h p r : EReal) := by
  rw [val_main_v42_apply]
  simp only [val_main_v41_apply]
  exact sum_mul_coe (fun d => o p h d) fun d => v r h d

theorem v44_at (r : Fin 4096) (h : Fin 4) (d : Fin 64) :
    val_main_v44 (F := Ideal) (lift96 q) (lift96 k) (lift64 o) (ix3 r h d)
      = ((∑ p, o p h d * weights q k h p r : ℝ) : EReal) := by
  refine Eq.trans (b := ∑ p, (o p h d : EReal) * val_main_v35 (F := Ideal) (lift96 q) (lift96 k) (ix3 h p r)) ?_ ?_
  · rw [val_main_v44_apply, val_main_v43_apply]
    simp only [val_main_v41_apply]
    generalize val_main_v35 (F := Ideal) (lift96 q) (lift96 k) = X
    exact Finset.sum_congr rfl fun p _ => congrArg (fun i => (o p h d : EReal) * X i) (eq_ix3 _)
  · simp only [v35_at]
    exact sum_mul_coe (fun p => o p h d) _

end Cert.Mla

end
-- ==== Proof.Mla.RefGrad.lean ====
module

public import proofs.«01_k».proof.Proof.Mla.Ref

/-!
# Attention backward: the reference's gradients of the scores, queries and keys
-/

@[expose] public section
set_option relaxedAutoImplicit false
set_option maxRecDepth 16384

noncomputable section

namespace Cert.Mla

open Idealize.ShloMosaic Idealize.ShloMosaic.TcCoe Idealize.SL.Sem Cert.Reference4Ideal Cert.Reference4Ideal.Gen
  Cert.Reference4Ideal.Read

variable (q k : Fin 4096 → Fin 4 → Fin 96 → ℝ) (v o : Fin 4096 → Fin 4 → Fin 64 → ℝ)

theorem v38_at (h : Fin 4) (p : Fin 4096) :
    val_main_v38 (F := Ideal) (lift96 q) (lift96 k) (ix3 h p 0)
      = ((1 / (mass (scores q k h p) (sees p) * mass (scores q k h p) (sees p)) : ℝ) : EReal) := by
  have hz := (mass_pos (scores q k h p) (sees_self p)).ne'
  refine Eq.trans (b := Ideal.div (Ideal.ofBits .f32 0x3F800000#32) (val_main_v33 (F := Ideal) (lift96 q) (lift96 k) (ix3 h p 0)
    * val_main_v33 (F := Ideal) (lift96 q) (lift96 k) (ix3 h p 0))) ?_ ?_
  · unfold val_main_v38 val_main_v36
    generalize val_main_v33 (F := Ideal) (lift96 q) (lift96 k) = Y
    pointwise [val_main_v37, val_main_cst_10]
  · rw [v33_at, ← EReal.coe_mul, Ideal.div_coe (mul_ne_zero hz hz),
      show Ideal.ofBits .f32 0x3F800000#32 = 1 from one_eq, one_mul]

theorem v47_at (h : Fin 4) (p r : Fin 4096) :
    val_main_v47 (F := Ideal) (lift96 q) (lift96 k) (lift64 v) (lift64 o) (ix3 h p r)
      = ((reaches v o h p r * (1 / (mass (scores q k h p) (sees p) * mass (scores q k h p) (sees p)))
        * expo (scores q k h p) (sees p) r : ℝ) : EReal) := by
  refine Eq.trans (b := val_main_v42 (F := Ideal) (lift64 v) (lift64 o) (ix3 h p r)
    * val_main_v38 (F := Ideal) (lift96 q) (lift96 k) (ix3 h p 0)
    * val_main_v31 (F := Ideal) (lift96 q) (lift96 k) (ix3 h p r)) ?_ ?_
  · unfold val_main_v47 val_main_v46 val_main_v45
    generalize val_main_v31 (F := Ideal) (lift96 q) (lift96 k) = X
    generalize val_main_v42 (F := Ideal) (lift64 v) (lift64 o) = Z
    generalize val_main_v38 (F := Ideal) (lift96 q) (lift96 k) = Y
    pointwise
  · rw [v42_at, v38_at, v31_at, ← EReal.coe_mul, ← EReal.coe_mul]

theorem v48_at (h : Fin 4) (p : Fin 4096) :
    val_main_v48 (F := Ideal) (lift96 q) (lift96 k) (lift64 v) (lift64 o) (ix2 h p)
      = ((∑ r, reaches v o h p r * (1 / (mass (scores q k h p) (sees p) * mass (scores q k h p) (sees p)))
        * expo (scores q k h p) (sees p) r : ℝ) : EReal) := by
  refine Eq.trans (b := Ideal.ofBits .f32 0x00000000#32
    + ∑ r, val_main_v47 (F := Ideal) (lift96 q) (lift96 k) (lift64 v) (lift64 o) (ix3 h p r)) ?_ ?_
  · unfold val_main_v48 val_main_cst_11
    generalize val_main_v47 (F := Ideal) (lift96 q) (lift96 k) (lift64 v) (lift64 o) = X
    pointwise
  · rw [Ideal.ofBits_zero_f32, zero_add, coe_sum]
    exact Finset.sum_congr rfl fun r _ => v47_at q k v o h p r

theorem v53_at (h : Fin 4) (p : Fin 4096) :
    val_main_v53 (F := Ideal) (lift96 q) (lift96 k) (lift64 v) (lift64 o) (ix2 h p)
      = ((-∑ r, reaches v o h p r * (1 / (mass (scores q k h p) (sees p) * mass (scores q k h p) (sees p)))
        * expo (scores q k h p) (sees p) r : ℝ) : EReal) := by
  refine Eq.trans (b := Ideal.ofBits .f32 0x00000000#32
    + -val_main_v48 (F := Ideal) (lift96 q) (lift96 k) (lift64 v) (lift64 o) (ix2 h p)) ?_ ?_
  · unfold val_main_v53 val_main_cst_12 val_main_v50 val_main_v49
    generalize val_main_v48 (F := Ideal) (lift96 q) (lift96 k) (lift64 v) (lift64 o) = X
    pointwise [Fin.sum_univ_one]
  · rw [Ideal.ofBits_zero_f32, zero_add, v48_at, ← EReal.coe_neg]

theorem v59_at (h : Fin 4) (p r : Fin 4096) :
    val_main_v59 (F := Ideal) (lift96 q) (lift96 k) (lift64 v) (lift64 o) (ix3 h p r)
      = ((dscores q k v o h p r * kappa : ℝ) : EReal) := by
  refine Eq.trans (b := Scalar.select (val_main_v10_1 (F := Ideal) (ix3 h p r))
    ((Ideal.div (val_main_v42 (F := Ideal) (lift64 v) (lift64 o) (ix3 h p r))
      (val_main_v33 (F := Ideal) (lift96 q) (lift96 k) (ix3 h p 0))
      + val_main_v53 (F := Ideal) (lift96 q) (lift96 k) (lift64 v) (lift64 o) (ix2 h p))
      * val_main_v31 (F := Ideal) (lift96 q) (lift96 k) (ix3 h p r)) (Ideal.ofBits .f32 0x00000000#32)
    * Ideal.ofBits .f32 0x3DD105EC#32) ?_ ?_
  · unfold val_main_v59 val_main_v57 val_main_v56 val_main_v55 val_main_v54 val_main_v52 val_main_v51
    generalize val_main_v31 (F := Ideal) (lift96 q) (lift96 k) = X
    generalize val_main_v33 (F := Ideal) (lift96 q) (lift96 k) = Y
    generalize val_main_v42 (F := Ideal) (lift64 v) (lift64 o) = Z
    generalize val_main_v53 (F := Ideal) (lift96 q) (lift96 k) (lift64 v) (lift64 o) = W
    generalize val_main_v10_1 (F := Ideal) = T
    pointwise [val_main_v58, val_main_cst_13, val_main_call2_v0, val_main_call2_cst]
  · rw [v42_at, v33_at, v53_at, v31_at, seen_at, kappa_eq, div_mass _ (sees_self p), ← EReal.coe_add, ← EReal.coe_mul,
      Ideal.ofBits_zero_f32, grad_eq _ (sees_self p) (fun r => reaches v o h p r) r,
      EReal.coe_mul (dscores q k v o h p r)]
    refine congrArg (· * (kappa : EReal)) ?_
    by_cases hs : sees p r
    · simp only [hs, decide_true, Scalar.select]
      rfl
    · have hz : dscores q k v o h p r = 0 := by
        unfold dscores weights prob expo
        rw [if_neg hs, zero_div, zero_mul]
      rw [hz, EReal.coe_zero]
      simp [hs, Scalar.select]

theorem v61_at (r : Fin 4096) (h : Fin 4) (d : Fin 96) :
    val_main_v61 (F := Ideal) (lift96 q) (lift96 k) (lift64 v) (lift64 o) (ix3 r h d)
      = ((∑ p, dscores q k v o h p r * kappa * q p h d : ℝ) : EReal) := by
  refine Eq.trans (b := ∑ p, val_main_v59 (F := Ideal) (lift96 q) (lift96 k) (lift64 v) (lift64 o) (ix3 h p r)
    * (q p h d : EReal)) ?_ ?_
  · rw [val_main_v61_apply, val_main_v60_apply]
    generalize val_main_v59 (F := Ideal) (lift96 q) (lift96 k) (lift64 v) (lift64 o) = X
    exact Finset.sum_congr rfl fun p _ => congrArg (fun i => X i * (q p h d : EReal)) (eq_ix3 _)
  · simp only [v59_at]
    exact sum_mul_coe _ fun p => q p h d

theorem v63_at (p : Fin 4096) (h : Fin 4) (d : Fin 96) :
    val_main_v63 (F := Ideal) (lift96 q) (lift96 k) (lift64 v) (lift64 o) (ix3 p h d)
      = ((∑ r, dscores q k v o h p r * kappa * k r h d : ℝ) : EReal) := by
  refine Eq.trans (b := ∑ r, val_main_v59 (F := Ideal) (lift96 q) (lift96 k) (lift64 v) (lift64 o) (ix3 h p r)
    * (k r h d : EReal)) ?_ ?_
  · rw [val_main_v63_apply, val_main_v62_apply]
    generalize val_main_v59 (F := Ideal) (lift96 q) (lift96 k) (lift64 v) (lift64 o) = X
    exact Finset.sum_congr rfl fun r _ => congrArg (fun i => X i * (k r h d : EReal)) (eq_ix3 _)
  · simp only [v59_at]
    exact sum_mul_coe _ fun r => k r h d

end Cert.Mla

end
-- ==== Proof.Mla.RefRows.lean ====
module

public import proofs.«01_k».proof.Proof.Mla.Ref

/-!
# Attention backward: the two rows the launch reads
-/

@[expose] public section
set_option relaxedAutoImplicit false
set_option maxRecDepth 16384

noncomputable section

namespace Cert.Mla

open Idealize.ShloMosaic Idealize.ShloMosaic.TcCoe Idealize.SL.Sem Cert.Reference4Ideal Cert.Reference4Ideal.Gen
  Cert.Reference4Ideal.Read

variable (q k : Fin 4096 → Fin 4 → Fin 96 → ℝ) (v o : Fin 4096 → Fin 4 → Fin 64 → ℝ)

/-- The sums of the exponentials over the greatest scores. -/
def sumExp (X : FVec Ideal S4x4096x4096 .f32) (Y : FVec Ideal S4x4096 .f32) : FVec Ideal S4x4096 .f32 :=
  Host.reduceAdd (Host.exp (subf X (broadcastInDim S4x4096x4096 ![0, 1, 2] bcast_S4x4096x1_S4x4096x4096_0_1_2
    (broadcastInDim S4x4096x1 ![0, 1] bcast_S4x4096_S4x4096x1_0_1 Y)))) (constant S_ .f32 0x00000000#32)
    reducesTo_S4x4096x4096_S4x4096_d2 h_S_

theorem sumExp_at (X : FVec Ideal S4x4096x4096 .f32) (Y : FVec Ideal S4x4096 .f32) (h : Fin 4) (p : Fin 4096) :
    sumExp X Y (ix2 h p) = Ideal.ofBits .f32 0x00000000#32 + ∑ r, Ideal.exp (X (ix3 h p r) - Y (ix2 h p)) := by
  unfold sumExp
  pointwise

theorem logSum_eq (x y : FVec Ideal S4096x4x96 .f32) :
    logSum x y = addf (top x y) (Host.log (sumExp (val_main_v10_0 (F := Ideal) x y) (top x y))) := by
  unfold logSum sumExp
  rfl

theorem add_log_at (Y R : FVec Ideal S4x4096 .f32) (i : S4x4096.Idx) :
    addf Y (Host.log R) i = Y i + Ideal.log (R i) := rfl

theorem logSum_at (h : Fin 4) (p : Fin 4096) : logSum (lift96 q) (lift96 k) (ix2 h p)
    = (peak (scores q k h p) (sees p) : EReal) + Ideal.log (mass (scores q k h p) (sees p) : EReal) := by
  have e : sumExp (val_main_v10_0 (F := Ideal) (lift96 q) (lift96 k)) (top (lift96 q) (lift96 k)) (ix2 h p)
      = (mass (scores q k h p) (sees p) : EReal) := by
    rw [sumExp_at]
    simp only [top_at, v10_at]
    rw [sum_exp_masked, Ideal.ofBits_zero_f32, zero_add]
  rw [logSum_eq, add_log_at, e, top_at]

theorem inner_at (h : Fin 4) (p : Fin 4096) :
    inner (lift96 q) (lift96 k) (lift64 v) (lift64 o) (ix2 h p) = (mean q k v o h p : EReal) := by
  refine Eq.trans (b := Ideal.ofBits .f32 0x00000000#32
    + ∑ d, val_main_v40 (F := Ideal) (lift96 q) (lift96 k) (lift64 v) (ix3 p h d) * lift64 o (ix3 p h d)) ?_ ?_
  · unfold inner
    generalize val_main_v40 (F := Ideal) (lift96 q) (lift96 k) (lift64 v) = X
    generalize lift64 o = Y
    pointwise
  · rw [Ideal.ofBits_zero_f32, zero_add]
    simp only [v40_at]
    refine (sum_mul_coe _ fun d => o p h d).trans (congrArg _ ?_)
    unfold mean reaches
    simp only [Finset.sum_mul, Finset.mul_sum]
    rw [Finset.sum_comm]
    exact Finset.sum_congr rfl fun r _ => Finset.sum_congr rfl fun d _ => by ring

end Cert.Mla

end
-- ==== Proof.Mla.Final.lean ====
module

public import proofs.«01_k».proof.Proof.Mla.Launch

/-!
# Attention backward: the three result arrays after the last point
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- What point `t` leaves in the queries' gradients. -/
def leftQ (t : Fin 8) : FVec Ideal S512x512 .f32 := (outsAt0 m c t.val (show t.val < cfg0.N from t.isLt)).1

/-- What the last point leaves in the keys' gradients. -/
def leftK : FVec Ideal S4096x512 .f32 := (outsAt0 m c 7 (by decide)).2.1

/-- What the last point leaves in the values' gradients. -/
def leftV : FVec Ideal S4096x512 .f32 := (outsAt0 m c 7 (by decide)).2.2

/-- Blocks of 512 rows put under each other. -/
def stack (f : Fin 8 → FVec Ideal S512x512 .f32) : FVec Ideal S4096x512 .f32 := fun i =>
  f ⟨(i 0).val / 512, by have : (i 0).val < 4096 := (i 0).isLt; omega⟩
    (ix2 (⟨(i 0).val % 512, Nat.mod_lt _ (by norm_num)⟩ : Fin 512) (i 1))

theorem stack_at (f : Fin 8 → FVec Ideal S512x512 .f32) (t : Fin 8) (q e : Fin 512) :
    stack f (ix2 (pos t q) e) = f t (ix2 q e) := by
  have h1 : (512 * t.val + q.val) / 512 = t.val := by omega
  have h2 : (512 * t.val + q.val) % 512 = q.val := by omega
  show f ⟨(512 * t.val + q.val) / 512, _⟩ (ix2 (⟨(512 * t.val + q.val) % 512, _⟩ : Fin 512) e) = _
  simp only [h1, h2]

theorem emb_q (t : Fin 8) (y : S512x512.Idx) : ((cfg0.win 7).blk t).view.emb y = ix2 (pos t (y 0)) (y 1) := by
  have i := (idx t).2.2.2.2.2.2.2.1
  unfold pos
  blk_ext [i]

theorem emb_k (t : Fin 8) (y : S4096x512.Idx) : ((cfg0.win 8).blk t).view.emb y = y := by
  have i := (idx t).2.2.2.2.2.2.2.2.1
  blk_ext [i]

theorem emb_v (t : Fin 8) (y : S4096x512.Idx) : ((cfg0.win 9).blk t).view.emb y = y := by
  have i := (idx t).2.2.2.2.2.2.2.2.2
  blk_ext [i]

theorem arr_q : (dats m 0 c).arrAt 7 cfg0.N = stack (leftQ m c) := by
  refine (dats m 0 c).arrAt_eq_of_covers 7 _ (by decide +kernel) fun t _ y => ?_
  rw [emb_q t y]
  refine Eq.trans ?_ (stack_at (leftQ m c) t (y 0) (y 1)).symm
  rw [after0_7]
  show leftQ m c t y = _
  exact congrArg (leftQ m c t) (eq_ix2 y)

theorem arr_k : (dats m 0 c).arrAt 8 cfg0.N = leftK m c := by
  refine (dats m 0 c).arrAt_eq_of_covers 8 _ (by decide +kernel) fun t hf y => ?_
  have ht : t = t0_7 := (by decide +kernel : ∀ t : Fin grid0.N, (cfg0.win 8).flush t = true → t = t0_7) t hf
  rw [emb_k t y, ht, after0_8]
  rfl

theorem arr_v : (dats m 0 c).arrAt 9 cfg0.N = leftV m c := by
  refine (dats m 0 c).arrAt_eq_of_covers 9 _ (by decide +kernel) fun t hf y => ?_
  have ht : t = t0_7 := (by decide +kernel : ∀ t : Fin grid0.N, (cfg0.win 9).flush t = true → t = t0_7) t hf
  rw [emb_v t y, ht, after0_9]
  rfl

/-- The queries' gradients, as sums over the tiles of keys. -/
theorem left_q (t : Fin 8) (h : Fin 4) (d : Fin 128) (q : Fin 512) :
    (dats m 0 c).arrAt 7 cfg0.N (ix2 (pos t q) (col h d)) = ∑ j : Fin 16, addQ (blocks m c t) t.val j h d q := by
  rw [arr_q]
  exact (stack_at (leftQ m c) t q (col h d)).trans (point_q m c t h d q)

/-- The keys' gradients, as sums over the points. -/
theorem left_k (h : Fin 4) (d : Fin 128) (r : Fin 4096) :
    (dats m 0 c).arrAt 8 cfg0.N (ix2 r (col h d)) = ∑ t : Fin 8, addK (blocks m c t) t.val h r d := by
  rw [arr_k]
  exact point_k m c 7 (by decide) h r d

/-- The values' gradients, as sums over the points. -/
theorem left_v (h : Fin 4) (d : Fin 128) (r : Fin 4096) :
    (dats m 0 c).arrAt 9 cfg0.N (ix2 r (col h d)) = ∑ t : Fin 8, addV (blocks m c t) t.val h r d := by
  rw [arr_v]
  exact point_v m c 7 (by decide) h r d

end Cert.Mla

end
-- ==== Proof.Mla.Entries.lean ====
module

public import proofs.«01_k».proof.Proof.Mla.Host
public import proofs.«01_k».proof.Proof.Mla.Final
public import Idealize.ShloMosaic.Lib.Pipeline.Value

/-!
# Attention backward: the launch's operands and results, entry by entry
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

/-- Entry `d` of head `h` in row `r` of heads filled up to 128: zero behind the `n` entries there are. -/
def filled (n : ℕ) (x : Fin 4096 → Fin 4 → Fin n → EReal) (r : Fin 4096) (h : Fin 4) (d : Fin 128) : EReal :=
  if hd : d.val < n then x r h ⟨d.val, hd⟩ else 0

theorem fill_eq (i : S_.Idx) : fill i = 0 := by
  show (((0#32 : BitVec 32).toInt : ℝ) : EReal) = 0
  simp

theorem wide96_at (x : FVec Ideal S4096x4x96 .f32) (r : Fin 4096) (h : Fin 4) (d : Fin 128) :
    wide96 x (ix2 r (col h d)) = filled 96 (fun r h d => x (ix3 r h d)) r h d := by
  unfold wide96
  rw [show col h d = (⟨128 * h.val + d.val, by omega⟩ : Fin 512) from rfl]
  pointwise [fill_eq, filled]

theorem wide64_at (x : FVec Ideal S4096x4x64 .f32) (r : Fin 4096) (h : Fin 4) (d : Fin 128) :
    wide64 x (ix2 r (col h d)) = filled 64 (fun r h d => x (ix3 r h d)) r h d := by
  unfold wide64
  rw [show col h d = (⟨128 * h.val + d.val, by omega⟩ : Fin 512) from rfl]
  pointwise [fill_eq, filled]

/-- Two indices of one row agree off the column axis. -/
theorem off_col {a b b' : ℕ} (r : Fin a) (x : Fin b) (y : Fin b') : ∀ q : Fin (⟨2, ![a, b]⟩ : Shape).rank,
    q.cast rfl ≠ (1 : Fin (⟨2, ![a, b']⟩ : Shape).rank) →
      ((ix2 r x : (⟨2, ![a, b]⟩ : Shape).Idx) q).val = ((ix2 r y : (⟨2, ![a, b']⟩ : Shape).Idx) (q.cast rfl)).val := by
  intro q hq
  match q with
  | ⟨0, _⟩ => rfl
  | ⟨1, _⟩ => exact absurd rfl hq

variable (q k : FVec Ideal S4096x4x96 .f32) (v o : FVec Ideal S4096x4x64 .f32)

theorem beside_q (r : Fin 4096) (h : Fin 4) (d : Fin 128) :
    beside q k v (ix2 r (part 0 (col h d))) = filled 96 (fun r h d => q (ix3 r h d) * Ideal.ofBits .f32 0x3DD105EC#32) r h d := by
  refine (concatenate_apply_piece (1 : Fin S4096x1536.rank) _ _ _ 0 (Nat.le_of_ble_eq_true rfl) S4096x512 _ rfl rfl 0 rfl
    (ix2 r (col h d)) (off_col r _ _) rfl).trans ?_
  refine Eq.trans (b := wide96 (mulf q scale96) (ix2 r (col h d))) rfl ?_
  rw [wide96_at]
  unfold filled
  refine dite_congr rfl (fun hd => ?_) fun _ => rfl
  unfold scale96
  pointwise

theorem beside_k (r : Fin 4096) (h : Fin 4) (d : Fin 128) :
    beside q k v (ix2 r (part 1 (col h d))) = filled 96 (fun r h d => k (ix3 r h d)) r h d := by
  refine (concatenate_apply_piece (1 : Fin S4096x1536.rank) _ _ _ 1 (Nat.le_of_ble_eq_true rfl) S4096x512 _ rfl rfl 512 rfl
    (ix2 r (col h d)) (off_col r _ _) rfl).trans ?_
  exact Eq.trans (b := wide96 k (ix2 r (col h d))) rfl (wide96_at k r h d)

theorem beside_v (r : Fin 4096) (h : Fin 4) (d : Fin 128) :
    beside q k v (ix2 r (part 2 (col h d))) = filled 64 (fun r h d => v (ix3 r h d)) r h d := by
  refine (concatenate_apply_piece (1 : Fin S4096x1536.rank) _ _ _ 2 (Nat.le_of_ble_eq_true rfl) S4096x512 _ rfl rfl 1024 rfl
    (ix2 r (col h d)) (off_col r _ _) rfl).trans ?_
  exact Eq.trans (b := wide64 v (ix2 r (col h d))) rfl (wide64_at v r h d)

/-- The tiles' rows, read back. -/
theorem tiles_pos (X : FVec Ideal S4096x1024 .bf16) (j : Fin 16) (e : Fin 1024) (a : Fin 256) :
    transpose S16x1024x256 [0, 2, 1] (shapeCast S16x256x1024 X shapeCasts_S4096x1024_S16x256x1024)
      transposes_S16x256x1024_S16x1024x256_0_2_1 (ix3 j e a) = X (ix2 (row j a) e) := by
  unfold row
  pointwise
  exact congrArg X (congrArg (ix2 · e) (Fin.ext (by dsimp only; omega)))

theorem tiles_k (j : Fin 16) (h : Fin 4) (d : Fin 128) (a : Fin 256) :
    tiles k v (ix3 j (firstHalf (col h d)) a) = filled 96 (fun r h d => k (ix3 r h d)) (row j a) h d := by
  refine (tiles_pos _ j _ a).trans ?_
  refine (concatenate_apply_piece (1 : Fin S4096x1024.rank) _ _ _ 0 (Nat.le_of_ble_eq_true rfl) S4096x512 _ rfl rfl 0 rfl
    (ix2 (row j a) (col h d)) (off_col _ _ _) (Nat.zero_add _)).trans ?_
  exact Eq.trans (b := wide96 k (ix2 (row j a) (col h d))) rfl (wide96_at k _ h d)

theorem rows_at (X : FVec Ideal S4x4096 .f32) (h : Fin 4) (t : Fin 8) (p : Fin 512) :
    shapeCast S4x8x1x512 X shapeCasts_S4x4096_S4x8x1x512 (ix4 h t 0 p) = X (ix2 h (pos t p)) := by
  unfold pos
  pointwise
  exact congrArg X (congrArg (ix2 h) (Fin.ext (by dsimp only; omega)))

/-! ## The lines after the launch -/

/-- The first 96 entries of every head. -/
def narrow96 (x : FVec Ideal S4096x512 .f32) : FVec Ideal S4096x4x96 .f32 :=
  shapeCast _ (shapeCast S4096x384 (extractStridedSlice S4096x4x96 ![0, 0, 0]
    (shapeCast S4096x4x128 x shapeCasts_S4096x512_S4096x4x128) slices_S4096x4x128_S4096x4x96_0_0_0)
    shapeCasts_S4096x4x96_S4096x384) shapeCasts_S4096x384_S4096x4x96

/-- The first 64 entries of every head. -/
def narrow64 (x : FVec Ideal S4096x512 .f32) : FVec Ideal S4096x4x64 .f32 :=
  shapeCast _ (shapeCast S4096x256 (extractStridedSlice S4096x4x64 ![0, 0, 0]
    (shapeCast S4096x4x128 x shapeCasts_S4096x512_S4096x4x128) slices_S4096x4x128_S4096x4x64_0_0_0)
    shapeCasts_S4096x4x64_S4096x256) shapeCasts_S4096x256_S4096x4x64

theorem narrow96_at (x : FVec Ideal S4096x512 .f32) (r : Fin 4096) (h : Fin 4) (d : Fin 96) :
    narrow96 x (ix3 r h d) = x (ix2 r (col h ⟨d.val, by omega⟩)) := by
  unfold narrow96 col
  pointwise
  exact congrArg x (congrArg (ix2 r) (Fin.ext (by dsimp only; omega)))

theorem narrow64_at (x : FVec Ideal S4096x512 .f32) (r : Fin 4096) (h : Fin 4) (d : Fin 64) :
    narrow64 x (ix3 r h d) = x (ix2 r (col h ⟨d.val, by omega⟩)) := by
  unfold narrow64 col
  pointwise
  exact congrArg x (congrArg (ix2 r) (Fin.ext (by dsimp only; omega)))

variable (W : Valuation τ sig (Elt Ideal))

theorem host_v79 : StableHlo.after hostOps1 W (Proc.devRef .tc main_v79)
    = mulf (narrow96 (W (Proc.devRef .tc main_v73_0))) scale96 := by
  after_reads_simp
  rfl

theorem host_v83 : StableHlo.after hostOps1 W (Proc.devRef .tc main_v83) = narrow96 (W (Proc.devRef .tc main_v73_1)) := by
  after_reads_simp
  rfl

theorem host_v87 : StableHlo.after hostOps1 W (Proc.devRef .tc main_v87) = narrow64 (W (Proc.devRef .tc main_v73_2)) := by
  after_reads_simp
  rfl

end Cert.Mla

end
-- ==== Proof.Mla.Values.lean ====
module

public import proofs.«01_k».proof.Proof.Mla.RefRows
public import proofs.«01_k».proof.Proof.Mla.Entries
public import Idealize.ShloMosaic.Lib.Pipeline.ValueKit

/-!
# Attention backward: a grid point's sums on real arguments
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

/-! ## Sums over filled up heads, points and tiles -/

/-- The real number at an entry of filled up heads. -/
def full (n : ℕ) (x : Fin 4096 → Fin 4 → Fin n → ℝ) (r : Fin 4096) (h : Fin 4) (d : Fin 128) : ℝ :=
  if hd : d.val < n then x r h ⟨d.val, hd⟩ else 0

theorem filled_coe (n : ℕ) (x : Fin 4096 → Fin 4 → Fin n → ℝ) (r : Fin 4096) (h : Fin 4) (d : Fin 128) :
    filled n (fun r h d => (x r h d : EReal)) r h d = (full n x r h d : EReal) := by
  unfold filled full
  split
  · rfl
  · exact EReal.coe_zero.symm

theorem full_lt {n : ℕ} (x : Fin 4096 → Fin 4 → Fin n → ℝ) (r : Fin 4096) (h : Fin 4) (d : Fin 128) (hd : d.val < n) :
    full n x r h d = x r h ⟨d.val, hd⟩ := dif_pos hd

theorem sum_full96 (x y : Fin 4096 → Fin 4 → Fin 96 → ℝ) (r p : Fin 4096) (h : Fin 4) :
    (∑ d : Fin 128, full 96 x r h d * full 96 y p h d) = ∑ d, x r h d * y p h d := by
  refine (Fin.sum_univ_add (a := 96) (b := 32) fun d : Fin 128 => full 96 x r h d * full 96 y p h d).trans ?_
  rw [Finset.sum_eq_zero (s := (Finset.univ : Finset (Fin 32))), add_zero]
  · exact Finset.sum_congr rfl fun d _ =>
      congrArg₂ (· * ·) (full_lt x r h (Fin.castAdd 32 d) d.isLt) (full_lt y p h (Fin.castAdd 32 d) d.isLt)
  · intro d _
    have hd : ¬ (Fin.natAdd 96 d : Fin 128).val < 96 := by simp
    exact (congrArg (· * _) (dif_neg hd)).trans (zero_mul _)

theorem sum_full64 (x y : Fin 4096 → Fin 4 → Fin 64 → ℝ) (r p : Fin 4096) (h : Fin 4) :
    (∑ d : Fin 128, full 64 x r h d * full 64 y p h d) = ∑ d, x r h d * y p h d := by
  refine (Fin.sum_univ_add (a := 64) (b := 64) fun d : Fin 128 => full 64 x r h d * full 64 y p h d).trans ?_
  rw [add_comm, Finset.sum_eq_zero (s := (Finset.univ : Finset (Fin 64))), zero_add]
  · exact Finset.sum_congr rfl fun d _ =>
      congrArg₂ (· * ·) (full_lt x r h (Fin.castAdd 64 d) d.isLt) (full_lt y p h (Fin.castAdd 64 d) d.isLt)
  · intro d _
    have hd : ¬ (Fin.natAdd 64 d : Fin 128).val < 64 := by simp
    exact (congrArg (· * _) (dif_neg hd)).trans (zero_mul _)

/-- The points' queries are all queries. -/
theorem sum_pos (f : Fin 4096 → ℝ) : (∑ t : Fin 8, ∑ p : Fin 512, f (pos t p)) = ∑ p, f p :=
  Fin.sum_mul_add_congr (n := 512) (fun t p _ => congrArg f (Fin.ext (by simp only [pos]; omega)))

/-- The tiles' rows are all rows. -/
theorem sum_row (f : Fin 4096 → ℝ) : (∑ j : Fin 16, ∑ a : Fin 256, f (row j a)) = ∑ r, f r :=
  Fin.sum_mul_add_congr (n := 256) (fun t p _ => congrArg f (Fin.ext (by simp only [row]; omega)))

/-! ## One point -/

variable (q k : Fin 4096 → Fin 4 → Fin 96 → ℝ) (v o : Fin 4096 → Fin 4 → Fin 64 → ℝ)

/-- The blocks of point `t` hold the arguments' entries. -/
structure Carries (B : Blocks) (t : Fin 8) : Prop where
  q_at : ∀ p h d, B.q (ix2 p (col h d)) = (full 96 (fun r h d => q r h d * kappa) (pos t p) h d : EReal)
  k_at : ∀ r h d, B.k (ix2 r (col h d)) = (full 96 k r h d : EReal)
  v_at : ∀ r h d, B.v (ix2 r (col h d)) = (full 64 v r h d : EReal)
  kt_at : ∀ j h d a, B.kt (ix3 j (col h d) a) = (full 96 k (row j a) h d : EReal)
  g_at : ∀ p h d, B.g (ix2 p (col h d)) = (full 64 o (pos t p) h d : EReal)
  lse_at : ∀ h p, B.lse (ix4 h 0 0 p) = (peak (scores q k h (pos t p)) (sees (pos t p)) : EReal)
    + Ideal.log (mass (scores q k h (pos t p)) (sees (pos t p)) : EReal)
  dl_at : ∀ h p, B.dl (ix4 h 0 0 p) = (mean q k v o h (pos t p) : EReal)

variable {q k v o}
variable {B : Blocks} {t : Fin 8} (H : Carries q k v o B t)
include H

theorem score_real (h : Fin 4) (r : Fin 4096) (p : Fin 512) : score B h r p = (scores q k h (pos t p) r : EReal) := by
  unfold score scores
  simp only [H.q_at, H.k_at]
  rw [sum_mul_coe, sum_full96, Finset.sum_mul]
  exact congrArg _ (Finset.sum_congr rfl fun d _ => by ring)

theorem reach_real (h : Fin 4) (r : Fin 4096) (p : Fin 512) : reach B h r p = (reaches v o h (pos t p) r : EReal) := by
  unfold reach reaches
  simp only [H.v_at, H.g_at]
  rw [sum_mul_coe, sum_full64]
  exact congrArg _ (Finset.sum_congr rfl fun d _ => mul_comm _ _)

theorem weight_real (h : Fin 4) (r : Fin 4096) (p : Fin 512) :
    weight B t.val h r p = (weights q k h (pos t p) r : EReal) := by
  refine Eq.trans ?_ (weight_eq (scores q k h (pos t p)) (sees_self (pos t p)) r)
  unfold weight raw
  rw [score_real H, H.lse_at]
  rfl

theorem dscore_real (h : Fin 4) (r : Fin 4096) (p : Fin 512) :
    dscore B t.val h r p = (dscores q k v o h (pos t p) r : EReal) := by
  unfold dscore dscores
  rw [weight_real H, reach_real H, H.dl_at, ← EReal.coe_sub, ← EReal.coe_mul]

theorem addV_real (h : Fin 4) (r : Fin 4096) (d : Fin 64) : addV B t.val h r ⟨d.val, by omega⟩
    = ((∑ p, o (pos t p) h d * weights q k h (pos t p) r : ℝ) : EReal) := by
  unfold addV
  simp only [weight_real H, H.g_at]
  rw [sum_mul_coe]
  refine congrArg _ (Finset.sum_congr rfl fun p _ => ?_)
  rw [full_lt o (pos t p) h ⟨d.val, by omega⟩ d.isLt, mul_comm]

theorem addK_real (h : Fin 4) (r : Fin 4096) (d : Fin 96) : addK B t.val h r ⟨d.val, by omega⟩
    = ((∑ p, dscores q k v o h (pos t p) r * kappa * q (pos t p) h d : ℝ) : EReal) := by
  unfold addK
  simp only [dscore_real H, H.q_at]
  rw [sum_mul_coe]
  refine congrArg _ (Finset.sum_congr rfl fun p _ => ?_)
  rw [full_lt _ (pos t p) h ⟨d.val, by omega⟩ d.isLt]
  ring

theorem addQ_real (j : Fin 16) (h : Fin 4) (d : Fin 96) (p : Fin 512) : addQ B t.val j h ⟨d.val, by omega⟩ p
    = ((∑ a, dscores q k v o h (pos t p) (row j a) * k (row j a) h d : ℝ) : EReal) := by
  unfold addQ
  simp only [dscore_real H, H.kt_at]
  rw [sum_mul_coe]
  refine congrArg _ (Finset.sum_congr rfl fun a _ => ?_)
  rw [full_lt k (row j a) h ⟨d.val, by omega⟩ d.isLt, mul_comm]

end Cert.Mla

end
-- ==== Proof.Mla.Results.lean ====
module

public import proofs.«01_k».proof.Proof.Mla.RefGrad
public import proofs.«01_k».proof.Proof.Mla.Values

/-!
# Attention backward: the three results on real arguments
-/

@[expose] public section
set_option relaxedAutoImplicit false
set_option maxRecDepth 16384

noncomputable section

namespace Cert.Mla

open Idealize.ShloMosaic Idealize.ShloMosaic.TcCoe Idealize.SL.Sem Cert.Kernel4Ideal Cert.Kernel4Ideal.Gen

/-- Every position is a query of a point. -/
theorem pos_surj (p : Fin 4096) : ∃ (t : Fin 8) (a : Fin 512), pos t a = p :=
  ⟨⟨p.val / 512, by omega⟩, ⟨p.val % 512, by omega⟩, Fin.ext (by simp only [pos]; omega)⟩

theorem scaled_at (x : FVec Ideal S4096x4x96 .f32) (p : Fin 4096) (h : Fin 4) (d : Fin 96) :
    mulf x scale96 (ix3 p h d) = x (ix3 p h d) * (kappa : EReal) := by
  rw [← kappa_eq]
  unfold scale96
  pointwise

variable (m : (ℓ : Loc nD τ sig) → Buf (Elt Ideal) ℓ) (ρ : Dev nD → PrngReg) (c : Dev nD)

/-- The four arguments of device `c`. -/
abbrev argQ : FVec Ideal S4096x4x96 .f32 := m ((c.tc : Thread nD τ).loc main_arg0)
abbrev argK : FVec Ideal S4096x4x96 .f32 := m ((c.tc : Thread nD τ).loc main_arg1)
abbrev argV : FVec Ideal S4096x4x64 .f32 := m ((c.tc : Thread nD τ).loc main_arg2)
abbrev argO : FVec Ideal S4096x4x64 .f32 := m ((c.tc : Thread nD τ).loc main_arg3)

theorem v63 : V m c main_v63 = beside (argQ m c) (argK m c) (argV m c) := host_v63 (fun b => m (c, b))
theorem v66 : V m c main_v66 = tiles (argK m c) (argV m c) := host_v66 (fun b => m (c, b))
theorem v70 : V m c main_v70 = wide64 (argO m c) := host_v70 (fun b => m (c, b))
theorem v71 : V m c main_v71 = shapeCast S4x8x1x512 (logSum (argQ m c) (argK m c)) shapeCasts_S4x4096_S4x8x1x512 :=
  host_v71 (fun b => m (c, b))
theorem v72 : V m c main_v72
    = shapeCast S4x8x1x512 (inner (argQ m c) (argK m c) (argV m c) (argO m c)) shapeCasts_S4x4096_S4x8x1x512 :=
  host_v72 (fun b => m (c, b))

theorem after_q : Pipeline.withArrays (cfgs 0).spec c (V0 m c) (fun w => (dats m 0 c).arrAt w (cfgs 0).N)
    (Proc.devRef .tc main_v73_0) = (dats m 0 c).arrAt 7 cfg0.N :=
  Pipeline.Dat.withArrays_arrAt (dats m 0 c) sharedIn0 (V0 m c) (A_eq m c) 7

theorem after_k : Pipeline.withArrays (cfgs 0).spec c (V0 m c) (fun w => (dats m 0 c).arrAt w (cfgs 0).N)
    (Proc.devRef .tc main_v73_1) = (dats m 0 c).arrAt 8 cfg0.N :=
  Pipeline.Dat.withArrays_arrAt (dats m 0 c) sharedIn0 (V0 m c) (A_eq m c) 8

theorem after_v : Pipeline.withArrays (cfgs 0).spec c (V0 m c) (fun w => (dats m 0 c).arrAt w (cfgs 0).N)
    (Proc.devRef .tc main_v73_2) = (dats m 0 c).arrAt 9 cfg0.N :=
  Pipeline.Dat.withArrays_arrAt (dats m 0 c) sharedIn0 (V0 m c) (A_eq m c) 9

variable (q k : Fin 4096 → Fin 4 → Fin 96 → ℝ) (v o : Fin 4096 → Fin 4 → Fin 64 → ℝ)

/-- The four arguments of device `c` are these real numbers. -/
structure Real4 : Prop where
  q_eq : argQ m c = lift96 q
  k_eq : argK m c = lift96 k
  v_eq : argV m c = lift64 v
  o_eq : argO m c = lift64 o

variable {m c q k v o} (H : Real4 m c q k v o)
include H

theorem carries (t : Fin 8) : Carries q k v o (blocks m c t) t where
  q_at p h d := by
    rw [blk_q, v63, beside_q, H.q_eq, ← filled_coe]
    simp only [lift96_at, kappa_eq, ← EReal.coe_mul]
  k_at r h d := by
    rw [blk_k, v63, beside_k, H.k_eq, ← filled_coe]
    rfl
  v_at r h d := by
    rw [blk_v, v63, beside_v, H.v_eq, ← filled_coe]
    rfl
  kt_at j h d a := by
    rw [blk_kt, v66, tiles_k, H.k_eq, ← filled_coe]
    rfl
  g_at p h d := by
    rw [blk_g, v70, wide64_at, H.o_eq, ← filled_coe]
    rfl
  lse_at h p := by
    rw [blk_lse, v71, rows_at, H.q_eq, H.k_eq]
    exact logSum_at q k h (pos t p)
  dl_at h p := by
    rw [blk_dl, v72, rows_at, H.q_eq, H.k_eq, H.v_eq, H.o_eq]
    exact inner_at q k v o h (pos t p)

theorem final_q : mulf (narrow96 ((dats m 0 c).arrAt 7 cfg0.N)) scale96
    = Cert.Reference4Ideal.Read.val_main_v63 (F := Ideal) (argQ m c) (argK m c) (argV m c) (argO m c) := by
  rw [H.q_eq, H.k_eq, H.v_eq, H.o_eq]
  funext i
  obtain ⟨p, h, d, rfl⟩ : ∃ p h d, i = ix3 p h d := ⟨i 0, i 1, i 2, eq_ix3 i⟩
  refine Eq.trans ?_ (v63_at q k v o p h d).symm
  rw [scaled_at, narrow96_at]
  obtain ⟨t, a, rfl⟩ := pos_surj p
  rw [left_q]
  simp only [addQ_real (carries H t)]
  rw [← coe_sum, sum_row fun r => dscores q k v o h (pos t a) r * k r h d, ← EReal.coe_mul, Finset.sum_mul]
  exact congrArg _ (Finset.sum_congr rfl fun r _ => by ring)

theorem final_k : narrow96 ((dats m 0 c).arrAt 8 cfg0.N)
    = Cert.Reference4Ideal.Read.val_main_v61 (F := Ideal) (argQ m c) (argK m c) (argV m c) (argO m c) := by
  rw [H.q_eq, H.k_eq, H.v_eq, H.o_eq]
  funext i
  obtain ⟨r, h, d, rfl⟩ : ∃ p h d, i = ix3 p h d := ⟨i 0, i 1, i 2, eq_ix3 i⟩
  refine Eq.trans ?_ (v61_at q k v o r h d).symm
  rw [narrow96_at, left_k]
  simp only [addK_real (carries H _)]
  rw [← coe_sum, sum_pos fun p => dscores q k v o h p r * kappa * q p h d]

theorem final_v : narrow64 ((dats m 0 c).arrAt 9 cfg0.N)
    = Cert.Reference4Ideal.Read.val_main_v44 (F := Ideal) (argQ m c) (argK m c) (argO m c) := by
  rw [H.q_eq, H.k_eq, H.o_eq]
  funext i
  obtain ⟨r, h, d, rfl⟩ : ∃ p h d, i = ix3 p h d := ⟨i 0, i 1, i 2, eq_ix3 i⟩
  refine Eq.trans ?_ (v44_at q k o r h d).symm
  rw [narrow64_at, left_v]
  simp only [addV_real (carries H _)]
  rw [← coe_sum, sum_pos fun p => o p h d * weights q k h p r]

theorem out_q : Pipeline.afterTail₀ cfgs (dats m) 0 (V0 m) [hostOps1] c main_v79
    = Cert.Reference4Ideal.Read.val_main_v63 (F := Ideal) (argQ m c) (argK m c) (argV m c) (argO m c) := by
  unfold Pipeline.afterTail₀
  exact (host_v79 _).trans ((congrArg (fun x => mulf (narrow96 x) scale96) (after_q m c)).trans (final_q H))

theorem out_k : Pipeline.afterTail₀ cfgs (dats m) 0 (V0 m) [hostOps1] c main_v83
    = Cert.Reference4Ideal.Read.val_main_v61 (F := Ideal) (argQ m c) (argK m c) (argV m c) (argO m c) := by
  unfold Pipeline.afterTail₀
  exact (host_v83 _).trans ((congrArg (narrow96) (after_k m c)).trans (final_k H))

theorem out_v : Pipeline.afterTail₀ cfgs (dats m) 0 (V0 m) [hostOps1] c main_v87
    = Cert.Reference4Ideal.Read.val_main_v44 (F := Ideal) (argQ m c) (argK m c) (argO m c) := by
  unfold Pipeline.afterTail₀
  exact (host_v87 _).trans ((congrArg (narrow64) (after_v m c)).trans (final_v H))

omit H in
/-- The run, read: the three results, the arguments unchanged. -/
theorem run (hreal : ∀ c : Dev nD, ∃ q k v o, Real4 m c q k v o) :
    θ_run defs (onTc (τ := τ) (main (F := Ideal))) ⟨m, fun _ => 0, ρ⟩ (fun r => ∀ c : Dev nD,
      r.2.mem ((c.tc : Thread nD τ).loc main_v79)
        = Cert.Reference4Ideal.Read.val_main_v63 (F := Ideal) (argQ m c) (argK m c) (argV m c) (argO m c)
      ∧ r.2.mem ((c.tc : Thread nD τ).loc main_v83)
        = Cert.Reference4Ideal.Read.val_main_v61 (F := Ideal) (argQ m c) (argK m c) (argV m c) (argO m c)
      ∧ r.2.mem ((c.tc : Thread nD τ).loc main_v87)
        = Cert.Reference4Ideal.Read.val_main_v44 (F := Ideal) (argQ m c) (argK m c) (argO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨q, k, v, o, H⟩ := hreal c
    exact ⟨((h.1 c).2 main_v79 (Pipeline.mem_restRefs_of main_v79 (by decide) (by decide))).trans (out_q H),
      ((h.1 c).2 main_v83 (Pipeline.mem_restRefs_of main_v83 (by decide) (by decide))).trans (out_k H),
      ((h.1 c).2 main_v87 (Pipeline.mem_restRefs_of main_v87 (by decide) (by decide))).trans (out_v H), h.2 c⟩)
    (θ_run_and (run_main m ρ) (unchanged m ρ))

end Cert.Mla

end
-- ==== Proof.Mla.Claims.lean ====
module

public import proofs.«01_k».proof.Proof.Mla.Frames
public import proofs.«01_k».proof.Proof.Mla.Results

/-!
# Attention backward: the value claim

The claim takes finite arguments.  An infinite query or key gives exponentials whose sum is zero, which the reference
divides by and the kernel takes the logarithm of; infinite values and gradients make sums of both infinities, whose
products the two sides take in another order.
-/

@[expose] public section
set_option relaxedAutoImplicit false
set_option maxRecDepth 16384

noncomputable section

namespace Cert.Mla

open Idealize.ShloMosaic Idealize.ShloMosaic.TcCoe Idealize.SL.Sem Cert.Kernel4Ideal

theorem ofBits_inf : Ideal.ofBits .f32 0x7F800000#32 = ⊤ := by simp [Ideal.ofBits, Ideal.ieee]

/-- What the precondition says of one entry: it is a real number. -/
theorem real_of_lt {x : EReal} (h : Ideal.cmp .olt (max x (-x)) (Ideal.ofBits .f32 0x7F800000#32) = 1#1) :
    x = (x.toReal : EReal) := by
  rw [ofBits_inf] at h
  have hlt : max x (-x) < ⊤ := by
    by_contra hn
    simp [Ideal.cmp, hn] at h
  refine (EReal.coe_toReal (ne_of_lt (lt_of_le_of_lt (le_max_left _ _) hlt)) ?_).symm
  rintro rfl
  simp at hlt

variable [hPre : Cert.Pre_finite.Facts]

/-- Arguments the precondition admits are real numbers. -/
theorem real4 (m : (ℓ : Loc nD τ sig) → Buf (Elt Ideal) ℓ) (h : Cert.Pre_Kernel4Ideal_finite m) (c : Dev nD) :
    ∃ q k v o, Real4 m c q k v o := by
  obtain ⟨h0, h1, h2, h3⟩ := h c
  exact ⟨fun r h d => (argQ m c (ix3 r h d)).toReal, fun r h d => (argK m c (ix3 r h d)).toReal,
    fun r h d => (argV m c (ix3 r h d)).toReal, fun r h d => (argO m c (ix3 r h d)).toReal,
    funext fun i => (real_of_lt (congrFun h0 i)).trans (congrArg (fun j => ((argQ m c j).toReal : EReal)) (eq_ix3 i)),
    funext fun i => (real_of_lt (congrFun h1 i)).trans (congrArg (fun j => ((argK m c j).toReal : EReal)) (eq_ix3 i)),
    funext fun i => (real_of_lt (congrFun h2 i)).trans (congrArg (fun j => ((argV m c j).toReal : EReal)) (eq_ix3 i)),
    funext fun i => (real_of_lt (congrFun h3 i)).trans (congrArg (fun j => ((argO m c j).toReal : EReal)) (eq_ix3 i))⟩

theorem frame_ideal_finite : Cert.quiescent_Kernel4Ideal_pre_finite := fun m ρ _ => Cert.Kernel4Ideal.Gen.frame m ρ

theorem frame_reference_finite : Cert.quiescent_Reference4Ideal_pre_finite := fun m ρ _ => frame_reference m ρ trivial

/-- Both programs end with the same gradients. -/
theorem algebraic : Cert.algebraic_Kernel4Ideal_Reference4Ideal_pre_finite := fun m ρ m' ρ' hpre hag =>
  ⟨fun c => Cert.Reference4Ideal.Read.val_main_v63 (F := Ideal) (argQ m c) (argK m c) (argV m c) (argO m c),
    fun c => Cert.Reference4Ideal.Read.val_main_v61 (F := Ideal) (argQ m c) (argK m c) (argV m c) (argO m c),
    fun c => Cert.Reference4Ideal.Read.val_main_v44 (F := Ideal) (argQ m c) (argK m c) (argO m c),
    run ρ (real4 m hpre),
    (θ_run Cert.Reference4Ideal.defs _ _).mono (fun _ h c => by
      obtain ⟨h0, h1, h2, hargs⟩ := h c
      obtain ⟨a0, a1, a2, a3⟩ := hag c
      refine ⟨h0.trans ?_, h1.trans ?_, h2.trans ?_, hargs⟩
      · refine (Cert.Reference4Ideal.Read.val_main_v63_eq m' c).trans ?_
        rw [a0, a1, a2, a3]
      · refine (Cert.Reference4Ideal.Read.val_main_v61_eq m' c).trans ?_
        rw [a0, a1, a2, a3]
      · refine (Cert.Reference4Ideal.Read.val_main_v44_eq m' c).trans ?_
        rw [a0, a1, a3])
      (Cert.Reference4Ideal.Value.run (F := Ideal) m' ρ')⟩

end Cert.Mla

end
-- ==== Proof.Fox.Frames.lean ====
/-
  The frame claims about the gradient of the forgetting attention.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import Idealize.ShloMosaic.Lib.Quiescent

@[expose] public section

set_option maxRecDepth 16384

noncomputable section

namespace Cert.Fox

open Idealize.ShloMosaic Idealize.ShloMosaic.TcCoe Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

theorem preserves : Cert.preserves_Kernel5_Kernel5Ideal := trivial

end Cert.Fox

end
-- ==== Proof.Fox.Spec.lean ====
module

public import proofs.«01_k».proof.Proof.Gen.Kernel5Ideal.Frame
public import proofs.«01_k».proof.Proof.Attn.Loads
public import Idealize.ShloMosaic.Lib.Pointwise

/-!
# Forgetting attention backward: the mathematics of one grid point

A grid point holds 512 queries `x0` with their incoming gradients `x4`, their log-sums-of-exponentials `x5` and their
row sums `x6`, all 4096 keys `x1` and values `x2`, and the keys once more transposed in sixteen tiles, `x3`. Four
heads stand side by side in columns of 128, of which the gates take some. Query `q` of point `n` is position
`512 n + q`; it sees the keys that are not later than it.
-/

@[expose] public section
set_option relaxedAutoImplicit false

noncomputable section

namespace Cert.Fox

open Idealize.ShloMosaic Cert.Kernel5Ideal

export Cert.Attn (col row readAt_at readAt_unread rd_tile rd_head late rd_late rd_row rd_rowLate rd_kt)

/-- Whether query `q` of point `n` sees key `r`. -/
abbrev Seen (n r q : ℕ) : Prop := r ≤ 512 * n + q

/-- The blocks one grid point reads. -/
structure Blocks where
  /-- the queries -/
  q : Vec Ideal S512x512 .bf16
  /-- the keys -/
  k : Vec Ideal S4096x512 .bf16
  /-- the values -/
  v : Vec Ideal S4096x512 .bf16
  /-- the keys, sixteen transposed tiles -/
  kt : Vec Ideal S16x512x256 .bf16
  /-- the gradient of the attention's result -/
  g : Vec Ideal S512x512 .f32
  /-- logarithm of the sum of the exponentials of a query's scores -/
  lse : Vec Ideal S4x1x1x512 .f32
  /-- inner product of a query's result and gradient -/
  dl : Vec Ideal S4x1x1x512 .f32

variable (B : Blocks) (n : ℕ)

/-- The score of key `r` and query `q`. -/
def score (h : Fin 4) (r : Fin 4096) (q : Fin 512) : EReal :=
  ∑ d : Fin 128, B.k (ix2 r (col h d)) * B.q (ix2 q (col h d))

/-- The gradient that reaches the weight of key `r` and query `q`. -/
def reach (h : Fin 4) (r : Fin 4096) (q : Fin 512) : EReal :=
  ∑ d : Fin 128, B.v (ix2 r (col h d)) * B.g (ix2 q (col h d))

/-- The weight a key would have if it were seen. -/
def raw (h : Fin 4) (r : Fin 4096) (q : Fin 512) : EReal := Ideal.exp (score B h r q - B.lse (ix4 h 0 0 q))

/-- The attention weight of key `r` for query `q`. -/
def weight (h : Fin 4) (r : Fin 4096) (q : Fin 512) : EReal := if Seen n r.val q.val then raw B h r q else 0

/-- The gradient of the score of key `r` and query `q`. -/
def dscore (h : Fin 4) (r : Fin 4096) (q : Fin 512) : EReal := weight B n h r q * (reach B h r q - B.dl (ix4 h 0 0 q))

/-- What a point adds to the gradient of a value. -/
def addV (h : Fin 4) (r : Fin 4096) (d : Fin 128) : EReal := ∑ q : Fin 512, weight B n h r q * B.g (ix2 q (col h d))

/-- What a point adds to the gradient of a key. -/
def addK (h : Fin 4) (r : Fin 4096) (d : Fin 128) : EReal := ∑ q : Fin 512, dscore B n h r q * B.q (ix2 q (col h d))

/-- What key tile `j` adds to the gradient of a query. -/
def addQ (j : Fin 16) (h : Fin 4) (d : Fin 128) (q : Fin 512) : EReal :=
  ∑ a : Fin 256, B.kt (ix3 j (col h d) a) * dscore B n h (row j a) q

/-- What key tile `j` adds to the sums of the score gradients over the keys. -/
def addR (j : Fin 16) (h : Fin 4) (q : Fin 512) : EReal := ∑ a : Fin 256, dscore B n h (row j a) q

/-- What a point takes from the partial sums of the score gradients over the queries, lane by lane. -/
def addC (h : Fin 4) (r : Fin 4096) (l : Fin 128) : EReal :=
  -(dscore B n h r (col 0 l) + dscore B n h r (col 1 l) + dscore B n h r (col 2 l) + dscore B n h r (col 3 l))

end Cert.Fox

end
-- ==== Proof.Fox.Sums.lean ====
module

public import proofs.«01_k».proof.Proof.Fox.Spec

/-!
# Forgetting attention backward: what a point does not see adds nothing

Keys later than every query of a range have weight zero there, so a sum over the queries loses those terms.
-/

@[expose] public section
set_option relaxedAutoImplicit false

noncomputable section

namespace Cert.Fox

open Idealize.ShloMosaic Cert.Kernel5Ideal

variable (B : Blocks) (n : ℕ)

theorem weight_unseen (h : Fin 4) (r : Fin 4096) (q : Fin 512) (hs : ¬ Seen n r.val q.val) : weight B n h r q = 0 :=
  if_neg hs

theorem dscore_unseen (h : Fin 4) (r : Fin 4096) (q : Fin 512) (hs : ¬ Seen n r.val q.val) : dscore B n h r q = 0 := by
  rw [dscore, weight_unseen B n h r q hs, zero_mul]

/-- A sum over the 512 queries whose first 256 terms are zero. -/
theorem sum_late (f : Fin 512 → EReal) (hf : ∀ q : Fin 512, q.val < 256 → f q = 0) :
    ∑ q : Fin 512, f q = ∑ q : Fin 256, f (late q) := by
  have h := Fin.sum_univ_add (a := 256) (b := 256) f
  rw [show ∑ q : Fin 512, f q = _ from h, Finset.sum_eq_zero fun q _ => hf (Fin.castAdd 256 q) q.isLt, zero_add]
  rfl

/-- From row `512 n + 256` on the first 256 queries of point `n` see nothing. -/
theorem addV_late (h : Fin 4) (r : Fin 4096) (d : Fin 128) (hr : 512 * n + 256 ≤ r.val) :
    addV B n h r d = ∑ q : Fin 256, weight B n h r (late q) * B.g (ix2 (late q) (col h d)) :=
  sum_late (fun q => weight B n h r q * B.g (ix2 q (col h d))) fun q hq => by
    show weight B n h r q * _ = 0
    rw [weight_unseen B n h r q (by show ¬ (r.val ≤ 512 * n + q.val); omega), zero_mul]

theorem addK_late (h : Fin 4) (r : Fin 4096) (d : Fin 128) (hr : 512 * n + 256 ≤ r.val) :
    addK B n h r d = ∑ q : Fin 256, dscore B n h r (late q) * B.q (ix2 (late q) (col h d)) :=
  sum_late (fun q => dscore B n h r q * B.q (ix2 q (col h d))) fun q hq => by
    show dscore B n h r q * _ = 0
    rw [dscore_unseen B n h r q (by show ¬ (r.val ≤ 512 * n + q.val); omega), zero_mul]

/-- From row `512 n + 512` on point `n` sees nothing. -/
theorem addV_zero (h : Fin 4) (r : Fin 4096) (d : Fin 128) (hr : 512 * n + 512 ≤ r.val) : addV B n h r d = 0 :=
  Finset.sum_eq_zero fun q _ => by
    rw [weight_unseen B n h r q (by show ¬ (r.val ≤ 512 * n + q.val); omega), zero_mul]

theorem addK_zero (h : Fin 4) (r : Fin 4096) (d : Fin 128) (hr : 512 * n + 512 ≤ r.val) : addK B n h r d = 0 :=
  Finset.sum_eq_zero fun q _ => by
    rw [dscore_unseen B n h r q (by show ¬ (r.val ≤ 512 * n + q.val); omega), zero_mul]

theorem addQ_zero (j : Fin 16) (h : Fin 4) (d : Fin 128) (q : Fin 512) (hj : 512 * n + q.val < 256 * j.val) :
    addQ B n j h d q = 0 :=
  Finset.sum_eq_zero fun a _ => by
    rw [dscore_unseen B n h (row j a) q (by
      show ¬ (256 * j.val + a.val ≤ 512 * n + q.val)
      omega), mul_zero]

theorem addC_late (h : Fin 4) (r : Fin 4096) (l : Fin 128) (hr : 512 * n + 256 ≤ r.val) :
    addC B n h r l = -(dscore B n h r (col 2 l) + dscore B n h r (col 3 l)) := by
  unfold addC
  rw [dscore_unseen B n h r (col 0 l) (by show ¬ (r.val ≤ 512 * n + (128 * 0 + l.val)); omega),
    dscore_unseen B n h r (col 1 l) (by show ¬ (r.val ≤ 512 * n + (128 * 1 + l.val)); omega), zero_add, zero_add]

/-- The four lanes as the body counts them. -/
theorem addC_eq (h : Fin 4) (r : Fin 4096) (l : Fin 128) :
    addC B n h r l = -(dscore B n h r ⟨l.val, by omega⟩ + dscore B n h r ⟨128 + l.val, by omega⟩
      + dscore B n h r ⟨256 + l.val, by omega⟩ + dscore B n h r ⟨384 + l.val, by omega⟩) := by
  have e : (⟨l.val, by omega⟩ : Fin 512) = col 0 l := Fin.ext (Nat.zero_add _).symm
  rw [e]
  rfl

theorem addC_halves (h : Fin 4) (r : Fin 4096) (l : Fin 128) (hr : 512 * n + 256 ≤ r.val) :
    addC B n h r l
      = -(dscore B n h r (late ⟨l.val, by omega⟩) + dscore B n h r (late ⟨128 + l.val, by omega⟩)) := by
  have e : late ⟨128 + l.val, by omega⟩ = col 3 l := Fin.ext (by
    show 256 + (128 + l.val) = 128 * 3 + l.val
    omega)
  rw [e, addC_late B n h r l hr]
  rfl

theorem addC_zero (h : Fin 4) (r : Fin 4096) (l : Fin 128) (hr : 512 * n + 512 ≤ r.val) : addC B n h r l = 0 := by
  rw [addC_late B n h r l (by omega),
    dscore_unseen B n h r (col 2 l) (by show ¬ (r.val ≤ 512 * n + (128 * 2 + l.val)); omega),
    dscore_unseen B n h r (col 3 l) (by show ¬ (r.val ≤ 512 * n + (128 * 3 + l.val)); omega), zero_add, neg_zero]

theorem addR_zero (j : Fin 16) (h : Fin 4) (q : Fin 512) (hj : 512 * n + q.val < 256 * j.val) : addR B n j h q = 0 :=
  Finset.sum_eq_zero fun a _ => dscore_unseen B n h (row j a) q (by
    show ¬ (256 * j.val + a.val ≤ 512 * n + q.val)
    omega)

end Cert.Fox

end
-- ==== Proof.Fox.Stores.lean ====
module

public import proofs.«01_k».proof.Proof.Attn.Stores
public import proofs.«01_k».proof.Proof.Fox.Sums

/-!
# Forgetting attention backward: the query gradients, tile by tile
-/

@[expose] public section
set_option relaxedAutoImplicit false

noncomputable section

namespace Cert.Fox

open Idealize.ShloMosaic Cert.Kernel5Ideal

export Cert.Attn (State Holds put holds_put bump put4 put_ne upto upto_zero bump_upto upto_all QState QHolds qput
  qholds_put qholds_late qput4 qput_ne qupto qupto_zero qupto_succ Holds.load QHolds.load QHolds.loadLate holds_add
  qholds_add qholds_addLate holds_zero qholds_zero out_cons out4)

/-- Tile `j`'s term of the query gradients. -/
def tileQ (B : Blocks) (n j : ℕ) : QState := fun h d q => if hj : j < 16 then addQ B n ⟨j, hj⟩ h d q else 0

theorem tileQ_of_lt (B : Blocks) (n j : ℕ) (hj : j < 16) : tileQ B n j = fun h d q => addQ B n ⟨j, hj⟩ h d q := by
  funext h d q
  exact dif_pos hj

/-- The tiles a point sees give the sum over all of them. -/
theorem qupto_all (B : Blocks) (n : ℕ) (hn : n < 8) :
    qupto (fun _ _ _ => 0) (2 * n + 2) (tileQ B n) = fun h d q => ∑ j : Fin 16, addQ B n j h d q := by
  funext h d q
  rw [qupto, zero_add, ← Fin.sum_univ_eq_sum_range (fun j => tileQ B n j h d q)]
  rw [show (∑ j : Fin 16, addQ B n j h d q) = ∑ j : Fin 16, tileQ B n j.val h d q from
    Finset.sum_congr rfl fun j _ => (congrFun (congrFun (congrFun (tileQ_of_lt B n j.val j.isLt) h) d) q).symm]
  rw [Fin.sum_univ_eq_sum_range (fun j => tileQ B n j h d q), Fin.sum_univ_eq_sum_range (fun j => tileQ B n j h d q)]
  refine Finset.sum_subset (Finset.range_subset_range.mpr (by omega)) fun j hj hj' => ?_
  have h1 : j < 16 := Finset.mem_range.mp hj
  have h2 : ¬ j < 2 * n + 2 := fun e => hj' (Finset.mem_range.mpr e)
  rw [tileQ_of_lt B n j h1]
  exact addQ_zero B n ⟨j, h1⟩ h d q (by
    show 512 * n + q.val < 256 * j
    omega)

end Cert.Fox

end
-- ==== Proof.Fox.Rows.lean ====
module

public import Idealize.ShloMosaic.Lib.WritesUnit
public import proofs.«01_k».proof.Proof.Fox.Stores

/-!
# Forgetting attention backward: the sums over the keys

The second scratch buffer has one row per head: the sums of the score gradients over the keys. Stores add to it as they
add to the query gradients' buffer.
-/

@[expose] public section
set_option relaxedAutoImplicit false

noncomputable section

namespace Cert.Fox

open Idealize.ShloMosaic Idealize.ShloMosaic.TcCoe Idealize.SL.Sem Cert.Kernel5Ideal

/-- The state of the second scratch buffer: head, query. -/
abbrev RState := Fin 4 → Fin 512 → EReal

def RHolds (M : Memref sig .tc .vmem S4x1x512 .f32) (X : M.view.ty.Contents (Elt Ideal)) (S : RState) : Prop :=
  ∀ h q, M.view.read (Elt Ideal) X (ix3 h 0 q) = S h q

/-- The state with head `h₀` replaced. -/
def rput (S : RState) (h₀ : Fin 4) (C : RState) : RState := fun h q => if h = h₀ then C h q else S h q

theorem rholds_put (M : Memref sig .tc .vmem S4x1x512 .f32) (X : M.view.ty.Contents (Elt Ideal))
    (L : List (View.Piece (Elt Ideal) S4x1x512 .f32)) (S C : RState) (hL : RHolds M (M.view.writes (Elt Ideal) X L) S)
    (h₀ : Fin 4) {off : Fin 3 → ℕ} (inb : ∀ a : Fin 3, off a + S1x1x512.size a ≤ S4x1x512.size a)
    (hoff : off = ![h₀.val, 0, 0]) (w : (Rect.unit (s := S4x1x512) off S1x1x512.size inb).shape.Idx → EReal)
    (hw : ∀ q : Fin 512, w (ix3 0 0 q) = C h₀ q) :
    RHolds M (M.view.writes (Elt Ideal) X
      ((⟨Rect.unit (s := S4x1x512) off S1x1x512.size inb, w⟩ : View.Piece (Elt Ideal) S4x1x512 .f32) :: L))
      (rput S h₀ C) := by
  intro h q
  unfold rput
  by_cases hc : h = h₀
  · subst hc
    rw [if_pos rfl, View.read_writes_cons_unit_of_mem M.view X inb w L _ (ix3 0 0 q) hoff (by
      intro a
      fin_cases a <;> first | rfl | exact (Nat.zero_add _).symm), hw]
  · have hv : h.val ≠ h₀.val := fun e => hc (Fin.ext e)
    rw [if_neg hc, View.read_writes_cons_unit_of_not_mem M.view X inb w L _ hoff 0 (by
      show h.val < h₀.val ∨ h₀.val + 1 ≤ h.val
      omega)]
    exact hL h q

theorem rholds_late (M : Memref sig .tc .vmem S4x1x512 .f32) (X : M.view.ty.Contents (Elt Ideal))
    (L : List (View.Piece (Elt Ideal) S4x1x512 .f32)) (S C : RState) (hL : RHolds M (M.view.writes (Elt Ideal) X L) S)
    (h₀ : Fin 4) {off : Fin 3 → ℕ} (inb : ∀ a : Fin 3, off a + S1x1x256.size a ≤ S4x1x512.size a)
    (hoff : off = ![h₀.val, 0, 256]) (w : (Rect.unit (s := S4x1x512) off S1x1x256.size inb).shape.Idx → EReal)
    (hw : ∀ q : Fin 256, w (ix3 0 0 q) = C h₀ (late q)) (hC : ∀ q : Fin 512, q.val < 256 → C h₀ q = S h₀ q) :
    RHolds M (M.view.writes (Elt Ideal) X
      ((⟨Rect.unit (s := S4x1x512) off S1x1x256.size inb, w⟩ : View.Piece (Elt Ideal) S4x1x512 .f32) :: L))
      (rput S h₀ C) := by
  intro h q
  unfold rput
  by_cases hc : h = h₀
  · subst hc
    rw [if_pos rfl]
    by_cases hq : q.val < 256
    · rw [View.read_writes_cons_unit_of_not_mem M.view X inb w L _ hoff 2 (Or.inl hq), hC q hq]
      exact hL h q
    · have e : q = late ⟨q.val - 256, by omega⟩ := Fin.ext (by
        show q.val = 256 + (q.val - 256)
        omega)
      rw [View.read_writes_cons_unit_of_mem M.view X inb w L _ (ix3 0 0 ⟨q.val - 256, by omega⟩) hoff (by
        intro a
        fin_cases a
        · rfl
        · rfl
        · show q.val = 256 + (q.val - 256)
          omega), hw, ← e]
  · have hv : h.val ≠ h₀.val := fun e => hc (Fin.ext e)
    rw [if_neg hc, View.read_writes_cons_unit_of_not_mem M.view X inb w L _ hoff 0 (by
      show h.val < h₀.val ∨ h₀.val + 1 ≤ h.val
      omega)]
    exact hL h q

theorem rput4 (S C : RState) :
    rput (rput (rput (rput S 0 fun h q => S h q + C h q) 1 fun h q => S h q + C h q) 2 fun h q => S h q + C h q) 3
      (fun h q => S h q + C h q) = fun h q => S h q + C h q := by
  funext h q
  unfold rput
  fin_cases h <;> simp

theorem rput_ne (S C : RState) (h₀ h : Fin 4) (q : Fin 512) (hne : h ≠ h₀) : rput S h₀ C h q = S h q := if_neg hne

/-- Tile `j`'s term. -/
def tileR (B : Blocks) (n j : ℕ) : RState := fun h q => if hj : j < 16 then addR B n ⟨j, hj⟩ h q else 0

theorem tileR_of_lt (B : Blocks) (n j : ℕ) (hj : j < 16) : tileR B n j = fun h q => addR B n ⟨j, hj⟩ h q := by
  funext h q
  exact dif_pos hj

/-- The state with the first `m` tiles' terms added. -/
def rupto (S : RState) (m : ℕ) (A : ℕ → RState) : RState := fun h q => S h q + ∑ j ∈ Finset.range m, A j h q

theorem rupto_zero (S : RState) (A : ℕ → RState) : rupto S 0 A = S := by
  funext h q
  simp [rupto]

theorem rupto_succ (S : RState) (m : ℕ) (A : ℕ → RState) :
    rupto S (m + 1) A = fun h q => rupto S m A h q + A m h q := by
  funext h q
  simp [rupto, Finset.sum_range_succ, add_assoc]

theorem rupto_all (B : Blocks) (n : ℕ) (hn : n < 8) :
    rupto (fun _ _ => 0) (2 * n + 2) (tileR B n) = fun h q => ∑ j : Fin 16, addR B n j h q := by
  funext h q
  rw [rupto, zero_add, show (∑ j : Fin 16, addR B n j h q) = ∑ j : Fin 16, tileR B n j.val h q from
    Finset.sum_congr rfl fun j _ => (congrFun (congrFun (tileR_of_lt B n j.val j.isLt) h) q).symm]
  rw [Fin.sum_univ_eq_sum_range (fun j => tileR B n j h q)]
  refine Finset.sum_subset (Finset.range_subset_range.mpr (by omega)) fun j hj hj' => ?_
  have h1 : j < 16 := Finset.mem_range.mp hj
  have h2 : ¬ j < 2 * n + 2 := fun e => hj' (Finset.mem_range.mpr e)
  rw [tileR_of_lt B n j h1]
  exact addR_zero B n ⟨j, h1⟩ h q (by
    show 512 * n + q.val < 256 * j
    omega)

theorem RHolds.load {M : Memref sig .tc .vmem S4x1x512 .f32} {X : M.view.ty.Contents (Elt Ideal)} {S : RState}
    (hS : RHolds M X S) (h : Fin 4) {off : Fin 3 → ℕ}
    (inb : ∀ a : Fin 3, off a + S1x1x512.size a ≤ S4x1x512.size a) (hoff : off = ![h.val, 0, 0]) (q : Fin 512) :
    M.view.readAt (Elt Ideal) (Rect.unit (s := S4x1x512) off S1x1x512.size inb).toLoadRect X (ix3 0 0 q) = S h q :=
  (readAt_at M X inb hoff (ix3 0 0 q) (ix3 h 0 q) (by
    intro a
    fin_cases a <;> first | rfl | exact (Nat.zero_add _).symm)).trans (hS h q)

theorem RHolds.loadLate {M : Memref sig .tc .vmem S4x1x512 .f32} {X : M.view.ty.Contents (Elt Ideal)} {S : RState}
    (hS : RHolds M X S) (h : Fin 4) {off : Fin 3 → ℕ}
    (inb : ∀ a : Fin 3, off a + S1x1x256.size a ≤ S4x1x512.size a) (hoff : off = ![h.val, 0, 256]) (q : Fin 256) :
    M.view.readAt (Elt Ideal) (Rect.unit (s := S4x1x512) off S1x1x256.size inb).toLoadRect X (ix3 0 0 q)
      = S h (late q) :=
  (readAt_at M X inb hoff (ix3 0 0 q) (ix3 h 0 (late q)) (by
    intro a
    fin_cases a <;> rfl)).trans (hS h (late q))

theorem rholds_add (M : Memref sig .tc .vmem S4x1x512 .f32) (X : M.view.ty.Contents (Elt Ideal))
    (L : List (View.Piece (Elt Ideal) S4x1x512 .f32)) (S S₀ C : RState)
    (hL : RHolds M (M.view.writes (Elt Ideal) X L) S) (h₀ : Fin 4) (hS : ∀ q, S h₀ q = S₀ h₀ q)
    {off : Fin 3 → ℕ} (inb : ∀ a : Fin 3, off a + S1x1x512.size a ≤ S4x1x512.size a)
    (hoff : off = ![h₀.val, 0, 0]) (w : (Rect.unit (s := S4x1x512) off S1x1x512.size inb).shape.Idx → EReal)
    (hw : ∀ q : Fin 512, w (ix3 0 0 q) = M.view.readAt (Elt Ideal)
      (Rect.unit (s := S4x1x512) off S1x1x512.size inb).toLoadRect (M.view.writes (Elt Ideal) X L) (ix3 0 0 q)
        + C h₀ q) :
    RHolds M (M.view.writes (Elt Ideal) X
      ((⟨Rect.unit (s := S4x1x512) off S1x1x512.size inb, w⟩ : View.Piece (Elt Ideal) S4x1x512 .f32) :: L))
      (rput S h₀ fun h q => S₀ h q + C h q) :=
  rholds_put M X L S _ hL h₀ inb hoff w fun q =>
    (hw q).trans (congrArg (· + _) ((hL.load h₀ inb hoff q).trans (hS _)))

theorem rholds_addLate (M : Memref sig .tc .vmem S4x1x512 .f32) (X : M.view.ty.Contents (Elt Ideal))
    (L : List (View.Piece (Elt Ideal) S4x1x512 .f32)) (S S₀ C : RState)
    (hL : RHolds M (M.view.writes (Elt Ideal) X L) S) (h₀ : Fin 4) (hS : ∀ q, S h₀ q = S₀ h₀ q)
    {off : Fin 3 → ℕ} (inb : ∀ a : Fin 3, off a + S1x1x256.size a ≤ S4x1x512.size a)
    (hoff : off = ![h₀.val, 0, 256]) (w : (Rect.unit (s := S4x1x512) off S1x1x256.size inb).shape.Idx → EReal)
    (hw : ∀ q : Fin 256, w (ix3 0 0 q) = M.view.readAt (Elt Ideal)
      (Rect.unit (s := S4x1x512) off S1x1x256.size inb).toLoadRect (M.view.writes (Elt Ideal) X L) (ix3 0 0 q)
        + C h₀ (late q))
    (hC : ∀ q : Fin 512, q.val < 256 → C h₀ q = 0) :
    RHolds M (M.view.writes (Elt Ideal) X
      ((⟨Rect.unit (s := S4x1x512) off S1x1x256.size inb, w⟩ : View.Piece (Elt Ideal) S4x1x512 .f32) :: L))
      (rput S h₀ fun h q => S₀ h q + C h q) :=
  rholds_late M X L S _ hL h₀ inb hoff w (fun q =>
    (hw q).trans (congrArg (· + _) ((hL.loadLate h₀ inb hoff q).trans (hS _))))
    fun q hq => by rw [hC q hq, add_zero, hS]

theorem rholds_zero (M : Memref sig .tc .vmem S4x1x512 .f32) (X : M.view.ty.Contents (Elt Ideal))
    (inb : ∀ a : Fin 3, (![0, 0, 0] : Fin 3 → ℕ) a + S4x1x512.size a ≤ S4x1x512.size a)
    (w : (Rect.unit (s := S4x1x512) ![0, 0, 0] S4x1x512.size inb).shape.Idx → EReal) (hw : ∀ y, w y = 0) :
    RHolds M (M.view.writes (Elt Ideal) X
      [(⟨Rect.unit (s := S4x1x512) ![0, 0, 0] S4x1x512.size inb, w⟩ : View.Piece (Elt Ideal) S4x1x512 .f32)])
      (fun _ _ => 0) := by
  intro h q
  rw [View.read_writes_cons_unit_of_mem M.view X inb w [] _ (ix3 h 0 q) rfl (by
    intro a
    fin_cases a <;> exact (Nat.zero_add _).symm)]
  exact hw _

/-- A store of one head's row of the block of sums. -/
theorem rout_cons (v : View sig .tc .vmem S4x1x1x512 .f32) (f : v.ty.Contents (Elt Ideal))
    (L : List (View.Piece (Elt Ideal) S4x1x1x512 .f32)) (S : RState) (P : Fin 4 → Prop) (h₀ : Fin 4)
    (hL : ∀ h, P h → ∀ q, v.read (Elt Ideal) (v.writes (Elt Ideal) f L) (ix4 h 0 0 q) = S h q)
    {off : Fin 4 → ℕ} (inb : ∀ a : Fin 4, off a + S1x1x1x512.size a ≤ S4x1x1x512.size a)
    (hoff : off = ![h₀.val, 0, 0, 0]) (w : (Rect.unit (s := S4x1x1x512) off S1x1x1x512.size inb).shape.Idx → EReal)
    (hw : ∀ q : Fin 512, w (ix4 0 0 0 q) = S h₀ q) (h : Fin 4) (hh : h = h₀ ∨ P h) (q : Fin 512) :
    v.read (Elt Ideal) (v.writes (Elt Ideal) f
      ((⟨Rect.unit (s := S4x1x1x512) off S1x1x1x512.size inb, w⟩ : View.Piece (Elt Ideal) S4x1x1x512 .f32) :: L))
      (ix4 h 0 0 q) = S h q := by
  by_cases hc : h = h₀
  · subst hc
    rw [View.read_writes_cons_unit_of_mem v f inb w L _ (ix4 0 0 0 q) hoff (by
      intro a
      fin_cases a <;> first | rfl | exact (Nat.zero_add _).symm)]
    exact hw q
  · have hv : h.val ≠ h₀.val := fun e => hc (Fin.ext e)
    rw [View.read_writes_cons_unit_of_not_mem v f inb w L _ hoff 0 (by
      show h.val < h₀.val ∨ h₀.val + 1 ≤ h.val
      omega)]
    exact hL h (hh.resolve_left hc) q

/-- The stores of all four heads. -/
theorem rout4 (v : View sig .tc .vmem S4x1x1x512 .f32) (f : v.ty.Contents (Elt Ideal)) (S : RState)
    (w₀ w₁ w₂ w₃ : S1x1x1x512.Idx → EReal)
    (inb₀ : ∀ a : Fin 4, (![0, 0, 0, 0] : Fin 4 → ℕ) a + S1x1x1x512.size a ≤ S4x1x1x512.size a)
    (inb₁ : ∀ a : Fin 4, (![1, 0, 0, 0] : Fin 4 → ℕ) a + S1x1x1x512.size a ≤ S4x1x1x512.size a)
    (inb₂ : ∀ a : Fin 4, (![2, 0, 0, 0] : Fin 4 → ℕ) a + S1x1x1x512.size a ≤ S4x1x1x512.size a)
    (inb₃ : ∀ a : Fin 4, (![3, 0, 0, 0] : Fin 4 → ℕ) a + S1x1x1x512.size a ≤ S4x1x1x512.size a)
    (h0 : ∀ q, w₀ (ix4 0 0 0 q) = S 0 q) (h1 : ∀ q, w₁ (ix4 0 0 0 q) = S 1 q) (h2 : ∀ q, w₂ (ix4 0 0 0 q) = S 2 q)
    (h3 : ∀ q, w₃ (ix4 0 0 0 q) = S 3 q) (h : Fin 4) (q : Fin 512) :
    v.read (Elt Ideal) (v.writes (Elt Ideal) f
      [(⟨Rect.unit (s := S4x1x1x512) ![3, 0, 0, 0] S1x1x1x512.size inb₃, w₃⟩ : View.Piece (Elt Ideal) S4x1x1x512 .f32),
        ⟨Rect.unit (s := S4x1x1x512) ![2, 0, 0, 0] S1x1x1x512.size inb₂, w₂⟩,
        ⟨Rect.unit (s := S4x1x1x512) ![1, 0, 0, 0] S1x1x1x512.size inb₁, w₁⟩,
        ⟨Rect.unit (s := S4x1x1x512) ![0, 0, 0, 0] S1x1x1x512.size inb₀, w₀⟩]) (ix4 h 0 0 q) = S h q := by
  have A0 := rout_cons v f [] S (fun _ => False) 0 (fun _ hf => hf.elim) inb₀ rfl w₀ h0
  have A1 := rout_cons v f _ S (fun h => h = 0) 1 (fun h hh => A0 h (Or.inl hh)) inb₁ rfl w₁ h1
  have A2 := rout_cons v f _ S (fun h => h = 1 ∨ h = 0) 2 A1 inb₂ rfl w₂ h2
  exact rout_cons v f _ S (fun h => h = 2 ∨ h = 1 ∨ h = 0) 3 A2 inb₃ rfl w₃ h3 h (by
    fin_cases h <;> simp) q

end Cert.Fox

end
-- ==== Proof.Fox.Offsets.lean ====
module

public import proofs.«01_k».proof.Proof.Fox.Spec

/-!
# Forgetting attention backward: the offsets the body computes

At point `n` the main loop makes `2 n` trips, the other loop none; trip `j` visits key tile `j`, and the two tiles
after the loop are `2 n` and `2 n + 1`.
-/

@[expose] public section
set_option relaxedAutoImplicit false

noncomputable section

namespace Cert.Fox

open Idealize.ShloMosaic Cert.Kernel5Ideal

theorem trips1 : ∀ i : grid0.Coords, (k0_t1_loop i).trips = 2 * (i 1).val := by decide +kernel
theorem trips2 : ∀ i : grid0.Coords, (k0_t2_loop i).trips = 0 := by decide +kernel

theorem off_k0 : ∀ (i : grid0.Coords) (j : Fin (k0_t1_loop i).trips), k0_off1 i j = ![256 * j.val, 128 * 0] := by
  decide +kernel
theorem off_t0 : ∀ (i : grid0.Coords) (j : Fin (k0_t1_loop i).trips), k0_off5 i j = ![j.val, 128 * 0, 0] := by
  decide +kernel
theorem off_dk0 : ∀ i : grid0.Coords, k0_off17 i 0#32 = ![256 * (2 * (i 1).val), 128 * 0] := by decide +kernel
theorem off_dt0 : ∀ i : grid0.Coords, k0_off21 i 0#32 = ![2 * (i 1).val, 128 * 0, 0] := by decide +kernel
theorem off_ek0 : ∀ i : grid0.Coords, k0_off17 i 1#32 = ![256 * (2 * (i 1).val + 1), 128 * 0] := by decide +kernel
theorem off_et0 : ∀ i : grid0.Coords, k0_off21 i 1#32 = ![2 * (i 1).val + 1, 128 * 0, 0] := by decide +kernel
theorem off_k1 : ∀ (i : grid0.Coords) (j : Fin (k0_t1_loop i).trips), k0_off2 i j = ![256 * j.val, 128 * 1] := by
  decide +kernel
theorem off_t1 : ∀ (i : grid0.Coords) (j : Fin (k0_t1_loop i).trips), k0_off6 i j = ![j.val, 128 * 1, 0] := by
  decide +kernel
theorem off_dk1 : ∀ i : grid0.Coords, k0_off18 i 0#32 = ![256 * (2 * (i 1).val), 128 * 1] := by decide +kernel
theorem off_dt1 : ∀ i : grid0.Coords, k0_off22 i 0#32 = ![2 * (i 1).val, 128 * 1, 0] := by decide +kernel
theorem off_ek1 : ∀ i : grid0.Coords, k0_off18 i 1#32 = ![256 * (2 * (i 1).val + 1), 128 * 1] := by decide +kernel
theorem off_et1 : ∀ i : grid0.Coords, k0_off22 i 1#32 = ![2 * (i 1).val + 1, 128 * 1, 0] := by decide +kernel
theorem off_k2 : ∀ (i : grid0.Coords) (j : Fin (k0_t1_loop i).trips), k0_off3 i j = ![256 * j.val, 128 * 2] := by
  decide +kernel
theorem off_t2 : ∀ (i : grid0.Coords) (j : Fin (k0_t1_loop i).trips), k0_off7 i j = ![j.val, 128 * 2, 0] := by
  decide +kernel
theorem off_dk2 : ∀ i : grid0.Coords, k0_off19 i 0#32 = ![256 * (2 * (i 1).val), 128 * 2] := by decide +kernel
theorem off_dt2 : ∀ i : grid0.Coords, k0_off23 i 0#32 = ![2 * (i 1).val, 128 * 2, 0] := by decide +kernel
theorem off_ek2 : ∀ i : grid0.Coords, k0_off19 i 1#32 = ![256 * (2 * (i 1).val + 1), 128 * 2] := by decide +kernel
theorem off_et2 : ∀ i : grid0.Coords, k0_off23 i 1#32 = ![2 * (i 1).val + 1, 128 * 2, 0] := by decide +kernel
theorem off_k3 : ∀ (i : grid0.Coords) (j : Fin (k0_t1_loop i).trips), k0_off4 i j = ![256 * j.val, 128 * 3] := by
  decide +kernel
theorem off_t3 : ∀ (i : grid0.Coords) (j : Fin (k0_t1_loop i).trips), k0_off8 i j = ![j.val, 128 * 3, 0] := by
  decide +kernel
theorem off_dk3 : ∀ i : grid0.Coords, k0_off20 i 0#32 = ![256 * (2 * (i 1).val), 128 * 3] := by decide +kernel
theorem off_dt3 : ∀ i : grid0.Coords, k0_off24 i 0#32 = ![2 * (i 1).val, 128 * 3, 0] := by decide +kernel
theorem off_ek3 : ∀ i : grid0.Coords, k0_off20 i 1#32 = ![256 * (2 * (i 1).val + 1), 128 * 3] := by decide +kernel
theorem off_et3 : ∀ i : grid0.Coords, k0_off24 i 1#32 = ![2 * (i 1).val + 1, 128 * 3, 0] := by decide +kernel

end Cert.Fox

end
-- ==== Proof.Fox.Mask.lean ====
module

public import proofs.«01_k».proof.Proof.Fox.Sums
public import proofs.«01_k».proof.Proof.Fox.Offsets
public import Idealize.ShloMosaic.Lib.PackedFields
public import Idealize.ShloMosaic.Lib.WordCmp

/-!
# Forgetting attention backward: the mask of the two tiles after the loop

The body compares positions. Both are below 4096, so the words are the numbers.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen
open Idealize.ShloMosaic.PackedFields Idealize.ShloMosaic.WordCmp

theorem cmp_le {x y : BitVec 32} {p r : ℕ} (hx : x = BitVec.ofNat 32 p) (hy : y = BitVec.ofNat 32 r) (hp : p < 8192)
    (hr : r < 8192) : IntOp.cmpi .sle x y = BitVec.ofBool (decide (p ≤ r)) := by
  rw [hx, hy]
  exact cmpi_sle_ofNat (by omega) (by omega)

theorem mask_d (i : grid0.Coords) (j : Fin 16) (hj : j.val = 2 * (i 1).val) (a : Fin 256) (q : Fin 512) :
    k0_pay117 i (ix2 a q) = BitVec.ofBool (decide (Seen (i 1).val (row j a).val q.val)) := by
  have hn : (i 1).val < 8 := (i 1).isLt
  pointwise [k0_pay117]
  refine cmp_le (p := (row j a).val) (r := 512 * (i 1).val + q.val) ?_ ?_ (by omega) (by omega)
  · apply BitVec.eq_of_toNat_eq
    simp [IntOp.addi, Scalar.muli, Scalar.addi, IntOp.muli, row, hj]
    omega
  · apply BitVec.eq_of_toNat_eq
    simp [IntOp.addi, Scalar.muli, Scalar.addi, IntOp.muli]
    omega

theorem mask_e (i : grid0.Coords) (j : Fin 16) (hj : j.val = 2 * (i 1).val + 1) (a : Fin 256) (q : Fin 256) :
    kernelRun0_B.sl.r_36 i (ix2 a q) = BitVec.ofBool (decide (Seen (i 1).val (row j a).val (late q).val)) := by
  have hn : (i 1).val < 8 := (i 1).isLt
  have hl : (late q).val = 256 + q.val := rfl
  pointwise [kernelRun0_B.sl.r_36, kernelRun0_B.sl.v320, kernelRun0_B.sl.v319, kernelRun0_B.sl.v17, kernelRun0_B.sl.v322, k0_pay174]
  refine cmp_le (p := (row j a).val) (r := 512 * (i 1).val + (late q).val) ?_ ?_ (by omega) (by omega)
  · apply BitVec.eq_of_toNat_eq
    simp [IntOp.addi, Scalar.muli, Scalar.addi, IntOp.muli, row, hj]
    omega
  · apply BitVec.eq_of_toNat_eq
    simp [IntOp.addi, Scalar.muli, Scalar.addi, IntOp.muli, hl]
    omega

/-- Selecting by a decided condition. -/
theorem select_decide {P : Prop} [Decidable P] (x y : EReal) :
    Scalar.select (BitVec.ofBool (decide P)) x y = if P then x else y := by
  by_cases h : P
  · rw [if_pos h, decide_eq_true h]; rfl
  · rw [if_neg h, decide_eq_false h]; rfl

end Cert.Fox

end
-- ==== Proof.Fox.MatLoop.lean ====
module

public import proofs.«01_k».proof.Proof.Fox.Mask

/-!
# Forgetting attention backward: weights and score gradients, a tile of the loop

Every key of a tile of the loop is seen by every query of the point, so the body does not mask it.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
        Memref sig .tc .vmem S512x512 .f32) (harg6 : arg6.IsWhole) (arg7 : Memref sig .tc .vmem S4x1x1x512 .f32)
            (harg7 : arg7.IsWhole) (arg8 : Memref sig .tc .vmem S4x1x1x512 .f32) (harg8 : arg8.IsWhole)

/-- The weights of head 0. -/
theorem w_t0 (B : Blocks) (i : grid0.Coords) (k : Fin (k0_t1_loop i).trips) (j : Fin 16) (hj : j.val = k.val) (a :
    Fin 256) (q : Fin 512) :
    trip_k0_t1.sl.r_18 (F := Ideal) i arg2 arg3 arg7 (harg2.unread B.q) (harg3.unread B.k) (harg7.unread B.lse) k
        (ix2 a q)
      = weight B (i 1).val 0 (row j a) q := by
  have hs : Seen (i 1).val (row j a).val q.val := by
    have := k.isLt; have := trips1 i
    show 256 * j.val + a.val ≤ 512 * (i 1).val + q.val
    omega
  have hk : k0_off1 i k = ![256 * j.val, 128 * (0 : Fin 4).val] := by rw [hj]; exact off_k0 i k
  pointwise [trip_k0_t1.sl.r_18, trip_k0_t1.sl.r_15, k0_pay21, trip_k0_t1.sl.r_8, k0_pay17, k0_pay10, k0_pay2]
  simp only [rd_tile arg3 _ j 0 _ hk, rd_head arg2 _ 0 (off := ![0, 0]) _ rfl, rd_row arg7 _ 0 (off := ![0, 0, 0,
      0]) _ rfl, Memref.IsWhole.read_unread]
  rw [weight, if_pos hs]
  rfl

/-- The weights of head 1. -/
theorem w_t1 (B : Blocks) (i : grid0.Coords) (k : Fin (k0_t1_loop i).trips) (j : Fin 16) (hj : j.val = k.val) (a :
    Fin 256) (q : Fin 512) :
    trip_k0_t1.sl.r_23 (F := Ideal) i arg2 arg3 arg7 (harg2.unread B.q) (harg3.unread B.k) (harg7.unread B.lse) k
        (ix2 a q)
      = weight B (i 1).val 1 (row j a) q := by
  have hs : Seen (i 1).val (row j a).val q.val := by
    have := k.isLt; have := trips1 i
    show 256 * j.val + a.val ≤ 512 * (i 1).val + q.val
    omega
  have hk : k0_off2 i k = ![256 * j.val, 128 * (1 : Fin 4).val] := by rw [hj]; exact off_k1 i k
  pointwise [trip_k0_t1.sl.r_23, trip_k0_t1.sl.r_20, k0_pay28, trip_k0_t1.sl.r_9, k0_pay23, k0_pay11, k0_pay3]
  simp only [rd_tile arg3 _ j 1 _ hk, rd_head arg2 _ 1 (off := ![0, 128]) _ rfl, rd_row arg7 _ 1 (off := ![1, 0, 0,
      0]) _ rfl, Memref.IsWhole.read_unread]
  rw [weight, if_pos hs]
  rfl

/-- The weights of head 2. -/
theorem w_t2 (B : Blocks) (i : grid0.Coords) (k : Fin (k0_t1_loop i).trips) (j : Fin 16) (hj : j.val = k.val) (a :
    Fin 256) (q : Fin 512) :
    trip_k0_t1.sl.r_28 (F := Ideal) i arg2 arg3 arg7 (harg2.unread B.q) (harg3.unread B.k) (harg7.unread B.lse) k
        (ix2 a q)
      = weight B (i 1).val 2 (row j a) q := by
  have hs : Seen (i 1).val (row j a).val q.val := by
    have := k.isLt; have := trips1 i
    show 256 * j.val + a.val ≤ 512 * (i 1).val + q.val
    omega
  have hk : k0_off3 i k = ![256 * j.val, 128 * (2 : Fin 4).val] := by rw [hj]; exact off_k2 i k
  pointwise [trip_k0_t1.sl.r_28, trip_k0_t1.sl.r_25, k0_pay35, trip_k0_t1.sl.r_10, k0_pay30, k0_pay12, k0_pay4]
  simp only [rd_tile arg3 _ j 2 _ hk, rd_head arg2 _ 2 (off := ![0, 256]) _ rfl, rd_row arg7 _ 2 (off := ![2, 0, 0,
      0]) _ rfl, Memref.IsWhole.read_unread]
  rw [weight, if_pos hs]
  rfl

/-- The weights of head 3. -/
theorem w_t3 (B : Blocks) (i : grid0.Coords) (k : Fin (k0_t1_loop i).trips) (j : Fin 16) (hj : j.val = k.val) (a :
    Fin 256) (q : Fin 512) :
    trip_k0_t1.sl.r_30 (F := Ideal) i arg2 arg3 arg7 (harg2.unread B.q) (harg3.unread B.k) (harg7.unread B.lse) k
        (ix2 a q)
      = weight B (i 1).val 3 (row j a) q := by
  have hs : Seen (i 1).val (row j a).val q.val := by
    have := k.isLt; have := trips1 i
    show 256 * j.val + a.val ≤ 512 * (i 1).val + q.val
    omega
  have hk : k0_off4 i k = ![256 * j.val, 128 * (3 : Fin 4).val] := by rw [hj]; exact off_k3 i k
  pointwise [trip_k0_t1.sl.r_30, trip_k0_t1.sl.r_11, k0_pay41, trip_k0_t1.sl.r_3, k0_pay13, k0_pay37, k0_pay5]
  simp only [rd_tile arg3 _ j 3 _ hk, rd_head arg2 _ 3 (off := ![0, 384]) _ rfl, rd_row arg7 _ 3 (off := ![3, 0, 0,
      0]) _ rfl, Memref.IsWhole.read_unread]
  rw [weight, if_pos hs]
  rfl

/-- The score gradients of head 0. -/
theorem s_t0 (B : Blocks) (i : grid0.Coords) (k : Fin (k0_t1_loop i).trips) (j : Fin 16) (hj : j.val = k.val) (a :
    Fin 256) (q : Fin 512) :
    trip_k0_t1.sl.r_19 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 0 (row j a) q := by
  have hs : Seen (i 1).val (row j a).val q.val := by
    have := k.isLt; have := trips1 i
    show 256 * j.val + a.val ≤ 512 * (i 1).val + q.val
    omega
  have hk : k0_off1 i k = ![256 * j.val, 128 * (0 : Fin 4).val] := by rw [hj]; exact off_k0 i k
  pointwise [trip_k0_t1.sl.r_19, trip_k0_t1.sl.r_16, k0_pay22, trip_k0_t1.sl.r_4, trip_k0_t1.sl.r_8, k0_pay18,
      k0_pay6, k0_pay10, k0_pay17, k0_pay2]
  simp only [rd_tile arg3 _ j 0 _ hk, rd_head arg2 _ 0 (off := ![0, 0]) _ rfl, rd_row arg7 _ 0 (off := ![0, 0, 0,
      0]) _ rfl, rd_tile arg4 _ j 0 _ hk, rd_head arg6 _ 0 (off := ![0, 0]) _ rfl, rd_row arg8 _ 0 (off := ![0, 0,
          0, 0]) _ rfl, Memref.IsWhole.read_unread]
  rw [dscore, weight, if_pos hs]
  rfl

/-- The score gradients of head 1. -/
theorem s_t1 (B : Blocks) (i : grid0.Coords) (k : Fin (k0_t1_loop i).trips) (j : Fin 16) (hj : j.val = k.val) (a :
    Fin 256) (q : Fin 512) :
    trip_k0_t1.sl.r_24 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 1 (row j a) q := by
  have hs : Seen (i 1).val (row j a).val q.val := by
    have := k.isLt; have := trips1 i
    show 256 * j.val + a.val ≤ 512 * (i 1).val + q.val
    omega
  have hk : k0_off2 i k = ![256 * j.val, 128 * (1 : Fin 4).val] := by rw [hj]; exact off_k1 i k
  pointwise [trip_k0_t1.sl.r_24, trip_k0_t1.sl.r_21, k0_pay29, trip_k0_t1.sl.r_12, trip_k0_t1.sl.r_9, k0_pay24,
      trip_k0_t1.sl.r_5, k0_pay14, k0_pay11, k0_pay23, k0_pay7, k0_pay3]
  simp only [rd_tile arg3 _ j 1 _ hk, rd_head arg2 _ 1 (off := ![0, 128]) _ rfl, rd_row arg7 _ 1 (off := ![1, 0, 0,
      0]) _ rfl, rd_tile arg4 _ j 1 _ hk, rd_head arg6 _ 1 (off := ![0, 128]) _ rfl, rd_row arg8 _ 1 (off := ![1,
          0, 0, 0]) _ rfl, Memref.IsWhole.read_unread]
  rw [dscore, weight, if_pos hs]
  rfl

/-- The score gradients of head 2. -/
theorem s_t2 (B : Blocks) (i : grid0.Coords) (k : Fin (k0_t1_loop i).trips) (j : Fin 16) (hj : j.val = k.val) (a :
    Fin 256) (q : Fin 512) :
    trip_k0_t1.sl.r_29 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 2 (row j a) q := by
  have hs : Seen (i 1).val (row j a).val q.val := by
    have := k.isLt; have := trips1 i
    show 256 * j.val + a.val ≤ 512 * (i 1).val + q.val
    omega
  have hk : k0_off3 i k = ![256 * j.val, 128 * (2 : Fin 4).val] := by rw [hj]; exact off_k2 i k
  pointwise [trip_k0_t1.sl.r_29, trip_k0_t1.sl.r_26, k0_pay36, trip_k0_t1.sl.r_10, trip_k0_t1.sl.r_13, k0_pay31,
      k0_pay12, trip_k0_t1.sl.r_6, k0_pay15, k0_pay30, k0_pay4, k0_pay8]
  simp only [rd_tile arg3 _ j 2 _ hk, rd_head arg2 _ 2 (off := ![0, 256]) _ rfl, rd_row arg7 _ 2 (off := ![2, 0, 0,
      0]) _ rfl, rd_tile arg4 _ j 2 _ hk, rd_head arg6 _ 2 (off := ![0, 256]) _ rfl, rd_row arg8 _ 2 (off := ![2,
          0, 0, 0]) _ rfl, Memref.IsWhole.read_unread]
  rw [dscore, weight, if_pos hs]
  rfl

/-- The score gradients of head 3. -/
theorem s_t3 (B : Blocks) (i : grid0.Coords) (k : Fin (k0_t1_loop i).trips) (j : Fin 16) (hj : j.val = k.val) (a :
    Fin 256) (q : Fin 512) :
    trip_k0_t1.sl.r_31 (F := Ideal) i arg2 arg3 arg4 arg6 arg7 arg8 (harg2.unread B.q) (harg3.unread B.k)
        (harg4.unread B.v) (harg6.unread B.g) (harg7.unread B.lse) (harg8.unread B.dl) k (ix2 a q)
      = dscore B (i 1).val 3 (row j a) q := by
  have hs : Seen (i 1).val (row j a).val q.val := by
    have := k.isLt; have := trips1 i
    show 256 * j.val + a.val ≤ 512 * (i 1).val + q.val
    omega
  have hk : k0_off4 i k = ![256 * j.val, 128 * (3 : Fin 4).val] := by rw [hj]; exact off_k3 i k
  pointwise [trip_k0_t1.sl.r_31, trip_k0_t1.sl.r_11, trip_k0_t1.sl.r_14, k0_pay42, trip_k0_t1.sl.r_3, k0_pay13,
      trip_k0_t1.sl.r_7, k0_pay16, k0_pay38, k0_pay5, k0_pay9, k0_pay37]
  simp only [rd_tile arg3 _ j 3 _ hk, rd_head arg2 _ 3 (off := ![0, 384]) _ rfl, rd_row arg7 _ 3 (off := ![3, 0, 0,
      0]) _ rfl, rd_tile arg4 _ j 3 _ hk, rd_head arg6 _ 3 (off := ![0, 384]) _ rfl, rd_row arg8 _ 3 (off := ![3,
          0, 0, 0]) _ rfl, Memref.IsWhole.read_unread]
  rw [dscore, weight, if_pos hs]
  rfl

end Cert.Fox

end
-- ==== Proof.Fox.SumLoop.lean ====
module

public import proofs.«01_k».proof.Proof.Fox.MatLoop

/-!
# Forgetting attention backward: sums stored for a tile of the loop

Each store adds sums of the score gradients, over the keys or lane by lane over the queries, to what it loads.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
    Memref sig .tc .vmem S512x512 .f32) (harg6 : arg6.IsWhole) (arg7 : Memref sig .tc .vmem S4x1x1x512 .f32) (harg7
    : arg7.IsWhole) (arg8 : Memref sig .tc .vmem S4x1x1x512 .f32) (harg8 : arg8.IsWhole)

/-- The score gradients of head 0 before their rounding. -/
theorem y_t0 (B : Blocks) (i : grid0.Coords) (k : Fin (k0_t1_loop i).trips) (j : Fin 16) (hj : j.val = k.val) (inb
    : ∀ a : Fin 2, (k0_off1 i k) a + S256x128.size a ≤ S4096x512.size a) :
    k0_pay18 (trip_k0_t1.sl.r_4 (F := Ideal) arg6 (harg6.unread B.g)) (trip_k0_t1.sl.r_8 (F := Ideal) i arg2 arg3
        (harg2.unread B.q) (harg3.unread B.k) k) (View.readAt (Elt Ideal) arg4.view (Rect.unit (s := S4096x512)
        (k0_off1 i k) S256x128.size inb).toLoadRect (harg4.unread B.v)) (View.readAt (Elt Ideal) arg7.view
        (Rect.unit (s := S4x1x1x512) ![0, 0, 0, 0] S1x1x1x512.size inb_S4x1x1x512_S1x1x1x512_0_0_0_0).toLoadRect
        (harg7.unread B.lse)) (View.readAt (Elt Ideal) arg8.view (Rect.unit (s := S4x1x1x512) ![0, 0, 0, 0]
        S1x1x1x512.size inb_S4x1x1x512_S1x1x1x512_0_0_0_0).toLoadRect (harg8.unread B.dl))
      = fun y => dscore B (i 1).val 0 (row j (y 0)) (y 1) :=
  funext fun y => (congrArg _ (eq_ix2 y)).trans (s_t0 arg2 harg2 arg3 harg3 arg4 harg4 arg6 harg6 arg7 harg7 arg8
      harg8 B i k j hj (y 0) (y 1))

/-- The partial sums over the queries stored for head 0. -/
theorem c_t0 (B : Blocks) (i : grid0.Coords) (k : Fin (k0_t1_loop i).trips) (j : Fin 16) (hj : j.val = k.val) (inb
    : ∀ a : Fin 2, (k0_off1 i k) a + S256x128.size a ≤ S4096x512.size a) (u : Vec Ideal S256x128 .f32) (a : Fin
    256) (b : Fin 128) :
    k0_pay19 (trip_k0_t1.sl.r_4 (F := Ideal) arg6 (harg6.unread B.g)) (trip_k0_t1.sl.r_8 (F := Ideal) i arg2 arg3
        (harg2.unread B.q) (harg3.unread B.k) k) (View.readAt (Elt Ideal) arg4.view (Rect.unit (s := S4096x512)
        (k0_off1 i k) S256x128.size inb).toLoadRect (harg4.unread B.v)) (View.readAt (Elt Ideal) arg7.view
        (Rect.unit (s := S4x1x1x512) ![0, 0, 0, 0] S1x1x1x512.size inb_S4x1x1x512_S1x1x1x512_0_0_0_0).toLoadRect
        (harg7.unread B.lse)) (View.readAt (Elt Ideal) arg8.view (Rect.unit (s := S4x1x1x512) ![0, 0, 0, 0]
        S1x1x1x512.size inb_S4x1x1x512_S1x1x1x512_0_0_0_0).toLoadRect (harg8.unread B.dl)) u (ix2 a b)
      = u (ix2 a b) + addC B (i 1).val 0 (row j a) b := by
  have hX := y_t0 arg2 harg2 arg3 harg3 arg4 harg4 arg6 harg6 arg7 harg7 arg8 harg8 B i k j hj inb
  pointwise [k0_pay19]
  rw [hX, sub_eq_add_neg]
  rw [addC_eq]
  rfl

/-- The sums over the keys stored for head 0. -/
theorem r_t0 (B : Blocks) (i : grid0.Coords) (k : Fin (k0_t1_loop i).trips) (j : Fin 16) (hj : j.val = k.val) (u :
    Vec Ideal S1x1x512 .f32) (q : Fin 512) :
    k0_pay20 (trip_k0_t1.sl.r_16 (F := Ideal) i arg2 arg3 arg4 arg6 arg7 arg8 (harg2.unread B.q) (harg3.unread B.k)
        (harg4.unread B.v) (harg6.unread B.g) (harg7.unread B.lse) (harg8.unread B.dl) k) u (ix3 0 0 q)
      = u (ix3 0 0 q) + addR B (i 1).val j 0 q := by
  have hX : (trip_k0_t1.sl.r_16 (F := Ideal) i arg2 arg3 arg4 arg6 arg7 arg8 (harg2.unread B.q) (harg3.unread B.k)
      (harg4.unread B.v) (harg6.unread B.g) (harg7.unread B.lse) (harg8.unread B.dl) k) = fun y => dscore B (i
      1).val 0 (row j (y 0)) (y 1) :=
    funext fun y => (congrArg _ (eq_ix2 y)).trans (s_t0 arg2 harg2 arg3 harg3 arg4 harg4 arg6 harg6 arg7 harg7 arg8
        harg8 B i k j hj (y 0) (y 1))
  pointwise [k0_pay20]
  rw [hX]
  rfl

/-- The score gradients of head 1 before their rounding. -/
theorem y_t1 (B : Blocks) (i : grid0.Coords) (k : Fin (k0_t1_loop i).trips) (j : Fin 16) (hj : j.val = k.val) :
    k0_pay24 (trip_k0_t1.sl.r_9 (F := Ideal) i arg2 arg3 (harg2.unread B.q) (harg3.unread B.k) k)
        (trip_k0_t1.sl.r_12 (F := Ideal) i arg4 arg6 (harg4.unread B.v) (harg6.unread B.g) k) (View.readAt (Elt
        Ideal) arg7.view (Rect.unit (s := S4x1x1x512) ![1, 0, 0, 0] S1x1x1x512.size
        inb_S4x1x1x512_S1x1x1x512_1_0_0_0).toLoadRect (harg7.unread B.lse)) (View.readAt (Elt Ideal) arg8.view
        (Rect.unit (s := S4x1x1x512) ![1, 0, 0, 0] S1x1x1x512.size inb_S4x1x1x512_S1x1x1x512_1_0_0_0).toLoadRect
        (harg8.unread B.dl))
      = fun y => dscore B (i 1).val 1 (row j (y 0)) (y 1) :=
  funext fun y => (congrArg _ (eq_ix2 y)).trans (s_t1 arg2 harg2 arg3 harg3 arg4 harg4 arg6 harg6 arg7 harg7 arg8
      harg8 B i k j hj (y 0) (y 1))

/-- The partial sums over the queries stored for head 1. -/
theorem c_t1 (B : Blocks) (i : grid0.Coords) (k : Fin (k0_t1_loop i).trips) (j : Fin 16) (hj : j.val = k.val) (u :
    Vec Ideal S256x128 .f32) (a : Fin 256) (b : Fin 128) :
    k0_pay25 (trip_k0_t1.sl.r_9 (F := Ideal) i arg2 arg3 (harg2.unread B.q) (harg3.unread B.k) k)
        (trip_k0_t1.sl.r_12 (F := Ideal) i arg4 arg6 (harg4.unread B.v) (harg6.unread B.g) k) (View.readAt (Elt
        Ideal) arg7.view (Rect.unit (s := S4x1x1x512) ![1, 0, 0, 0] S1x1x1x512.size
        inb_S4x1x1x512_S1x1x1x512_1_0_0_0).toLoadRect (harg7.unread B.lse)) (View.readAt (Elt Ideal) arg8.view
        (Rect.unit (s := S4x1x1x512) ![1, 0, 0, 0] S1x1x1x512.size inb_S4x1x1x512_S1x1x1x512_1_0_0_0).toLoadRect
        (harg8.unread B.dl)) u (ix2 a b)
      = u (ix2 a b) + addC B (i 1).val 1 (row j a) b := by
  have hX := y_t1 arg2 harg2 arg3 harg3 arg4 harg4 arg6 harg6 arg7 harg7 arg8 harg8 B i k j hj
  pointwise [k0_pay25]
  rw [hX, sub_eq_add_neg]
  rw [addC_eq]
  rfl

/-- The sums over the keys stored for head 1. -/
theorem r_t1 (B : Blocks) (i : grid0.Coords) (k : Fin (k0_t1_loop i).trips) (j : Fin 16) (hj : j.val = k.val) (u :
    Vec Ideal S1x1x512 .f32) (q : Fin 512) :
    k0_pay27 (trip_k0_t1.sl.r_21 (F := Ideal) i arg2 arg3 arg4 arg6 arg7 arg8 (harg2.unread B.q) (harg3.unread B.k)
        (harg4.unread B.v) (harg6.unread B.g) (harg7.unread B.lse) (harg8.unread B.dl) k) (k0_pay26 u) (ix3 0 0 q)
      = u (ix3 0 0 q) + addR B (i 1).val j 1 q := by
  have hX : (trip_k0_t1.sl.r_21 (F := Ideal) i arg2 arg3 arg4 arg6 arg7 arg8 (harg2.unread B.q) (harg3.unread B.k)
      (harg4.unread B.v) (harg6.unread B.g) (harg7.unread B.lse) (harg8.unread B.dl) k) = fun y => dscore B (i
      1).val 1 (row j (y 0)) (y 1) :=
    funext fun y => (congrArg _ (eq_ix2 y)).trans (s_t1 arg2 harg2 arg3 harg3 arg4 harg4 arg6 harg6 arg7 harg7 arg8
        harg8 B i k j hj (y 0) (y 1))
  pointwise [k0_pay27, k0_pay26]
  rw [hX]
  rfl

/-- The score gradients of head 2 before their rounding. -/
theorem y_t2 (B : Blocks) (i : grid0.Coords) (k : Fin (k0_t1_loop i).trips) (j : Fin 16) (hj : j.val = k.val) :
    k0_pay31 (trip_k0_t1.sl.r_10 (F := Ideal) i arg2 arg3 (harg2.unread B.q) (harg3.unread B.k) k)
        (trip_k0_t1.sl.r_13 (F := Ideal) i arg4 arg6 (harg4.unread B.v) (harg6.unread B.g) k) (View.readAt (Elt
        Ideal) arg7.view (Rect.unit (s := S4x1x1x512) ![2, 0, 0, 0] S1x1x1x512.size
        inb_S4x1x1x512_S1x1x1x512_2_0_0_0).toLoadRect (harg7.unread B.lse)) (View.readAt (Elt Ideal) arg8.view
        (Rect.unit (s := S4x1x1x512) ![2, 0, 0, 0] S1x1x1x512.size inb_S4x1x1x512_S1x1x1x512_2_0_0_0).toLoadRect
        (harg8.unread B.dl))
      = fun y => dscore B (i 1).val 2 (row j (y 0)) (y 1) :=
  funext fun y => (congrArg _ (eq_ix2 y)).trans (s_t2 arg2 harg2 arg3 harg3 arg4 harg4 arg6 harg6 arg7 harg7 arg8
      harg8 B i k j hj (y 0) (y 1))

/-- The partial sums over the queries stored for head 2. -/
theorem c_t2 (B : Blocks) (i : grid0.Coords) (k : Fin (k0_t1_loop i).trips) (j : Fin 16) (hj : j.val = k.val) (u :
    Vec Ideal S256x128 .f32) (a : Fin 256) (b : Fin 128) :
    k0_pay32 (trip_k0_t1.sl.r_10 (F := Ideal) i arg2 arg3 (harg2.unread B.q) (harg3.unread B.k) k)
        (trip_k0_t1.sl.r_13 (F := Ideal) i arg4 arg6 (harg4.unread B.v) (harg6.unread B.g) k) (View.readAt (Elt
        Ideal) arg7.view (Rect.unit (s := S4x1x1x512) ![2, 0, 0, 0] S1x1x1x512.size
        inb_S4x1x1x512_S1x1x1x512_2_0_0_0).toLoadRect (harg7.unread B.lse)) (View.readAt (Elt Ideal) arg8.view
        (Rect.unit (s := S4x1x1x512) ![2, 0, 0, 0] S1x1x1x512.size inb_S4x1x1x512_S1x1x1x512_2_0_0_0).toLoadRect
        (harg8.unread B.dl)) u (ix2 a b)
      = u (ix2 a b) + addC B (i 1).val 2 (row j a) b := by
  have hX := y_t2 arg2 harg2 arg3 harg3 arg4 harg4 arg6 harg6 arg7 harg7 arg8 harg8 B i k j hj
  pointwise [k0_pay32]
  rw [hX, sub_eq_add_neg]
  rw [addC_eq]
  rfl

/-- The sums over the keys stored for head 2. -/
theorem r_t2 (B : Blocks) (i : grid0.Coords) (k : Fin (k0_t1_loop i).trips) (j : Fin 16) (hj : j.val = k.val) (u :
    Vec Ideal S1x1x512 .f32) (q : Fin 512) :
    k0_pay34 (k0_pay33 (trip_k0_t1.sl.r_10 (F := Ideal) i arg2 arg3 (harg2.unread B.q) (harg3.unread B.k) k)
        (trip_k0_t1.sl.r_13 (F := Ideal) i arg4 arg6 (harg4.unread B.v) (harg6.unread B.g) k) (View.readAt (Elt
        Ideal) arg7.view (Rect.unit (s := S4x1x1x512) ![2, 0, 0, 0] S1x1x1x512.size
        inb_S4x1x1x512_S1x1x1x512_2_0_0_0).toLoadRect (harg7.unread B.lse)) (View.readAt (Elt Ideal) arg8.view
        (Rect.unit (s := S4x1x1x512) ![2, 0, 0, 0] S1x1x1x512.size inb_S4x1x1x512_S1x1x1x512_2_0_0_0).toLoadRect
        (harg8.unread B.dl)) u) (ix3 0 0 q)
      = u (ix3 0 0 q) + addR B (i 1).val j 2 q := by
  have hX := y_t2 arg2 harg2 arg3 harg3 arg4 harg4 arg6 harg6 arg7 harg7 arg8 harg8 B i k j hj
  pointwise [k0_pay34, k0_pay33]
  rw [hX]
  rfl

/-- The score gradients of head 3 before their rounding. -/
theorem y_t3 (B : Blocks) (i : grid0.Coords) (k : Fin (k0_t1_loop i).trips) (j : Fin 16) (hj : j.val = k.val) :
    k0_pay38 (trip_k0_t1.sl.r_11 (F := Ideal) i arg2 arg3 (harg2.unread B.q) (harg3.unread B.k) k)
        (trip_k0_t1.sl.r_14 (F := Ideal) i arg4 arg6 (harg4.unread B.v) (harg6.unread B.g) k) (View.readAt (Elt
        Ideal) arg7.view (Rect.unit (s := S4x1x1x512) ![3, 0, 0, 0] S1x1x1x512.size
        inb_S4x1x1x512_S1x1x1x512_3_0_0_0).toLoadRect (harg7.unread B.lse)) (View.readAt (Elt Ideal) arg8.view
        (Rect.unit (s := S4x1x1x512) ![3, 0, 0, 0] S1x1x1x512.size inb_S4x1x1x512_S1x1x1x512_3_0_0_0).toLoadRect
        (harg8.unread B.dl))
      = fun y => dscore B (i 1).val 3 (row j (y 0)) (y 1) :=
  funext fun y => (congrArg _ (eq_ix2 y)).trans (s_t3 arg2 harg2 arg3 harg3 arg4 harg4 arg6 harg6 arg7 harg7 arg8
      harg8 B i k j hj (y 0) (y 1))

/-- The partial sums over the queries stored for head 3. -/
theorem c_t3 (B : Blocks) (i : grid0.Coords) (k : Fin (k0_t1_loop i).trips) (j : Fin 16) (hj : j.val = k.val) (u :
    Vec Ideal S256x128 .f32) (a : Fin 256) (b : Fin 128) :
    k0_pay39 (trip_k0_t1.sl.r_11 (F := Ideal) i arg2 arg3 (harg2.unread B.q) (harg3.unread B.k) k)
        (trip_k0_t1.sl.r_14 (F := Ideal) i arg4 arg6 (harg4.unread B.v) (harg6.unread B.g) k) (View.readAt (Elt
        Ideal) arg7.view (Rect.unit (s := S4x1x1x512) ![3, 0, 0, 0] S1x1x1x512.size
        inb_S4x1x1x512_S1x1x1x512_3_0_0_0).toLoadRect (harg7.unread B.lse)) (View.readAt (Elt Ideal) arg8.view
        (Rect.unit (s := S4x1x1x512) ![3, 0, 0, 0] S1x1x1x512.size inb_S4x1x1x512_S1x1x1x512_3_0_0_0).toLoadRect
        (harg8.unread B.dl)) u (ix2 a b)
      = u (ix2 a b) + addC B (i 1).val 3 (row j a) b := by
  have hX := y_t3 arg2 harg2 arg3 harg3 arg4 harg4 arg6 harg6 arg7 harg7 arg8 harg8 B i k j hj
  pointwise [k0_pay39]
  rw [hX, sub_eq_add_neg]
  rw [addC_eq]
  rfl

/-- The sums over the keys stored for head 3. -/
theorem r_t3 (B : Blocks) (i : grid0.Coords) (k : Fin (k0_t1_loop i).trips) (j : Fin 16) (hj : j.val = k.val) (u :
    Vec Ideal S1x1x512 .f32) (q : Fin 512) :
    k0_pay40 (trip_k0_t1.sl.r_11 (F := Ideal) i arg2 arg3 (harg2.unread B.q) (harg3.unread B.k) k)
        (trip_k0_t1.sl.r_14 (F := Ideal) i arg4 arg6 (harg4.unread B.v) (harg6.unread B.g) k) (View.readAt (Elt
        Ideal) arg7.view (Rect.unit (s := S4x1x1x512) ![3, 0, 0, 0] S1x1x1x512.size
        inb_S4x1x1x512_S1x1x1x512_3_0_0_0).toLoadRect (harg7.unread B.lse)) (View.readAt (Elt Ideal) arg8.view
        (Rect.unit (s := S4x1x1x512) ![3, 0, 0, 0] S1x1x1x512.size inb_S4x1x1x512_S1x1x1x512_3_0_0_0).toLoadRect
        (harg8.unread B.dl)) u (ix3 0 0 q)
      = u (ix3 0 0 q) + addR B (i 1).val j 3 q := by
  have hX := y_t3 arg2 harg2 arg3 harg3 arg4 harg4 arg6 harg6 arg7 harg7 arg8 harg8 B i k j hj
  pointwise [k0_pay40]
  rw [hX]
  rfl

end Cert.Fox

end
-- ==== Proof.Fox.PieceLoop.lean ====
module

public import proofs.«01_k».proof.Proof.Fox.MatLoop

/-!
# Forgetting attention backward: stored for a tile of the loop

Each store of a trip adds a tile's product to what it loads.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole)

/-- The value gradients stored for head 0. -/
theorem v_t0 (B : Blocks) (i : grid0.Coords) (k : Fin (k0_t1_loop i).trips) (j : Fin 16) (hj : j.val = k.val) (u :
    Vec Ideal S256x128 .f32) (a : Fin 256) (b : Fin 128) :
    k0_pay44 (trip_k0_t1.sl.r_4 (F := Ideal) arg6 (harg6.unread B.g)) (trip_k0_t1.sl.r_18 (F := Ideal) i arg2 arg3
        arg7 (harg2.unread B.q) (harg3.unread B.k) (harg7.unread B.lse) k) (k0_pay43 u) (ix2 a b)
      = u (ix2 a b) + addV B (i 1).val 0 (row j a) b := by
  pointwise [k0_pay44, k0_pay43, trip_k0_t1.sl.r_4, k0_pay6]
  simp only [w_t0 arg2 harg2 arg3 harg3 arg7 harg7 B i k j hj, rd_head arg6 _ 0 (off := ![0, 0]) _ rfl,
      Memref.IsWhole.read_unread]
  rfl

/-- The value gradients stored for head 1. -/
theorem v_t1 (B : Blocks) (i : grid0.Coords) (k : Fin (k0_t1_loop i).trips) (j : Fin 16) (hj : j.val = k.val) (u :
    Vec Ideal S256x128 .f32) (a : Fin 256) (b : Fin 128) :
    k0_pay47 (trip_k0_t1.sl.r_5 (F := Ideal) arg6 (harg6.unread B.g)) (trip_k0_t1.sl.r_23 (F := Ideal) i arg2 arg3
        arg7 (harg2.unread B.q) (harg3.unread B.k) (harg7.unread B.lse) k) u (ix2 a b)
      = u (ix2 a b) + addV B (i 1).val 1 (row j a) b := by
  pointwise [k0_pay47, trip_k0_t1.sl.r_5, k0_pay7]
  simp only [w_t1 arg2 harg2 arg3 harg3 arg7 harg7 B i k j hj, rd_head arg6 _ 1 (off := ![0, 128]) _ rfl,
      Memref.IsWhole.read_unread]
  rfl

/-- The value gradients stored for head 2. -/
theorem v_t2 (B : Blocks) (i : grid0.Coords) (k : Fin (k0_t1_loop i).trips) (j : Fin 16) (hj : j.val = k.val) (u :
    Vec Ideal S256x128 .f32) (a : Fin 256) (b : Fin 128) :
    k0_pay50 (trip_k0_t1.sl.r_6 (F := Ideal) arg6 (harg6.unread B.g)) (trip_k0_t1.sl.r_28 (F := Ideal) i arg2 arg3
        arg7 (harg2.unread B.q) (harg3.unread B.k) (harg7.unread B.lse) k) u (ix2 a b)
      = u (ix2 a b) + addV B (i 1).val 2 (row j a) b := by
  pointwise [k0_pay50, trip_k0_t1.sl.r_6, k0_pay8]
  simp only [w_t2 arg2 harg2 arg3 harg3 arg7 harg7 B i k j hj, rd_head arg6 _ 2 (off := ![0, 256]) _ rfl,
      Memref.IsWhole.read_unread]
  rfl

/-- The value gradients stored for head 3. -/
theorem v_t3 (B : Blocks) (i : grid0.Coords) (k : Fin (k0_t1_loop i).trips) (j : Fin 16) (hj : j.val = k.val) (u :
    Vec Ideal S256x128 .f32) (a : Fin 256) (b : Fin 128) :
    k0_pay110 (trip_k0_t1.sl.r_7 (F := Ideal) arg6 (harg6.unread B.g)) (trip_k0_t1.sl.r_30 (F := Ideal) i arg2 arg3
        arg7 (harg2.unread B.q) (harg3.unread B.k) (harg7.unread B.lse) k) u (ix2 a b)
      = u (ix2 a b) + addV B (i 1).val 3 (row j a) b := by
  pointwise [k0_pay110, trip_k0_t1.sl.r_7, k0_pay9]
  simp only [w_t3 arg2 harg2 arg3 harg3 arg7 harg7 B i k j hj, rd_head arg6 _ 3 (off := ![0, 384]) _ rfl,
      Memref.IsWhole.read_unread]
  rfl

/-- The key gradients stored for head 0. -/
theorem k_t0 (B : Blocks) (i : grid0.Coords) (k : Fin (k0_t1_loop i).trips) (j : Fin 16) (hj : j.val = k.val) (u :
    Vec Ideal S256x128 .f32) (a : Fin 256) (b : Fin 128) :
    k0_pay45 (trip_k0_t1.sl.r (F := Ideal) arg2 (harg2.unread B.q)) (trip_k0_t1.sl.r_19 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 0 (row j a) b := by
  pointwise [k0_pay45, trip_k0_t1.sl.r, k0_pay2]
  simp only [s_t0 arg2 harg2 arg3 harg3 arg4 harg4 arg6 harg6 arg7 harg7 arg8 harg8 B i k j hj, rd_head arg2 _ 0
      (off := ![0, 0]) _ rfl, Memref.IsWhole.read_unread]
  rfl

/-- The key gradients stored for head 1. -/
theorem k_t1 (B : Blocks) (i : grid0.Coords) (k : Fin (k0_t1_loop i).trips) (j : Fin 16) (hj : j.val = k.val) (u :
    Vec Ideal S256x128 .f32) (a : Fin 256) (b : Fin 128) :
    k0_pay48 (trip_k0_t1.sl.r_1 (F := Ideal) arg2 (harg2.unread B.q)) (trip_k0_t1.sl.r_24 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 1 (row j a) b := by
  pointwise [k0_pay48, trip_k0_t1.sl.r_1, k0_pay3]
  simp only [s_t1 arg2 harg2 arg3 harg3 arg4 harg4 arg6 harg6 arg7 harg7 arg8 harg8 B i k j hj, rd_head arg2 _ 1
      (off := ![0, 128]) _ rfl, Memref.IsWhole.read_unread]
  rfl

/-- The key gradients stored for head 2. -/
theorem k_t2 (B : Blocks) (i : grid0.Coords) (k : Fin (k0_t1_loop i).trips) (j : Fin 16) (hj : j.val = k.val) (u :
    Vec Ideal S256x128 .f32) (a : Fin 256) (b : Fin 128) :
    k0_pay51 (trip_k0_t1.sl.r_2 (F := Ideal) arg2 (harg2.unread B.q)) (trip_k0_t1.sl.r_29 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 2 (row j a) b := by
  pointwise [k0_pay51, trip_k0_t1.sl.r_2, k0_pay4]
  simp only [s_t2 arg2 harg2 arg3 harg3 arg4 harg4 arg6 harg6 arg7 harg7 arg8 harg8 B i k j hj, rd_head arg2 _ 2
      (off := ![0, 256]) _ rfl, Memref.IsWhole.read_unread]
  rfl

/-- The key gradients stored for head 3. -/
theorem k_t3 (B : Blocks) (i : grid0.Coords) (k : Fin (k0_t1_loop i).trips) (j : Fin 16) (hj : j.val = k.val) (u :
    Vec Ideal S256x128 .f32) (a : Fin 256) (b : Fin 128) :
    k0_pay111 (trip_k0_t1.sl.r_3 (F := Ideal) arg2 (harg2.unread B.q)) (trip_k0_t1.sl.r_31 (F := Ideal) i arg2 arg3
        arg4 arg6 arg7 arg8 (harg2.unread B.q) (harg3.unread B.k) (harg4.unread B.v) (harg6.unread B.g)
        (harg7.unread B.lse) (harg8.unread B.dl) k) u (ix2 a b)
      = u (ix2 a b) + addK B (i 1).val 3 (row j a) b := by
  pointwise [k0_pay111, trip_k0_t1.sl.r_3, k0_pay5]
  simp only [s_t3 arg2 harg2 arg3 harg3 arg4 harg4 arg6 harg6 arg7 harg7 arg8 harg8 B i k j hj, rd_head arg2 _ 3
      (off := ![0, 384]) _ rfl, Memref.IsWhole.read_unread]
  rfl

/-- The query gradients stored for head 0. -/
theorem q_t0 (B : Blocks) (i : grid0.Coords) (k : Fin (k0_t1_loop i).trips) (j : Fin 16) (hj : j.val = k.val) (u :
    Vec Ideal S1x128x512 .f32)
    (inb : ∀ a : Fin 3, (k0_off5 i k) a + S1x128x256.size a ≤ S16x512x256.size a) (b : Fin 128) (q : Fin 512) :
    k0_pay46 (trip_k0_t1.sl.r_19 (F := Ideal) i arg2 arg3 arg4 arg6 arg7 arg8 (harg2.unread B.q) (harg3.unread B.k)
        (harg4.unread B.v) (harg6.unread B.g) (harg7.unread B.lse) (harg8.unread B.dl) k) u (View.readAt (Elt
        Ideal) arg5.view (Rect.unit (s := S16x512x256) (k0_off5 i k) S1x128x256.size inb).toLoadRect (harg5.unread
        B.kt)) (ix3 0 b q)
      = u (ix3 0 b q) + addQ B (i 1).val j 0 b q := by
  have hk : k0_off5 i k = ![j.val, 128 * (0 : Fin 4).val, 0] := by rw [hj]; exact off_t0 i k
  pointwise [k0_pay46]
  simp only [s_t0 arg2 harg2 arg3 harg3 arg4 harg4 arg6 harg6 arg7 harg7 arg8 harg8 B i k j hj, rd_kt arg5 _ j 0 _
      hk, Memref.IsWhole.read_unread]
  rfl

/-- The query gradients stored for head 1. -/
theorem q_t1 (B : Blocks) (i : grid0.Coords) (k : Fin (k0_t1_loop i).trips) (j : Fin 16) (hj : j.val = k.val) (u :
    Vec Ideal S1x128x512 .f32)
    (inb : ∀ a : Fin 3, (k0_off6 i k) a + S1x128x256.size a ≤ S16x512x256.size a) (b : Fin 128) (q : Fin 512) :
    k0_pay49 (trip_k0_t1.sl.r_24 (F := Ideal) i arg2 arg3 arg4 arg6 arg7 arg8 (harg2.unread B.q) (harg3.unread B.k)
        (harg4.unread B.v) (harg6.unread B.g) (harg7.unread B.lse) (harg8.unread B.dl) k) u (View.readAt (Elt
        Ideal) arg5.view (Rect.unit (s := S16x512x256) (k0_off6 i k) S1x128x256.size inb).toLoadRect (harg5.unread
        B.kt)) (ix3 0 b q)
      = u (ix3 0 b q) + addQ B (i 1).val j 1 b q := by
  have hk : k0_off6 i k = ![j.val, 128 * (1 : Fin 4).val, 0] := by rw [hj]; exact off_t1 i k
  pointwise [k0_pay49]
  simp only [s_t1 arg2 harg2 arg3 harg3 arg4 harg4 arg6 harg6 arg7 harg7 arg8 harg8 B i k j hj, rd_kt arg5 _ j 1 _
      hk, Memref.IsWhole.read_unread]
  rfl

/-- The query gradients stored for head 2. -/
theorem q_t2 (B : Blocks) (i : grid0.Coords) (k : Fin (k0_t1_loop i).trips) (j : Fin 16) (hj : j.val = k.val) (u :
    Vec Ideal S1x128x512 .f32)
    (inb : ∀ a : Fin 3, (k0_off7 i k) a + S1x128x256.size a ≤ S16x512x256.size a) (b : Fin 128) (q : Fin 512) :
    k0_pay109 (k0_pay52 (trip_k0_t1.sl.r_29 (F := Ideal) i arg2 arg3 arg4 arg6 arg7 arg8 (harg2.unread B.q)
        (harg3.unread B.k) (harg4.unread B.v) (harg6.unread B.g) (harg7.unread B.lse) (harg8.unread B.dl) k) u
        (View.readAt (Elt Ideal) arg5.view (Rect.unit (s := S16x512x256) (k0_off7 i k) S1x128x256.size
        inb).toLoadRect (harg5.unread B.kt))) (ix3 0 b q)
      = u (ix3 0 b q) + addQ B (i 1).val j 2 b q := by
  have hk : k0_off7 i k = ![j.val, 128 * (2 : Fin 4).val, 0] := by rw [hj]; exact off_t2 i k
  pointwise [k0_pay109, k0_pay52]
  simp only [s_t2 arg2 harg2 arg3 harg3 arg4 harg4 arg6 harg6 arg7 harg7 arg8 harg8 B i k j hj, rd_kt arg5 _ j 2 _
      hk, Memref.IsWhole.read_unread]
  rfl

/-- The query gradients stored for head 3. -/
theorem q_t3 (B : Blocks) (i : grid0.Coords) (k : Fin (k0_t1_loop i).trips) (j : Fin 16) (hj : j.val = k.val) (u :
    Vec Ideal S1x128x512 .f32)
    (inb : ∀ a : Fin 3, (k0_off8 i k) a + S1x128x256.size a ≤ S16x512x256.size a) (b : Fin 128) (q : Fin 512) :
    k0_pay112 (trip_k0_t1.sl.r_31 (F := Ideal) i arg2 arg3 arg4 arg6 arg7 arg8 (harg2.unread B.q) (harg3.unread
        B.k) (harg4.unread B.v) (harg6.unread B.g) (harg7.unread B.lse) (harg8.unread B.dl) k) u (View.readAt (Elt
        Ideal) arg5.view (Rect.unit (s := S16x512x256) (k0_off8 i k) S1x128x256.size inb).toLoadRect (harg5.unread
        B.kt)) (ix3 0 b q)
      = u (ix3 0 b q) + addQ B (i 1).val j 3 b q := by
  have hk : k0_off8 i k = ![j.val, 128 * (3 : Fin 4).val, 0] := by rw [hj]; exact off_t3 i k
  pointwise [k0_pay112]
  simp only [s_t3 arg2 harg2 arg3 harg3 arg4 harg4 arg6 harg6 arg7 harg7 arg8 harg8 B i k j hj, rd_kt arg5 _ j 3 _
      hk, Memref.IsWhole.read_unread]
  rfl

end Cert.Fox

end
-- ==== Proof.Fox.Loop.lean ====
module

public import proofs.«01_k».proof.Proof.Fox.Rows
public import proofs.«01_k».proof.Proof.Fox.SumLoop
public import proofs.«01_k».proof.Proof.Fox.PieceLoop

/-!
# Forgetting attention backward: the loop over the key tiles below the diagonal

A trip adds one tile's products and sums to the five buffers; the loop adds those of all tiles below the diagonal.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4096x512 .f32) (harg12 :
    arg12.IsWhole) (arg13 : Memref sig .tc .vmem S4x1x1x512 .f32) (harg13 : arg13.IsWhole) (arg14 : Memref sig .tc
    .vmem S4x128x512 .f32) (harg14 : arg14.IsWhole) (arg15 : Memref sig .tc .vmem S4x1x512 .f32) (harg15 :
    arg15.IsWhole)

/-- The key gradients after a trip. -/
theorem trip_k (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (f14 : arg14.view.ty.Contents
    (Elt Ideal)) (f15 : arg15.view.ty.Contents (Elt Ideal)) (S : State) (hS : Holds arg10 f10 S) :
    Holds arg10 (arg10.view.writes (Elt Ideal) f10 (tripL_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) k f10 f11 f12 f14 f15).1) (bump S j.val
        (addK B (i 1).val)) := by
  unfold tripL_k0_t1 trip_k0_t1
  dsimp only
  rw [← put4]
  have o0 : k0_off1 i k = ![256 * j.val, 128 * (0 : Fin 4).val] := by rw [hj]; exact off_k0 i k
  have o1 : k0_off2 i k = ![256 * j.val, 128 * (1 : Fin 4).val] := by rw [hj]; exact off_k1 i k
  have o2 : k0_off3 i k = ![256 * j.val, 128 * (2 : Fin 4).val] := by rw [hj]; exact off_k2 i k
  have o3 : k0_off4 i k = ![256 * j.val, 128 * (3 : Fin 4).val] := by rw [hj]; exact off_k3 i k
  refine holds_put arg10 _ _ _ _ ?_ j 3 _ o3 _ fun a b => (k_t3 arg2 harg2 arg3 harg3 arg4 harg4 arg6 harg6 arg7
      harg7 arg8 harg8 B i k j hj _ a b).trans (congrArg (· + _) (hS.load j 3 _ o3 a b))
  refine holds_put arg10 _ _ _ _ ?_ j 2 _ o2 _ fun a b => (k_t2 arg2 harg2 arg3 harg3 arg4 harg4 arg6 harg6 arg7
      harg7 arg8 harg8 B i k j hj _ a b).trans (congrArg (· + _) (hS.load j 2 _ o2 a b))
  refine holds_put arg10 _ _ _ _ ?_ j 1 _ o1 _ fun a b => (k_t1 arg2 harg2 arg3 harg3 arg4 harg4 arg6 harg6 arg7
      harg7 arg8 harg8 B i k j hj _ a b).trans (congrArg (· + _) (hS.load j 1 _ o1 a b))
  refine holds_put arg10 _ _ _ _ ?_ j 0 _ o0 _ fun a b => (k_t0 arg2 harg2 arg3 harg3 arg4 harg4 arg6 harg6 arg7
      harg7 arg8 harg8 B i k j hj _ a b).trans (congrArg (· + _) (hS.load j 0 _ o0 a b))
  exact hS

/-- The value gradients after a trip. -/
theorem trip_v (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (f14 : arg14.view.ty.Contents
    (Elt Ideal)) (f15 : arg15.view.ty.Contents (Elt Ideal)) (S : State) (hS : Holds arg11 f11 S) :
    Holds arg11 (arg11.view.writes (Elt Ideal) f11 (tripL_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) k f10 f11 f12 f14 f15).2.1) (bump S j.val
        (addV B (i 1).val)) := by
  unfold tripL_k0_t1 trip_k0_t1
  dsimp only
  rw [← put4]
  have o0 : k0_off1 i k = ![256 * j.val, 128 * (0 : Fin 4).val] := by rw [hj]; exact off_k0 i k
  have o1 : k0_off2 i k = ![256 * j.val, 128 * (1 : Fin 4).val] := by rw [hj]; exact off_k1 i k
  have o2 : k0_off3 i k = ![256 * j.val, 128 * (2 : Fin 4).val] := by rw [hj]; exact off_k2 i k
  have o3 : k0_off4 i k = ![256 * j.val, 128 * (3 : Fin 4).val] := by rw [hj]; exact off_k3 i k
  refine holds_put arg11 _ _ _ _ ?_ j 3 _ o3 _ fun a b => (v_t3 arg2 harg2 arg3 harg3 arg6 harg6 arg7 harg7 B i k j
      hj _ a b).trans (congrArg (· + _) (hS.load j 3 _ o3 a b))
  refine holds_put arg11 _ _ _ _ ?_ j 2 _ o2 _ fun a b => (v_t2 arg2 harg2 arg3 harg3 arg6 harg6 arg7 harg7 B i k j
      hj _ a b).trans (congrArg (· + _) (hS.load j 2 _ o2 a b))
  refine holds_put arg11 _ _ _ _ ?_ j 1 _ o1 _ fun a b => (v_t1 arg2 harg2 arg3 harg3 arg6 harg6 arg7 harg7 B i k j
      hj _ a b).trans (congrArg (· + _) (hS.load j 1 _ o1 a b))
  refine holds_put arg11 _ _ _ _ ?_ j 0 _ o0 _ fun a b => (v_t0 arg2 harg2 arg3 harg3 arg6 harg6 arg7 harg7 B i k j
      hj _ a b).trans (congrArg (· + _) (hS.load j 0 _ o0 a b))
  exact hS

/-- The lanes of the gate gradients after a trip. -/
theorem trip_c (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (f14 : arg14.view.ty.Contents
    (Elt Ideal)) (f15 : arg15.view.ty.Contents (Elt Ideal)) (S : State) (hS : Holds arg12 f12 S) :
    Holds arg12 (arg12.view.writes (Elt Ideal) f12 (tripL_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) k f10 f11 f12 f14 f15).2.2.1) (bump S
        j.val (addC B (i 1).val)) := by
  unfold tripL_k0_t1 trip_k0_t1
  dsimp only
  rw [← put4]
  have o0 : k0_off1 i k = ![256 * j.val, 128 * (0 : Fin 4).val] := by rw [hj]; exact off_k0 i k
  have o1 : k0_off2 i k = ![256 * j.val, 128 * (1 : Fin 4).val] := by rw [hj]; exact off_k1 i k
  have o2 : k0_off3 i k = ![256 * j.val, 128 * (2 : Fin 4).val] := by rw [hj]; exact off_k2 i k
  have o3 : k0_off4 i k = ![256 * j.val, 128 * (3 : Fin 4).val] := by rw [hj]; exact off_k3 i k
  refine holds_put arg12 _ _ _ _ ?_ j 3 _ o3 _ fun a b => (c_t3 arg2 harg2 arg3 harg3 arg4 harg4 arg6 harg6 arg7
      harg7 arg8 harg8 B i k j hj _ a b).trans (congrArg (· + _) (hS.load j 3 _ o3 a b))
  refine holds_put arg12 _ _ _ _ ?_ j 2 _ o2 _ fun a b => (c_t2 arg2 harg2 arg3 harg3 arg4 harg4 arg6 harg6 arg7
      harg7 arg8 harg8 B i k j hj _ a b).trans (congrArg (· + _) (hS.load j 2 _ o2 a b))
  refine holds_put arg12 _ _ _ _ ?_ j 1 _ o1 _ fun a b => (c_t1 arg2 harg2 arg3 harg3 arg4 harg4 arg6 harg6 arg7
      harg7 arg8 harg8 B i k j hj _ a b).trans (congrArg (· + _) (hS.load j 1 _ o1 a b))
  refine holds_put arg12 _ _ _ _ ?_ j 0 _ o0 _ fun a b => (c_t0 arg2 harg2 arg3 harg3 arg4 harg4 arg6 harg6 arg7
      harg7 arg8 harg8 B i k j hj _ _ a b).trans (congrArg (· + _) (hS.load j 0 _ o0 a b))
  exact hS

/-- The query gradients after a trip. -/
theorem trip_q (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (f14 : arg14.view.ty.Contents
    (Elt Ideal)) (f15 : arg15.view.ty.Contents (Elt Ideal)) (S : QState) (hS : QHolds arg14 f14 S) :
    QHolds arg14 (arg14.view.writes (Elt Ideal) f14 (tripL_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) k f10 f11 f12 f14 f15).2.2.2.1) (fun h d
        q => S h d q + addQ B (i 1).val j h d q) := by
  unfold tripL_k0_t1 trip_k0_t1
  dsimp only
  rw [← qput4]
  refine qholds_put arg14 _ _ _ _ ?_ 3 _ rfl _ fun b q => (q_t3 arg2 harg2 arg3 harg3 arg4 harg4 arg5 harg5 arg6
      harg6 arg7 harg7 arg8 harg8 B i k j hj _ _ b q).trans (congrArg (· + _) (hS.load 3 _ rfl b q))
  refine qholds_put arg14 _ _ _ _ ?_ 2 _ rfl _ fun b q => (q_t2 arg2 harg2 arg3 harg3 arg4 harg4 arg5 harg5 arg6
      harg6 arg7 harg7 arg8 harg8 B i k j hj _ _ b q).trans (congrArg (· + _) (hS.load 2 _ rfl b q))
  refine qholds_put arg14 _ _ _ _ ?_ 1 _ rfl _ fun b q => (q_t1 arg2 harg2 arg3 harg3 arg4 harg4 arg5 harg5 arg6
      harg6 arg7 harg7 arg8 harg8 B i k j hj _ _ b q).trans (congrArg (· + _) (hS.load 1 _ rfl b q))
  refine qholds_put arg14 _ _ _ _ ?_ 0 _ rfl _ fun b q => (q_t0 arg2 harg2 arg3 harg3 arg4 harg4 arg5 harg5 arg6
      harg6 arg7 harg7 arg8 harg8 B i k j hj _ _ b q).trans (congrArg (· + _) (hS.load 0 _ rfl b q))
  exact hS

/-- The sums over the keys after a trip. -/
theorem trip_r (𝒱 : Variants) (c : Dev nD) (bd : Option 𝒱.V) (B : Blocks) (i : grid0.Coords) (k : Fin (k0_t1_loop
    i).trips) (j : Fin 16) (hj : j.val = k.val) (f10 : arg10.view.ty.Contents (Elt Ideal)) (f11 :
    arg11.view.ty.Contents (Elt Ideal)) (f12 : arg12.view.ty.Contents (Elt Ideal)) (f14 : arg14.view.ty.Contents
    (Elt Ideal)) (f15 : arg15.view.ty.Contents (Elt Ideal)) (S : RState) (hS : RHolds arg15 f15 S) :
    RHolds arg15 (arg15.view.writes (Elt Ideal) f15 (tripL_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) k f10 f11 f12 f14 f15).2.2.2.2) (fun h q
        => S h q + addR B (i 1).val j h q) := by
  unfold tripL_k0_t1 trip_k0_t1
  dsimp only
  rw [← rput4]
  refine rholds_put arg15 _ _ _ _ ?_ 3 _ rfl _ fun q => (r_t3 arg2 harg2 arg3 harg3 arg4 harg4 arg6 harg6 arg7
      harg7 arg8 harg8 B i k j hj _ q).trans (congrArg (· + _) (hS.load 3 _ rfl q))
  refine rholds_put arg15 _ _ _ _ ?_ 2 _ rfl _ fun q => (r_t2 arg2 harg2 arg3 harg3 arg4 harg4 arg6 harg6 arg7
      harg7 arg8 harg8 B i k j hj _ q).trans (congrArg (· + _) (hS.load 2 _ rfl q))
  refine rholds_put arg15 _ _ _ _ ?_ 1 _ rfl _ fun q => (r_t1 arg2 harg2 arg3 harg3 arg4 harg4 arg6 harg6 arg7
      harg7 arg8 harg8 B i k j hj _ q).trans (congrArg (· + _) (hS.load 1 _ rfl q))
  refine rholds_put arg15 _ _ _ _ ?_ 0 _ rfl _ fun q => (r_t0 arg2 harg2 arg3 harg3 arg4 harg4 arg6 harg6 arg7
      harg7 arg8 harg8 B i k j hj _ q).trans (congrArg (· + _) (hS.load 0 _ rfl q))
  exact hS

/-- The key gradients after the first `m` trips. -/
theorem loop_k (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (f14 : arg14.view.ty.Contents (Elt Ideal)) (f15 : arg15.view.ty.Contents (Elt Ideal)) (S : State)
    (hS : Holds arg10 f10 S) (m : ℕ) (hm : m ≤ (k0_t1_loop i).trips) :
    Holds arg10 (arg10.view.writes (Elt Ideal) f10 (pb_k0_t1 (F := Ideal) 𝒱 c bd i arg2 harg2 arg3 harg3 arg4 harg4
        arg5 harg5 arg6 harg6 arg7 harg7 arg8 harg8 arg9 harg9 arg10 harg10 arg11 harg11 arg12 harg12 arg13 harg13
        arg14 harg14 arg15 harg15 (harg2.unread B.q) (harg3.unread B.k) (harg4.unread B.v) (harg5.unread B.kt)
        (harg6.unread B.g) (harg7.unread B.lse) (harg8.unread B.dl) f10 f11 f12 f14 f15 m).1) (upto S m (addK B (i
        1).val)) := by
  induction m with
  | zero => rw [upto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 arg13 harg13 arg14 harg14 arg15 harg15 (harg2.unread B.q)
        (harg3.unread B.k) (harg4.unread B.v) (harg5.unread B.kt) (harg6.unread B.g) (harg7.unread B.lse)
        (harg8.unread B.dl) f10 f11 f12 f14 f15 ⟨m, hm⟩]
    dsimp only
    rw [View.writes_append, ← bump_upto]
    exact trip_k arg2 harg2 arg3 harg3 arg4 harg4 arg5 harg5 arg6 harg6 arg7 harg7 arg8 harg8 arg9 harg9 arg10
        harg10 arg11 harg11 arg12 harg12 arg13 harg13 arg14 harg14 arg15 harg15 𝒱 c bd B i ⟨m, hm⟩ ⟨m, h16⟩ rfl _ _
        _ _ _ _ (ih (Nat.le_of_succ_le hm))

/-- The value gradients after the first `m` trips. -/
theorem loop_v (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (f14 : arg14.view.ty.Contents (Elt Ideal)) (f15 : arg15.view.ty.Contents (Elt Ideal)) (S : State)
    (hS : Holds arg11 f11 S) (m : ℕ) (hm : m ≤ (k0_t1_loop i).trips) :
    Holds arg11 (arg11.view.writes (Elt Ideal) f11 (pb_k0_t1 (F := Ideal) 𝒱 c bd i arg2 harg2 arg3 harg3 arg4 harg4
        arg5 harg5 arg6 harg6 arg7 harg7 arg8 harg8 arg9 harg9 arg10 harg10 arg11 harg11 arg12 harg12 arg13 harg13
        arg14 harg14 arg15 harg15 (harg2.unread B.q) (harg3.unread B.k) (harg4.unread B.v) (harg5.unread B.kt)
        (harg6.unread B.g) (harg7.unread B.lse) (harg8.unread B.dl) f10 f11 f12 f14 f15 m).2.1) (upto S m (addV B
        (i 1).val)) := by
  induction m with
  | zero => rw [upto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 arg13 harg13 arg14 harg14 arg15 harg15 (harg2.unread B.q)
        (harg3.unread B.k) (harg4.unread B.v) (harg5.unread B.kt) (harg6.unread B.g) (harg7.unread B.lse)
        (harg8.unread B.dl) f10 f11 f12 f14 f15 ⟨m, hm⟩]
    dsimp only
    rw [View.writes_append, ← bump_upto]
    exact trip_v arg2 harg2 arg3 harg3 arg4 harg4 arg5 harg5 arg6 harg6 arg7 harg7 arg8 harg8 arg9 harg9 arg10
        harg10 arg11 harg11 arg12 harg12 arg13 harg13 arg14 harg14 arg15 harg15 𝒱 c bd B i ⟨m, hm⟩ ⟨m, h16⟩ rfl _ _
        _ _ _ _ (ih (Nat.le_of_succ_le hm))

/-- The lanes of the gate gradients after the first `m` trips. -/
theorem loop_c (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (f14 : arg14.view.ty.Contents (Elt Ideal)) (f15 : arg15.view.ty.Contents (Elt Ideal)) (S : State)
    (hS : Holds arg12 f12 S) (m : ℕ) (hm : m ≤ (k0_t1_loop i).trips) :
    Holds arg12 (arg12.view.writes (Elt Ideal) f12 (pb_k0_t1 (F := Ideal) 𝒱 c bd i arg2 harg2 arg3 harg3 arg4 harg4
        arg5 harg5 arg6 harg6 arg7 harg7 arg8 harg8 arg9 harg9 arg10 harg10 arg11 harg11 arg12 harg12 arg13 harg13
        arg14 harg14 arg15 harg15 (harg2.unread B.q) (harg3.unread B.k) (harg4.unread B.v) (harg5.unread B.kt)
        (harg6.unread B.g) (harg7.unread B.lse) (harg8.unread B.dl) f10 f11 f12 f14 f15 m).2.2.1) (upto S m (addC B
        (i 1).val)) := by
  induction m with
  | zero => rw [upto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 arg13 harg13 arg14 harg14 arg15 harg15 (harg2.unread B.q)
        (harg3.unread B.k) (harg4.unread B.v) (harg5.unread B.kt) (harg6.unread B.g) (harg7.unread B.lse)
        (harg8.unread B.dl) f10 f11 f12 f14 f15 ⟨m, hm⟩]
    dsimp only
    rw [View.writes_append, ← bump_upto]
    exact trip_c arg2 harg2 arg3 harg3 arg4 harg4 arg5 harg5 arg6 harg6 arg7 harg7 arg8 harg8 arg9 harg9 arg10
        harg10 arg11 harg11 arg12 harg12 arg13 harg13 arg14 harg14 arg15 harg15 𝒱 c bd B i ⟨m, hm⟩ ⟨m, h16⟩ rfl _ _
        _ _ _ _ (ih (Nat.le_of_succ_le hm))

/-- The query gradients after the first `m` trips. -/
theorem loop_q (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (f14 : arg14.view.ty.Contents (Elt Ideal)) (f15 : arg15.view.ty.Contents (Elt Ideal)) (S : QState)
    (hS : QHolds arg14 f14 S) (m : ℕ) (hm : m ≤ (k0_t1_loop i).trips) :
    QHolds arg14 (arg14.view.writes (Elt Ideal) f14 (pb_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) f10 f11 f12 f14 f15 m).2.2.2.1) (qupto S
        m (tileQ B (i 1).val)) := by
  induction m with
  | zero => rw [qupto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 arg13 harg13 arg14 harg14 arg15 harg15 (harg2.unread B.q)
        (harg3.unread B.k) (harg4.unread B.v) (harg5.unread B.kt) (harg6.unread B.g) (harg7.unread B.lse)
        (harg8.unread B.dl) f10 f11 f12 f14 f15 ⟨m, hm⟩]
    dsimp only
    rw [View.writes_append, qupto_succ, tileQ_of_lt B _ m h16]
    exact trip_q arg2 harg2 arg3 harg3 arg4 harg4 arg5 harg5 arg6 harg6 arg7 harg7 arg8 harg8 arg9 harg9 arg10
        harg10 arg11 harg11 arg12 harg12 arg13 harg13 arg14 harg14 arg15 harg15 𝒱 c bd B i ⟨m, hm⟩ ⟨m, h16⟩ rfl _ _
        _ _ _ _ (ih (Nat.le_of_succ_le hm))

/-- The sums over the keys after the first `m` trips. -/
theorem loop_r (𝒱 : Variants) (c : Dev nD) (bd : Option 𝒱.V) (B : Blocks) (i : grid0.Coords) (f10 :
    arg10.view.ty.Contents (Elt Ideal)) (f11 : arg11.view.ty.Contents (Elt Ideal)) (f12 : arg12.view.ty.Contents
    (Elt Ideal)) (f14 : arg14.view.ty.Contents (Elt Ideal)) (f15 : arg15.view.ty.Contents (Elt Ideal)) (S : RState)
    (hS : RHolds arg15 f15 S) (m : ℕ) (hm : m ≤ (k0_t1_loop i).trips) :
    RHolds arg15 (arg15.view.writes (Elt Ideal) f15 (pb_k0_t1 (F := Ideal) 𝒱 c bd i arg2 harg2 arg3 harg3 arg4
        harg4 arg5 harg5 arg6 harg6 arg7 harg7 arg8 harg8 arg9 harg9 arg10 harg10 arg11 harg11 arg12 harg12 arg13
        harg13 arg14 harg14 arg15 harg15 (harg2.unread B.q) (harg3.unread B.k) (harg4.unread B.v) (harg5.unread
        B.kt) (harg6.unread B.g) (harg7.unread B.lse) (harg8.unread B.dl) f10 f11 f12 f14 f15 m).2.2.2.2) (rupto S
        m (tileR B (i 1).val)) := by
  induction m with
  | zero => rw [rupto_zero]; exact hS
  | succ m ih =>
    have h16 : m < 16 := by
      have := trips1 i
      have : (i 1).val < 8 := (i 1).isLt
      omega
    rw [pb_k0_t1_succ 𝒱 c bd i arg2 harg2 arg3 harg3 arg4 harg4 arg5 harg5 arg6 harg6 arg7 harg7 arg8 harg8 arg9
        harg9 arg10 harg10 arg11 harg11 arg12 harg12 arg13 harg13 arg14 harg14 arg15 harg15 (harg2.unread B.q)
        (harg3.unread B.k) (harg4.unread B.v) (harg5.unread B.kt) (harg6.unread B.g) (harg7.unread B.lse)
        (harg8.unread B.dl) f10 f11 f12 f14 f15 ⟨m, hm⟩]
    dsimp only
    rw [View.writes_append, rupto_succ, tileR_of_lt B _ m h16]
    exact trip_r arg2 harg2 arg3 harg3 arg4 harg4 arg5 harg5 arg6 harg6 arg7 harg7 arg8 harg8 arg9 harg9 arg10
        harg10 arg11 harg11 arg12 harg12 arg13 harg13 arg14 harg14 arg15 harg15 𝒱 c bd B i ⟨m, hm⟩ ⟨m, h16⟩ rfl _ _
        _ _ _ _ (ih (Nat.le_of_succ_le hm))

end Cert.Fox

end
-- ==== Proof.Fox.MatFirst.lean ====
module

public import proofs.«01_k».proof.Proof.Fox.Mask

/-!
# Forgetting attention backward: weights and score gradients, the first tile on the diagonal

The tile `2 n` of point `n`, masked, for all 512 queries.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
        Memref sig .tc .vmem S512x512 .f32) (harg6 : arg6.IsWhole) (arg7 : Memref sig .tc .vmem S4x1x1x512 .f32)
            (harg7 : arg7.IsWhole) (arg8 : Memref sig .tc .vmem S4x1x1x512 .f32) (harg8 : arg8.IsWhole)

/-- The weights of head 0. -/
theorem w_d0 (B : Blocks) (i : grid0.Coords) (j : Fin 16) (hj : j.val = 2 * (i 1).val) (a : Fin 256) (q : Fin 512) :
    kernelRun0_B.sl.r_17 (F := Ideal) i arg2 harg2 arg3 harg3 arg7 harg7 B.q B.k B.lse (ix2 a q)
      = weight B (i 1).val 0 (row j a) q := by
  have hk : k0_off17 i 0#32 = ![256 * j.val, 128 * (0 : Fin 4).val] := by rw [hj]; exact off_dk0 i
  pointwise [kernelRun0_B.sl.r_17, kernelRun0_B.sl.r_15, k0_pay137, kernelRun0_B.sl.r_8, k0_pay133, k0_pay126,
      k0_pay118]
  rw [mask_d i j hj, select_decide]
  simp only [rd_tile arg3 _ j 0 _ hk, rd_head arg2 _ 0 (off := ![0, 0]) _ rfl, rd_row arg7 _ 0 (off := ![0, 0, 0,
      0]) _ rfl, Memref.IsWhole.read_unread]
  rfl

/-- The weights of head 1. -/
theorem w_d1 (B : Blocks) (i : grid0.Coords) (j : Fin 16) (hj : j.val = 2 * (i 1).val) (a : Fin 256) (q : Fin 512) :
    kernelRun0_B.sl.r_22 (F := Ideal) i arg2 harg2 arg3 harg3 arg7 harg7 B.q B.k B.lse (ix2 a q)
      = weight B (i 1).val 1 (row j a) q := by
  have hk : k0_off18 i 0#32 = ![256 * j.val, 128 * (1 : Fin 4).val] := by rw [hj]; exact off_dk1 i
  pointwise [kernelRun0_B.sl.r_22, kernelRun0_B.sl.r_19, k0_pay144, kernelRun0_B.sl.r_9, k0_pay139, k0_pay127,
      k0_pay119]
  rw [mask_d i j hj, select_decide]
  simp only [rd_tile arg3 _ j 1 _ hk, rd_head arg2 _ 1 (off := ![0, 128]) _ rfl, rd_row arg7 _ 1 (off := ![1, 0, 0,
      0]) _ rfl, Memref.IsWhole.read_unread]
  rfl

/-- The weights of head 2. -/
theorem w_d2 (B : Blocks) (i : grid0.Coords) (j : Fin 16) (hj : j.val = 2 * (i 1).val) (a : Fin 256) (q : Fin 512) :
    kernelRun0_B.sl.r_27 (F := Ideal) i arg2 harg2 arg3 harg3 arg7 harg7 B.q B.k B.lse (ix2 a q)
      = weight B (i 1).val 2 (row j a) q := by
  have hk : k0_off19 i 0#32 = ![256 * j.val, 128 * (2 : Fin 4).val] := by rw [hj]; exact off_dk2 i
  pointwise [kernelRun0_B.sl.r_27, kernelRun0_B.sl.r_24, k0_pay151, kernelRun0_B.sl.r_10, k0_pay146, k0_pay128,
      k0_pay120]
  rw [mask_d i j hj, select_decide]
  simp only [rd_tile arg3 _ j 2 _ hk, rd_head arg2 _ 2 (off := ![0, 256]) _ rfl, rd_row arg7 _ 2 (off := ![2, 0, 0,
      0]) _ rfl, Memref.IsWhole.read_unread]
  rfl

/-- The weights of head 3. -/
theorem w_d3 (B : Blocks) (i : grid0.Coords) (j : Fin 16) (hj : j.val = 2 * (i 1).val) (a : Fin 256) (q : Fin 512) :
    kernelRun0_B.sl.r_31 (F := Ideal) i arg2 harg2 arg3 harg3 arg7 harg7 B.q B.k B.lse (ix2 a q)
      = weight B (i 1).val 3 (row j a) q := by
  have hk : k0_off20 i 0#32 = ![256 * j.val, 128 * (3 : Fin 4).val] := by rw [hj]; exact off_dk3 i
  pointwise [kernelRun0_B.sl.r_31, kernelRun0_B.sl.r_29, k0_pay157, kernelRun0_B.sl.r_11, k0_pay153, k0_pay129,
      k0_pay121]
  rw [mask_d i j hj, select_decide]
  simp only [rd_tile arg3 _ j 3 _ hk, rd_head arg2 _ 3 (off := ![0, 384]) _ rfl, rd_row arg7 _ 3 (off := ![3, 0, 0,
      0]) _ rfl, Memref.IsWhole.read_unread]
  rfl

/-- The score gradients of head 0. -/
theorem s_d0 (B : Blocks) (i : grid0.Coords) (j : Fin 16) (hj : j.val = 2 * (i 1).val) (a : Fin 256) (q : Fin 512) :
    kernelRun0_B.sl.r_18 (F := Ideal) i arg2 harg2 arg3 harg3 arg4 harg4 arg6 harg6 arg7 harg7 arg8 harg8 B.q B.k
        B.v B.g B.lse B.dl (ix2 a q)
      = dscore B (i 1).val 0 (row j a) q := by
  have hk : k0_off17 i 0#32 = ![256 * j.val, 128 * (0 : Fin 4).val] := by rw [hj]; exact off_dk0 i
  pointwise [kernelRun0_B.sl.r_18, kernelRun0_B.sl.r_16, k0_pay138, kernelRun0_B.sl.r_4, kernelRun0_B.sl.r_8,
      k0_pay134, k0_pay122, k0_pay126, k0_pay133, k0_pay118]
  rw [mask_d i j hj, select_decide]
  simp only [rd_tile arg3 _ j 0 _ hk, rd_head arg2 _ 0 (off := ![0, 0]) _ rfl, rd_row arg7 _ 0 (off := ![0, 0, 0,
      0]) _ rfl, rd_tile arg4 _ j 0 _ hk, rd_head arg6 _ 0 (off := ![0, 0]) _ rfl, rd_row arg8 _ 0 (off := ![0, 0,
          0, 0]) _ rfl, Memref.IsWhole.read_unread]
  rw [dscore, weight, ite_mul, zero_mul]
  rfl

/-- The score gradients of head 1. -/
theorem s_d1 (B : Blocks) (i : grid0.Coords) (j : Fin 16) (hj : j.val = 2 * (i 1).val) (a : Fin 256) (q : Fin 512) :
    kernelRun0_B.sl.r_23 (F := Ideal) i arg2 harg2 arg3 harg3 arg4 harg4 arg6 harg6 arg7 harg7 arg8 harg8 B.q B.k
        B.v B.g B.lse B.dl (ix2 a q)
      = dscore B (i 1).val 1 (row j a) q := by
  have hk : k0_off18 i 0#32 = ![256 * j.val, 128 * (1 : Fin 4).val] := by rw [hj]; exact off_dk1 i
  pointwise [kernelRun0_B.sl.r_23, kernelRun0_B.sl.r_20, k0_pay145, kernelRun0_B.sl.r_12, kernelRun0_B.sl.r_9,
      k0_pay140, kernelRun0_B.sl.r_5, k0_pay130, k0_pay127, k0_pay139, k0_pay123, k0_pay119]
  rw [mask_d i j hj, select_decide]
  simp only [rd_tile arg3 _ j 1 _ hk, rd_head arg2 _ 1 (off := ![0, 128]) _ rfl, rd_row arg7 _ 1 (off := ![1, 0, 0,
      0]) _ rfl, rd_tile arg4 _ j 1 _ hk, rd_head arg6 _ 1 (off := ![0, 128]) _ rfl, rd_row arg8 _ 1 (off := ![1,
          0, 0, 0]) _ rfl, Memref.IsWhole.read_unread]
  rw [dscore, weight, ite_mul, zero_mul]
  rfl

/-- The score gradients of head 2. -/
theorem s_d2 (B : Blocks) (i : grid0.Coords) (j : Fin 16) (hj : j.val = 2 * (i 1).val) (a : Fin 256) (q : Fin 512) :
    kernelRun0_B.sl.r_28 (F := Ideal) i arg2 harg2 arg3 harg3 arg4 harg4 arg6 harg6 arg7 harg7 arg8 harg8 B.q B.k
        B.v B.g B.lse B.dl (ix2 a q)
      = dscore B (i 1).val 2 (row j a) q := by
  have hk : k0_off19 i 0#32 = ![256 * j.val, 128 * (2 : Fin 4).val] := by rw [hj]; exact off_dk2 i
  pointwise [kernelRun0_B.sl.r_28, kernelRun0_B.sl.r_25, k0_pay152, kernelRun0_B.sl.r_10, kernelRun0_B.sl.r_13,
      k0_pay147, k0_pay128, kernelRun0_B.sl.r_6, k0_pay131, k0_pay146, k0_pay120, k0_pay124]
  rw [mask_d i j hj, select_decide]
  simp only [rd_tile arg3 _ j 2 _ hk, rd_head arg2 _ 2 (off := ![0, 256]) _ rfl, rd_row arg7 _ 2 (off := ![2, 0, 0,
      0]) _ rfl, rd_tile arg4 _ j 2 _ hk, rd_head arg6 _ 2 (off := ![0, 256]) _ rfl, rd_row arg8 _ 2 (off := ![2,
          0, 0, 0]) _ rfl, Memref.IsWhole.read_unread]
  rw [dscore, weight, ite_mul, zero_mul]
  rfl

/-- The score gradients of head 3. -/
theorem s_d3 (B : Blocks) (i : grid0.Coords) (j : Fin 16) (hj : j.val = 2 * (i 1).val) (a : Fin 256) (q : Fin 512) :
    kernelRun0_B.sl.r_32 (F := Ideal) i arg2 harg2 arg3 harg3 arg4 harg4 arg6 harg6 arg7 harg7 arg8 harg8 B.q B.k
        B.v B.g B.lse B.dl (ix2 a q)
      = dscore B (i 1).val 3 (row j a) q := by
  have hk : k0_off20 i 0#32 = ![256 * j.val, 128 * (3 : Fin 4).val] := by rw [hj]; exact off_dk3 i
  pointwise [kernelRun0_B.sl.r_32, kernelRun0_B.sl.r_30, k0_pay158, kernelRun0_B.sl.r_11, kernelRun0_B.sl.r_14,
      k0_pay154, k0_pay129, kernelRun0_B.sl.r_7, k0_pay132, k0_pay153, k0_pay121, k0_pay125]
  rw [mask_d i j hj, select_decide]
  simp only [rd_tile arg3 _ j 3 _ hk, rd_head arg2 _ 3 (off := ![0, 384]) _ rfl, rd_row arg7 _ 3 (off := ![3, 0, 0,
      0]) _ rfl, rd_tile arg4 _ j 3 _ hk, rd_head arg6 _ 3 (off := ![0, 384]) _ rfl, rd_row arg8 _ 3 (off := ![3,
          0, 0, 0]) _ rfl, Memref.IsWhole.read_unread]
  rw [dscore, weight, ite_mul, zero_mul]
  rfl

end Cert.Fox

end
-- ==== Proof.Fox.PieceFirst.lean ====
module

public import proofs.«01_k».proof.Proof.Fox.MatFirst

/-!
# Forgetting attention backward: stored for the first tile on the diagonal

Each store adds a product over all 512 queries to what it loads.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole)

/-- The value gradients stored for head 0. -/
theorem v_d0 (B : Blocks) (i : grid0.Coords) (j : Fin 16) (hj : j.val = 2 * (i 1).val) (u : Vec Ideal S256x128
    .f32) (a : Fin 256) (b : Fin 128) :
    k0_pay159 (kernelRun0_B.sl.r_4 (F := Ideal) arg6 harg6 B.g) (kernelRun0_B.sl.r_17 (F := Ideal) i arg2 harg2
        arg3 harg3 arg7 harg7 B.q B.k B.lse) u (ix2 a b)
      = u (ix2 a b) + addV B (i 1).val 0 (row j a) b := by
  pointwise [k0_pay159, kernelRun0_B.sl.r_4, k0_pay122]
  simp only [w_d0 arg2 harg2 arg3 harg3 arg7 harg7 B i j hj, rd_head arg6 _ 0 (off := ![0, 0]) _ rfl,
      Memref.IsWhole.read_unread]
  rfl

/-- The value gradients stored for head 1. -/
theorem v_d1 (B : Blocks) (i : grid0.Coords) (j : Fin 16) (hj : j.val = 2 * (i 1).val) (u : Vec Ideal S256x128
    .f32) (a : Fin 256) (b : Fin 128) :
    k0_pay162 (kernelRun0_B.sl.r_5 (F := Ideal) arg6 harg6 B.g) (kernelRun0_B.sl.r_22 (F := Ideal) i arg2 harg2
        arg3 harg3 arg7 harg7 B.q B.k B.lse) u (ix2 a b)
      = u (ix2 a b) + addV B (i 1).val 1 (row j a) b := by
  pointwise [k0_pay162, kernelRun0_B.sl.r_5, k0_pay123]
  simp only [w_d1 arg2 harg2 arg3 harg3 arg7 harg7 B i j hj, rd_head arg6 _ 1 (off := ![0, 128]) _ rfl,
      Memref.IsWhole.read_unread]
  rfl

/-- The value gradients stored for head 2. -/
theorem v_d2 (B : Blocks) (i : grid0.Coords) (j : Fin 16) (hj : j.val = 2 * (i 1).val) (u : Vec Ideal S256x128
    .f32) (a : Fin 256) (b : Fin 128) :
    k0_pay166 (kernelRun0_B.sl.r_6 (F := Ideal) arg6 harg6 B.g) (kernelRun0_B.sl.r_27 (F := Ideal) i arg2 harg2
        arg3 harg3 arg7 harg7 B.q B.k B.lse) u (ix2 a b)
      = u (ix2 a b) + addV B (i 1).val 2 (row j a) b := by
  pointwise [k0_pay166, kernelRun0_B.sl.r_6, k0_pay124]
  simp only [w_d2 arg2 harg2 arg3 harg3 arg7 harg7 B i j hj, rd_head arg6 _ 2 (off := ![0, 256]) _ rfl,
      Memref.IsWhole.read_unread]
  rfl

/-- The value gradients stored for head 3. -/
theorem v_d3 (B : Blocks) (i : grid0.Coords) (j : Fin 16) (hj : j.val = 2 * (i 1).val) (u : Vec Ideal S256x128
    .f32) (a : Fin 256) (b : Fin 128) :
    k0_pay171 (kernelRun0_B.sl.r_7 (F := Ideal) arg6 harg6 B.g) (kernelRun0_B.sl.r_31 (F := Ideal) i arg2 harg2
        arg3 harg3 arg7 harg7 B.q B.k B.lse) u (ix2 a b)
      = u (ix2 a b) + addV B (i 1).val 3 (row j a) b := by
  pointwise [k0_pay171, kernelRun0_B.sl.r_7, k0_pay125]
  simp only [w_d3 arg2 harg2 arg3 harg3 arg7 harg7 B i j hj, rd_head arg6 _ 3 (off := ![0, 384]) _ rfl,
      Memref.IsWhole.read_unread]
  rfl

/-- The key gradients stored for head 0. -/
theorem k_d0 (B : Blocks) (i : grid0.Coords) (j : Fin 16) (hj : j.val = 2 * (i 1).val) (u : Vec Ideal S256x128
    .f32) (a : Fin 256) (b : Fin 128) :
    k0_pay160 (kernelRun0_B.sl.r (F := Ideal) arg2 harg2 B.q) (kernelRun0_B.sl.r_18 (F := Ideal) i arg2 harg2 arg3
        harg3 arg4 harg4 arg6 harg6 arg7 harg7 arg8 harg8 B.q B.k B.v B.g B.lse B.dl) u (ix2 a b)
      = u (ix2 a b) + addK B (i 1).val 0 (row j a) b := by
  pointwise [k0_pay160, kernelRun0_B.sl.r, k0_pay118]
  simp only [s_d0 arg2 harg2 arg3 harg3 arg4 harg4 arg6 harg6 arg7 harg7 arg8 harg8 B i j hj, rd_head arg2 _ 0 (off
      := ![0, 0]) _ rfl, Memref.IsWhole.read_unread]
  rfl

/-- The key gradients stored for head 1. -/
theorem k_d1 (B : Blocks) (i : grid0.Coords) (j : Fin 16) (hj : j.val = 2 * (i 1).val) (u : Vec Ideal S256x128
    .f32) (a : Fin 256) (b : Fin 128) :
    k0_pay164 (kernelRun0_B.sl.r_1 (F := Ideal) arg2 harg2 B.q) (kernelRun0_B.sl.r_23 (F := Ideal) i arg2 harg2
        arg3 harg3 arg4 harg4 arg6 harg6 arg7 harg7 arg8 harg8 B.q B.k B.v B.g B.lse B.dl) (k0_pay163 u)
        kernelRun0_B.sl.cst_131 (ix2 a b)
      = u (ix2 a b) + addK B (i 1).val 1 (row j a) b := by
  pointwise [k0_pay164, k0_pay163, kernelRun0_B.sl.cst_131, kernelRun0_B.sl.r_1, k0_pay119]
  simp only [s_d1 arg2 harg2 arg3 harg3 arg4 harg4 arg6 harg6 arg7 harg7 arg8 harg8 B i j hj, rd_head arg2 _ 1 (off
      := ![0, 128]) _ rfl, Memref.IsWhole.read_unread]
  rfl

/-- The key gradients stored for head 2. -/
theorem k_d2 (B : Blocks) (i : grid0.Coords) (j : Fin 16) (hj : j.val = 2 * (i 1).val) (u : Vec Ideal S256x128
    .f32) (a : Fin 256) (b : Fin 128) :
    k0_pay167 (kernelRun0_B.sl.r_2 (F := Ideal) arg2 harg2 B.q) (kernelRun0_B.sl.r_28 (F := Ideal) i arg2 harg2
        arg3 harg3 arg4 harg4 arg6 harg6 arg7 harg7 arg8 harg8 B.q B.k B.v B.g B.lse B.dl) u (ix2 a b)
      = u (ix2 a b) + addK B (i 1).val 2 (row j a) b := by
  pointwise [k0_pay167, kernelRun0_B.sl.r_2, k0_pay120]
  simp only [s_d2 arg2 harg2 arg3 harg3 arg4 harg4 arg6 harg6 arg7 harg7 arg8 harg8 B i j hj, rd_head arg2 _ 2 (off
      := ![0, 256]) _ rfl, Memref.IsWhole.read_unread]
  rfl

/-- The key gradients stored for head 3. -/
theorem k_d3 (B : Blocks) (i : grid0.Coords) (j : Fin 16) (hj : j.val = 2 * (i 1).val) (u : Vec Ideal S256x128
    .f32) (a : Fin 256) (b : Fin 128) :
    k0_pay172 (kernelRun0_B.sl.r_3 (F := Ideal) arg2 harg2 B.q) (kernelRun0_B.sl.r_32 (F := Ideal) i arg2 harg2
        arg3 harg3 arg4 harg4 arg6 harg6 arg7 harg7 arg8 harg8 B.q B.k B.v B.g B.lse B.dl) u (ix2 a b)
      = u (ix2 a b) + addK B (i 1).val 3 (row j a) b := by
  pointwise [k0_pay172, kernelRun0_B.sl.r_3, k0_pay121]
  simp only [s_d3 arg2 harg2 arg3 harg3 arg4 harg4 arg6 harg6 arg7 harg7 arg8 harg8 B i j hj, rd_head arg2 _ 3 (off
      := ![0, 384]) _ rfl, Memref.IsWhole.read_unread]
  rfl

/-- The query gradients stored for head 0. -/
theorem q_d0 (B : Blocks) (i : grid0.Coords) (j : Fin 16) (hj : j.val = 2 * (i 1).val) (u : Vec Ideal S1x128x512 .f32)
    (inb : ∀ a : Fin 3, (k0_off21 i 0#32) a + S1x128x256.size a ≤ S16x512x256.size a) (b : Fin 128) (q : Fin 512) :
    k0_pay161 (kernelRun0_B.sl.r_18 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off21 i 0#32) S1x128x256.size inb).toLoadRect (harg5.unread B.kt)) (ix3 0 b q)
      = u (ix3 0 b q) + addQ B (i 1).val j 0 b q := by
  have hk : k0_off21 i 0#32 = ![j.val, 128 * (0 : Fin 4).val, 0] := by rw [hj]; exact off_dt0 i
  pointwise [k0_pay161]
  simp only [s_d0 arg2 harg2 arg3 harg3 arg4 harg4 arg6 harg6 arg7 harg7 arg8 harg8 B i j hj, rd_kt arg5 _ j 0 _
      hk, Memref.IsWhole.read_unread]
  rfl

/-- The query gradients stored for head 1. -/
theorem q_d1 (B : Blocks) (i : grid0.Coords) (j : Fin 16) (hj : j.val = 2 * (i 1).val) (u : Vec Ideal S1x128x512 .f32)
    (inb : ∀ a : Fin 3, (k0_off22 i 0#32) a + S1x128x256.size a ≤ S16x512x256.size a) (b : Fin 128) (q : Fin 512) :
    k0_pay165 (kernelRun0_B.sl.r_23 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off22 i 0#32) S1x128x256.size inb).toLoadRect (harg5.unread B.kt)) (ix3 0 b q)
      = u (ix3 0 b q) + addQ B (i 1).val j 1 b q := by
  have hk : k0_off22 i 0#32 = ![j.val, 128 * (1 : Fin 4).val, 0] := by rw [hj]; exact off_dt1 i
  pointwise [k0_pay165]
  simp only [s_d1 arg2 harg2 arg3 harg3 arg4 harg4 arg6 harg6 arg7 harg7 arg8 harg8 B i j hj, rd_kt arg5 _ j 1 _
      hk, Memref.IsWhole.read_unread]
  rfl

/-- The query gradients stored for head 2. -/
theorem q_d2 (B : Blocks) (i : grid0.Coords) (j : Fin 16) (hj : j.val = 2 * (i 1).val) (u : Vec Ideal S1x128x512 .f32)
    (inb : ∀ a : Fin 3, (k0_off23 i 0#32) a + S1x128x256.size a ≤ S16x512x256.size a) (b : Fin 128) (q : Fin 512) :
    k0_pay170 (k0_pay168 u) (k0_pay169 (kernelRun0_B.sl.r_28 (F := Ideal) i arg2 harg2 arg3 harg3 arg4 harg4 arg6
        harg6 arg7 harg7 arg8 harg8 B.q B.k B.v B.g B.lse B.dl) (View.readAt (Elt Ideal) arg5.view (Rect.unit (s :=
        S16x512x256) (k0_off23 i 0#32) S1x128x256.size inb).toLoadRect (harg5.unread B.kt))) (ix3 0 b q)
      = u (ix3 0 b q) + addQ B (i 1).val j 2 b q := by
  have hk : k0_off23 i 0#32 = ![j.val, 128 * (2 : Fin 4).val, 0] := by rw [hj]; exact off_dt2 i
  pointwise [k0_pay170, k0_pay168, k0_pay169]
  simp only [s_d2 arg2 harg2 arg3 harg3 arg4 harg4 arg6 harg6 arg7 harg7 arg8 harg8 B i j hj, rd_kt arg5 _ j 2 _
      hk, Memref.IsWhole.read_unread]
  rfl

/-- The query gradients stored for head 3. -/
theorem q_d3 (B : Blocks) (i : grid0.Coords) (j : Fin 16) (hj : j.val = 2 * (i 1).val) (u : Vec Ideal S1x128x512 .f32)
    (inb : ∀ a : Fin 3, (k0_off24 i 0#32) a + S1x128x256.size a ≤ S16x512x256.size a) (b : Fin 128) (q : Fin 512) :
    k0_pay173 (kernelRun0_B.sl.r_32 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off24 i 0#32) S1x128x256.size inb).toLoadRect (harg5.unread B.kt)) (ix3 0 b q)
      = u (ix3 0 b q) + addQ B (i 1).val j 3 b q := by
  have hk : k0_off24 i 0#32 = ![j.val, 128 * (3 : Fin 4).val, 0] := by rw [hj]; exact off_dt3 i
  pointwise [k0_pay173]
  simp only [s_d3 arg2 harg2 arg3 harg3 arg4 harg4 arg6 harg6 arg7 harg7 arg8 harg8 B i j hj, rd_kt arg5 _ j 3 _
      hk, Memref.IsWhole.read_unread]
  rfl

end Cert.Fox

end
-- ==== Proof.Fox.MatSecond.lean ====
module

public import proofs.«01_k».proof.Proof.Fox.Mask

/-!
# Forgetting attention backward: weights and score gradients, the second tile on the diagonal

The tile `2 n + 1` of point `n`, masked, for the later 256 queries.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
        Memref sig .tc .vmem S512x512 .f32) (harg6 : arg6.IsWhole) (arg7 : Memref sig .tc .vmem S4x1x1x512 .f32)
            (harg7 : arg7.IsWhole) (arg8 : Memref sig .tc .vmem S4x1x1x512 .f32) (harg8 : arg8.IsWhole)

/-- The weights of head 0. -/
theorem w_e0 (B : Blocks) (i : grid0.Coords) (j : Fin 16) (hj : j.val = 2 * (i 1).val + 1) (a : Fin 256) (q : Fin
    256) :
    kernelRun0_B.sl.r_57 (F := Ideal) i arg2 harg2 arg3 harg3 arg7 harg7 B.q B.k B.lse (ix2 a q)
      = weight B (i 1).val 0 (row j a) (late q) := by
  have hk : k0_off17 i 1#32 = ![256 * j.val, 128 * (0 : Fin 4).val] := by rw [hj]; exact off_ek0 i
  pointwise [kernelRun0_B.sl.r_57, kernelRun0_B.sl.r_53, k0_pay197, kernelRun0_B.sl.r_45, k0_pay191, k0_pay183,
      k0_pay175]
  rw [mask_e i j hj, select_decide]
  simp only [rd_tile arg3 _ j 0 _ hk, rd_late arg2 _ 0 (off := ![256, 0]) _ rfl, rd_rowLate arg7 _ 0 (off := ![0,
      0, 0, 256]) _ rfl, Memref.IsWhole.read_unread]
  rfl

/-- The weights of head 1. -/
theorem w_e1 (B : Blocks) (i : grid0.Coords) (j : Fin 16) (hj : j.val = 2 * (i 1).val + 1) (a : Fin 256) (q : Fin
    256) :
    kernelRun0_B.sl.r_61 (F := Ideal) i arg2 harg2 arg3 harg3 arg7 harg7 B.q B.k B.lse (ix2 a q)
      = weight B (i 1).val 1 (row j a) (late q) := by
  have hk : k0_off18 i 1#32 = ![256 * j.val, 128 * (1 : Fin 4).val] := by rw [hj]; exact off_ek1 i
  pointwise [kernelRun0_B.sl.r_61, kernelRun0_B.sl.r_59, k0_pay203, kernelRun0_B.sl.r_46, k0_pay199, k0_pay184,
      k0_pay176]
  rw [mask_e i j hj, select_decide]
  simp only [rd_tile arg3 _ j 1 _ hk, rd_late arg2 _ 1 (off := ![256, 128]) _ rfl, rd_rowLate arg7 _ 1 (off := ![1,
      0, 0, 256]) _ rfl, Memref.IsWhole.read_unread]
  rfl

/-- The weights of head 2. -/
theorem w_e2 (B : Blocks) (i : grid0.Coords) (j : Fin 16) (hj : j.val = 2 * (i 1).val + 1) (a : Fin 256) (q : Fin
    256) :
    kernelRun0_B.sl.r_66 (F := Ideal) i arg2 harg2 arg3 harg3 arg7 harg7 B.q B.k B.lse (ix2 a q)
      = weight B (i 1).val 2 (row j a) (late q) := by
  have hk : k0_off19 i 1#32 = ![256 * j.val, 128 * (2 : Fin 4).val] := by rw [hj]; exact off_ek2 i
  pointwise [kernelRun0_B.sl.r_66, kernelRun0_B.sl.r_63, k0_pay210, kernelRun0_B.sl.r_48, k0_pay205,
      kernelRun0_B.sl.r_39, kernelRun0_B.sl.r_47, k0_pay186, k0_pay177, k0_pay185]
  rw [mask_e i j hj, select_decide]
  simp only [rd_tile arg3 _ j 2 _ hk, rd_late arg2 _ 2 (off := ![256, 256]) _ rfl, rd_rowLate arg7 _ 2 (off := ![2,
      0, 0, 256]) _ rfl, Memref.IsWhole.read_unread]
  rfl

/-- The weights of head 3. -/
theorem w_e3 (B : Blocks) (i : grid0.Coords) (j : Fin 16) (hj : j.val = 2 * (i 1).val + 1) (a : Fin 256) (q : Fin
    256) :
    kernelRun0_B.sl.r_68 (F := Ideal) i arg2 harg2 arg3 harg3 arg7 harg7 B.q B.k B.lse (ix2 a q)
      = weight B (i 1).val 3 (row j a) (late q) := by
  have hk : k0_off20 i 1#32 = ![256 * j.val, 128 * (3 : Fin 4).val] := by rw [hj]; exact off_ek3 i
  pointwise [kernelRun0_B.sl.r_68, kernelRun0_B.sl.r_49, k0_pay216, kernelRun0_B.sl.r_40, k0_pay187, k0_pay212,
      k0_pay178]
  rw [mask_e i j hj, select_decide]
  simp only [rd_tile arg3 _ j 3 _ hk, rd_late arg2 _ 3 (off := ![256, 384]) _ rfl, rd_rowLate arg7 _ 3 (off := ![3,
      0, 0, 256]) _ rfl, Memref.IsWhole.read_unread]
  rfl

/-- The score gradients of head 0. -/
theorem s_e0 (B : Blocks) (i : grid0.Coords) (j : Fin 16) (hj : j.val = 2 * (i 1).val + 1) (a : Fin 256) (q : Fin
    256) :
    kernelRun0_B.sl.r_58 (F := Ideal) i arg2 harg2 arg3 harg3 arg4 harg4 arg6 harg6 arg7 harg7 arg8 harg8 B.q B.k
        B.v B.g B.lse B.dl (ix2 a q)
      = dscore B (i 1).val 0 (row j a) (late q) := by
  have hk : k0_off17 i 1#32 = ![256 * j.val, 128 * (0 : Fin 4).val] := by rw [hj]; exact off_ek0 i
  pointwise [kernelRun0_B.sl.r_58, kernelRun0_B.sl.r_54, k0_pay198, kernelRun0_B.sl.r_41, kernelRun0_B.sl.r_45,
      k0_pay192, k0_pay179, k0_pay183, k0_pay191, k0_pay175]
  rw [mask_e i j hj, select_decide]
  simp only [rd_tile arg3 _ j 0 _ hk, rd_late arg2 _ 0 (off := ![256, 0]) _ rfl, rd_rowLate arg7 _ 0 (off := ![0,
      0, 0, 256]) _ rfl, rd_tile arg4 _ j 0 _ hk, rd_late arg6 _ 0 (off := ![256, 0]) _ rfl, rd_rowLate arg8 _ 0
          (off := ![0, 0, 0, 256]) _ rfl, Memref.IsWhole.read_unread]
  rw [dscore, weight, ite_mul, zero_mul]
  rfl

/-- The score gradients of head 1. -/
theorem s_e1 (B : Blocks) (i : grid0.Coords) (j : Fin 16) (hj : j.val = 2 * (i 1).val + 1) (a : Fin 256) (q : Fin
    256) :
    kernelRun0_B.sl.r_62 (F := Ideal) i arg2 harg2 arg3 harg3 arg4 harg4 arg6 harg6 arg7 harg7 arg8 harg8 B.q B.k
        B.v B.g B.lse B.dl (ix2 a q)
      = dscore B (i 1).val 1 (row j a) (late q) := by
  have hk : k0_off18 i 1#32 = ![256 * j.val, 128 * (1 : Fin 4).val] := by rw [hj]; exact off_ek1 i
  pointwise [kernelRun0_B.sl.r_62, kernelRun0_B.sl.r_60, k0_pay204, kernelRun0_B.sl.r_46, kernelRun0_B.sl.r_50,
      k0_pay200, k0_pay184, kernelRun0_B.sl.r_42, k0_pay188, k0_pay199, k0_pay176, k0_pay180]
  rw [mask_e i j hj, select_decide]
  simp only [rd_tile arg3 _ j 1 _ hk, rd_late arg2 _ 1 (off := ![256, 128]) _ rfl, rd_rowLate arg7 _ 1 (off := ![1,
      0, 0, 256]) _ rfl, rd_tile arg4 _ j 1 _ hk, rd_late arg6 _ 1 (off := ![256, 128]) _ rfl, rd_rowLate arg8 _ 1
          (off := ![1, 0, 0, 256]) _ rfl, Memref.IsWhole.read_unread]
  rw [dscore, weight, ite_mul, zero_mul]
  rfl

/-- The score gradients of head 2. -/
theorem s_e2 (B : Blocks) (i : grid0.Coords) (j : Fin 16) (hj : j.val = 2 * (i 1).val + 1) (a : Fin 256) (q : Fin
    256) :
    kernelRun0_B.sl.r_67 (F := Ideal) i arg2 harg2 arg3 harg3 arg4 harg4 arg6 harg6 arg7 harg7 arg8 harg8 B.q B.k
        B.v B.g B.lse B.dl (ix2 a q)
      = dscore B (i 1).val 2 (row j a) (late q) := by
  have hk : k0_off19 i 1#32 = ![256 * j.val, 128 * (2 : Fin 4).val] := by rw [hj]; exact off_ek2 i
  pointwise [kernelRun0_B.sl.r_67, kernelRun0_B.sl.r_64, k0_pay211, kernelRun0_B.sl.r_48, kernelRun0_B.sl.r_51,
      k0_pay206, kernelRun0_B.sl.r_39, kernelRun0_B.sl.r_47, k0_pay186, kernelRun0_B.sl.r_43, k0_pay189, k0_pay205,
          k0_pay177, k0_pay185, k0_pay181]
  rw [mask_e i j hj, select_decide]
  simp only [rd_tile arg3 _ j 2 _ hk, rd_late arg2 _ 2 (off := ![256, 256]) _ rfl, rd_rowLate arg7 _ 2 (off := ![2,
      0, 0, 256]) _ rfl, rd_tile arg4 _ j 2 _ hk, rd_late arg6 _ 2 (off := ![256, 256]) _ rfl, rd_rowLate arg8 _ 2
          (off := ![2, 0, 0, 256]) _ rfl, Memref.IsWhole.read_unread]
  rw [dscore, weight, ite_mul, zero_mul]
  rfl

/-- The score gradients of head 3. -/
theorem s_e3 (B : Blocks) (i : grid0.Coords) (j : Fin 16) (hj : j.val = 2 * (i 1).val + 1) (a : Fin 256) (q : Fin
    256) :
    kernelRun0_B.sl.r_69 (F := Ideal) i arg2 harg2 arg3 harg3 arg4 harg4 arg6 harg6 arg7 harg7 arg8 harg8 B.q B.k
        B.v B.g B.lse B.dl (ix2 a q)
      = dscore B (i 1).val 3 (row j a) (late q) := by
  have hk : k0_off20 i 1#32 = ![256 * j.val, 128 * (3 : Fin 4).val] := by rw [hj]; exact off_ek3 i
  pointwise [kernelRun0_B.sl.r_69, kernelRun0_B.sl.r_49, kernelRun0_B.sl.r_52, k0_pay217, kernelRun0_B.sl.r_40,
      k0_pay187, kernelRun0_B.sl.r_44, k0_pay190, k0_pay213, k0_pay178, k0_pay182, k0_pay212]
  rw [mask_e i j hj, select_decide]
  simp only [rd_tile arg3 _ j 3 _ hk, rd_late arg2 _ 3 (off := ![256, 384]) _ rfl, rd_rowLate arg7 _ 3 (off := ![3,
      0, 0, 256]) _ rfl, rd_tile arg4 _ j 3 _ hk, rd_late arg6 _ 3 (off := ![256, 384]) _ rfl, rd_rowLate arg8 _ 3
          (off := ![3, 0, 0, 256]) _ rfl, Memref.IsWhole.read_unread]
  rw [dscore, weight, ite_mul, zero_mul]
  rfl

end Cert.Fox

end
-- ==== Proof.Fox.PieceSecond.lean ====
module

public import proofs.«01_k».proof.Proof.Fox.MatSecond
public import proofs.«01_k».proof.Proof.Fox.Sums

/-!
# Forgetting attention backward: stored for the second tile on the diagonal

Each store adds a product over the later 256 queries; the earlier ones see none of these keys.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole)

/-- The value gradients stored for head 0. -/
theorem v_e0 (B : Blocks) (i : grid0.Coords) (j : Fin 16) (hj : j.val = 2 * (i 1).val + 1) (u : Vec Ideal S256x128
    .f32) (a : Fin 256) (b : Fin 128) :
    k0_pay219 (kernelRun0_B.sl.r_41 (F := Ideal) arg6 harg6 B.g) (kernelRun0_B.sl.r_57 (F := Ideal) i arg2 harg2
        arg3 harg3 arg7 harg7 B.q B.k B.lse) (k0_pay218 u) (ix2 a b)
      = u (ix2 a b) + addV B (i 1).val 0 (row j a) b := by
  pointwise [k0_pay219, k0_pay218, kernelRun0_B.sl.r_41, k0_pay179]
  simp only [w_e0 arg2 harg2 arg3 harg3 arg7 harg7 B i j hj, rd_late arg6 _ 0 (off := ![256, 0]) _ rfl,
      Memref.IsWhole.read_unread]
  rw [addV_late B _ _ (row j a) b (by show 512 * (i 1).val + 256 ≤ 256 * j.val + a.val; omega)]

/-- The value gradients stored for head 1. -/
theorem v_e1 (B : Blocks) (i : grid0.Coords) (j : Fin 16) (hj : j.val = 2 * (i 1).val + 1) (u : Vec Ideal S256x128
    .f32) (a : Fin 256) (b : Fin 128) :
    k0_pay222 (kernelRun0_B.sl.r_42 (F := Ideal) arg6 harg6 B.g) (kernelRun0_B.sl.r_61 (F := Ideal) i arg2 harg2
        arg3 harg3 arg7 harg7 B.q B.k B.lse) u (ix2 a b)
      = u (ix2 a b) + addV B (i 1).val 1 (row j a) b := by
  pointwise [k0_pay222, kernelRun0_B.sl.r_42, k0_pay180]
  simp only [w_e1 arg2 harg2 arg3 harg3 arg7 harg7 B i j hj, rd_late arg6 _ 1 (off := ![256, 128]) _ rfl,
      Memref.IsWhole.read_unread]
  rw [addV_late B _ _ (row j a) b (by show 512 * (i 1).val + 256 ≤ 256 * j.val + a.val; omega)]

/-- The value gradients stored for head 2. -/
theorem v_e2 (B : Blocks) (i : grid0.Coords) (j : Fin 16) (hj : j.val = 2 * (i 1).val + 1) (u : Vec Ideal S256x128
    .f32) (a : Fin 256) (b : Fin 128) :
    k0_pay225 (kernelRun0_B.sl.r_43 (F := Ideal) arg6 harg6 B.g) (kernelRun0_B.sl.r_66 (F := Ideal) i arg2 harg2
        arg3 harg3 arg7 harg7 B.q B.k B.lse) u (ix2 a b)
      = u (ix2 a b) + addV B (i 1).val 2 (row j a) b := by
  pointwise [k0_pay225, kernelRun0_B.sl.r_43, k0_pay181]
  simp only [w_e2 arg2 harg2 arg3 harg3 arg7 harg7 B i j hj, rd_late arg6 _ 2 (off := ![256, 256]) _ rfl,
      Memref.IsWhole.read_unread]
  rw [addV_late B _ _ (row j a) b (by show 512 * (i 1).val + 256 ≤ 256 * j.val + a.val; omega)]

/-- The value gradients stored for head 3. -/
theorem v_e3 (B : Blocks) (i : grid0.Coords) (j : Fin 16) (hj : j.val = 2 * (i 1).val + 1) (u : Vec Ideal S256x128
    .f32) (a : Fin 256) (b : Fin 128) :
    k0_pay229 (kernelRun0_B.sl.r_44 (F := Ideal) arg6 harg6 B.g) (kernelRun0_B.sl.r_68 (F := Ideal) i arg2 harg2
        arg3 harg3 arg7 harg7 B.q B.k B.lse) u (ix2 a b)
      = u (ix2 a b) + addV B (i 1).val 3 (row j a) b := by
  pointwise [k0_pay229, kernelRun0_B.sl.r_44, k0_pay182]
  simp only [w_e3 arg2 harg2 arg3 harg3 arg7 harg7 B i j hj, rd_late arg6 _ 3 (off := ![256, 384]) _ rfl,
      Memref.IsWhole.read_unread]
  rw [addV_late B _ _ (row j a) b (by show 512 * (i 1).val + 256 ≤ 256 * j.val + a.val; omega)]

/-- The key gradients stored for head 0. -/
theorem k_e0 (B : Blocks) (i : grid0.Coords) (j : Fin 16) (hj : j.val = 2 * (i 1).val + 1) (u : Vec Ideal S256x128
    .f32) (a : Fin 256) (b : Fin 128) :
    k0_pay220 (kernelRun0_B.sl.r_37 (F := Ideal) arg2 harg2 B.q) (kernelRun0_B.sl.r_58 (F := Ideal) i arg2 harg2
        arg3 harg3 arg4 harg4 arg6 harg6 arg7 harg7 arg8 harg8 B.q B.k B.v B.g B.lse B.dl) u (ix2 a b)
      = u (ix2 a b) + addK B (i 1).val 0 (row j a) b := by
  pointwise [k0_pay220, kernelRun0_B.sl.r_37, k0_pay175]
  simp only [s_e0 arg2 harg2 arg3 harg3 arg4 harg4 arg6 harg6 arg7 harg7 arg8 harg8 B i j hj, rd_late arg2 _ 0 (off
      := ![256, 0]) _ rfl, Memref.IsWhole.read_unread]
  rw [addK_late B _ _ (row j a) b (by show 512 * (i 1).val + 256 ≤ 256 * j.val + a.val; omega)]

/-- The key gradients stored for head 1. -/
theorem k_e1 (B : Blocks) (i : grid0.Coords) (j : Fin 16) (hj : j.val = 2 * (i 1).val + 1) (u : Vec Ideal S256x128
    .f32) (a : Fin 256) (b : Fin 128) :
    k0_pay223 (kernelRun0_B.sl.r_38 (F := Ideal) arg2 harg2 B.q) (kernelRun0_B.sl.r_62 (F := Ideal) i arg2 harg2
        arg3 harg3 arg4 harg4 arg6 harg6 arg7 harg7 arg8 harg8 B.q B.k B.v B.g B.lse B.dl) u (ix2 a b)
      = u (ix2 a b) + addK B (i 1).val 1 (row j a) b := by
  pointwise [k0_pay223, kernelRun0_B.sl.r_38, k0_pay176]
  simp only [s_e1 arg2 harg2 arg3 harg3 arg4 harg4 arg6 harg6 arg7 harg7 arg8 harg8 B i j hj, rd_late arg2 _ 1 (off
      := ![256, 128]) _ rfl, Memref.IsWhole.read_unread]
  rw [addK_late B _ _ (row j a) b (by show 512 * (i 1).val + 256 ≤ 256 * j.val + a.val; omega)]

/-- The key gradients stored for head 2. -/
theorem k_e2 (B : Blocks) (i : grid0.Coords) (j : Fin 16) (hj : j.val = 2 * (i 1).val + 1) (u : Vec Ideal S256x128
    .f32) (a : Fin 256) (b : Fin 128) :
    k0_pay226 (kernelRun0_B.sl.r_39 (F := Ideal) arg2 harg2 B.q) (kernelRun0_B.sl.r_67 (F := Ideal) i arg2 harg2
        arg3 harg3 arg4 harg4 arg6 harg6 arg7 harg7 arg8 harg8 B.q B.k B.v B.g B.lse B.dl) u (ix2 a b)
      = u (ix2 a b) + addK B (i 1).val 2 (row j a) b := by
  pointwise [k0_pay226, kernelRun0_B.sl.r_39, k0_pay177]
  simp only [s_e2 arg2 harg2 arg3 harg3 arg4 harg4 arg6 harg6 arg7 harg7 arg8 harg8 B i j hj, rd_late arg2 _ 2 (off
      := ![256, 256]) _ rfl, Memref.IsWhole.read_unread]
  rw [addK_late B _ _ (row j a) b (by show 512 * (i 1).val + 256 ≤ 256 * j.val + a.val; omega)]

/-- The key gradients stored for head 3. -/
theorem k_e3 (B : Blocks) (i : grid0.Coords) (j : Fin 16) (hj : j.val = 2 * (i 1).val + 1) (u : Vec Ideal S256x128
    .f32) (a : Fin 256) (b : Fin 128) :
    k0_pay230 (kernelRun0_B.sl.r_40 (F := Ideal) arg2 harg2 B.q) (kernelRun0_B.sl.r_69 (F := Ideal) i arg2 harg2
        arg3 harg3 arg4 harg4 arg6 harg6 arg7 harg7 arg8 harg8 B.q B.k B.v B.g B.lse B.dl) u (ix2 a b)
      = u (ix2 a b) + addK B (i 1).val 3 (row j a) b := by
  pointwise [k0_pay230, kernelRun0_B.sl.r_40, k0_pay178]
  simp only [s_e3 arg2 harg2 arg3 harg3 arg4 harg4 arg6 harg6 arg7 harg7 arg8 harg8 B i j hj, rd_late arg2 _ 3 (off
      := ![256, 384]) _ rfl, Memref.IsWhole.read_unread]
  rw [addK_late B _ _ (row j a) b (by show 512 * (i 1).val + 256 ≤ 256 * j.val + a.val; omega)]

/-- The query gradients stored for head 0. -/
theorem q_e0 (B : Blocks) (i : grid0.Coords) (j : Fin 16) (hj : j.val = 2 * (i 1).val + 1) (u : Vec Ideal
    S1x128x256 .f32)
    (inb : ∀ a : Fin 3, (k0_off21 i 1#32) a + S1x128x256.size a ≤ S16x512x256.size a) (b : Fin 128) (q : Fin 256) :
    k0_pay221 (kernelRun0_B.sl.r_58 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off21 i 1#32) S1x128x256.size inb).toLoadRect (harg5.unread B.kt)) (ix3 0 b q)
      = u (ix3 0 b q) + addQ B (i 1).val j 0 b (late q) := by
  have hk : k0_off21 i 1#32 = ![j.val, 128 * (0 : Fin 4).val, 0] := by rw [hj]; exact off_et0 i
  pointwise [k0_pay221]
  simp only [s_e0 arg2 harg2 arg3 harg3 arg4 harg4 arg6 harg6 arg7 harg7 arg8 harg8 B i j hj, rd_kt arg5 _ j 0 _
      hk, Memref.IsWhole.read_unread]
  rfl

/-- The query gradients stored for head 1. -/
theorem q_e1 (B : Blocks) (i : grid0.Coords) (j : Fin 16) (hj : j.val = 2 * (i 1).val + 1) (u : Vec Ideal
    S1x128x256 .f32)
    (inb : ∀ a : Fin 3, (k0_off22 i 1#32) a + S1x128x256.size a ≤ S16x512x256.size a) (b : Fin 128) (q : Fin 256) :
    k0_pay224 (kernelRun0_B.sl.r_62 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off22 i 1#32) S1x128x256.size inb).toLoadRect (harg5.unread B.kt)) (ix3 0 b q)
      = u (ix3 0 b q) + addQ B (i 1).val j 1 b (late q) := by
  have hk : k0_off22 i 1#32 = ![j.val, 128 * (1 : Fin 4).val, 0] := by rw [hj]; exact off_et1 i
  pointwise [k0_pay224]
  simp only [s_e1 arg2 harg2 arg3 harg3 arg4 harg4 arg6 harg6 arg7 harg7 arg8 harg8 B i j hj, rd_kt arg5 _ j 1 _
      hk, Memref.IsWhole.read_unread]
  rfl

/-- The query gradients stored for head 2. -/
theorem q_e2 (B : Blocks) (i : grid0.Coords) (j : Fin 16) (hj : j.val = 2 * (i 1).val + 1) (u : Vec Ideal
    S1x128x256 .f32)
    (inb : ∀ a : Fin 3, (k0_off23 i 1#32) a + S1x128x256.size a ≤ S16x512x256.size a) (b : Fin 128) (q : Fin 256) :
    k0_pay228 (k0_pay227 (kernelRun0_B.sl.r_67 (F := Ideal) i arg2 harg2 arg3 harg3 arg4 harg4 arg6 harg6 arg7
        harg7 arg8 harg8 B.q B.k B.v B.g B.lse B.dl) u (View.readAt (Elt Ideal) arg5.view (Rect.unit (s :=
        S16x512x256) (k0_off23 i 1#32) S1x128x256.size inb).toLoadRect (harg5.unread B.kt))) (ix3 0 b q)
      = u (ix3 0 b q) + addQ B (i 1).val j 2 b (late q) := by
  have hk : k0_off23 i 1#32 = ![j.val, 128 * (2 : Fin 4).val, 0] := by rw [hj]; exact off_et2 i
  pointwise [k0_pay228, k0_pay227]
  simp only [s_e2 arg2 harg2 arg3 harg3 arg4 harg4 arg6 harg6 arg7 harg7 arg8 harg8 B i j hj, rd_kt arg5 _ j 2 _
      hk, Memref.IsWhole.read_unread]
  rfl

/-- The query gradients stored for head 3. -/
theorem q_e3 (B : Blocks) (i : grid0.Coords) (j : Fin 16) (hj : j.val = 2 * (i 1).val + 1) (u : Vec Ideal
    S1x128x256 .f32)
    (inb : ∀ a : Fin 3, (k0_off24 i 1#32) a + S1x128x256.size a ≤ S16x512x256.size a) (b : Fin 128) (q : Fin 256) :
    k0_pay231 (kernelRun0_B.sl.r_69 (F := Ideal) i arg2 harg2 arg3 harg3 arg4 harg4 arg6 harg6 arg7 harg7 arg8
        harg8 B.q B.k B.v B.g B.lse B.dl) u (View.readAt (Elt Ideal) arg5.view (Rect.unit (s := S16x512x256)
        (k0_off24 i 1#32) S1x128x256.size inb).toLoadRect (harg5.unread B.kt)) (ix3 0 b q)
      = u (ix3 0 b q) + addQ B (i 1).val j 3 b (late q) := by
  have hk : k0_off24 i 1#32 = ![j.val, 128 * (3 : Fin 4).val, 0] := by rw [hj]; exact off_et3 i
  pointwise [k0_pay231]
  simp only [s_e3 arg2 harg2 arg3 harg3 arg4 harg4 arg6 harg6 arg7 harg7 arg8 harg8 B i j hj, rd_kt arg5 _ j 3 _
      hk, Memref.IsWhole.read_unread]
  rfl

end Cert.Fox

end
-- ==== Proof.Fox.SumFirst.lean ====
module

public import proofs.«01_k».proof.Proof.Fox.MatFirst

/-!
# Forgetting attention backward: sums stored for the first tile on the diagonal

Each store adds sums of the score gradients, over the keys or lane by lane over the queries, to what it loads.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
    Memref sig .tc .vmem S512x512 .f32) (harg6 : arg6.IsWhole) (arg7 : Memref sig .tc .vmem S4x1x1x512 .f32) (harg7
    : arg7.IsWhole) (arg8 : Memref sig .tc .vmem S4x1x1x512 .f32) (harg8 : arg8.IsWhole)

/-- The score gradients of head 0 before their rounding. -/
theorem y_d0 (B : Blocks) (i : grid0.Coords) (j : Fin 16) (hj : j.val = 2 * (i 1).val) (inb : ∀ a : Fin 2,
    (k0_off17 i 0#32) a + S256x128.size a ≤ S4096x512.size a) :
    k0_pay134 (k0_pay117 i) (kernelRun0_B.sl.r_4 (F := Ideal) arg6 harg6 B.g) (kernelRun0_B.sl.r_8 (F := Ideal) i
        arg2 harg2 arg3 harg3 B.q B.k) (View.readAt (Elt Ideal) arg4.view (Rect.unit (s := S4096x512) (k0_off17 i
        0#32) S256x128.size inb).toLoadRect (harg4.unread B.v)) (View.readAt (Elt Ideal) arg7.view (Rect.unit (s :=
        S4x1x1x512) ![0, 0, 0, 0] S1x1x1x512.size inb_S4x1x1x512_S1x1x1x512_0_0_0_0).toLoadRect (harg7.unread
        B.lse)) (View.readAt (Elt Ideal) arg8.view (Rect.unit (s := S4x1x1x512) ![0, 0, 0, 0] S1x1x1x512.size
        inb_S4x1x1x512_S1x1x1x512_0_0_0_0).toLoadRect (harg8.unread B.dl))
      = fun y => dscore B (i 1).val 0 (row j (y 0)) (y 1) :=
  funext fun y => (congrArg _ (eq_ix2 y)).trans (s_d0 arg2 harg2 arg3 harg3 arg4 harg4 arg6 harg6 arg7 harg7 arg8
      harg8 B i j hj (y 0) (y 1))

/-- The partial sums over the queries stored for head 0. -/
theorem c_d0 (B : Blocks) (i : grid0.Coords) (j : Fin 16) (hj : j.val = 2 * (i 1).val) (inb : ∀ a : Fin 2,
    (k0_off17 i 0#32) a + S256x128.size a ≤ S4096x512.size a) (u : Vec Ideal S256x128 .f32) (a : Fin 256) (b : Fin
    128) :
    k0_pay135 (k0_pay117 i) (kernelRun0_B.sl.r_4 (F := Ideal) arg6 harg6 B.g) (kernelRun0_B.sl.r_8 (F := Ideal) i
        arg2 harg2 arg3 harg3 B.q B.k) (View.readAt (Elt Ideal) arg4.view (Rect.unit (s := S4096x512) (k0_off17 i
        0#32) S256x128.size inb).toLoadRect (harg4.unread B.v)) (View.readAt (Elt Ideal) arg7.view (Rect.unit (s :=
        S4x1x1x512) ![0, 0, 0, 0] S1x1x1x512.size inb_S4x1x1x512_S1x1x1x512_0_0_0_0).toLoadRect (harg7.unread
        B.lse)) (View.readAt (Elt Ideal) arg8.view (Rect.unit (s := S4x1x1x512) ![0, 0, 0, 0] S1x1x1x512.size
        inb_S4x1x1x512_S1x1x1x512_0_0_0_0).toLoadRect (harg8.unread B.dl)) u (ix2 a b)
      = u (ix2 a b) + addC B (i 1).val 0 (row j a) b := by
  have hX := y_d0 arg2 harg2 arg3 harg3 arg4 harg4 arg6 harg6 arg7 harg7 arg8 harg8 B i j hj inb
  pointwise [k0_pay135]
  rw [hX, sub_eq_add_neg]
  rw [addC_eq]
  rfl

/-- The sums over the keys stored for head 0. -/
theorem r_d0 (B : Blocks) (i : grid0.Coords) (j : Fin 16) (hj : j.val = 2 * (i 1).val) (u : Vec Ideal S1x1x512
    .f32) (q : Fin 512) :
    k0_pay136 (kernelRun0_B.sl.r_16 (F := Ideal) i arg2 harg2 arg3 harg3 arg4 harg4 arg6 harg6 arg7 harg7 arg8
        harg8 B.q B.k B.v B.g B.lse B.dl) u (ix3 0 0 q)
      = u (ix3 0 0 q) + addR B (i 1).val j 0 q := by
  have hX : (kernelRun0_B.sl.r_16 (F := Ideal) i arg2 harg2 arg3 harg3 arg4 harg4 arg6 harg6 arg7 harg7 arg8 harg8
      B.q B.k B.v B.g B.lse B.dl) = fun y => dscore B (i 1).val 0 (row j (y 0)) (y 1) :=
    funext fun y => (congrArg _ (eq_ix2 y)).trans (s_d0 arg2 harg2 arg3 harg3 arg4 harg4 arg6 harg6 arg7 harg7 arg8
        harg8 B i j hj (y 0) (y 1))
  pointwise [k0_pay136]
  rw [hX]
  rfl

/-- The score gradients of head 1 before their rounding. -/
theorem y_d1 (B : Blocks) (i : grid0.Coords) (j : Fin 16) (hj : j.val = 2 * (i 1).val) :
    k0_pay140 (k0_pay117 i) (kernelRun0_B.sl.r_9 (F := Ideal) i arg2 harg2 arg3 harg3 B.q B.k)
        (kernelRun0_B.sl.r_12 (F := Ideal) i arg4 harg4 arg6 harg6 B.v B.g) (View.readAt (Elt Ideal) arg7.view
        (Rect.unit (s := S4x1x1x512) ![1, 0, 0, 0] S1x1x1x512.size inb_S4x1x1x512_S1x1x1x512_1_0_0_0).toLoadRect
        (harg7.unread B.lse)) (View.readAt (Elt Ideal) arg8.view (Rect.unit (s := S4x1x1x512) ![1, 0, 0, 0]
        S1x1x1x512.size inb_S4x1x1x512_S1x1x1x512_1_0_0_0).toLoadRect (harg8.unread B.dl))
      = fun y => dscore B (i 1).val 1 (row j (y 0)) (y 1) :=
  funext fun y => (congrArg _ (eq_ix2 y)).trans (s_d1 arg2 harg2 arg3 harg3 arg4 harg4 arg6 harg6 arg7 harg7 arg8
      harg8 B i j hj (y 0) (y 1))

/-- The partial sums over the queries stored for head 1. -/
theorem c_d1 (B : Blocks) (i : grid0.Coords) (j : Fin 16) (hj : j.val = 2 * (i 1).val) (u : Vec Ideal S256x128
    .f32) (a : Fin 256) (b : Fin 128) :
    k0_pay141 (k0_pay117 i) (kernelRun0_B.sl.r_9 (F := Ideal) i arg2 harg2 arg3 harg3 B.q B.k)
        (kernelRun0_B.sl.r_12 (F := Ideal) i arg4 harg4 arg6 harg6 B.v B.g) (View.readAt (Elt Ideal) arg7.view
        (Rect.unit (s := S4x1x1x512) ![1, 0, 0, 0] S1x1x1x512.size inb_S4x1x1x512_S1x1x1x512_1_0_0_0).toLoadRect
        (harg7.unread B.lse)) (View.readAt (Elt Ideal) arg8.view (Rect.unit (s := S4x1x1x512) ![1, 0, 0, 0]
        S1x1x1x512.size inb_S4x1x1x512_S1x1x1x512_1_0_0_0).toLoadRect (harg8.unread B.dl)) u (ix2 a b)
      = u (ix2 a b) + addC B (i 1).val 1 (row j a) b := by
  have hX := y_d1 arg2 harg2 arg3 harg3 arg4 harg4 arg6 harg6 arg7 harg7 arg8 harg8 B i j hj
  pointwise [k0_pay141]
  rw [hX, sub_eq_add_neg]
  rw [addC_eq]
  rfl

/-- The sums over the keys stored for head 1. -/
theorem r_d1 (B : Blocks) (i : grid0.Coords) (j : Fin 16) (hj : j.val = 2 * (i 1).val) (u : Vec Ideal S1x1x512
    .f32) (q : Fin 512) :
    k0_pay143 (kernelRun0_B.sl.r_20 (F := Ideal) i arg2 harg2 arg3 harg3 arg4 harg4 arg6 harg6 arg7 harg7 arg8
        harg8 B.q B.k B.v B.g B.lse B.dl) (k0_pay142 u) (ix3 0 0 q)
      = u (ix3 0 0 q) + addR B (i 1).val j 1 q := by
  have hX : (kernelRun0_B.sl.r_20 (F := Ideal) i arg2 harg2 arg3 harg3 arg4 harg4 arg6 harg6 arg7 harg7 arg8 harg8
      B.q B.k B.v B.g B.lse B.dl) = fun y => dscore B (i 1).val 1 (row j (y 0)) (y 1) :=
    funext fun y => (congrArg _ (eq_ix2 y)).trans (s_d1 arg2 harg2 arg3 harg3 arg4 harg4 arg6 harg6 arg7 harg7 arg8
        harg8 B i j hj (y 0) (y 1))
  pointwise [k0_pay143, k0_pay142]
  rw [hX]
  rfl

/-- The score gradients of head 2 before their rounding. -/
theorem y_d2 (B : Blocks) (i : grid0.Coords) (j : Fin 16) (hj : j.val = 2 * (i 1).val) :
    k0_pay147 (k0_pay117 i) (kernelRun0_B.sl.r_10 (F := Ideal) i arg2 harg2 arg3 harg3 B.q B.k)
        (kernelRun0_B.sl.r_13 (F := Ideal) i arg4 harg4 arg6 harg6 B.v B.g) (View.readAt (Elt Ideal) arg7.view
        (Rect.unit (s := S4x1x1x512) ![2, 0, 0, 0] S1x1x1x512.size inb_S4x1x1x512_S1x1x1x512_2_0_0_0).toLoadRect
        (harg7.unread B.lse)) (View.readAt (Elt Ideal) arg8.view (Rect.unit (s := S4x1x1x512) ![2, 0, 0, 0]
        S1x1x1x512.size inb_S4x1x1x512_S1x1x1x512_2_0_0_0).toLoadRect (harg8.unread B.dl))
      = fun y => dscore B (i 1).val 2 (row j (y 0)) (y 1) :=
  funext fun y => (congrArg _ (eq_ix2 y)).trans (s_d2 arg2 harg2 arg3 harg3 arg4 harg4 arg6 harg6 arg7 harg7 arg8
      harg8 B i j hj (y 0) (y 1))

/-- The partial sums over the queries stored for head 2. -/
theorem c_d2 (B : Blocks) (i : grid0.Coords) (j : Fin 16) (hj : j.val = 2 * (i 1).val) (u : Vec Ideal S256x128
    .f32) (a : Fin 256) (b : Fin 128) :
    k0_pay148 (k0_pay117 i) (kernelRun0_B.sl.r_10 (F := Ideal) i arg2 harg2 arg3 harg3 B.q B.k)
        (kernelRun0_B.sl.r_13 (F := Ideal) i arg4 harg4 arg6 harg6 B.v B.g) (View.readAt (Elt Ideal) arg7.view
        (Rect.unit (s := S4x1x1x512) ![2, 0, 0, 0] S1x1x1x512.size inb_S4x1x1x512_S1x1x1x512_2_0_0_0).toLoadRect
        (harg7.unread B.lse)) (View.readAt (Elt Ideal) arg8.view (Rect.unit (s := S4x1x1x512) ![2, 0, 0, 0]
        S1x1x1x512.size inb_S4x1x1x512_S1x1x1x512_2_0_0_0).toLoadRect (harg8.unread B.dl)) u (ix2 a b)
      = u (ix2 a b) + addC B (i 1).val 2 (row j a) b := by
  have hX := y_d2 arg2 harg2 arg3 harg3 arg4 harg4 arg6 harg6 arg7 harg7 arg8 harg8 B i j hj
  pointwise [k0_pay148]
  rw [hX, sub_eq_add_neg]
  rw [addC_eq]
  rfl

/-- The sums over the keys stored for head 2. -/
theorem r_d2 (B : Blocks) (i : grid0.Coords) (j : Fin 16) (hj : j.val = 2 * (i 1).val) (u : Vec Ideal S1x1x512
    .f32) (q : Fin 512) :
    k0_pay150 (k0_pay149 (k0_pay117 i) (kernelRun0_B.sl.r_10 (F := Ideal) i arg2 harg2 arg3 harg3 B.q B.k)
        (kernelRun0_B.sl.r_13 (F := Ideal) i arg4 harg4 arg6 harg6 B.v B.g) (View.readAt (Elt Ideal) arg7.view
        (Rect.unit (s := S4x1x1x512) ![2, 0, 0, 0] S1x1x1x512.size inb_S4x1x1x512_S1x1x1x512_2_0_0_0).toLoadRect
        (harg7.unread B.lse)) (View.readAt (Elt Ideal) arg8.view (Rect.unit (s := S4x1x1x512) ![2, 0, 0, 0]
        S1x1x1x512.size inb_S4x1x1x512_S1x1x1x512_2_0_0_0).toLoadRect (harg8.unread B.dl)) u) (ix3 0 0 q)
      = u (ix3 0 0 q) + addR B (i 1).val j 2 q := by
  have hX := y_d2 arg2 harg2 arg3 harg3 arg4 harg4 arg6 harg6 arg7 harg7 arg8 harg8 B i j hj
  pointwise [k0_pay150, k0_pay149]
  rw [hX]
  rfl

/-- The score gradients of head 3 before their rounding. -/
theorem y_d3 (B : Blocks) (i : grid0.Coords) (j : Fin 16) (hj : j.val = 2 * (i 1).val) :
    k0_pay154 (k0_pay117 i) (kernelRun0_B.sl.r_11 (F := Ideal) i arg2 harg2 arg3 harg3 B.q B.k)
        (kernelRun0_B.sl.r_14 (F := Ideal) i arg4 harg4 arg6 harg6 B.v B.g) (View.readAt (Elt Ideal) arg7.view
        (Rect.unit (s := S4x1x1x512) ![3, 0, 0, 0] S1x1x1x512.size inb_S4x1x1x512_S1x1x1x512_3_0_0_0).toLoadRect
        (harg7.unread B.lse)) (View.readAt (Elt Ideal) arg8.view (Rect.unit (s := S4x1x1x512) ![3, 0, 0, 0]
        S1x1x1x512.size inb_S4x1x1x512_S1x1x1x512_3_0_0_0).toLoadRect (harg8.unread B.dl))
      = fun y => dscore B (i 1).val 3 (row j (y 0)) (y 1) :=
  funext fun y => (congrArg _ (eq_ix2 y)).trans (s_d3 arg2 harg2 arg3 harg3 arg4 harg4 arg6 harg6 arg7 harg7 arg8
      harg8 B i j hj (y 0) (y 1))

/-- The partial sums over the queries stored for head 3. -/
theorem c_d3 (B : Blocks) (i : grid0.Coords) (j : Fin 16) (hj : j.val = 2 * (i 1).val) (u : Vec Ideal S256x128
    .f32) (a : Fin 256) (b : Fin 128) :
    k0_pay155 (k0_pay117 i) (kernelRun0_B.sl.r_11 (F := Ideal) i arg2 harg2 arg3 harg3 B.q B.k)
        (kernelRun0_B.sl.r_14 (F := Ideal) i arg4 harg4 arg6 harg6 B.v B.g) (View.readAt (Elt Ideal) arg7.view
        (Rect.unit (s := S4x1x1x512) ![3, 0, 0, 0] S1x1x1x512.size inb_S4x1x1x512_S1x1x1x512_3_0_0_0).toLoadRect
        (harg7.unread B.lse)) (View.readAt (Elt Ideal) arg8.view (Rect.unit (s := S4x1x1x512) ![3, 0, 0, 0]
        S1x1x1x512.size inb_S4x1x1x512_S1x1x1x512_3_0_0_0).toLoadRect (harg8.unread B.dl)) u (ix2 a b)
      = u (ix2 a b) + addC B (i 1).val 3 (row j a) b := by
  have hX := y_d3 arg2 harg2 arg3 harg3 arg4 harg4 arg6 harg6 arg7 harg7 arg8 harg8 B i j hj
  pointwise [k0_pay155]
  rw [hX, sub_eq_add_neg]
  rw [addC_eq]
  rfl

/-- The sums over the keys stored for head 3. -/
theorem r_d3 (B : Blocks) (i : grid0.Coords) (j : Fin 16) (hj : j.val = 2 * (i 1).val) (u : Vec Ideal S1x1x512
    .f32) (q : Fin 512) :
    k0_pay156 (k0_pay117 i) (kernelRun0_B.sl.r_11 (F := Ideal) i arg2 harg2 arg3 harg3 B.q B.k)
        (kernelRun0_B.sl.r_14 (F := Ideal) i arg4 harg4 arg6 harg6 B.v B.g) (View.readAt (Elt Ideal) arg7.view
        (Rect.unit (s := S4x1x1x512) ![3, 0, 0, 0] S1x1x1x512.size inb_S4x1x1x512_S1x1x1x512_3_0_0_0).toLoadRect
        (harg7.unread B.lse)) (View.readAt (Elt Ideal) arg8.view (Rect.unit (s := S4x1x1x512) ![3, 0, 0, 0]
        S1x1x1x512.size inb_S4x1x1x512_S1x1x1x512_3_0_0_0).toLoadRect (harg8.unread B.dl)) u (ix3 0 0 q)
      = u (ix3 0 0 q) + addR B (i 1).val j 3 q := by
  have hX := y_d3 arg2 harg2 arg3 harg3 arg4 harg4 arg6 harg6 arg7 harg7 arg8 harg8 B i j hj
  pointwise [k0_pay156]
  rw [hX]
  rfl

end Cert.Fox

end
-- ==== Proof.Fox.SumSecond.lean ====
module

public import proofs.«01_k».proof.Proof.Fox.MatSecond
public import proofs.«01_k».proof.Proof.Fox.Sums

/-!
# Forgetting attention backward: sums stored for the second tile on the diagonal

Each store adds sums of the score gradients, over the keys or lane by lane over the queries, to what it loads.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg6 :
    Memref sig .tc .vmem S512x512 .f32) (harg6 : arg6.IsWhole) (arg7 : Memref sig .tc .vmem S4x1x1x512 .f32) (harg7
    : arg7.IsWhole) (arg8 : Memref sig .tc .vmem S4x1x1x512 .f32) (harg8 : arg8.IsWhole)

/-- The score gradients of head 0 before their rounding. -/
theorem y_e0 (B : Blocks) (i : grid0.Coords) (j : Fin 16) (hj : j.val = 2 * (i 1).val + 1) (inb : ∀ a : Fin 2,
    (k0_off17 i 1#32) a + S256x128.size a ≤ S4096x512.size a) :
    k0_pay192 (kernelRun0_B.sl.r_36 i) (kernelRun0_B.sl.r_41 (F := Ideal) arg6 harg6 B.g) (kernelRun0_B.sl.r_45 (F
        := Ideal) i arg2 harg2 arg3 harg3 B.q B.k) (View.readAt (Elt Ideal) arg4.view (Rect.unit (s := S4096x512)
        (k0_off17 i 1#32) S256x128.size inb).toLoadRect (harg4.unread B.v)) (View.readAt (Elt Ideal) arg7.view
        (Rect.unit (s := S4x1x1x512) ![0, 0, 0, 256] S1x1x1x256.size
        inb_S4x1x1x512_S1x1x1x256_0_0_0_256).toLoadRect (harg7.unread B.lse)) (View.readAt (Elt Ideal) arg8.view
        (Rect.unit (s := S4x1x1x512) ![0, 0, 0, 256] S1x1x1x256.size
        inb_S4x1x1x512_S1x1x1x256_0_0_0_256).toLoadRect (harg8.unread B.dl))
      = fun y => dscore B (i 1).val 0 (row j (y 0)) (late (y 1)) :=
  funext fun y => (congrArg _ (eq_ix2 y)).trans (s_e0 arg2 harg2 arg3 harg3 arg4 harg4 arg6 harg6 arg7 harg7 arg8
      harg8 B i j hj (y 0) (y 1))

/-- The partial sums over the queries stored for head 0. -/
theorem c_e0 (B : Blocks) (i : grid0.Coords) (j : Fin 16) (hj : j.val = 2 * (i 1).val + 1) (inb : ∀ a : Fin 2,
    (k0_off17 i 1#32) a + S256x128.size a ≤ S4096x512.size a) (u : Vec Ideal S256x128 .f32) (a : Fin 256) (b : Fin
    128) :
    k0_pay195 (k0_pay193 (kernelRun0_B.sl.r_36 i) (kernelRun0_B.sl.r_41 (F := Ideal) arg6 harg6 B.g)
        (kernelRun0_B.sl.r_45 (F := Ideal) i arg2 harg2 arg3 harg3 B.q B.k) (View.readAt (Elt Ideal) arg4.view
        (Rect.unit (s := S4096x512) (k0_off17 i 1#32) S256x128.size inb).toLoadRect (harg4.unread B.v))
        (View.readAt (Elt Ideal) arg7.view (Rect.unit (s := S4x1x1x512) ![0, 0, 0, 256] S1x1x1x256.size
        inb_S4x1x1x512_S1x1x1x256_0_0_0_256).toLoadRect (harg7.unread B.lse)) (View.readAt (Elt Ideal) arg8.view
        (Rect.unit (s := S4x1x1x512) ![0, 0, 0, 256] S1x1x1x256.size
        inb_S4x1x1x512_S1x1x1x256_0_0_0_256).toLoadRect (harg8.unread B.dl))) (k0_pay194 u) (ix2 a b)
      = u (ix2 a b) + addC B (i 1).val 0 (row j a) b := by
  have hX := y_e0 arg2 harg2 arg3 harg3 arg4 harg4 arg6 harg6 arg7 harg7 arg8 harg8 B i j hj inb
  pointwise [k0_pay195, k0_pay193, k0_pay194]
  rw [hX, sub_eq_add_neg]
  rw [addC_halves B _ _ (row j a) b (by show 512 * (i 1).val + 256 ≤ 256 * j.val + a.val; omega)]
  rfl

/-- The sums over the keys stored for head 0. -/
theorem r_e0 (B : Blocks) (i : grid0.Coords) (j : Fin 16) (hj : j.val = 2 * (i 1).val + 1) (u : Vec Ideal S1x1x256
    .f32) (q : Fin 256) :
    k0_pay196 (kernelRun0_B.sl.r_54 (F := Ideal) i arg2 harg2 arg3 harg3 arg4 harg4 arg6 harg6 arg7 harg7 arg8
        harg8 B.q B.k B.v B.g B.lse B.dl) u (ix3 0 0 q)
      = u (ix3 0 0 q) + addR B (i 1).val j 0 (late q) := by
  have hX : (kernelRun0_B.sl.r_54 (F := Ideal) i arg2 harg2 arg3 harg3 arg4 harg4 arg6 harg6 arg7 harg7 arg8 harg8
      B.q B.k B.v B.g B.lse B.dl) = fun y => dscore B (i 1).val 0 (row j (y 0)) (late (y 1)) :=
    funext fun y => (congrArg _ (eq_ix2 y)).trans (s_e0 arg2 harg2 arg3 harg3 arg4 harg4 arg6 harg6 arg7 harg7 arg8
        harg8 B i j hj (y 0) (y 1))
  pointwise [k0_pay196]
  rw [hX]
  rfl

/-- The score gradients of head 1 before their rounding. -/
theorem y_e1 (B : Blocks) (i : grid0.Coords) (j : Fin 16) (hj : j.val = 2 * (i 1).val + 1) :
    k0_pay200 (kernelRun0_B.sl.r_36 i) (kernelRun0_B.sl.r_46 (F := Ideal) i arg2 harg2 arg3 harg3 B.q B.k)
        (kernelRun0_B.sl.r_50 (F := Ideal) i arg4 harg4 arg6 harg6 B.v B.g) (View.readAt (Elt Ideal) arg7.view
        (Rect.unit (s := S4x1x1x512) ![1, 0, 0, 256] S1x1x1x256.size
        inb_S4x1x1x512_S1x1x1x256_1_0_0_256).toLoadRect (harg7.unread B.lse)) (View.readAt (Elt Ideal) arg8.view
        (Rect.unit (s := S4x1x1x512) ![1, 0, 0, 256] S1x1x1x256.size
        inb_S4x1x1x512_S1x1x1x256_1_0_0_256).toLoadRect (harg8.unread B.dl))
      = fun y => dscore B (i 1).val 1 (row j (y 0)) (late (y 1)) :=
  funext fun y => (congrArg _ (eq_ix2 y)).trans (s_e1 arg2 harg2 arg3 harg3 arg4 harg4 arg6 harg6 arg7 harg7 arg8
      harg8 B i j hj (y 0) (y 1))

/-- The partial sums over the queries stored for head 1. -/
theorem c_e1 (B : Blocks) (i : grid0.Coords) (j : Fin 16) (hj : j.val = 2 * (i 1).val + 1) (u : Vec Ideal S256x128
    .f32) (a : Fin 256) (b : Fin 128) :
    k0_pay201 (kernelRun0_B.sl.r_36 i) (kernelRun0_B.sl.r_46 (F := Ideal) i arg2 harg2 arg3 harg3 B.q B.k)
        (kernelRun0_B.sl.r_50 (F := Ideal) i arg4 harg4 arg6 harg6 B.v B.g) (View.readAt (Elt Ideal) arg7.view
        (Rect.unit (s := S4x1x1x512) ![1, 0, 0, 256] S1x1x1x256.size
        inb_S4x1x1x512_S1x1x1x256_1_0_0_256).toLoadRect (harg7.unread B.lse)) (View.readAt (Elt Ideal) arg8.view
        (Rect.unit (s := S4x1x1x512) ![1, 0, 0, 256] S1x1x1x256.size
        inb_S4x1x1x512_S1x1x1x256_1_0_0_256).toLoadRect (harg8.unread B.dl)) u (ix2 a b)
      = u (ix2 a b) + addC B (i 1).val 1 (row j a) b := by
  have hX := y_e1 arg2 harg2 arg3 harg3 arg4 harg4 arg6 harg6 arg7 harg7 arg8 harg8 B i j hj
  pointwise [k0_pay201]
  rw [hX, sub_eq_add_neg]
  rw [addC_halves B _ _ (row j a) b (by show 512 * (i 1).val + 256 ≤ 256 * j.val + a.val; omega)]
  rfl

/-- The sums over the keys stored for head 1. -/
theorem r_e1 (B : Blocks) (i : grid0.Coords) (j : Fin 16) (hj : j.val = 2 * (i 1).val + 1) (u : Vec Ideal S1x1x256
    .f32) (q : Fin 256) :
    k0_pay202 (kernelRun0_B.sl.r_60 (F := Ideal) i arg2 harg2 arg3 harg3 arg4 harg4 arg6 harg6 arg7 harg7 arg8
        harg8 B.q B.k B.v B.g B.lse B.dl) u (ix3 0 0 q)
      = u (ix3 0 0 q) + addR B (i 1).val j 1 (late q) := by
  have hX : (kernelRun0_B.sl.r_60 (F := Ideal) i arg2 harg2 arg3 harg3 arg4 harg4 arg6 harg6 arg7 harg7 arg8 harg8
      B.q B.k B.v B.g B.lse B.dl) = fun y => dscore B (i 1).val 1 (row j (y 0)) (late (y 1)) :=
    funext fun y => (congrArg _ (eq_ix2 y)).trans (s_e1 arg2 harg2 arg3 harg3 arg4 harg4 arg6 harg6 arg7 harg7 arg8
        harg8 B i j hj (y 0) (y 1))
  pointwise [k0_pay202]
  rw [hX]
  rfl

/-- The score gradients of head 2 before their rounding. -/
theorem y_e2 (B : Blocks) (i : grid0.Coords) (j : Fin 16) (hj : j.val = 2 * (i 1).val + 1) :
    k0_pay206 (kernelRun0_B.sl.r_36 i) (kernelRun0_B.sl.r_48 (F := Ideal) i arg2 harg2 arg3 harg3 B.q B.k)
        (kernelRun0_B.sl.r_51 (F := Ideal) i arg4 harg4 arg6 harg6 B.v B.g) (View.readAt (Elt Ideal) arg7.view
        (Rect.unit (s := S4x1x1x512) ![2, 0, 0, 256] S1x1x1x256.size
        inb_S4x1x1x512_S1x1x1x256_2_0_0_256).toLoadRect (harg7.unread B.lse)) (View.readAt (Elt Ideal) arg8.view
        (Rect.unit (s := S4x1x1x512) ![2, 0, 0, 256] S1x1x1x256.size
        inb_S4x1x1x512_S1x1x1x256_2_0_0_256).toLoadRect (harg8.unread B.dl))
      = fun y => dscore B (i 1).val 2 (row j (y 0)) (late (y 1)) :=
  funext fun y => (congrArg _ (eq_ix2 y)).trans (s_e2 arg2 harg2 arg3 harg3 arg4 harg4 arg6 harg6 arg7 harg7 arg8
      harg8 B i j hj (y 0) (y 1))

/-- The partial sums over the queries stored for head 2. -/
theorem c_e2 (B : Blocks) (i : grid0.Coords) (j : Fin 16) (hj : j.val = 2 * (i 1).val + 1) (u : Vec Ideal S256x128
    .f32) (a : Fin 256) (b : Fin 128) :
    k0_pay207 (kernelRun0_B.sl.r_36 i) (kernelRun0_B.sl.r_48 (F := Ideal) i arg2 harg2 arg3 harg3 B.q B.k)
        (kernelRun0_B.sl.r_51 (F := Ideal) i arg4 harg4 arg6 harg6 B.v B.g) (View.readAt (Elt Ideal) arg7.view
        (Rect.unit (s := S4x1x1x512) ![2, 0, 0, 256] S1x1x1x256.size
        inb_S4x1x1x512_S1x1x1x256_2_0_0_256).toLoadRect (harg7.unread B.lse)) (View.readAt (Elt Ideal) arg8.view
        (Rect.unit (s := S4x1x1x512) ![2, 0, 0, 256] S1x1x1x256.size
        inb_S4x1x1x512_S1x1x1x256_2_0_0_256).toLoadRect (harg8.unread B.dl)) u (ix2 a b)
      = u (ix2 a b) + addC B (i 1).val 2 (row j a) b := by
  have hX := y_e2 arg2 harg2 arg3 harg3 arg4 harg4 arg6 harg6 arg7 harg7 arg8 harg8 B i j hj
  pointwise [k0_pay207]
  rw [hX, sub_eq_add_neg]
  rw [addC_halves B _ _ (row j a) b (by show 512 * (i 1).val + 256 ≤ 256 * j.val + a.val; omega)]
  rfl

/-- The sums over the keys stored for head 2. -/
theorem r_e2 (B : Blocks) (i : grid0.Coords) (j : Fin 16) (hj : j.val = 2 * (i 1).val + 1) (u : Vec Ideal S1x1x256
    .f32) (q : Fin 256) :
    k0_pay209 (k0_pay208 (kernelRun0_B.sl.r_36 i) (kernelRun0_B.sl.r_48 (F := Ideal) i arg2 harg2 arg3 harg3 B.q
        B.k) (kernelRun0_B.sl.r_51 (F := Ideal) i arg4 harg4 arg6 harg6 B.v B.g) (View.readAt (Elt Ideal) arg7.view
        (Rect.unit (s := S4x1x1x512) ![2, 0, 0, 256] S1x1x1x256.size
        inb_S4x1x1x512_S1x1x1x256_2_0_0_256).toLoadRect (harg7.unread B.lse)) (View.readAt (Elt Ideal) arg8.view
        (Rect.unit (s := S4x1x1x512) ![2, 0, 0, 256] S1x1x1x256.size
        inb_S4x1x1x512_S1x1x1x256_2_0_0_256).toLoadRect (harg8.unread B.dl)) u) (ix3 0 0 q)
      = u (ix3 0 0 q) + addR B (i 1).val j 2 (late q) := by
  have hX := y_e2 arg2 harg2 arg3 harg3 arg4 harg4 arg6 harg6 arg7 harg7 arg8 harg8 B i j hj
  pointwise [k0_pay209, k0_pay208]
  rw [hX]
  rfl

/-- The score gradients of head 3 before their rounding. -/
theorem y_e3 (B : Blocks) (i : grid0.Coords) (j : Fin 16) (hj : j.val = 2 * (i 1).val + 1) :
    k0_pay213 (kernelRun0_B.sl.r_36 i) (kernelRun0_B.sl.r_49 (F := Ideal) i arg2 harg2 arg3 harg3 B.q B.k)
        (kernelRun0_B.sl.r_52 (F := Ideal) i arg4 harg4 arg6 harg6 B.v B.g) (View.readAt (Elt Ideal) arg7.view
        (Rect.unit (s := S4x1x1x512) ![3, 0, 0, 256] S1x1x1x256.size
        inb_S4x1x1x512_S1x1x1x256_3_0_0_256).toLoadRect (harg7.unread B.lse)) (View.readAt (Elt Ideal) arg8.view
        (Rect.unit (s := S4x1x1x512) ![3, 0, 0, 256] S1x1x1x256.size
        inb_S4x1x1x512_S1x1x1x256_3_0_0_256).toLoadRect (harg8.unread B.dl))
      = fun y => dscore B (i 1).val 3 (row j (y 0)) (late (y 1)) :=
  funext fun y => (congrArg _ (eq_ix2 y)).trans (s_e3 arg2 harg2 arg3 harg3 arg4 harg4 arg6 harg6 arg7 harg7 arg8
      harg8 B i j hj (y 0) (y 1))

/-- The partial sums over the queries stored for head 3. -/
theorem c_e3 (B : Blocks) (i : grid0.Coords) (j : Fin 16) (hj : j.val = 2 * (i 1).val + 1) (u : Vec Ideal S256x128
    .f32) (a : Fin 256) (b : Fin 128) :
    k0_pay214 (kernelRun0_B.sl.r_36 i) (kernelRun0_B.sl.r_49 (F := Ideal) i arg2 harg2 arg3 harg3 B.q B.k)
        (kernelRun0_B.sl.r_52 (F := Ideal) i arg4 harg4 arg6 harg6 B.v B.g) (View.readAt (Elt Ideal) arg7.view
        (Rect.unit (s := S4x1x1x512) ![3, 0, 0, 256] S1x1x1x256.size
        inb_S4x1x1x512_S1x1x1x256_3_0_0_256).toLoadRect (harg7.unread B.lse)) (View.readAt (Elt Ideal) arg8.view
        (Rect.unit (s := S4x1x1x512) ![3, 0, 0, 256] S1x1x1x256.size
        inb_S4x1x1x512_S1x1x1x256_3_0_0_256).toLoadRect (harg8.unread B.dl)) u (ix2 a b)
      = u (ix2 a b) + addC B (i 1).val 3 (row j a) b := by
  have hX := y_e3 arg2 harg2 arg3 harg3 arg4 harg4 arg6 harg6 arg7 harg7 arg8 harg8 B i j hj
  pointwise [k0_pay214]
  rw [hX, sub_eq_add_neg]
  rw [addC_halves B _ _ (row j a) b (by show 512 * (i 1).val + 256 ≤ 256 * j.val + a.val; omega)]
  rfl

/-- The sums over the keys stored for head 3. -/
theorem r_e3 (B : Blocks) (i : grid0.Coords) (j : Fin 16) (hj : j.val = 2 * (i 1).val + 1) (u : Vec Ideal S1x1x256
    .f32) (q : Fin 256) :
    k0_pay215 (kernelRun0_B.sl.r_36 i) (kernelRun0_B.sl.r_49 (F := Ideal) i arg2 harg2 arg3 harg3 B.q B.k)
        (kernelRun0_B.sl.r_52 (F := Ideal) i arg4 harg4 arg6 harg6 B.v B.g) (View.readAt (Elt Ideal) arg7.view
        (Rect.unit (s := S4x1x1x512) ![3, 0, 0, 256] S1x1x1x256.size
        inb_S4x1x1x512_S1x1x1x256_3_0_0_256).toLoadRect (harg7.unread B.lse)) (View.readAt (Elt Ideal) arg8.view
        (Rect.unit (s := S4x1x1x512) ![3, 0, 0, 256] S1x1x1x256.size
        inb_S4x1x1x512_S1x1x1x256_3_0_0_256).toLoadRect (harg8.unread B.dl)) u (ix3 0 0 q)
      = u (ix3 0 0 q) + addR B (i 1).val j 3 (late q) := by
  have hX := y_e3 arg2 harg2 arg3 harg3 arg4 harg4 arg6 harg6 arg7 harg7 arg8 harg8 B i j hj
  pointwise [k0_pay215]
  rw [hX]
  rfl

end Cert.Fox

end
-- ==== Proof.Fox.Turn.lean ====
module

public import proofs.«01_k».proof.Proof.Fox.Rows
public import proofs.«01_k».proof.Proof.Gen.Kernel5Ideal.Frame

/-!
# Forgetting attention backward: turning the query gradients

The scratch buffer has queries along columns; what is stored at the end has them along rows.
-/

@[expose] public section
set_option relaxedAutoImplicit false

noncomputable section

namespace Cert.Fox

open Idealize.ShloMosaic Idealize.ShloMosaic.TcCoe Idealize.SL.Sem Cert.Kernel5Ideal Cert.Kernel5Ideal.Gen

variable (u : Vec Ideal S1x128x512 .f32) (q : Fin 512) (d : Fin 128)

theorem turned_0 : k0_pay232 u (ix2 q d) = u (ix3 0 d q) := by pointwise [k0_pay232]
theorem turned_1 : k0_pay235 u (ix2 q d) = u (ix3 0 d q) := by pointwise [k0_pay235]
theorem turned_2 : k0_pay237 u (ix2 q d) = u (ix3 0 d q) := by pointwise [k0_pay237]
theorem turned_3 : k0_pay239 u (ix2 q d) = u (ix3 0 d q) := by pointwise [k0_pay239]

variable (w : Vec Ideal S1x1x512 .f32)

theorem kept_0 : k0_pay234 (k0_pay233 w) (ix4 0 0 0 q) = w (ix3 0 0 q) := by pointwise [k0_pay234, k0_pay233]
theorem kept_1 : k0_pay236 w (ix4 0 0 0 q) = w (ix3 0 0 q) := by pointwise [k0_pay236]
theorem kept_2 : k0_pay238 w (ix4 0 0 0 q) = w (ix3 0 0 q) := by pointwise [k0_pay238]
theorem kept_3 : k0_pay1 w (ix4 0 0 0 q) = w (ix3 0 0 q) := by pointwise [k0_pay1]

end Cert.Fox

end
-- ==== Proof.Fox.RunA.lean ====
module

public import proofs.«01_k».proof.Proof.Fox.Loop
public import proofs.«01_k».proof.Proof.Fox.PieceFirst
public import proofs.«01_k».proof.Proof.Fox.PieceSecond
public import proofs.«01_k».proof.Proof.Fox.SumFirst
public import proofs.«01_k».proof.Proof.Fox.SumSecond
public import proofs.«01_k».proof.Proof.Fox.Turn

/-!
# Forgetting attention backward: the first point

The first point puts zeros into the buffers and then adds its products and sums.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4096x512 .f32) (harg12 :
    arg12.IsWhole) (arg13 : Memref sig .tc .vmem S4x1x1x512 .f32) (harg13 : arg13.IsWhole) (arg14 : Memref sig .tc
    .vmem S4x128x512 .f32) (harg14 : arg14.IsWhole) (arg15 : Memref sig .tc .vmem S4x1x512 .f32) (harg15 :
    arg15.IsWhole)

/-- The key gradients after the point. -/
theorem runA_k (c : Dev nD) (B : Blocks) (i : grid0.Coords) (hc : cond0_0 i) :
    Holds arg10 (arg10.view.writes (Elt Ideal) arg10.view.junk (kernelRun0_A (F := Ideal) c i arg2 harg2 arg3 harg3
        arg4 harg4 arg5 harg5 arg6 harg6 arg7 harg7 arg8 harg8 arg9 harg9 arg10 harg10 arg11 harg11 arg12 harg12
        arg13 harg13 arg14 harg14 arg15 harg15 hc B.q B.k B.v B.kt B.g B.lse B.dl).2.1) (fun h r d => 0 + addK B (i
        1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => 0 + addK B (i 1).val h r d) = bump (bump (upto (fun _ _ _ => 0) (2 * (i 1).val) (addK B (i
      1).val)) j.val (addK B (i 1).val)) l.val (addK B (i 1).val) := by
    rw [hj, hl, bump_upto, bump_upto]
    exact (upto_all (fun _ _ _ => 0) (addK B (i 1).val) _ fun h r d hr => addK_zero B _ h r d (by omega)).symm
  rw [e, ← put4 (bump _ _ _) l]
  unfold kernelRun0_A
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg10 _ _ _ _ _ ?_ l 3 (fun _ _ => (put_ne _ _ _ _ _ _ _ (by decide)).trans ((put_ne _ _ _ _ _ _
      _ (by decide)).trans (put_ne _ _ _ _ _ _ _ (by decide)))) _ p3 _ fun a b => k_e3 arg2 harg2 arg3 harg3 arg4
      harg4 arg6 harg6 arg7 harg7 arg8 harg8 B i l hl _ a b
  refine holds_add arg10 _ _ _ _ _ ?_ l 2 (fun _ _ => (put_ne _ _ _ _ _ _ _ (by decide)).trans (put_ne _ _ _ _ _ _
      _ (by decide))) _ p2 _ fun a b => k_e2 arg2 harg2 arg3 harg3 arg4 harg4 arg6 harg6 arg7 harg7 arg8 harg8 B i
      l hl _ a b
  refine holds_add arg10 _ _ _ _ _ ?_ l 1 (fun _ _ => put_ne _ _ _ _ _ _ _ (by decide)) _ p1 _ fun a b => k_e1 arg2
      harg2 arg3 harg3 arg4 harg4 arg6 harg6 arg7 harg7 arg8 harg8 B i l hl _ a b
  refine holds_add arg10 _ _ _ _ _ ?_ l 0 (fun _ _ => rfl) _ p0 _ fun a b => k_e0 arg2 harg2 arg3 harg3 arg4 harg4
      arg6 harg6 arg7 harg7 arg8 harg8 B i l hl _ a b
  rw [← put4 (upto _ _ _) j]
  refine holds_add arg10 _ _ _ _ _ ?_ j 3 (fun _ _ => (put_ne _ _ _ _ _ _ _ (by decide)).trans ((put_ne _ _ _ _ _ _
      _ (by decide)).trans (put_ne _ _ _ _ _ _ _ (by decide)))) _ o3 _ fun a b => k_d3 arg2 harg2 arg3 harg3 arg4
      harg4 arg6 harg6 arg7 harg7 arg8 harg8 B i j hj _ a b
  refine holds_add arg10 _ _ _ _ _ ?_ j 2 (fun _ _ => (put_ne _ _ _ _ _ _ _ (by decide)).trans (put_ne _ _ _ _ _ _
      _ (by decide))) _ o2 _ fun a b => k_d2 arg2 harg2 arg3 harg3 arg4 harg4 arg6 harg6 arg7 harg7 arg8 harg8 B i
      j hj _ a b
  refine holds_add arg10 _ _ _ _ _ ?_ j 1 (fun _ _ => put_ne _ _ _ _ _ _ _ (by decide)) _ o1 _ fun a b => k_d1 arg2
      harg2 arg3 harg3 arg4 harg4 arg6 harg6 arg7 harg7 arg8 harg8 B i j hj _ a b
  refine holds_add arg10 _ _ _ _ _ ?_ j 0 (fun _ _ => rfl) _ o0 _ fun a b => k_d0 arg2 harg2 arg3 harg3 arg4 harg4
      arg6 harg6 arg7 harg7 arg8 harg8 B i j hj _ a b
  rw [← trips1 i, show Scf.trips (k0_t2_loop i).lb (k0_t2_loop i).ub (k0_t2_loop i).st = 0 from trips2 i]
  show Holds arg10 (arg10.view.writes (Elt Ideal) arg10.view.junk (_ ++ kernelRun0_A.sl.H8_1 (F := Ideal))) _
  rw [View.writes_append]
  refine loop_k arg2 harg2 arg3 harg3 arg4 harg4 arg5 harg5 arg6 harg6 arg7 harg7 arg8 harg8 arg9 harg9 arg10
      harg10 arg11 harg11 arg12 harg12 arg13 harg13 arg14 harg14 arg15 harg15 Variants.none c none B i _ _ _ _ _ _
      ?_ _ le_rfl
  refine holds_zero arg10 _ _ _ fun y => ?_
  pointwise [k0_pay105]

/-- The value gradients after the point. -/
theorem runA_v (c : Dev nD) (B : Blocks) (i : grid0.Coords) (hc : cond0_0 i) :
    Holds arg11 (arg11.view.writes (Elt Ideal) arg11.view.junk (kernelRun0_A (F := Ideal) c i arg2 harg2 arg3 harg3
        arg4 harg4 arg5 harg5 arg6 harg6 arg7 harg7 arg8 harg8 arg9 harg9 arg10 harg10 arg11 harg11 arg12 harg12
        arg13 harg13 arg14 harg14 arg15 harg15 hc B.q B.k B.v B.kt B.g B.lse B.dl).2.2.1) (fun h r d => 0 + addV B
        (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => 0 + addV B (i 1).val h r d) = bump (bump (upto (fun _ _ _ => 0) (2 * (i 1).val) (addV B (i
      1).val)) j.val (addV B (i 1).val)) l.val (addV B (i 1).val) := by
    rw [hj, hl, bump_upto, bump_upto]
    exact (upto_all (fun _ _ _ => 0) (addV B (i 1).val) _ fun h r d hr => addV_zero B _ h r d (by omega)).symm
  rw [e, ← put4 (bump _ _ _) l]
  unfold kernelRun0_A
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg11 _ _ _ _ _ ?_ l 3 (fun _ _ => (put_ne _ _ _ _ _ _ _ (by decide)).trans ((put_ne _ _ _ _ _ _
      _ (by decide)).trans (put_ne _ _ _ _ _ _ _ (by decide)))) _ p3 _ fun a b => v_e3 arg2 harg2 arg3 harg3 arg6
      harg6 arg7 harg7 B i l hl _ a b
  refine holds_add arg11 _ _ _ _ _ ?_ l 2 (fun _ _ => (put_ne _ _ _ _ _ _ _ (by decide)).trans (put_ne _ _ _ _ _ _
      _ (by decide))) _ p2 _ fun a b => v_e2 arg2 harg2 arg3 harg3 arg6 harg6 arg7 harg7 B i l hl _ a b
  refine holds_add arg11 _ _ _ _ _ ?_ l 1 (fun _ _ => put_ne _ _ _ _ _ _ _ (by decide)) _ p1 _ fun a b => v_e1 arg2
      harg2 arg3 harg3 arg6 harg6 arg7 harg7 B i l hl _ a b
  refine holds_add arg11 _ _ _ _ _ ?_ l 0 (fun _ _ => rfl) _ p0 _ fun a b => v_e0 arg2 harg2 arg3 harg3 arg6 harg6
      arg7 harg7 B i l hl _ a b
  rw [← put4 (upto _ _ _) j]
  refine holds_add arg11 _ _ _ _ _ ?_ j 3 (fun _ _ => (put_ne _ _ _ _ _ _ _ (by decide)).trans ((put_ne _ _ _ _ _ _
      _ (by decide)).trans (put_ne _ _ _ _ _ _ _ (by decide)))) _ o3 _ fun a b => v_d3 arg2 harg2 arg3 harg3 arg6
      harg6 arg7 harg7 B i j hj _ a b
  refine holds_add arg11 _ _ _ _ _ ?_ j 2 (fun _ _ => (put_ne _ _ _ _ _ _ _ (by decide)).trans (put_ne _ _ _ _ _ _
      _ (by decide))) _ o2 _ fun a b => v_d2 arg2 harg2 arg3 harg3 arg6 harg6 arg7 harg7 B i j hj _ a b
  refine holds_add arg11 _ _ _ _ _ ?_ j 1 (fun _ _ => put_ne _ _ _ _ _ _ _ (by decide)) _ o1 _ fun a b => v_d1 arg2
      harg2 arg3 harg3 arg6 harg6 arg7 harg7 B i j hj _ a b
  refine holds_add arg11 _ _ _ _ _ ?_ j 0 (fun _ _ => rfl) _ o0 _ fun a b => v_d0 arg2 harg2 arg3 harg3 arg6 harg6
      arg7 harg7 B i j hj _ a b
  rw [← trips1 i, show Scf.trips (k0_t2_loop i).lb (k0_t2_loop i).ub (k0_t2_loop i).st = 0 from trips2 i]
  show Holds arg11 (arg11.view.writes (Elt Ideal) arg11.view.junk (_ ++ kernelRun0_A.sl.H9_1 (F := Ideal))) _
  rw [View.writes_append]
  refine loop_v arg2 harg2 arg3 harg3 arg4 harg4 arg5 harg5 arg6 harg6 arg7 harg7 arg8 harg8 arg9 harg9 arg10
      harg10 arg11 harg11 arg12 harg12 arg13 harg13 arg14 harg14 arg15 harg15 Variants.none c none B i _ _ _ _ _ _
      ?_ _ le_rfl
  refine holds_zero arg11 _ _ _ fun y => ?_
  pointwise [k0_pay106]

set_option maxHeartbeats 1000000 in
/-- The lanes of the gate gradients after the point. -/
theorem runA_c (c : Dev nD) (B : Blocks) (i : grid0.Coords) (hc : cond0_0 i) :
    Holds arg12 (arg12.view.writes (Elt Ideal) arg12.view.junk (kernelRun0_A (F := Ideal) c i arg2 harg2 arg3 harg3
        arg4 harg4 arg5 harg5 arg6 harg6 arg7 harg7 arg8 harg8 arg9 harg9 arg10 harg10 arg11 harg11 arg12 harg12
        arg13 harg13 arg14 harg14 arg15 harg15 hc B.q B.k B.v B.kt B.g B.lse B.dl).2.2.2.1) (fun h r d => 0 + addC
        B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => 0 + addC B (i 1).val h r d) = bump (bump (upto (fun _ _ _ => 0) (2 * (i 1).val) (addC B (i
      1).val)) j.val (addC B (i 1).val)) l.val (addC B (i 1).val) := by
    rw [hj, hl, bump_upto, bump_upto]
    exact (upto_all (fun _ _ _ => 0) (addC B (i 1).val) _ fun h r d hr => addC_zero B _ h r d (by omega)).symm
  rw [e, ← put4 (bump _ _ _) l]
  unfold kernelRun0_A
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg12 _ _ _ _ _ ?_ l 3 (fun _ _ => (put_ne _ _ _ _ _ _ _ (by decide)).trans ((put_ne _ _ _ _ _ _
      _ (by decide)).trans (put_ne _ _ _ _ _ _ _ (by decide)))) _ p3 _ fun a b => c_e3 arg2 harg2 arg3 harg3 arg4
      harg4 arg6 harg6 arg7 harg7 arg8 harg8 B i l hl _ a b
  refine holds_add arg12 _ _ _ _ _ ?_ l 2 (fun _ _ => (put_ne _ _ _ _ _ _ _ (by decide)).trans (put_ne _ _ _ _ _ _
      _ (by decide))) _ p2 _ fun a b => c_e2 arg2 harg2 arg3 harg3 arg4 harg4 arg6 harg6 arg7 harg7 arg8 harg8 B i
      l hl _ a b
  refine holds_add arg12 _ _ _ _ _ ?_ l 1 (fun _ _ => put_ne _ _ _ _ _ _ _ (by decide)) _ p1 _ fun a b => c_e1 arg2
      harg2 arg3 harg3 arg4 harg4 arg6 harg6 arg7 harg7 arg8 harg8 B i l hl _ a b
  refine holds_add arg12 _ _ _ _ _ ?_ l 0 (fun _ _ => rfl) _ p0 _ fun a b => c_e0 arg2 harg2 arg3 harg3 arg4 harg4
      arg6 harg6 arg7 harg7 arg8 harg8 B i l hl _ _ a b
  rw [← put4 (upto _ _ _) j]
  refine holds_add arg12 _ _ _ _ _ ?_ j 3 (fun _ _ => (put_ne _ _ _ _ _ _ _ (by decide)).trans ((put_ne _ _ _ _ _ _
      _ (by decide)).trans (put_ne _ _ _ _ _ _ _ (by decide)))) _ o3 _ fun a b => c_d3 arg2 harg2 arg3 harg3 arg4
      harg4 arg6 harg6 arg7 harg7 arg8 harg8 B i j hj _ a b
  refine holds_add arg12 _ _ _ _ _ ?_ j 2 (fun _ _ => (put_ne _ _ _ _ _ _ _ (by decide)).trans (put_ne _ _ _ _ _ _
      _ (by decide))) _ o2 _ fun a b => c_d2 arg2 harg2 arg3 harg3 arg4 harg4 arg6 harg6 arg7 harg7 arg8 harg8 B i
      j hj _ a b
  refine holds_add arg12 _ _ _ _ _ ?_ j 1 (fun _ _ => put_ne _ _ _ _ _ _ _ (by decide)) _ o1 _ fun a b => c_d1 arg2
      harg2 arg3 harg3 arg4 harg4 arg6 harg6 arg7 harg7 arg8 harg8 B i j hj _ a b
  refine holds_add arg12 _ _ _ _ _ ?_ j 0 (fun _ _ => rfl) _ o0 _ fun a b => c_d0 arg2 harg2 arg3 harg3 arg4 harg4
      arg6 harg6 arg7 harg7 arg8 harg8 B i j hj _ _ a b
  rw [← trips1 i, show Scf.trips (k0_t2_loop i).lb (k0_t2_loop i).ub (k0_t2_loop i).st = 0 from trips2 i]
  show Holds arg12 (arg12.view.writes (Elt Ideal) arg12.view.junk (_ ++ kernelRun0_A.sl.H10_1 (F := Ideal))) _
  rw [View.writes_append]
  refine loop_c arg2 harg2 arg3 harg3 arg4 harg4 arg5 harg5 arg6 harg6 arg7 harg7 arg8 harg8 arg9 harg9 arg10
      harg10 arg11 harg11 arg12 harg12 arg13 harg13 arg14 harg14 arg15 harg15 Variants.none c none B i _ _ _ _ _ _
      ?_ _ le_rfl
  refine holds_zero arg12 _ _ _ fun y => ?_
  pointwise [k0_pay107]

/-- The query gradients after the point, before they are turned. -/
theorem runA_scratch (c : Dev nD) (B : Blocks) (i : grid0.Coords) :
    QHolds arg14 (arg14.view.writes (Elt Ideal) arg14.view.junk (kernelRun0_A.sl.HS0_8 (F := Ideal) c i arg2 harg2
        arg3 harg3 arg4 harg4 arg5 harg5 arg6 harg6 arg7 harg7 arg8 harg8 arg9 harg9 arg10 harg10 arg11 harg11
        arg12 harg12 arg13 harg13 arg14 harg14 arg15 harg15 B.q B.k B.v B.kt B.g B.lse B.dl)) (fun h d q => ∑ j :
        Fin 16, addQ B (i 1).val j h d q) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h d q => ∑ j : Fin 16, addQ B (i 1).val j h d q) = fun h d q => (qupto (fun _ _ _ => 0) (2 * (i
      1).val) (tileQ B (i 1).val) h d q + addQ B (i 1).val j h d q) + addQ B (i 1).val l h d q := by
    rw [← qupto_all B _ hn, qupto_succ, qupto_succ, tileQ_of_lt B _ _ (by omega), tileQ_of_lt B _ _ (by omega),
        show (⟨2 * (i 1).val, by omega⟩ : Fin 16) = j from Fin.ext hj.symm, show (⟨2 * (i 1).val + 1, by omega⟩ :
        Fin 16) = l from Fin.ext hl.symm]
  rw [e, ← qput4 (fun h d q => qupto _ _ _ h d q + _)]
  unfold kernelRun0_A.sl.HS0_8
  refine qholds_addLate arg14 _ _ _ _ _ ?_ 3 (fun _ _ => (qput_ne _ _ _ _ _ _ (by decide)).trans ((qput_ne _ _ _ _
      _ _ (by decide)).trans (qput_ne _ _ _ _ _ _ (by decide)))) _ rfl _ (fun b q => q_e3 arg2 harg2 arg3 harg3
      arg4 harg4 arg5 harg5 arg6 harg6 arg7 harg7 arg8 harg8 B i l hl _ _ b q) fun b q hq => addQ_zero B _ l _ b q
      (by omega)
  refine qholds_addLate arg14 _ _ _ _ _ ?_ 2 (fun _ _ => (qput_ne _ _ _ _ _ _ (by decide)).trans (qput_ne _ _ _ _ _
      _ (by decide))) _ rfl _ (fun b q => q_e2 arg2 harg2 arg3 harg3 arg4 harg4 arg5 harg5 arg6 harg6 arg7 harg7
      arg8 harg8 B i l hl _ _ b q) fun b q hq => addQ_zero B _ l _ b q (by omega)
  refine qholds_addLate arg14 _ _ _ _ _ ?_ 1 (fun _ _ => qput_ne _ _ _ _ _ _ (by decide)) _ rfl _ (fun b q => q_e1
      arg2 harg2 arg3 harg3 arg4 harg4 arg5 harg5 arg6 harg6 arg7 harg7 arg8 harg8 B i l hl _ _ b q) fun b q hq =>
      addQ_zero B _ l _ b q (by omega)
  refine qholds_addLate arg14 _ _ _ _ _ ?_ 0 (fun _ _ => rfl) _ rfl _ (fun b q => q_e0 arg2 harg2 arg3 harg3 arg4
      harg4 arg5 harg5 arg6 harg6 arg7 harg7 arg8 harg8 B i l hl _ _ b q) fun b q hq => addQ_zero B _ l _ b q (by
      omega)
  rw [← qput4 (qupto _ _ _)]
  refine qholds_add arg14 _ _ _ _ _ ?_ 3 (fun _ _ => (qput_ne _ _ _ _ _ _ (by decide)).trans ((qput_ne _ _ _ _ _ _
      (by decide)).trans (qput_ne _ _ _ _ _ _ (by decide)))) _ rfl _ fun b q => q_d3 arg2 harg2 arg3 harg3 arg4
      harg4 arg5 harg5 arg6 harg6 arg7 harg7 arg8 harg8 B i j hj _ _ b q
  refine qholds_add arg14 _ _ _ _ _ ?_ 2 (fun _ _ => (qput_ne _ _ _ _ _ _ (by decide)).trans (qput_ne _ _ _ _ _ _
      (by decide))) _ rfl _ fun b q => q_d2 arg2 harg2 arg3 harg3 arg4 harg4 arg5 harg5 arg6 harg6 arg7 harg7 arg8
      harg8 B i j hj _ _ b q
  refine qholds_add arg14 _ _ _ _ _ ?_ 1 (fun _ _ => qput_ne _ _ _ _ _ _ (by decide)) _ rfl _ fun b q => q_d1 arg2
      harg2 arg3 harg3 arg4 harg4 arg5 harg5 arg6 harg6 arg7 harg7 arg8 harg8 B i j hj _ _ b q
  refine qholds_add arg14 _ _ _ _ _ ?_ 0 (fun _ _ => rfl) _ rfl _ fun b q => q_d0 arg2 harg2 arg3 harg3 arg4 harg4
      arg5 harg5 arg6 harg6 arg7 harg7 arg8 harg8 B i j hj _ _ b q
  rw [← trips1 i, show Scf.trips (k0_t2_loop i).lb (k0_t2_loop i).ub (k0_t2_loop i).st = 0 from trips2 i]
  show QHolds arg14 (arg14.view.writes (Elt Ideal) arg14.view.junk (_ ++ (kernelRun0_A.sl.HS0_1 (F := Ideal)))) _
  rw [View.writes_append]
  refine loop_q arg2 harg2 arg3 harg3 arg4 harg4 arg5 harg5 arg6 harg6 arg7 harg7 arg8 harg8 arg9 harg9 arg10
      harg10 arg11 harg11 arg12 harg12 arg13 harg13 arg14 harg14 arg15 harg15 Variants.none c none B i _ _ _ _ _ _
      ?_ _ le_rfl
  refine qholds_zero arg14 _ _ _ fun y => ?_
  pointwise [k0_pay108]

/-- The sums over the keys after the point. -/
theorem runA_sums (c : Dev nD) (B : Blocks) (i : grid0.Coords) :
    RHolds arg15 (arg15.view.writes (Elt Ideal) arg15.view.junk (kernelRun0_A.sl.HS1_8 (F := Ideal) c i arg2 harg2
        arg3 harg3 arg4 harg4 arg5 harg5 arg6 harg6 arg7 harg7 arg8 harg8 arg9 harg9 arg10 harg10 arg11 harg11
        arg12 harg12 arg13 harg13 arg14 harg14 arg15 harg15 B.q B.k B.v B.kt B.g B.lse B.dl)) (fun h q => ∑ j : Fin
        16, addR B (i 1).val j h q) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h q => ∑ j : Fin 16, addR B (i 1).val j h q) = fun h q => (rupto (fun _ _ => 0) (2 * (i 1).val)
      (tileR B (i 1).val) h q + addR B (i 1).val j h q) + addR B (i 1).val l h q := by
    rw [← rupto_all B _ hn, rupto_succ, rupto_succ, tileR_of_lt B _ _ (by omega), tileR_of_lt B _ _ (by omega),
        show (⟨2 * (i 1).val, by omega⟩ : Fin 16) = j from Fin.ext hj.symm, show (⟨2 * (i 1).val + 1, by omega⟩ :
        Fin 16) = l from Fin.ext hl.symm]
  rw [e, ← rput4 (fun h q => rupto _ _ _ h q + _)]
  unfold kernelRun0_A.sl.HS1_8
  refine rholds_addLate arg15 _ _ _ _ _ ?_ 3 (fun _ => (rput_ne _ _ _ _ _ (by decide)).trans ((rput_ne _ _ _ _ _
      (by decide)).trans (rput_ne _ _ _ _ _ (by decide)))) _ rfl _ (fun q => r_e3 arg2 harg2 arg3 harg3 arg4 harg4
      arg6 harg6 arg7 harg7 arg8 harg8 B i l hl _ q) fun q hq => addR_zero B _ l _ q (by omega)
  refine rholds_addLate arg15 _ _ _ _ _ ?_ 2 (fun _ => (rput_ne _ _ _ _ _ (by decide)).trans (rput_ne _ _ _ _ _ (by
      decide))) _ rfl _ (fun q => r_e2 arg2 harg2 arg3 harg3 arg4 harg4 arg6 harg6 arg7 harg7 arg8 harg8 B i l hl _
      q) fun q hq => addR_zero B _ l _ q (by omega)
  refine rholds_addLate arg15 _ _ _ _ _ ?_ 1 (fun _ => rput_ne _ _ _ _ _ (by decide)) _ rfl _ (fun q => r_e1 arg2
      harg2 arg3 harg3 arg4 harg4 arg6 harg6 arg7 harg7 arg8 harg8 B i l hl _ q) fun q hq => addR_zero B _ l _ q
      (by omega)
  refine rholds_addLate arg15 _ _ _ _ _ ?_ 0 (fun _ => rfl) _ rfl _ (fun q => r_e0 arg2 harg2 arg3 harg3 arg4 harg4
      arg6 harg6 arg7 harg7 arg8 harg8 B i l hl _ q) fun q hq => addR_zero B _ l _ q (by omega)
  rw [← rput4 (rupto _ _ _)]
  refine rholds_add arg15 _ _ _ _ _ ?_ 3 (fun _ => (rput_ne _ _ _ _ _ (by decide)).trans ((rput_ne _ _ _ _ _ (by
      decide)).trans (rput_ne _ _ _ _ _ (by decide)))) _ rfl _ fun q => r_d3 arg2 harg2 arg3 harg3 arg4 harg4 arg6
      harg6 arg7 harg7 arg8 harg8 B i j hj _ q
  refine rholds_add arg15 _ _ _ _ _ ?_ 2 (fun _ => (rput_ne _ _ _ _ _ (by decide)).trans (rput_ne _ _ _ _ _ (by
      decide))) _ rfl _ fun q => r_d2 arg2 harg2 arg3 harg3 arg4 harg4 arg6 harg6 arg7 harg7 arg8 harg8 B i j hj _ q
  refine rholds_add arg15 _ _ _ _ _ ?_ 1 (fun _ => rput_ne _ _ _ _ _ (by decide)) _ rfl _ fun q => r_d1 arg2 harg2
      arg3 harg3 arg4 harg4 arg6 harg6 arg7 harg7 arg8 harg8 B i j hj _ q
  refine rholds_add arg15 _ _ _ _ _ ?_ 0 (fun _ => rfl) _ rfl _ fun q => r_d0 arg2 harg2 arg3 harg3 arg4 harg4 arg6
      harg6 arg7 harg7 arg8 harg8 B i j hj _ q
  rw [← trips1 i, show Scf.trips (k0_t2_loop i).lb (k0_t2_loop i).ub (k0_t2_loop i).st = 0 from trips2 i]
  show RHolds arg15 (arg15.view.writes (Elt Ideal) arg15.view.junk (_ ++ (kernelRun0_A.sl.HS1_1 (F := Ideal)))) _
  rw [View.writes_append]
  refine loop_r arg2 harg2 arg3 harg3 arg4 harg4 arg5 harg5 arg6 harg6 arg7 harg7 arg8 harg8 arg9 harg9 arg10
      harg10 arg11 harg11 arg12 harg12 arg13 harg13 arg14 harg14 arg15 harg15 Variants.none c none B i _ _ _ _ _ _
      ?_ _ le_rfl
  refine rholds_zero arg15 _ _ _ fun y => ?_
  pointwise [k0_pay104]

/-- The query gradients after the point. -/
theorem runA_q (c : Dev nD) (B : Blocks) (i : grid0.Coords) (hc : cond0_0 i) (v : View sig .tc .vmem S512x512 .f32)
    (f : v.ty.Contents (Elt Ideal)) (h : Fin 4) (d : Fin 128) (q : Fin 512) :
    v.read (Elt Ideal) (v.writes (Elt Ideal) f (kernelRun0_A (F := Ideal) c i arg2 harg2 arg3 harg3 arg4 harg4 arg5
        harg5 arg6 harg6 arg7 harg7 arg8 harg8 arg9 harg9 arg10 harg10 arg11 harg11 arg12 harg12 arg13 harg13 arg14
        harg14 arg15 harg15 hc B.q B.k B.v B.kt B.g B.lse B.dl).1) (ix2 q (col h d)) = ∑ j : Fin 16, addQ B (i
        1).val j h d q := by
  have H := runA_scratch arg2 harg2 arg3 harg3 arg4 harg4 arg5 harg5 arg6 harg6 arg7 harg7 arg8 harg8 arg9 harg9
      arg10 harg10 arg11 harg11 arg12 harg12 arg13 harg13 arg14 harg14 arg15 harg15 c B i
  unfold kernelRun0_A
  dsimp only
  refine out4 v f (fun h d q => ∑ j : Fin 16, addQ B (i 1).val j h d q) _ _ _ _ _ _ _ _ (fun q d => ?_) (fun q d =>
      ?_) (fun q d => ?_) (fun q d => ?_) h d q
  · exact (turned_0 _ q d).trans (H.load 0 _ rfl d q)
  · exact (turned_1 _ q d).trans (H.load 1 _ rfl d q)
  · exact (turned_2 _ q d).trans (H.load 2 _ rfl d q)
  · exact (turned_3 _ q d).trans (H.load 3 _ rfl d q)

/-- The sums over the keys, as the point writes them. -/
theorem runA_r (c : Dev nD) (B : Blocks) (i : grid0.Coords) (hc : cond0_0 i) (v : View sig .tc .vmem S4x1x1x512
    .f32) (f : v.ty.Contents (Elt Ideal)) (h : Fin 4) (q : Fin 512) :
    v.read (Elt Ideal) (v.writes (Elt Ideal) f (kernelRun0_A (F := Ideal) c i arg2 harg2 arg3 harg3 arg4 harg4 arg5
        harg5 arg6 harg6 arg7 harg7 arg8 harg8 arg9 harg9 arg10 harg10 arg11 harg11 arg12 harg12 arg13 harg13 arg14
        harg14 arg15 harg15 hc B.q B.k B.v B.kt B.g B.lse B.dl).2.2.2.2.1) (ix4 h 0 0 q) = ∑ j : Fin 16, addR B (i
        1).val j h q := by
  have H := runA_sums arg2 harg2 arg3 harg3 arg4 harg4 arg5 harg5 arg6 harg6 arg7 harg7 arg8 harg8 arg9 harg9 arg10
      harg10 arg11 harg11 arg12 harg12 arg13 harg13 arg14 harg14 arg15 harg15 c B i
  unfold kernelRun0_A
  dsimp only
  refine rout4 v f (fun h q => ∑ j : Fin 16, addR B (i 1).val j h q) _ _ _ _ _ _ _ _ (fun q => ?_) (fun q => ?_)
      (fun q => ?_) (fun q => ?_) h q
  · exact (kept_0 q _).trans (H.load 0 _ rfl q)
  · exact (kept_1 q _).trans (H.load 1 _ rfl q)
  · exact (kept_2 q _).trans (H.load 2 _ rfl q)
  · exact (kept_3 q _).trans (H.load 3 _ rfl q)

end Cert.Fox

end
-- ==== Proof.Fox.RunB.lean ====
module

public import proofs.«01_k».proof.Proof.Fox.Loop
public import proofs.«01_k».proof.Proof.Fox.PieceFirst
public import proofs.«01_k».proof.Proof.Fox.PieceSecond
public import proofs.«01_k».proof.Proof.Fox.SumFirst
public import proofs.«01_k».proof.Proof.Fox.SumSecond
public import proofs.«01_k».proof.Proof.Fox.Turn

/-!
# Forgetting attention backward: a later point

A point after the first adds its products and sums to what it finds for keys and values, and writes its query
    gradients.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4096x512 .f32) (harg12 :
    arg12.IsWhole) (arg13 : Memref sig .tc .vmem S4x1x1x512 .f32) (harg13 : arg13.IsWhole) (arg14 : Memref sig .tc
    .vmem S4x128x512 .f32) (harg14 : arg14.IsWhole) (arg15 : Memref sig .tc .vmem S4x1x512 .f32) (harg15 :
    arg15.IsWhole)

/-- The key gradients after the point. -/
theorem runB_k (c : Dev nD) (B : Blocks) (i : grid0.Coords) (hc : ¬cond0_0 i) (xo8 xo9 xo10 : Vec Ideal S4096x512
    .f32) (S : State) (hS : ∀ h r d, xo8 (ix2 r (col h d)) = S h r d) :
    Holds arg10 (arg10.view.writes (Elt Ideal) (harg10.unread xo8) (kernelRun0_B (F := Ideal) c i arg2 harg2 arg3
        harg3 arg4 harg4 arg5 harg5 arg6 harg6 arg7 harg7 arg8 harg8 arg9 harg9 arg10 harg10 arg11 harg11 arg12
        harg12 arg13 harg13 arg14 harg14 arg15 harg15 hc B.q B.k B.v B.kt B.g B.lse B.dl xo8 xo9 xo10).2.1) (fun h
        r d => S h r d + addK B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => S h r d + addK B (i 1).val h r d) = bump (bump (upto S (2 * (i 1).val) (addK B (i 1).val))
      j.val (addK B (i 1).val)) l.val (addK B (i 1).val) := by
    rw [hj, hl, bump_upto, bump_upto]
    exact (upto_all S (addK B (i 1).val) _ fun h r d hr => addK_zero B _ h r d (by omega)).symm
  rw [e, ← put4 (bump _ _ _) l]
  unfold kernelRun0_B
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg10 _ _ _ _ _ ?_ l 3 (fun _ _ => (put_ne _ _ _ _ _ _ _ (by decide)).trans ((put_ne _ _ _ _ _ _
      _ (by decide)).trans (put_ne _ _ _ _ _ _ _ (by decide)))) _ p3 _ fun a b => k_e3 arg2 harg2 arg3 harg3 arg4
      harg4 arg6 harg6 arg7 harg7 arg8 harg8 B i l hl _ a b
  refine holds_add arg10 _ _ _ _ _ ?_ l 2 (fun _ _ => (put_ne _ _ _ _ _ _ _ (by decide)).trans (put_ne _ _ _ _ _ _
      _ (by decide))) _ p2 _ fun a b => k_e2 arg2 harg2 arg3 harg3 arg4 harg4 arg6 harg6 arg7 harg7 arg8 harg8 B i
      l hl _ a b
  refine holds_add arg10 _ _ _ _ _ ?_ l 1 (fun _ _ => put_ne _ _ _ _ _ _ _ (by decide)) _ p1 _ fun a b => k_e1 arg2
      harg2 arg3 harg3 arg4 harg4 arg6 harg6 arg7 harg7 arg8 harg8 B i l hl _ a b
  refine holds_add arg10 _ _ _ _ _ ?_ l 0 (fun _ _ => rfl) _ p0 _ fun a b => k_e0 arg2 harg2 arg3 harg3 arg4 harg4
      arg6 harg6 arg7 harg7 arg8 harg8 B i l hl _ a b
  rw [← put4 (upto _ _ _) j]
  refine holds_add arg10 _ _ _ _ _ ?_ j 3 (fun _ _ => (put_ne _ _ _ _ _ _ _ (by decide)).trans ((put_ne _ _ _ _ _ _
      _ (by decide)).trans (put_ne _ _ _ _ _ _ _ (by decide)))) _ o3 _ fun a b => k_d3 arg2 harg2 arg3 harg3 arg4
      harg4 arg6 harg6 arg7 harg7 arg8 harg8 B i j hj _ a b
  refine holds_add arg10 _ _ _ _ _ ?_ j 2 (fun _ _ => (put_ne _ _ _ _ _ _ _ (by decide)).trans (put_ne _ _ _ _ _ _
      _ (by decide))) _ o2 _ fun a b => k_d2 arg2 harg2 arg3 harg3 arg4 harg4 arg6 harg6 arg7 harg7 arg8 harg8 B i
      j hj _ a b
  refine holds_add arg10 _ _ _ _ _ ?_ j 1 (fun _ _ => put_ne _ _ _ _ _ _ _ (by decide)) _ o1 _ fun a b => k_d1 arg2
      harg2 arg3 harg3 arg4 harg4 arg6 harg6 arg7 harg7 arg8 harg8 B i j hj _ a b
  refine holds_add arg10 _ _ _ _ _ ?_ j 0 (fun _ _ => rfl) _ o0 _ fun a b => k_d0 arg2 harg2 arg3 harg3 arg4 harg4
      arg6 harg6 arg7 harg7 arg8 harg8 B i j hj _ a b
  rw [← trips1 i, show Scf.trips (k0_t2_loop i).lb (k0_t2_loop i).ub (k0_t2_loop i).st = 0 from trips2 i]
  exact loop_k arg2 harg2 arg3 harg3 arg4 harg4 arg5 harg5 arg6 harg6 arg7 harg7 arg8 harg8 arg9 harg9 arg10 harg10
      arg11 harg11 arg12 harg12 arg13 harg13 arg14 harg14 arg15 harg15 Variants.none c none B i (harg10.unread xo8)
      (harg11.unread xo9) (harg12.unread xo10) _ _ S (fun h r d => (congrFun (harg10.read_unread (Val := Elt Ideal)
      xo8) _).trans (hS h r d)) _ le_rfl

/-- The value gradients after the point. -/
theorem runB_v (c : Dev nD) (B : Blocks) (i : grid0.Coords) (hc : ¬cond0_0 i) (xo8 xo9 xo10 : Vec Ideal S4096x512
    .f32) (S : State) (hS : ∀ h r d, xo9 (ix2 r (col h d)) = S h r d) :
    Holds arg11 (arg11.view.writes (Elt Ideal) (harg11.unread xo9) (kernelRun0_B (F := Ideal) c i arg2 harg2 arg3
        harg3 arg4 harg4 arg5 harg5 arg6 harg6 arg7 harg7 arg8 harg8 arg9 harg9 arg10 harg10 arg11 harg11 arg12
        harg12 arg13 harg13 arg14 harg14 arg15 harg15 hc B.q B.k B.v B.kt B.g B.lse B.dl xo8 xo9 xo10).2.2.1) (fun
        h r d => S h r d + addV B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => S h r d + addV B (i 1).val h r d) = bump (bump (upto S (2 * (i 1).val) (addV B (i 1).val))
      j.val (addV B (i 1).val)) l.val (addV B (i 1).val) := by
    rw [hj, hl, bump_upto, bump_upto]
    exact (upto_all S (addV B (i 1).val) _ fun h r d hr => addV_zero B _ h r d (by omega)).symm
  rw [e, ← put4 (bump _ _ _) l]
  unfold kernelRun0_B
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg11 _ _ _ _ _ ?_ l 3 (fun _ _ => (put_ne _ _ _ _ _ _ _ (by decide)).trans ((put_ne _ _ _ _ _ _
      _ (by decide)).trans (put_ne _ _ _ _ _ _ _ (by decide)))) _ p3 _ fun a b => v_e3 arg2 harg2 arg3 harg3 arg6
      harg6 arg7 harg7 B i l hl _ a b
  refine holds_add arg11 _ _ _ _ _ ?_ l 2 (fun _ _ => (put_ne _ _ _ _ _ _ _ (by decide)).trans (put_ne _ _ _ _ _ _
      _ (by decide))) _ p2 _ fun a b => v_e2 arg2 harg2 arg3 harg3 arg6 harg6 arg7 harg7 B i l hl _ a b
  refine holds_add arg11 _ _ _ _ _ ?_ l 1 (fun _ _ => put_ne _ _ _ _ _ _ _ (by decide)) _ p1 _ fun a b => v_e1 arg2
      harg2 arg3 harg3 arg6 harg6 arg7 harg7 B i l hl _ a b
  refine holds_add arg11 _ _ _ _ _ ?_ l 0 (fun _ _ => rfl) _ p0 _ fun a b => v_e0 arg2 harg2 arg3 harg3 arg6 harg6
      arg7 harg7 B i l hl _ a b
  rw [← put4 (upto _ _ _) j]
  refine holds_add arg11 _ _ _ _ _ ?_ j 3 (fun _ _ => (put_ne _ _ _ _ _ _ _ (by decide)).trans ((put_ne _ _ _ _ _ _
      _ (by decide)).trans (put_ne _ _ _ _ _ _ _ (by decide)))) _ o3 _ fun a b => v_d3 arg2 harg2 arg3 harg3 arg6
      harg6 arg7 harg7 B i j hj _ a b
  refine holds_add arg11 _ _ _ _ _ ?_ j 2 (fun _ _ => (put_ne _ _ _ _ _ _ _ (by decide)).trans (put_ne _ _ _ _ _ _
      _ (by decide))) _ o2 _ fun a b => v_d2 arg2 harg2 arg3 harg3 arg6 harg6 arg7 harg7 B i j hj _ a b
  refine holds_add arg11 _ _ _ _ _ ?_ j 1 (fun _ _ => put_ne _ _ _ _ _ _ _ (by decide)) _ o1 _ fun a b => v_d1 arg2
      harg2 arg3 harg3 arg6 harg6 arg7 harg7 B i j hj _ a b
  refine holds_add arg11 _ _ _ _ _ ?_ j 0 (fun _ _ => rfl) _ o0 _ fun a b => v_d0 arg2 harg2 arg3 harg3 arg6 harg6
      arg7 harg7 B i j hj _ a b
  rw [← trips1 i, show Scf.trips (k0_t2_loop i).lb (k0_t2_loop i).ub (k0_t2_loop i).st = 0 from trips2 i]
  exact loop_v arg2 harg2 arg3 harg3 arg4 harg4 arg5 harg5 arg6 harg6 arg7 harg7 arg8 harg8 arg9 harg9 arg10 harg10
      arg11 harg11 arg12 harg12 arg13 harg13 arg14 harg14 arg15 harg15 Variants.none c none B i (harg10.unread xo8)
      (harg11.unread xo9) (harg12.unread xo10) _ _ S (fun h r d => (congrFun (harg11.read_unread (Val := Elt Ideal)
      xo9) _).trans (hS h r d)) _ le_rfl

set_option maxHeartbeats 1000000 in
/-- The lanes of the gate gradients after the point. -/
theorem runB_c (c : Dev nD) (B : Blocks) (i : grid0.Coords) (hc : ¬cond0_0 i) (xo8 xo9 xo10 : Vec Ideal S4096x512
    .f32) (S : State) (hS : ∀ h r d, xo10 (ix2 r (col h d)) = S h r d) :
    Holds arg12 (arg12.view.writes (Elt Ideal) (harg12.unread xo10) (kernelRun0_B (F := Ideal) c i arg2 harg2 arg3
        harg3 arg4 harg4 arg5 harg5 arg6 harg6 arg7 harg7 arg8 harg8 arg9 harg9 arg10 harg10 arg11 harg11 arg12
        harg12 arg13 harg13 arg14 harg14 arg15 harg15 hc B.q B.k B.v B.kt B.g B.lse B.dl xo8 xo9 xo10).2.2.2.1)
        (fun h r d => S h r d + addC B (i 1).val h r d) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h r d => S h r d + addC B (i 1).val h r d) = bump (bump (upto S (2 * (i 1).val) (addC B (i 1).val))
      j.val (addC B (i 1).val)) l.val (addC B (i 1).val) := by
    rw [hj, hl, bump_upto, bump_upto]
    exact (upto_all S (addC B (i 1).val) _ fun h r d hr => addC_zero B _ h r d (by omega)).symm
  rw [e, ← put4 (bump _ _ _) l]
  unfold kernelRun0_B
  dsimp only
  have o0 : k0_off17 i 0#32 = ![256 * j.val, 128 * (0 : Fin 4).val] := by rw [hj]; exact off_dk0 i
  have p0 : k0_off17 i 1#32 = ![256 * l.val, 128 * (0 : Fin 4).val] := by rw [hl]; exact off_ek0 i
  have o1 : k0_off18 i 0#32 = ![256 * j.val, 128 * (1 : Fin 4).val] := by rw [hj]; exact off_dk1 i
  have p1 : k0_off18 i 1#32 = ![256 * l.val, 128 * (1 : Fin 4).val] := by rw [hl]; exact off_ek1 i
  have o2 : k0_off19 i 0#32 = ![256 * j.val, 128 * (2 : Fin 4).val] := by rw [hj]; exact off_dk2 i
  have p2 : k0_off19 i 1#32 = ![256 * l.val, 128 * (2 : Fin 4).val] := by rw [hl]; exact off_ek2 i
  have o3 : k0_off20 i 0#32 = ![256 * j.val, 128 * (3 : Fin 4).val] := by rw [hj]; exact off_dk3 i
  have p3 : k0_off20 i 1#32 = ![256 * l.val, 128 * (3 : Fin 4).val] := by rw [hl]; exact off_ek3 i
  refine holds_add arg12 _ _ _ _ _ ?_ l 3 (fun _ _ => (put_ne _ _ _ _ _ _ _ (by decide)).trans ((put_ne _ _ _ _ _ _
      _ (by decide)).trans (put_ne _ _ _ _ _ _ _ (by decide)))) _ p3 _ fun a b => c_e3 arg2 harg2 arg3 harg3 arg4
      harg4 arg6 harg6 arg7 harg7 arg8 harg8 B i l hl _ a b
  refine holds_add arg12 _ _ _ _ _ ?_ l 2 (fun _ _ => (put_ne _ _ _ _ _ _ _ (by decide)).trans (put_ne _ _ _ _ _ _
      _ (by decide))) _ p2 _ fun a b => c_e2 arg2 harg2 arg3 harg3 arg4 harg4 arg6 harg6 arg7 harg7 arg8 harg8 B i
      l hl _ a b
  refine holds_add arg12 _ _ _ _ _ ?_ l 1 (fun _ _ => put_ne _ _ _ _ _ _ _ (by decide)) _ p1 _ fun a b => c_e1 arg2
      harg2 arg3 harg3 arg4 harg4 arg6 harg6 arg7 harg7 arg8 harg8 B i l hl _ a b
  refine holds_add arg12 _ _ _ _ _ ?_ l 0 (fun _ _ => rfl) _ p0 _ fun a b => c_e0 arg2 harg2 arg3 harg3 arg4 harg4
      arg6 harg6 arg7 harg7 arg8 harg8 B i l hl _ _ a b
  rw [← put4 (upto _ _ _) j]
  refine holds_add arg12 _ _ _ _ _ ?_ j 3 (fun _ _ => (put_ne _ _ _ _ _ _ _ (by decide)).trans ((put_ne _ _ _ _ _ _
      _ (by decide)).trans (put_ne _ _ _ _ _ _ _ (by decide)))) _ o3 _ fun a b => c_d3 arg2 harg2 arg3 harg3 arg4
      harg4 arg6 harg6 arg7 harg7 arg8 harg8 B i j hj _ a b
  refine holds_add arg12 _ _ _ _ _ ?_ j 2 (fun _ _ => (put_ne _ _ _ _ _ _ _ (by decide)).trans (put_ne _ _ _ _ _ _
      _ (by decide))) _ o2 _ fun a b => c_d2 arg2 harg2 arg3 harg3 arg4 harg4 arg6 harg6 arg7 harg7 arg8 harg8 B i
      j hj _ a b
  refine holds_add arg12 _ _ _ _ _ ?_ j 1 (fun _ _ => put_ne _ _ _ _ _ _ _ (by decide)) _ o1 _ fun a b => c_d1 arg2
      harg2 arg3 harg3 arg4 harg4 arg6 harg6 arg7 harg7 arg8 harg8 B i j hj _ a b
  refine holds_add arg12 _ _ _ _ _ ?_ j 0 (fun _ _ => rfl) _ o0 _ fun a b => c_d0 arg2 harg2 arg3 harg3 arg4 harg4
      arg6 harg6 arg7 harg7 arg8 harg8 B i j hj _ _ a b
  rw [← trips1 i, show Scf.trips (k0_t2_loop i).lb (k0_t2_loop i).ub (k0_t2_loop i).st = 0 from trips2 i]
  exact loop_c arg2 harg2 arg3 harg3 arg4 harg4 arg5 harg5 arg6 harg6 arg7 harg7 arg8 harg8 arg9 harg9 arg10 harg10
      arg11 harg11 arg12 harg12 arg13 harg13 arg14 harg14 arg15 harg15 Variants.none c none B i (harg10.unread xo8)
      (harg11.unread xo9) (harg12.unread xo10) _ _ S (fun h r d => (congrFun (harg12.read_unread (Val := Elt Ideal)
      xo10) _).trans (hS h r d)) _ le_rfl

/-- The query gradients after the point, before they are turned. -/
theorem runB_scratch (c : Dev nD) (B : Blocks) (i : grid0.Coords) (xo8 xo9 xo10 : Vec Ideal S4096x512 .f32) :
    QHolds arg14 (arg14.view.writes (Elt Ideal) arg14.view.junk (kernelRun0_B.sl.HS0_8 (F := Ideal) c i arg2 harg2
        arg3 harg3 arg4 harg4 arg5 harg5 arg6 harg6 arg7 harg7 arg8 harg8 arg9 harg9 arg10 harg10 arg11 harg11
        arg12 harg12 arg13 harg13 arg14 harg14 arg15 harg15 B.q B.k B.v B.kt B.g B.lse B.dl xo8 xo9 xo10)) (fun h d
        q => ∑ j : Fin 16, addQ B (i 1).val j h d q) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h d q => ∑ j : Fin 16, addQ B (i 1).val j h d q) = fun h d q => (qupto (fun _ _ _ => 0) (2 * (i
      1).val) (tileQ B (i 1).val) h d q + addQ B (i 1).val j h d q) + addQ B (i 1).val l h d q := by
    rw [← qupto_all B _ hn, qupto_succ, qupto_succ, tileQ_of_lt B _ _ (by omega), tileQ_of_lt B _ _ (by omega),
        show (⟨2 * (i 1).val, by omega⟩ : Fin 16) = j from Fin.ext hj.symm, show (⟨2 * (i 1).val + 1, by omega⟩ :
        Fin 16) = l from Fin.ext hl.symm]
  rw [e, ← qput4 (fun h d q => qupto _ _ _ h d q + _)]
  unfold kernelRun0_B.sl.HS0_8
  refine qholds_addLate arg14 _ _ _ _ _ ?_ 3 (fun _ _ => (qput_ne _ _ _ _ _ _ (by decide)).trans ((qput_ne _ _ _ _
      _ _ (by decide)).trans (qput_ne _ _ _ _ _ _ (by decide)))) _ rfl _ (fun b q => q_e3 arg2 harg2 arg3 harg3
      arg4 harg4 arg5 harg5 arg6 harg6 arg7 harg7 arg8 harg8 B i l hl _ _ b q) fun b q hq => addQ_zero B _ l _ b q
      (by omega)
  refine qholds_addLate arg14 _ _ _ _ _ ?_ 2 (fun _ _ => (qput_ne _ _ _ _ _ _ (by decide)).trans (qput_ne _ _ _ _ _
      _ (by decide))) _ rfl _ (fun b q => q_e2 arg2 harg2 arg3 harg3 arg4 harg4 arg5 harg5 arg6 harg6 arg7 harg7
      arg8 harg8 B i l hl _ _ b q) fun b q hq => addQ_zero B _ l _ b q (by omega)
  refine qholds_addLate arg14 _ _ _ _ _ ?_ 1 (fun _ _ => qput_ne _ _ _ _ _ _ (by decide)) _ rfl _ (fun b q => q_e1
      arg2 harg2 arg3 harg3 arg4 harg4 arg5 harg5 arg6 harg6 arg7 harg7 arg8 harg8 B i l hl _ _ b q) fun b q hq =>
      addQ_zero B _ l _ b q (by omega)
  refine qholds_addLate arg14 _ _ _ _ _ ?_ 0 (fun _ _ => rfl) _ rfl _ (fun b q => q_e0 arg2 harg2 arg3 harg3 arg4
      harg4 arg5 harg5 arg6 harg6 arg7 harg7 arg8 harg8 B i l hl _ _ b q) fun b q hq => addQ_zero B _ l _ b q (by
      omega)
  rw [← qput4 (qupto _ _ _)]
  refine qholds_add arg14 _ _ _ _ _ ?_ 3 (fun _ _ => (qput_ne _ _ _ _ _ _ (by decide)).trans ((qput_ne _ _ _ _ _ _
      (by decide)).trans (qput_ne _ _ _ _ _ _ (by decide)))) _ rfl _ fun b q => q_d3 arg2 harg2 arg3 harg3 arg4
      harg4 arg5 harg5 arg6 harg6 arg7 harg7 arg8 harg8 B i j hj _ _ b q
  refine qholds_add arg14 _ _ _ _ _ ?_ 2 (fun _ _ => (qput_ne _ _ _ _ _ _ (by decide)).trans (qput_ne _ _ _ _ _ _
      (by decide))) _ rfl _ fun b q => q_d2 arg2 harg2 arg3 harg3 arg4 harg4 arg5 harg5 arg6 harg6 arg7 harg7 arg8
      harg8 B i j hj _ _ b q
  refine qholds_add arg14 _ _ _ _ _ ?_ 1 (fun _ _ => qput_ne _ _ _ _ _ _ (by decide)) _ rfl _ fun b q => q_d1 arg2
      harg2 arg3 harg3 arg4 harg4 arg5 harg5 arg6 harg6 arg7 harg7 arg8 harg8 B i j hj _ _ b q
  refine qholds_add arg14 _ _ _ _ _ ?_ 0 (fun _ _ => rfl) _ rfl _ fun b q => q_d0 arg2 harg2 arg3 harg3 arg4 harg4
      arg5 harg5 arg6 harg6 arg7 harg7 arg8 harg8 B i j hj _ _ b q
  rw [← trips1 i, show Scf.trips (k0_t2_loop i).lb (k0_t2_loop i).ub (k0_t2_loop i).st = 0 from trips2 i]
  show QHolds arg14 (arg14.view.writes (Elt Ideal) arg14.view.junk (_ ++ (kernelRun0_B.sl.HS0_1 (F := Ideal)))) _
  rw [View.writes_append]
  refine loop_q arg2 harg2 arg3 harg3 arg4 harg4 arg5 harg5 arg6 harg6 arg7 harg7 arg8 harg8 arg9 harg9 arg10
      harg10 arg11 harg11 arg12 harg12 arg13 harg13 arg14 harg14 arg15 harg15 Variants.none c none B i
      (harg10.unread xo8) (harg11.unread xo9) (harg12.unread xo10) _ _ _ ?_ _ le_rfl
  refine qholds_zero arg14 _ _ _ fun y => ?_
  pointwise [k0_pay108]

/-- The sums over the keys after the point. -/
theorem runB_sums (c : Dev nD) (B : Blocks) (i : grid0.Coords) (xo8 xo9 xo10 : Vec Ideal S4096x512 .f32) :
    RHolds arg15 (arg15.view.writes (Elt Ideal) arg15.view.junk (kernelRun0_B.sl.HS1_8 (F := Ideal) c i arg2 harg2
        arg3 harg3 arg4 harg4 arg5 harg5 arg6 harg6 arg7 harg7 arg8 harg8 arg9 harg9 arg10 harg10 arg11 harg11
        arg12 harg12 arg13 harg13 arg14 harg14 arg15 harg15 B.q B.k B.v B.kt B.g B.lse B.dl xo8 xo9 xo10)) (fun h q
        => ∑ j : Fin 16, addR B (i 1).val j h q) := by
  have hn : (i 1).val < 8 := (i 1).isLt
  obtain ⟨j, hj⟩ : ∃ j : Fin 16, j.val = 2 * (i 1).val := ⟨⟨2 * (i 1).val, by omega⟩, rfl⟩
  obtain ⟨l, hl⟩ : ∃ l : Fin 16, l.val = 2 * (i 1).val + 1 := ⟨⟨2 * (i 1).val + 1, by omega⟩, rfl⟩
  have e : (fun h q => ∑ j : Fin 16, addR B (i 1).val j h q) = fun h q => (rupto (fun _ _ => 0) (2 * (i 1).val)
      (tileR B (i 1).val) h q + addR B (i 1).val j h q) + addR B (i 1).val l h q := by
    rw [← rupto_all B _ hn, rupto_succ, rupto_succ, tileR_of_lt B _ _ (by omega), tileR_of_lt B _ _ (by omega),
        show (⟨2 * (i 1).val, by omega⟩ : Fin 16) = j from Fin.ext hj.symm, show (⟨2 * (i 1).val + 1, by omega⟩ :
        Fin 16) = l from Fin.ext hl.symm]
  rw [e, ← rput4 (fun h q => rupto _ _ _ h q + _)]
  unfold kernelRun0_B.sl.HS1_8
  refine rholds_addLate arg15 _ _ _ _ _ ?_ 3 (fun _ => (rput_ne _ _ _ _ _ (by decide)).trans ((rput_ne _ _ _ _ _
      (by decide)).trans (rput_ne _ _ _ _ _ (by decide)))) _ rfl _ (fun q => r_e3 arg2 harg2 arg3 harg3 arg4 harg4
      arg6 harg6 arg7 harg7 arg8 harg8 B i l hl _ q) fun q hq => addR_zero B _ l _ q (by omega)
  refine rholds_addLate arg15 _ _ _ _ _ ?_ 2 (fun _ => (rput_ne _ _ _ _ _ (by decide)).trans (rput_ne _ _ _ _ _ (by
      decide))) _ rfl _ (fun q => r_e2 arg2 harg2 arg3 harg3 arg4 harg4 arg6 harg6 arg7 harg7 arg8 harg8 B i l hl _
      q) fun q hq => addR_zero B _ l _ q (by omega)
  refine rholds_addLate arg15 _ _ _ _ _ ?_ 1 (fun _ => rput_ne _ _ _ _ _ (by decide)) _ rfl _ (fun q => r_e1 arg2
      harg2 arg3 harg3 arg4 harg4 arg6 harg6 arg7 harg7 arg8 harg8 B i l hl _ q) fun q hq => addR_zero B _ l _ q
      (by omega)
  refine rholds_addLate arg15 _ _ _ _ _ ?_ 0 (fun _ => rfl) _ rfl _ (fun q => r_e0 arg2 harg2 arg3 harg3 arg4 harg4
      arg6 harg6 arg7 harg7 arg8 harg8 B i l hl _ q) fun q hq => addR_zero B _ l _ q (by omega)
  rw [← rput4 (rupto _ _ _)]
  refine rholds_add arg15 _ _ _ _ _ ?_ 3 (fun _ => (rput_ne _ _ _ _ _ (by decide)).trans ((rput_ne _ _ _ _ _ (by
      decide)).trans (rput_ne _ _ _ _ _ (by decide)))) _ rfl _ fun q => r_d3 arg2 harg2 arg3 harg3 arg4 harg4 arg6
      harg6 arg7 harg7 arg8 harg8 B i j hj _ q
  refine rholds_add arg15 _ _ _ _ _ ?_ 2 (fun _ => (rput_ne _ _ _ _ _ (by decide)).trans (rput_ne _ _ _ _ _ (by
      decide))) _ rfl _ fun q => r_d2 arg2 harg2 arg3 harg3 arg4 harg4 arg6 harg6 arg7 harg7 arg8 harg8 B i j hj _ q
  refine rholds_add arg15 _ _ _ _ _ ?_ 1 (fun _ => rput_ne _ _ _ _ _ (by decide)) _ rfl _ fun q => r_d1 arg2 harg2
      arg3 harg3 arg4 harg4 arg6 harg6 arg7 harg7 arg8 harg8 B i j hj _ q
  refine rholds_add arg15 _ _ _ _ _ ?_ 0 (fun _ => rfl) _ rfl _ fun q => r_d0 arg2 harg2 arg3 harg3 arg4 harg4 arg6
      harg6 arg7 harg7 arg8 harg8 B i j hj _ q
  rw [← trips1 i, show Scf.trips (k0_t2_loop i).lb (k0_t2_loop i).ub (k0_t2_loop i).st = 0 from trips2 i]
  show RHolds arg15 (arg15.view.writes (Elt Ideal) arg15.view.junk (_ ++ (kernelRun0_B.sl.HS1_1 (F := Ideal)))) _
  rw [View.writes_append]
  refine loop_r arg2 harg2 arg3 harg3 arg4 harg4 arg5 harg5 arg6 harg6 arg7 harg7 arg8 harg8 arg9 harg9 arg10
      harg10 arg11 harg11 arg12 harg12 arg13 harg13 arg14 harg14 arg15 harg15 Variants.none c none B i
      (harg10.unread xo8) (harg11.unread xo9) (harg12.unread xo10) _ _ _ ?_ _ le_rfl
  refine rholds_zero arg15 _ _ _ fun y => ?_
  pointwise [k0_pay104]

/-- The query gradients after the point. -/
theorem runB_q (c : Dev nD) (B : Blocks) (i : grid0.Coords) (hc : ¬cond0_0 i) (xo8 xo9 xo10 : Vec Ideal S4096x512
    .f32) (v : View sig .tc .vmem S512x512 .f32) (f : v.ty.Contents (Elt Ideal)) (h : Fin 4) (d : Fin 128) (q : Fin
    512) :
    v.read (Elt Ideal) (v.writes (Elt Ideal) f (kernelRun0_B (F := Ideal) c i arg2 harg2 arg3 harg3 arg4 harg4 arg5
        harg5 arg6 harg6 arg7 harg7 arg8 harg8 arg9 harg9 arg10 harg10 arg11 harg11 arg12 harg12 arg13 harg13 arg14
        harg14 arg15 harg15 hc B.q B.k B.v B.kt B.g B.lse B.dl xo8 xo9 xo10).1) (ix2 q (col h d)) = ∑ j : Fin 16,
        addQ B (i 1).val j h d q := by
  have H := runB_scratch arg2 harg2 arg3 harg3 arg4 harg4 arg5 harg5 arg6 harg6 arg7 harg7 arg8 harg8 arg9 harg9
      arg10 harg10 arg11 harg11 arg12 harg12 arg13 harg13 arg14 harg14 arg15 harg15 c B i xo8 xo9 xo10
  unfold kernelRun0_B
  dsimp only
  refine out4 v f (fun h d q => ∑ j : Fin 16, addQ B (i 1).val j h d q) _ _ _ _ _ _ _ _ (fun q d => ?_) (fun q d =>
      ?_) (fun q d => ?_) (fun q d => ?_) h d q
  · exact (turned_0 _ q d).trans (H.load 0 _ rfl d q)
  · exact (turned_1 _ q d).trans (H.load 1 _ rfl d q)
  · exact (turned_2 _ q d).trans (H.load 2 _ rfl d q)
  · exact (turned_3 _ q d).trans (H.load 3 _ rfl d q)

/-- The sums over the keys, as the point writes them. -/
theorem runB_r (c : Dev nD) (B : Blocks) (i : grid0.Coords) (hc : ¬cond0_0 i) (xo8 xo9 xo10 : Vec Ideal S4096x512
    .f32) (v : View sig .tc .vmem S4x1x1x512 .f32) (f : v.ty.Contents (Elt Ideal)) (h : Fin 4) (q : Fin 512) :
    v.read (Elt Ideal) (v.writes (Elt Ideal) f (kernelRun0_B (F := Ideal) c i arg2 harg2 arg3 harg3 arg4 harg4 arg5
        harg5 arg6 harg6 arg7 harg7 arg8 harg8 arg9 harg9 arg10 harg10 arg11 harg11 arg12 harg12 arg13 harg13 arg14
        harg14 arg15 harg15 hc B.q B.k B.v B.kt B.g B.lse B.dl xo8 xo9 xo10).2.2.2.2.1) (ix4 h 0 0 q) = ∑ j : Fin
        16, addR B (i 1).val j h q := by
  have H := runB_sums arg2 harg2 arg3 harg3 arg4 harg4 arg5 harg5 arg6 harg6 arg7 harg7 arg8 harg8 arg9 harg9 arg10
      harg10 arg11 harg11 arg12 harg12 arg13 harg13 arg14 harg14 arg15 harg15 c B i xo8 xo9 xo10
  unfold kernelRun0_B
  dsimp only
  refine rout4 v f (fun h q => ∑ j : Fin 16, addR B (i 1).val j h q) _ _ _ _ _ _ _ _ (fun q => ?_) (fun q => ?_)
      (fun q => ?_) (fun q => ?_) h q
  · exact (kept_0 q _).trans (H.load 0 _ rfl q)
  · exact (kept_1 q _).trans (H.load 1 _ rfl q)
  · exact (kept_2 q _).trans (H.load 2 _ rfl q)
  · exact (kept_3 q _).trans (H.load 3 _ rfl q)

end Cert.Fox

end
-- ==== Proof.Fox.Outs.lean ====
module

public import proofs.«01_k».proof.Proof.Fox.RunA
public import proofs.«01_k».proof.Proof.Fox.RunB

/-!
# Forgetting attention backward: what a grid point leaves in a window
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (arg2 : Memref sig .tc .vmem S512x512 .bf16) (harg2 : arg2.IsWhole) (arg3 : Memref sig .tc .vmem S4096x512
    .bf16) (harg3 : arg3.IsWhole) (arg4 : Memref sig .tc .vmem S4096x512 .bf16) (harg4 : arg4.IsWhole) (arg5 :
    Memref sig .tc .vmem S16x512x256 .bf16) (harg5 : arg5.IsWhole) (arg6 : Memref sig .tc .vmem S512x512 .f32)
    (harg6 : arg6.IsWhole) (arg7 : Memref sig .tc .vmem S4x1x1x512 .f32) (harg7 : arg7.IsWhole) (arg8 : Memref sig
    .tc .vmem S4x1x1x512 .f32) (harg8 : arg8.IsWhole) (arg9 : Memref sig .tc .vmem S512x512 .f32) (harg9 :
    arg9.IsWhole) (arg10 : Memref sig .tc .vmem S4096x512 .f32) (harg10 : arg10.IsWhole) (arg11 : Memref sig .tc
    .vmem S4096x512 .f32) (harg11 : arg11.IsWhole) (arg12 : Memref sig .tc .vmem S4096x512 .f32) (harg12 :
    arg12.IsWhole) (arg13 : Memref sig .tc .vmem S4x1x1x512 .f32) (harg13 : arg13.IsWhole) (arg14 : Memref sig .tc
    .vmem S4x128x512 .f32) (harg14 : arg14.IsWhole) (arg15 : Memref sig .tc .vmem S4x1x512 .f32) (harg15 :
    arg15.IsWhole) (c : Dev nD) (i : grid0.Coords) (x0 : Vec Ideal S512x512 .bf16) (x1 : Vec Ideal S4096x512 .bf16)
    (x2 : Vec Ideal S4096x512 .bf16) (x3 : Vec Ideal S16x512x256 .bf16) (x4 : Vec Ideal S512x512 .f32) (x5 : Vec
    Ideal S4x1x1x512 .f32) (x6 : Vec Ideal S4x1x1x512 .f32)

theorem outA_q (hc : cond0_0 i) (h : Fin 4) (d : Fin 128) (q : Fin 512) :
    out0_A_7 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        (ix2 q (col h d)) = ∑ j : Fin 16, addQ ⟨x0, x1, x2, x3, x4, x5, x6⟩ (i 1).val j h d q := by
  unfold out0_A_7
  exact runA_q arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc VO0_7 _
      h d q

theorem outA_r (hc : cond0_0 i) (h : Fin 4) (q : Fin 512) :
    out0_A_11 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        (ix4 h 0 0 q) = ∑ j : Fin 16, addR ⟨x0, x1, x2, x3, x4, x5, x6⟩ (i 1).val j h q := by
  unfold out0_A_11
  exact runA_r arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc VO0_11 _
      h q

theorem outA_k (hc : cond0_0 i) (h : Fin 4) (r : Fin 4096) (d : Fin 128) :
    out0_A_8 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        (ix2 r (col h d)) = 0 + addK ⟨x0, x1, x2, x3, x4, x5, x6⟩ (i 1).val h r d := by
  unfold out0_A_8
  refine (View.read_writes_apply_eq (Val := Elt Ideal) VO0_8 VO0_8.junk arg10.view arg10.view.junk _ _ (cover0_A_8
      c i arg2 harg2 arg3 harg3 arg4 harg4 arg5 harg5 arg6 harg6 arg7 harg7 arg8 harg8 arg9 harg9 arg10 harg10
      arg11 harg11 arg12 harg12 arg13 harg13 arg14 harg14 arg15 harg15 hc x0 x1 x2 x3 x4 x5 x6 _)).trans ?_
  exact runA_k arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc h r d

theorem outA_v (hc : cond0_0 i) (h : Fin 4) (r : Fin 4096) (d : Fin 128) :
    out0_A_9 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        (ix2 r (col h d)) = 0 + addV ⟨x0, x1, x2, x3, x4, x5, x6⟩ (i 1).val h r d := by
  unfold out0_A_9
  refine (View.read_writes_apply_eq (Val := Elt Ideal) VO0_9 VO0_9.junk arg11.view arg11.view.junk _ _ (cover0_A_9
      c i arg2 harg2 arg3 harg3 arg4 harg4 arg5 harg5 arg6 harg6 arg7 harg7 arg8 harg8 arg9 harg9 arg10 harg10
      arg11 harg11 arg12 harg12 arg13 harg13 arg14 harg14 arg15 harg15 hc x0 x1 x2 x3 x4 x5 x6 _)).trans ?_
  exact runA_v arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc h r d

theorem outA_c (hc : cond0_0 i) (h : Fin 4) (r : Fin 4096) (d : Fin 128) :
    out0_A_10 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        (ix2 r (col h d)) = 0 + addC ⟨x0, x1, x2, x3, x4, x5, x6⟩ (i 1).val h r d := by
  unfold out0_A_10
  refine (View.read_writes_apply_eq (Val := Elt Ideal) VO0_10 VO0_10.junk arg12.view arg12.view.junk _ _
      (cover0_A_10 c i arg2 harg2 arg3 harg3 arg4 harg4 arg5 harg5 arg6 harg6 arg7 harg7 arg8 harg8 arg9 harg9
      arg10 harg10 arg11 harg11 arg12 harg12 arg13 harg13 arg14 harg14 arg15 harg15 hc x0 x1 x2 x3 x4 x5 x6
      _)).trans ?_
  exact runA_c arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc h r d

theorem outB_q (hc : ¬cond0_0 i) (xo8 xo9 xo10 : Vec Ideal S4096x512 .f32) (h : Fin 4) (d : Fin 128) (q : Fin 512) :
    out0_B_7 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        xo8 xo9 xo10 (ix2 q (col h d)) = ∑ j : Fin 16, addQ ⟨x0, x1, x2, x3, x4, x5, x6⟩ (i 1).val j h d q := by
  unfold out0_B_7
  exact runB_q arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc xo8 xo9
      xo10 VO0_7 _ h d q

theorem outB_r (hc : ¬cond0_0 i) (xo8 xo9 xo10 : Vec Ideal S4096x512 .f32) (h : Fin 4) (q : Fin 512) :
    out0_B_11 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        xo8 xo9 xo10 (ix4 h 0 0 q) = ∑ j : Fin 16, addR ⟨x0, x1, x2, x3, x4, x5, x6⟩ (i 1).val j h q := by
  unfold out0_B_11
  exact runB_r arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc xo8 xo9
      xo10 VO0_11 _ h q

theorem outB_k (hc : ¬cond0_0 i) (xo8 xo9 xo10 : Vec Ideal S4096x512 .f32) (h : Fin 4) (r : Fin 4096) (d : Fin 128) :
    out0_B_8 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        xo8 xo9 xo10 (ix2 r (col h d)) = xo8 (ix2 r (col h d)) + addK ⟨x0, x1, x2, x3, x4, x5, x6⟩ (i 1).val h r d
        := by
  unfold out0_B_8
  exact runB_k arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc xo8 xo9
      xo10 (fun h r d => xo8 (ix2 r (col h d))) (fun _ _ _ => rfl) h r d

theorem outB_v (hc : ¬cond0_0 i) (xo8 xo9 xo10 : Vec Ideal S4096x512 .f32) (h : Fin 4) (r : Fin 4096) (d : Fin 128) :
    out0_B_9 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        xo8 xo9 xo10 (ix2 r (col h d)) = xo9 (ix2 r (col h d)) + addV ⟨x0, x1, x2, x3, x4, x5, x6⟩ (i 1).val h r d
        := by
  unfold out0_B_9
  exact runB_v arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc xo8 xo9
      xo10 (fun h r d => xo9 (ix2 r (col h d))) (fun _ _ _ => rfl) h r d

theorem outB_c (hc : ¬cond0_0 i) (xo8 xo9 xo10 : Vec Ideal S4096x512 .f32) (h : Fin 4) (r : Fin 4096) (d : Fin 128) :
    out0_B_10 (F := Ideal) c i arg2 harg2 arg3 harg3 arg4 harg4 arg5 harg5 arg6 harg6 arg7 harg7 arg8 harg8 arg9
        harg9 arg10 harg10 arg11 harg11 arg12 harg12 arg13 harg13 arg14 harg14 arg15 harg15 hc x0 x1 x2 x3 x4 x5 x6
        xo8 xo9 xo10 (ix2 r (col h d)) = xo10 (ix2 r (col h d)) + addC ⟨x0, x1, x2, x3, x4, x5, x6⟩ (i 1).val h r d
        := by
  unfold out0_B_10
  exact runB_c arg2 harg2 arg3 harg3 arg4 harg4 arg5 harg5 arg6 harg6 arg7 harg7 arg8 harg8 arg9 harg9 arg10 harg10
      arg11 harg11 arg12 harg12 arg13 harg13 arg14 harg14 arg15 harg15 c ⟨x0, x1, x2, x3, x4, x5, x6⟩ i hc xo8 xo9
      xo10 (fun h r d => xo10 (ix2 r (col h d))) (fun _ _ _ => rfl) h r d

end Cert.Fox

end
-- ==== Proof.Fox.Points.lean ====
module

public import proofs.«01_k».proof.Proof.Fox.Outs

/-!
# Forgetting attention backward: what the grid points leave

Point `t` leaves its queries' gradients, and in the gradients of keys and values and in the lanes of the gate the
    sum over the points up to it.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (m : (ℓ : Loc nD τ sig) → Buf (Elt Ideal) ℓ)

/-- The blocks of point `t`. -/
def blocks (c : Dev nD) (t : Fin cfg0.N) : Blocks :=
  ⟨iblk m c 0 t, iblk m c 1 t, iblk m c 2 t, iblk m c 3 t, iblk m c 4 t, iblk m c 5 t, iblk m c 6 t⟩

theorem coord : ∀ t : Fin cfg0.N, (grid0.coords t 1).val = t.val := by decide +kernel

theorem point_q (c : Dev nD) (t : Fin cfg0.N) (h : Fin 4) (d : Fin 128) (q : Fin 512) :
    (outsAt0 m c t.val t.isLt).1 (ix2 q (col h d)) = ∑ j : Fin 16, addQ (blocks m c t) t.val j h d q := by
  have e := coord t
  by_cases h0 : t.val % 8 = 0
  · exact (congrFun (congrArg Prod.fst (outsAt0_A m c t h0)) _).trans
      ((outA_q _ _ _ _ _ _ _ _ _ _ _ _ _ _ _ _ _ _ _ _ _ _ _ _ _ _ _ _ c (grid0.coords t) _ _ _ _ _ _ _ ((hcond0_0
          t).mpr h0) h d q).trans (by
        rw [e]
        rfl))
  · rw [congrFun (congrArg (fun p => p.1) (outsAt0_B m c t h0)) (ix2 q (col h d))]
    dsimp only
    rw [outB_q]
    rw [e]
    rfl

theorem point_r (c : Dev nD) (t : Fin cfg0.N) (h : Fin 4) (q : Fin 512) :
    (outsAt0 m c t.val t.isLt).2.2.2.2 (ix4 h 0 0 q) = ∑ j : Fin 16, addR (blocks m c t) t.val j h q := by
  have e := coord t
  by_cases h0 : t.val % 8 = 0
  · rw [congrFun (congrArg (fun p => p.2.2.2.2) (outsAt0_A m c t h0)) (ix4 h 0 0 q)]
    dsimp only
    rw [outA_r]
    rw [e]
    rfl
  · rw [congrFun (congrArg (fun p => p.2.2.2.2) (outsAt0_B m c t h0)) (ix4 h 0 0 q)]
    dsimp only
    rw [outB_r]
    rw [e]
    rfl

theorem point_k (c : Dev nD) (n : ℕ) (hn : n < cfg0.N) (h : Fin 4) (r : Fin 4096) (d : Fin 128) :
    (outsAt0 m c n hn).2.1 (ix2 r (col h d))
      = ∑ s : Fin (n + 1), addK (blocks m c ⟨s.val, by omega⟩) s.val h r d := by
  induction n generalizing h r d with
  | zero =>
    refine (congrFun (congrArg (fun p => p.2.1) (outsAt0_A m c ⟨0, hn⟩ rfl)) _).trans
      ((outA_k _ _ _ _ _ _ _ _ _ _ _ _ _ _ _ _ _ _ _ _ _ _ _ _ _ _ _ _ c (grid0.coords ⟨0, hn⟩) _ _ _ _ _ _ _
          ((hcond0_0 ⟨0, hn⟩).mpr (Nat.zero_mod _)) h r d).trans ?_)
    rw [coord, zero_add, Fin.sum_univ_one]
    rfl
  | succ n ih =>
    have h0 : ¬ (n + 1) % 8 = 0 := by
      have : n + 1 < 8 := hn
      omega
    refine (congrFun (congrArg (fun p => p.2.1) (outsAt0_B m c ⟨n + 1, hn⟩ h0)) _).trans
      ((outB_k _ _ _ _ _ _ _ _ _ _ _ _ _ _ _ _ _ _ _ _ _ _ _ _ _ _ _ _ c (grid0.coords ⟨n + 1, hn⟩) _ _ _ _ _ _ _
          (fun hh => h0 ((hcond0_0 ⟨n + 1, hn⟩).mp hh)) _ _ _ h r d).trans ?_)
    rw [coord, Fin.sum_univ_castSucc]
    exact congrArg (· + _) (ih (Nat.lt_of_succ_lt hn) h r d)

theorem point_v (c : Dev nD) (n : ℕ) (hn : n < cfg0.N) (h : Fin 4) (r : Fin 4096) (d : Fin 128) :
    (outsAt0 m c n hn).2.2.1 (ix2 r (col h d))
      = ∑ s : Fin (n + 1), addV (blocks m c ⟨s.val, by omega⟩) s.val h r d := by
  induction n generalizing h r d with
  | zero =>
    refine (congrFun (congrArg (fun p => p.2.2.1) (outsAt0_A m c ⟨0, hn⟩ rfl)) _).trans
      ((outA_v _ _ _ _ _ _ _ _ _ _ _ _ _ _ _ _ _ _ _ _ _ _ _ _ _ _ _ _ c (grid0.coords ⟨0, hn⟩) _ _ _ _ _ _ _
          ((hcond0_0 ⟨0, hn⟩).mpr (Nat.zero_mod _)) h r d).trans ?_)
    rw [coord, zero_add, Fin.sum_univ_one]
    rfl
  | succ n ih =>
    have h0 : ¬ (n + 1) % 8 = 0 := by
      have : n + 1 < 8 := hn
      omega
    refine (congrFun (congrArg (fun p => p.2.2.1) (outsAt0_B m c ⟨n + 1, hn⟩ h0)) _).trans
      ((outB_v _ _ _ _ _ _ _ _ _ _ _ _ _ _ _ _ _ _ _ _ _ _ _ _ _ _ _ _ c (grid0.coords ⟨n + 1, hn⟩) _ _ _ _ _ _ _
          (fun hh => h0 ((hcond0_0 ⟨n + 1, hn⟩).mp hh)) _ _ _ h r d).trans ?_)
    rw [coord, Fin.sum_univ_castSucc]
    exact congrArg (· + _) (ih (Nat.lt_of_succ_lt hn) h r d)

theorem point_c (c : Dev nD) (n : ℕ) (hn : n < cfg0.N) (h : Fin 4) (r : Fin 4096) (d : Fin 128) :
    (outsAt0 m c n hn).2.2.2.1 (ix2 r (col h d))
      = ∑ s : Fin (n + 1), addC (blocks m c ⟨s.val, by omega⟩) s.val h r d := by
  induction n generalizing h r d with
  | zero =>
    refine (congrFun (congrArg (fun p => p.2.2.2.1) (outsAt0_A m c ⟨0, hn⟩ rfl)) _).trans
      ((outA_c _ _ _ _ _ _ _ _ _ _ _ _ _ _ _ _ _ _ _ _ _ _ _ _ _ _ _ _ c (grid0.coords ⟨0, hn⟩) _ _ _ _ _ _ _
          ((hcond0_0 ⟨0, hn⟩).mpr (Nat.zero_mod _)) h r d).trans ?_)
    rw [coord, zero_add, Fin.sum_univ_one]
    rfl
  | succ n ih =>
    have h0 : ¬ (n + 1) % 8 = 0 := by
      have : n + 1 < 8 := hn
      omega
    refine (congrFun (congrArg (fun p => p.2.2.2.1) (outsAt0_B m c ⟨n + 1, hn⟩ h0)) _).trans
      ((outB_c _ _ _ _ _ _ _ _ _ _ _ _ _ _ _ _ _ _ _ _ _ _ _ _ _ _ _ _ c (grid0.coords ⟨n + 1, hn⟩) _ _ _ _ _ _ _
          (fun hh => h0 ((hcond0_0 ⟨n + 1, hn⟩).mp hh)) _ _ _ h r d).trans ?_)
    rw [coord, Fin.sum_univ_castSucc]
    exact congrArg (· + _) (ih (Nat.lt_of_succ_lt hn) h r d)

end Cert.Fox

end
-- ==== Proof.Fox.Launch.lean ====
module

public import proofs.«01_k».proof.Proof.Fox.Points
public import Idealize.ShloMosaic.Lib.Pipeline.ValueKit

/-!
# Forgetting attention backward: what the launch leaves

The blocks of a point as entries of the launch's operands, and the five result arrays after the last point.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The block indices in closed form. -/
theorem idx (t : Fin cfg0.N) :
    win0_0.index t = ![t.val, 0] ∧ win0_1.index t = ![0, 1] ∧ win0_2.index t = ![0, 2] ∧ win0_3.index t = ![0, 0, 0]
      ∧ win0_4.index t = ![t.val, 0] ∧ win0_5.index t = ![0, t.val, 0, 0] ∧ win0_6.index t = ![0, t.val, 0, 0]
      ∧ win0_7.index t = ![t.val, 0] ∧ win0_8.index t = ![0, 0] ∧ win0_9.index t = ![0, 0]
      ∧ win0_10.index t = ![0, 0] ∧ win0_11.index t = ![0, t.val, 0, 0] :=
  (by decide +kernel : ∀ t : Fin grid0.N,
    win0_0.index t = ![t.val, 0] ∧ win0_1.index t = ![0, 1] ∧ win0_2.index t = ![0, 2] ∧ win0_3.index t = ![0, 0, 0]
      ∧ win0_4.index t = ![t.val, 0] ∧ win0_5.index t = ![0, t.val, 0, 0] ∧ win0_6.index t = ![0, t.val, 0, 0]
      ∧ win0_7.index t = ![t.val, 0] ∧ win0_8.index t = ![0, 0] ∧ win0_9.index t = ![0, 0]
      ∧ win0_10.index t = ![0, 0] ∧ win0_11.index t = ![0, t.val, 0, 0]) t

/-- Position `q` of the queries of point `t`. -/
def pos (t : Fin 8) (q : Fin 512) : Fin 4096 := ⟨512 * t.val + q.val, by omega⟩

/-- Column `e` of part `p` of the three side by side. -/
def part (p : Fin 3) (e : Fin 512) : Fin 1536 := ⟨512 * p.val + e.val, by omega⟩

/-- Column `e` of the first of two halves. -/
def firstHalf (e : Fin 512) : Fin 1024 := ⟨e.val, by omega⟩

/-- Window 0, read off its array. -/
theorem read_q (A : FVec Ideal S4096x1536 .bf16) (t : Fin 8) (q e : Fin 512) :
    ((cfg0.win 0).blk t).view.read (Elt Ideal) A (ix2 q e) = A (ix2 (pos t q) (part 0 e)) := by
  have i := (idx t).1
  refine congrArg A ?_
  unfold pos part
  blk_ext [i]

theorem blk_q (t : Fin 8) (q e : Fin 512) : (blocks m c t).q (ix2 q e) = V m c main_v92 (ix2 (pos t q) (part 0 e)) :=
  read_q (V m c main_v92) t q e

/-- Window 1, read off its array. -/
theorem read_k (A : FVec Ideal S4096x1536 .bf16) (t : Fin 8) (r : Fin 4096) (e : Fin 512) :
    ((cfg0.win 1).blk t).view.read (Elt Ideal) A (ix2 r e) = A (ix2 r (part 1 e)) := by
  have i := (idx t).2.1
  refine congrArg A ?_
  unfold part
  blk_ext [i]

theorem blk_k (t : Fin 8) (r : Fin 4096) (e : Fin 512) : (blocks m c t).k (ix2 r e) = V m c main_v92 (ix2 r (part 1 e)) :=
  read_k (V m c main_v92) t r e

/-- Window 2, read off its array. -/
theorem read_v (A : FVec Ideal S4096x1536 .bf16) (t : Fin 8) (r : Fin 4096) (e : Fin 512) :
    ((cfg0.win 2).blk t).view.read (Elt Ideal) A (ix2 r e) = A (ix2 r (part 2 e)) := by
  have i := (idx t).2.2.1
  refine congrArg A ?_
  unfold part
  blk_ext [i]

theorem blk_v (t : Fin 8) (r : Fin 4096) (e : Fin 512) : (blocks m c t).v (ix2 r e) = V m c main_v92 (ix2 r (part 2 e)) :=
  read_v (V m c main_v92) t r e

/-- Window 3, read off its array. -/
theorem read_kt (A : FVec Ideal S16x1024x256 .bf16) (t : Fin 8) (j : Fin 16) (e : Fin 512) (a : Fin 256) :
    ((cfg0.win 3).blk t).view.read (Elt Ideal) A (ix3 j e a) = A (ix3 j (firstHalf e) a) := by
  have i := (idx t).2.2.2.1
  refine congrArg A ?_
  unfold firstHalf
  blk_ext [i]

theorem blk_kt (t : Fin 8) (j : Fin 16) (e : Fin 512) (a : Fin 256) : (blocks m c t).kt (ix3 j e a) = V m c main_v95 (ix3 j (firstHalf e) a) :=
  read_kt (V m c main_v95) t j e a

/-- Window 4, read off its array. -/
theorem read_g (A : FVec Ideal S4096x512 .f32) (t : Fin 8) (q e : Fin 512) :
    ((cfg0.win 4).blk t).view.read (Elt Ideal) A (ix2 q e) = A (ix2 (pos t q) e) := by
  have i := (idx t).2.2.2.2.1
  refine congrArg A ?_
  unfold pos
  blk_ext [i]

theorem blk_g (t : Fin 8) (q e : Fin 512) : (blocks m c t).g (ix2 q e) = V m c main_v99 (ix2 (pos t q) e) :=
  read_g (V m c main_v99) t q e

/-- Window 5, read off its array. -/
theorem read_lse (A : FVec Ideal S4x8x1x512 .f32) (t : Fin 8) (h : Fin 4) (q : Fin 512) :
    ((cfg0.win 5).blk t).view.read (Elt Ideal) A (ix4 h 0 0 q) = A (ix4 h t 0 q) := by
  have i := (idx t).2.2.2.2.2.1
  refine congrArg A ?_
  blk_ext [i]

theorem blk_lse (t : Fin 8) (h : Fin 4) (q : Fin 512) : (blocks m c t).lse (ix4 h 0 0 q) = V m c main_v100 (ix4 h t 0 q) :=
  read_lse (V m c main_v100) t h q

/-- Window 6, read off its array. -/
theorem read_dl (A : FVec Ideal S4x8x1x512 .f32) (t : Fin 8) (h : Fin 4) (q : Fin 512) :
    ((cfg0.win 6).blk t).view.read (Elt Ideal) A (ix4 h 0 0 q) = A (ix4 h t 0 q) := by
  have i := (idx t).2.2.2.2.2.2.1
  refine congrArg A ?_
  blk_ext [i]

theorem blk_dl (t : Fin 8) (h : Fin 4) (q : Fin 512) : (blocks m c t).dl (ix4 h 0 0 q) = V m c main_v101 (ix4 h t 0 q) :=
  read_dl (V m c main_v101) t h q

end Cert.Fox

end
-- ==== Proof.Fox.Host.lean ====
module

public import proofs.«01_k».proof.Proof.Fox.Launch
public import proofs.«01_k».proof.Proof.Gen.Reference5Ideal.Read
public import Idealize.ShloMosaic.Lib.StableHlo.RunRead
public import Idealize.ShloMosaic.Lib.Pipeline.Value

/-!
# Forgetting attention backward: the launch's operands

The host lines append the three pieces of the gates' sums and three ones to every head's 64 entries of queries and
keys, and put these 70, or the 64 of values and gradients, in front of zeros up to 128, the heads side by side.
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

/-- The zero the rows are filled up with. -/
def fill : FVec Ideal S_ .f32 := sitofp .f32 (constantI S_ 32 0#32)

/-- Heads of 70 filled up to 128. -/
def wide70 (x : FVec Ideal S4096x4x70 .f32) : FVec Ideal S4096x512 .f32 :=
  shapeCast _ (pad S4096x4x128 ![0, 0, 0] ![0, 0, 58] ![0, 0, 0]
    (shapeCast S4096x4x70 (shapeCast S4096x280 x shapeCasts_S4096x4x70_S4096x280) shapeCasts_S4096x280_S4096x4x70) fill
    pads_S4096x4x70_S4096x4x128_000_000_0580 h_S_) shapeCasts_S4096x4x128_S4096x512

/-- Heads of 64 filled up to 128. -/
def wide64 (x : FVec Ideal S4096x4x64 .f32) : FVec Ideal S4096x512 .f32 :=
  shapeCast _ (pad S4096x4x128 ![0, 0, 0] ![0, 0, 64] ![0, 0, 0]
    (shapeCast S4096x4x64 (shapeCast S4096x256 x shapeCasts_S4096x4x64_S4096x256) shapeCasts_S4096x256_S4096x4x64) fill
    pads_S4096x4x64_S4096x4x128_000_000_0640 h_S_) shapeCasts_S4096x4x128_S4096x512

/-- The scale, at every entry. -/
def scale64 : FVec Ideal S4096x4x64 .f32 := broadcastInDim S4096x4x64 ![] bcast_S_S4096x4x64 (constant S_ .f32 0x3E000000#32)

/-- Three ones for every head. -/
def ones3 : FVec Ideal S4096x4x3 .f32 := broadcastInDim S4096x4x3 ![] bcast_S_S4096x4x3 (constant S_ .f32 0x3F800000#32)

/-- The first piece of the gates' sums. -/
def hi (c : FVec Ideal S4096x4 .f32) : FVec Ideal S4096x4 .f32 := extf .f32 (truncf .bf16 c bitsLt_bf16_f32) bitsLt_bf16_f32

/-- The second piece. -/
def mid (c : FVec Ideal S4096x4 .f32) : FVec Ideal S4096x4 .f32 := hi (subf c (hi c))

/-- The three pieces of the gates' sums. -/
def gate (c : FVec Ideal S4096x4 .f32) : FVec Ideal S4096x4x3 .f32 :=
  concatenate S4096x4x3 2 [⟨S4096x4x1, broadcastInDim S4096x4x1 ![0, 1] bcast_S4096x4_S4096x4x1_0_1 (hi c)⟩,
    ⟨S4096x4x1, broadcastInDim S4096x4x1 ![0, 1] bcast_S4096x4_S4096x4x1_0_1 (mid c)⟩,
    ⟨S4096x4x1, broadcastInDim S4096x4x1 ![0, 1] bcast_S4096x4_S4096x4x1_0_1 (subf (subf c (hi c)) (mid c))⟩]
    concatenates_S4096x4x1_S4096x4x1_S4096x4x1_S4096x4x3_d2

/-- The queries with what multiplies the gates. -/
def qside (q : FVec Ideal S4096x4x64 .f32) (c : FVec Ideal S4096x4 .f32) : FVec Ideal S4096x4x70 .f32 :=
  concatenate S4096x4x70 2 [⟨S4096x4x64, mulf q scale64⟩, ⟨S4096x4x3, ones3⟩, ⟨S4096x4x3, gate c⟩]
    concatenates_S4096x4x64_S4096x4x3_S4096x4x3_S4096x4x70_d2

/-- The keys with what multiplies the gates. -/
def kside (k : FVec Ideal S4096x4x64 .f32) (c : FVec Ideal S4096x4 .f32) : FVec Ideal S4096x4x70 .f32 :=
  concatenate S4096x4x70 2 [⟨S4096x4x64, k⟩, ⟨S4096x4x3, Host.negf (gate c)⟩, ⟨S4096x4x3, ones3⟩]
    concatenates_S4096x4x64_S4096x4x3_S4096x4x3_S4096x4x70_d2

/-- Queries, keys and values side by side. -/
def beside (q k v : FVec Ideal S4096x4x64 .f32) (c : FVec Ideal S4096x4 .f32) : FVec Ideal S4096x1536 .bf16 :=
  concatenate S4096x1536 1 [⟨S4096x512, truncf .bf16 (wide70 (qside q c)) bitsLt_bf16_f32⟩,
    ⟨S4096x512, truncf .bf16 (wide70 (kside k c)) bitsLt_bf16_f32⟩, ⟨S4096x512, truncf .bf16 (wide64 v) bitsLt_bf16_f32⟩]
    concatenates_S4096x512_S4096x512_S4096x512_S4096x1536_d1

/-- Keys and values in sixteen transposed tiles. -/
def tiles (k v : FVec Ideal S4096x4x64 .f32) (c : FVec Ideal S4096x4 .f32) : FVec Ideal S16x1024x256 .bf16 :=
  transpose S16x1024x256 [0, 2, 1] (shapeCast S16x256x1024 (concatenate S4096x1024 1
    [⟨S4096x512, truncf .bf16 (wide70 (kside k c)) bitsLt_bf16_f32⟩, ⟨S4096x512, truncf .bf16 (wide64 v) bitsLt_bf16_f32⟩]
    concatenates_S4096x512_S4096x512_S4096x1024_d1) shapeCasts_S4096x1024_S16x256x1024)
    transposes_S16x256x1024_S16x1024x256_0_2_1

/-- The greatest score of every query. -/
def top (q k : FVec Ideal S4096x4x64 .f32) (c : FVec Ideal S4096x4 .f32) : FVec Ideal S4x4096 .f32 :=
  Host.reduce FloatOps.maximumf (Cert.Reference5Ideal.Read.val_main_v17_0 (F := Ideal) q k c) (constant S_ .f32 0xFF800000#32)
    reducesTo_S4x4096x4096_S4x4096_d2 h_S_

/-- The logarithm of the sum of the exponentials of every query's scores. -/
def logSum (q k : FVec Ideal S4096x4x64 .f32) (c : FVec Ideal S4096x4 .f32) : FVec Ideal S4x4096 .f32 :=
  addf (top q k c) (Host.log (Host.reduceAdd (Host.exp (subf (Cert.Reference5Ideal.Read.val_main_v17_0 (F := Ideal) q k c)
    (broadcastInDim S4x4096x4096 ![0, 1, 2] bcast_S4x4096x1_S4x4096x4096_0_1_2
      (broadcastInDim S4x4096x1 ![0, 1] bcast_S4x4096_S4x4096x1_0_1 (top q k c))))) (constant S_ .f32 0x00000000#32)
    reducesTo_S4x4096x4096_S4x4096_d2 h_S_))

/-- The inner product of every query's result and gradient. -/
def inner (q k v : FVec Ideal S4096x4x64 .f32) (c : FVec Ideal S4096x4 .f32) (o : FVec Ideal S4096x4x64 .f32) : FVec Ideal S4x4096 .f32 :=
  transpose S4x4096 [1, 0] (Host.reduceAdd (mulf (Cert.Reference5Ideal.Read.val_main_v47 (F := Ideal) q k v c) o)
    (constant S_ .f32 0x00000000#32) reducesTo_S4096x4x64_S4096x4_d2 h_S_) transposes_S4096x4_S4x4096_1_0

/-- The lines before the launch. -/
abbrev before : List (HloOp τ sig (Elt Ideal)) :=
  List.flatten [hostOps0, hostOps0_1, hostOps0_2, hostOps0_3, hostOps0_4, hostOps0_5, hostOps0_6, hostOps0_7, hostOps0_8,
    hostOps0_9, hostOps0_10, hostOps0_11, hostOps0_12]

variable (W : Valuation τ sig (Elt Ideal))

theorem host_v92 : StableHlo.after before W (Proc.devRef .tc main_v92)
    = beside (W (Proc.devRef .tc main_arg0)) (W (Proc.devRef .tc main_arg1)) (W (Proc.devRef .tc main_arg2)) (W (Proc.devRef .tc main_arg3)) := by
  after_reads_simp
  rfl

theorem host_v95 : StableHlo.after before W (Proc.devRef .tc main_v95)
    = tiles (W (Proc.devRef .tc main_arg1)) (W (Proc.devRef .tc main_arg2)) (W (Proc.devRef .tc main_arg3)) := by
  after_reads_simp
  rfl

theorem host_v99 : StableHlo.after before W (Proc.devRef .tc main_v99)
    = wide64 (W (Proc.devRef .tc main_arg4)) := by
  after_reads_simp
  rfl

theorem host_v100 : StableHlo.after before W (Proc.devRef .tc main_v100)
    = shapeCast S4x8x1x512 (logSum (W (Proc.devRef .tc main_arg0)) (W (Proc.devRef .tc main_arg1)) (W (Proc.devRef .tc main_arg3))) shapeCasts_S4x4096_S4x8x1x512 := by
  after_reads_simp
  rfl

theorem host_v101 : StableHlo.after before W (Proc.devRef .tc main_v101)
    = shapeCast S4x8x1x512 (inner (W (Proc.devRef .tc main_arg0)) (W (Proc.devRef .tc main_arg1)) (W (Proc.devRef .tc main_arg2)) (W (Proc.devRef .tc main_arg3)) (W (Proc.devRef .tc main_arg4))) shapeCasts_S4x4096_S4x8x1x512 := by
  after_reads_simp
  rfl

end Cert.Fox

end
-- ==== Proof.Fox.Ref.lean ====
module

public import proofs.«01_k».proof.Proof.Mla.Core
public import proofs.«01_k».proof.Proof.Fox.Host
public import Idealize.ShloMosaic.Lib.Pipeline.Value
public import Idealize.ShloMosaic.Lib.WordCmp

/-!
# Forgetting attention backward: the reference, entry by entry, on real arguments
-/

@[expose] public section
set_option relaxedAutoImplicit false
set_option maxRecDepth 16384

noncomputable section

namespace Cert.Fox

open Cert.Mla Idealize.ShloMosaic Idealize.ShloMosaic.TcCoe Idealize.SL.Sem Cert.Reference5Ideal Cert.Reference5Ideal.Gen
  Cert.Reference5Ideal.Read

/-- Whether the query at position `p` sees the key at position `r`. -/
abbrev sees (p r : Fin 4096) : Prop := r.val ≤ p.val

theorem sees_self (p : Fin 4096) : ∃ r, sees p r := ⟨p, le_rfl⟩

theorem seen_at (h : Fin 4) (p r : Fin 4096) : val_main_v17_1 (F := Ideal) (ix3 h p r) = BitVec.ofBool (decide (sees p r)) := by
  refine Eq.trans (b := IntOp.cmpi .sle (BitVec.ofNat 32 r.val) (BitVec.ofNat 32 p.val)) ?_ ?_
  · pointwise [val_main_v17_1, val_main_v16, val_main_v15, val_main_v14, val_main_v13, val_main_v12, val_main_v0]
  · exact WordCmp.cmpi_sle_ofNat (by omega) (by omega)

/-- The scale. -/
def kappa : ℝ := (Ideal.ofBits .f32 0x3E000000#32).toReal

theorem kappa_eq : Ideal.ofBits .f32 0x3E000000#32 = (kappa : EReal) := by
  refine (EReal.coe_toReal ?_ ?_).symm <;> simp [Ideal.ofBits, Ideal.ieee, -EReal.coe_mul]

theorem ofBits_top : Ideal.ofBits .f32 0xFF800000#32 = ⊥ := by simp [Ideal.ofBits, Ideal.ieee]

theorem one_eq : Ideal.ofBits .f32 0x3F800000#32 = 1 := by
  simp [Ideal.ofBits, Ideal.ieee, -EReal.coe_mul]
  norm_num

/-- An array of real numbers. -/
def lift64 (x : Fin 4096 → Fin 4 → Fin 64 → ℝ) : FVec Ideal S4096x4x64 .f32 := fun i => (x (i 0) (i 1) (i 2) : EReal)
def lift4 (x : Fin 4096 → Fin 4 → ℝ) : FVec Ideal S4096x4 .f32 := fun i => (x (i 0) (i 1) : EReal)

theorem lift64_at (x : Fin 4096 → Fin 4 → Fin 64 → ℝ) (r : Fin 4096) (h : Fin 4) (d : Fin 64) :
    lift64 x (ix3 r h d) = (x r h d : EReal) := rfl
theorem lift4_at (x : Fin 4096 → Fin 4 → ℝ) (r : Fin 4096) (h : Fin 4) :
    lift4 x (ix2 r h) = (x r h : EReal) := rfl

variable (q k v : Fin 4096 → Fin 4 → Fin 64 → ℝ) (u : Fin 4096 → Fin 4 → ℝ) (o : Fin 4096 → Fin 4 → Fin 64 → ℝ)

/-- The scores of query `p`. -/
def scores (h : Fin 4) (p r : Fin 4096) : ℝ := (∑ d, q p h d * k r h d) * kappa + u p h - u r h

/-- The weights of query `p`. -/
def weights (h : Fin 4) (p r : Fin 4096) : ℝ := prob (scores q k u h p) (sees p) r

/-- The gradient that reaches the weights of query `p`. -/
def reaches (h : Fin 4) (p r : Fin 4096) : ℝ := ∑ d, o p h d * v r h d

/-- The mean of the gradients under the weights. -/
def mean (h : Fin 4) (p : Fin 4096) : ℝ := ∑ r, weights q k u h p r * reaches v o h p r

/-- The gradient of the scores of query `p`. -/
def dscores (h : Fin 4) (p r : Fin 4096) : ℝ := weights q k u h p r * (reaches v o h p r - mean q k v u o h p)

theorem v1_at (h : Fin 4) (p r : Fin 4096) :
    val_main_v1 (F := Ideal) (lift64 q) (lift64 k) (ix3 h p r) = ((∑ d, q p h d * k r h d : ℝ) : EReal) := by
  rw [val_main_v1_apply]
  exact sum_mul_coe (fun d => q p h d) fun d => k r h d

theorem v7_at (h : Fin 4) (p r : Fin 4096) : val_main_v7 (F := Ideal) (lift64 q) (lift64 k) (lift4 u) (ix3 h p r)
    = (((∑ d, q p h d * k r h d) * kappa + u p h : ℝ) : EReal) := by
  refine Eq.trans (b := val_main_v1 (F := Ideal) (lift64 q) (lift64 k) (ix3 h p r) * Ideal.ofBits .f32 0x3E000000#32
    + lift4 u (ix2 p h)) ?_ ?_
  · unfold val_main_v7 val_main_v3
    generalize val_main_v1 (F := Ideal) (lift64 q) (lift64 k) = X
    generalize lift4 u = Y
    pointwise [val_main_v2, val_main_cst, val_main_v6, val_main_v5, val_main_v4]
  · rw [v1_at, kappa_eq, lift4_at, ← EReal.coe_mul, ← EReal.coe_add]

theorem v11_at (h : Fin 4) (p r : Fin 4096) :
    val_main_v11 (F := Ideal) (lift64 q) (lift64 k) (lift4 u) (ix3 h p r) = (scores q k u h p r : EReal) := by
  refine Eq.trans (b := val_main_v7 (F := Ideal) (lift64 q) (lift64 k) (lift4 u) (ix3 h p r) - lift4 u (ix2 r h)) ?_ ?_
  · unfold val_main_v11
    generalize val_main_v7 (F := Ideal) (lift64 q) (lift64 k) (lift4 u) = X
    generalize lift4 u = Y
    pointwise [val_main_v10, val_main_v9, val_main_v8]
  · rw [v7_at, lift4_at, ← EReal.coe_sub]
    rfl

theorem v17_at (h : Fin 4) (p r : Fin 4096) :
    val_main_v17_0 (F := Ideal) (lift64 q) (lift64 k) (lift4 u) (ix3 h p r) = masked (scores q k u h p) (sees p) r := by
  refine Eq.trans (b := Scalar.select (val_main_v17_1 (F := Ideal) (ix3 h p r))
    (val_main_v11 (F := Ideal) (lift64 q) (lift64 k) (lift4 u) (ix3 h p r)) (Ideal.ofBits .f32 0xFF800000#32)) ?_ ?_
  · pointwise [val_main_v17_0, val_main_call0_v2, val_main_call0_v0, val_main_cst_0]
    rfl
  · rw [seen_at, v11_at, ofBits_top]
    unfold masked
    by_cases hs : sees p r <;> simp [hs, Scalar.select]

theorem top_at (h : Fin 4) (p : Fin 4096) :
    top (lift64 q) (lift64 k) (lift4 u) (ix2 h p) = (peak (scores q k u h p) (sees p) : EReal) := by
  refine Eq.trans (b := Finset.univ.fold max (Ideal.ofBits .f32 0xFF800000#32)
    fun r => val_main_v17_0 (F := Ideal) (lift64 q) (lift64 k) (lift4 u) (ix3 h p r)) ?_ ?_
  · unfold top
    generalize val_main_v17_0 (F := Ideal) (lift64 q) (lift64 k) (lift4 u) = X
    pointwise
  · rw [ofBits_top, show (fun r => val_main_v17_0 (F := Ideal) (lift64 q) (lift64 k) (lift4 u) (ix3 h p r))
      = masked (scores q k u h p) (sees p) from funext fun r => v17_at q k u h p r]
    exact peak_eq _ (sees_self p)

theorem v18_eq (x y : FVec Ideal S4096x4x64 .f32) (z : FVec Ideal S4096x4 .f32) : val_main_v18 (F := Ideal) x y z = top x y z := by
  unfold val_main_v18 val_main_cst_1 top
  rfl

theorem v25_at (h : Fin 4) (p : Fin 4096) :
    val_main_v25 (F := Ideal) (lift64 q) (lift64 k) (lift4 u) (ix2 h p) = (peak (scores q k u h p) (sees p) : EReal) := by
  rw [val_main_v25_apply, v18_eq, top_at, Ideal.maximumf_def, val_main_v24_apply, val_main_cst_3_apply,
    show (FloatOps.ofBits .f32 0xFF800000#32 : Ideal .f32) = ⊥ from ofBits_top]
  exact max_eq_right bot_le

theorem v38_at (h : Fin 4) (p r : Fin 4096) :
    val_main_v38 (F := Ideal) (lift64 q) (lift64 k) (lift4 u) (ix3 h p r) = (expo (scores q k u h p) (sees p) r : EReal) := by
  refine Eq.trans (b := Ideal.exp (val_main_v17_0 (F := Ideal) (lift64 q) (lift64 k) (lift4 u) (ix3 h p r)
    - val_main_v25 (F := Ideal) (lift64 q) (lift64 k) (lift4 u) (ix2 h p))) ?_ ?_
  · unfold val_main_v38 val_main_v37 val_main_v36 val_main_v35
    generalize val_main_v17_0 (F := Ideal) (lift64 q) (lift64 k) (lift4 u) = X
    generalize val_main_v25 (F := Ideal) (lift64 q) (lift64 k) (lift4 u) = Y
    pointwise
  · rw [v17_at, v25_at]
    exact exp_masked _ _ r

theorem v39_at (h : Fin 4) (p : Fin 4096) :
    val_main_v39 (F := Ideal) (lift64 q) (lift64 k) (lift4 u) (ix2 h p) = (mass (scores q k u h p) (sees p) : EReal) := by
  refine Eq.trans (b := Ideal.ofBits .f32 0x00000000#32
    + ∑ r, val_main_v38 (F := Ideal) (lift64 q) (lift64 k) (lift4 u) (ix3 h p r)) ?_ ?_
  · unfold val_main_v39 val_main_cst_9
    generalize val_main_v38 (F := Ideal) (lift64 q) (lift64 k) (lift4 u) = X
    pointwise
  · rw [Ideal.ofBits_zero_f32, zero_add]
    unfold mass
    rw [coe_sum]
    exact Finset.sum_congr rfl fun r _ => v38_at q k u h p r

theorem v40_at (h : Fin 4) (p : Fin 4096) :
    val_main_v40 (F := Ideal) (lift64 q) (lift64 k) (lift4 u) (ix3 h p 0) = (mass (scores q k u h p) (sees p) : EReal) := by
  refine Eq.trans ?_ (v39_at q k u h p)
  unfold val_main_v40
  generalize val_main_v39 (F := Ideal) (lift64 q) (lift64 k) (lift4 u) = X
  pointwise

theorem v42_at (h : Fin 4) (p r : Fin 4096) :
    val_main_v42 (F := Ideal) (lift64 q) (lift64 k) (lift4 u) (ix3 h p r) = (weights q k u h p r : EReal) := by
  refine Eq.trans (b := Ideal.div (val_main_v38 (F := Ideal) (lift64 q) (lift64 k) (lift4 u) (ix3 h p r))
    (val_main_v40 (F := Ideal) (lift64 q) (lift64 k) (lift4 u) (ix3 h p 0))) ?_ ?_
  · unfold val_main_v42 val_main_v41
    generalize val_main_v38 (F := Ideal) (lift64 q) (lift64 k) (lift4 u) = X
    generalize val_main_v40 (F := Ideal) (lift64 q) (lift64 k) (lift4 u) = Y
    pointwise
  · rw [v38_at, v40_at]
    exact div_mass _ (sees_self p) _

theorem v47_at (p : Fin 4096) (h : Fin 4) (d : Fin 64) :
    val_main_v47 (F := Ideal) (lift64 q) (lift64 k) (lift64 v) (lift4 u) (ix3 p h d) = ((∑ r, v r h d * weights q k u h p r : ℝ) : EReal) := by
  refine Eq.trans (b := ∑ r, (v r h d : EReal) * val_main_v42 (F := Ideal) (lift64 q) (lift64 k) (lift4 u) (ix3 h p r)) ?_ ?_
  · rw [val_main_v47_apply, val_main_v46_apply]
    generalize val_main_v42 (F := Ideal) (lift64 q) (lift64 k) (lift4 u) = X
    exact Finset.sum_congr rfl fun r _ => congrArg (fun i => (v r h d : EReal) * X i) (eq_ix3 _)
  · simp only [v42_at]
    exact sum_mul_coe (fun r => v r h d) _

theorem v49_at (h : Fin 4) (p r : Fin 4096) :
    val_main_v49 (F := Ideal) (lift64 v) (lift64 o) (ix3 h p r) = (reaches v o h p r : EReal) := by
  rw [val_main_v49_apply]
  simp only [val_main_v48_apply]
  exact sum_mul_coe (fun d => o p h d) fun d => v r h d

theorem v51_at (r : Fin 4096) (h : Fin 4) (d : Fin 64) :
    val_main_v51 (F := Ideal) (lift64 q) (lift64 k) (lift4 u) (lift64 o) (ix3 r h d)
      = ((∑ p, o p h d * weights q k u h p r : ℝ) : EReal) := by
  refine Eq.trans (b := ∑ p, (o p h d : EReal) * val_main_v42 (F := Ideal) (lift64 q) (lift64 k) (lift4 u) (ix3 h p r)) ?_ ?_
  · rw [val_main_v51_apply, val_main_v50_apply]
    simp only [val_main_v48_apply]
    generalize val_main_v42 (F := Ideal) (lift64 q) (lift64 k) (lift4 u) = X
    exact Finset.sum_congr rfl fun p _ => congrArg (fun i => (o p h d : EReal) * X i) (eq_ix3 _)
  · simp only [v42_at]
    exact sum_mul_coe (fun p => o p h d) _

end Cert.Fox

end
-- ==== Proof.Fox.RefGrad.lean ====
module

public import proofs.«01_k».proof.Proof.Fox.Ref

/-!
# Forgetting attention backward: the reference's gradients of the scores, queries and keys
-/

@[expose] public section
set_option relaxedAutoImplicit false
set_option maxRecDepth 16384

noncomputable section

namespace Cert.Fox

open Cert.Mla Idealize.ShloMosaic Idealize.ShloMosaic.TcCoe Idealize.SL.Sem Cert.Reference5Ideal Cert.Reference5Ideal.Gen
  Cert.Reference5Ideal.Read

variable (q k v : Fin 4096 → Fin 4 → Fin 64 → ℝ) (u : Fin 4096 → Fin 4 → ℝ) (o : Fin 4096 → Fin 4 → Fin 64 → ℝ)

theorem v45_at (h : Fin 4) (p : Fin 4096) :
    val_main_v45 (F := Ideal) (lift64 q) (lift64 k) (lift4 u) (ix3 h p 0)
      = ((1 / (mass (scores q k u h p) (sees p) * mass (scores q k u h p) (sees p)) : ℝ) : EReal) := by
  have hz := (mass_pos (scores q k u h p) (sees_self p)).ne'
  refine Eq.trans (b := Ideal.div (Ideal.ofBits .f32 0x3F800000#32) (val_main_v40 (F := Ideal) (lift64 q) (lift64 k) (lift4 u) (ix3 h p 0)
    * val_main_v40 (F := Ideal) (lift64 q) (lift64 k) (lift4 u) (ix3 h p 0))) ?_ ?_
  · unfold val_main_v45 val_main_v43
    generalize val_main_v40 (F := Ideal) (lift64 q) (lift64 k) (lift4 u) = Y
    pointwise [val_main_v44, val_main_cst_10]
  · rw [v40_at, ← EReal.coe_mul, Ideal.div_coe (mul_ne_zero hz hz),
      show Ideal.ofBits .f32 0x3F800000#32 = 1 from one_eq, one_mul]

theorem v54_at (h : Fin 4) (p r : Fin 4096) :
    val_main_v54 (F := Ideal) (lift64 q) (lift64 k) (lift64 v) (lift4 u) (lift64 o) (ix3 h p r)
      = ((reaches v o h p r * (1 / (mass (scores q k u h p) (sees p) * mass (scores q k u h p) (sees p)))
        * expo (scores q k u h p) (sees p) r : ℝ) : EReal) := by
  refine Eq.trans (b := val_main_v49 (F := Ideal) (lift64 v) (lift64 o) (ix3 h p r)
    * val_main_v45 (F := Ideal) (lift64 q) (lift64 k) (lift4 u) (ix3 h p 0)
    * val_main_v38 (F := Ideal) (lift64 q) (lift64 k) (lift4 u) (ix3 h p r)) ?_ ?_
  · unfold val_main_v54 val_main_v53 val_main_v52
    generalize val_main_v38 (F := Ideal) (lift64 q) (lift64 k) (lift4 u) = X
    generalize val_main_v49 (F := Ideal) (lift64 v) (lift64 o) = Z
    generalize val_main_v45 (F := Ideal) (lift64 q) (lift64 k) (lift4 u) = Y
    pointwise
  · rw [v49_at, v45_at, v38_at, ← EReal.coe_mul, ← EReal.coe_mul]

theorem v55_at (h : Fin 4) (p : Fin 4096) :
    val_main_v55 (F := Ideal) (lift64 q) (lift64 k) (lift64 v) (lift4 u) (lift64 o) (ix2 h p)
      = ((∑ r, reaches v o h p r * (1 / (mass (scores q k u h p) (sees p) * mass (scores q k u h p) (sees p)))
        * expo (scores q k u h p) (sees p) r : ℝ) : EReal) := by
  refine Eq.trans (b := Ideal.ofBits .f32 0x00000000#32
    + ∑ r, val_main_v54 (F := Ideal) (lift64 q) (lift64 k) (lift64 v) (lift4 u) (lift64 o) (ix3 h p r)) ?_ ?_
  · unfold val_main_v55 val_main_cst_11
    generalize val_main_v54 (F := Ideal) (lift64 q) (lift64 k) (lift64 v) (lift4 u) (lift64 o) = X
    pointwise
  · rw [Ideal.ofBits_zero_f32, zero_add, coe_sum]
    exact Finset.sum_congr rfl fun r _ => v54_at q k v u o h p r

theorem v60_at (h : Fin 4) (p : Fin 4096) :
    val_main_v60 (F := Ideal) (lift64 q) (lift64 k) (lift64 v) (lift4 u) (lift64 o) (ix2 h p)
      = ((-∑ r, reaches v o h p r * (1 / (mass (scores q k u h p) (sees p) * mass (scores q k u h p) (sees p)))
        * expo (scores q k u h p) (sees p) r : ℝ) : EReal) := by
  refine Eq.trans (b := Ideal.ofBits .f32 0x00000000#32
    + -val_main_v55 (F := Ideal) (lift64 q) (lift64 k) (lift64 v) (lift4 u) (lift64 o) (ix2 h p)) ?_ ?_
  · unfold val_main_v60 val_main_cst_12 val_main_v57 val_main_v56
    generalize val_main_v55 (F := Ideal) (lift64 q) (lift64 k) (lift64 v) (lift4 u) (lift64 o) = X
    pointwise [Fin.sum_univ_one]
  · rw [Ideal.ofBits_zero_f32, zero_add, v55_at, ← EReal.coe_neg]

theorem v64_at (h : Fin 4) (p r : Fin 4096) :
    val_main_v64 (F := Ideal) (lift64 q) (lift64 k) (lift64 v) (lift4 u) (lift64 o) (ix3 h p r)
      = ((dscores q k v u o h p r : ℝ) : EReal) := by
  refine Eq.trans (b := Scalar.select (val_main_v17_1 (F := Ideal) (ix3 h p r))
    ((Ideal.div (val_main_v49 (F := Ideal) (lift64 v) (lift64 o) (ix3 h p r))
      (val_main_v40 (F := Ideal) (lift64 q) (lift64 k) (lift4 u) (ix3 h p 0))
      + val_main_v60 (F := Ideal) (lift64 q) (lift64 k) (lift64 v) (lift4 u) (lift64 o) (ix2 h p))
      * val_main_v38 (F := Ideal) (lift64 q) (lift64 k) (lift4 u) (ix3 h p r)) (Ideal.ofBits .f32 0x00000000#32)) ?_ ?_
  · unfold val_main_v64 val_main_v63 val_main_v62 val_main_v61 val_main_v59 val_main_v58
    generalize val_main_v38 (F := Ideal) (lift64 q) (lift64 k) (lift4 u) = X
    generalize val_main_v40 (F := Ideal) (lift64 q) (lift64 k) (lift4 u) = Y
    generalize val_main_v49 (F := Ideal) (lift64 v) (lift64 o) = Z
    generalize val_main_v60 (F := Ideal) (lift64 q) (lift64 k) (lift64 v) (lift4 u) (lift64 o) = W
    generalize val_main_v17_1 (F := Ideal) = T
    pointwise [val_main_call1_v0, val_main_call1_cst]
  · rw [v49_at, v40_at, v60_at, v38_at, seen_at, div_mass _ (sees_self p), ← EReal.coe_add, ← EReal.coe_mul,
      Ideal.ofBits_zero_f32, grad_eq _ (sees_self p) (fun r => reaches v o h p r) r]
    by_cases hs : sees p r
    · simp only [hs, decide_true, Scalar.select]
      rfl
    · have hz : dscores q k v u o h p r = 0 := by
        unfold dscores weights prob expo
        rw [if_neg hs, zero_div, zero_mul]
      rw [hz, EReal.coe_zero]
      simp [hs, Scalar.select]

theorem v76_at (h : Fin 4) (p r : Fin 4096) :
    val_main_v76 (F := Ideal) (lift64 q) (lift64 k) (lift64 v) (lift4 u) (lift64 o) (ix3 h p r)
      = ((dscores q k v u o h p r * kappa : ℝ) : EReal) := by
  refine Eq.trans (b := val_main_v64 (F := Ideal) (lift64 q) (lift64 k) (lift64 v) (lift4 u) (lift64 o) (ix3 h p r)
    * Ideal.ofBits .f32 0x3E000000#32) ?_ ?_
  · unfold val_main_v76
    generalize val_main_v64 (F := Ideal) (lift64 q) (lift64 k) (lift64 v) (lift4 u) (lift64 o) = X
    pointwise [val_main_v75, val_main_cst_17]
  · rw [v64_at, kappa_eq, ← EReal.coe_mul]

/-- The sums of the gradients of the scores over the queries. -/
theorem v66_at (h : Fin 4) (r : Fin 4096) :
    val_main_v66 (F := Ideal) (lift64 q) (lift64 k) (lift64 v) (lift4 u) (lift64 o) (ix2 h r) = ((∑ p, -dscores q k v u o h p r : ℝ) : EReal) := by
  refine Eq.trans (b := Ideal.ofBits .f32 0x00000000#32
    + ∑ p, -val_main_v64 (F := Ideal) (lift64 q) (lift64 k) (lift64 v) (lift4 u) (lift64 o) (ix3 h p r)) ?_ ?_
  · unfold val_main_v66 val_main_cst_13 val_main_v65
    generalize val_main_v64 (F := Ideal) (lift64 q) (lift64 k) (lift64 v) (lift4 u) (lift64 o) = X
    pointwise
  · rw [Ideal.ofBits_zero_f32, zero_add, coe_sum]
    exact Finset.sum_congr rfl fun p _ => by rw [v64_at, ← EReal.coe_neg]

/-- The sums of the gradients of the scores over the keys. -/
theorem v70_at (h : Fin 4) (p : Fin 4096) :
    val_main_v70 (F := Ideal) (lift64 q) (lift64 k) (lift64 v) (lift4 u) (lift64 o) (ix2 h p) = ((∑ r, dscores q k v u o h p r : ℝ) : EReal) := by
  refine Eq.trans (b := Ideal.ofBits .f32 0x00000000#32
    + ∑ r, val_main_v64 (F := Ideal) (lift64 q) (lift64 k) (lift64 v) (lift4 u) (lift64 o) (ix3 h p r)) ?_ ?_
  · unfold val_main_v70 val_main_cst_15
    generalize val_main_v64 (F := Ideal) (lift64 q) (lift64 k) (lift64 v) (lift4 u) (lift64 o) = X
    pointwise
  · rw [Ideal.ofBits_zero_f32, zero_add, coe_sum]
    exact Finset.sum_congr rfl fun r _ => v64_at q k v u o h p r

theorem v74_at (p : Fin 4096) (h : Fin 4) :
    val_main_v74 (F := Ideal) (lift64 q) (lift64 k) (lift64 v) (lift4 u) (lift64 o) (ix2 p h)
      = ((∑ a, -dscores q k v u o h a p + ∑ r, dscores q k v u o h p r : ℝ) : EReal) := by
  refine Eq.trans (b := (Ideal.ofBits .f32 0x00000000#32 + val_main_v66 (F := Ideal) (lift64 q) (lift64 k) (lift64 v) (lift4 u) (lift64 o) (ix2 h p))
    + (Ideal.ofBits .f32 0x00000000#32 + val_main_v70 (F := Ideal) (lift64 q) (lift64 k) (lift64 v) (lift4 u) (lift64 o) (ix2 h p))) ?_ ?_
  · unfold val_main_v74 val_main_v73 val_main_v72 val_main_v71 val_main_v69 val_main_v68 val_main_v67
    generalize val_main_v66 (F := Ideal) (lift64 q) (lift64 k) (lift64 v) (lift4 u) (lift64 o) = X
    generalize val_main_v70 (F := Ideal) (lift64 q) (lift64 k) (lift64 v) (lift4 u) (lift64 o) = Y
    pointwise [val_main_cst_14, val_main_cst_16, Fin.sum_univ_one]
  · rw [v66_at, v70_at, Ideal.ofBits_zero_f32, zero_add, zero_add, ← EReal.coe_add]

theorem v78_at (r : Fin 4096) (h : Fin 4) (d : Fin 64) :
    val_main_v78 (F := Ideal) (lift64 q) (lift64 k) (lift64 v) (lift4 u) (lift64 o) (ix3 r h d)
      = ((∑ p, dscores q k v u o h p r * kappa * q p h d : ℝ) : EReal) := by
  refine Eq.trans (b := ∑ p, val_main_v76 (F := Ideal) (lift64 q) (lift64 k) (lift64 v) (lift4 u) (lift64 o) (ix3 h p r)
    * (q p h d : EReal)) ?_ ?_
  · rw [val_main_v78_apply, val_main_v77_apply]
    generalize val_main_v76 (F := Ideal) (lift64 q) (lift64 k) (lift64 v) (lift4 u) (lift64 o) = X
    exact Finset.sum_congr rfl fun p _ => congrArg (fun i => X i * (q p h d : EReal)) (eq_ix3 _)
  · simp only [v76_at]
    exact sum_mul_coe _ fun p => q p h d

theorem v80_at (p : Fin 4096) (h : Fin 4) (d : Fin 64) :
    val_main_v80 (F := Ideal) (lift64 q) (lift64 k) (lift64 v) (lift4 u) (lift64 o) (ix3 p h d)
      = ((∑ r, dscores q k v u o h p r * kappa * k r h d : ℝ) : EReal) := by
  refine Eq.trans (b := ∑ r, val_main_v76 (F := Ideal) (lift64 q) (lift64 k) (lift64 v) (lift4 u) (lift64 o) (ix3 h p r)
    * (k r h d : EReal)) ?_ ?_
  · rw [val_main_v80_apply, val_main_v79_apply]
    generalize val_main_v76 (F := Ideal) (lift64 q) (lift64 k) (lift64 v) (lift4 u) (lift64 o) = X
    exact Finset.sum_congr rfl fun r _ => congrArg (fun i => X i * (k r h d : EReal)) (eq_ix3 _)
  · simp only [v76_at]
    exact sum_mul_coe _ fun r => k r h d

end Cert.Fox

end
-- ==== Proof.Fox.RefRows.lean ====
module

public import proofs.«01_k».proof.Proof.Fox.Ref

/-!
# Forgetting attention backward: the two rows the launch reads
-/

@[expose] public section
set_option relaxedAutoImplicit false
set_option maxRecDepth 16384

noncomputable section

namespace Cert.Fox

open Cert.Mla Idealize.ShloMosaic Idealize.ShloMosaic.TcCoe Idealize.SL.Sem Cert.Reference5Ideal Cert.Reference5Ideal.Gen
  Cert.Reference5Ideal.Read

variable (q k v : Fin 4096 → Fin 4 → Fin 64 → ℝ) (u : Fin 4096 → Fin 4 → ℝ) (o : Fin 4096 → Fin 4 → Fin 64 → ℝ)

/-- The sums of the exponentials over the greatest scores. -/
def sumExp (X : FVec Ideal S4x4096x4096 .f32) (Y : FVec Ideal S4x4096 .f32) : FVec Ideal S4x4096 .f32 :=
  Host.reduceAdd (Host.exp (subf X (broadcastInDim S4x4096x4096 ![0, 1, 2] bcast_S4x4096x1_S4x4096x4096_0_1_2
    (broadcastInDim S4x4096x1 ![0, 1] bcast_S4x4096_S4x4096x1_0_1 Y)))) (constant S_ .f32 0x00000000#32)
    reducesTo_S4x4096x4096_S4x4096_d2 h_S_

theorem sumExp_at (X : FVec Ideal S4x4096x4096 .f32) (Y : FVec Ideal S4x4096 .f32) (h : Fin 4) (p : Fin 4096) :
    sumExp X Y (ix2 h p) = Ideal.ofBits .f32 0x00000000#32 + ∑ r, Ideal.exp (X (ix3 h p r) - Y (ix2 h p)) := by
  unfold sumExp
  pointwise

theorem logSum_eq (x y : FVec Ideal S4096x4x64 .f32) (z : FVec Ideal S4096x4 .f32) :
    logSum x y z = addf (top x y z) (Host.log (sumExp (val_main_v17_0 (F := Ideal) x y z) (top x y z))) := by
  unfold logSum sumExp
  rfl

theorem add_log_at (Y R : FVec Ideal S4x4096 .f32) (i : S4x4096.Idx) :
    addf Y (Host.log R) i = Y i + Ideal.log (R i) := rfl

theorem logSum_at (h : Fin 4) (p : Fin 4096) : logSum (lift64 q) (lift64 k) (lift4 u) (ix2 h p)
    = (peak (scores q k u h p) (sees p) : EReal) + Ideal.log (mass (scores q k u h p) (sees p) : EReal) := by
  have e : sumExp (val_main_v17_0 (F := Ideal) (lift64 q) (lift64 k) (lift4 u)) (top (lift64 q) (lift64 k) (lift4 u)) (ix2 h p)
      = (mass (scores q k u h p) (sees p) : EReal) := by
    rw [sumExp_at]
    simp only [top_at, v17_at]
    rw [sum_exp_masked, Ideal.ofBits_zero_f32, zero_add]
  rw [logSum_eq, add_log_at, e, top_at]

theorem inner_at (h : Fin 4) (p : Fin 4096) :
    inner (lift64 q) (lift64 k) (lift64 v) (lift4 u) (lift64 o) (ix2 h p) = (mean q k v u o h p : EReal) := by
  refine Eq.trans (b := Ideal.ofBits .f32 0x00000000#32
    + ∑ d, val_main_v47 (F := Ideal) (lift64 q) (lift64 k) (lift64 v) (lift4 u) (ix3 p h d) * lift64 o (ix3 p h d)) ?_ ?_
  · unfold inner
    generalize val_main_v47 (F := Ideal) (lift64 q) (lift64 k) (lift64 v) (lift4 u) = X
    generalize lift64 o = Y
    pointwise
  · rw [Ideal.ofBits_zero_f32, zero_add]
    simp only [v47_at]
    refine (sum_mul_coe _ fun d => o p h d).trans (congrArg _ ?_)
    unfold mean reaches
    simp only [Finset.sum_mul, Finset.mul_sum]
    rw [Finset.sum_comm]
    exact Finset.sum_congr rfl fun r _ => Finset.sum_congr rfl fun d _ => by ring

end Cert.Fox

end
-- ==== Proof.Fox.Final.lean ====
module

public import proofs.«01_k».proof.Proof.Fox.Launch

/-!
# Forgetting attention backward: the five result arrays after the last point
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- What point `t` leaves in the queries' gradients. -/
def leftQ (t : Fin 8) : FVec Ideal S512x512 .f32 := (outsAt0 m c t.val (show t.val < cfg0.N from t.isLt)).1

/-- What the last point leaves in the keys' gradients. -/
def leftK : FVec Ideal S4096x512 .f32 := (outsAt0 m c 7 (by decide)).2.1

/-- What the last point leaves in the values' gradients. -/
def leftV : FVec Ideal S4096x512 .f32 := (outsAt0 m c 7 (by decide)).2.2.1

/-- What the last point leaves in the lanes of the gates' gradients over the keys. -/
def leftC : FVec Ideal S4096x512 .f32 := (outsAt0 m c 7 (by decide)).2.2.2.1

/-- What point `t` leaves in the gates' gradients over the queries. -/
def leftR (t : Fin 8) : FVec Ideal S4x1x1x512 .f32 := (outsAt0 m c t.val (show t.val < cfg0.N from t.isLt)).2.2.2.2

/-- Blocks of 512 rows put under each other. -/
def stack (f : Fin 8 → FVec Ideal S512x512 .f32) : FVec Ideal S4096x512 .f32 := fun i =>
  f ⟨(i 0).val / 512, by have : (i 0).val < 4096 := (i 0).isLt; omega⟩
    (ix2 (⟨(i 0).val % 512, Nat.mod_lt _ (by norm_num)⟩ : Fin 512) (i 1))

theorem stack_at (f : Fin 8 → FVec Ideal S512x512 .f32) (t : Fin 8) (q e : Fin 512) :
    stack f (ix2 (pos t q) e) = f t (ix2 q e) := by
  have h1 : (512 * t.val + q.val) / 512 = t.val := by omega
  have h2 : (512 * t.val + q.val) % 512 = q.val := by omega
  show f ⟨(512 * t.val + q.val) / 512, _⟩ (ix2 (⟨(512 * t.val + q.val) % 512, _⟩ : Fin 512) e) = _
  simp only [h1, h2]

theorem emb_q (t : Fin 8) (y : S512x512.Idx) : ((cfg0.win 7).blk t).view.emb y = ix2 (pos t (y 0)) (y 1) := by
  have i := (idx t).2.2.2.2.2.2.2.1
  unfold pos
  blk_ext [i]

theorem emb_k (t : Fin 8) (y : S4096x512.Idx) : ((cfg0.win 8).blk t).view.emb y = y := by
  have i := (idx t).2.2.2.2.2.2.2.2.1
  blk_ext [i]

theorem emb_v (t : Fin 8) (y : S4096x512.Idx) : ((cfg0.win 9).blk t).view.emb y = y := by
  have i := (idx t).2.2.2.2.2.2.2.2.2.1
  blk_ext [i]

theorem emb_c (t : Fin 8) (y : S4096x512.Idx) : ((cfg0.win 10).blk t).view.emb y = y := by
  have i := (idx t).2.2.2.2.2.2.2.2.2.2.1
  blk_ext [i]

theorem emb_r (t : Fin 8) (y : S4x1x1x512.Idx) : ((cfg0.win 11).blk t).view.emb y = ix4 (y 0) t 0 (y 3) := by
  have i := (idx t).2.2.2.2.2.2.2.2.2.2.2
  blk_ext [i]

/-- Rows of 512 entries put side by side. -/
def line (f : Fin 8 → FVec Ideal S4x1x1x512 .f32) : FVec Ideal S4x8x1x512 .f32 := fun i =>
  f (i 1) (ix4 (i 0) 0 0 (i 3))

theorem line_at (f : Fin 8 → FVec Ideal S4x1x1x512 .f32) (h : Fin 4) (t : Fin 8) (q : Fin 512) :
    line f (ix4 h t 0 q) = f t (ix4 h 0 0 q) := rfl

theorem arr_q : (dats m 0 c).arrAt 7 cfg0.N = stack (leftQ m c) := by
  refine (dats m 0 c).arrAt_eq_of_covers 7 _ (by decide +kernel) fun t _ y => ?_
  rw [emb_q t y]
  refine Eq.trans ?_ (stack_at (leftQ m c) t (y 0) (y 1)).symm
  rw [after0_7]
  show leftQ m c t y = _
  exact congrArg (leftQ m c t) (eq_ix2 y)

theorem arr_k : (dats m 0 c).arrAt 8 cfg0.N = leftK m c := by
  refine (dats m 0 c).arrAt_eq_of_covers 8 _ (by decide +kernel) fun t hf y => ?_
  have ht : t = t0_7 := (by decide +kernel : ∀ t : Fin grid0.N, (cfg0.win 8).flush t = true → t = t0_7) t hf
  rw [emb_k t y, ht, after0_8]
  rfl

theorem arr_v : (dats m 0 c).arrAt 9 cfg0.N = leftV m c := by
  refine (dats m 0 c).arrAt_eq_of_covers 9 _ (by decide +kernel) fun t hf y => ?_
  have ht : t = t0_7 := (by decide +kernel : ∀ t : Fin grid0.N, (cfg0.win 9).flush t = true → t = t0_7) t hf
  rw [emb_v t y, ht, after0_9]
  rfl

theorem arr_c : (dats m 0 c).arrAt 10 cfg0.N = leftC m c := by
  refine (dats m 0 c).arrAt_eq_of_covers 10 _ (by decide +kernel) fun t hf y => ?_
  have ht : t = t0_7 := (by decide +kernel : ∀ t : Fin grid0.N, (cfg0.win 10).flush t = true → t = t0_7) t hf
  rw [emb_c t y, ht, after0_10]
  rfl

theorem arr_r : (dats m 0 c).arrAt 11 cfg0.N = line (leftR m c) := by
  refine (dats m 0 c).arrAt_eq_of_covers 11 _ (by decide +kernel) fun t _ y => ?_
  rw [emb_r t y]
  refine Eq.trans ?_ (line_at (leftR m c) (y 0) t (y 3)).symm
  rw [after0_11]
  show leftR m c t y = _
  refine congrArg (leftR m c t) ?_
  funext a
  match a with
  | ⟨0, _⟩ => rfl
  | ⟨1, _⟩ => exact Fin.eq_zero _
  | ⟨2, _⟩ => exact Fin.eq_zero _
  | ⟨3, _⟩ => rfl

/-- The queries' gradients, as sums over the tiles of keys. -/
theorem left_q (t : Fin 8) (h : Fin 4) (d : Fin 128) (q : Fin 512) :
    (dats m 0 c).arrAt 7 cfg0.N (ix2 (pos t q) (col h d)) = ∑ j : Fin 16, addQ (blocks m c t) t.val j h d q := by
  rw [arr_q]
  exact (stack_at (leftQ m c) t q (col h d)).trans (point_q m c t h d q)

/-- The keys' gradients, as sums over the points. -/
theorem left_k (h : Fin 4) (d : Fin 128) (r : Fin 4096) :
    (dats m 0 c).arrAt 8 cfg0.N (ix2 r (col h d)) = ∑ t : Fin 8, addK (blocks m c t) t.val h r d := by
  rw [arr_k]
  exact point_k m c 7 (by decide) h r d

/-- The values' gradients, as sums over the points. -/
theorem left_v (h : Fin 4) (d : Fin 128) (r : Fin 4096) :
    (dats m 0 c).arrAt 9 cfg0.N (ix2 r (col h d)) = ∑ t : Fin 8, addV (blocks m c t) t.val h r d := by
  rw [arr_v]
  exact point_v m c 7 (by decide) h r d

/-- The lanes of the gates' gradients over the keys, as sums over the points. -/
theorem left_c (h : Fin 4) (l : Fin 128) (r : Fin 4096) :
    (dats m 0 c).arrAt 10 cfg0.N (ix2 r (col h l)) = ∑ t : Fin 8, addC (blocks m c t) t.val h r l := by
  rw [arr_c]
  exact point_c m c 7 (by decide) h r l

/-- The gates' gradients over the queries, as sums over the tiles of keys. -/
theorem left_r (t : Fin 8) (h : Fin 4) (q : Fin 512) :
    (dats m 0 c).arrAt 11 cfg0.N (ix4 h t 0 q) = ∑ j : Fin 16, addR (blocks m c t) t.val j h q := by
  rw [arr_r]
  exact (line_at (leftR m c) h t q).trans (point_r m c t h q)

end Cert.Fox

end
-- ==== Proof.Fox.Entries.lean ====
module

public import proofs.«01_k».proof.Proof.Fox.Host
public import proofs.«01_k».proof.Proof.Fox.Final
public import Idealize.ShloMosaic.Lib.Pipeline.Value

/-!
# Forgetting attention backward: the launch's operands and results, entry by entry
-/

@[expose] public section
set_option relaxedAutoImplicit false
set_option maxRecDepth 16384

noncomputable section

namespace Cert.Fox

open Idealize.ShloMosaic Idealize.ShloMosaic.TcCoe Idealize.SL.Sem Cert.Kernel5Ideal Cert.Kernel5Ideal.Gen

/-- Entry `d` of head `h` in row `r` of heads filled up to 128: zero behind the `n` entries there are. -/
def filled (n : ℕ) (x : Fin 4096 → Fin 4 → Fin n → EReal) (r : Fin 4096) (h : Fin 4) (d : Fin 128) : EReal :=
  if hd : d.val < n then x r h ⟨d.val, hd⟩ else 0

theorem fill_eq (i : S_.Idx) : fill i = 0 := by
  show (((0#32 : BitVec 32).toInt : ℝ) : EReal) = 0
  simp

theorem wide70_at (x : FVec Ideal S4096x4x70 .f32) (r : Fin 4096) (h : Fin 4) (d : Fin 128) :
    wide70 x (ix2 r (col h d)) = filled 70 (fun r h d => x (ix3 r h d)) r h d := by
  unfold wide70
  rw [show col h d = (⟨128 * h.val + d.val, by omega⟩ : Fin 512) from rfl]
  pointwise [fill_eq, filled]

theorem wide64_at (x : FVec Ideal S4096x4x64 .f32) (r : Fin 4096) (h : Fin 4) (d : Fin 128) :
    wide64 x (ix2 r (col h d)) = filled 64 (fun r h d => x (ix3 r h d)) r h d := by
  unfold wide64
  rw [show col h d = (⟨128 * h.val + d.val, by omega⟩ : Fin 512) from rfl]
  pointwise [fill_eq, filled]

/-- Two indices of one row agree off the column axis. -/
theorem off_col {a b b' : ℕ} (r : Fin a) (x : Fin b) (y : Fin b') : ∀ q : Fin (⟨2, ![a, b]⟩ : Shape).rank,
    q.cast rfl ≠ (1 : Fin (⟨2, ![a, b']⟩ : Shape).rank) →
      ((ix2 r x : (⟨2, ![a, b]⟩ : Shape).Idx) q).val = ((ix2 r y : (⟨2, ![a, b']⟩ : Shape).Idx) (q.cast rfl)).val := by
  intro q hq
  match q with
  | ⟨0, _⟩ => rfl
  | ⟨1, _⟩ => exact absurd rfl hq

/-- Two indices of one row and head agree off the last axis. -/
theorem off_last {a b c c' : ℕ} (r : Fin a) (h : Fin b) (x : Fin c) (y : Fin c') :
    ∀ q : Fin (⟨3, ![a, b, c]⟩ : Shape).rank, q.cast rfl ≠ (2 : Fin (⟨3, ![a, b, c']⟩ : Shape).rank) →
      ((ix3 r h x : (⟨3, ![a, b, c]⟩ : Shape).Idx) q).val = ((ix3 r h y : (⟨3, ![a, b, c']⟩ : Shape).Idx) (q.cast rfl)).val := by
  intro q hq
  match q with
  | ⟨0, _⟩ => rfl
  | ⟨1, _⟩ => rfl
  | ⟨2, _⟩ => exact absurd rfl hq

variable (q k v o : FVec Ideal S4096x4x64 .f32) (c : FVec Ideal S4096x4 .f32)

/-- The pieces of a sum of gates, as real arithmetic has them. -/
def pieces (x : EReal) : Fin 3 → EReal := ![x, x - x, x - x - (x - x)]

theorem gate_at (r : Fin 4096) (h : Fin 4) (e : Fin 3) : gate c (ix3 r h e) = pieces (c (ix2 r h)) e := by
  match e with
  | ⟨0, _⟩ =>
    refine (concatenate_apply_piece (2 : Fin S4096x4x3.rank) _ _ _ 0 (Nat.le_of_ble_eq_true rfl) S4096x4x1 _ rfl rfl 0 rfl
      (ix3 r h 0) (off_last r h _ _) rfl).trans ?_
    pointwise [hi]
    rfl
  | ⟨1, _⟩ =>
    refine (concatenate_apply_piece (2 : Fin S4096x4x3.rank) _ _ _ 1 (Nat.le_of_ble_eq_true rfl) S4096x4x1 _ rfl rfl 1 rfl
      (ix3 r h 0) (off_last r h _ _) rfl).trans ?_
    pointwise [mid, hi]
    rfl
  | ⟨2, _⟩ =>
    refine (concatenate_apply_piece (2 : Fin S4096x4x3.rank) _ _ _ 2 (Nat.le_of_ble_eq_true rfl) S4096x4x1 _ rfl rfl 2 rfl
      (ix3 r h 0) (off_last r h _ _) rfl).trans ?_
    pointwise [mid, hi]
    rfl

theorem qside_at (r : Fin 4096) (h : Fin 4) (d : Fin 64) :
    qside q c (ix3 r h (⟨d.val, by omega⟩ : Fin 70)) = q (ix3 r h d) * Ideal.ofBits .f32 0x3E000000#32 := by
  refine (concatenate_apply_piece (2 : Fin S4096x4x70.rank) _ _ _ 0 (Nat.le_of_ble_eq_true rfl) S4096x4x64 _ rfl rfl 0 rfl
    (ix3 r h d) (off_last r h _ _) (Nat.zero_add _)).trans ?_
  pointwise [scale64]

theorem qside_one (r : Fin 4096) (h : Fin 4) (e : Fin 3) :
    qside q c (ix3 r h (⟨64 + e.val, by omega⟩ : Fin 70)) = Ideal.ofBits .f32 0x3F800000#32 := by
  refine (concatenate_apply_piece (2 : Fin S4096x4x70.rank) _ _ _ 1 (Nat.le_of_ble_eq_true rfl) S4096x4x3 _ rfl rfl 64 rfl
    (ix3 r h e) (off_last r h _ _) rfl).trans ?_
  pointwise [ones3]

theorem qside_gate (r : Fin 4096) (h : Fin 4) (e : Fin 3) :
    qside q c (ix3 r h (⟨67 + e.val, by omega⟩ : Fin 70)) = pieces (c (ix2 r h)) e :=
  (concatenate_apply_piece (2 : Fin S4096x4x70.rank) _ _ _ 2 (Nat.le_of_ble_eq_true rfl) S4096x4x3 _ rfl rfl 67 rfl
    (ix3 r h e) (off_last r h _ _) rfl).trans (gate_at c r h e)

theorem kside_at (r : Fin 4096) (h : Fin 4) (d : Fin 64) :
    kside k c (ix3 r h (⟨d.val, by omega⟩ : Fin 70)) = k (ix3 r h d) :=
  concatenate_apply_piece (2 : Fin S4096x4x70.rank) _ _ _ 0 (Nat.le_of_ble_eq_true rfl) S4096x4x64 _ rfl rfl 0 rfl
    (ix3 r h d) (off_last r h _ _) (Nat.zero_add _)

theorem kside_gate (r : Fin 4096) (h : Fin 4) (e : Fin 3) :
    kside k c (ix3 r h (⟨64 + e.val, by omega⟩ : Fin 70)) = -pieces (c (ix2 r h)) e := by
  refine (concatenate_apply_piece (2 : Fin S4096x4x70.rank) _ _ _ 1 (Nat.le_of_ble_eq_true rfl) S4096x4x3 _ rfl rfl 64 rfl
    (ix3 r h e) (off_last r h _ _) rfl).trans ?_
  exact Eq.trans (b := -gate c (ix3 r h e)) rfl (congrArg (- ·) (gate_at c r h e))

theorem kside_one (r : Fin 4096) (h : Fin 4) (e : Fin 3) :
    kside k c (ix3 r h (⟨67 + e.val, by omega⟩ : Fin 70)) = Ideal.ofBits .f32 0x3F800000#32 := by
  refine (concatenate_apply_piece (2 : Fin S4096x4x70.rank) _ _ _ 2 (Nat.le_of_ble_eq_true rfl) S4096x4x3 _ rfl rfl 67 rfl
    (ix3 r h e) (off_last r h _ _) rfl).trans ?_
  pointwise [ones3]

theorem beside_q (r : Fin 4096) (h : Fin 4) (d : Fin 128) :
    beside q k v c (ix2 r (part 0 (col h d))) = filled 70 (fun r h d => qside q c (ix3 r h d)) r h d := by
  refine (concatenate_apply_piece (1 : Fin S4096x1536.rank) _ _ _ 0 (Nat.le_of_ble_eq_true rfl) S4096x512 _ rfl rfl 0 rfl
    (ix2 r (col h d)) (off_col r _ _) rfl).trans ?_
  exact Eq.trans (b := wide70 (qside q c) (ix2 r (col h d))) rfl (wide70_at (qside q c) r h d)

theorem beside_k (r : Fin 4096) (h : Fin 4) (d : Fin 128) :
    beside q k v c (ix2 r (part 1 (col h d))) = filled 70 (fun r h d => kside k c (ix3 r h d)) r h d := by
  refine (concatenate_apply_piece (1 : Fin S4096x1536.rank) _ _ _ 1 (Nat.le_of_ble_eq_true rfl) S4096x512 _ rfl rfl 512 rfl
    (ix2 r (col h d)) (off_col r _ _) rfl).trans ?_
  exact Eq.trans (b := wide70 (kside k c) (ix2 r (col h d))) rfl (wide70_at (kside k c) r h d)

theorem beside_v (r : Fin 4096) (h : Fin 4) (d : Fin 128) :
    beside q k v c (ix2 r (part 2 (col h d))) = filled 64 (fun r h d => v (ix3 r h d)) r h d := by
  refine (concatenate_apply_piece (1 : Fin S4096x1536.rank) _ _ _ 2 (Nat.le_of_ble_eq_true rfl) S4096x512 _ rfl rfl 1024 rfl
    (ix2 r (col h d)) (off_col r _ _) rfl).trans ?_
  exact Eq.trans (b := wide64 v (ix2 r (col h d))) rfl (wide64_at v r h d)

/-- The tiles' rows, read back. -/
theorem tiles_pos (X : FVec Ideal S4096x1024 .bf16) (j : Fin 16) (e : Fin 1024) (a : Fin 256) :
    transpose S16x1024x256 [0, 2, 1] (shapeCast S16x256x1024 X shapeCasts_S4096x1024_S16x256x1024)
      transposes_S16x256x1024_S16x1024x256_0_2_1 (ix3 j e a) = X (ix2 (row j a) e) := by
  unfold row
  pointwise
  exact congrArg X (congrArg (ix2 · e) (Fin.ext (by dsimp only; omega)))

theorem tiles_k (j : Fin 16) (h : Fin 4) (d : Fin 128) (a : Fin 256) :
    tiles k v c (ix3 j (firstHalf (col h d)) a) = filled 70 (fun r h d => kside k c (ix3 r h d)) (row j a) h d := by
  refine (tiles_pos _ j _ a).trans ?_
  refine (concatenate_apply_piece (1 : Fin S4096x1024.rank) _ _ _ 0 (Nat.le_of_ble_eq_true rfl) S4096x512 _ rfl rfl 0 rfl
    (ix2 (row j a) (col h d)) (off_col _ _ _) (Nat.zero_add _)).trans ?_
  exact Eq.trans (b := wide70 (kside k c) (ix2 (row j a) (col h d))) rfl (wide70_at (kside k c) _ h d)

theorem rows_at (X : FVec Ideal S4x4096 .f32) (h : Fin 4) (t : Fin 8) (p : Fin 512) :
    shapeCast S4x8x1x512 X shapeCasts_S4x4096_S4x8x1x512 (ix4 h t 0 p) = X (ix2 h (pos t p)) := by
  unfold pos
  pointwise
  exact congrArg X (congrArg (ix2 h) (Fin.ext (by dsimp only; omega)))

/-! ## The lines after the launch -/

/-- The first 64 entries of every head. -/
def narrow64 (x : FVec Ideal S4096x512 .f32) : FVec Ideal S4096x4x64 .f32 :=
  shapeCast _ (shapeCast S4096x256 (extractStridedSlice S4096x4x64 ![0, 0, 0]
    (shapeCast S4096x4x128 x shapeCasts_S4096x512_S4096x4x128) slices_S4096x4x128_S4096x4x64_0_0_0)
    shapeCasts_S4096x4x64_S4096x256) shapeCasts_S4096x256_S4096x4x64

theorem narrow64_at (x : FVec Ideal S4096x512 .f32) (r : Fin 4096) (h : Fin 4) (d : Fin 64) :
    narrow64 x (ix3 r h d) = x (ix2 r (col h ⟨d.val, by omega⟩)) := by
  unfold narrow64 col
  pointwise
  exact congrArg x (congrArg (ix2 r) (Fin.ext (by dsimp only; omega)))

/-- The gates' gradients: the sums over the keys, and the lanes' sums. -/
def gathered (x : FVec Ideal S4x8x1x512 .f32) (y : FVec Ideal S4096x512 .f32) : FVec Ideal S4096x4 .f32 :=
  addf (transpose S4096x4 [1, 0] (shapeCast S4x4096 x shapeCasts_S4x8x1x512_S4x4096) transposes_S4x4096_S4096x4_1_0)
    (Host.reduceAdd (shapeCast S4096x4x128 y shapeCasts_S4096x512_S4096x4x128) (constant S_ .f32 0x00000000#32)
      reducesTo_S4096x4x128_S4096x4_d2 h_S_)

theorem gathered_at (x : FVec Ideal S4x8x1x512 .f32) (y : FVec Ideal S4096x512 .f32) (t : Fin 8) (p : Fin 512) (h : Fin 4) :
    gathered x y (ix2 (pos t p) h) = x (ix4 h t 0 p) + ∑ l : Fin 128, y (ix2 (pos t p) (col h l)) := by
  refine Eq.trans (b := x (ix4 h t 0 p) + (Ideal.ofBits .f32 0x00000000#32 + ∑ l : Fin 128, y (ix2 (pos t p) (col h l)))) ?_ ?_
  · unfold gathered pos col
    pointwise
    refine congrArg₂ (· + ·) rfl (congrArg _ (funext fun l => congrArg y (congrArg (ix2 _) (Fin.ext ?_))))
    dsimp only
    omega
  · rw [Ideal.ofBits_zero_f32, zero_add]

variable (W : Valuation τ sig (Elt Ideal))

theorem host_v113 : StableHlo.after hostOps1 W (Proc.devRef .tc main_v113)
    = mulf (narrow64 (W (Proc.devRef .tc main_v102_0))) scale64 := by
  after_reads_simp
  rfl

theorem host_v117 : StableHlo.after hostOps1 W (Proc.devRef .tc main_v117)
    = narrow64 (W (Proc.devRef .tc main_v102_1)) := by
  after_reads_simp
  rfl

theorem host_v121 : StableHlo.after hostOps1 W (Proc.devRef .tc main_v121)
    = narrow64 (W (Proc.devRef .tc main_v102_2)) := by
  after_reads_simp
  rfl

theorem host_v107 : StableHlo.after hostOps1 W (Proc.devRef .tc main_v107)
    = gathered (W (Proc.devRef .tc main_v102_4)) (W (Proc.devRef .tc main_v102_3)) := by
  after_reads_simp
  rfl

end Cert.Fox

end
-- ==== Proof.Fox.Values.lean ====
module

public import proofs.«01_k».proof.Proof.Fox.RefRows
public import proofs.«01_k».proof.Proof.Fox.Entries
public import Idealize.ShloMosaic.Lib.Pipeline.ValueKit

/-!
# Forgetting attention backward: a grid point's sums on real arguments
-/

@[expose] public section
set_option relaxedAutoImplicit false
set_option maxRecDepth 16384

noncomputable section

namespace Cert.Fox

open Cert.Mla Idealize.ShloMosaic Idealize.ShloMosaic.TcCoe Idealize.SL.Sem Cert.Kernel5Ideal Cert.Kernel5Ideal.Gen

/-! ## Sums over filled up heads, points and tiles -/

/-- The real number at an entry of filled up heads. -/
def full (n : ℕ) (x : Fin 4096 → Fin 4 → Fin n → ℝ) (r : Fin 4096) (h : Fin 4) (d : Fin 128) : ℝ :=
  if hd : d.val < n then x r h ⟨d.val, hd⟩ else 0

theorem filled_coe (n : ℕ) (x : Fin 4096 → Fin 4 → Fin n → ℝ) (r : Fin 4096) (h : Fin 4) (d : Fin 128) :
    filled n (fun r h d => (x r h d : EReal)) r h d = (full n x r h d : EReal) := by
  unfold filled full
  split
  · rfl
  · exact EReal.coe_zero.symm

theorem full_lt {n : ℕ} (x : Fin 4096 → Fin 4 → Fin n → ℝ) (r : Fin 4096) (h : Fin 4) (d : Fin 128) (hd : d.val < n) :
    full n x r h d = x r h ⟨d.val, hd⟩ := dif_pos hd

/-- The queries with what multiplies the gates, in real numbers. -/
def qreal (q : Fin 4096 → Fin 4 → Fin 64 → ℝ) (u : Fin 4096 → Fin 4 → ℝ) (p : Fin 4096) (h : Fin 4) (d : Fin 70) : ℝ :=
  if hd : d.val < 64 then q p h ⟨d.val, hd⟩ * kappa else if d.val < 67 then 1 else if d.val = 67 then u p h else 0

/-- The keys with what multiplies the gates, in real numbers. -/
def kreal (k : Fin 4096 → Fin 4 → Fin 64 → ℝ) (u : Fin 4096 → Fin 4 → ℝ) (r : Fin 4096) (h : Fin 4) (d : Fin 70) : ℝ :=
  if hd : d.val < 64 then k r h ⟨d.val, hd⟩ else if d.val = 64 then -u r h else if d.val < 67 then 0 else 1

/-- Of the pieces of a real sum of gates the last two are zero. -/
theorem pieces_zero (x : ℝ) : pieces (x : EReal) 0 = (x : EReal) := rfl
theorem pieces_one (x : ℝ) : pieces (x : EReal) 1 = 0 := by
  show (x : EReal) - (x : EReal) = 0
  rw [← EReal.coe_sub, sub_self, EReal.coe_zero]
theorem pieces_two (x : ℝ) : pieces (x : EReal) 2 = 0 := by
  show (x : EReal) - (x : EReal) - ((x : EReal) - (x : EReal)) = 0
  rw [← EReal.coe_sub, ← EReal.coe_sub, sub_self, EReal.coe_zero]

/-- An entry of the 70 is one of three kinds. -/
theorem entries70 (d : Fin 70) : (∃ e : Fin 64, d = ⟨e.val, by omega⟩) ∨ (∃ e : Fin 3, d = ⟨64 + e.val, by omega⟩)
    ∨ ∃ e : Fin 3, d = ⟨67 + e.val, by omega⟩ := by
  by_cases h1 : d.val < 64
  · exact .inl ⟨⟨d.val, h1⟩, rfl⟩
  · by_cases h2 : d.val < 67
    · exact .inr (.inl ⟨⟨d.val - 64, by omega⟩, Fin.ext (by dsimp only; omega)⟩)
    · exact .inr (.inr ⟨⟨d.val - 67, by omega⟩, Fin.ext (by dsimp only; omega)⟩)

theorem qside_real (q : Fin 4096 → Fin 4 → Fin 64 → ℝ) (u : Fin 4096 → Fin 4 → ℝ) (p : Fin 4096) (h : Fin 4) (d : Fin 70) :
    qside (lift64 q) (lift4 u) (ix3 p h d) = (qreal q u p h d : EReal) := by
  obtain ⟨e, rfl⟩ | ⟨e, rfl⟩ | ⟨e, rfl⟩ := entries70 d
  · rw [qside_at, lift64_at, kappa_eq, ← EReal.coe_mul]
    unfold qreal
    rw [dif_pos e.isLt]
  · rw [qside_one, one_eq]
    unfold qreal
    rw [dif_neg (by dsimp only; omega), if_pos (by dsimp only; omega), EReal.coe_one]
  · rw [qside_gate, lift4_at]
    unfold qreal
    rw [dif_neg (by dsimp only; omega), if_neg (by dsimp only; omega)]
    match e with
    | ⟨0, _⟩ => exact pieces_zero _
    | ⟨1, _⟩ => exact pieces_one _
    | ⟨2, _⟩ => exact pieces_two _

theorem kside_real (k : Fin 4096 → Fin 4 → Fin 64 → ℝ) (u : Fin 4096 → Fin 4 → ℝ) (r : Fin 4096) (h : Fin 4) (d : Fin 70) :
    kside (lift64 k) (lift4 u) (ix3 r h d) = (kreal k u r h d : EReal) := by
  obtain ⟨e, rfl⟩ | ⟨e, rfl⟩ | ⟨e, rfl⟩ := entries70 d
  · rw [kside_at, lift64_at]
    unfold kreal
    rw [dif_pos e.isLt]
  · rw [kside_gate, lift4_at]
    unfold kreal
    rw [dif_neg (by dsimp only; omega)]
    match e with
    | ⟨0, _⟩ => exact (congrArg (- ·) (pieces_zero _)).trans (EReal.coe_neg _).symm
    | ⟨1, _⟩ => exact (congrArg (- ·) (pieces_one _)).trans neg_zero
    | ⟨2, _⟩ => exact (congrArg (- ·) (pieces_two _)).trans neg_zero
  · rw [kside_one, one_eq]
    unfold kreal
    rw [dif_neg (by dsimp only; omega), if_neg (by dsimp only; omega), if_neg (by dsimp only; omega), EReal.coe_one]

/-- The products of the 70 entries: the scaled products of the 64, and the two gates' sums. -/
theorem sum_70 (q k : Fin 4096 → Fin 4 → Fin 64 → ℝ) (u : Fin 4096 → Fin 4 → ℝ) (r p : Fin 4096) (h : Fin 4) :
    (∑ d : Fin 70, kreal k u r h d * qreal q u p h d) = (∑ d, q p h d * k r h d) * kappa + u p h - u r h := by
  refine (Fin.sum_univ_add (a := 64) (b := 6) fun d : Fin 70 => kreal k u r h d * qreal q u p h d).trans ?_
  have e1 : ∀ d : Fin 64, kreal k u r h (Fin.castAdd 6 d) * qreal q u p h (Fin.castAdd 6 d) = q p h d * k r h d * kappa := by
    intro d
    unfold kreal qreal
    rw [dif_pos (show (Fin.castAdd 6 d).val < 64 from d.isLt), dif_pos (show (Fin.castAdd 6 d).val < 64 from d.isLt)]
    show k r h d * (q p h d * kappa) = _
    ring
  have e2 : (∑ d : Fin 6, kreal k u r h (Fin.natAdd 64 d) * qreal q u p h (Fin.natAdd 64 d)) = u p h - u r h := by
    rw [Fin.sum_univ_six]
    simp [kreal, qreal]
    ring
  rw [e2, Finset.sum_congr rfl fun d _ => e1 d, ← Finset.sum_mul]
  ring

theorem sum_full70 (x y : Fin 4096 → Fin 4 → Fin 70 → ℝ) (r p : Fin 4096) (h : Fin 4) :
    (∑ d : Fin 128, full 70 x r h d * full 70 y p h d) = ∑ d, x r h d * y p h d := by
  refine (Fin.sum_univ_add (a := 70) (b := 58) fun d : Fin 128 => full 70 x r h d * full 70 y p h d).trans ?_
  rw [Finset.sum_eq_zero (s := (Finset.univ : Finset (Fin 58))), add_zero]
  · exact Finset.sum_congr rfl fun d _ =>
      congrArg₂ (· * ·) (full_lt x r h (Fin.castAdd 58 d) d.isLt) (full_lt y p h (Fin.castAdd 58 d) d.isLt)
  · intro d _
    have hd : ¬ (Fin.natAdd 70 d : Fin 128).val < 70 := by simp
    exact (congrArg (· * _) (dif_neg hd)).trans (zero_mul _)

/-- The first 64 of the 70 entries. -/
theorem full_qreal (q : Fin 4096 → Fin 4 → Fin 64 → ℝ) (u : Fin 4096 → Fin 4 → ℝ) (p : Fin 4096) (h : Fin 4) (d : Fin 64) :
    full 70 (qreal q u) p h ⟨d.val, by omega⟩ = q p h d * kappa :=
  (full_lt (qreal q u) p h ⟨d.val, by omega⟩ (by dsimp only; omega)).trans (dif_pos d.isLt)

theorem full_kreal (k : Fin 4096 → Fin 4 → Fin 64 → ℝ) (u : Fin 4096 → Fin 4 → ℝ) (r : Fin 4096) (h : Fin 4) (d : Fin 64) :
    full 70 (kreal k u) r h ⟨d.val, by omega⟩ = k r h d :=
  (full_lt (kreal k u) r h ⟨d.val, by omega⟩ (by dsimp only; omega)).trans (dif_pos d.isLt)

theorem sum_full64 (x y : Fin 4096 → Fin 4 → Fin 64 → ℝ) (r p : Fin 4096) (h : Fin 4) :
    (∑ d : Fin 128, full 64 x r h d * full 64 y p h d) = ∑ d, x r h d * y p h d := by
  refine (Fin.sum_univ_add (a := 64) (b := 64) fun d : Fin 128 => full 64 x r h d * full 64 y p h d).trans ?_
  rw [add_comm, Finset.sum_eq_zero (s := (Finset.univ : Finset (Fin 64))), zero_add]
  · exact Finset.sum_congr rfl fun d _ =>
      congrArg₂ (· * ·) (full_lt x r h (Fin.castAdd 64 d) d.isLt) (full_lt y p h (Fin.castAdd 64 d) d.isLt)
  · intro d _
    have hd : ¬ (Fin.natAdd 64 d : Fin 128).val < 64 := by simp
    exact (congrArg (· * _) (dif_neg hd)).trans (zero_mul _)

/-- The points' queries are all queries. -/
theorem sum_pos (f : Fin 4096 → ℝ) : (∑ t : Fin 8, ∑ p : Fin 512, f (pos t p)) = ∑ p, f p :=
  Fin.sum_mul_add_congr (n := 512) (fun t p _ => congrArg f (Fin.ext (by simp only [pos]; omega)))

/-- The tiles' rows are all rows. -/
theorem sum_row (f : Fin 4096 → ℝ) : (∑ j : Fin 16, ∑ a : Fin 256, f (row j a)) = ∑ r, f r :=
  Fin.sum_mul_add_congr (n := 256) (fun t p _ => congrArg f (Fin.ext (by simp only [row]; omega)))

/-- The lanes' four queries are all queries of a point. -/
theorem sum_lanes (f : Fin 512 → ℝ) :
    (∑ l : Fin 128, (f (col 0 l) + f (col 1 l) + f (col 2 l) + f (col 3 l))) = ∑ p, f p := by
  have e : (∑ h : Fin 4, ∑ l : Fin 128, f (col h l)) = ∑ p, f p :=
    Fin.sum_mul_add_congr (n := 128) (fun h l _ => congrArg f (Fin.ext (by simp only [col]; omega)))
  rw [← e, Fin.sum_univ_four]
  simp only [Finset.sum_add_distrib]

/-! ## One point -/

variable (q k v : Fin 4096 → Fin 4 → Fin 64 → ℝ) (u : Fin 4096 → Fin 4 → ℝ) (o : Fin 4096 → Fin 4 → Fin 64 → ℝ)

/-- The blocks of point `t` hold the arguments' entries. -/
structure Carries (B : Blocks) (t : Fin 8) : Prop where
  q_at : ∀ p h d, B.q (ix2 p (col h d)) = (full 70 (qreal q u) (pos t p) h d : EReal)
  k_at : ∀ r h d, B.k (ix2 r (col h d)) = (full 70 (kreal k u) r h d : EReal)
  v_at : ∀ r h d, B.v (ix2 r (col h d)) = (full 64 v r h d : EReal)
  kt_at : ∀ j h d a, B.kt (ix3 j (col h d) a) = (full 70 (kreal k u) (row j a) h d : EReal)
  g_at : ∀ p h d, B.g (ix2 p (col h d)) = (full 64 o (pos t p) h d : EReal)
  lse_at : ∀ h p, B.lse (ix4 h 0 0 p) = (peak (scores q k u h (pos t p)) (sees (pos t p)) : EReal)
    + Ideal.log (mass (scores q k u h (pos t p)) (sees (pos t p)) : EReal)
  dl_at : ∀ h p, B.dl (ix4 h 0 0 p) = (mean q k v u o h (pos t p) : EReal)

variable {q k v u o}
variable {B : Blocks} {t : Fin 8} (H : Carries q k v u o B t)
include H

theorem score_real (h : Fin 4) (r : Fin 4096) (p : Fin 512) : score B h r p = (scores q k u h (pos t p) r : EReal) := by
  unfold score scores
  simp only [H.q_at, H.k_at]
  rw [sum_mul_coe, sum_full70, sum_70]

theorem reach_real (h : Fin 4) (r : Fin 4096) (p : Fin 512) : reach B h r p = (reaches v o h (pos t p) r : EReal) := by
  unfold reach reaches
  simp only [H.v_at, H.g_at]
  rw [sum_mul_coe, sum_full64]
  exact congrArg _ (Finset.sum_congr rfl fun d _ => mul_comm _ _)

theorem weight_real (h : Fin 4) (r : Fin 4096) (p : Fin 512) :
    weight B t.val h r p = (weights q k u h (pos t p) r : EReal) := by
  refine Eq.trans ?_ (weight_eq (scores q k u h (pos t p)) (sees_self (pos t p)) r)
  unfold weight raw
  rw [score_real H, H.lse_at]
  rfl

theorem dscore_real (h : Fin 4) (r : Fin 4096) (p : Fin 512) :
    dscore B t.val h r p = (dscores q k v u o h (pos t p) r : EReal) := by
  unfold dscore dscores
  rw [weight_real H, reach_real H, H.dl_at, ← EReal.coe_sub, ← EReal.coe_mul]

theorem addV_real (h : Fin 4) (r : Fin 4096) (d : Fin 64) : addV B t.val h r ⟨d.val, by omega⟩
    = ((∑ p, o (pos t p) h d * weights q k u h (pos t p) r : ℝ) : EReal) := by
  unfold addV
  simp only [weight_real H, H.g_at]
  rw [sum_mul_coe]
  refine congrArg _ (Finset.sum_congr rfl fun p _ => ?_)
  rw [full_lt o (pos t p) h ⟨d.val, by omega⟩ d.isLt, mul_comm]

theorem addK_real (h : Fin 4) (r : Fin 4096) (d : Fin 64) : addK B t.val h r ⟨d.val, by omega⟩
    = ((∑ p, dscores q k v u o h (pos t p) r * kappa * q (pos t p) h d : ℝ) : EReal) := by
  unfold addK
  simp only [dscore_real H, H.q_at]
  rw [sum_mul_coe]
  refine congrArg _ (Finset.sum_congr rfl fun p _ => ?_)
  rw [full_qreal]
  ring

theorem addQ_real (j : Fin 16) (h : Fin 4) (d : Fin 64) (p : Fin 512) : addQ B t.val j h ⟨d.val, by omega⟩ p
    = ((∑ a, dscores q k v u o h (pos t p) (row j a) * k (row j a) h d : ℝ) : EReal) := by
  unfold addQ
  simp only [dscore_real H, H.kt_at]
  rw [sum_mul_coe]
  refine congrArg _ (Finset.sum_congr rfl fun a _ => ?_)
  rw [full_kreal, mul_comm]

theorem addR_real (j : Fin 16) (h : Fin 4) (p : Fin 512) : addR B t.val j h p
    = ((∑ a, dscores q k v u o h (pos t p) (row j a) : ℝ) : EReal) := by
  unfold addR
  simp only [dscore_real H]
  rw [coe_sum]

theorem addC_real (h : Fin 4) (r : Fin 4096) (l : Fin 128) : addC B t.val h r l
    = ((-(dscores q k v u o h (pos t (col 0 l)) r + dscores q k v u o h (pos t (col 1 l)) r
      + dscores q k v u o h (pos t (col 2 l)) r + dscores q k v u o h (pos t (col 3 l)) r) : ℝ) : EReal) := by
  unfold addC
  simp only [dscore_real H]
  rw [EReal.coe_neg, EReal.coe_add, EReal.coe_add, EReal.coe_add]

end Cert.Fox

end
-- ==== Proof.Fox.Results.lean ====
module

public import proofs.«01_k».proof.Proof.Fox.RefGrad
public import proofs.«01_k».proof.Proof.Fox.Values

/-!
# Forgetting attention backward: the four results on real arguments
-/

@[expose] public section
set_option relaxedAutoImplicit false
set_option maxRecDepth 16384

noncomputable section

namespace Cert.Fox

open Cert.Mla Idealize.ShloMosaic Idealize.ShloMosaic.TcCoe Idealize.SL.Sem Cert.Kernel5Ideal Cert.Kernel5Ideal.Gen

/-- Every position is a query of a point. -/
theorem pos_surj (p : Fin 4096) : ∃ (t : Fin 8) (a : Fin 512), pos t a = p :=
  ⟨⟨p.val / 512, by omega⟩, ⟨p.val % 512, by omega⟩, Fin.ext (by simp only [pos]; omega)⟩

theorem scaled_at (x : FVec Ideal S4096x4x64 .f32) (p : Fin 4096) (h : Fin 4) (d : Fin 64) :
    mulf x scale64 (ix3 p h d) = x (ix3 p h d) * (kappa : EReal) := by
  rw [← kappa_eq]
  unfold scale64
  pointwise

variable (m : (ℓ : Loc nD τ sig) → Buf (Elt Ideal) ℓ) (ρ : Dev nD → PrngReg) (c : Dev nD)

/-- The five arguments of device `c`. -/
abbrev argQ : FVec Ideal S4096x4x64 .f32 := m ((c.tc : Thread nD τ).loc main_arg0)
abbrev argK : FVec Ideal S4096x4x64 .f32 := m ((c.tc : Thread nD τ).loc main_arg1)
abbrev argV : FVec Ideal S4096x4x64 .f32 := m ((c.tc : Thread nD τ).loc main_arg2)
abbrev argU : FVec Ideal S4096x4 .f32 := m ((c.tc : Thread nD τ).loc main_arg3)
abbrev argO : FVec Ideal S4096x4x64 .f32 := m ((c.tc : Thread nD τ).loc main_arg4)

theorem op_qkv : V m c main_v92 = beside (argQ m c) (argK m c) (argV m c) (argU m c) := host_v92 (fun b => m (c, b))
theorem op_tiles : V m c main_v95 = tiles (argK m c) (argV m c) (argU m c) := host_v95 (fun b => m (c, b))
theorem op_grad : V m c main_v99 = wide64 (argO m c) := host_v99 (fun b => m (c, b))
theorem op_lse : V m c main_v100
    = shapeCast S4x8x1x512 (logSum (argQ m c) (argK m c) (argU m c)) shapeCasts_S4x4096_S4x8x1x512 :=
  host_v100 (fun b => m (c, b))
theorem op_inner : V m c main_v101
    = shapeCast S4x8x1x512 (inner (argQ m c) (argK m c) (argV m c) (argU m c) (argO m c)) shapeCasts_S4x4096_S4x8x1x512 :=
  host_v101 (fun b => m (c, b))

theorem after_q : Pipeline.withArrays (cfgs 0).spec c (V0 m c) (fun w => (dats m 0 c).arrAt w (cfgs 0).N)
    (Proc.devRef .tc main_v102_0) = (dats m 0 c).arrAt 7 cfg0.N :=
  Pipeline.Dat.withArrays_arrAt (dats m 0 c) sharedIn0 (V0 m c) (A_eq m c) 7

theorem after_k : Pipeline.withArrays (cfgs 0).spec c (V0 m c) (fun w => (dats m 0 c).arrAt w (cfgs 0).N)
    (Proc.devRef .tc main_v102_1) = (dats m 0 c).arrAt 8 cfg0.N :=
  Pipeline.Dat.withArrays_arrAt (dats m 0 c) sharedIn0 (V0 m c) (A_eq m c) 8

theorem after_v : Pipeline.withArrays (cfgs 0).spec c (V0 m c) (fun w => (dats m 0 c).arrAt w (cfgs 0).N)
    (Proc.devRef .tc main_v102_2) = (dats m 0 c).arrAt 9 cfg0.N :=
  Pipeline.Dat.withArrays_arrAt (dats m 0 c) sharedIn0 (V0 m c) (A_eq m c) 9

theorem after_c : Pipeline.withArrays (cfgs 0).spec c (V0 m c) (fun w => (dats m 0 c).arrAt w (cfgs 0).N)
    (Proc.devRef .tc main_v102_3) = (dats m 0 c).arrAt 10 cfg0.N :=
  Pipeline.Dat.withArrays_arrAt (dats m 0 c) sharedIn0 (V0 m c) (A_eq m c) 10

theorem after_r : Pipeline.withArrays (cfgs 0).spec c (V0 m c) (fun w => (dats m 0 c).arrAt w (cfgs 0).N)
    (Proc.devRef .tc main_v102_4) = (dats m 0 c).arrAt 11 cfg0.N :=
  Pipeline.Dat.withArrays_arrAt (dats m 0 c) sharedIn0 (V0 m c) (A_eq m c) 11

variable (q k v : Fin 4096 → Fin 4 → Fin 64 → ℝ) (u : Fin 4096 → Fin 4 → ℝ) (o : Fin 4096 → Fin 4 → Fin 64 → ℝ)

/-- The five arguments of device `c` are these real numbers. -/
structure Real5 : Prop where
  q_eq : argQ m c = lift64 q
  k_eq : argK m c = lift64 k
  v_eq : argV m c = lift64 v
  u_eq : argU m c = lift4 u
  o_eq : argO m c = lift64 o

variable {m c q k v u o} (H : Real5 m c q k v u o)
include H

theorem carries (t : Fin 8) : Carries q k v u o (blocks m c t) t where
  q_at p h d := by
    rw [blk_q, op_qkv, beside_q, H.q_eq, H.u_eq, ← filled_coe]
    simp only [qside_real]
  k_at r h d := by
    rw [blk_k, op_qkv, beside_k, H.k_eq, H.u_eq, ← filled_coe]
    simp only [kside_real]
  v_at r h d := by
    rw [blk_v, op_qkv, beside_v, H.v_eq, ← filled_coe]
    rfl
  kt_at j h d a := by
    rw [blk_kt, op_tiles, tiles_k, H.k_eq, H.u_eq, ← filled_coe]
    simp only [kside_real]
  g_at p h d := by
    rw [blk_g, op_grad, wide64_at, H.o_eq, ← filled_coe]
    rfl
  lse_at h p := by
    rw [blk_lse, op_lse, rows_at, H.q_eq, H.k_eq, H.u_eq]
    exact logSum_at q k u h (pos t p)
  dl_at h p := by
    rw [blk_dl, op_inner, rows_at, H.q_eq, H.k_eq, H.v_eq, H.u_eq, H.o_eq]
    exact inner_at q k v u o h (pos t p)

theorem final_q : mulf (narrow64 ((dats m 0 c).arrAt 7 cfg0.N)) scale64
    = Cert.Reference5Ideal.Read.val_main_v80 (F := Ideal) (argQ m c) (argK m c) (argV m c) (argU m c) (argO m c) := by
  rw [H.q_eq, H.k_eq, H.v_eq, H.u_eq, H.o_eq]
  funext i
  obtain ⟨p, h, d, rfl⟩ : ∃ p h d, i = ix3 p h d := ⟨i 0, i 1, i 2, eq_ix3 i⟩
  refine Eq.trans ?_ (v80_at q k v u o p h d).symm
  rw [scaled_at, narrow64_at]
  obtain ⟨t, a, rfl⟩ := pos_surj p
  rw [left_q]
  simp only [addQ_real (carries H t)]
  rw [← coe_sum, sum_row fun r => dscores q k v u o h (pos t a) r * k r h d, ← EReal.coe_mul, Finset.sum_mul]
  exact congrArg _ (Finset.sum_congr rfl fun r _ => by ring)

theorem final_k : narrow64 ((dats m 0 c).arrAt 8 cfg0.N)
    = Cert.Reference5Ideal.Read.val_main_v78 (F := Ideal) (argQ m c) (argK m c) (argV m c) (argU m c) (argO m c) := by
  rw [H.q_eq, H.k_eq, H.v_eq, H.u_eq, H.o_eq]
  funext i
  obtain ⟨r, h, d, rfl⟩ : ∃ p h d, i = ix3 p h d := ⟨i 0, i 1, i 2, eq_ix3 i⟩
  refine Eq.trans ?_ (v78_at q k v u o r h d).symm
  rw [narrow64_at, left_k]
  simp only [addK_real (carries H _)]
  rw [← coe_sum, sum_pos fun p => dscores q k v u o h p r * kappa * q p h d]

theorem final_v : narrow64 ((dats m 0 c).arrAt 9 cfg0.N)
    = Cert.Reference5Ideal.Read.val_main_v51 (F := Ideal) (argQ m c) (argK m c) (argU m c) (argO m c) := by
  rw [H.q_eq, H.k_eq, H.u_eq, H.o_eq]
  funext i
  obtain ⟨r, h, d, rfl⟩ : ∃ p h d, i = ix3 p h d := ⟨i 0, i 1, i 2, eq_ix3 i⟩
  refine Eq.trans ?_ (v51_at q k u o r h d).symm
  rw [narrow64_at, left_v]
  simp only [addV_real (carries H _)]
  rw [← coe_sum, sum_pos fun p => o p h d * weights q k u h p r]

/-- The lanes' sums over the points are the sums over all queries. -/
theorem lanes_real (h : Fin 4) (r : Fin 4096) :
    (∑ l : Fin 128, ∑ t : Fin 8, addC (blocks m c t) t.val h r l) = ((∑ p, -dscores q k v u o h p r : ℝ) : EReal) := by
  simp only [addC_real (carries H _)]
  simp only [← coe_sum]
  refine congrArg _ ?_
  rw [Finset.sum_comm, Finset.sum_neg_distrib, ← sum_pos fun p => dscores q k v u o h p r, ← Finset.sum_neg_distrib]
  refine Finset.sum_congr rfl fun t _ => ?_
  rw [Finset.sum_neg_distrib, sum_lanes fun p => dscores q k v u o h (pos t p) r]

theorem final_u : gathered ((dats m 0 c).arrAt 11 cfg0.N) ((dats m 0 c).arrAt 10 cfg0.N)
    = Cert.Reference5Ideal.Read.val_main_v74 (F := Ideal) (argQ m c) (argK m c) (argV m c) (argU m c) (argO m c) := by
  rw [H.q_eq, H.k_eq, H.v_eq, H.u_eq, H.o_eq]
  funext i
  obtain ⟨p, h, rfl⟩ : ∃ p h, i = ix2 p h := ⟨i 0, i 1, eq_ix2 i⟩
  refine Eq.trans ?_ (v74_at q k v u o p h).symm
  obtain ⟨t, a, rfl⟩ := pos_surj p
  rw [gathered_at, left_r]
  simp only [left_c]
  rw [lanes_real H, EReal.coe_add, add_comm]
  refine congrArg (_ + ·) ?_
  simp only [addR_real (carries H t)]
  rw [← coe_sum, sum_row fun r => dscores q k v u o h (pos t a) r]

theorem out_q : Pipeline.afterTail₀ cfgs (dats m) 0 (V0 m) [hostOps1] c main_v113
    = Cert.Reference5Ideal.Read.val_main_v80 (F := Ideal) (argQ m c) (argK m c) (argV m c) (argU m c) (argO m c) := by
  unfold Pipeline.afterTail₀
  exact (host_v113 _).trans ((congrArg (fun x => mulf (narrow64 x) scale64) (after_q m c)).trans (final_q H))

theorem out_k : Pipeline.afterTail₀ cfgs (dats m) 0 (V0 m) [hostOps1] c main_v117
    = Cert.Reference5Ideal.Read.val_main_v78 (F := Ideal) (argQ m c) (argK m c) (argV m c) (argU m c) (argO m c) := by
  unfold Pipeline.afterTail₀
  exact (host_v117 _).trans ((congrArg (narrow64) (after_k m c)).trans (final_k H))

theorem out_v : Pipeline.afterTail₀ cfgs (dats m) 0 (V0 m) [hostOps1] c main_v121
    = Cert.Reference5Ideal.Read.val_main_v51 (F := Ideal) (argQ m c) (argK m c) (argU m c) (argO m c) := by
  unfold Pipeline.afterTail₀
  exact (host_v121 _).trans ((congrArg (narrow64) (after_v m c)).trans (final_v H))

theorem out_u : Pipeline.afterTail₀ cfgs (dats m) 0 (V0 m) [hostOps1] c main_v107
    = Cert.Reference5Ideal.Read.val_main_v74 (F := Ideal) (argQ m c) (argK m c) (argV m c) (argU m c) (argO m c) := by
  unfold Pipeline.afterTail₀
  exact (host_v107 _).trans ((congrArg₂ gathered (after_r m c) (after_c m c)).trans (final_u H))

omit H in
/-- The run, read: the four results, the arguments unchanged. -/
theorem run (hreal : ∀ c : Dev nD, ∃ q k v u o, Real5 m c q k v u o) :
    θ_run defs (onTc (τ := τ) (main (F := Ideal))) ⟨m, fun _ => 0, ρ⟩ (fun r => ∀ c : Dev nD,
      r.2.mem ((c.tc : Thread nD τ).loc main_v113)
        = Cert.Reference5Ideal.Read.val_main_v80 (F := Ideal) (argQ m c) (argK m c) (argV m c) (argU m c) (argO m c)
      ∧ r.2.mem ((c.tc : Thread nD τ).loc main_v117)
        = Cert.Reference5Ideal.Read.val_main_v78 (F := Ideal) (argQ m c) (argK m c) (argV m c) (argU m c) (argO m c)
      ∧ r.2.mem ((c.tc : Thread nD τ).loc main_v121)
        = Cert.Reference5Ideal.Read.val_main_v51 (F := Ideal) (argQ m c) (argK m c) (argU m c) (argO m c)
      ∧ r.2.mem ((c.tc : Thread nD τ).loc main_v107)
        = Cert.Reference5Ideal.Read.val_main_v74 (F := Ideal) (argQ m c) (argK m c) (argV m c) (argU m c) (argO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    obtain ⟨q, k, v, u, o, H⟩ := hreal c
    exact ⟨((h.1 c).2 main_v113 (Pipeline.mem_restRefs_of main_v113 (by decide) (by decide))).trans (out_q H),
      ((h.1 c).2 main_v117 (Pipeline.mem_restRefs_of main_v117 (by decide) (by decide))).trans (out_k H),
      ((h.1 c).2 main_v121 (Pipeline.mem_restRefs_of main_v121 (by decide) (by decide))).trans (out_v H),
      ((h.1 c).2 main_v107 (Pipeline.mem_restRefs_of main_v107 (by decide) (by decide))).trans (out_u H), h.2 c⟩)
    (θ_run_and (run_main m ρ) (unchanged m ρ))

end Cert.Fox

end
-- ==== Proof.Fox.Claims.lean ====
module

public import proofs.«01_k».proof.Proof.Fox.Frames
public import proofs.«01_k».proof.Proof.Fox.Results

/-!
# Forgetting attention backward: the value claim

The claim takes finite arguments.  An infinite query or key gives exponentials whose sum is zero, which the reference
divides by and the kernel takes the logarithm of; infinite values and gradients make sums of both infinities, whose
products the two sides take in another order.
-/

@[expose] public section
set_option relaxedAutoImplicit false
set_option maxRecDepth 16384

noncomputable section

namespace Cert.Fox

open Idealize.ShloMosaic Idealize.ShloMosaic.TcCoe Idealize.SL.Sem Cert.Kernel5Ideal

theorem ofBits_inf : Ideal.ofBits .f32 0x7F800000#32 = ⊤ := by simp [Ideal.ofBits, Ideal.ieee]

/-- What the precondition says of one entry: it is a real number. -/
theorem real_of_lt {x : EReal} (h : Ideal.cmp .olt (max x (-x)) (Ideal.ofBits .f32 0x7F800000#32) = 1#1) :
    x = (x.toReal : EReal) := by
  rw [ofBits_inf] at h
  have hlt : max x (-x) < ⊤ := by
    by_contra hn
    simp [Ideal.cmp, hn] at h
  refine (EReal.coe_toReal (ne_of_lt (lt_of_le_of_lt (le_max_left _ _) hlt)) ?_).symm
  rintro rfl
  simp at hlt

variable [hPre : Cert.Pre_finite5.Facts]

/-- Arguments the precondition admits are real numbers. -/
theorem real5 (m : (ℓ : Loc nD τ sig) → Buf (Elt Ideal) ℓ) (h : Cert.Pre_Kernel5Ideal_finite5 m) (c : Dev nD) :
    ∃ q k v u o, Real5 m c q k v u o := by
  obtain ⟨h0, h1, h2, h3, h4⟩ := h c
  exact ⟨fun r h d => (argQ m c (ix3 r h d)).toReal, fun r h d => (argK m c (ix3 r h d)).toReal,
    fun r h d => (argV m c (ix3 r h d)).toReal, fun r h => (argU m c (ix2 r h)).toReal, fun r h d => (argO m c (ix3 r h d)).toReal,
    funext fun i => (real_of_lt (congrFun h0 i)).trans (congrArg (fun j => ((argQ m c j).toReal : EReal)) (eq_ix3 i)),
    funext fun i => (real_of_lt (congrFun h1 i)).trans (congrArg (fun j => ((argK m c j).toReal : EReal)) (eq_ix3 i)),
    funext fun i => (real_of_lt (congrFun h2 i)).trans (congrArg (fun j => ((argV m c j).toReal : EReal)) (eq_ix3 i)),
    funext fun i => (real_of_lt (congrFun h3 i)).trans (congrArg (fun j => ((argU m c j).toReal : EReal)) (eq_ix2 i)),
    funext fun i => (real_of_lt (congrFun h4 i)).trans (congrArg (fun j => ((argO m c j).toReal : EReal)) (eq_ix3 i))⟩

theorem frame_ideal_finite : Cert.quiescent_Kernel5Ideal_pre_finite5 := fun m ρ _ => Cert.Kernel5Ideal.Gen.frame m ρ

theorem frame_reference_finite : Cert.quiescent_Reference5Ideal_pre_finite5 := fun m ρ _ => frame_reference m ρ trivial

/-- Both programs end with the same gradients. -/
theorem algebraic : Cert.algebraic_Kernel5Ideal_Reference5Ideal_pre_finite5 := fun m ρ m' ρ' hpre hag =>
  ⟨fun c => Cert.Reference5Ideal.Read.val_main_v80 (F := Ideal) (argQ m c) (argK m c) (argV m c) (argU m c) (argO m c),
    fun c => Cert.Reference5Ideal.Read.val_main_v78 (F := Ideal) (argQ m c) (argK m c) (argV m c) (argU m c) (argO m c),
    fun c => Cert.Reference5Ideal.Read.val_main_v51 (F := Ideal) (argQ m c) (argK m c) (argU m c) (argO m c),
    fun c => Cert.Reference5Ideal.Read.val_main_v74 (F := Ideal) (argQ m c) (argK m c) (argV m c) (argU m c) (argO m c),
    run ρ (real5 m hpre),
    (θ_run Cert.Reference5Ideal.defs _ _).mono (fun _ h c => by
      obtain ⟨h0, h1, h2, h3, hargs⟩ := h c
      obtain ⟨a0, a1, a2, a3, a4⟩ := hag c
      refine ⟨h0.trans ?_, h1.trans ?_, h2.trans ?_, h3.trans ?_, hargs⟩
      · refine (Cert.Reference5Ideal.Read.val_main_v80_eq m' c).trans ?_
        rw [a0, a1, a2, a3, a4]
      · refine (Cert.Reference5Ideal.Read.val_main_v78_eq m' c).trans ?_
        rw [a0, a1, a2, a3, a4]
      · refine (Cert.Reference5Ideal.Read.val_main_v51_eq m' c).trans ?_
        rw [a0, a1, a3, a4]
      · refine (Cert.Reference5Ideal.Read.val_main_v74_eq m' c).trans ?_
        rw [a0, a1, a2, a3, a4])
      (Cert.Reference5Ideal.Value.run (F := Ideal) m' ρ')⟩

end Cert.Fox

end
-- ==== Proof.Adam.Spec.lean ====
/-
  The AdamW step of a weight: its gradient is the sum of the devices' gradients, and its update and the two moments
  follow entry by entry.  The arrays hold two layers of `r` rows of `n` entries.
-/
module

public import proofs.«01_k».proof.Proof.Gen.Kernel6Ideal
public import Idealize.ShloMosaic.Lib.Pointwise

@[expose] public section

set_option maxRecDepth 16384

noncomputable section

namespace Cert.Adam

open Idealize.ShloMosaic

/-- The first moment after a gradient `g`. -/
def mean (g m : EReal) : EReal := Ideal.ofBits .f32 0x3F666666#32 * m + Ideal.ofBits .f32 0x3DCCCCCD#32 * g

/-- The second moment after it. -/
def square (g v : EReal) : EReal := Ideal.ofBits .f32 0x3F7FBE77#32 * v + Ideal.ofBits .f32 0x3A83126F#32 * (g * g)

/-- The update of a weight `w`. -/
def step (g w m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- The gradients of eight devices, of one layer, and two layers of one array. -/
abbrev Sent (r n : Nat) : Type := FVec Ideal ⟨3, ![8, r, n]⟩ .bf16
abbrev Layers (r n : Nat) : Type := FVec Ideal ⟨3, ![2, r, n]⟩ .f32

variable {r n : Nat}

/-- The summed gradient of both layers. -/
def grad (a b : Sent r n) : Layers r n :=
  fun j => ∑ p : Fin 8, if (j 0).val = 0 then a (ix3 p (j 1) (j 2)) else b (ix3 p (j 1) (j 2))

/-- The moments and the update of both layers. -/
def means (a b : Sent r n) (m : Layers r n) : Layers r n := fun j => mean (grad a b j) (m j)
def squares (a b : Sent r n) (v : Layers r n) : Layers r n := fun j => square (grad a b j) (v j)
def steps (a b : Sent r n) (w m v : Layers r n) : Layers r n := fun j => step (grad a b j) (w j) (m j) (v j)

end Cert.Adam

end
-- ==== Proof.Adam.Launch.lean ====
/-
  What the launch leaves in its four result arrays: one layer's rows a point.
-/
module

public import proofs.«01_k».proof.Proof.Gen.Kernel6Ideal.Frame
public import proofs.«01_k».proof.Proof.Adam.Spec
public import Idealize.ShloMosaic.Lib.Pipeline.ValueKit

@[expose] public section

set_option maxRecDepth 16384

noncomputable section

namespace Cert.Adam

open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- The summed gradient, the rows of both layers in one list. -/
def wide (a b : FVec Ideal S8x128x1024 .bf16) : FVec Ideal S256x1024 .f32 :=
  fun j => ∑ p : Fin 8, if (j 0).val < 128 then a (ix3 p ⟨(j 0).val % 128, Nat.mod_lt _ (by decide)⟩ (j 1))
    else b (ix3 p ⟨(j 0).val % 128, Nat.mod_lt _ (by decide)⟩ (j 1))

/-- The block indices in closed form. -/
theorem idx : ∀ t : Fin cfg0.N, win0_0.index t = ![0, 0, 0] ∧ win0_1.index t = ![0, 0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

theorem parity (t : Fin cfg0.N) : t.val = 0 ∨ t.val = 1 :=
  (by decide +kernel : ∀ t : Fin grid0.N, t.val = 0 ∨ t.val = 1) t

/-- Row `y 0` of layer `t` in the list. -/
theorem row_lt (t : Fin cfg0.N) (y : S128x1024.Idx) : t.val * 128 + (y 0).val < 256 := by
  have h : (y 0).val < 128 := (y 0).isLt
  rcases parity t with e | e <;> omega

abbrev row (t : Fin cfg0.N) (y : S128x1024.Idx) : S256x1024.Idx := ix2 ⟨t.val * 128 + (y 0).val, row_lt t y⟩ (y 1)

/-- The blocks of the gradients hold them whole. -/
theorem sent0 (t : Fin cfg0.N) (p : Fin 8) (a : Fin 128) (b : Fin 1024) :
    iblk m c 0 t (ix3 p a b) = V m c main_arg0 (ix3 p a b) := by
  have i := idx t
  blk_point [iblk, i]

theorem sent1 (t : Fin cfg0.N) (p : Fin 8) (a : Fin 128) (b : Fin 1024) :
    iblk m c 1 t (ix3 p a b) = V m c main_arg1 (ix3 p a b) := by
  have i := idx t
  blk_point [iblk, i]

/-- A result's block covers the rows of one layer. -/
theorem row_eq (x : FVec Ideal S256x1024 .f32) (t : Fin cfg0.N) (y) :
    x (((cfg0.win 5).blk t).view.emb y) = x (ix2 ⟨t.val * 128 + (y 0).val, row_lt t y⟩ (y 1)) := by
  have i := idx t
  blk_point [iblk, i]

/-- The summed gradient in the rows of a layer. -/
theorem wide_row (a b : FVec Ideal S8x128x1024 .bf16) (t : Fin cfg0.N) (y) :
    wide a b (row t y) = ∑ p : Fin 8, if t.val = 0 then a (ix3 p (y 0) (y 1)) else b (ix3 p (y 0) (y 1)) := by
  have hy : (y 0).val < 128 := (y 0).isLt
  have e : (⟨(t.val * 128 + (y 0).val) % 128, Nat.mod_lt _ (by decide)⟩ : Fin 128) = y 0 := Fin.ext (by
    show (t.val * 128 + (y 0).val) % 128 = (y 0).val
    omega)
  refine Finset.sum_congr rfl fun p _ => ?_
  show (if t.val * 128 + (y 0).val < 128
      then a (ix3 p ⟨(t.val * 128 + (y 0).val) % 128, Nat.mod_lt _ (by decide)⟩ (y 1))
      else b (ix3 p ⟨(t.val * 128 + (y 0).val) % 128, Nat.mod_lt _ (by decide)⟩ (y 1))) = _
  rw [e]
  exact if_congr (by rcases parity t with h | h <;> omega) rfl rfl

/-- The gradient's block at a point, at an element. -/
theorem grad_at (t : Fin cfg0.N) (y) : (outsAt0 m c t.val t.isLt).1 y
      = wide (V m c main_arg0) (V m c main_arg1) (((cfg0.win 5).blk t).view.emb y) := by
  refine Eq.trans ?_ ((row_eq (wide _ _) t y).trans (wide_row _ _ t y)).symm
  rcases parity t with h | h
  · rw [outsAt0_A m c t (by omega) (by omega)]
    dsimp only
    unfold out0_A_5
    frame_out
    pointwise [k0_pay4]
    exact (@Fin.sum_univ_eight EReal _ fun p => iblk m c 0 t (ix3 p (y 0) (y 1))).symm.trans
      (Finset.sum_congr rfl fun p _ => (sent0 m c t p (y 0) (y 1)).trans (if_pos h).symm)
  · rw [outsAt0_B m c t (by omega) (by omega)]
    dsimp only
    unfold out0_B_5
    frame_out
    pointwise [k0_pay5]
    exact (@Fin.sum_univ_eight EReal _ fun p => iblk m c 1 t (ix3 p (y 0) (y 1))).symm.trans
      (Finset.sum_congr rfl fun p _ => (sent1 m c t p (y 0) (y 1)).trans (if_neg (by omega)).symm)

/-- The other three blocks follow the gradient's. -/
theorem others (t : Fin cfg0.N) (y) :
    (outsAt0 m c t.val t.isLt).2.1 y
        = step ((outsAt0 m c t.val t.isLt).1 y) (iblk m c 2 t y) (iblk m c 3 t y) (iblk m c 4 t y)
      ∧ (outsAt0 m c t.val t.isLt).2.2.1 y = mean ((outsAt0 m c t.val t.isLt).1 y) (iblk m c 3 t y)
      ∧ (outsAt0 m c t.val t.isLt).2.2.2 y = square ((outsAt0 m c t.val t.isLt).1 y) (iblk m c 4 t y) := by
  rcases parity t with h | h
  · rw [outsAt0_A m c t (by omega) (by omega)]
    dsimp only
    unfold out0_A_5 out0_A_6 out0_A_7 out0_A_8
    frame_out
    refine ⟨?_, ?_, ?_⟩
    · pointwise [k0_pay1, k0_pay2, k0_pay3, k0_pay6, k0_pay7, k0_pay8]
      rfl
    · pointwise [k0_pay1, k0_pay2, k0_pay3, k0_pay6, k0_pay7, k0_pay8]
      rfl
    · pointwise [k0_pay1, k0_pay2, k0_pay3, k0_pay6, k0_pay7, k0_pay8]
      rfl
  · rw [outsAt0_B m c t (by omega) (by omega)]
    dsimp only
    unfold out0_B_5 out0_B_6 out0_B_7 out0_B_8
    frame_out
    refine ⟨?_, ?_, ?_⟩
    · pointwise [k0_pay1, k0_pay2, k0_pay3, k0_pay6, k0_pay7, k0_pay8]
      rfl
    · pointwise [k0_pay1, k0_pay2, k0_pay3, k0_pay6, k0_pay7, k0_pay8]
      rfl
    · pointwise [k0_pay1, k0_pay2, k0_pay3, k0_pay6, k0_pay7, k0_pay8]
      rfl

/-- The wide gradient of the two gradient arguments. -/
abbrev g : FVec Ideal S256x1024 .f32 := wide (V m c main_arg0) (V m c main_arg1)

/-- The launch leaves the summed gradient, the update and the two moments. -/
theorem final_grad : (dats m 0 c).arrAt 5 cfg0.N = g m c := by
  refine (dats m 0 c).arrAt_eq_of_covers 5 _ (by decide +kernel) fun t hf y => ?_
  blk_simp
  rw [after0_5]
  exact grad_at m c t y

theorem final_step : (dats m 0 c).arrAt 6 cfg0.N
    = fun j => step (g m c j) (V m c main_v0 j) (V m c main_v1 j) (V m c main_v2 j) := by
  refine (dats m 0 c).arrAt_eq_of_covers 6 _ (by decide +kernel) fun t hf y => ?_
  blk_simp
  rw [after0_6, (others m c t y).1, grad_at]
  rfl

theorem final_mean : (dats m 0 c).arrAt 7 cfg0.N = fun j => mean (g m c j) (V m c main_v1 j) := by
  refine (dats m 0 c).arrAt_eq_of_covers 7 _ (by decide +kernel) fun t hf y => ?_
  blk_simp
  rw [after0_7, (others m c t y).2.1, grad_at]
  rfl

theorem final_square : (dats m 0 c).arrAt 8 cfg0.N = fun j => square (g m c j) (V m c main_v2 j) := by
  refine (dats m 0 c).arrAt_eq_of_covers 8 _ (by decide +kernel) fun t hf y => ?_
  blk_simp
  rw [after0_8, (others m c t y).2.2, grad_at]
  rfl

end Cert.Adam

end
-- ==== Proof.Adam.Results.lean ====
/-
  The host lines around the launch, which list the rows of both layers and part them again, and the run read at its
  four results.
-/
module

public import proofs.«01_k».proof.Proof.Adam.Launch
public import Idealize.ShloMosaic.Lib.StableHlo.RunRead

@[expose] public section

set_option maxRecDepth 16384

noncomputable section

namespace Cert.Adam

open Idealize.ShloMosaic Idealize.ShloMosaic.TcCoe Idealize.SL.Sem Cert.Kernel6Ideal Cert.Kernel6Ideal.Gen

variable (m : (ℓ : Loc nD τ sig) → Buf (Elt Ideal) ℓ) (ρ : Dev nD → PrngReg) (c : Dev nD)

/-- The arguments of device `c`: the gradients of each layer, the weight and its moments. -/
abbrev argA : FVec Ideal S8x128x1024 .bf16 := m ((c.tc : Thread nD τ).loc main_arg0)
abbrev argB : FVec Ideal S8x128x1024 .bf16 := m ((c.tc : Thread nD τ).loc main_arg1)
abbrev argW : FVec Ideal S2x128x1024 .f32 := m ((c.tc : Thread nD τ).loc main_arg2)
abbrev argM : FVec Ideal S2x128x1024 .f32 := m ((c.tc : Thread nD τ).loc main_arg3)
abbrev argV : FVec Ideal S2x128x1024 .f32 := m ((c.tc : Thread nD τ).loc main_arg4)

/-- The rows of both layers in one list, and parted again. -/
abbrev join (x : FVec Ideal S2x128x1024 .f32) : FVec Ideal S256x1024 .f32 :=
  shapeCast S256x1024 x shapeCasts_S2x128x1024_S256x1024
abbrev part (x : FVec Ideal S256x1024 .f32) : FVec Ideal S2x128x1024 .f32 :=
  shapeCast S2x128x1024 x shapeCasts_S256x1024_S2x128x1024

/-- An entry of row `b` of layer `a` is the entry of row `128 a + b` of the list. -/
theorem part_apply (x : FVec Ideal S256x1024 .f32) (a : Fin 2) (b : Fin 128) (d : Fin 1024) :
    part x (ix3 a b d) = x (ix2 ⟨a.val * 128 + b.val, by omega⟩ d) := by
  pointwise []

theorem join_apply (x : FVec Ideal S2x128x1024 .f32) (a : Fin 2) (b : Fin 128) (d : Fin 1024) :
    join x (ix2 ⟨a.val * 128 + b.val, by omega⟩ d) = x (ix3 a b d) := by
  pointwise []

theorem wide_apply (x y : FVec Ideal S8x128x1024 .bf16) (a : Fin 2) (b : Fin 128) (d : Fin 1024) :
    wide x y (ix2 ⟨a.val * 128 + b.val, by omega⟩ d) = grad x y (ix3 a b d) := by
  have e : (⟨(a.val * 128 + b.val) % 128, Nat.mod_lt _ (by decide)⟩ : Fin 128) = b := Fin.ext (by
    show (a.val * 128 + b.val) % 128 = b.val
    omega)
  refine Finset.sum_congr rfl fun p _ => ?_
  show (if a.val * 128 + b.val < 128
      then x (ix3 p ⟨(a.val * 128 + b.val) % 128, Nat.mod_lt _ (by decide)⟩ d)
      else y (ix3 p ⟨(a.val * 128 + b.val) % 128, Nat.mod_lt _ (by decide)⟩ d)) = _
  rw [e]
  exact if_congr (show a.val * 128 + b.val < 128 ↔ a.val = 0 by omega) rfl rfl

theorem part_wide (x y : FVec Ideal S8x128x1024 .bf16) : part (wide x y) = grad x y := by
  funext j
  rw [eq_ix3 j]
  exact (part_apply _ _ _ _).trans (wide_apply x y _ _ _)

theorem part_mean (x y : FVec Ideal S8x128x1024 .bf16) (n : FVec Ideal S2x128x1024 .f32) :
    part (fun j => mean (wide x y j) (join n j)) = means x y n := by
  funext j
  rw [eq_ix3 j]
  exact (part_apply _ _ _ _).trans (congrArg₂ mean (wide_apply x y _ _ _) (join_apply n _ _ _))

theorem part_square (x y : FVec Ideal S8x128x1024 .bf16) (n : FVec Ideal S2x128x1024 .f32) :
    part (fun j => square (wide x y j) (join n j)) = squares x y n := by
  funext j
  rw [eq_ix3 j]
  exact (part_apply _ _ _ _).trans (congrArg₂ square (wide_apply x y _ _ _) (join_apply n _ _ _))

theorem part_step (x y : FVec Ideal S8x128x1024 .bf16) (w n v : FVec Ideal S2x128x1024 .f32) :
    part (fun j => step (wide x y j) (join w j) (join n j) (join v j)) = steps x y w n v := by
  funext j
  rw [eq_ix3 j]
  refine (part_apply _ _ _ _).trans ?_
  exact congr (congr (congrArg₂ step (wide_apply x y _ _ _) (join_apply w _ _ _)) (join_apply n _ _ _)) (join_apply v _ _ _)

/-- The lines before the launch. -/
theorem host_w (W : Valuation τ sig (Elt Ideal)) :
    StableHlo.after hostOps0 W (Proc.devRef .tc main_v0) = join (W (Proc.devRef .tc main_arg2)) := by
  after_reads_simp
  rfl

theorem host_m (W : Valuation τ sig (Elt Ideal)) :
    StableHlo.after hostOps0 W (Proc.devRef .tc main_v1) = join (W (Proc.devRef .tc main_arg3)) := by
  after_reads_simp
  rfl

theorem host_v (W : Valuation τ sig (Elt Ideal)) :
    StableHlo.after hostOps0 W (Proc.devRef .tc main_v2) = join (W (Proc.devRef .tc main_arg4)) := by
  after_reads_simp
  rfl

theorem g_eq : g m c = wide (argA m c) (argB m c) := congrArg₂ wide (V_main_arg0 m c) (V_main_arg1 m c)
theorem v0 : V m c main_v0 = join (argW m c) := host_w (fun b => m (c, b))
theorem v1 : V m c main_v1 = join (argM m c) := host_m (fun b => m (c, b))
theorem v2 : V m c main_v2 = join (argV m c) := host_v (fun b => m (c, b))

/-- The lines after it. -/
theorem host_out (W : Valuation τ sig (Elt Ideal)) :
    StableHlo.after hostOps1 W (Proc.devRef .tc main_v4) = part (W (Proc.devRef .tc main_v3_0))
      ∧ StableHlo.after hostOps1 W (Proc.devRef .tc main_v5) = part (W (Proc.devRef .tc main_v3_1))
      ∧ StableHlo.after hostOps1 W (Proc.devRef .tc main_v6) = part (W (Proc.devRef .tc main_v3_2))
      ∧ StableHlo.after hostOps1 W (Proc.devRef .tc main_v7) = part (W (Proc.devRef .tc main_v3_3)) := by
  refine ⟨?_, ?_, ?_, ?_⟩ <;> · after_reads_simp; rfl

/-- The result arrays after the last line. -/
theorem out_grad : Pipeline.afterTail₀ cfgs (dats m) 0 (V0 m) [hostOps1] c main_v4 = grad (argA m c) (argB m c) := by
  unfold Pipeline.afterTail₀
  refine (host_out _).1.trans ?_
  rw [show Pipeline.withArrays (cfgs 0).spec c (V0 m c) (fun w => (dats m 0 c).arrAt w (cfgs 0).N) (Proc.devRef .tc main_v3_0)
      = (dats m 0 c).arrAt 5 cfg0.N from Pipeline.withArrays_arr spec0 launch0.win.arr_inj c _ _ 5]
  rw [final_grad, g_eq]
  exact part_wide _ _

theorem out_step : Pipeline.afterTail₀ cfgs (dats m) 0 (V0 m) [hostOps1] c main_v5
    = steps (argA m c) (argB m c) (argW m c) (argM m c) (argV m c) := by
  unfold Pipeline.afterTail₀
  refine (host_out _).2.1.trans ?_
  rw [show Pipeline.withArrays (cfgs 0).spec c (V0 m c) (fun w => (dats m 0 c).arrAt w (cfgs 0).N) (Proc.devRef .tc main_v3_1)
      = (dats m 0 c).arrAt 6 cfg0.N from Pipeline.withArrays_arr spec0 launch0.win.arr_inj c _ _ 6]
  rw [final_step, v0, v1, v2, g_eq]
  exact part_step _ _ _ _ _

theorem out_mean : Pipeline.afterTail₀ cfgs (dats m) 0 (V0 m) [hostOps1] c main_v6
    = means (argA m c) (argB m c) (argM m c) := by
  unfold Pipeline.afterTail₀
  refine (host_out _).2.2.1.trans ?_
  rw [show Pipeline.withArrays (cfgs 0).spec c (V0 m c) (fun w => (dats m 0 c).arrAt w (cfgs 0).N) (Proc.devRef .tc main_v3_2)
      = (dats m 0 c).arrAt 7 cfg0.N from Pipeline.withArrays_arr spec0 launch0.win.arr_inj c _ _ 7]
  rw [final_mean, v1, g_eq]
  exact part_mean _ _ _

theorem out_square : Pipeline.afterTail₀ cfgs (dats m) 0 (V0 m) [hostOps1] c main_v7
    = squares (argA m c) (argB m c) (argV m c) := by
  unfold Pipeline.afterTail₀
  refine (host_out _).2.2.2.trans ?_
  rw [show Pipeline.withArrays (cfgs 0).spec c (V0 m c) (fun w => (dats m 0 c).arrAt w (cfgs 0).N) (Proc.devRef .tc main_v3_3)
      = (dats m 0 c).arrAt 8 cfg0.N from Pipeline.withArrays_arr spec0 launch0.win.arr_inj c _ _ 8]
  rw [final_square, v2, g_eq]
  exact part_square _ _ _

/-- The run, read: the four results, the arguments unchanged. -/
theorem run : θ_run defs (onTc (τ := τ) (main (F := Ideal))) ⟨m, fun _ => 0, ρ⟩ (fun r => ∀ c : Dev nD,
      r.2.mem ((c.tc : Thread nD τ).loc main_v4) = grad (argA m c) (argB m c)
      ∧ r.2.mem ((c.tc : Thread nD τ).loc main_v5) = steps (argA m c) (argB m c) (argW m c) (argM m c) (argV m c)
      ∧ r.2.mem ((c.tc : Thread nD τ).loc main_v6) = means (argA m c) (argB m c) (argM m c)
      ∧ r.2.mem ((c.tc : Thread nD τ).loc main_v7) = squares (argA m c) (argB m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v4 (Pipeline.mem_restRefs_of main_v4 (by decide) (by decide))).trans (out_grad m c),
      ((h.1 c).2 main_v5 (Pipeline.mem_restRefs_of main_v5 (by decide) (by decide))).trans (out_step m c),
      ((h.1 c).2 main_v6 (Pipeline.mem_restRefs_of main_v6 (by decide) (by decide))).trans (out_mean m c),
      ((h.1 c).2 main_v7 (Pipeline.mem_restRefs_of main_v7 (by decide) (by decide))).trans (out_square m c), h.2 c⟩)
    (θ_run_and (run_main m ρ) (unchanged m ρ))

end Cert.Adam

end
-- ==== Proof.Adam.Reference.lean ====
/-
  The reference's results, read index by index.
-/
module

public import proofs.«01_k».proof.Proof.Gen.Reference6Ideal.Read
public import proofs.«01_k».proof.Proof.Adam.Spec
public import Idealize.ShloMosaic.Lib.Pipeline.ValueKit

@[expose] public section

set_option maxRecDepth 16384

noncomputable section

namespace Cert.Adam

open Idealize.ShloMosaic Cert.Reference6Ideal Cert.Reference6Ideal.Read

variable (a b : FVec Ideal S8x128x1024 .bf16) (w m v : FVec Ideal S2x128x1024 .f32)

theorem ref_grad : val_main_v6 (F := Ideal) a b = grad a b := by
  funext j; idx_vars j
  pointwise [val_main_v0, val_main_v1, val_main_v2, val_main_v3, val_main_v4, val_main_v5, val_main_v6, val_main_cst, val_main_cst_0, grad]
  by_cases h : j0.val = 0
  · rw [dif_pos (by omega)]
    exact Finset.sum_congr rfl fun x _ => (if_pos h).symm
  · rw [dif_neg (by omega)]
    exact Finset.sum_congr rfl fun x _ => (if_neg h).symm

theorem ref_mean : val_main_v11 (F := Ideal) a b m = means a b m := by
  funext j
  unfold means
  rw [← ref_grad]
  pointwise [val_main_v11, val_main_v10, val_main_v9, val_main_v8, val_main_v7, val_main_cst_1, val_main_cst_2]
  rfl

theorem ref_square : val_main_v17 (F := Ideal) a b v = squares a b v := by
  funext j
  unfold squares
  rw [← ref_grad]
  pointwise [val_main_v12, val_main_v13, val_main_v14, val_main_v15, val_main_v16, val_main_v17, val_main_cst_3, val_main_cst_4]
  rfl

theorem ref_step : val_main_v30 (F := Ideal) a b w m v = steps a b w m v := by
  funext j
  unfold steps step
  rw [show mean (grad a b j) (m j) = val_main_v11 (F := Ideal) a b m j from (congrFun (ref_mean a b m) j).symm,
    show square (grad a b j) (v j) = val_main_v17 (F := Ideal) a b v j from (congrFun (ref_square a b v) j).symm]
  pointwise [val_main_v18, val_main_v19, val_main_v20, val_main_v21, val_main_v22, val_main_v23, val_main_v24, val_main_v25,
    val_main_v26, val_main_v27, val_main_v28, val_main_v29, val_main_v30, val_main_cst_5, val_main_cst_6, val_main_cst_7,
    val_main_cst_8, val_main_cst_9]

end Cert.Adam

end
-- ==== Proof.Adam.Claims.lean ====
/-
  The claims about the AdamW step of the output projection's weight.
-/
module

public import proofs.«01_k».proof.Defs
public import proofs.«01_k».proof.Proof.Gen.Kernel6.Frame
public import proofs.«01_k».proof.Proof.Gen.Reference6Ideal.Run
public import proofs.«01_k».proof.Proof.Adam.Results
public import proofs.«01_k».proof.Proof.Adam.Reference
public import Idealize.ShloMosaic.Lib.Quiescent

@[expose] public section

set_option maxRecDepth 16384

noncomputable section

namespace Cert.Adam

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

theorem preserves : Cert.preserves_Kernel6_Kernel6Ideal := trivial

/-- Both programs end with the same gradient, update and moments. -/
theorem algebraic : Cert.algebraic_Kernel6Ideal_Reference6Ideal := fun m ρ m' ρ' _ hag =>
  ⟨fun c => grad (argA m c) (argB m c), fun c => steps (argA m c) (argB m c) (argW m c) (argM m c) (argV m c),
    fun c => means (argA m c) (argB m c) (argM m c), fun c => squares (argA m c) (argB m c) (argV m c), run m ρ,
    (θ_run Cert.Reference6Ideal.defs _ _).mono (fun _ h c => by
      obtain ⟨h0, h1, h2, h3, hargs⟩ := h c
      obtain ⟨a0, a1, a2, a3, a4⟩ := hag c
      refine ⟨h0.trans ?_, h1.trans ?_, h2.trans ?_, h3.trans ?_, hargs⟩
      · rw [a0, a1]
        exact (Cert.Reference6Ideal.Read.val_main_v6_eq _ _).trans (ref_grad _ _)
      · rw [a0, a1, a2, a3, a4]
        exact (Cert.Reference6Ideal.Read.val_main_v30_eq _ _ _ _ _).trans (ref_step _ _ _ _ _)
      · rw [a0, a1, a3]
        exact (Cert.Reference6Ideal.Read.val_main_v11_eq _ _ _).trans (ref_mean _ _ _)
      · rw [a0, a1, a4]
        exact (Cert.Reference6Ideal.Read.val_main_v17_eq _ _ _).trans (ref_square _ _ _))
      (Cert.Reference6Ideal.Value.run (F := Ideal) m' ρ')⟩

end Cert.Adam

end
-- ==== Proof.lean ====
module

public import proofs.«01_k».proof.Defs
public import proofs.«01_k».proof.Proof.Gen.Pre_finite
public import proofs.«01_k».proof.Proof.Gen.Pre_finite5
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Mlp.Claims
public import proofs.«01_k».proof.Proof.Proj.Claims
public import proofs.«01_k».proof.Proof.Dw.Claims
public import proofs.«01_k».proof.Proof.Mla.Claims
public import proofs.«01_k».proof.Proof.Fox.Claims
public import proofs.«01_k».proof.Proof.Adam.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Pre_finite.Gen.facts,
  Cert.Pre_finite5.Gen.facts,
  Cert.Mlp.frame_kernel,
  Cert.Mlp.frame_ideal,
  Cert.Mlp.frame_reference,
  Cert.Proj.frame_kernel,
  Cert.Proj.frame_ideal,
  Cert.Proj.frame_reference,
  Cert.Dw.frame_kernel,
  Cert.Dw.frame_ideal,
  Cert.Dw.frame_reference,
  Cert.Mla.frame_kernel,
  Cert.Mla.frame_ideal,
  Cert.Mla.frame_ideal_finite,
  Cert.Mla.frame_reference,
  Cert.Mla.frame_reference_finite,
  Cert.Fox.frame_kernel,
  Cert.Fox.frame_ideal,
  Cert.Fox.frame_ideal_finite,
  Cert.Fox.frame_reference,
  Cert.Fox.frame_reference_finite,
  Cert.Adam.frame_kernel,
  Cert.Adam.frame_ideal,
  Cert.Adam.frame_reference,
  Cert.Mlp.preserves,
  Cert.Mlp.algebraic,
  Cert.Proj.preserves,
  Cert.Proj.algebraic,
  Cert.Dw.preserves,
  Cert.Dw.algebraic,
  Cert.Mla.preserves,
  Cert.Mla.algebraic,
  Cert.Fox.preserves,
  Cert.Fox.algebraic,
  Cert.Adam.preserves,
  Cert.Adam.algebraic⟩

end Cert.Proof

end
